-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_AttnFwdKernel (m : (ℓ : Loc Cert.AttnFwdKernel.nD Cert.AttnFwdKernel.τ Cert.AttnFwdKernel.sig) → Buf (Elt Bits) ℓ) : Prop :=
  True

def Pre_AttnFwdKernelIdeal (m : (ℓ : Loc Cert.AttnFwdKernelIdeal.nD Cert.AttnFwdKernelIdeal.τ Cert.AttnFwdKernelIdeal.sig) → Buf (Elt Ideal) ℓ) : Prop :=
  True

def Pre_AttnFwdKernelIdeal_attnfwd_finite [hPre_attnfwd_finite : Cert.Pre_attnfwd_finite.Facts] (m : (ℓ : Loc Cert.AttnFwdKernelIdeal.nD Cert.AttnFwdKernelIdeal.τ Cert.AttnFwdKernelIdeal.sig) → Buf (Elt Ideal) ℓ) : Prop :=
  ∀ c : Dev Cert.AttnFwdKernelIdeal.nD,
    (Cert.Pre_attnfwd_finite.fn (F := Ideal) (m ((c.tc : Thread Cert.AttnFwdKernelIdeal.nD Cert.AttnFwdKernelIdeal.τ).loc Cert.AttnFwdKernelIdeal.main_arg0))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_attnfwd_finite [hPre_attnfwd_finite : Cert.Pre_attnfwd_finite.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_attnfwd_finite.fn (F := Ideal) (m ((c.tc : Thread Cert.AttnFwdReferenceIdeal.nD Cert.AttnFwdReferenceIdeal.τ).loc Cert.AttnFwdReferenceIdeal.main_arg0))) = (fun _ => 1#1)

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguKernelIdeal_sgu_finite [hPre_sgu_finite : Cert.Pre_sgu_finite.Facts] (m : (ℓ : Loc Cert.SguKernelIdeal.nD Cert.SguKernelIdeal.τ Cert.SguKernelIdeal.sig) → Buf (Elt Ideal) ℓ) : Prop :=
  ∀ c : Dev Cert.SguKernelIdeal.nD,
    (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))) = (fun _ => 1#1)

def Pre_SguReferenceIdeal (m : (ℓ : Loc Cert.SguReferenceIdeal.nD Cert.SguReferenceIdeal.τ Cert.SguReferenceIdeal.sig) → Buf (Elt Ideal) ℓ) : Prop :=
  True

def Pre_SguReferenceIdeal_sgu_finite [hPre_sgu_finite : Cert.Pre_sgu_finite.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))) = (fun _ => 1#1)

def Pre_AttnBwdKernel (m : (ℓ : Loc Cert.AttnBwdKernel.nD Cert.AttnBwdKernel.τ Cert.AttnBwdKernel.sig) → Buf (Elt Bits) ℓ) : Prop :=
  True

def Pre_AttnBwdKernelIdeal (m : (ℓ : Loc Cert.AttnBwdKernelIdeal.nD Cert.AttnBwdKernelIdeal.τ Cert.AttnBwdKernelIdeal.sig) → Buf (Elt Ideal) ℓ) : Prop :=
  True

def Pre_AttnBwdKernelIdeal_attnbwd_finite [hPre_attnbwd_finite : Cert.Pre_attnbwd_finite.Facts] (m : (ℓ : Loc Cert.AttnBwdKernelIdeal.nD Cert.AttnBwdKernelIdeal.τ Cert.AttnBwdKernelIdeal.sig) → Buf (Elt Ideal) ℓ) : Prop :=
  ∀ c : Dev Cert.AttnBwdKernelIdeal.nD,
    (Cert.Pre_attnbwd_finite.fn (F := Ideal) (m ((c.tc : Thread Cert.AttnBwdKernelIdeal.nD Cert.AttnBwdKernelIdeal.τ).loc Cert.AttnBwdKernelIdeal.main_arg0)) (m ((c.tc : Thread Cert.AttnBwdKernelIdeal.nD Cert.AttnBwdKernelIdeal.τ).loc Cert.AttnBwdKernelIdeal.main_arg1))) = (fun _ => 1#1)

def Pre_AttnBwdReferenceIdeal (m : (ℓ : Loc Cert.AttnBwdReferenceIdeal.nD Cert.AttnBwdReferenceIdeal.τ Cert.AttnBwdReferenceIdeal.sig) → Buf (Elt Ideal) ℓ) : Prop :=
  True

def Pre_AttnBwdReferenceIdeal_attnbwd_finite [hPre_attnbwd_finite : Cert.Pre_attnbwd_finite.Facts] (m : (ℓ : Loc Cert.AttnBwdReferenceIdeal.nD Cert.AttnBwdReferenceIdeal.τ Cert.AttnBwdReferenceIdeal.sig) → Buf (Elt Ideal) ℓ) : Prop :=
  ∀ c : Dev Cert.AttnBwdReferenceIdeal.nD,
    (Cert.Pre_attnbwd_finite.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1))) = (fun _ => 1#1)

def Pre_NormFwdKernel (m : (ℓ : Loc Cert.NormFwdKernel.nD Cert.NormFwdKernel.τ Cert.NormFwdKernel.sig) → Buf (Elt Bits) ℓ) : Prop :=
  True

def Pre_NormFwdKernelIdeal (m : (ℓ : Loc Cert.NormFwdKernelIdeal.nD Cert.NormFwdKernelIdeal.τ Cert.NormFwdKernelIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_AttnFwdKernel [hAttnFwdKernel : Cert.AttnFwdKernel.Facts] : Prop :=
  ∀ (m : (ℓ : Loc Cert.AttnFwdKernel.nD Cert.AttnFwdKernel.τ Cert.AttnFwdKernel.sig) → Buf (Elt Bits) ℓ) (g : Dev Cert.AttnFwdKernel.nD → PrngReg), Pre_AttnFwdKernel m →
    θ_run (Cert.AttnFwdKernel.defs (F := Bits)) (onTc (τ := Cert.AttnFwdKernel.τ) (Cert.AttnFwdKernel.main (F := Bits))) ⟨m, fun _ => 0, g⟩ (fun r => (∀ c : Dev Cert.AttnFwdKernel.nD,
      r.2.mem ((c.tc : Thread Cert.AttnFwdKernel.nD Cert.AttnFwdKernel.τ).loc Cert.AttnFwdKernel.main_arg0) = m ((c.tc : Thread Cert.AttnFwdKernel.nD Cert.AttnFwdKernel.τ).loc Cert.AttnFwdKernel.main_arg0))
      ∧ r.2.sem = fun _ => 0)

def quiescent_AttnFwdKernelIdeal [hAttnFwdKernelIdeal : Cert.AttnFwdKernelIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0))
      ∧ r.2.sem = fun _ => 0)

def quiescent_AttnFwdKernelIdeal_pre_attnfwd_finite [hAttnFwdKernelIdeal : Cert.AttnFwdKernelIdeal.Facts] [hPre_attnfwd_finite : Cert.Pre_attnfwd_finite.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal_attnfwd_finite m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0))
      ∧ r.2.sem = fun _ => 0)

def quiescent_AttnFwdReferenceIdeal_pre_attnfwd_finite [hAttnFwdReferenceIdeal : Cert.AttnFwdReferenceIdeal.Facts] [hPre_attnfwd_finite : Cert.Pre_attnfwd_finite.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_attnfwd_finite m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguKernelIdeal_pre_sgu_finite [hSguKernelIdeal : Cert.SguKernelIdeal.Facts] [hPre_sgu_finite : Cert.Pre_sgu_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal_sgu_finite m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_SguReferenceIdeal_pre_sgu_finite [hSguReferenceIdeal : Cert.SguReferenceIdeal.Facts] [hPre_sgu_finite : Cert.Pre_sgu_finite.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal_sgu_finite m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_AttnBwdKernel [hAttnBwdKernel : Cert.AttnBwdKernel.Facts] : Prop :=
  ∀ (m : (ℓ : Loc Cert.AttnBwdKernel.nD Cert.AttnBwdKernel.τ Cert.AttnBwdKernel.sig) → Buf (Elt Bits) ℓ) (g : Dev Cert.AttnBwdKernel.nD → PrngReg), Pre_AttnBwdKernel m →
    θ_run (Cert.AttnBwdKernel.defs (F := Bits)) (onTc (τ := Cert.AttnBwdKernel.τ) (Cert.AttnBwdKernel.main (F := Bits))) ⟨m, fun _ => 0, g⟩ (fun r => (∀ c : Dev Cert.AttnBwdKernel.nD,
      r.2.mem ((c.tc : Thread Cert.AttnBwdKernel.nD Cert.AttnBwdKernel.τ).loc Cert.AttnBwdKernel.main_arg0) = m ((c.tc : Thread Cert.AttnBwdKernel.nD Cert.AttnBwdKernel.τ).loc Cert.AttnBwdKernel.main_arg0)
      ∧ r.2.mem ((c.tc : Thread Cert.AttnBwdKernel.nD Cert.AttnBwdKernel.τ).loc Cert.AttnBwdKernel.main_arg1) = m ((c.tc : Thread Cert.AttnBwdKernel.nD Cert.AttnBwdKernel.τ).loc Cert.AttnBwdKernel.main_arg1))
      ∧ r.2.sem = fun _ => 0)

def quiescent_AttnBwdKernelIdeal [hAttnBwdKernelIdeal : Cert.AttnBwdKernelIdeal.Facts] : Prop :=
  ∀ (m : (ℓ : Loc Cert.AttnBwdKernelIdeal.nD Cert.AttnBwdKernelIdeal.τ Cert.AttnBwdKernelIdeal.sig) → Buf (Elt Ideal) ℓ) (g : Dev Cert.AttnBwdKernelIdeal.nD → PrngReg), Pre_AttnBwdKernelIdeal m →
    θ_run (Cert.AttnBwdKernelIdeal.defs (F := Ideal)) (onTc (τ := Cert.AttnBwdKernelIdeal.τ) (Cert.AttnBwdKernelIdeal.main (F := Ideal))) ⟨m, fun _ => 0, g⟩ (fun r => (∀ c : Dev Cert.AttnBwdKernelIdeal.nD,
      r.2.mem ((c.tc : Thread Cert.AttnBwdKernelIdeal.nD Cert.AttnBwdKernelIdeal.τ).loc Cert.AttnBwdKernelIdeal.main_arg0) = m ((c.tc : Thread Cert.AttnBwdKernelIdeal.nD Cert.AttnBwdKernelIdeal.τ).loc Cert.AttnBwdKernelIdeal.main_arg0)
      ∧ r.2.mem ((c.tc : Thread Cert.AttnBwdKernelIdeal.nD Cert.AttnBwdKernelIdeal.τ).loc Cert.AttnBwdKernelIdeal.main_arg1) = m ((c.tc : Thread Cert.AttnBwdKernelIdeal.nD Cert.AttnBwdKernelIdeal.τ).loc Cert.AttnBwdKernelIdeal.main_arg1))
      ∧ r.2.sem = fun _ => 0)

def quiescent_AttnBwdKernelIdeal_pre_attnbwd_finite [hAttnBwdKernelIdeal : Cert.AttnBwdKernelIdeal.Facts] [hPre_attnbwd_finite : Cert.Pre_attnbwd_finite.Facts] : Prop :=
  ∀ (m : (ℓ : Loc Cert.AttnBwdKernelIdeal.nD Cert.AttnBwdKernelIdeal.τ Cert.AttnBwdKernelIdeal.sig) → Buf (Elt Ideal) ℓ) (g : Dev Cert.AttnBwdKernelIdeal.nD → PrngReg), Pre_AttnBwdKernelIdeal_attnbwd_finite m →
    θ_run (Cert.AttnBwdKernelIdeal.defs (F := Ideal)) (onTc (τ := Cert.AttnBwdKernelIdeal.τ) (Cert.AttnBwdKernelIdeal.main (F := Ideal))) ⟨m, fun _ => 0, g⟩ (fun r => (∀ c : Dev Cert.AttnBwdKernelIdeal.nD,
      r.2.mem ((c.tc : Thread Cert.AttnBwdKernelIdeal.nD Cert.AttnBwdKernelIdeal.τ).loc Cert.AttnBwdKernelIdeal.main_arg0) = m ((c.tc : Thread Cert.AttnBwdKernelIdeal.nD Cert.AttnBwdKernelIdeal.τ).loc Cert.AttnBwdKernelIdeal.main_arg0)
      ∧ r.2.mem ((c.tc : Thread Cert.AttnBwdKernelIdeal.nD Cert.AttnBwdKernelIdeal.τ).loc Cert.AttnBwdKernelIdeal.main_arg1) = m ((c.tc : Thread Cert.AttnBwdKernelIdeal.nD Cert.AttnBwdKernelIdeal.τ).loc Cert.AttnBwdKernelIdeal.main_arg1))
      ∧ r.2.sem = fun _ => 0)

def quiescent_AttnBwdReferenceIdeal [hAttnBwdReferenceIdeal : Cert.AttnBwdReferenceIdeal.Facts] : Prop :=
  ∀ (m : (ℓ : Loc Cert.AttnBwdReferenceIdeal.nD Cert.AttnBwdReferenceIdeal.τ Cert.AttnBwdReferenceIdeal.sig) → Buf (Elt Ideal) ℓ) (g : Dev Cert.AttnBwdReferenceIdeal.nD → PrngReg), Pre_AttnBwdReferenceIdeal m →
    θ_run (Cert.AttnBwdReferenceIdeal.defs (F := Ideal)) (onTc (τ := Cert.AttnBwdReferenceIdeal.τ) (Cert.AttnBwdReferenceIdeal.main (F := Ideal))) ⟨m, fun _ => 0, g⟩ (fun r => (∀ c : Dev Cert.AttnBwdReferenceIdeal.nD,
      r.2.mem ((c.tc : Thread Cert.AttnBwdReferenceIdeal.nD Cert.AttnBwdReferenceIdeal.τ).loc Cert.AttnBwdReferenceIdeal.main_arg0) = m ((c.tc : Thread Cert.AttnBwdReferenceIdeal.nD Cert.AttnBwdReferenceIdeal.τ).loc Cert.AttnBwdReferenceIdeal.main_arg0)
      ∧ r.2.mem ((c.tc : Thread Cert.AttnBwdReferenceIdeal.nD Cert.AttnBwdReferenceIdeal.τ).loc Cert.AttnBwdReferenceIdeal.main_arg1) = m ((c.tc : Thread Cert.AttnBwdReferenceIdeal.nD Cert.AttnBwdReferenceIdeal.τ).loc Cert.AttnBwdReferenceIdeal.main_arg1))
      ∧ r.2.sem = fun _ => 0)

def quiescent_AttnBwdReferenceIdeal_pre_attnbwd_finite [hAttnBwdReferenceIdeal : Cert.AttnBwdReferenceIdeal.Facts] [hPre_attnbwd_finite : Cert.Pre_attnbwd_finite.Facts] : Prop :=
  ∀ (m : (ℓ : Loc Cert.AttnBwdReferenceIdeal.nD Cert.AttnBwdReferenceIdeal.τ Cert.AttnBwdReferenceIdeal.sig) → Buf (Elt Ideal) ℓ) (g : Dev Cert.AttnBwdReferenceIdeal.nD → PrngReg), Pre_AttnBwdReferenceIdeal_attnbwd_finite m →
    θ_run (Cert.AttnBwdReferenceIdeal.defs (F := Ideal)) (onTc (τ := Cert.AttnBwdReferenceIdeal.τ) (Cert.AttnBwdReferenceIdeal.main (F := Ideal))) ⟨m, fun _ => 0, g⟩ (fun r => (∀ c : Dev Cert.AttnBwdReferenceIdeal.nD,
      r.2.mem ((c.tc : Thread Cert.AttnBwdReferenceIdeal.nD Cert.AttnBwdReferenceIdeal.τ).loc Cert.AttnBwdReferenceIdeal.main_arg0) = m ((c.tc : Thread Cert.AttnBwdReferenceIdeal.nD Cert.AttnBwdReferenceIdeal.τ).loc Cert.AttnBwdReferenceIdeal.main_arg0)
      ∧ r.2.mem ((c.tc : Thread Cert.AttnBwdReferenceIdeal.nD Cert.AttnBwdReferenceIdeal.τ).loc Cert.AttnBwdReferenceIdeal.main_arg1) = m ((c.tc : Thread Cert.AttnBwdReferenceIdeal.nD Cert.AttnBwdReferenceIdeal.τ).loc Cert.AttnBwdReferenceIdeal.main_arg1))
      ∧ r.2.sem = fun _ => 0)

def quiescent_NormFwdKernel [hNormFwdKernel : Cert.NormFwdKernel.Facts] : Prop :=
  ∀ (m : (ℓ : Loc Cert.NormFwdKernel.nD Cert.NormFwdKernel.τ Cert.NormFwdKernel.sig) → Buf (Elt Bits) ℓ) (g : Dev Cert.NormFwdKernel.nD → PrngReg), Pre_NormFwdKernel m →
    θ_run (Cert.NormFwdKernel.defs (F := Bits)) (onTc (τ := Cert.NormFwdKernel.τ) (Cert.NormFwdKernel.main (F := Bits))) ⟨m, fun _ => 0, g⟩ (fun r => (∀ c : Dev Cert.NormFwdKernel.nD,
      r.2.mem ((c.tc : Thread Cert.NormFwdKernel.nD Cert.NormFwdKernel.τ).loc Cert.NormFwdKernel.main_arg0) = m ((c.tc : Thread Cert.NormFwdKernel.nD Cert.NormFwdKernel.τ).loc Cert.NormFwdKernel.main_arg0)
      ∧ r.2.mem ((c.tc : Thread Cert.NormFwdKernel.nD Cert.NormFwdKernel.τ).loc Cert.NormFwdKernel.main_arg1) = m ((c.tc : Thread Cert.NormFwdKernel.nD Cert.NormFwdKernel.τ).loc Cert.NormFwdKernel.main_arg1)
      ∧ r.2.mem ((c.tc : Thread Cert.NormFwdKernel.nD Cert.NormFwdKernel.τ).loc Cert.NormFwdKernel.main_arg2) = m ((c.tc : Thread Cert.NormFwdKernel.nD Cert.NormFwdKernel.τ).loc Cert.NormFwdKernel.main_arg2))
      ∧ r.2.sem = fun _ => 0)

def quiescent_NormFwdKernelIdeal [hNormFwdKernelIdeal : Cert.NormFwdKernelIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg), Pre_NormFwdKernelIdeal m →
    θ_run (Cert.NormFwdKernelIdeal.defs (F := Ideal)) (onTc (τ := Cert.NormFwdKernelIdeal.τ) (Cert.NormFwdKernelIdeal.main (F := Ideal))) ⟨m, fun _ => 0, g⟩ (fun r => (∀ c : Dev Cert.NormFwdKernelIdeal.nD,
      r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
      ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1)
      ∧ r.2.mem ((c.tc : Thread Cert.NormFwdKernelIdeal.nD Cert.NormFwdKernelIdeal.τ).loc Cert.NormFwdKernelIdeal.main_arg2) = m ((c.tc : Thread Cert.NormFwdKernelIdeal.nD Cert.NormFwdKernelIdeal.τ).loc Cert.NormFwdKernelIdeal.main_arg2))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6)
      ∧ r.2.mem ((c.tc : Thread Cert.SsdKernel.nD Cert.SsdKernel.τ).loc Cert.SsdKernel.main_arg7) = m ((c.tc : Thread Cert.SsdKernel.nD Cert.SsdKernel.τ).loc Cert.SsdKernel.main_arg7))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1)
      ∧ r.2.mem ((c.tc : Thread Cert.ConvFwdKernel.nD Cert.ConvFwdKernel.τ).loc Cert.ConvFwdKernel.main_arg2) = m ((c.tc : Thread Cert.ConvFwdKernel.nD Cert.ConvFwdKernel.τ).loc Cert.ConvFwdKernel.main_arg2))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1)
      ∧ r.2.mem ((c.tc : Thread Cert.ConvFwdKernelIdeal.nD Cert.ConvFwdKernelIdeal.τ).loc Cert.ConvFwdKernelIdeal.main_arg2) = m ((c.tc : Thread Cert.ConvFwdKernelIdeal.nD Cert.ConvFwdKernelIdeal.τ).loc Cert.ConvFwdKernelIdeal.main_arg2))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v10_0)) (v1 : (c : Dev Cert.ConvKernelIdeal.nD) → Buf (Elt Ideal) ((c.tc : Thread Cert.ConvKernelIdeal.nD Cert.ConvKernelIdeal.τ).loc Cert.ConvKernelIdeal.main_v10_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v10_0) = v0 c
          ∧ r.2.mem ((c.tc : Thread Cert.ConvKernelIdeal.nD Cert.ConvKernelIdeal.τ).loc Cert.ConvKernelIdeal.main_v10_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v95) = v0 c
          ∧ r.2.mem ((c.tc : Thread Cert.ConvReferenceIdeal.nD Cert.ConvReferenceIdeal.τ).loc Cert.ConvReferenceIdeal.main_v93) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v20_0)) (v1 : (c : Dev Cert.NormKernelIdeal.nD) → Buf (Elt Ideal) ((c.tc : Thread Cert.NormKernelIdeal.nD Cert.NormKernelIdeal.τ).loc Cert.NormKernelIdeal.main_v20_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v20_0) = v0 c
          ∧ r.2.mem ((c.tc : Thread Cert.NormKernelIdeal.nD Cert.NormKernelIdeal.τ).loc Cert.NormKernelIdeal.main_v20_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v39) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v7_0)) (v1 : (c : Dev Cert.FfnKernelIdeal.nD) → Buf (Elt Ideal) ((c.tc : Thread Cert.FfnKernelIdeal.nD Cert.FfnKernelIdeal.τ).loc Cert.FfnKernelIdeal.main_v7_3)) (v2 : (c : Dev Cert.FfnKernelIdeal.nD) → Buf (Elt Ideal) ((c.tc : Thread Cert.FfnKernelIdeal.nD Cert.FfnKernelIdeal.τ).loc Cert.FfnKernelIdeal.main_v9_0)) (v3 : (c : Dev Cert.FfnKernelIdeal.nD) → Buf (Elt Ideal) ((c.tc : Thread Cert.FfnKernelIdeal.nD Cert.FfnKernelIdeal.τ).loc Cert.FfnKernelIdeal.main_v9_1)) (v4 : (c : Dev Cert.FfnKernelIdeal.nD) → Buf (Elt Ideal) ((c.tc : Thread Cert.FfnKernelIdeal.nD Cert.FfnKernelIdeal.τ).loc Cert.FfnKernelIdeal.main_v9_2)) (v5 : (c : Dev Cert.FfnKernelIdeal.nD) → Buf (Elt Ideal) ((c.tc : Thread Cert.FfnKernelIdeal.nD Cert.FfnKernelIdeal.τ).loc Cert.FfnKernelIdeal.main_v9_3)) (v6 : (c : Dev Cert.FfnKernelIdeal.nD) → Buf (Elt Ideal) ((c.tc : Thread Cert.FfnKernelIdeal.nD Cert.FfnKernelIdeal.τ).loc Cert.FfnKernelIdeal.main_v9_4)) (v7 : (c : Dev Cert.FfnKernelIdeal.nD) → Buf (Elt Ideal) ((c.tc : Thread Cert.FfnKernelIdeal.nD Cert.FfnKernelIdeal.τ).loc Cert.FfnKernelIdeal.main_v9_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7_0) = v0 c
          ∧ r.2.mem ((c.tc : Thread Cert.FfnKernelIdeal.nD Cert.FfnKernelIdeal.τ).loc Cert.FfnKernelIdeal.main_v7_3) = v1 c
          ∧ r.2.mem ((c.tc : Thread Cert.FfnKernelIdeal.nD Cert.FfnKernelIdeal.τ).loc Cert.FfnKernelIdeal.main_v9_0) = v2 c
          ∧ r.2.mem ((c.tc : Thread Cert.FfnKernelIdeal.nD Cert.FfnKernelIdeal.τ).loc Cert.FfnKernelIdeal.main_v9_1) = v3 c
          ∧ r.2.mem ((c.tc : Thread Cert.FfnKernelIdeal.nD Cert.FfnKernelIdeal.τ).loc Cert.FfnKernelIdeal.main_v9_2) = v4 c
          ∧ r.2.mem ((c.tc : Thread Cert.FfnKernelIdeal.nD Cert.FfnKernelIdeal.τ).loc Cert.FfnKernelIdeal.main_v9_3) = v5 c
          ∧ r.2.mem ((c.tc : Thread Cert.FfnKernelIdeal.nD Cert.FfnKernelIdeal.τ).loc Cert.FfnKernelIdeal.main_v9_4) = v6 c
          ∧ r.2.mem ((c.tc : Thread Cert.FfnKernelIdeal.nD Cert.FfnKernelIdeal.τ).loc Cert.FfnKernelIdeal.main_v9_5) = v7 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v60) = v0 c
          ∧ r.2.mem ((c.tc : Thread Cert.FfnReferenceIdeal.nD Cert.FfnReferenceIdeal.τ).loc Cert.FfnReferenceIdeal.main_v63) = v1 c
          ∧ r.2.mem ((c.tc : Thread Cert.FfnReferenceIdeal.nD Cert.FfnReferenceIdeal.τ).loc Cert.FfnReferenceIdeal.main_v64) = v2 c
          ∧ r.2.mem ((c.tc : Thread Cert.FfnReferenceIdeal.nD Cert.FfnReferenceIdeal.τ).loc Cert.FfnReferenceIdeal.main_v67) = v3 c
          ∧ r.2.mem ((c.tc : Thread Cert.FfnReferenceIdeal.nD Cert.FfnReferenceIdeal.τ).loc Cert.FfnReferenceIdeal.main_v70) = v4 c
          ∧ r.2.mem ((c.tc : Thread Cert.FfnReferenceIdeal.nD Cert.FfnReferenceIdeal.τ).loc Cert.FfnReferenceIdeal.main_v72) = v5 c
          ∧ r.2.mem ((c.tc : Thread Cert.FfnReferenceIdeal.nD Cert.FfnReferenceIdeal.τ).loc Cert.FfnReferenceIdeal.main_v74) = v6 c
          ∧ r.2.mem ((c.tc : Thread Cert.FfnReferenceIdeal.nD Cert.FfnReferenceIdeal.τ).loc Cert.FfnReferenceIdeal.main_v75) = v7 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_AttnFwdKernel_AttnFwdKernelIdeal : Prop :=
  True

def algebraic_AttnFwdKernelIdeal_AttnFwdReferenceIdeal_pre_attnfwd_finite [hAttnFwdKernelIdeal : Cert.AttnFwdKernelIdeal.Facts] [hAttnFwdReferenceIdeal : Cert.AttnFwdReferenceIdeal.Facts] [hPre_attnfwd_finite : Cert.Pre_attnfwd_finite.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdKernelIdeal_attnfwd_finite m →
    (∀ c : Dev Cert.AttnFwdKernelIdeal.nD,
      m' ((c.tc : Thread Cert.AttnFwdReferenceIdeal.nD Cert.AttnFwdReferenceIdeal.τ).loc Cert.AttnFwdReferenceIdeal.main_arg0) = m ((c.tc : Thread Cert.AttnFwdKernelIdeal.nD Cert.AttnFwdKernelIdeal.τ).loc Cert.AttnFwdKernelIdeal.main_arg0)) →
    ∃ (v0 : (c : Dev Cert.AttnFwdKernelIdeal.nD) → Buf (Elt Ideal) ((c.tc : Thread Cert.AttnFwdKernelIdeal.nD Cert.AttnFwdKernelIdeal.τ).loc Cert.AttnFwdKernelIdeal.main_v45_0)) (v1 : (c : Dev Cert.AttnFwdKernelIdeal.nD) → Buf (Elt Ideal) ((c.tc : Thread Cert.AttnFwdKernelIdeal.nD Cert.AttnFwdKernelIdeal.τ).loc Cert.AttnFwdKernelIdeal.main_v45_1)),
      θ_run (Cert.AttnFwdKernelIdeal.defs (F := Ideal)) (onTc (τ := Cert.AttnFwdKernelIdeal.τ) (Cert.AttnFwdKernelIdeal.main (F := Ideal))) ⟨m, fun _ => 0, g⟩ (fun r => ∀ c : Dev Cert.AttnFwdKernelIdeal.nD,
          r.2.mem ((c.tc : Thread Cert.AttnFwdKernelIdeal.nD Cert.AttnFwdKernelIdeal.τ).loc Cert.AttnFwdKernelIdeal.main_v45_0) = v0 c
          ∧ r.2.mem ((c.tc : Thread Cert.AttnFwdKernelIdeal.nD Cert.AttnFwdKernelIdeal.τ).loc Cert.AttnFwdKernelIdeal.main_v45_1) = v1 c
          ∧ r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v83) = v0 c
          ∧ r.2.mem ((c.tc : Thread Cert.AttnFwdReferenceIdeal.nD Cert.AttnFwdReferenceIdeal.τ).loc Cert.AttnFwdReferenceIdeal.main_v85) = v1 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0))

def preserves_SguKernel_SguKernelIdeal : Prop :=
  True

def algebraic_SguKernelIdeal_SguReferenceIdeal_pre_sgu_finite [hSguKernelIdeal : Cert.SguKernelIdeal.Facts] [hSguReferenceIdeal : Cert.SguReferenceIdeal.Facts] [hPre_sgu_finite : Cert.Pre_sgu_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal_sgu_finite m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)) →
    ∃ (v0 : (c : Dev Cert.SguKernelIdeal.nD) → Buf (Elt Ideal) ((c.tc : Thread Cert.SguKernelIdeal.nD Cert.SguKernelIdeal.τ).loc Cert.SguKernelIdeal.main_v15_0)) (v1 : (c : Dev Cert.SguKernelIdeal.nD) → Buf (Elt Ideal) ((c.tc : Thread Cert.SguKernelIdeal.nD Cert.SguKernelIdeal.τ).loc Cert.SguKernelIdeal.main_v15_1)) (v2 : (c : Dev Cert.SguKernelIdeal.nD) → Buf (Elt Ideal) ((c.tc : Thread Cert.SguKernelIdeal.nD Cert.SguKernelIdeal.τ).loc Cert.SguKernelIdeal.main_v15_2)) (v3 : (c : Dev Cert.SguKernelIdeal.nD) → Buf (Elt Ideal) ((c.tc : Thread Cert.SguKernelIdeal.nD Cert.SguKernelIdeal.τ).loc Cert.SguKernelIdeal.main_v15_3)) (v4 : (c : Dev Cert.SguKernelIdeal.nD) → Buf (Elt Ideal) ((c.tc : Thread Cert.SguKernelIdeal.nD Cert.SguKernelIdeal.τ).loc Cert.SguKernelIdeal.main_v15_4)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v15_0) = v0 c
          ∧ r.2.mem ((c.tc : Thread Cert.SguKernelIdeal.nD Cert.SguKernelIdeal.τ).loc Cert.SguKernelIdeal.main_v15_1) = v1 c
          ∧ r.2.mem ((c.tc : Thread Cert.SguKernelIdeal.nD Cert.SguKernelIdeal.τ).loc Cert.SguKernelIdeal.main_v15_2) = v2 c
          ∧ r.2.mem ((c.tc : Thread Cert.SguKernelIdeal.nD Cert.SguKernelIdeal.τ).loc Cert.SguKernelIdeal.main_v15_3) = v3 c
          ∧ r.2.mem ((c.tc : Thread Cert.SguKernelIdeal.nD Cert.SguKernelIdeal.τ).loc Cert.SguKernelIdeal.main_v15_4) = v4 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v121) = v0 c
          ∧ r.2.mem ((c.tc : Thread Cert.SguReferenceIdeal.nD Cert.SguReferenceIdeal.τ).loc Cert.SguReferenceIdeal.main_v122) = v1 c
          ∧ r.2.mem ((c.tc : Thread Cert.SguReferenceIdeal.nD Cert.SguReferenceIdeal.τ).loc Cert.SguReferenceIdeal.main_v125) = v2 c
          ∧ r.2.mem ((c.tc : Thread Cert.SguReferenceIdeal.nD Cert.SguReferenceIdeal.τ).loc Cert.SguReferenceIdeal.main_v70) = v3 c
          ∧ r.2.mem ((c.tc : Thread Cert.SguReferenceIdeal.nD Cert.SguReferenceIdeal.τ).loc Cert.SguReferenceIdeal.main_v127) = v4 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5))

def preserves_AttnBwdKernel_AttnBwdKernelIdeal : Prop :=
  True

def algebraic_AttnBwdKernelIdeal_AttnBwdReferenceIdeal_pre_attnbwd_finite [hAttnBwdKernelIdeal : Cert.AttnBwdKernelIdeal.Facts] [hAttnBwdReferenceIdeal : Cert.AttnBwdReferenceIdeal.Facts] [hPre_attnbwd_finite : Cert.Pre_attnbwd_finite.Facts] : Prop :=
  ∀ (m : (ℓ : Loc Cert.AttnBwdKernelIdeal.nD Cert.AttnBwdKernelIdeal.τ Cert.AttnBwdKernelIdeal.sig) → Buf (Elt Ideal) ℓ) (g : Dev Cert.AttnBwdKernelIdeal.nD → PrngReg)
    (m' : (ℓ : Loc Cert.AttnBwdReferenceIdeal.nD Cert.AttnBwdReferenceIdeal.τ Cert.AttnBwdReferenceIdeal.sig) → Buf (Elt Ideal) ℓ) (g' : Dev Cert.AttnBwdReferenceIdeal.nD → PrngReg), Pre_AttnBwdKernelIdeal_attnbwd_finite m →
    (∀ c : Dev Cert.AttnBwdKernelIdeal.nD,
      m' ((c.tc : Thread Cert.AttnBwdReferenceIdeal.nD Cert.AttnBwdReferenceIdeal.τ).loc Cert.AttnBwdReferenceIdeal.main_arg0) = m ((c.tc : Thread Cert.AttnBwdKernelIdeal.nD Cert.AttnBwdKernelIdeal.τ).loc Cert.AttnBwdKernelIdeal.main_arg0)
      ∧ m' ((c.tc : Thread Cert.AttnBwdReferenceIdeal.nD Cert.AttnBwdReferenceIdeal.τ).loc Cert.AttnBwdReferenceIdeal.main_arg1) = m ((c.tc : Thread Cert.AttnBwdKernelIdeal.nD Cert.AttnBwdKernelIdeal.τ).loc Cert.AttnBwdKernelIdeal.main_arg1)) →
    ∃ (v0 : (c : Dev Cert.AttnBwdKernelIdeal.nD) → Buf (Elt Ideal) ((c.tc : Thread Cert.AttnBwdKernelIdeal.nD Cert.AttnBwdKernelIdeal.τ).loc Cert.AttnBwdKernelIdeal.main_v132_0)) (v1 : (c : Dev Cert.AttnBwdKernelIdeal.nD) → Buf (Elt Ideal) ((c.tc : Thread Cert.AttnBwdKernelIdeal.nD Cert.AttnBwdKernelIdeal.τ).loc Cert.AttnBwdKernelIdeal.main_v132_1)) (v2 : (c : Dev Cert.AttnBwdKernelIdeal.nD) → Buf (Elt Ideal) ((c.tc : Thread Cert.AttnBwdKernelIdeal.nD Cert.AttnBwdKernelIdeal.τ).loc Cert.AttnBwdKernelIdeal.main_v132_2)),
      θ_run (Cert.AttnBwdKernelIdeal.defs (F := Ideal)) (onTc (τ := Cert.AttnBwdKernelIdeal.τ) (Cert.AttnBwdKernelIdeal.main (F := Ideal))) ⟨m, fun _ => 0, g⟩ (fun r => ∀ c : Dev Cert.AttnBwdKernelIdeal.nD,
          r.2.mem ((c.tc : Thread Cert.AttnBwdKernelIdeal.nD Cert.AttnBwdKernelIdeal.τ).loc Cert.AttnBwdKernelIdeal.main_v132_0) = v0 c
          ∧ r.2.mem ((c.tc : Thread Cert.AttnBwdKernelIdeal.nD Cert.AttnBwdKernelIdeal.τ).loc Cert.AttnBwdKernelIdeal.main_v132_1) = v1 c
          ∧ r.2.mem ((c.tc : Thread Cert.AttnBwdKernelIdeal.nD Cert.AttnBwdKernelIdeal.τ).loc Cert.AttnBwdKernelIdeal.main_v132_2) = v2 c
          ∧ r.2.mem ((c.tc : Thread Cert.AttnBwdKernelIdeal.nD Cert.AttnBwdKernelIdeal.τ).loc Cert.AttnBwdKernelIdeal.main_arg0) = m ((c.tc : Thread Cert.AttnBwdKernelIdeal.nD Cert.AttnBwdKernelIdeal.τ).loc Cert.AttnBwdKernelIdeal.main_arg0)
          ∧ r.2.mem ((c.tc : Thread Cert.AttnBwdKernelIdeal.nD Cert.AttnBwdKernelIdeal.τ).loc Cert.AttnBwdKernelIdeal.main_arg1) = m ((c.tc : Thread Cert.AttnBwdKernelIdeal.nD Cert.AttnBwdKernelIdeal.τ).loc Cert.AttnBwdKernelIdeal.main_arg1))
      ∧ θ_run (Cert.AttnBwdReferenceIdeal.defs (F := Ideal)) (onTc (τ := Cert.AttnBwdReferenceIdeal.τ) (Cert.AttnBwdReferenceIdeal.main (F := Ideal))) ⟨m', fun _ => 0, g'⟩ (fun r => ∀ c : Dev Cert.AttnBwdReferenceIdeal.nD,
          r.2.mem ((c.tc : Thread Cert.AttnBwdReferenceIdeal.nD Cert.AttnBwdReferenceIdeal.τ).loc Cert.AttnBwdReferenceIdeal.main_v176) = v0 c
          ∧ r.2.mem ((c.tc : Thread Cert.AttnBwdReferenceIdeal.nD Cert.AttnBwdReferenceIdeal.τ).loc Cert.AttnBwdReferenceIdeal.main_v178) = v1 c
          ∧ r.2.mem ((c.tc : Thread Cert.AttnBwdReferenceIdeal.nD Cert.AttnBwdReferenceIdeal.τ).loc Cert.AttnBwdReferenceIdeal.main_v180) = v2 c
          ∧ r.2.mem ((c.tc : Thread Cert.AttnBwdReferenceIdeal.nD Cert.AttnBwdReferenceIdeal.τ).loc Cert.AttnBwdReferenceIdeal.main_arg0) = m' ((c.tc : Thread Cert.AttnBwdReferenceIdeal.nD Cert.AttnBwdReferenceIdeal.τ).loc Cert.AttnBwdReferenceIdeal.main_arg0)
          ∧ r.2.mem ((c.tc : Thread Cert.AttnBwdReferenceIdeal.nD Cert.AttnBwdReferenceIdeal.τ).loc Cert.AttnBwdReferenceIdeal.main_arg1) = m' ((c.tc : Thread Cert.AttnBwdReferenceIdeal.nD Cert.AttnBwdReferenceIdeal.τ).loc Cert.AttnBwdReferenceIdeal.main_arg1))

def preserves_NormFwdKernel_NormFwdKernelIdeal : Prop :=
  True

def algebraic_NormFwdKernelIdeal_NormFwdReferenceIdeal [hNormFwdKernelIdeal : Cert.NormFwdKernelIdeal.Facts] [hNormFwdReferenceIdeal : Cert.NormFwdReferenceIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdKernelIdeal m →
    (∀ c : Dev Cert.NormFwdKernelIdeal.nD,
      m' ((c.tc : Thread Cert.NormFwdReferenceIdeal.nD Cert.NormFwdReferenceIdeal.τ).loc Cert.NormFwdReferenceIdeal.main_arg0) = m ((c.tc : Thread Cert.NormFwdKernelIdeal.nD Cert.NormFwdKernelIdeal.τ).loc Cert.NormFwdKernelIdeal.main_arg0)
      ∧ m' ((c.tc : Thread Cert.NormFwdReferenceIdeal.nD Cert.NormFwdReferenceIdeal.τ).loc Cert.NormFwdReferenceIdeal.main_arg1) = m ((c.tc : Thread Cert.NormFwdKernelIdeal.nD Cert.NormFwdKernelIdeal.τ).loc Cert.NormFwdKernelIdeal.main_arg1)
      ∧ m' ((c.tc : Thread Cert.NormFwdReferenceIdeal.nD Cert.NormFwdReferenceIdeal.τ).loc Cert.NormFwdReferenceIdeal.main_arg2) = m ((c.tc : Thread Cert.NormFwdKernelIdeal.nD Cert.NormFwdKernelIdeal.τ).loc Cert.NormFwdKernelIdeal.main_arg2)) →
    ∃ (v0 : (c : Dev Cert.NormFwdKernelIdeal.nD) → Buf (Elt Ideal) ((c.tc : Thread Cert.NormFwdKernelIdeal.nD Cert.NormFwdKernelIdeal.τ).loc Cert.NormFwdKernelIdeal.main_v10_0)) (v1 : (c : Dev Cert.NormFwdKernelIdeal.nD) → Buf (Elt Ideal) ((c.tc : Thread Cert.NormFwdKernelIdeal.nD Cert.NormFwdKernelIdeal.τ).loc Cert.NormFwdKernelIdeal.main_v10_1)),
      θ_run (Cert.NormFwdKernelIdeal.defs (F := Ideal)) (onTc (τ := Cert.NormFwdKernelIdeal.τ) (Cert.NormFwdKernelIdeal.main (F := Ideal))) ⟨m, fun _ => 0, g⟩ (fun r => ∀ c : Dev Cert.NormFwdKernelIdeal.nD,
          r.2.mem ((c.tc : Thread Cert.NormFwdKernelIdeal.nD Cert.NormFwdKernelIdeal.τ).loc Cert.NormFwdKernelIdeal.main_v10_0) = v0 c
          ∧ r.2.mem ((c.tc : Thread Cert.NormFwdKernelIdeal.nD Cert.NormFwdKernelIdeal.τ).loc Cert.NormFwdKernelIdeal.main_v10_1) = v1 c
          ∧ r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
          ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1)
          ∧ r.2.mem ((c.tc : Thread Cert.NormFwdKernelIdeal.nD Cert.NormFwdKernelIdeal.τ).loc Cert.NormFwdKernelIdeal.main_arg2) = m ((c.tc : Thread Cert.NormFwdKernelIdeal.nD Cert.NormFwdKernelIdeal.τ).loc Cert.NormFwdKernelIdeal.main_arg2))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v24) = v0 c
          ∧ r.2.mem ((c.tc : Thread Cert.NormFwdReferenceIdeal.nD Cert.NormFwdReferenceIdeal.τ).loc Cert.NormFwdReferenceIdeal.main_v27) = v1 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2))

def preserves_SsdKernel_SsdKernelIdeal : Prop :=
  True

def preserves_ConvFwdKernel_ConvFwdKernelIdeal : Prop :=
  True

def algebraic_ConvFwdKernelIdeal_ConvFwdReferenceIdeal [hConvFwdKernelIdeal : Cert.ConvFwdKernelIdeal.Facts] [hConvFwdReferenceIdeal : Cert.ConvFwdReferenceIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdKernelIdeal m →
    (∀ c : Dev Cert.ConvFwdKernelIdeal.nD,
      m' ((c.tc : Thread Cert.ConvFwdReferenceIdeal.nD Cert.ConvFwdReferenceIdeal.τ).loc Cert.ConvFwdReferenceIdeal.main_arg0) = m ((c.tc : Thread Cert.ConvFwdKernelIdeal.nD Cert.ConvFwdKernelIdeal.τ).loc Cert.ConvFwdKernelIdeal.main_arg0)
      ∧ m' ((c.tc : Thread Cert.ConvFwdReferenceIdeal.nD Cert.ConvFwdReferenceIdeal.τ).loc Cert.ConvFwdReferenceIdeal.main_arg1) = m ((c.tc : Thread Cert.ConvFwdKernelIdeal.nD Cert.ConvFwdKernelIdeal.τ).loc Cert.ConvFwdKernelIdeal.main_arg1)
      ∧ m' ((c.tc : Thread Cert.ConvFwdReferenceIdeal.nD Cert.ConvFwdReferenceIdeal.τ).loc Cert.ConvFwdReferenceIdeal.main_arg2) = m ((c.tc : Thread Cert.ConvFwdKernelIdeal.nD Cert.ConvFwdKernelIdeal.τ).loc Cert.ConvFwdKernelIdeal.main_arg2)) →
    ∃ (v0 : (c : Dev Cert.ConvFwdKernelIdeal.nD) → Buf (Elt Ideal) ((c.tc : Thread Cert.ConvFwdKernelIdeal.nD Cert.ConvFwdKernelIdeal.τ).loc Cert.ConvFwdKernelIdeal.main_v10)),
      θ_run (Cert.ConvFwdKernelIdeal.defs (F := Ideal)) (onTc (τ := Cert.ConvFwdKernelIdeal.τ) (Cert.ConvFwdKernelIdeal.main (F := Ideal))) ⟨m, fun _ => 0, g⟩ (fun r => ∀ c : Dev Cert.ConvFwdKernelIdeal.nD,
          r.2.mem ((c.tc : Thread Cert.ConvFwdKernelIdeal.nD Cert.ConvFwdKernelIdeal.τ).loc Cert.ConvFwdKernelIdeal.main_v10) = v0 c
          ∧ r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
          ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1)
          ∧ r.2.mem ((c.tc : Thread Cert.ConvFwdKernelIdeal.nD Cert.ConvFwdKernelIdeal.τ).loc Cert.ConvFwdKernelIdeal.main_arg2) = m ((c.tc : Thread Cert.ConvFwdKernelIdeal.nD Cert.ConvFwdKernelIdeal.τ).loc Cert.ConvFwdKernelIdeal.main_arg2))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v41) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2))

def Claim : Prop :=
  ∃ (hKernel : Cert.Kernel.Facts) (hKernelIdeal : Cert.KernelIdeal.Facts) (hReferenceIdeal : Cert.ReferenceIdeal.Facts) (hConvKernel : Cert.ConvKernel.Facts) (hConvKernelIdeal : Cert.ConvKernelIdeal.Facts) (hConvReferenceIdeal : Cert.ConvReferenceIdeal.Facts) (hNormKernel : Cert.NormKernel.Facts) (hNormKernelIdeal : Cert.NormKernelIdeal.Facts) (hNormReferenceIdeal : Cert.NormReferenceIdeal.Facts) (hFfnKernel : Cert.FfnKernel.Facts) (hFfnKernelIdeal : Cert.FfnKernelIdeal.Facts) (hFfnReferenceIdeal : Cert.FfnReferenceIdeal.Facts) (hAttnFwdKernel : Cert.AttnFwdKernel.Facts) (hAttnFwdKernelIdeal : Cert.AttnFwdKernelIdeal.Facts) (hAttnFwdReferenceIdeal : Cert.AttnFwdReferenceIdeal.Facts) (hSguKernel : Cert.SguKernel.Facts) (hSguKernelIdeal : Cert.SguKernelIdeal.Facts) (hSguReferenceIdeal : Cert.SguReferenceIdeal.Facts) (hAttnBwdKernel : Cert.AttnBwdKernel.Facts) (hAttnBwdKernelIdeal : Cert.AttnBwdKernelIdeal.Facts) (hAttnBwdReferenceIdeal : Cert.AttnBwdReferenceIdeal.Facts) (hNormFwdKernel : Cert.NormFwdKernel.Facts) (hNormFwdKernelIdeal : Cert.NormFwdKernelIdeal.Facts) (hNormFwdReferenceIdeal : Cert.NormFwdReferenceIdeal.Facts) (hSsdKernel : Cert.SsdKernel.Facts) (hSsdKernelIdeal : Cert.SsdKernelIdeal.Facts) (hConvFwdKernel : Cert.ConvFwdKernel.Facts) (hConvFwdKernelIdeal : Cert.ConvFwdKernelIdeal.Facts) (hConvFwdReferenceIdeal : Cert.ConvFwdReferenceIdeal.Facts) (hPre_finite : Cert.Pre_finite.Facts) (hPre_norm_finite : Cert.Pre_norm_finite.Facts) (hPre_ffn_finite : Cert.Pre_ffn_finite.Facts) (hPre_attnfwd_finite : Cert.Pre_attnfwd_finite.Facts) (hPre_sgu_finite : Cert.Pre_sgu_finite.Facts) (hPre_attnbwd_finite : Cert.Pre_attnbwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_AttnFwdKernel (hAttnFwdKernel := hAttnFwdKernel)
    ∧ quiescent_AttnFwdKernelIdeal (hAttnFwdKernelIdeal := hAttnFwdKernelIdeal)
    ∧ quiescent_AttnFwdKernelIdeal_pre_attnfwd_finite (hAttnFwdKernelIdeal := hAttnFwdKernelIdeal) (hPre_attnfwd_finite := hPre_attnfwd_finite)
    ∧ quiescent_AttnFwdReferenceIdeal (hAttnFwdReferenceIdeal := hAttnFwdReferenceIdeal)
    ∧ quiescent_AttnFwdReferenceIdeal_pre_attnfwd_finite (hAttnFwdReferenceIdeal := hAttnFwdReferenceIdeal) (hPre_attnfwd_finite := hPre_attnfwd_finite)
    ∧ quiescent_SguKernel (hSguKernel := hSguKernel)
    ∧ quiescent_SguKernelIdeal (hSguKernelIdeal := hSguKernelIdeal)
    ∧ quiescent_SguKernelIdeal_pre_sgu_finite (hSguKernelIdeal := hSguKernelIdeal) (hPre_sgu_finite := hPre_sgu_finite)
    ∧ quiescent_SguReferenceIdeal (hSguReferenceIdeal := hSguReferenceIdeal)
    ∧ quiescent_SguReferenceIdeal_pre_sgu_finite (hSguReferenceIdeal := hSguReferenceIdeal) (hPre_sgu_finite := hPre_sgu_finite)
    ∧ quiescent_AttnBwdKernel (hAttnBwdKernel := hAttnBwdKernel)
    ∧ quiescent_AttnBwdKernelIdeal (hAttnBwdKernelIdeal := hAttnBwdKernelIdeal)
    ∧ quiescent_AttnBwdKernelIdeal_pre_attnbwd_finite (hAttnBwdKernelIdeal := hAttnBwdKernelIdeal) (hPre_attnbwd_finite := hPre_attnbwd_finite)
    ∧ quiescent_AttnBwdReferenceIdeal (hAttnBwdReferenceIdeal := hAttnBwdReferenceIdeal)
    ∧ quiescent_AttnBwdReferenceIdeal_pre_attnbwd_finite (hAttnBwdReferenceIdeal := hAttnBwdReferenceIdeal) (hPre_attnbwd_finite := hPre_attnbwd_finite)
    ∧ quiescent_NormFwdKernel (hNormFwdKernel := hNormFwdKernel)
    ∧ quiescent_NormFwdKernelIdeal (hNormFwdKernelIdeal := hNormFwdKernelIdeal)
    ∧ quiescent_NormFwdReferenceIdeal (hNormFwdReferenceIdeal := hNormFwdReferenceIdeal)
    ∧ quiescent_SsdKernel (hSsdKernel := hSsdKernel)
    ∧ quiescent_SsdKernelIdeal (hSsdKernelIdeal := hSsdKernelIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ConvKernel_ConvKernelIdeal
    ∧ algebraic_ConvKernelIdeal_ConvReferenceIdeal (hConvKernelIdeal := hConvKernelIdeal) (hConvReferenceIdeal := hConvReferenceIdeal)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_AttnFwdKernel_AttnFwdKernelIdeal
    ∧ algebraic_AttnFwdKernelIdeal_AttnFwdReferenceIdeal_pre_attnfwd_finite (hAttnFwdKernelIdeal := hAttnFwdKernelIdeal) (hAttnFwdReferenceIdeal := hAttnFwdReferenceIdeal) (hPre_attnfwd_finite := hPre_attnfwd_finite)
    ∧ preserves_SguKernel_SguKernelIdeal
    ∧ algebraic_SguKernelIdeal_SguReferenceIdeal_pre_sgu_finite (hSguKernelIdeal := hSguKernelIdeal) (hSguReferenceIdeal := hSguReferenceIdeal) (hPre_sgu_finite := hPre_sgu_finite)
    ∧ preserves_AttnBwdKernel_AttnBwdKernelIdeal
    ∧ algebraic_AttnBwdKernelIdeal_AttnBwdReferenceIdeal_pre_attnbwd_finite (hAttnBwdKernelIdeal := hAttnBwdKernelIdeal) (hAttnBwdReferenceIdeal := hAttnBwdReferenceIdeal) (hPre_attnbwd_finite := hPre_attnbwd_finite)
    ∧ preserves_NormFwdKernel_NormFwdKernelIdeal
    ∧ algebraic_NormFwdKernelIdeal_NormFwdReferenceIdeal (hNormFwdKernelIdeal := hNormFwdKernelIdeal) (hNormFwdReferenceIdeal := hNormFwdReferenceIdeal)
    ∧ preserves_SsdKernel_SsdKernelIdeal
    ∧ preserves_ConvFwdKernel_ConvFwdKernelIdeal
    ∧ algebraic_ConvFwdKernelIdeal_ConvFwdReferenceIdeal (hConvFwdKernelIdeal := hConvFwdKernelIdeal) (hConvFwdReferenceIdeal := hConvFwdReferenceIdeal)
-- ==== Pre_attnbwd_finite.lean ====
abbrev S2x2048x2950 : Shape := ⟨3, ![2, 2048, 2950]⟩
abbrev S2x2048x1024 : Shape := ⟨3, ![2, 2048, 1024]⟩
abbrev S2x2048x1152 : Shape := ⟨3, ![2, 2048, 1152]⟩
abbrev S_ : Shape := ⟨0, ![]⟩
abbrev S2x2048x384 : Shape := ⟨3, ![2, 2048, 384]⟩

class Facts : Prop where
  slices_S2x2048x2950_S2x2048x1152_0_0_0 : S2x2048x2950.Slices ![0, 0, 0] S2x2048x1152
  bcast_S_S2x2048x1152 : S_.BroadcastsInDim S2x2048x1152 (![] : Fin 0 → Fin S2x2048x1152.rank)
  reducesTo_S2x2048x1152_S_d0_1_2 : S2x2048x1152.ReducesTo [0, 1, 2] S_
  h_S_ : 0 < S_.numel
  slices_S2x2048x1024_S2x2048x384_0_0_0 : S2x2048x1024.Slices ![0, 0, 0] S2x2048x384
  bcast_S_S2x2048x384 : S_.BroadcastsInDim S2x2048x384 (![] : Fin 0 → Fin S2x2048x384.rank)
  reducesTo_S2x2048x384_S_d0_1_2 : S2x2048x384.ReducesTo [0, 1, 2] S_

variable [Facts]

def fn {F : FTy → Type} [FloatOps F] (main_arg0 : FVec F S2x2048x2950 .f32) (main_arg1 : FVec F S2x2048x1024 .f32) : IVec S_ 1 :=
  let main_v0 : FVec F S2x2048x1152 .f32 := (extractStridedSlice S2x2048x1152 ![0, 0, 0] · slices_S2x2048x2950_S2x2048x1152_0_0_0) main_arg0
  let main_v1 : FVec F S2x2048x1152 .f32 := Host.absf main_v0
  let main_cst : FVec F S_ .f32 := constant S_ .f32 0x7F800000#32
  let main_v2 : FVec F S2x2048x1152 .f32 := broadcastInDim S2x2048x1152 ![] bcast_S_S2x2048x1152 main_cst
  let main_v3 : IVec S2x2048x1152 1 := cmpf .olt main_v1 main_v2
  let main_c : IVec S_ 1 := constantI S_ 1 1#1
  let main_v4 : IVec S_ 1 := (fun x v => Host.reduce IntOp.andi x v reducesTo_S2x2048x1152_S_d0_1_2 h_S_) main_v3 main_c
  let main_v5 : FVec F S2x2048x384 .f32 := (extractStridedSlice S2x2048x384 ![0, 0, 0] · slices_S2x2048x1024_S2x2048x384_0_0_0) main_arg1
  let main_v6 : FVec F S2x2048x384 .f32 := Host.absf main_v5
  let main_cst_0 : FVec F S_ .f32 := constant S_ .f32 0x7F800000#32
  let main_v7 : FVec F S2x2048x384 .f32 := broadcastInDim S2x2048x384 ![] bcast_S_S2x2048x384 main_cst_0
  let main_v8 : IVec S2x2048x384 1 := cmpf .olt main_v6 main_v7
  let main_c_1 : IVec S_ 1 := constantI S_ 1 1#1
  let main_v9 : IVec S_ 1 := (fun x v => Host.reduce IntOp.andi x v reducesTo_S2x2048x384_S_d0_1_2 h_S_) main_v8 main_c_1
  let main_v10 : IVec S_ 1 := andi main_v4 main_v9
  main_v10
-- ==== Pre_attnfwd_finite.lean ====
abbrev S2x2048x2950 : Shape := ⟨3, ![2, 2048, 2950]⟩
abbrev S2x2048x1152 : Shape := ⟨3, ![2, 2048, 1152]⟩
abbrev S_ : Shape := ⟨0, ![]⟩

class Facts : Prop where
  slices_S2x2048x2950_S2x2048x1152_0_0_0 : S2x2048x2950.Slices ![0, 0, 0] S2x2048x1152
  bcast_S_S2x2048x1152 : S_.BroadcastsInDim S2x2048x1152 (![] : Fin 0 → Fin S2x2048x1152.rank)
  reducesTo_S2x2048x1152_S_d0_1_2 : S2x2048x1152.ReducesTo [0, 1, 2] S_
  h_S_ : 0 < S_.numel

variable [Facts]

def fn {F : FTy → Type} [FloatOps F] (main_arg0 : FVec F S2x2048x2950 .f32) : IVec S_ 1 :=
  let main_v0 : FVec F S2x2048x1152 .f32 := (extractStridedSlice S2x2048x1152 ![0, 0, 0] · slices_S2x2048x2950_S2x2048x1152_0_0_0) main_arg0
  let main_v1 : FVec F S2x2048x1152 .f32 := Host.absf main_v0
  let main_cst : FVec F S_ .f32 := constant S_ .f32 0x7F800000#32
  let main_v2 : FVec F S2x2048x1152 .f32 := broadcastInDim S2x2048x1152 ![] bcast_S_S2x2048x1152 main_cst
  let main_v3 : IVec S2x2048x1152 1 := cmpf .olt main_v1 main_v2
  let main_c : IVec S_ 1 := constantI S_ 1 1#1
  let main_v4 : IVec S_ 1 := (fun x v => Host.reduce IntOp.andi x v reducesTo_S2x2048x1152_S_d0_1_2 h_S_) main_v3 main_c
  main_v4
-- ==== Pre_ffn_finite.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2x2048x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  main_v28

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite.lean ====
abbrev S2x2048x1024 : Shape := ⟨3, ![2, 2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Pre_norm_finite.lean ====
abbrev S2x2048x1024 : Shape := ⟨3, ![2, 2048, 1024]⟩
abbrev S1024 : Shape := ⟨1, ![1024]⟩
abbrev S1024x2950 : Shape := ⟨2, ![1024, 2950]⟩
abbrev S2x2048x2950 : Shape := ⟨3, ![2, 2048, 2950]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2950 : S_.BroadcastsInDim S1024x2950 (![] : Fin 0 → Fin S1024x2950.rank)
  reducesTo_S1024x2950_S_d0_1 : S1024x2950.ReducesTo [0, 1] S_
  bcast_S_S2x2048x2950 : S_.BroadcastsInDim S2x2048x2950 (![] : Fin 0 → Fin S2x2048x2950.rank)
  reducesTo_S2x2048x2950_S_d0_1_2 : S2x2048x2950.ReducesTo [0, 1, 2] S_

variable [Facts]

def fn_part1 {F : FTy → Type} [FloatOps F] (main_v13 : IVec S_ 1) (main_v16 : IVec S2x2048x2950 1) : IVec S_ 1 :=
  let main_c_5 : IVec S_ 1 := constantI S_ 1 1#1
  let main_v17 : IVec S_ 1 := (fun x v => Host.reduce IntOp.andi x v reducesTo_S2x2048x2950_S_d0_1_2 h_S_) main_v16 main_c_5
  let main_v18 : IVec S_ 1 := andi main_v13 main_v17
  main_v18

def fn {F : FTy → Type} [FloatOps F] (main_arg0 : FVec F S2x2048x1024 .f32) (main_arg1 : FVec F S1024 .f32) (main_arg2 : FVec F S1024x2950 .f32) (main_arg3 : FVec F S2x2048x2950 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2950 .f32 := Host.absf main_arg2
  let main_cst_2 : FVec F S_ .f32 := constant S_ .f32 0x7F800000#32
  let main_v10 : FVec F S1024x2950 .f32 := broadcastInDim S1024x2950 ![] bcast_S_S1024x2950 main_cst_2
  let main_v11 : IVec S1024x2950 1 := cmpf .olt main_v9 main_v10
  let main_c_3 : IVec S_ 1 := constantI S_ 1 1#1
  let main_v12 : IVec S_ 1 := (fun x v => Host.reduce IntOp.andi x v reducesTo_S1024x2950_S_d0_1 h_S_) main_v11 main_c_3
  let main_v13 : IVec S_ 1 := andi main_v8 main_v12
  let main_v14 : FVec F S2x2048x2950 .f32 := Host.absf main_arg3
  let main_cst_4 : FVec F S_ .f32 := constant S_ .f32 0x7F800000#32
  let main_v15 : FVec F S2x2048x2950 .f32 := broadcastInDim S2x2048x2950 ![] bcast_S_S2x2048x2950 main_cst_4
  let main_v16 : IVec S2x2048x2950 1 := cmpf .olt main_v14 main_v15
  fn_part1 (F := F) main_v13 main_v16
-- ==== Pre_sgu_finite.lean ====
abbrev S2x2048x2950 : Shape := ⟨3, ![2, 2048, 2950]⟩
abbrev S256 : Shape := ⟨1, ![256]⟩
abbrev S4x128x128 : Shape := ⟨3, ![4, 128, 128]⟩
abbrev S4x128 : Shape := ⟨2, ![4, 128]⟩
abbrev S2x2048x1024 : Shape := ⟨3, ![2, 2048, 1024]⟩
abbrev S2x2048x512 : Shape := ⟨3, ![2, 2048, 512]⟩
abbrev S_ : Shape := ⟨0, ![]⟩
abbrev S2x2048x256 : Shape := ⟨3, ![2, 2048, 256]⟩

class Facts : Prop where
  slices_S2x2048x2950_S2x2048x512_0_0_2438 : S2x2048x2950.Slices ![0, 0, 2438] S2x2048x512
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S256 : S_.BroadcastsInDim S256 (![] : Fin 0 → Fin S256.rank)
  reducesTo_S256_S_d0 : S256.ReducesTo [0] S_
  bcast_S_S4x128x128 : S_.BroadcastsInDim S4x128x128 (![] : Fin 0 → Fin S4x128x128.rank)
  reducesTo_S4x128x128_S_d0_1_2 : S4x128x128.ReducesTo [0, 1, 2] S_
  slices_S2x2048x1024_S2x2048x256_0_0_768 : S2x2048x1024.Slices ![0, 0, 768] S2x2048x256
  bcast_S_S2x2048x256 : S_.BroadcastsInDim S2x2048x256 (![] : Fin 0 → Fin S2x2048x256.rank)
  reducesTo_S2x2048x256_S_d0_1_2 : S2x2048x256.ReducesTo [0, 1, 2] S_

variable [Facts]

def fn_part1 {F : FTy → Type} [FloatOps F] (main_v14 : IVec S_ 1) (main_v16 : FVec F S2x2048x256 .f32) (main_cst_4 : FVec F S_ .f32) : IVec S_ 1 :=
  let main_v17 : FVec F S2x2048x256 .f32 := broadcastInDim S2x2048x256 ![] bcast_S_S2x2048x256 main_cst_4
  let main_v18 : IVec S2x2048x256 1 := cmpf .olt main_v16 main_v17
  let main_c_5 : IVec S_ 1 := constantI S_ 1 1#1
  let main_v19 : IVec S_ 1 := (fun x v => Host.reduce IntOp.andi x v reducesTo_S2x2048x256_S_d0_1_2 h_S_) main_v18 main_c_5
  let main_v20 : IVec S_ 1 := andi main_v14 main_v19
  main_v20

def fn {F : FTy → Type} [FloatOps F] (main_arg0 : FVec F S2x2048x2950 .f32) (main_arg1 : FVec F S256 .f32) (main_arg2 : FVec F S256 .f32) (main_arg3 : FVec F S4x128x128 .f32) (main_arg4 : FVec F S4x128 .f32) (main_arg5 : FVec F S2x2048x1024 .f32) : IVec S_ 1 :=
  let main_v0 : FVec F S2x2048x512 .f32 := (extractStridedSlice S2x2048x512 ![0, 0, 2438] · slices_S2x2048x2950_S2x2048x512_0_0_2438) main_arg0
  let main_v1 : FVec F S2x2048x512 .f32 := Host.absf main_v0
  let main_cst : FVec F S_ .f32 := constant S_ .f32 0x7F800000#32
  let main_v2 : FVec F S2x2048x512 .f32 := broadcastInDim S2x2048x512 ![] bcast_S_S2x2048x512 main_cst
  let main_v3 : IVec S2x2048x512 1 := cmpf .olt main_v1 main_v2
  let main_c : IVec S_ 1 := constantI S_ 1 1#1
  let main_v4 : IVec S_ 1 := (fun x v => Host.reduce IntOp.andi x v reducesTo_S2x2048x512_S_d0_1_2 h_S_) main_v3 main_c
  let main_v5 : FVec F S256 .f32 := Host.absf main_arg1
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  let main_c_1 : IVec S_ 1 := constantI S_ 1 1#1
  let main_v8 : IVec S_ 1 := (fun x v => Host.reduce IntOp.andi x v reducesTo_S256_S_d0 h_S_) main_v7 main_c_1
  let main_v9 : IVec S_ 1 := andi main_v4 main_v8
  let main_v10 : FVec F S4x128x128 .f32 := Host.absf main_arg3
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_c_3 : IVec S_ 1 := constantI S_ 1 1#1
  let main_v13 : IVec S_ 1 := (fun x v => Host.reduce IntOp.andi x v reducesTo_S4x128x128_S_d0_1_2 h_S_) main_v12 main_c_3
  let main_v14 : IVec S_ 1 := andi main_v9 main_v13
  let main_v15 : FVec F S2x2048x256 .f32 := (extractStridedSlice S2x2048x256 ![0, 0, 768] · slices_S2x2048x1024_S2x2048x256_0_0_768) main_arg5
  let main_v16 : FVec F S2x2048x256 .f32 := Host.absf main_v15
  let main_cst_4 : FVec F S_ .f32 := constant S_ .f32 0x7F800000#32
  fn_part1 (F := F) main_v14 main_v16 main_cst_4
-- ==== Kernel.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x128, .f32⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x128 : Shape := ⟨2, ![1, 128]⟩
abbrev S4096x1024 : Shape := ⟨2, ![4096, 1024]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S1x128, .f32⟩
  | .hbm, ⟨72, _⟩ => ⟨S4096x1024, .f32⟩
  | .hbm, ⟨73, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== ConvKernel.lean ====
abbrev S2x2048x2950 : Shape := ⟨3, ![2, 2048, 2950]⟩
abbrev S4x896 : Shape := ⟨2, ![4, 896]⟩
abbrev S2x2048x896 : Shape := ⟨3, ![2, 2048, 896]⟩
abbrev S_ : Shape := ⟨0, ![]⟩
abbrev S8x896 : Shape := ⟨2, ![8, 896]⟩
abbrev S4096x896 : Shape := ⟨2, ![4096, 896]⟩
abbrev S2x2048x122 : Shape := ⟨3, ![2, 2048, 122]⟩
abbrev S2x2048x1536 : Shape := ⟨3, ![2, 2048, 1536]⟩
abbrev S2x2048x256 : Shape := ⟨3, ![2, 2048, 256]⟩
abbrev S2x2048x6 : Shape := ⟨3, ![2, 2048, 6]⟩
abbrev S2x2048x3072 : Shape := ⟨3, ![2, 2048, 3072]⟩
abbrev S4096x3072 : Shape := ⟨2, ![4096, 3072]⟩
abbrev S2048x128 : Shape := ⟨2, ![2048, 128]⟩
abbrev S8x128 : Shape := ⟨2, ![8, 128]⟩
abbrev S2048x1 : Shape := ⟨2, ![2048, 1]⟩
abbrev S1x128 : Shape := ⟨2, ![1, 128]⟩
abbrev S128 : Shape := ⟨1, ![128]⟩

abbrev nBuf : Space → Nat
  | .hbm => 18
  | .vmem => 10
  | .smem => 0
  | _ => 0

abbrev bufTy : (tb : Table) → Fin (tcTables nBuf tb) → BufTy
  | .hbm, ⟨0, _⟩ => ⟨S2x2048x2950, .f32⟩
  | .hbm, ⟨1, _⟩ => ⟨S4x896, .f32⟩
  | .hbm, ⟨2, _⟩ => ⟨S2x2048x896, .f32⟩
  | .hbm, ⟨3, _⟩ => ⟨S_, .i32⟩
  | .hbm, ⟨4, _⟩ => ⟨S_, .f32⟩
  | .hbm, ⟨5, _⟩ => ⟨S8x896, .f32⟩
  | .hbm, ⟨6, _⟩ => ⟨S4096x896, .f32⟩
  | .hbm, ⟨7, _⟩ => ⟨S_, .f32⟩
  | .hbm, ⟨8, _⟩ => ⟨S2x2048x122, .f32⟩
  | .hbm, ⟨9, _⟩ => ⟨S2x2048x1536, .f32⟩
  | .hbm, ⟨10, _⟩ => ⟨S2x2048x256, .f32⟩
  | .hbm, ⟨11, _⟩ => ⟨S2x2048x896, .f32⟩
  | .hbm, ⟨12, _⟩ => ⟨S2x2048x6, .f32⟩
  | .hbm, ⟨13, _⟩ => ⟨S2x2048x256, .f32⟩
  | .hbm, ⟨14, _⟩ => ⟨S2x2048x3072, .f32⟩
  | .hbm, ⟨15, _⟩ => ⟨S4096x3072, .f32⟩
  | .hbm, ⟨16, _⟩ => ⟨S4096x896, .bf16⟩
  | .hbm, ⟨17, _⟩ => ⟨S8x896, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S8x128, .f32⟩
  | .local _ .vmem, ⟨6, _⟩ => ⟨S2048x128, .bf16⟩
  | .local _ .vmem, ⟨7, _⟩ => ⟨S2048x128, .bf16⟩
  | .local _ .vmem, ⟨8, _⟩ => ⟨S8x128, .f32⟩
  | .local _ .vmem, ⟨9, _⟩ => ⟨S8x128, .f32⟩
  | _, _ => ⟨S2x2048x2950, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvReferenceIdeal.lean ====
abbrev S2x2048x2950 : Shape := ⟨3, ![2, 2048, 2950]⟩
abbrev S4x896 : Shape := ⟨2, ![4, 896]⟩
abbrev S2x2048x896 : Shape := ⟨3, ![2, 2048, 896]⟩
abbrev S2x2048x384 : Shape := ⟨3, ![2, 2048, 384]⟩
abbrev S2x2048x6 : Shape := ⟨3, ![2, 2048, 6]⟩
abbrev S2x2048x512 : Shape := ⟨3, ![2, 2048, 512]⟩
abbrev S_ : Shape := ⟨0, ![]⟩
abbrev S896 : Shape := ⟨1, ![896]⟩
abbrev S2x3x896 : Shape := ⟨3, ![2, 3, 896]⟩
abbrev S2x2051x896 : Shape := ⟨3, ![2, 2051, 896]⟩
abbrev S1x896 : Shape := ⟨2, ![1, 896]⟩
abbrev S1x1x896 : Shape := ⟨3, ![1, 1, 896]⟩
abbrev S3x896 : Shape := ⟨2, ![3, 896]⟩
abbrev S8x896 : Shape := ⟨2, ![8, 896]⟩
abbrev S4096x896 : Shape := ⟨2, ![4096, 896]⟩

abbrev nBuf : Space → Nat
  | .hbm => 122
  | .vmem => 0
  | .smem => 0
  | _ => 0

abbrev bufTy : (tb : Table) → Fin (tcTables nBuf tb) → BufTy
  | .hbm, ⟨0, _⟩ => ⟨S2x2048x2950, .f32⟩
  | .hbm, ⟨1, _⟩ => ⟨S4x896, .f32⟩
  | .hbm, ⟨2, _⟩ => ⟨S2x2048x896, .f32⟩
  | .hbm, ⟨3, _⟩ => ⟨S2x2048x384, .f32⟩
  | .hbm, ⟨4, _⟩ => ⟨S2x2048x384, .f32⟩
  | .hbm, ⟨5, _⟩ => ⟨S2x2048x384, .f32⟩
  | .hbm, ⟨6, _⟩ => ⟨S2x2048x384, .f32⟩
  | .hbm, ⟨7, _⟩ => ⟨S2x2048x896, .f32⟩
  | .hbm, ⟨8, _⟩ => ⟨S2x2048x6, .f32⟩
  | .hbm, ⟨9, _⟩ => ⟨S2x2048x512, .f32⟩
  | .hbm, ⟨10, _⟩ => ⟨S_, .f32⟩
  | .hbm, ⟨11, _⟩ => ⟨S896, .f32⟩
  | .hbm, ⟨12, _⟩ => ⟨S_, .f32⟩
  | .hbm, ⟨13, _⟩ => ⟨S2x3x896, .f32⟩
  | .hbm, ⟨14, _⟩ => ⟨S2x2051x896, .f32⟩
  | .hbm, ⟨15, _⟩ => ⟨S_, .f32⟩
  | .hbm, ⟨16, _⟩ => ⟨S2x3x896, .f32⟩
  | .hbm, ⟨17, _⟩ => ⟨S2x2048x896, .f32⟩
  | .hbm, ⟨18, _⟩ => ⟨S1x896, .f32⟩
  | .hbm, ⟨19, _⟩ => ⟨S896, .f32⟩
  | .hbm, ⟨20, _⟩ => ⟨S1x1x896, .f32⟩
  | .hbm, ⟨21, _⟩ => ⟨S2x2048x896, .f32⟩
  | .hbm, ⟨22, _⟩ => ⟨S2x2048x896, .f32⟩
  | .hbm, ⟨23, _⟩ => ⟨S_, .f32⟩
  | .hbm, ⟨24, _⟩ => ⟨S2x2048x896, .f32⟩
  | .hbm, ⟨25, _⟩ => ⟨S2x2048x896, .f32⟩
  | .hbm, ⟨26, _⟩ => ⟨S2x2048x896, .f32⟩
  | .hbm, ⟨27, _⟩ => ⟨S1x896, .f32⟩
  | .hbm, ⟨28, _⟩ => ⟨S896, .f32⟩
  | .hbm, ⟨29, _⟩ => ⟨S1x1x896, .f32⟩
  | .hbm, ⟨30, _⟩ => ⟨S2x2048x896, .f32⟩
  | .hbm, ⟨31, _⟩ => ⟨S2x2048x896, .f32⟩
  | .hbm, ⟨32, _⟩ => ⟨S2x2048x896, .f32⟩
  | .hbm, ⟨33, _⟩ => ⟨S2x2048x896, .f32⟩
  | .hbm, ⟨34, _⟩ => ⟨S1x896, .f32⟩
  | .hbm, ⟨35, _⟩ => ⟨S896, .f32⟩
  | .hbm, ⟨36, _⟩ => ⟨S1x1x896, .f32⟩
  | .hbm, ⟨37, _⟩ => ⟨S2x2048x896, .f32⟩
  | .hbm, ⟨38, _⟩ => ⟨S2x2048x896, .f32⟩
  | .hbm, ⟨39, _⟩ => ⟨S2x2048x896, .f32⟩
  | .hbm, ⟨40, _⟩ => ⟨S2x2048x896, .f32⟩
  | .hbm, ⟨41, _⟩ => ⟨S1x896, .f32⟩
  | .hbm, ⟨42, _⟩ => ⟨S896, .f32⟩
  | .hbm, ⟨43, _⟩ => ⟨S1x1x896, .f32⟩
  | .hbm, ⟨44, _⟩ => ⟨S2x2048x896, .f32⟩
  | .hbm, ⟨45, _⟩ => ⟨S2x2048x896, .f32⟩
  | .hbm, ⟨46, _⟩ => ⟨S2x2048x896, .f32⟩
  | .hbm, ⟨47, _⟩ => ⟨S1x1x896, .f32⟩
  | .hbm, ⟨48, _⟩ => ⟨S2x2048x896, .f32⟩
  | .hbm, ⟨49, _⟩ => ⟨S2x2048x896, .f32⟩
  | .hbm, ⟨50, _⟩ => ⟨S2x2048x896, .f32⟩
  | .hbm, ⟨51, _⟩ => ⟨S_, .f32⟩
  | .hbm, ⟨52, _⟩ => ⟨S896, .f32⟩
  | .hbm, ⟨53, _⟩ => ⟨S1x1x896, .f32⟩
  | .hbm, ⟨54, _⟩ => ⟨S_, .f32⟩
  | .hbm, ⟨55, _⟩ => ⟨S896, .f32⟩
  | .hbm, ⟨56, _⟩ => ⟨S2x2048x896, .f32⟩
  | .hbm, ⟨57, _⟩ => ⟨S_, .f32⟩
  | .hbm, ⟨58, _⟩ => ⟨S896, .f32⟩
  | .hbm, ⟨59, _⟩ => ⟨S1x1x896, .f32⟩
  | .hbm, ⟨60, _⟩ => ⟨S2x2048x896, .f32⟩
  | .hbm, ⟨61, _⟩ => ⟨S2x2048x896, .f32⟩
  | .hbm, ⟨62, _⟩ => ⟨S_, .f32⟩
  | .hbm, ⟨63, _⟩ => ⟨S896, .f32⟩
  | .hbm, ⟨64, _⟩ => ⟨S1x896, .f32⟩
  | .hbm, ⟨65, _⟩ => ⟨S_, .f32⟩
  | .hbm, ⟨66, _⟩ => ⟨S4x896, .f32⟩
  | .hbm, ⟨67, _⟩ => ⟨S_, .f32⟩
  | .hbm, ⟨68, _⟩ => ⟨S2x2051x896, .f32⟩
  | .hbm, ⟨69, _⟩ => ⟨S2x2048x896, .f32⟩
  | .hbm, ⟨70, _⟩ => ⟨S_, .f32⟩
  | .hbm, ⟨71, _⟩ => ⟨S896, .f32⟩
  | .hbm, ⟨72, _⟩ => ⟨S1x1x896, .f32⟩
  | .hbm, ⟨73, _⟩ => ⟨S2x2048x896, .f32⟩
  | .hbm, ⟨74, _⟩ => ⟨S2x2048x896, .f32⟩
  | .hbm, ⟨75, _⟩ => ⟨S_, .f32⟩
  | .hbm, ⟨76, _⟩ => ⟨S896, .f32⟩
  | .hbm, ⟨77, _⟩ => ⟨S1x896, .f32⟩
  | .hbm, ⟨78, _⟩ => ⟨S_, .f32⟩
  | .hbm, ⟨79, _⟩ => ⟨S4x896, .f32⟩
  | .hbm, ⟨80, _⟩ => ⟨S4x896, .f32⟩
  | .hbm, ⟨81, _⟩ => ⟨S_, .f32⟩
  | .hbm, ⟨82, _⟩ => ⟨S2x2051x896, .f32⟩
  | .hbm, ⟨83, _⟩ => ⟨S2x2051x896, .f32⟩
  | .hbm, ⟨84, _⟩ => ⟨S2x2048x896, .f32⟩
  | .hbm, ⟨85, _⟩ => ⟨S_, .f32⟩
  | .hbm, ⟨86, _⟩ => ⟨S896, .f32⟩
  | .hbm, ⟨87, _⟩ => ⟨S1x1x896, .f32⟩
  | .hbm, ⟨88, _⟩ => ⟨S2x2048x896, .f32⟩
  | .hbm, ⟨89, _⟩ => ⟨S2x2048x896, .f32⟩
  | .hbm, ⟨90, _⟩ => ⟨S_, .f32⟩
  | .hbm, ⟨91, _⟩ => ⟨S896, .f32⟩
  | .hbm, ⟨92, _⟩ => ⟨S1x896, .f32⟩
  | .hbm, ⟨93, _⟩ => ⟨S_, .f32⟩
  | .hbm, ⟨94, _⟩ => ⟨S4x896, .f32⟩
  | .hbm, ⟨95, _⟩ => ⟨S4x896, .f32⟩
  | .hbm, ⟨96, _⟩ => ⟨S_, .f32⟩
  | .hbm, ⟨97, _⟩ => ⟨S2x2051x896, .f32⟩
  | .hbm, ⟨98, _⟩ => ⟨S2x2051x896, .f32⟩
  | .hbm, ⟨99, _⟩ => ⟨S2x2048x896, .f32⟩
  | .hbm, ⟨100, _⟩ => ⟨S_, .f32⟩
  | .hbm, ⟨101, _⟩ => ⟨S896, .f32⟩
  | .hbm, ⟨102, _⟩ => ⟨S1x1x896, .f32⟩
  | .hbm, ⟨103, _⟩ => ⟨S2x2048x896, .f32⟩
  | .hbm, ⟨104, _⟩ => ⟨S2x2048x896, .f32⟩
  | .hbm, ⟨105, _⟩ => ⟨S_, .f32⟩
  | .hbm, ⟨106, _⟩ => ⟨S896, .f32⟩
  | .hbm, ⟨107, _⟩ => ⟨S1x896, .f32⟩
  | .hbm, ⟨108, _⟩ => ⟨S_, .f32⟩
  | .hbm, ⟨109, _⟩ => ⟨S4x896, .f32⟩
  | .hbm, ⟨110, _⟩ => ⟨S4x896, .f32⟩
  | .hbm, ⟨111, _⟩ => ⟨S_, .f32⟩
  | .hbm, ⟨112, _⟩ => ⟨S2x2051x896, .f32⟩
  | .hbm, ⟨113, _⟩ => ⟨S2x2051x896, .f32⟩
  | .hbm, ⟨114, _⟩ => ⟨S2x3x896, .f32⟩
  | .hbm, ⟨115, _⟩ => ⟨S2x2048x896, .f32⟩
  | .hbm, ⟨116, _⟩ => ⟨S1x896, .f32⟩
  | .hbm, ⟨117, _⟩ => ⟨S_, .f32⟩
  | .hbm, ⟨118, _⟩ => ⟨S3x896, .f32⟩
  | .hbm, ⟨119, _⟩ => ⟨S8x896, .f32⟩
  | .hbm, ⟨120, _⟩ => ⟨S2x2048x896, .bf16⟩
  | .hbm, ⟨121, _⟩ => ⟨S4096x896, .bf16⟩
  | _, _ => ⟨S2x2048x2950, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩
abbrev main_cst_15 : Ref sig .tc := ⟨.hbm, 93, rfl⟩
abbrev main_v74 : Ref sig .tc := ⟨.hbm, 94, rfl⟩
abbrev main_v75 : Ref sig .tc := ⟨.hbm, 95, rfl⟩
abbrev main_cst_16 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_17 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_18 : Ref sig .tc := ⟨.hbm, 105, rfl⟩
abbrev main_v83 : Ref sig .tc := ⟨.hbm, 106, rfl⟩
abbrev main_v84 : Ref sig .tc := ⟨.hbm, 107, rfl⟩
abbrev main_cst_19 : Ref sig .tc := ⟨.hbm, 108, rfl⟩
abbrev main_v85 : Ref sig .tc := ⟨.hbm, 109, rfl⟩
abbrev main_v86 : Ref sig .tc := ⟨.hbm, 110, rfl⟩
abbrev main_cst_20 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_21 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== NormKernel.lean ====
abbrev S2x2048x1024 : Shape := ⟨3, ![2, 2048, 1024]⟩
abbrev S1024 : Shape := ⟨1, ![1024]⟩
abbrev S1024x2950 : Shape := ⟨2, ![1024, 2950]⟩
abbrev S2x2048x2950 : Shape := ⟨3, ![2, 2048, 2950]⟩
abbrev S_ : Shape := ⟨0, ![]⟩
abbrev S2x2048x122 : Shape := ⟨3, ![2, 2048, 122]⟩
abbrev S2x2048x1536 : Shape := ⟨3, ![2, 2048, 1536]⟩
abbrev S2x2048x256 : Shape := ⟨3, ![2, 2048, 256]⟩
abbrev S2x2048x896 : Shape := ⟨3, ![2, 2048, 896]⟩
abbrev S2x2048x6 : Shape := ⟨3, ![2, 2048, 6]⟩
abbrev S2x2048x3072 : Shape := ⟨3, ![2, 2048, 3072]⟩
abbrev S4096x3072 : Shape := ⟨2, ![4096, 3072]⟩
abbrev S4096x1024 : Shape := ⟨2, ![4096, 1024]⟩
abbrev S1x1024 : Shape := ⟨2, ![1, 1024]⟩
abbrev S1024x122 : Shape := ⟨2, ![1024, 122]⟩
abbrev S1024x1536 : Shape := ⟨2, ![1024, 1536]⟩
abbrev S1024x256 : Shape := ⟨2, ![1024, 256]⟩
abbrev S1024x896 : Shape := ⟨2, ![1024, 896]⟩
abbrev S1024x6 : Shape := ⟨2, ![1024, 6]⟩
abbrev S1024x3072 : Shape := ⟨2, ![1024, 3072]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2950, .f32⟩
  | .hbm, ⟨3, _⟩ => ⟨S2x2048x2950, .f32⟩
  | .hbm, ⟨4, _⟩ => ⟨S2x2048x1024, .f32⟩
  | .hbm, ⟨5, _⟩ => ⟨S_, .f32⟩
  | .hbm, ⟨6, _⟩ => ⟨S2x2048x122, .f32⟩
  | .hbm, ⟨7, _⟩ => ⟨S2x2048x1536, .f32⟩
  | .hbm, ⟨8, _⟩ => ⟨S2x2048x256, .f32⟩
  | .hbm, ⟨9, _⟩ => ⟨S2x2048x896, .f32⟩
  | .hbm, ⟨10, _⟩ => ⟨S2x2048x6, .f32⟩
  | .hbm, ⟨11, _⟩ => ⟨S2x2048x256, .f32⟩
  | .hbm, ⟨12, _⟩ => ⟨S2x2048x3072, .f32⟩
  | .hbm, ⟨13, _⟩ => ⟨S4096x3072, .f32⟩
  | .hbm, ⟨14, _⟩ => ⟨S4096x3072, .bf16⟩
  | .hbm, ⟨15, _⟩ => ⟨S4096x1024, .f32⟩
  | .hbm, ⟨16, _⟩ => ⟨S1x1024, .f32⟩
  | .hbm, ⟨17, _⟩ => ⟨S_, .f32⟩
  | .hbm, ⟨18, _⟩ => ⟨S1024x122, .f32⟩
  | .hbm, ⟨19, _⟩ => ⟨S1024x1536, .f32⟩
  | .hbm, ⟨20, _⟩ => ⟨S1024x256, .f32⟩
  | .hbm, ⟨21, _⟩ => ⟨S1024x896, .f32⟩
  | .hbm, ⟨22, _⟩ => ⟨S1024x6, .f32⟩
  | .hbm, ⟨23, _⟩ => ⟨S1024x256, .f32⟩
  | .hbm, ⟨24, _⟩ => ⟨S1024x3072, .f32⟩
  | .hbm, ⟨25, _⟩ => ⟨S1024x3072, .bf16⟩
  | .hbm, ⟨26, _⟩ => ⟨S4096x1024, .f32⟩
  | .hbm, ⟨27, _⟩ => ⟨S4096x1024, .f32⟩
  | .hbm, ⟨28, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3072, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S2x2048x1024 : Shape := ⟨3, ![2, 2048, 1024]⟩
abbrev S1024 : Shape := ⟨1, ![1024]⟩
abbrev S1024x2950 : Shape := ⟨2, ![1024, 2950]⟩
abbrev S2x2048x2950 : Shape := ⟨3, ![2, 2048, 2950]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2950, .f32⟩
  | .hbm, ⟨3, _⟩ => ⟨S2x2048x2950, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x2950, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S4096x1024, .f32⟩
  | .hbm, ⟨54, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnKernel.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4096x1024 : Shape := ⟨2, ![4096, 1024]⟩
abbrev S4096x2816 : Shape := ⟨2, ![4096, 2816]⟩
abbrev S2816x4096 : Shape := ⟨2, ![2816, 4096]⟩
abbrev S256x1024 : Shape := ⟨2, ![256, 1024]⟩
abbrev S256x2816 : Shape := ⟨2, ![256, 2816]⟩
abbrev S2816x256 : Shape := ⟨2, ![2816, 256]⟩
abbrev S256 : Shape := ⟨1, ![256]⟩
abbrev S256x1 : Shape := ⟨2, ![256, 1]⟩

abbrev nBuf : Space → Nat
  | .hbm => 24
  | .vmem => 37
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x1024, .f32⟩
  | .hbm, ⟨14, _⟩ => ⟨S4096x2816, .bf16⟩
  | .hbm, ⟨15, _⟩ => ⟨S4096x2816, .bf16⟩
  | .hbm, ⟨16, _⟩ => ⟨S2816x4096, .bf16⟩
  | .hbm, ⟨17, _⟩ => ⟨S4096x1024, .f32⟩
  | .hbm, ⟨18, _⟩ => ⟨S4096x1024, .f32⟩
  | .hbm, ⟨19, _⟩ => ⟨S2816x4096, .bf16⟩
  | .hbm, ⟨20, _⟩ => ⟨S2816x4096, .bf16⟩
  | .hbm, ⟨21, _⟩ => ⟨S4096x1024, .bf16⟩
  | .hbm, ⟨22, _⟩ => ⟨S4096x1024, .bf16⟩
  | .hbm, ⟨23, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S2816x256, .bf16⟩
  | .local _ .vmem, ⟨13, _⟩ => ⟨S2816x256, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | .local _ .vmem, ⟨26, _⟩ => ⟨S256x1024, .f32⟩
  | .local _ .vmem, ⟨27, _⟩ => ⟨S256x1024, .f32⟩
  | .local _ .vmem, ⟨28, _⟩ => ⟨S2816x256, .bf16⟩
  | .local _ .vmem, ⟨29, _⟩ => ⟨S2816x256, .bf16⟩
  | .local _ .vmem, ⟨30, _⟩ => ⟨S2816x256, .bf16⟩
  | .local _ .vmem, ⟨31, _⟩ => ⟨S2816x256, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2816x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2816x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2816x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== FfnReferenceIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048x2816 : Shape := ⟨3, ![2, 2048, 2816]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S4096x2816 : Shape := ⟨2, ![4096, 2816]⟩
abbrev S2816x4096 : Shape := ⟨2, ![2816, 4096]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S_, .f32⟩
  | .hbm, ⟨7, _⟩ => ⟨S2x2048x2816, .f32⟩
  | .hbm, ⟨8, _⟩ => ⟨S_, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S2x2048x1024, .f32⟩
  | .hbm, ⟨57, _⟩ => ⟨S2x2048x1024, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x1024, .f32⟩
  | .hbm, ⟨62, _⟩ => ⟨S2x2048x2816, .f32⟩
  | .hbm, ⟨63, _⟩ => ⟨S2x2048x2816, .f32⟩
  | .hbm, ⟨64, _⟩ => ⟨S2x2048x2816, .f32⟩
  | .hbm, ⟨65, _⟩ => ⟨S2x2048x2816, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S_, .f32⟩
  | .hbm, ⟨70, _⟩ => ⟨S1024, .f32⟩
  | .hbm, ⟨71, _⟩ => ⟨S1x1x1024, .f32⟩
  | .hbm, ⟨72, _⟩ => ⟨S2x2048x1024, .f32⟩
  | .hbm, ⟨73, _⟩ => ⟨S2x2048x1024, .f32⟩
  | .hbm, ⟨74, _⟩ => ⟨S_, .f32⟩
  | .hbm, ⟨75, _⟩ => ⟨S1024, .f32⟩
  | .hbm, ⟨76, _⟩ => ⟨S2x2048x1024, .f32⟩
  | .hbm, ⟨77, _⟩ => ⟨S_, .f32⟩
  | .hbm, ⟨78, _⟩ => ⟨S2x2048, .f32⟩
  | .hbm, ⟨79, _⟩ => ⟨S2x2048x1, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1, .f32⟩
  | .hbm, ⟨84, _⟩ => ⟨S_, .f32⟩
  | .hbm, ⟨85, _⟩ => ⟨S2x2048x1, .f32⟩
  | .hbm, ⟨86, _⟩ => ⟨S2x2048x1, .f32⟩
  | .hbm, ⟨87, _⟩ => ⟨S_, .f32⟩
  | .hbm, ⟨88, _⟩ => ⟨S2x2048, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S2x2048x1024, .f32⟩
  | .hbm, ⟨94, _⟩ => ⟨S4096x1024, .f32⟩
  | .hbm, ⟨95, _⟩ => ⟨S4096x2816, .f32⟩
  | .hbm, ⟨96, _⟩ => ⟨S2816x4096, .f32⟩
  | .hbm, ⟨97, _⟩ => ⟨S2816x4096, .bf16⟩
  | .hbm, ⟨98, _⟩ => ⟨S4096x1024, .f32⟩
  | .hbm, ⟨99, _⟩ => ⟨S4096x2816, .f32⟩
  | .hbm, ⟨100, _⟩ => ⟨S2816x4096, .f32⟩
  | .hbm, ⟨101, _⟩ => ⟨S2816x4096, .bf16⟩
  | .hbm, ⟨102, _⟩ => ⟨S4096x2816, .f32⟩
  | .hbm, ⟨103, _⟩ => ⟨S2816x4096, .f32⟩
  | .hbm, ⟨104, _⟩ => ⟨S2816x4096, .bf16⟩
  | .hbm, ⟨105, _⟩ => ⟨S4096x1024, .f32⟩
  | .hbm, ⟨106, _⟩ => ⟨S4096x1024, .bf16⟩
  | .hbm, ⟨107, _⟩ => ⟨S4096x1024, .f32⟩
  | .hbm, ⟨108, _⟩ => ⟨S4096x1024, .bf16⟩
  | .hbm, ⟨109, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v20_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v20_1 : Ref sig .tc := ⟨.hbm, 43, rfl⟩
abbrev main_v20_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== AttnFwdKernel.lean ====
abbrev S2x2048x2950 : Shape := ⟨3, ![2, 2048, 2950]⟩
abbrev S256x2048 : Shape := ⟨2, ![256, 2048]⟩
abbrev S_ : Shape := ⟨0, ![]⟩
abbrev S2x2048x122 : Shape := ⟨3, ![2, 2048, 122]⟩
abbrev S2x2048x1536 : Shape := ⟨3, ![2, 2048, 1536]⟩
abbrev S2x2048x256 : Shape := ⟨3, ![2, 2048, 256]⟩
abbrev S2x2048x896 : Shape := ⟨3, ![2, 2048, 896]⟩
abbrev S2x2048x6 : Shape := ⟨3, ![2, 2048, 6]⟩
abbrev S2x2048x3072 : Shape := ⟨3, ![2, 2048, 3072]⟩
abbrev S4096x3072 : Shape := ⟨2, ![4096, 3072]⟩
abbrev S4096x384 : Shape := ⟨2, ![4096, 384]⟩
abbrev S2x3x2048x2 : Shape := ⟨4, ![2, 3, 2048, 2]⟩
abbrev S2048x128 : Shape := ⟨2, ![2048, 128]⟩
abbrev S1x1x2048x2 : Shape := ⟨4, ![1, 1, 2048, 2]⟩
abbrev S2x2048x64 : Shape := ⟨3, ![2, 2048, 64]⟩
abbrev S2048x64 : Shape := ⟨2, ![2048, 64]⟩
abbrev S1x2048x64 : Shape := ⟨3, ![1, 2048, 64]⟩
abbrev S256x64 : Shape := ⟨2, ![256, 64]⟩
abbrev S1x256x64 : Shape := ⟨3, ![1, 256, 64]⟩
abbrev S256x256 : Shape := ⟨2, ![256, 256]⟩
abbrev S256 : Shape := ⟨1, ![256]⟩
abbrev S256x1 : Shape := ⟨2, ![256, 1]⟩
abbrev S1x1x256x1 : Shape := ⟨4, ![1, 1, 256, 1]⟩
abbrev S1x512x64 : Shape := ⟨3, ![1, 512, 64]⟩
abbrev S512x64 : Shape := ⟨2, ![512, 64]⟩
abbrev S256x512 : Shape := ⟨2, ![256, 512]⟩
abbrev S1x768x64 : Shape := ⟨3, ![1, 768, 64]⟩
abbrev S768x64 : Shape := ⟨2, ![768, 64]⟩
abbrev S256x768 : Shape := ⟨2, ![256, 768]⟩
abbrev S1x1024x64 : Shape := ⟨3, ![1, 1024, 64]⟩
abbrev S1024x64 : Shape := ⟨2, ![1024, 64]⟩
abbrev S256x1024 : Shape := ⟨2, ![256, 1024]⟩
abbrev S1x1280x64 : Shape := ⟨3, ![1, 1280, 64]⟩
abbrev S1280x64 : Shape := ⟨2, ![1280, 64]⟩
abbrev S256x1280 : Shape := ⟨2, ![256, 1280]⟩
abbrev S1x1536x64 : Shape := ⟨3, ![1, 1536, 64]⟩
abbrev S1536x64 : Shape := ⟨2, ![1536, 64]⟩
abbrev S256x1536 : Shape := ⟨2, ![256, 1536]⟩
abbrev S1x1792x64 : Shape := ⟨3, ![1, 1792, 64]⟩
abbrev S1792x64 : Shape := ⟨2, ![1792, 64]⟩
abbrev S256x1792 : Shape := ⟨2, ![256, 1792]⟩

abbrev nBuf : Space → Nat
  | .hbm => 63
  | .vmem => 13
  | .smem => 0
  | _ => 0

abbrev bufTy : (tb : Table) → Fin (tcTables nBuf tb) → BufTy
  | .hbm, ⟨0, _⟩ => ⟨S2x2048x2950, .f32⟩
  | .hbm, ⟨1, _⟩ => ⟨S256x2048, .i32⟩
  | .hbm, ⟨2, _⟩ => ⟨S256x2048, .i32⟩
  | .hbm, ⟨3, _⟩ => ⟨S256x2048, .i32⟩
  | .hbm, ⟨4, _⟩ => ⟨S_, .i32⟩
  | .hbm, ⟨5, _⟩ => ⟨S256x2048, .i32⟩
  | .hbm, ⟨6, _⟩ => ⟨S256x2048, .i32⟩
  | .hbm, ⟨7, _⟩ => ⟨S_, .i32⟩
  | .hbm, ⟨8, _⟩ => ⟨S256x2048, .i32⟩
  | .hbm, ⟨9, _⟩ => ⟨S256x2048, .i1⟩
  | .hbm, ⟨10, _⟩ => ⟨S_, .i32⟩
  | .hbm, ⟨11, _⟩ => ⟨S256x2048, .i32⟩
  | .hbm, ⟨12, _⟩ => ⟨S256x2048, .i1⟩
  | .hbm, ⟨13, _⟩ => ⟨S256x2048, .i1⟩
  | .hbm, ⟨14, _⟩ => ⟨S256x2048, .f32⟩
  | .hbm, ⟨15, _⟩ => ⟨S_, .i32⟩
  | .hbm, ⟨16, _⟩ => ⟨S256x2048, .i32⟩
  | .hbm, ⟨17, _⟩ => ⟨S256x2048, .i32⟩
  | .hbm, ⟨18, _⟩ => ⟨S_, .i32⟩
  | .hbm, ⟨19, _⟩ => ⟨S256x2048, .i32⟩
  | .hbm, ⟨20, _⟩ => ⟨S256x2048, .i1⟩
  | .hbm, ⟨21, _⟩ => ⟨S256x2048, .i1⟩
  | .hbm, ⟨22, _⟩ => ⟨S_, .i32⟩
  | .hbm, ⟨23, _⟩ => ⟨S256x2048, .i32⟩
  | .hbm, ⟨24, _⟩ => ⟨S256x2048, .i1⟩
  | .hbm, ⟨25, _⟩ => ⟨S256x2048, .i1⟩
  | .hbm, ⟨26, _⟩ => ⟨S256x2048, .f32⟩
  | .hbm, ⟨27, _⟩ => ⟨S256x2048, .f32⟩
  | .hbm, ⟨28, _⟩ => ⟨S_, .i32⟩
  | .hbm, ⟨29, _⟩ => ⟨S256x2048, .i32⟩
  | .hbm, ⟨30, _⟩ => ⟨S256x2048, .i32⟩
  | .hbm, ⟨31, _⟩ => ⟨S_, .i32⟩
  | .hbm, ⟨32, _⟩ => ⟨S256x2048, .i32⟩
  | .hbm, ⟨33, _⟩ => ⟨S256x2048, .i1⟩
  | .hbm, ⟨34, _⟩ => ⟨S256x2048, .i1⟩
  | .hbm, ⟨35, _⟩ => ⟨S_, .i32⟩
  | .hbm, ⟨36, _⟩ => ⟨S256x2048, .i32⟩
  | .hbm, ⟨37, _⟩ => ⟨S256x2048, .i1⟩
  | .hbm, ⟨38, _⟩ => ⟨S256x2048, .i1⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .i1⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S_, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S2x2048x122, .f32⟩
  | .hbm, ⟨54, _⟩ => ⟨S2x2048x1536, .f32⟩
  | .hbm, ⟨55, _⟩ => ⟨S2x2048x256, .f32⟩
  | .hbm, ⟨56, _⟩ => ⟨S2x2048x896, .f32⟩
  | .hbm, ⟨57, _⟩ => ⟨S2x2048x6, .f32⟩
  | .hbm, ⟨58, _⟩ => ⟨S2x2048x256, .f32⟩
  | .hbm, ⟨59, _⟩ => ⟨S2x2048x3072, .f32⟩
  | .hbm, ⟨60, _⟩ => ⟨S4096x3072, .f32⟩
  | .hbm, ⟨61, _⟩ => ⟨S4096x384, .f32⟩
  | .hbm, ⟨62, _⟩ => ⟨S2x3x2048x2, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x2048, .f32⟩
  | .local _ .vmem, ⟨7, _⟩ => ⟨S2048x128, .f32⟩
  | .local _ .vmem, ⟨8, _⟩ => ⟨S2048x128, .f32⟩
  | .local _ .vmem, ⟨9, _⟩ => ⟨S1x1x2048x2, .f32⟩
  | .local _ .vmem, ⟨10, _⟩ => ⟨S1x1x2048x2, .f32⟩
  | .local _ .vmem, ⟨11, _⟩ => ⟨S2x2048x64, .bf16⟩
  | .local _ .vmem, ⟨12, _⟩ => ⟨S2x2048x64, .bf16⟩
  | _, _ => ⟨S2x2048x2950, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_5 : Ref sig .tc := ⟨.hbm, 28, rfl⟩
abbrev main_v21 : Ref sig .tc := ⟨.hbm, 29, rfl⟩
abbrev main_v22 : Ref sig .tc := ⟨.hbm, 30, rfl⟩
abbrev main_c_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_call0_v0 : Ref sig .tc := ⟨.hbm, 49, rfl⟩
abbrev main_call0_v1 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdReferenceIdeal.lean ====
abbrev S2x2048x2950 : Shape := ⟨3, ![2, 2048, 2950]⟩
abbrev S2x2048x384 : Shape := ⟨3, ![2, 2048, 384]⟩
abbrev S2x2048x1798 : Shape := ⟨3, ![2, 2048, 1798]⟩
abbrev S2x2048x6x64 : Shape := ⟨4, ![2, 2048, 6, 64]⟩
abbrev S2x6x2048x2048 : Shape := ⟨4, ![2, 6, 2048, 2048]⟩
abbrev S_ : Shape := ⟨0, ![]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x2x6x2048x2048 : Shape := ⟨5, ![3, 2, 6, 2048, 2048]⟩
abbrev S1x2x6x2048x2048 : Shape := ⟨5, ![1, 2, 6, 2048, 2048]⟩
abbrev S3x2x6x2048 : Shape := ⟨4, ![3, 2, 6, 2048]⟩
abbrev S3x2x6x2048x1 : Shape := ⟨5, ![3, 2, 6, 2048, 1]⟩
abbrev S2x6x64x3x2048 : Shape := ⟨5, ![2, 6, 64, 3, 2048]⟩
abbrev S3x2x6x2048x64 : Shape := ⟨5, ![3, 2, 6, 2048, 64]⟩
abbrev S2x6x2048 : Shape := ⟨3, ![2, 6, 2048]⟩
abbrev S1x2x6x2048 : Shape := ⟨4, ![1, 2, 6, 2048]⟩
abbrev S2x6x2048x64 : Shape := ⟨4, ![2, 6, 2048, 64]⟩
abbrev S4096x384 : Shape := ⟨2, ![4096, 384]⟩
abbrev S2x3x2x2048 : Shape := ⟨4, ![2, 3, 2, 2048]⟩
abbrev S2x3x2048x2 : Shape := ⟨4, ![2, 3, 2048, 2]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x2950, .f32⟩
  | .hbm, ⟨1, _⟩ => ⟨S2x2048x384, .f32⟩
  | .hbm, ⟨2, _⟩ => ⟨S2x2048x384, .f32⟩
  | .hbm, ⟨3, _⟩ => ⟨S2x2048x384, .f32⟩
  | .hbm, ⟨4, _⟩ => ⟨S2x2048x1798, .f32⟩
  | .hbm, ⟨5, _⟩ => ⟨S2x2048x6x64, .f32⟩
  | .hbm, ⟨6, _⟩ => ⟨S2x2048x6x64, .f32⟩
  | .hbm, ⟨7, _⟩ => ⟨S2x2048x6x64, .f32⟩
  | .hbm, ⟨8, _⟩ => ⟨S2x6x2048x2048, .f32⟩
  | .hbm, ⟨9, _⟩ => ⟨S_, .f32⟩
  | .hbm, ⟨10, _⟩ => ⟨S2x6x2048x2048, .f32⟩
  | .hbm, ⟨11, _⟩ => ⟨S2x6x2048x2048, .f32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S_, .i32⟩
  | .hbm, ⟨33, _⟩ => ⟨S2048x2048, .i32⟩
  | .hbm, ⟨34, _⟩ => ⟨S2048x2048, .i1⟩
  | .hbm, ⟨35, _⟩ => ⟨S2048x2048, .i1⟩
  | .hbm, ⟨36, _⟩ => ⟨S_, .i32⟩
  | .hbm, ⟨37, _⟩ => ⟨S2048x2048, .i32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S2048x2048, .i1⟩
  | .hbm, ⟨43, _⟩ => ⟨S_, .i32⟩
  | .hbm, ⟨44, _⟩ => ⟨S2048x2048, .i32⟩
  | .hbm, ⟨45, _⟩ => ⟨S2048x2048, .i1⟩
  | .hbm, ⟨46, _⟩ => ⟨S_, .i32⟩
  | .hbm, ⟨47, _⟩ => ⟨S2048x2048, .i32⟩
  | .hbm, ⟨48, _⟩ => ⟨S2048x2048, .i1⟩
  | .hbm, ⟨49, _⟩ => ⟨S2048x2048, .i1⟩
  | .hbm, ⟨50, _⟩ => ⟨S_, .i32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i1⟩
  | .hbm, ⟨56, _⟩ => ⟨S2048x2048, .i1⟩
  | .hbm, ⟨57, _⟩ => ⟨S1x2048x2048, .i1⟩
  | .hbm, ⟨58, _⟩ => ⟨S1x2048x2048, .i1⟩
  | .hbm, ⟨59, _⟩ => ⟨S1x2048x2048, .i1⟩
  | .hbm, ⟨60, _⟩ => ⟨S3x2048x2048, .i1⟩
  | .hbm, ⟨61, _⟩ => ⟨S3x1x1x2048x2048, .i1⟩
  | .hbm, ⟨62, _⟩ => ⟨S3x2x6x2048x2048, .i1⟩
  | .hbm, ⟨63, _⟩ => ⟨S1x2x6x2048x2048, .f32⟩
  | .hbm, ⟨64, _⟩ => ⟨S3x2x6x2048x2048, .f32⟩
  | .hbm, ⟨65, _⟩ => ⟨S_, .f32⟩
  | .hbm, ⟨66, _⟩ => ⟨S3x2x6x2048x2048, .f32⟩
  | .hbm, ⟨67, _⟩ => ⟨S3x2x6x2048x2048, .f32⟩
  | .hbm, ⟨68, _⟩ => ⟨S_, .f32⟩
  | .hbm, ⟨69, _⟩ => ⟨S3x2x6x2048, .f32⟩
  | .hbm, ⟨70, _⟩ => ⟨S3x2x6x2048x1, .f32⟩
  | .hbm, ⟨71, _⟩ => ⟨S3x2x6x2048x2048, .f32⟩
  | .hbm, ⟨72, _⟩ => ⟨S3x2x6x2048x2048, .f32⟩
  | .hbm, ⟨73, _⟩ => ⟨S3x2x6x2048x2048, .f32⟩
  | .hbm, ⟨74, _⟩ => ⟨S_, .f32⟩
  | .hbm, ⟨75, _⟩ => ⟨S3x2x6x2048, .f32⟩
  | .hbm, ⟨76, _⟩ => ⟨S2x6x64x3x2048, .f32⟩
  | .hbm, ⟨77, _⟩ => ⟨S3x2x6x2048x64, .f32⟩
  | .hbm, ⟨78, _⟩ => ⟨S3x2x6x2048x1, .f32⟩
  | .hbm, ⟨79, _⟩ => ⟨S3x2x6x2048x64, .f32⟩
  | .hbm, ⟨80, _⟩ => ⟨S3x2x6x2048x64, .f32⟩
  | .hbm, ⟨81, _⟩ => ⟨S3x2x6x2048, .f32⟩
  | .hbm, ⟨82, _⟩ => ⟨S3x2x6x2048, .f32⟩
  | .hbm, ⟨83, _⟩ => ⟨S3x2x6x2048, .f32⟩
  | .hbm, ⟨84, _⟩ => ⟨S_, .f32⟩
  | .hbm, ⟨85, _⟩ => ⟨S2x6x2048, .f32⟩
  | .hbm, ⟨86, _⟩ => ⟨S1x2x6x2048, .f32⟩
  | .hbm, ⟨87, _⟩ => ⟨S3x2x6x2048, .f32⟩
  | .hbm, ⟨88, _⟩ => ⟨S3x2x6x2048, .f32⟩
  | .hbm, ⟨89, _⟩ => ⟨S3x2x6x2048, .f32⟩
  | .hbm, ⟨90, _⟩ => ⟨S_, .f32⟩
  | .hbm, ⟨91, _⟩ => ⟨S2x6x2048, .f32⟩
  | .hbm, ⟨92, _⟩ => ⟨S1x2x6x2048, .f32⟩
  | .hbm, ⟨93, _⟩ => ⟨S3x2x6x2048, .f32⟩
  | .hbm, ⟨94, _⟩ => ⟨S3x2x6x2048, .f32⟩
  | .hbm, ⟨95, _⟩ => ⟨S3x2x6x2048x1, .f32⟩
  | .hbm, ⟨96, _⟩ => ⟨S3x2x6x2048x64, .f32⟩
  | .hbm, ⟨97, _⟩ => ⟨S3x2x6x2048x64, .f32⟩
  | .hbm, ⟨98, _⟩ => ⟨S_, .f32⟩
  | .hbm, ⟨99, _⟩ => ⟨S2x6x2048x64, .f32⟩
  | .hbm, ⟨100, _⟩ => ⟨S2x2048x6x64, .f32⟩
  | .hbm, ⟨101, _⟩ => ⟨S2x6x2048, .f32⟩
  | .hbm, ⟨102, _⟩ => ⟨S2x6x2048, .f32⟩
  | .hbm, ⟨103, _⟩ => ⟨S4096x384, .f32⟩
  | .hbm, ⟨104, _⟩ => ⟨S2x3x2x2048, .f32⟩
  | .hbm, ⟨105, _⟩ => ⟨S2x3x2048x2, .f32⟩
  | _, _ => ⟨S2x2048x2950, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_3 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_v28 : Ref sig .tc := ⟨.hbm, 37, rfl⟩
abbrev main_v29 : Ref sig .tc := ⟨.hbm, 38, rfl⟩
abbrev main_c_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_7 : Ref sig .tc := ⟨.hbm, 43, rfl⟩
abbrev main_v33 : Ref sig .tc := ⟨.hbm, 44, rfl⟩
abbrev main_v34 : Ref sig .tc := ⟨.hbm, 45, rfl⟩
abbrev main_c_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_9 : Ref sig .tc := ⟨.hbm, 50, rfl⟩
abbrev main_v38 : Ref sig .tc := ⟨.hbm, 51, rfl⟩
abbrev main_v39 : Ref sig .tc := ⟨.hbm, 52, rfl⟩
abbrev main_c_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_13 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_14 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_15 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_16 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩

abbrev nD : Nat := 1
abbrev τ : Topo := Topo.v7x

variable {F : FTy → Type} [FloatOps F]
-- ==== SguKernel.lean ====
abbrev S2x2048x2950 : Shape := ⟨3, ![2, 2048, 2950]⟩
abbrev S256 : Shape := ⟨1, ![256]⟩
abbrev S4x128x128 : Shape := ⟨3, ![4, 128, 128]⟩
abbrev S4x128 : Shape := ⟨2, ![4, 128]⟩
abbrev S2x2048x1024 : Shape := ⟨3, ![2, 2048, 1024]⟩
abbrev S8x256 : Shape := ⟨2, ![8, 256]⟩
abbrev S1x256 : Shape := ⟨2, ![1, 256]⟩
abbrev S2x256 : Shape := ⟨2, ![2, 256]⟩
abbrev S_ : Shape := ⟨0, ![]⟩
abbrev S128x4 : Shape := ⟨2, ![128, 4]⟩
abbrev S128x8 : Shape := ⟨2, ![128, 8]⟩
abbrev S2x2048x122 : Shape := ⟨3, ![2, 2048, 122]⟩
abbrev S2x2048x1536 : Shape := ⟨3, ![2, 2048, 1536]⟩
abbrev S2x2048x256 : Shape := ⟨3, ![2, 2048, 256]⟩
abbrev S2x2048x896 : Shape := ⟨3, ![2, 2048, 896]⟩
abbrev S2x2048x6 : Shape := ⟨3, ![2, 2048, 6]⟩
abbrev S2x2048x3072 : Shape := ⟨3, ![2, 2048, 3072]⟩
abbrev S4096x3072 : Shape := ⟨2, ![4096, 3072]⟩
abbrev S4096x1024 : Shape := ⟨2, ![4096, 1024]⟩
abbrev S4096x256 : Shape := ⟨2, ![4096, 256]⟩
abbrev S512x256 : Shape := ⟨2, ![512, 256]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S256x128 : Shape := ⟨2, ![256, 128]⟩
abbrev S3x128x128 : Shape := ⟨3, ![3, 128, 128]⟩
abbrev S2x128x128 : Shape := ⟨3, ![2, 128, 128]⟩
abbrev S6x256 : Shape := ⟨2, ![6, 256]⟩
abbrev S7x256 : Shape := ⟨2, ![7, 256]⟩

abbrev nBuf : Space → Nat
  | .hbm => 32
  | .vmem => 17
  | .smem => 0
  | _ => 0

abbrev bufTy : (tb : Table) → Fin (tcTables nBuf tb) → BufTy
  | .hbm, ⟨0, _⟩ => ⟨S2x2048x2950, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S2x2048x1024, .f32⟩
  | .hbm, ⟨6, _⟩ => ⟨S8x256, .f32⟩
  | .hbm, ⟨7, _⟩ => ⟨S1x256, .f32⟩
  | .hbm, ⟨8, _⟩ => ⟨S1x256, .f32⟩
  | .hbm, ⟨9, _⟩ => ⟨S2x256, .f32⟩
  | .hbm, ⟨10, _⟩ => ⟨S_, .i32⟩
  | .hbm, ⟨11, _⟩ => ⟨S_, .f32⟩
  | .hbm, ⟨12, _⟩ => ⟨S8x256, .f32⟩
  | .hbm, ⟨13, _⟩ => ⟨S128x4, .f32⟩
  | .hbm, ⟨14, _⟩ => ⟨S_, .i32⟩
  | .hbm, ⟨15, _⟩ => ⟨S_, .f32⟩
  | .hbm, ⟨16, _⟩ => ⟨S128x8, .f32⟩
  | .hbm, ⟨17, _⟩ => ⟨S_, .f32⟩
  | .hbm, ⟨18, _⟩ => ⟨S2x2048x122, .f32⟩
  | .hbm, ⟨19, _⟩ => ⟨S2x2048x1536, .f32⟩
  | .hbm, ⟨20, _⟩ => ⟨S2x2048x256, .f32⟩
  | .hbm, ⟨21, _⟩ => ⟨S2x2048x896, .f32⟩
  | .hbm, ⟨22, _⟩ => ⟨S2x2048x6, .f32⟩
  | .hbm, ⟨23, _⟩ => ⟨S2x2048x256, .f32⟩
  | .hbm, ⟨24, _⟩ => ⟨S2x2048x3072, .f32⟩
  | .hbm, ⟨25, _⟩ => ⟨S4096x3072, .f32⟩
  | .hbm, ⟨26, _⟩ => ⟨S4096x1024, .f32⟩
  | .hbm, ⟨27, _⟩ => ⟨S4096x256, .bf16⟩
  | .hbm, ⟨28, _⟩ => ⟨S4096x256, .bf16⟩
  | .hbm, ⟨29, _⟩ => ⟨S8x256, .f32⟩
  | .hbm, ⟨30, _⟩ => ⟨S4x128x128, .f32⟩
  | .hbm, ⟨31, _⟩ => ⟨S128x8, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S4x128x128, .f32⟩
  | .local _ .vmem, ⟨8, _⟩ => ⟨S128x8, .f32⟩
  | .local _ .vmem, ⟨9, _⟩ => ⟨S8x256, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S8x256, .f32⟩
  | .local _ .vmem, ⟨15, _⟩ => ⟨S4x128x128, .f32⟩
  | .local _ .vmem, ⟨16, _⟩ => ⟨S128x8, .f32⟩
  | _, _ => ⟨S2x2048x2950, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SguReferenceIdeal.lean ====
abbrev S2x2048x2950 : Shape := ⟨3, ![2, 2048, 2950]⟩
abbrev S256 : Shape := ⟨1, ![256]⟩
abbrev S4x128x128 : Shape := ⟨3, ![4, 128, 128]⟩
abbrev S4x128 : Shape := ⟨2, ![4, 128]⟩
abbrev S2x2048x1024 : Shape := ⟨3, ![2, 2048, 1024]⟩
abbrev S2x2048x512 : Shape := ⟨3, ![2, 2048, 512]⟩
abbrev S_ : Shape := ⟨0, ![]⟩
abbrev S2x2048x256 : Shape := ⟨3, ![2, 2048, 256]⟩
abbrev S2x2048 : Shape := ⟨2, ![2, 2048]⟩
abbrev S2x2048x1 : Shape := ⟨3, ![2, 2048, 1]⟩
abbrev S1x1x256 : Shape := ⟨3, ![1, 1, 256]⟩
abbrev S2x16x128x4x64 : Shape := ⟨5, ![2, 16, 128, 4, 64]⟩
abbrev S128x128 : Shape := ⟨2, ![128, 128]⟩
abbrev S1x128x128 : Shape := ⟨3, ![1, 128, 128]⟩
abbrev S4x2x16x64x128 : Shape := ⟨5, ![4, 2, 16, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4096x512 : Shape := ⟨2, ![4096, 512]⟩
abbrev S4096x256 : Shape := ⟨2, ![4096, 256]⟩
abbrev S6x256 : Shape := ⟨2, ![6, 256]⟩
abbrev S1x256 : Shape := ⟨2, ![1, 256]⟩
abbrev S8x256 : Shape := ⟨2, ![8, 256]⟩
abbrev S128x8 : Shape := ⟨2, ![128, 8]⟩

abbrev nBuf : Space → Nat
  | .hbm => 180
  | .vmem => 0
  | .smem => 0
  | _ => 0

abbrev hbmTy0_0 (i : Nat) : BufTy := match i % 128 with
  | 0 => ⟨S2x2048x2950, .f32⟩
  | 1 => ⟨S256, .f32⟩
  | 2 => ⟨S256, .f32⟩
  | 3 => ⟨S4x128x128, .f32⟩
  | 4 => ⟨S4x128, .f32⟩
  | 5 => ⟨S2x2048x1024, .f32⟩
  | 6 => ⟨S2x2048x512, .f32⟩
  | 7 => ⟨S_, .f32⟩
  | 8 => ⟨S2x2048x512, .f32⟩
  | 9 => ⟨S2x2048x512, .f32⟩
  | 10 => ⟨S2x2048x512, .f32⟩
  | 11 => ⟨S_, .f32⟩
  | 12 => ⟨S2x2048x512, .f32⟩
  | 13 => ⟨S2x2048x512, .f32⟩
  | 14 => ⟨S2x2048x512, .f32⟩
  | 15 => ⟨S2x2048x512, .f32⟩
  | 16 => ⟨S2x2048x512, .f32⟩
  | 17 => ⟨S2x2048x512, .f32⟩
  | 18 => ⟨S2x2048x512, .f32⟩
  | 19 => ⟨S2x2048x256, .f32⟩
  | 20 => ⟨S2x2048x256, .f32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S2x2048x256, .f32⟩
  | 28 => ⟨S2x2048x256, .f32⟩
  | 29 => ⟨S2x2048x256, .f32⟩
  | 30 => ⟨S_, .f32⟩
  | 31 => ⟨S2x2048x256, .f32⟩
  | 32 => ⟨S2x2048x256, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S2x2048x256, .f32⟩
  | 40 => ⟨S2x2048x256, .f32⟩
  | 41 => ⟨S_, .f32⟩
  | 42 => ⟨S2x2048x1, .f32⟩
  | 43 => ⟨S2x2048x1, .f32⟩
  | 44 => ⟨S2x2048x1, .f32⟩
  | 45 => ⟨S2x2048x1, .f32⟩
  | 46 => ⟨S_, .f32⟩
  | 47 => ⟨S2x2048x1, .f32⟩
  | 48 => ⟨S2x2048x1, .f32⟩
  | 49 => ⟨S2x2048x256, .f32⟩
  | 50 => ⟨S2x2048x256, .f32⟩
  | 51 => ⟨S1x1x256, .f32⟩
  | 52 => ⟨S2x2048x256, .f32⟩
  | 53 => ⟨S2x2048x256, .f32⟩
  | 54 => ⟨S1x1x256, .f32⟩
  | 55 => ⟨S2x2048x256, .f32⟩
  | 56 => ⟨S2x2048x256, .f32⟩
  | 57 => ⟨S2x16x128x4x64, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x128x128, .i1⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S_, .f32⟩
  | 76 => ⟨S4x128x128, .f32⟩
  | 77 => ⟨S4x2x16x64x128, .f32⟩
  | 78 => ⟨S2x16x128x4x64, .f32⟩
  | 79 => ⟨S128x4, .f32⟩
  | 80 => ⟨S128x4x1, .f32⟩
  | 81 => ⟨S1x1x128x4x1, .f32⟩
  | 82 => ⟨S2x16x128x4x64, .f32⟩
  | 83 => ⟨S2x16x128x4x64, .f32⟩
  | 84 => ⟨S2x2048x256, .f32⟩
  | 85 => ⟨S2x2048x256, .f32⟩
  | 86 => ⟨S2x2048x256, .f32⟩
  | 87 => ⟨S2x2048x256, .f32⟩
  | 88 => ⟨S2x2048x256, .f32⟩
  | 89 => ⟨S2x16x128x4x64, .f32⟩
  | 90 => ⟨S_, .f32⟩
  | 91 => ⟨S128x4, .f32⟩
  | 92 => ⟨S1x1x128x4x1, .f32⟩
  | 93 => ⟨S_, .f32⟩
  | 94 => ⟨S128x4, .f32⟩
  | 95 => ⟨S128x4x1, .f32⟩
  | 96 => ⟨S_, .f32⟩
  | 97 => ⟨S128x4, .f32⟩
  | 98 => ⟨S4x128, .f32⟩
  | 99 => ⟨S4x2x16x64x128, .f32⟩
  | 100 => ⟨S4x128x128, .f32⟩
  | 101 => ⟨S4x2x16x64x128, .f32⟩
  | 102 => ⟨S2x16x128x4x64, .f32⟩
  | 103 => ⟨S_, .f32⟩
  | 104 => ⟨S4x128x128, .f32⟩
  | 105 => ⟨S4x128x128, .f32⟩
  | 106 => ⟨S2x2048x256, .f32⟩
  | 107 => ⟨S_, .f32⟩
  | 108 => ⟨S256, .f32⟩
  | 109 => ⟨S1x1x256, .f32⟩
  | 110 => ⟨S_, .f32⟩
  | 111 => ⟨S256, .f32⟩
  | 112 => ⟨S2x2048x256, .f32⟩
  | 113 => ⟨S_, .f32⟩
  | 114 => ⟨S256, .f32⟩
  | 115 => ⟨S1x1x256, .f32⟩
  | 116 => ⟨S2x2048x256, .f32⟩
  | 117 => ⟨S2x2048x256, .f32⟩
  | 118 => ⟨S_, .f32⟩
  | 119 => ⟨S256, .f32⟩
  | 120 => ⟨S2x2048x256, .f32⟩
  | 121 => ⟨S_, .f32⟩
  | 122 => ⟨S2x2048, .f32⟩
  | 123 => ⟨S2x2048x1, .f32⟩
  | 124 => ⟨S2x2048x256, .f32⟩
  | 125 => ⟨S2x2048x256, .f32⟩
  | 126 => ⟨S2x2048x1, .f32⟩
  | 127 => ⟨S2x2048x256, .f32⟩
  | _ => ⟨S2x2048x2950, .f32⟩

abbrev hbmTy0_1 (i : Nat) : BufTy := match i % 128 with
  | 0 => ⟨S_, .f32⟩
  | 1 => ⟨S2x2048, .f32⟩
  | 2 => ⟨S2x2048x1, .f32⟩
  | 3 => ⟨S_, .f32⟩
  | 4 => ⟨S2x2048x1, .f32⟩
  | 5 => ⟨S2x2048x1, .f32⟩
  | 6 => ⟨S_, .f32⟩
  | 7 => ⟨S2x2048, .f32⟩
  | 8 => ⟨S2x2048x256, .f32⟩
  | 9 => ⟨S2x2048x256, .f32⟩
  | 10 => ⟨S2x2048x256, .f32⟩
  | 11 => ⟨S_, .f32⟩
  | 12 => ⟨S2x2048, .f32⟩
  | 13 => ⟨S2x2048x1, .f32⟩
  | 14 => ⟨S2x2048x256, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048, .f32⟩
  | 21 => ⟨S2x2048x256, .f32⟩
  | 22 => ⟨S2x2048x256, .f32⟩
  | 23 => ⟨S2x2048x512, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S2x2048x512, .f32⟩
  | 38 => ⟨S4096x512, .f32⟩
  | 39 => ⟨S4096x256, .f32⟩
  | 40 => ⟨S4096x256, .f32⟩
  | 41 => ⟨S_, .f32⟩
  | 42 => ⟨S6x256, .f32⟩
  | 43 => ⟨S4096x256, .bf16⟩
  | 44 => ⟨S4096x256, .bf16⟩
  | 45 => ⟨S1x256, .f32⟩
  | 46 => ⟨S1x256, .f32⟩
  | 47 => ⟨S8x256, .f32⟩
  | 48 => ⟨S128x4, .f32⟩
  | 49 => ⟨S_, .i32⟩
  | 50 => ⟨S_, .f32⟩
  | 51 => ⟨S128x8, .f32⟩
  | _ => ⟨S2x2048x2950, .f32⟩

abbrev hbmTy (i : Nat) : BufTy := match i / 128 with
  | 0 => hbmTy0_0 i
  | 1 => hbmTy0_1 i
  | _ => ⟨S2x2048x2950, .f32⟩

abbrev bufTy : (tb : Table) → Fin (tcTables nBuf tb) → BufTy
  | .hbm, ⟨i, _⟩ => hbmTy i
  | _, _ => ⟨S2x2048x2950, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_call1_v0 : Ref sig .tc := ⟨.hbm, 71, rfl⟩
abbrev main_v46_1 : Ref sig .tc := ⟨.hbm, 72, rfl⟩
abbrev main_call1_v2 : Ref sig .tc := ⟨.hbm, 73, rfl⟩
abbrev main_v46_0 : Ref sig .tc := ⟨.hbm, 74, rfl⟩
abbrev main_call1_cst : Ref sig .tc := ⟨.hbm, 75, rfl⟩
abbrev main_v46_2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call2_cst : Ref sig .tc := ⟨.hbm, 103, rfl⟩
abbrev main_call2_v0 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_21 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_23 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_24 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_25 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_26 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_27 : Ref sig .tc := ⟨.hbm, 177, rfl⟩
abbrev main_call3_v0 : Ref sig .tc := ⟨.hbm, 178, rfl⟩
abbrev main_v127 : Ref sig .tc := ⟨.hbm, 179, rfl⟩

abbrev nD : Nat := 1
abbrev τ : Topo := Topo.v7x

variable {F : FTy → Type} [FloatOps F]
-- ==== AttnBwdKernel.lean ====
abbrev S2x2048x2950 : Shape := ⟨3, ![2, 2048, 2950]⟩
abbrev S2x2048x1024 : Shape := ⟨3, ![2, 2048, 1024]⟩
abbrev S2x2048x384 : Shape := ⟨3, ![2, 2048, 384]⟩
abbrev S2x2048x1798 : Shape := ⟨3, ![2, 2048, 1798]⟩
abbrev S2x2048x6x64 : Shape := ⟨4, ![2, 2048, 6, 64]⟩
abbrev S2x6x2048x2048 : Shape := ⟨4, ![2, 6, 2048, 2048]⟩
abbrev S_ : Shape := ⟨0, ![]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x2x6x2048x2048 : Shape := ⟨5, ![3, 2, 6, 2048, 2048]⟩
abbrev S1x2x6x2048x2048 : Shape := ⟨5, ![1, 2, 6, 2048, 2048]⟩
abbrev S3x2x6x2048 : Shape := ⟨4, ![3, 2, 6, 2048]⟩
abbrev S3x2x6x2048x1 : Shape := ⟨5, ![3, 2, 6, 2048, 1]⟩
abbrev S2x6x64x3x2048 : Shape := ⟨5, ![2, 6, 64, 3, 2048]⟩
abbrev S3x2x6x2048x64 : Shape := ⟨5, ![3, 2, 6, 2048, 64]⟩
abbrev S2x6x2048 : Shape := ⟨3, ![2, 6, 2048]⟩
abbrev S1x2x6x2048 : Shape := ⟨4, ![1, 2, 6, 2048]⟩
abbrev S2x6x2048x64 : Shape := ⟨4, ![2, 6, 2048, 64]⟩
abbrev S2x2048x122 : Shape := ⟨3, ![2, 2048, 122]⟩
abbrev S2x2048x1536 : Shape := ⟨3, ![2, 2048, 1536]⟩
abbrev S2x2048x256 : Shape := ⟨3, ![2, 2048, 256]⟩
abbrev S2x2048x896 : Shape := ⟨3, ![2, 2048, 896]⟩
abbrev S2x2048x6 : Shape := ⟨3, ![2, 2048, 6]⟩
abbrev S2x2048x3072 : Shape := ⟨3, ![2, 2048, 3072]⟩
abbrev S4096x3072 : Shape := ⟨2, ![4096, 3072]⟩
abbrev S4096x384 : Shape := ⟨2, ![4096, 384]⟩
abbrev S2x3x2x2048 : Shape := ⟨4, ![2, 3, 2, 2048]⟩
abbrev S2x3x2048x2 : Shape := ⟨4, ![2, 3, 2048, 2]⟩
abbrev S4096x1024 : Shape := ⟨2, ![4096, 1024]⟩
abbrev S256x2048 : Shape := ⟨2, ![256, 2048]⟩
abbrev S2048x128 : Shape := ⟨2, ![2048, 128]⟩
abbrev S1x1x2048x2 : Shape := ⟨4, ![1, 1, 2048, 2]⟩
abbrev S2x2048x64 : Shape := ⟨3, ![2, 2048, 64]⟩
abbrev S2048x64 : Shape := ⟨2, ![2048, 64]⟩
abbrev S1x2048x64 : Shape := ⟨3, ![1, 2048, 64]⟩
abbrev S256x64 : Shape := ⟨2, ![256, 64]⟩
abbrev S256 : Shape := ⟨1, ![256]⟩
abbrev S256x1 : Shape := ⟨2, ![256, 1]⟩
abbrev S1x256x64 : Shape := ⟨3, ![1, 256, 64]⟩
abbrev S256x256 : Shape := ⟨2, ![256, 256]⟩
abbrev S1x1x256x1 : Shape := ⟨4, ![1, 1, 256, 1]⟩
abbrev S1x512x64 : Shape := ⟨3, ![1, 512, 64]⟩
abbrev S512x64 : Shape := ⟨2, ![512, 64]⟩
abbrev S256x512 : Shape := ⟨2, ![256, 512]⟩
abbrev S1x768x64 : Shape := ⟨3, ![1, 768, 64]⟩
abbrev S768x64 : Shape := ⟨2, ![768, 64]⟩
abbrev S256x768 : Shape := ⟨2, ![256, 768]⟩
abbrev S1x1024x64 : Shape := ⟨3, ![1, 1024, 64]⟩
abbrev S1024x64 : Shape := ⟨2, ![1024, 64]⟩
abbrev S256x1024 : Shape := ⟨2, ![256, 1024]⟩
abbrev S1x1280x64 : Shape := ⟨3, ![1, 1280, 64]⟩
abbrev S1280x64 : Shape := ⟨2, ![1280, 64]⟩
abbrev S256x1280 : Shape := ⟨2, ![256, 1280]⟩
abbrev S1x1536x64 : Shape := ⟨3, ![1, 1536, 64]⟩
abbrev S1536x64 : Shape := ⟨2, ![1536, 64]⟩
abbrev S256x1536 : Shape := ⟨2, ![256, 1536]⟩
abbrev S1x1792x64 : Shape := ⟨3, ![1, 1792, 64]⟩
abbrev S1792x64 : Shape := ⟨2, ![1792, 64]⟩
abbrev S256x1792 : Shape := ⟨2, ![256, 1792]⟩

abbrev nBuf : Space → Nat
  | .hbm => 171
  | .vmem => 23
  | .smem => 0
  | _ => 0

abbrev hbmTy0_0 (i : Nat) : BufTy := match i % 128 with
  | 0 => ⟨S2x2048x2950, .f32⟩
  | 1 => ⟨S2x2048x1024, .f32⟩
  | 2 => ⟨S2x2048x384, .f32⟩
  | 3 => ⟨S2x2048x384, .f32⟩
  | 4 => ⟨S2x2048x384, .f32⟩
  | 5 => ⟨S2x2048x1798, .f32⟩
  | 6 => ⟨S2x2048x6x64, .f32⟩
  | 7 => ⟨S2x2048x6x64, .f32⟩
  | 8 => ⟨S2x2048x6x64, .f32⟩
  | 9 => ⟨S2x6x2048x2048, .f32⟩
  | 10 => ⟨S_, .f32⟩
  | 11 => ⟨S2x6x2048x2048, .f32⟩
  | 12 => ⟨S2x6x2048x2048, .f32⟩
  | 13 => ⟨S2048x2048, .i32⟩
  | 14 => ⟨S2048x2048, .i32⟩
  | 15 => ⟨S2048x2048, .i32⟩
  | 16 => ⟨S_, .i32⟩
  | 17 => ⟨S2048x2048, .i32⟩
  | 18 => ⟨S2048x2048, .i1⟩
  | 19 => ⟨S_, .i32⟩
  | 20 => ⟨S2048x2048, .i32⟩
  | 21 => ⟨S2048x2048, .i1⟩
  | 22 => ⟨S2048x2048, .i1⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S2048x2048, .i1⟩
  | 30 => ⟨S_, .i32⟩
  | 31 => ⟨S2048x2048, .i32⟩
  | 32 => ⟨S2048x2048, .i1⟩
  | 33 => ⟨S_, .i32⟩
  | 34 => ⟨S2048x2048, .i32⟩
  | 35 => ⟨S2048x2048, .i1⟩
  | 36 => ⟨S2048x2048, .i1⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i1⟩
  | 43 => ⟨S2048x2048, .i1⟩
  | 44 => ⟨S_, .i32⟩
  | 45 => ⟨S2048x2048, .i32⟩
  | 46 => ⟨S2048x2048, .i1⟩
  | 47 => ⟨S_, .i32⟩
  | 48 => ⟨S2048x2048, .i32⟩
  | 49 => ⟨S2048x2048, .i1⟩
  | 50 => ⟨S2048x2048, .i1⟩
  | 51 => ⟨S_, .i32⟩
  | 52 => ⟨S2048x2048, .i32⟩
  | 53 => ⟨S2048x2048, .i32⟩
  | 54 => ⟨S_, .i32⟩
  | 55 => ⟨S2048x2048, .i32⟩
  | 56 => ⟨S2048x2048, .i1⟩
  | 57 => ⟨S2048x2048, .i1⟩
  | 58 => ⟨S1x2048x2048, .i1⟩
  | 59 => ⟨S1x2048x2048, .i1⟩
  | 60 => ⟨S1x2048x2048, .i1⟩
  | 61 => ⟨S3x2048x2048, .i1⟩
  | 62 => ⟨S3x1x1x2048x2048, .i1⟩
  | 63 => ⟨S3x2x6x2048x2048, .i1⟩
  | 64 => ⟨S1x2x6x2048x2048, .f32⟩
  | 65 => ⟨S3x2x6x2048x2048, .f32⟩
  | 66 => ⟨S_, .f32⟩
  | 67 => ⟨S3x2x6x2048x2048, .f32⟩
  | 68 => ⟨S3x2x6x2048x2048, .f32⟩
  | 69 => ⟨S_, .f32⟩
  | 70 => ⟨S3x2x6x2048, .f32⟩
  | 71 => ⟨S3x2x6x2048x1, .f32⟩
  | 72 => ⟨S3x2x6x2048x2048, .f32⟩
  | 73 => ⟨S3x2x6x2048x2048, .f32⟩
  | 74 => ⟨S3x2x6x2048x2048, .f32⟩
  | 75 => ⟨S_, .f32⟩
  | 76 => ⟨S3x2x6x2048, .f32⟩
  | 77 => ⟨S2x6x64x3x2048, .f32⟩
  | 78 => ⟨S3x2x6x2048x64, .f32⟩
  | 79 => ⟨S3x2x6x2048x1, .f32⟩
  | 80 => ⟨S3x2x6x2048x64, .f32⟩
  | 81 => ⟨S3x2x6x2048x64, .f32⟩
  | 82 => ⟨S3x2x6x2048, .f32⟩
  | 83 => ⟨S3x2x6x2048, .f32⟩
  | 84 => ⟨S3x2x6x2048, .f32⟩
  | 85 => ⟨S_, .f32⟩
  | 86 => ⟨S2x6x2048, .f32⟩
  | 87 => ⟨S1x2x6x2048, .f32⟩
  | 88 => ⟨S3x2x6x2048, .f32⟩
  | 89 => ⟨S3x2x6x2048, .f32⟩
  | 90 => ⟨S3x2x6x2048, .f32⟩
  | 91 => ⟨S_, .f32⟩
  | 92 => ⟨S2x6x2048, .f32⟩
  | 93 => ⟨S1x2x6x2048, .f32⟩
  | 94 => ⟨S3x2x6x2048, .f32⟩
  | 95 => ⟨S3x2x6x2048, .f32⟩
  | 96 => ⟨S3x2x6x2048x1, .f32⟩
  | 97 => ⟨S3x2x6x2048x64, .f32⟩
  | 98 => ⟨S3x2x6x2048x64, .f32⟩
  | 99 => ⟨S_, .f32⟩
  | 100 => ⟨S2x6x2048x64, .f32⟩
  | 101 => ⟨S2x2048x6x64, .f32⟩
  | 102 => ⟨S2x6x2048, .f32⟩
  | 103 => ⟨S2x6x2048, .f32⟩
  | 104 => ⟨S_, .f32⟩
  | 105 => ⟨S2x2048x122, .f32⟩
  | 106 => ⟨S2x2048x1536, .f32⟩
  | 107 => ⟨S2x2048x256, .f32⟩
  | 108 => ⟨S2x2048x896, .f32⟩
  | 109 => ⟨S2x2048x6, .f32⟩
  | 110 => ⟨S2x2048x256, .f32⟩
  | 111 => ⟨S2x2048x3072, .f32⟩
  | 112 => ⟨S4096x3072, .f32⟩
  | 113 => ⟨S4096x384, .f32⟩
  | 114 => ⟨S2x3x2x2048, .f32⟩
  | 115 => ⟨S2x3x2048x2, .f32⟩
  | 116 => ⟨S4096x1024, .f32⟩
  | 117 => ⟨S256x2048, .i32⟩
  | 118 => ⟨S256x2048, .i32⟩
  | 119 => ⟨S256x2048, .i32⟩
  | 120 => ⟨S_, .i32⟩
  | 121 => ⟨S256x2048, .i32⟩
  | 122 => ⟨S256x2048, .i32⟩
  | 123 => ⟨S_, .i32⟩
  | 124 => ⟨S256x2048, .i32⟩
  | 125 => ⟨S256x2048, .i1⟩
  | 126 => ⟨S_, .i32⟩
  | 127 => ⟨S256x2048, .i32⟩
  | _ => ⟨S2x2048x2950, .f32⟩

abbrev hbmTy0_1 (i : Nat) : BufTy := match i % 128 with
  | 0 => ⟨S256x2048, .i1⟩
  | 1 => ⟨S256x2048, .i1⟩
  | 2 => ⟨S256x2048, .f32⟩
  | 3 => ⟨S_, .i32⟩
  | 4 => ⟨S256x2048, .i32⟩
  | 5 => ⟨S256x2048, .i32⟩
  | 6 => ⟨S_, .i32⟩
  | 7 => ⟨S256x2048, .i32⟩
  | 8 => ⟨S256x2048, .i1⟩
  | 9 => ⟨S256x2048, .i1⟩
  | 10 => ⟨S_, .i32⟩
  | 11 => ⟨S256x2048, .i32⟩
  | 12 => ⟨S256x2048, .i1⟩
  | 13 => ⟨S256x2048, .i1⟩
  | 14 => ⟨S256x2048, .f32⟩
  | 15 => ⟨S256x2048, .f32⟩
  | 16 => ⟨S_, .i32⟩
  | 17 => ⟨S256x2048, .i32⟩
  | 18 => ⟨S256x2048, .i32⟩
  | 19 => ⟨S_, .i32⟩
  | 20 => ⟨S256x2048, .i32⟩
  | 21 => ⟨S256x2048, .i1⟩
  | 22 => ⟨S256x2048, .i1⟩
  | 23 => ⟨S_, .i32⟩
  | 24 => ⟨S256x2048, .i32⟩
  | 25 => ⟨S256x2048, .i1⟩
  | 26 => ⟨S256x2048, .i1⟩
  | 27 => ⟨S256x2048, .f32⟩
  | 28 => ⟨S256x2048, .f32⟩
  | 29 => ⟨S_, .f32⟩
  | 30 => ⟨S256x2048, .f32⟩
  | 31 => ⟨S256x2048, .i1⟩
  | 32 => ⟨S_, .f32⟩
  | 33 => ⟨S256x2048, .f32⟩
  | 34 => ⟨S256x2048, .f32⟩
  | 35 => ⟨S256x2048, .f32⟩
  | 36 => ⟨S_, .f32⟩
  | 37 => ⟨S_, .f32⟩
  | 38 => ⟨S256x2048, .f32⟩
  | 39 => ⟨S256x2048, .f32⟩
  | 40 => ⟨S4096x384, .bf16⟩
  | 41 => ⟨S4096x384, .bf16⟩
  | 42 => ⟨S4096x384, .bf16⟩
  | _ => ⟨S2x2048x2950, .f32⟩

abbrev hbmTy (i : Nat) : BufTy := match i / 128 with
  | 0 => hbmTy0_0 i
  | 1 => hbmTy0_1 i
  | _ => ⟨S2x2048x2950, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x1x2048x2, .f32⟩
  | .local _ .vmem, ⟨9, _⟩ => ⟨S1x1x2048x2, .f32⟩
  | .local _ .vmem, ⟨10, _⟩ => ⟨S2048x128, .f32⟩
  | .local _ .vmem, ⟨11, _⟩ => ⟨S2048x128, .f32⟩
  | .local _ .vmem, ⟨12, _⟩ => ⟨S256x2048, .f32⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2x2048x64, .bf16⟩
  | .local _ .vmem, ⟨20, _⟩ => ⟨S2x2048x64, .bf16⟩
  | .local _ .vmem, ⟨21, _⟩ => ⟨S2x2048x64, .f32⟩
  | .local _ .vmem, ⟨22, _⟩ => ⟨S2x2048x64, .f32⟩
  | _, _ => ⟨S2x2048x2950, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_16 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_17 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_c_18 : Ref sig .tc := ⟨.hbm, 120, rfl⟩
abbrev main_v98 : Ref sig .tc := ⟨.hbm, 121, rfl⟩
abbrev main_v99 : Ref sig .tc := ⟨.hbm, 122, rfl⟩
abbrev main_c_19 : Ref sig .tc := ⟨.hbm, 123, rfl⟩
abbrev main_v100 : Ref sig .tc := ⟨.hbm, 124, rfl⟩
abbrev main_v101 : Ref sig .tc := ⟨.hbm, 125, rfl⟩
abbrev main_c_20 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_21 : Ref sig .tc := ⟨.hbm, 131, rfl⟩
abbrev main_v106 : Ref sig .tc := ⟨.hbm, 132, rfl⟩
abbrev main_v107 : Ref sig .tc := ⟨.hbm, 133, rfl⟩
abbrev main_c_22 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_c_23 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_c_24 : Ref sig .tc := ⟨.hbm, 144, rfl⟩
abbrev main_v116 : Ref sig .tc := ⟨.hbm, 145, rfl⟩
abbrev main_v117 : Ref sig .tc := ⟨.hbm, 146, rfl⟩
abbrev main_c_25 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_26 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_27 : Ref sig .tc := ⟨.hbm, 157, rfl⟩
abbrev main_v126 : Ref sig .tc := ⟨.hbm, 158, rfl⟩
abbrev main_v127 : Ref sig .tc := ⟨.hbm, 159, rfl⟩
abbrev main_cst_28 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_29 : Ref sig .tc := ⟨.hbm, 164, rfl⟩
abbrev main_call0_v0 : Ref sig .tc := ⟨.hbm, 165, rfl⟩
abbrev main_call0_v1 : Ref sig .tc := ⟨.hbm, 166, rfl⟩
abbrev main_v131 : Ref sig .tc := ⟨.hbm, 167, rfl⟩
abbrev main_v132_0 : Ref sig .tc := ⟨.hbm, 168, rfl⟩
abbrev main_v132_1 : Ref sig .tc := ⟨.hbm, 169, rfl⟩
abbrev main_v132_2 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnBwdReferenceIdeal.lean ====
abbrev S2x2048x2950 : Shape := ⟨3, ![2, 2048, 2950]⟩
abbrev S2x2048x1024 : Shape := ⟨3, ![2, 2048, 1024]⟩
abbrev S2x2048x384 : Shape := ⟨3, ![2, 2048, 384]⟩
abbrev S2x2048x1798 : Shape := ⟨3, ![2, 2048, 1798]⟩
abbrev S2x2048x6x64 : Shape := ⟨4, ![2, 2048, 6, 64]⟩
abbrev S2x6x2048x2048 : Shape := ⟨4, ![2, 6, 2048, 2048]⟩
abbrev S_ : Shape := ⟨0, ![]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x2x6x2048x2048 : Shape := ⟨5, ![3, 2, 6, 2048, 2048]⟩
abbrev S1x2x6x2048x2048 : Shape := ⟨5, ![1, 2, 6, 2048, 2048]⟩
abbrev S3x2x6x2048 : Shape := ⟨4, ![3, 2, 6, 2048]⟩
abbrev S3x2x6x2048x1 : Shape := ⟨5, ![3, 2, 6, 2048, 1]⟩
abbrev S2x6x64x3x2048 : Shape := ⟨5, ![2, 6, 64, 3, 2048]⟩
abbrev S3x2x6x2048x64 : Shape := ⟨5, ![3, 2, 6, 2048, 64]⟩
abbrev S2x6x2048 : Shape := ⟨3, ![2, 6, 2048]⟩
abbrev S1x2x6x2048 : Shape := ⟨4, ![1, 2, 6, 2048]⟩
abbrev S2x6x2048x64 : Shape := ⟨4, ![2, 6, 2048, 64]⟩
abbrev S2x6x3x2048x2048 : Shape := ⟨5, ![2, 6, 3, 2048, 2048]⟩
abbrev S2x6x64x2048 : Shape := ⟨4, ![2, 6, 64, 2048]⟩
abbrev S4096x384 : Shape := ⟨2, ![4096, 384]⟩

abbrev nBuf : Space → Nat
  | .hbm => 225
  | .vmem => 0
  | .smem => 0
  | _ => 0

abbrev hbmTy0_0 (i : Nat) : BufTy := match i % 128 with
  | 0 => ⟨S2x2048x2950, .f32⟩
  | 1 => ⟨S2x2048x1024, .f32⟩
  | 2 => ⟨S2x2048x384, .f32⟩
  | 3 => ⟨S2x2048x384, .f32⟩
  | 4 => ⟨S2x2048x384, .f32⟩
  | 5 => ⟨S2x2048x1798, .f32⟩
  | 6 => ⟨S2x2048x6x64, .f32⟩
  | 7 => ⟨S2x2048x6x64, .f32⟩
  | 8 => ⟨S2x2048x6x64, .f32⟩
  | 9 => ⟨S2x6x2048x2048, .f32⟩
  | 10 => ⟨S_, .f32⟩
  | 11 => ⟨S2x6x2048x2048, .f32⟩
  | 12 => ⟨S2x6x2048x2048, .f32⟩
  | 13 => ⟨S2048x2048, .i32⟩
  | 14 => ⟨S2048x2048, .i32⟩
  | 15 => ⟨S2048x2048, .i32⟩
  | 16 => ⟨S_, .i32⟩
  | 17 => ⟨S2048x2048, .i32⟩
  | 18 => ⟨S2048x2048, .i1⟩
  | 19 => ⟨S_, .i32⟩
  | 20 => ⟨S2048x2048, .i32⟩
  | 21 => ⟨S2048x2048, .i1⟩
  | 22 => ⟨S2048x2048, .i1⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S2048x2048, .i1⟩
  | 30 => ⟨S_, .i32⟩
  | 31 => ⟨S2048x2048, .i32⟩
  | 32 => ⟨S2048x2048, .i1⟩
  | 33 => ⟨S_, .i32⟩
  | 34 => ⟨S2048x2048, .i32⟩
  | 35 => ⟨S2048x2048, .i1⟩
  | 36 => ⟨S2048x2048, .i1⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i1⟩
  | 43 => ⟨S2048x2048, .i1⟩
  | 44 => ⟨S_, .i32⟩
  | 45 => ⟨S2048x2048, .i32⟩
  | 46 => ⟨S2048x2048, .i1⟩
  | 47 => ⟨S_, .i32⟩
  | 48 => ⟨S2048x2048, .i32⟩
  | 49 => ⟨S2048x2048, .i1⟩
  | 50 => ⟨S2048x2048, .i1⟩
  | 51 => ⟨S_, .i32⟩
  | 52 => ⟨S2048x2048, .i32⟩
  | 53 => ⟨S2048x2048, .i32⟩
  | 54 => ⟨S_, .i32⟩
  | 55 => ⟨S2048x2048, .i32⟩
  | 56 => ⟨S2048x2048, .i1⟩
  | 57 => ⟨S2048x2048, .i1⟩
  | 58 => ⟨S1x2048x2048, .i1⟩
  | 59 => ⟨S1x2048x2048, .i1⟩
  | 60 => ⟨S1x2048x2048, .i1⟩
  | 61 => ⟨S3x2048x2048, .i1⟩
  | 62 => ⟨S3x1x1x2048x2048, .i1⟩
  | 63 => ⟨S3x2x6x2048x2048, .i1⟩
  | 64 => ⟨S1x2x6x2048x2048, .f32⟩
  | 65 => ⟨S3x2x6x2048x2048, .f32⟩
  | 66 => ⟨S_, .f32⟩
  | 67 => ⟨S3x2x6x2048x2048, .f32⟩
  | 68 => ⟨S3x2x6x2048x2048, .f32⟩
  | 69 => ⟨S_, .f32⟩
  | 70 => ⟨S3x2x6x2048x2048, .f32⟩
  | 71 => ⟨S_, .f32⟩
  | 72 => ⟨S3x2x6x2048, .f32⟩
  | 73 => ⟨S3x2x6x2048x1, .f32⟩
  | 74 => ⟨S3x2x6x2048x2048, .f32⟩
  | 75 => ⟨S3x2x6x2048x2048, .i1⟩
  | 76 => ⟨S3x2x6x2048x2048, .f32⟩
  | 77 => ⟨S_, .f32⟩
  | 78 => ⟨S3x2x6x2048, .f32⟩
  | 79 => ⟨S3x2x6x2048x1, .f32⟩
  | 80 => ⟨S3x2x6x2048x2048, .f32⟩
  | 81 => ⟨S3x2x6x2048x2048, .f32⟩
  | 82 => ⟨S3x2x6x2048x2048, .f32⟩
  | 83 => ⟨S_, .f32⟩
  | 84 => ⟨S3x2x6x2048, .f32⟩
  | 85 => ⟨S2x6x64x3x2048, .f32⟩
  | 86 => ⟨S3x2x6x2048x64, .f32⟩
  | 87 => ⟨S3x2x6x2048x1, .f32⟩
  | 88 => ⟨S3x2x6x2048x64, .f32⟩
  | 89 => ⟨S3x2x6x2048x64, .f32⟩
  | 90 => ⟨S3x2x6x2048x1, .f32⟩
  | 91 => ⟨S_, .f32⟩
  | 92 => ⟨S3x2x6x2048x1, .f32⟩
  | 93 => ⟨S3x2x6x2048x1, .f32⟩
  | 94 => ⟨S3x2x6x2048, .f32⟩
  | 95 => ⟨S3x2x6x2048, .f32⟩
  | 96 => ⟨S3x2x6x2048, .f32⟩
  | 97 => ⟨S_, .f32⟩
  | 98 => ⟨S2x6x2048, .f32⟩
  | 99 => ⟨S1x2x6x2048, .f32⟩
  | 100 => ⟨S3x2x6x2048, .f32⟩
  | 101 => ⟨S3x2x6x2048, .i1⟩
  | 102 => ⟨S3x2x6x2048, .f32⟩
  | 103 => ⟨S_, .f32⟩
  | 104 => ⟨S2x6x2048, .f32⟩
  | 105 => ⟨S_, .f32⟩
  | 106 => ⟨S2x6x2048, .f32⟩
  | 107 => ⟨S2x6x2048, .f32⟩
  | 108 => ⟨S_, .f32⟩
  | 109 => ⟨S2x6x2048, .f32⟩
  | 110 => ⟨S2x6x2048, .i1⟩
  | 111 => ⟨S_, .f32⟩
  | 112 => ⟨S2x6x2048, .f32⟩
  | 113 => ⟨S2x6x2048, .i1⟩
  | 114 => ⟨S_, .f32⟩
  | 115 => ⟨S2x6x2048, .f32⟩
  | 116 => ⟨S_, .f32⟩
  | 117 => ⟨S2x6x2048, .f32⟩
  | 118 => ⟨S_, .f32⟩
  | 119 => ⟨S2x6x2048, .f32⟩
  | 120 => ⟨S2x6x2048, .f32⟩
  | 121 => ⟨S2x6x2048, .f32⟩
  | 122 => ⟨S1x2x6x2048, .f32⟩
  | 123 => ⟨S3x2x6x2048, .f32⟩
  | 124 => ⟨S3x2x6x2048, .f32⟩
  | 125 => ⟨S3x2x6x2048, .f32⟩
  | 126 => ⟨S_, .f32⟩
  | 127 => ⟨S2x6x2048, .f32⟩
  | _ => ⟨S2x2048x2950, .f32⟩

abbrev hbmTy0_1 (i : Nat) : BufTy := match i % 128 with
  | 0 => ⟨S1x2x6x2048, .f32⟩
  | 1 => ⟨S3x2x6x2048, .f32⟩
  | 2 => ⟨S3x2x6x2048, .f32⟩
  | 3 => ⟨S1x2x6x2048, .f32⟩
  | 4 => ⟨S_, .f32⟩
  | 5 => ⟨S1x2x6x2048, .f32⟩
  | 6 => ⟨S1x2x6x2048, .f32⟩
  | 7 => ⟨S3x2x6x2048x1, .f32⟩
  | 8 => ⟨S3x2x6x2048x64, .f32⟩
  | 9 => ⟨S3x2x6x2048x64, .f32⟩
  | 10 => ⟨S_, .f32⟩
  | 11 => ⟨S2x6x2048x64, .f32⟩
  | 12 => ⟨S2x2048x6x64, .f32⟩
  | 13 => ⟨S2x2048x384, .f32⟩
  | 14 => ⟨S2x2048x384, .f32⟩
  | 15 => ⟨S2x2048x6x64, .f32⟩
  | 16 => ⟨S2x6x2048x64, .f32⟩
  | 17 => ⟨S3x2x6x2048x64, .f32⟩
  | 18 => ⟨S3x2x6x2048x64, .f32⟩
  | 19 => ⟨S3x2x6x2048x64, .f32⟩
  | 20 => ⟨S3x2x6x2048x64, .f32⟩
  | 21 => ⟨S_, .f32⟩
  | 22 => ⟨S3x2x6x2048, .f32⟩
  | 23 => ⟨S3x2x6x2048x1, .f32⟩
  | 24 => ⟨S_, .f32⟩
  | 25 => ⟨S3x2x6x2048, .f32⟩
  | 26 => ⟨S3x2x6x2048, .f32⟩
  | 27 => ⟨S3x2x6x2048, .f32⟩
  | 28 => ⟨S3x2x6x2048, .f32⟩
  | 29 => ⟨S_, .f32⟩
  | 30 => ⟨S2x6x2048, .f32⟩
  | 31 => ⟨S1x2x6x2048, .f32⟩
  | 32 => ⟨S1x2x6x2048, .f32⟩
  | 33 => ⟨S3x2x6x2048, .f32⟩
  | 34 => ⟨S3x2x6x2048, .f32⟩
  | 35 => ⟨S_, .f32⟩
  | 36 => ⟨S2x6x2048, .f32⟩
  | 37 => ⟨S3x2x6x2048, .f32⟩
  | 38 => ⟨S3x2x6x2048, .f32⟩
  | 39 => ⟨S3x2x6x2048, .f32⟩
  | 40 => ⟨S3x2x6x2048, .f32⟩
  | 41 => ⟨S3x2x6x2048x1, .f32⟩
  | 42 => ⟨S3x2x6x2048x64, .f32⟩
  | 43 => ⟨S3x2x6x2048x64, .f32⟩
  | 44 => ⟨S3x2x6x2048x64, .f32⟩
  | 45 => ⟨S_, .f32⟩
  | 46 => ⟨S3x2x6x2048, .f32⟩
  | 47 => ⟨S3x2x6x2048x1, .f32⟩
  | 48 => ⟨S3x2x6x2048x1, .f32⟩
  | 49 => ⟨S3x2x6x2048x64, .f32⟩
  | 50 => ⟨S3x2x6x2048x64, .f32⟩
  | 51 => ⟨S_, .f32⟩
  | 52 => ⟨S3x2x6x2048, .f32⟩
  | 53 => ⟨S3x2x6x2048, .f32⟩
  | 54 => ⟨S2x6x64x3x2048, .f32⟩
  | 55 => ⟨S2x6x3x2048x2048, .f32⟩
  | 56 => ⟨S3x2x6x2048x2048, .f32⟩
  | 57 => ⟨S2x6x64x2048, .f32⟩
  | 58 => ⟨S2x2048x6x64, .f32⟩
  | 59 => ⟨S3x2x6x2048x2048, .f32⟩
  | 60 => ⟨S3x2x6x2048x2048, .f32⟩
  | 61 => ⟨S3x2x6x2048x2048, .f32⟩
  | 62 => ⟨S3x2x6x2048x2048, .f32⟩
  | 63 => ⟨S_, .f32⟩
  | 64 => ⟨S3x2x6x2048, .f32⟩
  | 65 => ⟨S3x2x6x2048x1, .f32⟩
  | 66 => ⟨S3x2x6x2048x1, .f32⟩
  | 67 => ⟨S_, .f32⟩
  | 68 => ⟨S3x2x6x2048, .f32⟩
  | 69 => ⟨S3x2x6x2048, .f32⟩
  | 70 => ⟨S3x2x6x2048x2048, .f32⟩
  | 71 => ⟨S3x2x6x2048x2048, .f32⟩
  | 72 => ⟨S3x2x6x2048x2048, .f32⟩
  | 73 => ⟨S_, .f32⟩
  | 74 => ⟨S3x2x6x2048x2048, .f32⟩
  | 75 => ⟨S3x2x6x2048x2048, .f32⟩
  | 76 => ⟨S_, .f32⟩
  | 77 => ⟨S2x6x2048x2048, .f32⟩
  | 78 => ⟨S1x2x6x2048x2048, .f32⟩
  | 79 => ⟨S_, .f32⟩
  | 80 => ⟨S2x6x2048x2048, .f32⟩
  | 81 => ⟨S_, .f32⟩
  | 82 => ⟨S2x6x2048x2048, .f32⟩
  | 83 => ⟨S2x6x2048x2048, .f32⟩
  | 84 => ⟨S2x6x2048x64, .f32⟩
  | 85 => ⟨S2x2048x6x64, .f32⟩
  | 86 => ⟨S2x6x2048x64, .f32⟩
  | 87 => ⟨S2x2048x6x64, .f32⟩
  | 88 => ⟨S2x2048x384, .f32⟩
  | 89 => ⟨S2x2048x384, .f32⟩
  | 90 => ⟨S2x2048x384, .f32⟩
  | 91 => ⟨S4096x384, .f32⟩
  | 92 => ⟨S4096x384, .bf16⟩
  | 93 => ⟨S4096x384, .f32⟩
  | 94 => ⟨S4096x384, .bf16⟩
  | 95 => ⟨S4096x384, .f32⟩
  | 96 => ⟨S4096x384, .bf16⟩
  | _ => ⟨S2x2048x2950, .f32⟩

abbrev hbmTy (i : Nat) : BufTy := match i / 128 with
  | 0 => hbmTy0_0 i
  | 1 => hbmTy0_1 i
  | _ => ⟨S2x2048x2950, .f32⟩

abbrev bufTy : (tb : Table) → Fin (tcTables nBuf tb) → BufTy
  | .hbm, ⟨i, _⟩ => hbmTy i
  | _, _ => ⟨S2x2048x2950, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_11 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_14 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_18 : Ref sig .tc := ⟨.hbm, 103, rfl⟩
abbrev main_v81 : Ref sig .tc := ⟨.hbm, 104, rfl⟩
abbrev main_cst_19 : Ref sig .tc := ⟨.hbm, 105, rfl⟩
abbrev main_v82 : Ref sig .tc := ⟨.hbm, 106, rfl⟩
abbrev main_v83 : Ref sig .tc := ⟨.hbm, 107, rfl⟩
abbrev main_cst_20 : Ref sig .tc := ⟨.hbm, 108, rfl⟩
abbrev main_v84 : Ref sig .tc := ⟨.hbm, 109, rfl⟩
abbrev main_v85 : Ref sig .tc := ⟨.hbm, 110, rfl⟩
abbrev main_cst_21 : Ref sig .tc := ⟨.hbm, 111, rfl⟩
abbrev main_v86 : Ref sig .tc := ⟨.hbm, 112, rfl⟩
abbrev main_v87 : Ref sig .tc := ⟨.hbm, 113, rfl⟩
abbrev main_cst_22 : Ref sig .tc := ⟨.hbm, 114, rfl⟩
abbrev main_v88 : Ref sig .tc := ⟨.hbm, 115, rfl⟩
abbrev main_cst_23 : Ref sig .tc := ⟨.hbm, 116, rfl⟩
abbrev main_v89 : Ref sig .tc := ⟨.hbm, 117, rfl⟩
abbrev main_cst_24 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_25 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_26 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_27 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_28 : Ref sig .tc := ⟨.hbm, 149, rfl⟩
abbrev main_v117 : Ref sig .tc := ⟨.hbm, 150, rfl⟩
abbrev main_v118 : Ref sig .tc := ⟨.hbm, 151, rfl⟩
abbrev main_cst_29 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_30 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_31 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_32 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_33 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_34 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_35 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_36 : Ref sig .tc := ⟨.hbm, 201, rfl⟩
abbrev main_v161 : Ref sig .tc := ⟨.hbm, 202, rfl⟩
abbrev main_v162 : Ref sig .tc := ⟨.hbm, 203, rfl⟩
abbrev main_cst_37 : Ref sig .tc := ⟨.hbm, 204, rfl⟩
abbrev main_v163 : Ref sig .tc := ⟨.hbm, 205, rfl⟩
abbrev main_v164 : Ref sig .tc := ⟨.hbm, 206, rfl⟩
abbrev main_cst_38 : Ref sig .tc := ⟨.hbm, 207, rfl⟩
abbrev main_v165 : Ref sig .tc := ⟨.hbm, 208, rfl⟩
abbrev main_cst_39 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩

abbrev nD : Nat := 1
abbrev τ : Topo := Topo.v7x

variable {F : FTy → Type} [FloatOps F]
-- ==== NormFwdKernel.lean ====
abbrev S2x2048x1024 : Shape := ⟨3, ![2, 2048, 1024]⟩
abbrev S1024 : Shape := ⟨1, ![1024]⟩
abbrev S1024x2950 : Shape := ⟨2, ![1024, 2950]⟩
abbrev S4096x1024 : Shape := ⟨2, ![4096, 1024]⟩
abbrev S1x1024 : Shape := ⟨2, ![1, 1024]⟩
abbrev S_ : Shape := ⟨0, ![]⟩
abbrev S1024x122 : Shape := ⟨2, ![1024, 122]⟩
abbrev S1024x1536 : Shape := ⟨2, ![1024, 1536]⟩
abbrev S1024x256 : Shape := ⟨2, ![1024, 256]⟩
abbrev S1024x896 : Shape := ⟨2, ![1024, 896]⟩
abbrev S1024x6 : Shape := ⟨2, ![1024, 6]⟩
abbrev S1024x3072 : Shape := ⟨2, ![1024, 3072]⟩
abbrev S4096x3072 : Shape := ⟨2, ![4096, 3072]⟩
abbrev S1024x4096 : Shape := ⟨2, ![1024, 4096]⟩
abbrev S512x1024 : Shape := ⟨2, ![512, 1024]⟩
abbrev S512x3072 : Shape := ⟨2, ![512, 3072]⟩
abbrev S1024x512 : Shape := ⟨2, ![1024, 512]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2950, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1024x122, .f32⟩
  | .hbm, ⟨7, _⟩ => ⟨S1024x1536, .f32⟩
  | .hbm, ⟨8, _⟩ => ⟨S1024x256, .f32⟩
  | .hbm, ⟨9, _⟩ => ⟨S1024x896, .f32⟩
  | .hbm, ⟨10, _⟩ => ⟨S1024x6, .f32⟩
  | .hbm, ⟨11, _⟩ => ⟨S1024x256, .f32⟩
  | .hbm, ⟨12, _⟩ => ⟨S1024x3072, .f32⟩
  | .hbm, ⟨13, _⟩ => ⟨S1024x3072, .bf16⟩
  | .hbm, ⟨14, _⟩ => ⟨S4096x3072, .f32⟩
  | .hbm, ⟨15, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | .local _ .vmem, ⟨6, _⟩ => ⟨S1024x512, .bf16⟩
  | .local _ .vmem, ⟨7, _⟩ => ⟨S1024x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdReferenceIdeal.lean ====
abbrev S2x2048x1024 : Shape := ⟨3, ![2, 2048, 1024]⟩
abbrev S1024 : Shape := ⟨1, ![1024]⟩
abbrev S1024x2950 : Shape := ⟨2, ![1024, 2950]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2950 : Shape := ⟨3, ![2, 2048, 2950]⟩
abbrev S2x2048x384 : Shape := ⟨3, ![2, 2048, 384]⟩
abbrev S2x2048x896 : Shape := ⟨3, ![2, 2048, 896]⟩
abbrev S2x2048x6 : Shape := ⟨3, ![2, 2048, 6]⟩
abbrev S2x2048x256 : Shape := ⟨3, ![2, 2048, 256]⟩
abbrev S2x2048x122 : Shape := ⟨3, ![2, 2048, 122]⟩
abbrev S2x2048x3072 : Shape := ⟨3, ![2, 2048, 3072]⟩
abbrev S4096x3072 : Shape := ⟨2, ![4096, 3072]⟩
abbrev S4096x1024 : Shape := ⟨2, ![4096, 1024]⟩
abbrev S1024x4096 : Shape := ⟨2, ![1024, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2950, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x2950, .f32⟩
  | .hbm, ⟨20, _⟩ => ⟨S2x2048x384, .f32⟩
  | .hbm, ⟨21, _⟩ => ⟨S2x2048x384, .f32⟩
  | .hbm, ⟨22, _⟩ => ⟨S2x2048x384, .f32⟩
  | .hbm, ⟨23, _⟩ => ⟨S2x2048x384, .f32⟩
  | .hbm, ⟨24, _⟩ => ⟨S2x2048x896, .f32⟩
  | .hbm, ⟨25, _⟩ => ⟨S2x2048x6, .f32⟩
  | .hbm, ⟨26, _⟩ => ⟨S2x2048x256, .f32⟩
  | .hbm, ⟨27, _⟩ => ⟨S2x2048x256, .f32⟩
  | .hbm, ⟨28, _⟩ => ⟨S_, .f32⟩
  | .hbm, ⟨29, _⟩ => ⟨S2x2048x122, .f32⟩
  | .hbm, ⟨30, _⟩ => ⟨S2x2048x3072, .f32⟩
  | .hbm, ⟨31, _⟩ => ⟨S4096x3072, .f32⟩
  | .hbm, ⟨32, _⟩ => ⟨S4096x1024, .f32⟩
  | .hbm, ⟨33, _⟩ => ⟨S1024x4096, .f32⟩
  | .hbm, ⟨34, _⟩ => ⟨S1024x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== SsdKernel.lean ====
abbrev S2x2048x2950 : Shape := ⟨3, ![2, 2048, 2950]⟩
abbrev S4x896 : Shape := ⟨2, ![4, 896]⟩
abbrev S896 : Shape := ⟨1, ![896]⟩
abbrev S6 : Shape := ⟨1, ![6]⟩
abbrev S384 : Shape := ⟨1, ![384]⟩
abbrev S2x2048x1024 : Shape := ⟨3, ![2, 2048, 1024]⟩
abbrev S128x384 : Shape := ⟨2, ![128, 384]⟩
abbrev S8x384 : Shape := ⟨2, ![8, 384]⟩
abbrev S2x2048x384 : Shape := ⟨3, ![2, 2048, 384]⟩
abbrev S2x2048x896 : Shape := ⟨3, ![2, 2048, 896]⟩
abbrev S2x2048x6 : Shape := ⟨3, ![2, 2048, 6]⟩
abbrev S2x2048x512 : Shape := ⟨3, ![2, 2048, 512]⟩
abbrev S_ : Shape := ⟨0, ![]⟩
abbrev S2x3x896 : Shape := ⟨3, ![2, 3, 896]⟩
abbrev S2x2051x896 : Shape := ⟨3, ![2, 2051, 896]⟩
abbrev S1x896 : Shape := ⟨2, ![1, 896]⟩
abbrev S1x1x896 : Shape := ⟨3, ![1, 1, 896]⟩
abbrev S2x2048x256 : Shape := ⟨3, ![2, 2048, 256]⟩
abbrev S1x1x6 : Shape := ⟨3, ![1, 1, 6]⟩
abbrev S2x2048x6x64 : Shape := ⟨4, ![2, 2048, 6, 64]⟩
abbrev S2x2048x6x1 : Shape := ⟨4, ![2, 2048, 6, 1]⟩
abbrev S2x16x128x2x3x64 : Shape := ⟨6, ![2, 16, 128, 2, 3, 64]⟩
abbrev S2x16x128x2x128 : Shape := ⟨5, ![2, 16, 128, 2, 128]⟩
abbrev S2x16x128x2x3 : Shape := ⟨5, ![2, 16, 128, 2, 3]⟩
abbrev S2x16x1x2x3 : Shape := ⟨5, ![2, 16, 1, 2, 3]⟩
abbrev S2x16x128x2x3x1 : Shape := ⟨6, ![2, 16, 128, 2, 3, 1]⟩
abbrev S2x16x2x3x64x128 : Shape := ⟨6, ![2, 16, 2, 3, 64, 128]⟩
abbrev S2x16x2x3 : Shape := ⟨4, ![2, 16, 2, 3]⟩
abbrev S2x2x3x64x128 : Shape := ⟨5, ![2, 2, 3, 64, 128]⟩
abbrev S16x2x2x3x64x128 : Shape := ⟨6, ![16, 2, 2, 3, 64, 128]⟩
abbrev S16x2x2x3 : Shape := ⟨4, ![16, 2, 2, 3]⟩
abbrev S0x2x2x3x64x128 : Shape := ⟨6, ![0, 2, 2, 3, 64, 128]⟩
abbrev S0x2x2x3 : Shape := ⟨4, ![0, 2, 2, 3]⟩
abbrev S1x2x2x3x64x128 : Shape := ⟨6, ![1, 2, 2, 3, 64, 128]⟩
abbrev S1x2x2x3 : Shape := ⟨4, ![1, 2, 2, 3]⟩
abbrev S2x2x3 : Shape := ⟨3, ![2, 2, 3]⟩
abbrev S2x2x3x1x1 : Shape := ⟨5, ![2, 2, 3, 1, 1]⟩
abbrev S6x64 : Shape := ⟨2, ![6, 64]⟩
abbrev S1x384 : Shape := ⟨2, ![1, 384]⟩
abbrev S4x384 : Shape := ⟨2, ![4, 384]⟩
abbrev S32x128x384 : Shape := ⟨3, ![32, 128, 384]⟩
abbrev S4096x896 : Shape := ⟨2, ![4096, 896]⟩
abbrev S2x2048x122 : Shape := ⟨3, ![2, 2048, 122]⟩
abbrev S2x2048x1536 : Shape := ⟨3, ![2, 2048, 1536]⟩
abbrev S2x2048x3072 : Shape := ⟨3, ![2, 2048, 3072]⟩
abbrev S4096x3072 : Shape := ⟨2, ![4096, 3072]⟩
abbrev S4096x1024 : Shape := ⟨2, ![4096, 1024]⟩
abbrev S4096x384 : Shape := ⟨2, ![4096, 384]⟩
abbrev S4096x128 : Shape := ⟨2, ![4096, 128]⟩
abbrev S512x896 : Shape := ⟨2, ![512, 896]⟩
abbrev S512x384 : Shape := ⟨2, ![512, 384]⟩
abbrev S512x128 : Shape := ⟨2, ![512, 128]⟩
abbrev S4x128x384 : Shape := ⟨3, ![4, 128, 384]⟩
abbrev S128x896 : Shape := ⟨2, ![128, 896]⟩
abbrev S128x128 : Shape := ⟨2, ![128, 128]⟩
abbrev S1x128x384 : Shape := ⟨3, ![1, 128, 384]⟩
abbrev S128x256 : Shape := ⟨2, ![128, 256]⟩
abbrev S8x128 : Shape := ⟨2, ![8, 128]⟩
abbrev S1x128 : Shape := ⟨2, ![1, 128]⟩
abbrev S128x1 : Shape := ⟨2, ![128, 1]⟩
abbrev S128 : Shape := ⟨1, ![128]⟩
abbrev S5x128 : Shape := ⟨2, ![5, 128]⟩
abbrev S6x128 : Shape := ⟨2, ![6, 128]⟩
abbrev S2x128 : Shape := ⟨2, ![2, 128]⟩
abbrev S128x320 : Shape := ⟨2, ![128, 320]⟩
abbrev S128x321 : Shape := ⟨2, ![128, 321]⟩
abbrev S128x63 : Shape := ⟨2, ![128, 63]⟩
abbrev S4x128 : Shape := ⟨2, ![4, 128]⟩
abbrev S3x128 : Shape := ⟨2, ![3, 128]⟩
abbrev S128x257 : Shape := ⟨2, ![128, 257]⟩
abbrev S128x127 : Shape := ⟨2, ![128, 127]⟩
abbrev S128x192 : Shape := ⟨2, ![128, 192]⟩
abbrev S128x193 : Shape := ⟨2, ![128, 193]⟩
abbrev S128x191 : Shape := ⟨2, ![128, 191]⟩
abbrev S128x129 : Shape := ⟨2, ![128, 129]⟩
abbrev S128x255 : Shape := ⟨2, ![128, 255]⟩
abbrev S128x64 : Shape := ⟨2, ![128, 64]⟩
abbrev S128x65 : Shape := ⟨2, ![128, 65]⟩
abbrev S128x319 : Shape := ⟨2, ![128, 319]⟩
abbrev S7x128 : Shape := ⟨2, ![7, 128]⟩
abbrev S128x383 : Shape := ⟨2, ![128, 383]⟩
abbrev S127x384 : Shape := ⟨2, ![127, 384]⟩
abbrev S384x128 : Shape := ⟨2, ![384, 128]⟩
abbrev S3x384 : Shape := ⟨2, ![3, 384]⟩
abbrev S2x384 : Shape := ⟨2, ![2, 384]⟩
abbrev S5x384 : Shape := ⟨2, ![5, 384]⟩
abbrev S6x384 : Shape := ⟨2, ![6, 384]⟩
abbrev S7x384 : Shape := ⟨2, ![7, 384]⟩
abbrev S128x640 : Shape := ⟨2, ![128, 640]⟩
abbrev S128x512 : Shape := ⟨2, ![128, 512]⟩

abbrev nBuf : Space → Nat
  | .hbm => 313
  | .vmem => 21
  | .smem => 0
  | _ => 0

abbrev hbmTy0_0 (i : Nat) : BufTy := match i % 128 with
  | 0 => ⟨S2x2048x2950, .f32⟩
  | 1 => ⟨S4x896, .f32⟩
  | 2 => ⟨S896, .f32⟩
  | 3 => ⟨S6, .f32⟩
  | 4 => ⟨S6, .f32⟩
  | 5 => ⟨S6, .f32⟩
  | 6 => ⟨S384, .f32⟩
  | 7 => ⟨S2x2048x1024, .f32⟩
  | 8 => ⟨S128x384, .f32⟩
  | 9 => ⟨S8x384, .f32⟩
  | 10 => ⟨S2x2048x384, .f32⟩
  | 11 => ⟨S2x2048x384, .f32⟩
  | 12 => ⟨S2x2048x384, .f32⟩
  | 13 => ⟨S2x2048x384, .f32⟩
  | 14 => ⟨S2x2048x896, .f32⟩
  | 15 => ⟨S2x2048x6, .f32⟩
  | 16 => ⟨S2x2048x512, .f32⟩
  | 17 => ⟨S_, .f32⟩
  | 18 => ⟨S2x3x896, .f32⟩
  | 19 => ⟨S2x2051x896, .f32⟩
  | 20 => ⟨S2x2048x896, .f32⟩
  | 21 => ⟨S1x896, .f32⟩
  | 22 => ⟨S896, .f32⟩
  | 23 => ⟨S1x1x896, .f32⟩
  | 24 => ⟨S2x2048x896, .f32⟩
  | 25 => ⟨S2x2048x896, .f32⟩
  | 26 => ⟨S_, .f32⟩
  | 27 => ⟨S2x2048x896, .f32⟩
  | 28 => ⟨S2x2048x896, .f32⟩
  | 29 => ⟨S2x2048x896, .f32⟩
  | 30 => ⟨S1x896, .f32⟩
  | 31 => ⟨S896, .f32⟩
  | 32 => ⟨S1x1x896, .f32⟩
  | 33 => ⟨S2x2048x896, .f32⟩
  | 34 => ⟨S2x2048x896, .f32⟩
  | 35 => ⟨S2x2048x896, .f32⟩
  | 36 => ⟨S2x2048x896, .f32⟩
  | 37 => ⟨S1x896, .f32⟩
  | 38 => ⟨S896, .f32⟩
  | 39 => ⟨S1x1x896, .f32⟩
  | 40 => ⟨S2x2048x896, .f32⟩
  | 41 => ⟨S2x2048x896, .f32⟩
  | 42 => ⟨S2x2048x896, .f32⟩
  | 43 => ⟨S2x2048x896, .f32⟩
  | 44 => ⟨S1x896, .f32⟩
  | 45 => ⟨S896, .f32⟩
  | 46 => ⟨S1x1x896, .f32⟩
  | 47 => ⟨S2x2048x896, .f32⟩
  | 48 => ⟨S2x2048x896, .f32⟩
  | 49 => ⟨S2x2048x896, .f32⟩
  | 50 => ⟨S1x1x896, .f32⟩
  | 51 => ⟨S2x2048x896, .f32⟩
  | 52 => ⟨S2x2048x896, .f32⟩
  | 53 => ⟨S2x2048x896, .f32⟩
  | 54 => ⟨S2x2048x896, .f32⟩
  | 55 => ⟨S_, .f32⟩
  | 56 => ⟨S2x2048x896, .f32⟩
  | 57 => ⟨S2x2048x896, .f32⟩
  | 58 => ⟨S_, .f32⟩
  | 59 => ⟨S2x2048x896, .f32⟩
  | 60 => ⟨S2x2048x896, .f32⟩
  | 61 => ⟨S2x2048x896, .f32⟩
  | 62 => ⟨S2x2048x384, .f32⟩
  | 63 => ⟨S2x2048x256, .f32⟩
  | 64 => ⟨S2x2048x256, .f32⟩
  | 65 => ⟨S1x1x6, .f32⟩
  | 66 => ⟨S2x2048x6, .f32⟩
  | 67 => ⟨S2x2048x6, .f32⟩
  | 68 => ⟨S_, .f32⟩
  | 69 => ⟨S2x2048x6, .f32⟩
  | 70 => ⟨S2x2048x6, .f32⟩
  | 71 => ⟨S2x2048x6, .f32⟩
  | 72 => ⟨S2x2048x6, .f32⟩
  | 73 => ⟨S2x2048x6, .i1⟩
  | 74 => ⟨S2x2048x6, .f32⟩
  | 75 => ⟨S2x2048x6, .f32⟩
  | 76 => ⟨S2x2048x6, .f32⟩
  | 77 => ⟨S2x2048x6, .f32⟩
  | 78 => ⟨S2x2048x6, .f32⟩
  | 79 => ⟨S2x2048x6, .f32⟩
  | 80 => ⟨S2x2048x6, .f32⟩
  | 81 => ⟨S2x2048x6, .f32⟩
  | 82 => ⟨S6, .f32⟩
  | 83 => ⟨S6, .f32⟩
  | 84 => ⟨S1x1x6, .f32⟩
  | 85 => ⟨S2x2048x6, .f32⟩
  | 86 => ⟨S2x2048x6, .f32⟩
  | 87 => ⟨S2x2048x6x64, .f32⟩
  | 88 => ⟨S2x2048x6x1, .f32⟩
  | 89 => ⟨S2x2048x6x64, .f32⟩
  | 90 => ⟨S2x2048x6x64, .f32⟩
  | 91 => ⟨S2x16x128x2x3x64, .f32⟩
  | 92 => ⟨S2x16x128x2x128, .f32⟩
  | 93 => ⟨S2x16x128x2x3, .f32⟩
  | 94 => ⟨S_, .f32⟩
  | 95 => ⟨S_, .f32⟩
  | 96 => ⟨S2x16x128x2x3, .f32⟩
  | 97 => ⟨S2x16x1x2x3, .f32⟩
  | 98 => ⟨S2x16x128x2x3, .f32⟩
  | 99 => ⟨S2x16x128x2x3, .f32⟩
  | 100 => ⟨S2x16x128x2x3, .f32⟩
  | 101 => ⟨S2x16x128x2x3x1, .f32⟩
  | 102 => ⟨S2x16x128x2x3x64, .f32⟩
  | 103 => ⟨S2x16x128x2x3x64, .f32⟩
  | 104 => ⟨S2x16x2x3x64x128, .f32⟩
  | 105 => ⟨S2x16x1x2x3, .f32⟩
  | 106 => ⟨S2x16x2x3, .f32⟩
  | 107 => ⟨S2x16x2x3, .f32⟩
  | 108 => ⟨S_, .f32⟩
  | 109 => ⟨S2x2x3x64x128, .f32⟩
  | 110 => ⟨S16x2x2x3x64x128, .f32⟩
  | 111 => ⟨S16x2x2x3, .f32⟩
  | 112 => ⟨S0x2x2x3x64x128, .f32⟩
  | 113 => ⟨S16x2x2x3x64x128, .f32⟩
  | 114 => ⟨S0x2x2x3, .f32⟩
  | 115 => ⟨S16x2x2x3, .f32⟩
  | 116 => ⟨S_, .f32⟩
  | 117 => ⟨S0x2x2x3x64x128, .f32⟩
  | 118 => ⟨S1x2x2x3x64x128, .f32⟩
  | 119 => ⟨S2x2x3x64x128, .f32⟩
  | 120 => ⟨S1x2x2x3, .f32⟩
  | 121 => ⟨S2x2x3, .f32⟩
  | 122 => ⟨S2x2x3x1x1, .f32⟩
  | 123 => ⟨S2x2x3x64x128, .f32⟩
  | 124 => ⟨S2x2x3x64x128, .f32⟩
  | 125 => ⟨S2x2x3x64x128, .f32⟩
  | 126 => ⟨S1x2x2x3x64x128, .f32⟩
  | 127 => ⟨S2x2x3x64x128, .f32⟩
  | _ => ⟨S2x2048x2950, .f32⟩

abbrev hbmTy0_1 (i : Nat) : BufTy := match i % 128 with
  | 0 => ⟨S1x2x2x3, .f32⟩
  | 1 => ⟨S2x2x3, .f32⟩
  | 2 => ⟨S2x2x3x1x1, .f32⟩
  | 3 => ⟨S2x2x3x64x128, .f32⟩
  | 4 => ⟨S2x2x3x64x128, .f32⟩
  | 5 => ⟨S2x2x3x64x128, .f32⟩
  | 6 => ⟨S1x2x2x3x64x128, .f32⟩
  | 7 => ⟨S2x2x3x64x128, .f32⟩
  | 8 => ⟨S1x2x2x3, .f32⟩
  | 9 => ⟨S2x2x3, .f32⟩
  | 10 => ⟨S2x2x3x1x1, .f32⟩
  | 11 => ⟨S2x2x3x64x128, .f32⟩
  | 12 => ⟨S2x2x3x64x128, .f32⟩
  | 13 => ⟨S2x2x3x64x128, .f32⟩
  | 14 => ⟨S1x2x2x3x64x128, .f32⟩
  | 15 => ⟨S2x2x3x64x128, .f32⟩
  | 16 => ⟨S1x2x2x3, .f32⟩
  | 17 => ⟨S2x2x3, .f32⟩
  | 18 => ⟨S2x2x3x1x1, .f32⟩
  | 19 => ⟨S2x2x3x64x128, .f32⟩
  | 20 => ⟨S2x2x3x64x128, .f32⟩
  | 21 => ⟨S2x2x3x64x128, .f32⟩
  | 22 => ⟨S1x2x2x3x64x128, .f32⟩
  | 23 => ⟨S2x2x3x64x128, .f32⟩
  | 24 => ⟨S1x2x2x3, .f32⟩
  | 25 => ⟨S2x2x3, .f32⟩
  | 26 => ⟨S2x2x3x1x1, .f32⟩
  | 27 => ⟨S2x2x3x64x128, .f32⟩
  | 28 => ⟨S2x2x3x64x128, .f32⟩
  | 29 => ⟨S2x2x3x64x128, .f32⟩
  | 30 => ⟨S1x2x2x3x64x128, .f32⟩
  | 31 => ⟨S2x2x3x64x128, .f32⟩
  | 32 => ⟨S1x2x2x3, .f32⟩
  | 33 => ⟨S2x2x3, .f32⟩
  | 34 => ⟨S2x2x3x1x1, .f32⟩
  | 35 => ⟨S2x2x3x64x128, .f32⟩
  | 36 => ⟨S2x2x3x64x128, .f32⟩
  | 37 => ⟨S2x2x3x64x128, .f32⟩
  | 38 => ⟨S1x2x2x3x64x128, .f32⟩
  | 39 => ⟨S2x2x3x64x128, .f32⟩
  | 40 => ⟨S1x2x2x3, .f32⟩
  | 41 => ⟨S2x2x3, .f32⟩
  | 42 => ⟨S2x2x3x1x1, .f32⟩
  | 43 => ⟨S2x2x3x64x128, .f32⟩
  | 44 => ⟨S2x2x3x64x128, .f32⟩
  | 45 => ⟨S2x2x3x64x128, .f32⟩
  | 46 => ⟨S1x2x2x3x64x128, .f32⟩
  | 47 => ⟨S2x2x3x64x128, .f32⟩
  | 48 => ⟨S1x2x2x3, .f32⟩
  | 49 => ⟨S2x2x3, .f32⟩
  | 50 => ⟨S2x2x3x1x1, .f32⟩
  | 51 => ⟨S2x2x3x64x128, .f32⟩
  | 52 => ⟨S2x2x3x64x128, .f32⟩
  | 53 => ⟨S2x2x3x64x128, .f32⟩
  | 54 => ⟨S1x2x2x3x64x128, .f32⟩
  | 55 => ⟨S2x2x3x64x128, .f32⟩
  | 56 => ⟨S1x2x2x3, .f32⟩
  | 57 => ⟨S2x2x3, .f32⟩
  | 58 => ⟨S2x2x3x1x1, .f32⟩
  | 59 => ⟨S2x2x3x64x128, .f32⟩
  | 60 => ⟨S2x2x3x64x128, .f32⟩
  | 61 => ⟨S2x2x3x64x128, .f32⟩
  | 62 => ⟨S1x2x2x3x64x128, .f32⟩
  | 63 => ⟨S2x2x3x64x128, .f32⟩
  | 64 => ⟨S1x2x2x3, .f32⟩
  | 65 => ⟨S2x2x3, .f32⟩
  | 66 => ⟨S2x2x3x1x1, .f32⟩
  | 67 => ⟨S2x2x3x64x128, .f32⟩
  | 68 => ⟨S2x2x3x64x128, .f32⟩
  | 69 => ⟨S2x2x3x64x128, .f32⟩
  | 70 => ⟨S1x2x2x3x64x128, .f32⟩
  | 71 => ⟨S2x2x3x64x128, .f32⟩
  | 72 => ⟨S1x2x2x3, .f32⟩
  | 73 => ⟨S2x2x3, .f32⟩
  | 74 => ⟨S2x2x3x1x1, .f32⟩
  | 75 => ⟨S2x2x3x64x128, .f32⟩
  | 76 => ⟨S2x2x3x64x128, .f32⟩
  | 77 => ⟨S2x2x3x64x128, .f32⟩
  | 78 => ⟨S1x2x2x3x64x128, .f32⟩
  | 79 => ⟨S2x2x3x64x128, .f32⟩
  | 80 => ⟨S1x2x2x3, .f32⟩
  | 81 => ⟨S2x2x3, .f32⟩
  | 82 => ⟨S2x2x3x1x1, .f32⟩
  | 83 => ⟨S2x2x3x64x128, .f32⟩
  | 84 => ⟨S2x2x3x64x128, .f32⟩
  | 85 => ⟨S2x2x3x64x128, .f32⟩
  | 86 => ⟨S1x2x2x3x64x128, .f32⟩
  | 87 => ⟨S2x2x3x64x128, .f32⟩
  | 88 => ⟨S1x2x2x3, .f32⟩
  | 89 => ⟨S2x2x3, .f32⟩
  | 90 => ⟨S2x2x3x1x1, .f32⟩
  | 91 => ⟨S2x2x3x64x128, .f32⟩
  | 92 => ⟨S2x2x3x64x128, .f32⟩
  | 93 => ⟨S2x2x3x64x128, .f32⟩
  | 94 => ⟨S1x2x2x3x64x128, .f32⟩
  | 95 => ⟨S2x2x3x64x128, .f32⟩
  | 96 => ⟨S1x2x2x3, .f32⟩
  | 97 => ⟨S2x2x3, .f32⟩
  | 98 => ⟨S2x2x3x1x1, .f32⟩
  | 99 => ⟨S2x2x3x64x128, .f32⟩
  | 100 => ⟨S2x2x3x64x128, .f32⟩
  | 101 => ⟨S2x2x3x64x128, .f32⟩
  | 102 => ⟨S1x2x2x3x64x128, .f32⟩
  | 103 => ⟨S2x2x3x64x128, .f32⟩
  | 104 => ⟨S1x2x2x3, .f32⟩
  | 105 => ⟨S2x2x3, .f32⟩
  | 106 => ⟨S2x2x3x1x1, .f32⟩
  | 107 => ⟨S2x2x3x64x128, .f32⟩
  | 108 => ⟨S2x2x3x64x128, .f32⟩
  | 109 => ⟨S2x2x3x64x128, .f32⟩
  | 110 => ⟨S1x2x2x3x64x128, .f32⟩
  | 111 => ⟨S2x2x3x64x128, .f32⟩
  | 112 => ⟨S1x2x2x3, .f32⟩
  | 113 => ⟨S2x2x3, .f32⟩
  | 114 => ⟨S2x2x3x1x1, .f32⟩
  | 115 => ⟨S2x2x3x64x128, .f32⟩
  | 116 => ⟨S2x2x3x64x128, .f32⟩
  | 117 => ⟨S2x2x3x64x128, .f32⟩
  | 118 => ⟨S1x2x2x3x64x128, .f32⟩
  | 119 => ⟨S1x2x2x3x64x128, .f32⟩
  | 120 => ⟨S1x2x2x3x64x128, .f32⟩
  | 121 => ⟨S1x2x2x3x64x128, .f32⟩
  | 122 => ⟨S1x2x2x3x64x128, .f32⟩
  | 123 => ⟨S1x2x2x3x64x128, .f32⟩
  | 124 => ⟨S1x2x2x3x64x128, .f32⟩
  | 125 => ⟨S1x2x2x3x64x128, .f32⟩
  | 126 => ⟨S1x2x2x3x64x128, .f32⟩
  | 127 => ⟨S1x2x2x3x64x128, .f32⟩
  | _ => ⟨S2x2048x2950, .f32⟩

abbrev hbmTy0_2 (i : Nat) : BufTy := match i % 128 with
  | 0 => ⟨S1x2x2x3x64x128, .f32⟩
  | 1 => ⟨S1x2x2x3x64x128, .f32⟩
  | 2 => ⟨S1x2x2x3x64x128, .f32⟩
  | 3 => ⟨S1x2x2x3x64x128, .f32⟩
  | 4 => ⟨S1x2x2x3x64x128, .f32⟩
  | 5 => ⟨S1x2x2x3x64x128, .f32⟩
  | 6 => ⟨S16x2x2x3x64x128, .f32⟩
  | 7 => ⟨S16x2x2x3x64x128, .f32⟩
  | 8 => ⟨S2x16x2x3x64x128, .f32⟩
  | 9 => ⟨S6x64, .f32⟩
  | 10 => ⟨S384, .f32⟩
  | 11 => ⟨S6x64, .f32⟩
  | 12 => ⟨S384, .f32⟩
  | 13 => ⟨S6x64, .f32⟩
  | 14 => ⟨S384, .f32⟩
  | 15 => ⟨S1x384, .f32⟩
  | 16 => ⟨S1x384, .f32⟩
  | 17 => ⟨S1x384, .f32⟩
  | 18 => ⟨S1x384, .f32⟩
  | 19 => ⟨S4x384, .f32⟩
  | 20 => ⟨S_, .i32⟩
  | 21 => ⟨S_, .f32⟩
  | 22 => ⟨S8x384, .f32⟩
  | 23 => ⟨S2x16x128x2x3x64, .f32⟩
  | 24 => ⟨S32x128x384, .f32⟩
  | 25 => ⟨S4096x896, .f32⟩
  | 26 => ⟨S_, .f32⟩
  | 27 => ⟨S2x2048x122, .f32⟩
  | 28 => ⟨S2x2048x1536, .f32⟩
  | 29 => ⟨S2x2048x256, .f32⟩
  | 30 => ⟨S2x2048x896, .f32⟩
  | 31 => ⟨S2x2048x6, .f32⟩
  | 32 => ⟨S2x2048x256, .f32⟩
  | 33 => ⟨S2x2048x3072, .f32⟩
  | 34 => ⟨S4096x3072, .f32⟩
  | 35 => ⟨S4096x1024, .f32⟩
  | 36 => ⟨S4096x896, .f32⟩
  | 37 => ⟨S4096x384, .bf16⟩
  | 38 => ⟨S4096x128, .bf16⟩
  | 39 => ⟨S8x384, .f32⟩
  | 40 => ⟨S1x384, .f32⟩
  | 41 => ⟨S384, .f32⟩
  | 42 => ⟨S6x64, .f32⟩
  | 43 => ⟨S_, .f32⟩
  | 44 => ⟨S6, .f32⟩
  | 45 => ⟨S1x384, .f32⟩
  | 46 => ⟨S384, .f32⟩
  | 47 => ⟨S6x64, .f32⟩
  | 48 => ⟨S_, .f32⟩
  | 49 => ⟨S6, .f32⟩
  | 50 => ⟨S1x384, .f32⟩
  | 51 => ⟨S384, .f32⟩
  | 52 => ⟨S6x64, .f32⟩
  | 53 => ⟨S_, .f32⟩
  | 54 => ⟨S6, .f32⟩
  | 55 => ⟨S1x384, .f32⟩
  | 56 => ⟨S384, .f32⟩
  | _ => ⟨S2x2048x2950, .f32⟩

abbrev hbmTy (i : Nat) : BufTy := match i / 128 with
  | 0 => hbmTy0_0 i
  | 1 => hbmTy0_1 i
  | 2 => hbmTy0_2 i
  | _ => ⟨S2x2048x2950, .f32⟩

abbrev bufTy : (tb : Table) → Fin (tcTables nBuf tb) → BufTy
  | .hbm, ⟨i, _⟩ => hbmTy i
  | .local _ .vmem, ⟨0, _⟩ => ⟨S512x896, .f32⟩
  | .local _ .vmem, ⟨1, _⟩ => ⟨S512x896, .f32⟩
  | .local _ .vmem, ⟨2, _⟩ => ⟨S512x384, .f32⟩
  | .local _ .vmem, ⟨3, _⟩ => ⟨S512x384, .f32⟩
  | .local _ .vmem, ⟨4, _⟩ => ⟨S512x128, .f32⟩
  | .local _ .vmem, ⟨5, _⟩ => ⟨S512x128, .f32⟩
  | .local _ .vmem, ⟨6, _⟩ => ⟨S4x128x384, .f32⟩
  | .local _ .vmem, ⟨7, _⟩ => ⟨S4x128x384, .f32⟩
  | .local _ .vmem, ⟨8, _⟩ => ⟨S512x384, .f32⟩
  | .local _ .vmem, ⟨9, _⟩ => ⟨S512x384, .f32⟩
  | .local _ .vmem, ⟨10, _⟩ => ⟨S8x384, .f32⟩
  | .local _ .vmem, ⟨11, _⟩ => ⟨S128x384, .f32⟩
  | .local _ .vmem, ⟨12, _⟩ => ⟨S8x384, .f32⟩
  | .local _ .vmem, ⟨13, _⟩ => ⟨S512x896, .f32⟩
  | .local _ .vmem, ⟨14, _⟩ => ⟨S512x896, .f32⟩
  | .local _ .vmem, ⟨15, _⟩ => ⟨S512x384, .bf16⟩
  | .local _ .vmem, ⟨16, _⟩ => ⟨S512x384, .bf16⟩
  | .local _ .vmem, ⟨17, _⟩ => ⟨S512x128, .bf16⟩
  | .local _ .vmem, ⟨18, _⟩ => ⟨S512x128, .bf16⟩
  | .local _ .vmem, ⟨19, _⟩ => ⟨S8x384, .f32⟩
  | .local _ .vmem, ⟨20, _⟩ => ⟨S128x384, .f32⟩
  | _, _ => ⟨S2x2048x2950, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call2_call0_cst : Ref sig .tc := ⟨.hbm, 94, rfl⟩
abbrev main_call2_call0_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_3 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_4 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_c : Ref sig .tc := ⟨.hbm, 276, rfl⟩
abbrev main_call3_v0 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_cst_5 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252_0 : Ref sig .tc := ⟨.hbm, 292, rfl⟩
abbrev main_v252_1 : Ref sig .tc := ⟨.hbm, 293, rfl⟩
abbrev main_v252_2 : Ref sig .tc := ⟨.hbm, 294, rfl⟩
abbrev main_v252_3 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_cst_6 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_cst_7 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_cst_8 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c3_i32_0 : BitVec 32 := 3#32
  let c0_i32 : BitVec 32 := 0#32
  ![v2.toNat, c3_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c21_i32 : BitVec 32 := 21#32
  let c0_i32 : BitVec 32 := 0#32
  ![v2.toNat, c21_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c1_i32 : BitVec 32 := 1#32
  let c0_i32 : BitVec 32 := 0#32
  ![v2.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c3_i32 : BitVec 32 := 3#32
  let v1 : BitVec 32 := Scalar.subi c3_i32 arg1
  let v2 : BitVec 32 := Scalar.addi v0 v1
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ConvFwdKernel.lean ====
abbrev S2x2048x2950 : Shape := ⟨3, ![2, 2048, 2950]⟩
abbrev S4x896 : Shape := ⟨2, ![4, 896]⟩
abbrev S896 : Shape := ⟨1, ![896]⟩
abbrev S_ : Shape := ⟨0, ![]⟩
abbrev S8x896 : Shape := ⟨2, ![8, 896]⟩
abbrev S2x2048x122 : Shape := ⟨3, ![2, 2048, 122]⟩
abbrev S2x2048x1536 : Shape := ⟨3, ![2, 2048, 1536]⟩
abbrev S2x2048x256 : Shape := ⟨3, ![2, 2048, 256]⟩
abbrev S2x2048x896 : Shape := ⟨3, ![2, 2048, 896]⟩
abbrev S2x2048x6 : Shape := ⟨3, ![2, 2048, 6]⟩
abbrev S2x2048x3072 : Shape := ⟨3, ![2, 2048, 3072]⟩
abbrev S4096x3072 : Shape := ⟨2, ![4096, 3072]⟩
abbrev S1x896 : Shape := ⟨2, ![1, 896]⟩
abbrev S4096x896 : Shape := ⟨2, ![4096, 896]⟩
abbrev S2048x128 : Shape := ⟨2, ![2048, 128]⟩
abbrev S8x128 : Shape := ⟨2, ![8, 128]⟩
abbrev S1x128 : Shape := ⟨2, ![1, 128]⟩
abbrev S2048x1 : Shape := ⟨2, ![2048, 1]⟩

abbrev nBuf : Space → Nat
  | .hbm => 17
  | .vmem => 8
  | .smem => 0
  | _ => 0

abbrev bufTy : (tb : Table) → Fin (tcTables nBuf tb) → BufTy
  | .hbm, ⟨0, _⟩ => ⟨S2x2048x2950, .f32⟩
  | .hbm, ⟨1, _⟩ => ⟨S4x896, .f32⟩
  | .hbm, ⟨2, _⟩ => ⟨S896, .f32⟩
  | .hbm, ⟨3, _⟩ => ⟨S_, .i32⟩
  | .hbm, ⟨4, _⟩ => ⟨S_, .f32⟩
  | .hbm, ⟨5, _⟩ => ⟨S8x896, .f32⟩
  | .hbm, ⟨6, _⟩ => ⟨S_, .f32⟩
  | .hbm, ⟨7, _⟩ => ⟨S2x2048x122, .f32⟩
  | .hbm, ⟨8, _⟩ => ⟨S2x2048x1536, .f32⟩
  | .hbm, ⟨9, _⟩ => ⟨S2x2048x256, .f32⟩
  | .hbm, ⟨10, _⟩ => ⟨S2x2048x896, .f32⟩
  | .hbm, ⟨11, _⟩ => ⟨S2x2048x6, .f32⟩
  | .hbm, ⟨12, _⟩ => ⟨S2x2048x256, .f32⟩
  | .hbm, ⟨13, _⟩ => ⟨S2x2048x3072, .f32⟩
  | .hbm, ⟨14, _⟩ => ⟨S4096x3072, .f32⟩
  | .hbm, ⟨15, _⟩ => ⟨S1x896, .f32⟩
  | .hbm, ⟨16, _⟩ => ⟨S4096x896, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S2x2048x2950, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdReferenceIdeal.lean ====
abbrev S2x2048x2950 : Shape := ⟨3, ![2, 2048, 2950]⟩
abbrev S4x896 : Shape := ⟨2, ![4, 896]⟩
abbrev S896 : Shape := ⟨1, ![896]⟩
abbrev S2x2048x384 : Shape := ⟨3, ![2, 2048, 384]⟩
abbrev S2x2048x896 : Shape := ⟨3, ![2, 2048, 896]⟩
abbrev S2x2048x6 : Shape := ⟨3, ![2, 2048, 6]⟩
abbrev S2x2048x512 : Shape := ⟨3, ![2, 2048, 512]⟩
abbrev S_ : Shape := ⟨0, ![]⟩
abbrev S2x3x896 : Shape := ⟨3, ![2, 3, 896]⟩
abbrev S2x2051x896 : Shape := ⟨3, ![2, 2051, 896]⟩
abbrev S1x896 : Shape := ⟨2, ![1, 896]⟩
abbrev S1x1x896 : Shape := ⟨3, ![1, 1, 896]⟩
abbrev S4096x896 : Shape := ⟨2, ![4096, 896]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x2950, .f32⟩
  | .hbm, ⟨1, _⟩ => ⟨S4x896, .f32⟩
  | .hbm, ⟨2, _⟩ => ⟨S896, .f32⟩
  | .hbm, ⟨3, _⟩ => ⟨S2x2048x384, .f32⟩
  | .hbm, ⟨4, _⟩ => ⟨S2x2048x384, .f32⟩
  | .hbm, ⟨5, _⟩ => ⟨S2x2048x384, .f32⟩
  | .hbm, ⟨6, _⟩ => ⟨S2x2048x384, .f32⟩
  | .hbm, ⟨7, _⟩ => ⟨S2x2048x896, .f32⟩
  | .hbm, ⟨8, _⟩ => ⟨S2x2048x6, .f32⟩
  | .hbm, ⟨9, _⟩ => ⟨S2x2048x512, .f32⟩
  | .hbm, ⟨10, _⟩ => ⟨S_, .f32⟩
  | .hbm, ⟨11, _⟩ => ⟨S2x3x896, .f32⟩
  | .hbm, ⟨12, _⟩ => ⟨S2x2051x896, .f32⟩
  | .hbm, ⟨13, _⟩ => ⟨S2x2048x896, .f32⟩
  | .hbm, ⟨14, _⟩ => ⟨S1x896, .f32⟩
  | .hbm, ⟨15, _⟩ => ⟨S896, .f32⟩
  | .hbm, ⟨16, _⟩ => ⟨S1x1x896, .f32⟩
  | .hbm, ⟨17, _⟩ => ⟨S2x2048x896, .f32⟩
  | .hbm, ⟨18, _⟩ => ⟨S2x2048x896, .f32⟩
  | .hbm, ⟨19, _⟩ => ⟨S_, .f32⟩
  | .hbm, ⟨20, _⟩ => ⟨S2x2048x896, .f32⟩
  | .hbm, ⟨21, _⟩ => ⟨S2x2048x896, .f32⟩
  | .hbm, ⟨22, _⟩ => ⟨S2x2048x896, .f32⟩
  | .hbm, ⟨23, _⟩ => ⟨S1x896, .f32⟩
  | .hbm, ⟨24, _⟩ => ⟨S896, .f32⟩
  | .hbm, ⟨25, _⟩ => ⟨S1x1x896, .f32⟩
  | .hbm, ⟨26, _⟩ => ⟨S2x2048x896, .f32⟩
  | .hbm, ⟨27, _⟩ => ⟨S2x2048x896, .f32⟩
  | .hbm, ⟨28, _⟩ => ⟨S2x2048x896, .f32⟩
  | .hbm, ⟨29, _⟩ => ⟨S2x2048x896, .f32⟩
  | .hbm, ⟨30, _⟩ => ⟨S1x896, .f32⟩
  | .hbm, ⟨31, _⟩ => ⟨S896, .f32⟩
  | .hbm, ⟨32, _⟩ => ⟨S1x1x896, .f32⟩
  | .hbm, ⟨33, _⟩ => ⟨S2x2048x896, .f32⟩
  | .hbm, ⟨34, _⟩ => ⟨S2x2048x896, .f32⟩
  | .hbm, ⟨35, _⟩ => ⟨S2x2048x896, .f32⟩
  | .hbm, ⟨36, _⟩ => ⟨S2x2048x896, .f32⟩
  | .hbm, ⟨37, _⟩ => ⟨S1x896, .f32⟩
  | .hbm, ⟨38, _⟩ => ⟨S896, .f32⟩
  | .hbm, ⟨39, _⟩ => ⟨S1x1x896, .f32⟩
  | .hbm, ⟨40, _⟩ => ⟨S2x2048x896, .f32⟩
  | .hbm, ⟨41, _⟩ => ⟨S2x2048x896, .f32⟩
  | .hbm, ⟨42, _⟩ => ⟨S2x2048x896, .f32⟩
  | .hbm, ⟨43, _⟩ => ⟨S1x1x896, .f32⟩
  | .hbm, ⟨44, _⟩ => ⟨S2x2048x896, .f32⟩
  | .hbm, ⟨45, _⟩ => ⟨S2x2048x896, .f32⟩
  | .hbm, ⟨46, _⟩ => ⟨S4096x896, .f32⟩
  | _, _ => ⟨S2x2048x2950, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]
-- ==== Proof.Common.Reals.lean ====
/- Facts about the extended reals that every equation here uses: the operations on (images of) real numbers, the constants
   the programs spell as words, the reading of the finiteness test, and the host's sum over the two leading axes. -/
module

public import Idealize.ShloMosaic.Lib.Pipeline.Value
public import Idealize.ShloMosaic.Lib.Pointwise
public import Idealize.ShloMosaic.Lib.ReduceAll
public import Idealize.ShloMosaic.PureOps.Ideal.Laws
public import Mathlib.Tactic.FieldSimp
public import Mathlib.Tactic.Ring
public import Mathlib.Tactic.Positivity

@[expose] public section

noncomputable section

open Idealize.ShloMosaic Idealize.ShloMosaic.TcCoe
open scoped BigOperators

namespace Cert.Reals

/-- A finite sum of reals is the same sum of their images. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, one_div, div_eq_mul_inv]

theorem rsqrt_real {x : ℝ} (h : 0 < x) : Ideal.rsqrt (x : EReal) = (((√x)⁻¹ : ℝ) : EReal) := by
  rw [Ideal.rsqrt_coe, if_neg (not_lt.2 h.le), if_neg h.ne']

/-- The number added under the root of a norm, as the programs spell it. -/
def eps : ℝ := 8796093 / 8796093022208

theorem eps_pos : 0 < eps := by unfold eps; positivity

theorem ofBits_eps : Ideal.ofBits .f32 0x358637BD#32 = ((eps : ℝ) : EReal) := by
  simp only [Ideal.ofBits, Ideal.ieee, eps]; simp; rw [← EReal.coe_mul]; norm_num

theorem ofBits_1024 : Ideal.ofBits .f32 0x44800000#32 = ((1024 : ℝ) : EReal) := by
  simp only [Ideal.ofBits, Ideal.ieee]; simp; rw [← EReal.coe_mul]; norm_num

theorem ofBits_half : Ideal.ofBits .f32 0x3F000000#32 = ((1 / 2 : ℝ) : EReal) := by
  simp only [Ideal.ofBits, Ideal.ieee]; simp; rw [← EReal.coe_mul]; norm_num

theorem ofBits_two : Ideal.ofBits .f32 0x40000000#32 = ((2 : ℝ) : EReal) := by
  simp only [Ideal.ofBits, Ideal.ieee]; simp; rw [← EReal.coe_mul]; norm_num

theorem ofBits_inv1024 : Ideal.ofBits .f32 0x3A800000#32 = ((1 / 1024 : ℝ) : EReal) := by
  simp only [Ideal.ofBits, Ideal.ieee]; simp; rw [← EReal.coe_mul]; norm_num

theorem ofBits_one : Ideal.ofBits .f32 0x3F800000#32 = ((1 : ℝ) : EReal) := by
  simp only [Ideal.ofBits, Ideal.ieee]; simp; rw [← EReal.coe_mul]; norm_num

theorem ofBits_neg_half : Ideal.ofBits .f32 0xBF000000#32 = ((-1 / 2 : ℝ) : EReal) := by
  simp only [Ideal.ofBits, Ideal.ieee]; simp; rw [← EReal.coe_mul, ← EReal.coe_neg]; norm_num

theorem ofBits_inf : Ideal.ofBits .f32 0x7F800000#32 = ⊤ := by simp [Ideal.ofBits, Ideal.ieee]

/-- An extended real whose absolute value lies below the largest one is a real number. -/
theorem real_of_abs_lt {x : EReal} (h : FloatOps.cmpf (F := Ideal) (φ := .f32) .olt (max x (-x)) ⊤ = 1#1) : x = ((x.toReal : ℝ) : EReal) := by
  have h' : max x (-x) < ⊤ := by
    by_contra hn
    simp [Ideal.cmpf_def, Ideal.cmp, hn] at h
  refine (EReal.coe_toReal ?_ ?_).symm
  · rintro rfl; simp at h'
  · rintro rfl; simp at h'

/-- The host's sum of a three-axis array over its two leading axes. -/
theorem hostReduceAdd_rows {a b n : Nat} (h : (⟨3, ![a, b, n]⟩ : Shape).ReducesTo [0, 1] ⟨1, ![n]⟩)
    (x : (⟨3, ![a, b, n]⟩ : Shape).Idx → EReal) (init : EReal) (j : (⟨1, ![n]⟩ : Shape).Idx) :
    Ideal.hostReduceAdd h x init j = init + ∑ p : Fin a, ∑ q : Fin b, x (ix3 p q (j 0)) := by
  unfold Ideal.hostReduceAdd
  congr 1
  rw [← Fintype.sum_prod_type']
  symm
  refine Finset.sum_bij' (fun pq _ => ix3 pq.1 pq.2 (j 0)) (fun i _ => (i 0, i 1)) ?_ ?_ ?_ ?_ ?_
  · intro pq _
    simp only [Finset.mem_filter, Finset.mem_univ, true_and]
    funext d
    match d with
    | ⟨0, _⟩ => rfl
  · intro i _; simp
  · intro pq _; rfl
  · intro i hi
    simp only [Finset.mem_filter, Finset.mem_univ, true_and] at hi
    subst hi
    funext d
    match d with
    | ⟨0, _⟩ => rfl
    | ⟨1, _⟩ => rfl
    | ⟨2, _⟩ => rfl
  · intro pq _; rfl

/-- A sum over all of `0, …, a·b − 1` taken in `a` runs of `b`. -/
theorem sum_runs {M : Type*} [AddCommMonoid M] (a b : Nat) (f : Nat → M) :
    ∑ p : Fin a, ∑ q : Fin b, f (b * p.val + q.val) = ∑ n ∈ Finset.range (a * b), f n := by
  rw [← Fin.sum_univ_eq_sum_range, ← Fintype.sum_prod_type', ← finProdFinEquiv.sum_comp]
  refine Finset.sum_congr rfl fun x _ => ?_
  congr 1
  simp only [finProdFinEquiv, Equiv.coe_fn_mk]
  omega

/-- Row `n` of a real array of 2 · 2048 rows, the rows counted through. -/
def rowN {w : Nat} (X : (⟨3, ![2, 2048, w]⟩ : Shape).Idx → ℝ) (n : Nat) (k : Fin w) : ℝ :=
  X (ix3 (⟨n / 2048 % 2, Nat.mod_lt _ (by decide)⟩ : Fin 2) (⟨n % 2048, Nat.mod_lt _ (by decide)⟩ : Fin 2048) k)

theorem rowN_congr {w : Nat} (X : (⟨3, ![2, 2048, w]⟩ : Shape).Idx → ℝ) {n n' : Nat} {k k' : Fin w} (hn : n = n')
    (hk : k.val = k'.val) : ((rowN X n k : ℝ) : EReal) = ((rowN X n' k' : ℝ) : EReal) := by
  rw [hn, Fin.ext hk]

/-- A three-axis array of 2 · 2048 rows laid out as 4096 rows. -/
theorem rows_apply {w : Nat} (X : (⟨3, ![2, 2048, w]⟩ : Shape).Idx → ℝ)
    (h : (⟨3, ![2, 2048, w]⟩ : Shape).ShapeCasts ⟨2, ![4096, w]⟩) (j : (⟨2, ![4096, w]⟩ : Shape).Idx) :
    shapeCast ⟨2, ![4096, w]⟩ (fun i => ((X i : ℝ) : EReal)) h j = ((rowN X (j 0).val (j 1) : ℝ) : EReal) := by
  have h0 : (j 0).val < 4096 := (j 0).isLt
  refine shapeCast_apply _ h j _ ?_
  rw [Shape.rowMajor_val_three, Shape.rowMajor_val_two]
  show ((j 0).val / 2048 % 2 * 2048 + (j 0).val % 2048) * w + (j 1).val = (j 0).val * w + (j 1).val
  congr 2
  omega

end Cert.Reals

end
-- ==== Proof.Common.Finite.lean ====
/- What a finiteness predicate says of one argument: its elements are real numbers. -/
module

public import proofs.«01_k».proof.Proof.Common.Reals

@[expose] public section

noncomputable section

open Idealize.ShloMosaic Idealize.ShloMosaic.TcCoe

namespace Cert.Reals

/-- The one-element shape of a predicate's result. -/
abbrev One : Shape := ⟨0, ![]⟩

instance : Subsingleton One.Idx := ⟨fun a b => funext fun i => i.elim0⟩

/-- Two conditions hold together exactly when each holds. -/
theorem both {a b : IVec One 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

/-- An array all of whose elements have an absolute value below the largest extended real holds real numbers. -/
theorem reals_of_all {s : Shape} {axes : List (Fin s.rank)} (a : FVec Ideal s .f32) (hb : One.BroadcastsInDim s ![]) (hr : s.ReducesTo axes One)
    (hu : 0 < One.numel)
    (h : Host.reduce IntOp.andi (cmpf .olt (Host.absf a) (broadcastInDim s ![] hb (constant One .f32 0x7F800000#32)))
      (constantI One 1 1#1) hr hu = fun _ => 1#1) : a = fun i => (((a i).toReal : ℝ) : EReal) := by
  funext i
  refine real_of_abs_lt (h := ?_)
  have e := Host.reduce_andi_all _ _ hr hu (fun k => k.elim0) (congrFun h _) i
  rw [← ofBits_inf]
  exact e

end Cert.Reals

end
-- ==== Proof.Common.Rms.lean ====
/- The scaled root-mean-square norm of a row of 1024 real numbers and its derivative: the two ways of writing the
   derivative that the programs use, and that they are equal. -/
module

public import proofs.«01_k».proof.Proof.Common.Reals

@[expose] public section

noncomputable section

open Idealize.ShloMosaic Idealize.ShloMosaic.TcCoe
open scoped BigOperators

namespace Cert.Rms

open Cert.Reals

/-- The mean square of a row plus the small number. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg _) (by norm_num)) eps_pos

/-- One over the root mean square. -/
def inv (x : Fin 1024 → ℝ) : ℝ := (√(msq x))⁻¹

theorem inv_cube (x : Fin 1024 → ℝ) : inv x / msq x = inv x * inv x * inv x := by
  have h := msq_pos x
  have hs : √(msq x) ≠ 0 := (Real.sqrt_pos.2 h).ne'
  have e : msq x = √(msq x) * √(msq x) := (Real.mul_self_sqrt h.le).symm
  unfold inv
  rw [e]
  simp only [Real.sqrt_mul_self (Real.sqrt_nonneg _)]
  field_simp

/-- The derivative of the norm at entry `i` of a row, `d` being what comes in, times the gain. -/
def bwd (x d : Fin 1024 → ℝ) (i : Fin 1024) : ℝ :=
  inv x * (d i - x i * inv x * ((∑ k, d k * (x k * inv x)) / 1024))

/-- The same derivative taken factor by factor: through the factor `x` and, twice the same, through the square. -/
theorem bwd_eq (x d : Fin 1024 → ℝ) (i : Fin 1024) :
    d i * inv x + x i * ((∑ k, x k * d k) * (inv x / msq x * (-1 / 2)) / 1024)
      + (∑ k, x k * d k) * (inv x / msq x * (-1 / 2)) / 1024 * x i = bwd x d i := by
  have e : ∑ k, d k * (x k * inv x) = (∑ k, x k * d k) * inv x := by
    rw [Finset.sum_mul]; exact Finset.sum_congr rfl fun k _ => by ring
  rw [bwd, e, inv_cube]
  ring

end Cert.Rms

end
-- ==== Proof.Loss.Spec.lean ====
/- The loss and its gradients in real numbers, row by row and over all rows. -/
module

public import proofs.«01_k».proof.Proof.Common.Rms

@[expose] public section

noncomputable section

open Idealize.ShloMosaic Idealize.ShloMosaic.TcCoe
open scoped BigOperators

namespace Cert.Loss

open Cert.Reals

/-- The error of a row: its norm times the gain, less the target. -/
def err (g x t : Fin 1024 → ℝ) (k : Fin 1024) : ℝ := x k * Rms.inv x * g k - t k

/-- The mean of the squared error of a row. -/
def rowLoss (g x t : Fin 1024 → ℝ) : ℝ := (∑ k, err g x t k * err g x t k) / 1024

/-- What a row of the input gets. -/
def dxRow (g x t : Fin 1024 → ℝ) (k : Fin 1024) : ℝ := Rms.bwd x (fun k => err g x t k * (1 / 1024) * g k) k

/-- What a row adds to the gain's gradient. -/
def dgRow (g x t : Fin 1024 → ℝ) (k : Fin 1024) : ℝ := err g x t k * (1 / 1024) * (x k * Rms.inv x)

variable (X : (⟨3, ![2, 2048, 1024]⟩ : Shape).Idx → ℝ) (G : Fin 1024 → ℝ) (T : (⟨3, ![2, 2048, 1024]⟩ : Shape).Idx → ℝ)

/-- The loss: half the sum over all rows of the mean squared error. -/
def loss : ℝ := 1 / 2 * ∑ n ∈ Finset.range 4096, rowLoss G (rowN X n) (rowN T n)

/-- The gain's gradient: what all rows add to it. -/
def dgain (k : Fin 1024) : ℝ := ∑ n ∈ Finset.range 4096, dgRow G (rowN X n) (rowN T n) k

/-- The input's gradient at a row of the 4096 and a column. -/
def dx (n : Nat) (k : Fin 1024) : ℝ := dxRow G (rowN X n) (rowN T n) k

end Cert.Loss

end
-- ==== Proof.Loss.Block.lean ====
/- The loss kernel on one block of 512 rows of real numbers: each value it computes, as real numbers. -/
module

public import proofs.«01_k».proof.Proof.Loss.Spec
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.Block

open Cert.KernelIdeal Cert.KernelIdeal.Gen Cert.Reals Cert.Loss

variable (g : S1x1024.Idx → ℝ) (x t : S512x1024.Idx → ℝ)

/-- A row of the block. -/
def row (x : S512x1024.Idx → ℝ) (p : Fin 512) (k : Fin 1024) : ℝ := x (Idealize.ShloMosaic.ix2 p k)

/-- The gain's one row. -/
def gain (g : S1x1024.Idx → ℝ) (k : Fin 1024) : ℝ := g (Idealize.ShloMosaic.ix2 0 k)

theorem inv_eq : k0_pay8 (F := Ideal) (fun i => ((x i : ℝ) : EReal)) = fun j => ((Rms.inv (row x (j 0)) : ℝ) : EReal) := by
  funext j
  pointwise [k0_pay8, k0_pay7]
  simp only [← EReal.coe_mul, coe_sum, ofBits_1024, ofBits_eps]
  rw [div_real _ (by norm_num), ← EReal.coe_add]
  exact rsqrt_real (Rms.msq_pos (row x (j 0)))

theorem hat_eq : k0_pay9 (F := Ideal) (fun i => ((x i : ℝ) : EReal))
    = fun j => ((row x (j 0) (j 1) * Rms.inv (row x (j 0)) : ℝ) : EReal) := by
  funext j
  idx_vars j
  pointwise [k0_pay9, k0_pay7]
  rw [inv_eq]
  exact (EReal.coe_mul _ _).symm

theorem err_eq : k0_pay10 (F := Ideal) (fun i => ((g i : ℝ) : EReal)) (fun i => ((x i : ℝ) : EReal)) (fun i => ((t i : ℝ) : EReal))
    = fun j => ((err (gain g) (row x (j 0)) (row t (j 0)) (j 1) : ℝ) : EReal) := by
  funext j
  idx_vars j
  pointwise [k0_pay10, k0_pay6]
  rw [hat_eq, ← EReal.coe_mul, ← EReal.coe_sub]
  rfl

theorem dx_eq : k0_pay2 (F := Ideal) (k0_pay6 (fun i => ((g i : ℝ) : EReal))) (k0_pay8 (fun i => ((x i : ℝ) : EReal)))
      (k0_pay9 (fun i => ((x i : ℝ) : EReal)))
      (k0_pay10 (fun i => ((g i : ℝ) : EReal)) (fun i => ((x i : ℝ) : EReal)) (fun i => ((t i : ℝ) : EReal)))
      (Scalar.ofBits .f32 0x3A800000#32)
    = fun j => ((dxRow (gain g) (row x (j 0)) (row t (j 0)) (j 1) : ℝ) : EReal) := by
  funext j
  idx_vars j
  rw [inv_eq, hat_eq, err_eq]
  pointwise [k0_pay2, k0_pay1, k0_pay6]
  simp only [ofBits_inv1024, ← EReal.coe_mul, coe_sum, ofBits_1024]
  rw [div_real _ (by norm_num), ← EReal.coe_mul, ← EReal.coe_sub, ← EReal.coe_mul]
  rfl

theorem dg_eq (acc : Vec Ideal S1x1024 .f32) (j : S1x1024.Idx) : k0_pay3 (F := Ideal) (k0_pay9 (fun i => ((x i : ℝ) : EReal)))
      (k0_pay10 (fun i => ((g i : ℝ) : EReal)) (fun i => ((x i : ℝ) : EReal)) (fun i => ((t i : ℝ) : EReal)))
      (Scalar.ofBits .f32 0x3A800000#32) acc j
    = acc j + ((∑ p, dgRow (gain g) (row x p) (row t p) (j 1) : ℝ) : EReal) := by
  idx_vars j
  rw [hat_eq, err_eq]
  pointwise [k0_pay3, k0_pay1]
  simp only [ofBits_inv1024, ← EReal.coe_mul, coe_sum]
  rfl

theorem loss_eq (acc : Vec Ideal S1x128 .f32) (j : S1x128.Idx) : k0_pay11 (F := Ideal) (fun i => ((g i : ℝ) : EReal))
      (fun i => ((x i : ℝ) : EReal)) (fun i => ((t i : ℝ) : EReal)) acc j
    = acc j + ((1 / 2 * ∑ p, rowLoss (gain g) (row x p) (row t p) : ℝ) : EReal) := by
  idx_vars j
  pointwise [k0_pay11]
  rw [err_eq]
  simp only [← EReal.coe_mul, coe_sum, ofBits_1024, ofBits_half]
  simp only [div_real _ (by norm_num : (1024 : ℝ) ≠ 0), coe_sum, ← EReal.coe_mul]
  rfl

end Cert.KernelIdeal.Block

end
-- ==== Proof.Loss.Arrays.lean ====
/- The three arrays the loss kernel leaves, as real numbers, where its arguments hold real numbers. -/
module

public import proofs.«01_k».proof.Proof.Loss.Block

@[expose] public section

set_option maxRecDepth 16384

noncomputable section

open Idealize.ShloMosaic Idealize.ShloMosaic.TcCoe Idealize.SL.Sem
open scoped BigOperators

namespace Cert.KernelIdeal.Arrays

open Cert.KernelIdeal Cert.KernelIdeal.Gen Cert.KernelIdeal.Block Cert.Reals Cert.Loss

variable (m : (ℓ : Loc nD τ sig) → Buf (Elt Ideal) ℓ) (c : Dev nD)
  (X : S2x2048x1024.Idx → ℝ) (G : S1024.Idx → ℝ) (T : S2x2048x1024.Idx → ℝ)

/-- The gain's vector by its one coordinate. -/
def vec (G : S1024.Idx → ℝ) (k : Fin 1024) : ℝ := G (Idealize.ShloMosaic.ix1 k)

/-- The arguments hold the real numbers `X`, `G`, `T`. -/
structure Holds : Prop where
  x : m ((c : Thread nD τ).loc main_arg0) = fun i => ((X i : ℝ) : EReal)
  g : m ((c : Thread nD τ).loc main_arg1) = fun i => ((G i : ℝ) : EReal)
  t : m ((c : Thread nD τ).loc main_arg2) = fun i => ((T i : ℝ) : EReal)

theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- Block `t` of the rows: rows `512 t, …, 512 t + 511`. -/
def blockOf (X : S2x2048x1024.Idx → ℝ) (t : Nat) : S512x1024.Idx → ℝ := fun i => rowN X (512 * t + (i 0).val) (i 1)

/-- The gain as a matrix of one row. -/
def gainOf (G : S1024.Idx → ℝ) : S1x1024.Idx → ℝ := fun i => vec G (i 1)

variable {m c X G T}

theorem xblk (h : Holds m c X G T) (t : Fin cfg0.N) : iblk m c 0 t = fun i => ((blockOf X t.val i : ℝ) : EReal) := by
  funext i
  idx_vars i
  blk_simp [iblk, idx_val t]
  entry_read
  rw [h.x]
  refine (rows_apply X _ _).trans (rowN_congr X ?_ ?_)
  · blk_simp [idx_val t]; exact congrArg (· + i0.val) (Nat.mul_comm _ _)
  · blk_simp [idx_val t]

theorem tblk (h : Holds m c X G T) (t : Fin cfg0.N) : iblk m c 2 t = fun i => ((blockOf T t.val i : ℝ) : EReal) := by
  funext i
  idx_vars i
  blk_simp [iblk, idx_val t]
  entry_read
  rw [h.t]
  refine (rows_apply T _ _).trans (rowN_congr T ?_ ?_)
  · blk_simp [idx_val t]; exact congrArg (· + i0.val) (Nat.mul_comm _ _)
  · blk_simp [idx_val t]

theorem gblk (h : Holds m c X G T) (t : Fin cfg0.N) : iblk m c 1 t = fun i => ((gainOf G i : ℝ) : EReal) := by
  funext i
  idx_vars i
  blk_simp [iblk, idx_val t]
  entry_read
  rw [h.g]
  pointwise
  exact congrArg (fun k => ((vec G k : ℝ) : EReal)) (Fin.ext (by blk_simp [idx_val t]))

/-- The loss: every lane of the one row holds it. -/
theorem final_loss (h : Holds m c X G T) : (dats m 0 c).arrAt 3 (cfgs 0).N = fun _ => ((loss X (vec G) T : ℝ) : EReal) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun t _ => ((1 / 2 * ∑ p : Fin 512, rowLoss (vec G) (rowN X (512 * t.val + p.val)) (rowN T (512 * t.val + p.val)) : ℝ) : EReal))
    (fun t ht j => by
      rw [outsAt0_A m c t ht]; frame_out
      rw [gblk h t, xblk h t, tblk h t]
      exact (loss_eq _ _ _ _ _).trans (by rw [show k0_pay5 (F := Ideal) j = 0 by pointwise! [k0_pay5]]; rfl))
    (fun t ht j => by
      rw [outsAt0_B m c t ht]; frame_out
      rw [gblk h t, xblk h t, tblk h t]
      exact loss_eq _ _ _ _ _)
    (le_of_eq N_0) t0_7 rfl j, zero_add, coe_sum, ← Finset.mul_sum]
  exact congrArg (fun s : ℝ => ((1 / 2 * s : ℝ) : EReal)) (sum_runs 8 512 fun n => rowLoss (vec G) (rowN X n) (rowN T n))

/-- The gain's gradient. -/
theorem final_dg (h : Holds m c X G T) : (dats m 0 c).arrAt 5 (cfgs 0).N
    = fun j : S1x1024.Idx => ((dgain X (vec G) T (j 1) : ℝ) : EReal) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t (j : S1x1024.Idx) => ((∑ p : Fin 512, dgRow (vec G) (rowN X (512 * t.val + p.val)) (rowN T (512 * t.val + p.val)) (j 1) : ℝ) : EReal))
    (fun t ht j => by
      rw [outsAt0_A m c t ht]; frame_out
      rw [gblk h t, xblk h t, tblk h t]
      exact (dg_eq _ _ _ _ _).trans (by rw [show k0_pay4 (F := Ideal) j = 0 by pointwise! [k0_pay4]]; rfl))
    (fun t ht j => by
      rw [outsAt0_B m c t ht]; frame_out
      rw [gblk h t, xblk h t, tblk h t]
      exact dg_eq _ _ _ _ _)
    (le_of_eq N_0) t0_7 rfl j, zero_add, coe_sum]
  exact congrArg (fun s : ℝ => (s : EReal)) (sum_runs 8 512 fun n => dgRow (vec G) (rowN X n) (rowN T n) _)

/-- The input's gradient. -/
theorem final_dx (h : Holds m c X G T) : (dats m 0 c).arrAt 4 (cfgs 0).N
    = fun j : S4096x1024.Idx => ((dx X (vec G) T (j 0).val (j 1) : ℝ) : EReal) := by
  refine (dats m 0 c).arrAt_eq_of_covers 4 _ (by decide +kernel) fun t hf y => ?_
  have key : ∀ y : S512x1024.Idx, ((dxRow (gain (gainOf G)) (row (blockOf X t.val) (y 0)) (row (blockOf T t.val) (y 0)) (y 1) : ℝ) : EReal)
      = ((dx X (vec G) T (win0_4.index t 0 * 512 + (y 0).val) ((((View.whole main_v3_1).slice (win0_4.rect t)).emb y) 1) : ℝ) : EReal) := by
    intro y
    have e0 : win0_4.index t 0 * 512 + (y 0).val = 512 * t.val + (y 0).val := by
      blk_simp [idx_val t]; exact congrArg (· + (y 0).val) (Nat.mul_comm _ _)
    have e1 : (((View.whole main_v3_1).slice (win0_4.rect t)).emb y) 1 = y 1 := Fin.ext (by blk_simp [idx_val t])
    rw [e0, e1]
    rfl
  blk_simp; rw [after0_4]
  by_cases ht : t.val % 8 = 0
  · rw [outsAt0_A m c t ht]; dsimp only
    frame_out
    rw [gblk h t, xblk h t, tblk h t]
    exact (congrFun (dx_eq _ _ _) y).trans (key y)
  · rw [outsAt0_B m c t ht]; dsimp only
    frame_out
    rw [gblk h t, xblk h t, tblk h t]
    exact (congrFun (dx_eq _ _ _) y).trans (key y)

end Cert.KernelIdeal.Arrays

end
-- ==== Proof.Loss.Reference.lean ====
/- What the loss's reference computes from real numbers: the loss, and the two gradients by the chain rule. -/
module

public import proofs.«01_k».proof.Proof.Common.Rms
public import proofs.«01_k».proof.Proof.Loss.Spec
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Loss

open Cert.ReferenceIdeal Cert.ReferenceIdeal.Gen Cert.ReferenceIdeal.Read Cert.Reals Cert.Loss

variable (X : S2x2048x1024.Idx → ℝ) (G : S1024.Idx → ℝ) (T : S2x2048x1024.Idx → ℝ)

/-- A row by its two leading coordinates. -/
def row (X : S2x2048x1024.Idx → ℝ) (p : Fin 2) (q : Fin 2048) (k : Fin 1024) : ℝ := X (ix3 p q k)

theorem rowN_eq (X : S2x2048x1024.Idx → ℝ) (p : Fin 2) (q : Fin 2048) : rowN X (2048 * p.val + q.val) = row X p q := by
  funext k
  have hp := p.isLt
  have hq := q.isLt
  refine congrArg X (congrArg₂ (fun a b => ix3 a b k) (Fin.ext ?_) (Fin.ext ?_))
  · show (2048 * p.val + q.val) / 2048 % 2 = p.val; omega
  · show (2048 * p.val + q.val) % 2048 = q.val; omega

theorem at_row (X : S2x2048x1024.Idx → ℝ) (i : S2x2048x1024.Idx) : X i = row X (i 0) (i 1) (i 2) := by
  refine congrArg X (funext fun a => ?_)
  match a with
  | ⟨0, _⟩ => rfl
  | ⟨1, _⟩ => rfl
  | ⟨2, _⟩ => rfl

/-- The gain by its coordinate. -/
def vec (G : S1024.Idx → ℝ) (k : Fin 1024) : ℝ := G (ix1 k)

theorem at_vec (G : S1024.Idx → ℝ) (i : S1024.Idx) : G i = vec G (i 0) := by
  refine congrArg G (funext fun a => ?_)
  match a with
  | ⟨0, _⟩ => rfl

theorem msq_eq : val_main_v6 (F := Ideal) (fun i => ((X i : ℝ) : EReal)) = fun i => ((Rms.msq (row X (i 0) (i 1)) : ℝ) : EReal) := by
  funext i
  idx_vars i
  simp only [val_main_v6_apply, val_main_v4_apply, val_main_v2_apply, val_main_v1_apply, val_main_cst_apply, val_main_v0_apply,
    val_main_v3_apply, val_main_cst_0_apply, val_main_v5_apply, val_main_cst_1_apply, Ideal.addf_def, Ideal.mulf_def,
    Ideal.hostDivf_def, Ideal.ofBits_def, Ideal.ofBits_zero_f32, zero_add, ← EReal.coe_mul, coe_sum, ofBits_1024, ofBits_eps]
  rw [div_real _ (by norm_num), ← EReal.coe_add]
  simp only [at_row X]
  rfl

theorem inv_eq : val_main_v7 (F := Ideal) (fun i => ((X i : ℝ) : EReal)) = fun i => ((Rms.inv (row X (i 0) (i 1)) : ℝ) : EReal) := by
  funext i
  rw [val_main_v7_apply, msq_eq]
  exact rsqrt_real (Rms.msq_pos _)

theorem factor_eq : val_main_v10 (F := Ideal) (fun i => ((X i : ℝ) : EReal))
    = fun i => ((Rms.inv (row X (i 0) (i 1)) / Rms.msq (row X (i 0) (i 1)) * (-1 / 2) : ℝ) : EReal) := by
  funext i
  simp only [val_main_v10_apply, val_main_v9_apply, val_main_cst_2_apply, val_main_v8_apply, inv_eq, msq_eq,
    Ideal.mulf_def, Ideal.hostDivf_def, Ideal.ofBits_def, ofBits_neg_half]
  rw [div_real _ (Rms.msq_pos _).ne', ← EReal.coe_mul, mul_comm]

theorem hat_eq : val_main_v12 (F := Ideal) (fun i => ((X i : ℝ) : EReal)) = fun i => ((row X (i 0) (i 1) (i 2) * Rms.inv (row X (i 0) (i 1)) : ℝ) : EReal) := by
  funext i
  idx_vars i
  simp only [val_main_v12_apply, val_main_v11_apply, inv_eq, Ideal.mulf_def, ← EReal.coe_mul]
  rfl

theorem err_eq : val_main_v16 (F := Ideal) (fun i => ((X i : ℝ) : EReal)) (fun i => ((G i : ℝ) : EReal)) (fun i => ((T i : ℝ) : EReal))
    = fun i => ((err (vec G) (row X (i 0) (i 1)) (row T (i 0) (i 1)) (i 2) : ℝ) : EReal) := by
  funext i
  idx_vars i
  simp only [val_main_v16_apply, val_main_v15_apply, val_main_v14_apply, val_main_v13_apply, hat_eq, Ideal.mulf_def,
    Ideal.subf_def, ← EReal.coe_mul, ← EReal.coe_sub, at_row T, at_vec G]
  rfl

/-- What comes in at an entry of the normed row. -/
theorem dy_eq : val_main_v30 (F := Ideal) (fun i => ((X i : ℝ) : EReal)) (fun i => ((G i : ℝ) : EReal)) (fun i => ((T i : ℝ) : EReal))
    = fun i => ((err (vec G) (row X (i 0) (i 1)) (row T (i 0) (i 1)) (i 2) * (1 / 1024) : ℝ) : EReal) := by
  funext i
  simp only [val_main_v30_apply, val_main_v29_apply, val_main_v28_apply, val_main_v26_apply, val_main_v25_apply,
    val_main_v27_apply, val_main_v19_apply, val_main_v18_apply, val_main_cst_3_apply, val_main_cst_8_apply, val_main_cst_9_apply,
    val_main_cst_10_apply, err_eq, Ideal.mulf_def, Ideal.hostDivf_def, Ideal.ofBits_def, ofBits_half, ofBits_two, ofBits_1024,
    ofBits_one]
  rw [← EReal.coe_mul, div_real _ (by norm_num), ← EReal.coe_mul, ← EReal.coe_mul]
  refine congrArg (fun r : ℝ => (r : EReal)) ?_
  ring

theorem dyg_eq : val_main_v35 (F := Ideal) (fun i => ((X i : ℝ) : EReal)) (fun i => ((G i : ℝ) : EReal)) (fun i => ((T i : ℝ) : EReal))
    = fun i => ((err (vec G) (row X (i 0) (i 1)) (row T (i 0) (i 1)) (i 2) * (1 / 1024) * vec G (i 2) : ℝ) : EReal) := by
  funext i
  idx_vars i
  simp only [val_main_v35_apply, dy_eq, val_main_v34_apply, val_main_v13_apply, Ideal.mulf_def, ← EReal.coe_mul, at_vec G]
  rfl

theorem sum_eq : val_main_v39 (F := Ideal) (fun i => ((X i : ℝ) : EReal)) (fun i => ((G i : ℝ) : EReal)) (fun i => ((T i : ℝ) : EReal))
    = fun i => ((∑ k, row X (i 0) (i 1) k * (err (vec G) (row X (i 0) (i 1)) (row T (i 0) (i 1)) k * (1 / 1024) * vec G k) : ℝ) : EReal) := by
  funext i
  idx_vars i
  have e : idx_main_v39 (ix3 i0 i1 i2) = ix2 i0 i1 := by
    have h1 := i1.isLt
    have h2 := i2.isLt
    funext a
    match a with
    | ⟨0, _⟩ => exact Fin.ext (show ((i0.val * 2048 + i1.val) * 1 + i2.val) / 2048 = i0.val by omega)
    | ⟨1, _⟩ => exact Fin.ext (show ((i0.val * 2048 + i1.val) * 1 + i2.val) % 2048 = i1.val by omega)
  simp only [val_main_v39_apply, e, val_main_v38_apply, val_main_cst_13_apply, val_main_v37_apply, dyg_eq, Ideal.mulf_def,
    Ideal.ofBits_def, Ideal.ofBits_zero_f32, zero_add, ← EReal.coe_mul, coe_sum, at_row X]
  rfl

theorem inner_eq : val_main_v46 (F := Ideal) (fun i => ((X i : ℝ) : EReal)) (fun i => ((G i : ℝ) : EReal)) (fun i => ((T i : ℝ) : EReal))
    = fun i => (((∑ k, row X (i 0) (i 1) k * (err (vec G) (row X (i 0) (i 1)) (row T (i 0) (i 1)) k * (1 / 1024) * vec G k))
        * (Rms.inv (row X (i 0) (i 1)) / Rms.msq (row X (i 0) (i 1)) * (-1 / 2)) / 1024 : ℝ) : EReal) := by
  funext i
  idx_vars i
  simp only [val_main_v46_apply, val_main_v45_apply, val_main_cst_15_apply, val_main_v44_apply, val_main_v42_apply, val_main_v43_apply,
    val_main_cst_14_apply, factor_eq, sum_eq,
    Ideal.mulf_def, Ideal.hostDivf_def, Ideal.ofBits_def, ofBits_1024, Ideal.ofBits_zero_f32, zero_add, ← EReal.coe_mul,
    div_real _ (show (1024 : ℝ) ≠ 0 by norm_num), Fin.sum_univ_one]
  rfl

/-- The input's gradient. -/
theorem dx_eq : val_main_v52 (F := Ideal) (fun i => ((X i : ℝ) : EReal)) (fun i => ((G i : ℝ) : EReal)) (fun i => ((T i : ℝ) : EReal)) = fun j => ((dx X (vec G) T (j 0).val (j 1) : ℝ) : EReal) := by
  have e : val_main_v50 (F := Ideal) (fun i => ((X i : ℝ) : EReal)) (fun i => ((G i : ℝ) : EReal)) (fun i => ((T i : ℝ) : EReal))
      = fun i => ((dxRow (vec G) (row X (i 0) (i 1)) (row T (i 0) (i 1)) (i 2) : ℝ) : EReal) := by
    funext i
    idx_vars i
    simp only [val_main_v50_apply, val_main_v48_apply, val_main_v41_apply, val_main_v40_apply, val_main_v47_apply, val_main_v49_apply,
      inner_eq, inv_eq, dyg_eq, Ideal.mulf_def, Ideal.addf_def, ← EReal.coe_mul, ← EReal.coe_add]
    exact congrArg (fun r : ℝ => (r : EReal))
      (Rms.bwd_eq (row X i0 i1) (fun k => err (vec G) (row X i0 i1) (row T i0 i1) k * (1 / 1024) * vec G k) i2)
  funext j
  unfold val_main_v52
  rw [e]
  exact rows_apply (fun i : S2x2048x1024.Idx => dxRow (vec G) (row X (i 0) (i 1)) (row T (i 0) (i 1)) (i 2)) _ j

/-- The loss. -/
theorem loss_eq : val_main_v51 (F := Ideal) (fun i => ((X i : ℝ) : EReal)) (fun i => ((G i : ℝ) : EReal)) (fun i => ((T i : ℝ) : EReal)) = fun _ => ((loss X (vec G) T : ℝ) : EReal) := by
  funext i
  simp only [val_main_v51_apply, val_main_v24_apply, val_main_v23_apply, val_main_v22_apply, val_main_v21_apply, val_main_v20_apply,
    val_main_v17_apply, err_eq, val_main_cst_4_apply, val_main_cst_5_apply, val_main_cst_6_apply, val_main_cst_7_apply,
    Ideal.mulf_def, Ideal.hostDivf_def, Ideal.ofBits_def, ofBits_1024, ofBits_half, Ideal.ofBits_zero_f32, zero_add, ← EReal.coe_mul,
    coe_sum, div_real _ (show (1024 : ℝ) ≠ 0 by norm_num)]
  refine congrArg (fun r : ℝ => ((1 / 2 * r : ℝ) : EReal)) ?_
  rw [sum_idx2, ← sum_runs 2 2048 fun n => rowLoss (vec G) (rowN X n) (rowN T n)]
  refine Finset.sum_congr rfl fun p _ => Finset.sum_congr rfl fun q _ => ?_
  rw [rowN_eq, rowN_eq]
  rfl

/-- The gain's gradient. -/
theorem dg_eq : val_main_v53 (F := Ideal) (fun i => ((X i : ℝ) : EReal)) (fun i => ((G i : ℝ) : EReal)) (fun i => ((T i : ℝ) : EReal)) = fun j => ((dgain X (vec G) T (j 1) : ℝ) : EReal) := by
  have e : val_main_v32 (F := Ideal) (fun i => ((X i : ℝ) : EReal)) (fun i => ((G i : ℝ) : EReal)) (fun i => ((T i : ℝ) : EReal)) = fun j => ((dgain X (vec G) T (j 0) : ℝ) : EReal) := by
    funext j
    unfold val_main_v32
    simp only [Host.reduceAdd, Ideal.hostReduceAdd_def]
    refine (hostReduceAdd_rows (a := 2) (b := 2048) (n := 1024) _ _ _ j).trans ?_
    simp only [val_main_v31_apply, val_main_cst_11_apply, hat_eq, dy_eq, Ideal.mulf_def, Ideal.ofBits_def, Ideal.ofBits_zero_f32,
      zero_add, ← EReal.coe_mul, coe_sum]
    refine congrArg (fun r : ℝ => (r : EReal)) ?_
    refine Eq.trans ?_ (sum_runs 2 2048 fun n => dgRow (vec G) (rowN X n) (rowN T n) (j 0))
    refine Finset.sum_congr rfl fun p _ => Finset.sum_congr rfl fun q _ => ?_
    rw [rowN_eq, rowN_eq]
    exact mul_comm _ _
  funext j
  idx_vars j
  rw [val_main_v53_apply]
  unfold val_main_v36
  simp only [Host.reduceAdd, Ideal.hostReduceAdd_def]
  refine (hostReduceAdd_rows (a := 1) (b := 1) (n := 1024) _ _ _ _).trans ?_
  simp only [Fin.sum_univ_one, val_main_v33_apply, e, val_main_cst_12_apply, Ideal.ofBits_def, Ideal.ofBits_zero_f32, zero_add]
  refine congrArg (fun k => ((dgain X (vec G) T k : ℝ) : EReal)) (Fin.ext ?_)
  have h0 := j0.isLt
  show (0 * 1 + 0) * 1024 + (j0.val * 1024 + j1.val) = j1.val
  omega

end Cert.ReferenceIdeal.Loss

end
-- ==== Proof.Loss.Equation.lean ====
/- The loss and its two gradients: the kernel leaves what the reference computes. -/
module

public import proofs.«01_k».proof.Proof.Common.Finite
public import proofs.«01_k».proof.Proof.Loss.Arrays
public import proofs.«01_k».proof.Proof.Loss.Reference
public import proofs.«01_k».proof.Defs

@[expose] public section

noncomputable section

open Idealize.ShloMosaic Idealize.ShloMosaic.TcCoe Idealize.SL.Sem

namespace Cert.Loss

open Cert.KernelIdeal Cert.Reals

/-- Under the precondition the three arguments hold real numbers. -/
theorem holds [Cert.Pre_finite.Facts] (m : (ℓ : Loc nD τ sig) → Buf (Elt Ideal) ℓ) (h : Cert.Pre_KernelIdeal_finite m) (c : Dev nD) :
    Arrays.Holds m c (fun i => (m ((c : Thread nD τ).loc main_arg0) i).toReal) (fun i => (m ((c : Thread nD τ).loc main_arg1) i).toReal)
      (fun i => (m ((c : Thread nD τ).loc main_arg2) i).toReal) := by
  obtain ⟨h01, h2⟩ := both (h c)
  obtain ⟨h0, h1⟩ := both h01
  exact ⟨reals_of_all _ _ _ _ h0, reals_of_all _ _ _ _ h1, reals_of_all _ _ _ _ h2⟩

variable (m : (ℓ : Loc nD τ sig) → Buf (Elt Ideal) ℓ) (c : Dev nD)

/-- What the reference leaves from arguments that hold real numbers. -/
theorem reference_loss {X G T} (h : Arrays.Holds m c X G T) :
    Cert.ReferenceIdeal.Read.val_main_v51 (F := Ideal) (m ((c : Thread nD τ).loc main_arg0)) (m ((c : Thread nD τ).loc main_arg1))
      (m ((c : Thread nD τ).loc main_arg2)) = (Gen.dats m 0 c).arrAt 3 (cfgs 0).N := by
  rw [h.x, h.g, h.t]
  exact (Cert.ReferenceIdeal.Loss.loss_eq X G T).trans (Arrays.final_loss h).symm

theorem reference_dx {X G T} (h : Arrays.Holds m c X G T) :
    Cert.ReferenceIdeal.Read.val_main_v52 (F := Ideal) (m ((c : Thread nD τ).loc main_arg0)) (m ((c : Thread nD τ).loc main_arg1))
      (m ((c : Thread nD τ).loc main_arg2)) = (Gen.dats m 0 c).arrAt 4 (cfgs 0).N := by
  rw [h.x, h.g, h.t]
  exact (Cert.ReferenceIdeal.Loss.dx_eq X G T).trans (Arrays.final_dx h).symm

theorem reference_dg {X G T} (h : Arrays.Holds m c X G T) :
    Cert.ReferenceIdeal.Read.val_main_v53 (F := Ideal) (m ((c : Thread nD τ).loc main_arg0)) (m ((c : Thread nD τ).loc main_arg1))
      (m ((c : Thread nD τ).loc main_arg2)) = (Gen.dats m 0 c).arrAt 5 (cfgs 0).N := by
  rw [h.x, h.g, h.t]
  exact (Cert.ReferenceIdeal.Loss.dg_eq X G T).trans (Arrays.final_dg h).symm

/-- The two programs end with equal results. -/
theorem equation [Cert.Pre_finite.Facts] : Cert.algebraic_KernelIdeal_ReferenceIdeal_pre_finite := by
  pair_intro
  · run_from (Value.run_blocks m g)
  · run_from (Cert.ReferenceIdeal.Value.run m' g')
    · exact reference_loss m c (holds m hpre c)
    · rw [Cert.ReferenceIdeal.Read.val_main_v52_eq, (hagree c).1, (hagree c).2.1, (hagree c).2.2]
      exact reference_dx m c (holds m hpre c)
    · exact reference_dg m c (holds m hpre c)

end Cert.Loss

end
-- ==== Proof.Common.Rows.lean ====
/- Arrays read at plain numbers, and 2 · 2048 rows laid out as 4096. -/
module

public import Idealize.ShloMosaic.Lib.Pipeline.Value
public import Idealize.ShloMosaic.Lib.Pointwise

@[expose] public section

namespace Cert.Rows

open Idealize.ShloMosaic

variable {α : Type} {a b c : Nat} [NeZero a] [NeZero b] [NeZero c]

/-- An entry of a matrix, by numbers (taken round the axes' lengths). -/
def at2 (X : (⟨2, ![a, b]⟩ : Shape).Idx → α) (i j : Nat) : α := X (ix2 (Fin.ofNat a i) (Fin.ofNat b j))

/-- An entry of an array of three axes, by numbers. -/
def at3 (X : (⟨3, ![a, b, c]⟩ : Shape).Idx → α) (i j k : Nat) : α := X (ix3 (Fin.ofNat a i) (Fin.ofNat b j) (Fin.ofNat c k))

theorem at2_ix (X : (⟨2, ![a, b]⟩ : Shape).Idx → α) (i : Fin a) (j : Fin b) : X (ix2 i j) = at2 X i.val j.val := by
  simp only [at2, Fin.ofNat_val_eq_self]

theorem at3_ix (X : (⟨3, ![a, b, c]⟩ : Shape).Idx → α) (i : Fin a) (j : Fin b) (k : Fin c) : X (ix3 i j k) = at3 X i.val j.val k.val := by
  simp only [at3, Fin.ofNat_val_eq_self]

theorem at2_idx (X : (⟨2, ![a, b]⟩ : Shape).Idx → α) (i : (⟨2, ![a, b]⟩ : Shape).Idx) : X i = at2 X (i 0).val (i 1).val := by
  rw [← at2_ix X (i 0) (i 1)]; exact congrArg X (eq_ix2 i)

theorem at3_idx (X : (⟨3, ![a, b, c]⟩ : Shape).Idx → α) (i : (⟨3, ![a, b, c]⟩ : Shape).Idx) :
    X i = at3 X (i 0).val (i 1).val (i 2).val := by
  rw [← at3_ix X (i 0) (i 1) (i 2)]; exact congrArg X (eq_ix3 i)

theorem at2_congr (X : (⟨2, ![a, b]⟩ : Shape).Idx → α) {i i' j j' : Nat} (hi : i = i') (hj : j = j') : at2 X i j = at2 X i' j' := by
  rw [hi, hj]

theorem at3_congr (X : (⟨3, ![a, b, c]⟩ : Shape).Idx → α) {i i' j j' k k' : Nat} (hi : i = i') (hj : j = j') (hk : k = k') :
    at3 X i j k = at3 X i' j' k' := by rw [hi, hj, hk]

/-- 2 · 2048 rows laid out as 4096. -/
theorem flat_apply {w : Nat} [NeZero w] (X : (⟨3, ![2, 2048, w]⟩ : Shape).Idx → α)
    (h : (⟨3, ![2, 2048, w]⟩ : Shape).ShapeCasts ⟨2, ![4096, w]⟩) (j : (⟨2, ![4096, w]⟩ : Shape).Idx) :
    shapeCast ⟨2, ![4096, w]⟩ X h j = at3 X ((j 0).val / 2048) ((j 0).val % 2048) (j 1).val := by
  have h0 : (j 0).val < 4096 := (j 0).isLt
  have h1 : (j 1).val < w := (j 1).isLt
  refine shapeCast_apply _ h j _ ?_
  rw [Shape.rowMajor_val_three, Shape.rowMajor_val_two]
  show ((j 0).val / 2048 % 2 * 2048 + (j 0).val % 2048 % 2048) * w + (j 1).val % w = (j 0).val * w + (j 1).val
  rw [Nat.mod_eq_of_lt h1]
  congr 2
  omega

end Cert.Rows
-- ==== Proof.Conv.Spec.lean ====
/- The gradients of the causal convolution of width four, by formula. -/
module

public import proofs.«01_k».proof.Proof.Common.Rows
public import Mathlib.Data.EReal.Operations

@[expose] public section

noncomputable section

namespace Cert.Conv

open Idealize.ShloMosaic Cert.Rows
open scoped BigOperators

variable (D : (⟨3, ![2, 2048, 896]⟩ : Shape).Idx → EReal) (P : (⟨3, ![2, 2048, 2950]⟩ : Shape).Idx → EReal)
  (W : (⟨2, ![4, 896]⟩ : Shape).Idx → EReal)

/-- The cotangent `k` rows later. -/
def later (k b s ch : Nat) : EReal := if s + k < 2048 then at3 D b (s + k) ch else 0

/-- The convolved columns `k` rows earlier. -/
def earlier (k b s ch : Nat) : EReal := if k ≤ s then at3 P b (s - k) (1536 + ch) else 0

/-- An entry of a vector at a number. -/
def at1 (B : (⟨1, ![896]⟩ : Shape).Idx → EReal) (ch : Nat) : EReal := B (ix1 (Fin.ofNat 896 ch))

/-- The convolution with its bias. -/
def convAt (B : (⟨1, ![896]⟩ : Shape).Idx → EReal) (b s ch : Nat) : EReal :=
  at1 B ch + at2 W 3 ch * at3 P b s (1536 + ch) + at2 W 0 ch * earlier P 3 b s ch + at2 W 1 ch * earlier P 2 b s ch + at2 W 2 ch * earlier P 1 b s ch

/-- The gradient of the convolved columns. -/
def dxAt (b s ch : Nat) : EReal :=
  at2 W 3 ch * at3 D b s ch + at2 W 0 ch * later D 3 b s ch + at2 W 1 ch * later D 2 b s ch + at2 W 2 ch * later D 1 b s ch

/-- One batch's part of the gradient of the tap that reads `k` rows back. -/
def tapSum (k b ch : Nat) : EReal := ∑ s : Fin 2048, at3 D b s.val ch * earlier P k b s.val ch

/-- One batch's part of the gradient of the bias. -/
def biasSum (b ch : Nat) : EReal := ∑ s : Fin 2048, at3 D b s.val ch

/-- The sums by their row: the taps' in rows 0 to 3, the bias's in row 4, nothing below. -/
def pick (a0 a1 a2 a3 a4 : EReal) (r : Nat) : EReal :=
  if r = 0 then a0 else if r = 1 then a1 else if r = 2 then a2 else if r = 3 then a3 else if r = 4 then a4 else 0

/-- Row `r` of the gradients of the taps and the bias. -/
def dwAt (r ch : Nat) : EReal :=
  ∑ b : Fin 2, pick (tapSum D P 3 b.val ch) (tapSum D P 2 b.val ch) (tapSum D P 1 b.val ch) (tapSum D P 0 b.val ch)
    (biasSum D b.val ch) r

end Cert.Conv

end
-- ==== Proof.Common.Select.lean ====
/- A selection by a comparison of two counts is the selection by the comparison of the numbers. -/
module

public import Idealize.ShloMosaic.Lib.Pointwise
public import Idealize.ShloMosaic.Lib.WordCmp

@[expose] public section

namespace Cert.Reals

open Idealize.ShloMosaic Idealize.ShloMosaic.WordCmp

variable {α : Type} (a b : Nat) (ha : a < 2 ^ 31) (hb : b < 2 ^ 31) (x y : α)
include ha hb

theorem select_slt : Scalar.select (IntOp.cmpi .slt (BitVec.ofNat 32 a) (BitVec.ofNat 32 b)) x y = if a < b then x else y := by
  rw [cmpi_slt_ofNat ha hb]; by_cases h : a < b <;> simp [h, select_one, select_zero]

theorem select_sge : Scalar.select (IntOp.cmpi .sge (BitVec.ofNat 32 a) (BitVec.ofNat 32 b)) x y = if b ≤ a then x else y := by
  rw [cmpi_sge_ofNat ha hb]; by_cases h : b ≤ a <;> simp [h, select_one, select_zero]

theorem select_eq : Scalar.select (IntOp.cmpi .eq (BitVec.ofNat 32 a) (BitVec.ofNat 32 b)) x y = if a = b then x else y := by
  rw [cmpi_eq_ofNat (ha.trans (by norm_num)) (hb.trans (by norm_num))]; by_cases h : a = b <;> simp [h, select_one, select_zero]

end Cert.Reals
-- ==== Proof.Conv.Block.lean ====
/- What one block of the convolution's gradient computes. -/
module

public import proofs.«01_k».proof.Proof.Conv.Spec
public import proofs.«01_k».proof.Proof.Gen.ConvKernelIdeal.Value
public import proofs.«01_k».proof.Proof.Common.Select

@[expose] public section

set_option maxRecDepth 16384

noncomputable section

open Idealize.ShloMosaic Idealize.ShloMosaic.TcCoe Idealize.SL.Sem
open Cert.Reals
open scoped BigOperators

namespace Cert.ConvKernelIdeal.Block

open Cert.ConvKernelIdeal Cert.ConvKernelIdeal.Gen
open Cert.Conv (pick)

/-- The row `k` further down, zero past the end. -/
def ahead (d : S2048x128.Idx → EReal) (k : Nat) (t : Fin 2048) (j : Fin 128) : EReal :=
  if h : t.val + k < 2048 then d (Idealize.ShloMosaic.ix2 ⟨t.val + k, h⟩ j) else 0

/-- The row `k` further up, zero before the start. -/
def behind (x : S2048x128.Idx → EReal) (k : Nat) (t : Fin 2048) (j : Fin 128) : EReal :=
  if k ≤ t.val then x (Idealize.ShloMosaic.ix2 ⟨t.val - k, by omega⟩ j) else 0

theorem pay3 (d : S2048x128.Idx → EReal) : k0_pay3 (F := Ideal) d = d := by
  funext j; idx_vars j; pointwise [k0_pay3]

theorem pay4 (x : S2048x128.Idx → EReal) : k0_pay4 (F := Ideal) x = x := by
  funext j; idx_vars j; pointwise [k0_pay4]

/-- A row moved up by `k`, chosen where it lies inside. -/
theorem ahead_eq (d : S2048x128.Idx → EReal) (w : EReal) (k : Nat) (hk : k < 2048) (t : Fin 2048) (j : Fin 128) (h) :
    Scalar.select (IntOp.cmpi .slt (BitVec.ofNat 32 t.val) (BitVec.ofNat 32 (2048 - k)))
      (w * d (Idealize.ShloMosaic.ix2 ⟨(t.val + 2048 - (2048 - k)) % 2048, h⟩ j)) 0 = w * ahead d k t j := by
  rw [select_slt _ _ (by omega) (by omega)]
  unfold ahead
  have ht := t.isLt
  by_cases h' : t.val + k < 2048
  · rw [dif_pos h', if_pos (by omega)]
    have e : (t.val + 2048 - (2048 - k)) % 2048 = t.val + k := by rw [Nat.mod_eq_of_lt] <;> omega
    simp only [e]
  · rw [dif_neg h', if_neg (by omega), mul_zero]

/-- A row moved down by `k`, chosen where it lies inside. -/
theorem behind_eq (x : S2048x128.Idx → EReal) (w : EReal) (k : Nat) (hk : k < 2048) (t : Fin 2048) (j : Fin 128) (h) :
    Scalar.select (IntOp.cmpi .sge (BitVec.ofNat 32 t.val) (BitVec.ofNat 32 k))
      (w * x (Idealize.ShloMosaic.ix2 ⟨(t.val + 2048 - k) % 2048, h⟩ j)) 0 = w * behind x k t j := by
  rw [select_sge _ _ (by omega) (by omega)]
  unfold behind
  have ht := t.isLt
  by_cases h' : k ≤ t.val
  · rw [if_pos h', if_pos h']
    have e : (t.val + 2048 - k) % 2048 = t.val - k := by
      rw [show t.val + 2048 - k = (t.val - k) + 2048 by omega, Nat.add_mod_right, Nat.mod_eq_of_lt (by omega)]
    simp only [e]
  · rw [if_neg h', if_neg h', mul_zero]

theorem pay5 (d x : S2048x128.Idx → EReal) :
    k0_pay5 (F := Ideal) d x = fun j => ∑ t : Fin 2048, d (Idealize.ShloMosaic.ix2 t (j 1)) * x (Idealize.ShloMosaic.ix2 t (j 1)) := by
  funext j; idx_vars j
  pointwise [k0_pay5, pay3, pay4]

theorem pay6 (d : S2048x128.Idx → EReal) (w3 w0 : S1x128.Idx → EReal) :
    k0_pay6 (F := Ideal) d w3 w0 = fun j => w3 (Idealize.ShloMosaic.ix2 0 (j 1)) * d j + w0 (Idealize.ShloMosaic.ix2 0 (j 1)) * ahead d 3 (j 0) (j 1) := by
  funext j; idx_vars j
  pointwise [k0_pay6, pay3]
  exact congrArg (_ + ·) (ahead_eq d _ 3 (by norm_num) j0 j1 _)

theorem pay7 (d x : S2048x128.Idx → EReal) :
    k0_pay7 (F := Ideal) d x = fun j => ∑ t : Fin 2048, d (Idealize.ShloMosaic.ix2 t (j 1)) * behind x 3 t (j 1) := by
  funext j; idx_vars j
  pointwise [k0_pay7, pay3, pay4]
  exact Finset.sum_congr rfl fun t _ => behind_eq x _ 3 (by norm_num) t j1 _

/-- The rows' numbers. -/
abbrev rows : IVec S2048x1 32 := iota .tc S2048x1 32 [0] iota_S2048x1_d0_w32

theorem pay8 (d x : S2048x128.Idx → EReal) :
    k0_pay8 (F := Ideal) d x rows = fun j => ∑ t : Fin 2048, d (Idealize.ShloMosaic.ix2 t (j 1)) * behind x 2 t (j 1) := by
  funext j; idx_vars j
  pointwise [k0_pay8]
  exact Finset.sum_congr rfl fun t _ => behind_eq x _ 2 (by norm_num) t j1 _

theorem pay10 (d x : S2048x128.Idx → EReal) :
    k0_pay10 (F := Ideal) d x rows = fun j => ∑ t : Fin 2048, d (Idealize.ShloMosaic.ix2 t (j 1)) * behind x 1 t (j 1) := by
  funext j; idx_vars j
  pointwise [k0_pay10]
  exact Finset.sum_congr rfl fun t _ => behind_eq x _ 1 (by norm_num) t j1 _

theorem pay9 (d a : S2048x128.Idx → EReal) (w1 w2 : S1x128.Idx → EReal) :
    k0_pay9 (F := Ideal) d rows a w1 w2 = fun j => a j + w1 (Idealize.ShloMosaic.ix2 0 (j 1)) * ahead d 2 (j 0) (j 1)
      + w2 (Idealize.ShloMosaic.ix2 0 (j 1)) * ahead d 1 (j 0) (j 1) := by
  funext j; idx_vars j
  pointwise [k0_pay9]
  exact congrArg₂ (· + ·) (congrArg (_ + ·) (ahead_eq d _ 2 (by norm_num) j0 j1 _)) (ahead_eq d _ 1 (by norm_num) j0 j1 _)

theorem pay11 (a : S2048x128.Idx → EReal) : k0_pay11 (F := Ideal) a = a := by
  funext j; idx_vars j; pointwise [k0_pay11]

theorem pay12 (d : S2048x128.Idx → EReal) (r3 r0 r1 r2 : S1x128.Idx → EReal) :
    k0_pay12 (F := Ideal) d r3 r0 r1 r2 = fun j => pick (r0 (Idealize.ShloMosaic.ix2 0 (j 1))) (r1 (Idealize.ShloMosaic.ix2 0 (j 1)))
      (r2 (Idealize.ShloMosaic.ix2 0 (j 1))) (r3 (Idealize.ShloMosaic.ix2 0 (j 1))) (∑ t : Fin 2048, d (Idealize.ShloMosaic.ix2 t (j 1)))
      (j 0).val := by
  funext j; idx_vars j
  pointwise [k0_pay12]
  have hj := j0.isLt
  rw [select_eq j0.val 0 (by omega) (by omega), select_eq j0.val 1 (by omega) (by omega), select_eq j0.val 2 (by omega) (by omega),
    select_eq j0.val 3 (by omega) (by omega), select_eq j0.val 4 (by omega) (by omega)]
  unfold pick
  show _ = if j0.val = 0 then _ else _
  split_ifs <;> first | omega | simp

/-- The gradient of the input over one block. -/
def dxBlock (d : S2048x128.Idx → EReal) (w : S8x128.Idx → EReal) : S2048x128.Idx → EReal := fun j =>
  w (Idealize.ShloMosaic.ix2 3 (j 1)) * d j + w (Idealize.ShloMosaic.ix2 0 (j 1)) * ahead d 3 (j 0) (j 1)
    + w (Idealize.ShloMosaic.ix2 1 (j 1)) * ahead d 2 (j 0) (j 1) + w (Idealize.ShloMosaic.ix2 2 (j 1)) * ahead d 1 (j 0) (j 1)

/-- The gradients of the taps and the bias over one block. -/
def dwBlock (d x : S2048x128.Idx → EReal) : S8x128.Idx → EReal := fun j =>
  let s := fun k => ∑ t : Fin 2048, d (Idealize.ShloMosaic.ix2 t (j 1)) * behind x k t (j 1)
  pick (s 3) (s 2) (s 1) (∑ t : Fin 2048, d (Idealize.ShloMosaic.ix2 t (j 1)) * x (Idealize.ShloMosaic.ix2 t (j 1)))
    (∑ t : Fin 2048, d (Idealize.ShloMosaic.ix2 t (j 1))) (j 0).val

theorem dw_eq (d x : S2048x128.Idx → EReal) :
    k0_pay12 (F := Ideal) d (k0_pay5 d x) (k0_pay7 d x) (k0_pay8 d x rows) (k0_pay10 d x rows) = dwBlock d x := by
  rw [pay12, pay5, pay7, pay8, pay10]; rfl

end Cert.ConvKernelIdeal.Block

end
-- ==== Proof.Common.Cols.lean ====
/- The columns of the input projection in the order the kernels use: q, k, v, z, u, x, dt, 122 columns of zeros, v. -/
module

public import proofs.«01_k».proof.Proof.Common.Rows

@[expose] public section

namespace Cert.Cols

open Idealize.ShloMosaic Cert.Rows
open scoped BigOperators

/-- Column `n` in the kernels' order, from the columns in the projection's own order. -/
def perm {M : Type} [Zero M] (f : Nat → M) (n : Nat) : M :=
  if n < 1536 then f n else if n < 1792 then f (2438 + (n - 1536)) else if n < 2688 then f (1536 + (n - 1792))
  else if n < 2694 then f (2432 + (n - 2688)) else if n < 2816 then 0 else f (2694 + (n - 2816))

theorem perm_map {M N : Type} [Zero M] [Zero N] (φ : M → N) (hφ : φ 0 = 0) (f : Nat → M) (n : Nat) :
    perm (fun k => φ (f k)) n = φ (perm f n) := by
  unfold perm; split_ifs <;> simp only [hφ]

theorem perm_mul {M : Type} [MulZeroClass M] (f g : Nat → M) (n : Nat) : perm f n * perm g n = perm (fun k => f k * g k) n := by
  unfold perm; split_ifs <;> simp only [mul_zero]

/-- A sum over the columns does not depend on their order. -/
theorem sum_perm {M : Type} [AddCommMonoid M] (f : Nat → M) : ∑ n : Fin 3072, perm f n.val = ∑ n : Fin 2950, f n.val := by
  rw [Fin.sum_univ_eq_sum_range (perm f) 3072, Fin.sum_univ_eq_sum_range f 2950,
    show 3072 = 1536 + 256 + 896 + 6 + 122 + 256 from rfl, show 2950 = 1536 + 896 + 6 + 256 + 256 from rfl]
  simp only [Finset.sum_range_add]
  have h0 : ∑ n ∈ Finset.range 1536, perm f n = ∑ n ∈ Finset.range 1536, f n :=
    Finset.sum_congr rfl fun n hn => by have := Finset.mem_range.1 hn; unfold perm; rw [if_pos (by omega)]
  have h1 : ∑ n ∈ Finset.range 256, perm f (1536 + n) = ∑ n ∈ Finset.range 256, f (1536 + 896 + 6 + n) :=
    Finset.sum_congr rfl fun n hn => by
      have := Finset.mem_range.1 hn; unfold perm; rw [if_neg (by omega), if_pos (by omega)]; exact congrArg f (by omega)
  have h2 : ∑ n ∈ Finset.range 896, perm f (1536 + 256 + n) = ∑ n ∈ Finset.range 896, f (1536 + n) :=
    Finset.sum_congr rfl fun n hn => by
      have := Finset.mem_range.1 hn; unfold perm; rw [if_neg (by omega), if_neg (by omega), if_pos (by omega)]; exact congrArg f (by omega)
  have h3 : ∑ n ∈ Finset.range 6, perm f (1536 + 256 + 896 + n) = ∑ n ∈ Finset.range 6, f (1536 + 896 + n) :=
    Finset.sum_congr rfl fun n hn => by
      have := Finset.mem_range.1 hn; unfold perm
      rw [if_neg (by omega), if_neg (by omega), if_neg (by omega), if_pos (by omega)]; exact congrArg f (by omega)
  have h4 : ∑ n ∈ Finset.range 122, perm f (1536 + 256 + 896 + 6 + n) = 0 :=
    Finset.sum_eq_zero fun n hn => by
      have := Finset.mem_range.1 hn; unfold perm
      rw [if_neg (by omega), if_neg (by omega), if_neg (by omega), if_neg (by omega), if_pos (by omega)]
  have h5 : ∑ n ∈ Finset.range 256, perm f (1536 + 256 + 896 + 6 + 122 + n) = ∑ n ∈ Finset.range 256, f (1536 + 896 + 6 + 256 + n) :=
    Finset.sum_congr rfl fun n hn => by
      have := Finset.mem_range.1 hn; unfold perm
      rw [if_neg (by omega), if_neg (by omega), if_neg (by omega), if_neg (by omega), if_neg (by omega)]; exact congrArg f (by omega)
  rw [h0, h1, h2, h3, h4, h5, add_zero]
  abel

variable {α : Type} [Zero α]

theorem perm0 (f : Nat → α) {n : Nat} (h : n < 1536) : perm f n = f n := if_pos h
theorem perm1 (f : Nat → α) {n : Nat} (h : ¬ n < 1536) (h' : n - 1536 < 256) : perm f n = f (2438 + (n - 1536)) := by
  unfold perm; rw [if_neg h, if_pos (by omega)]
theorem perm2 (f : Nat → α) {n : Nat} (h : ¬ n < 1536) (h' : ¬ n - 1536 < 256) (h2 : n - 1536 - 256 < 896) :
    perm f n = f (1536 + (n - 1536 - 256)) := by
  unfold perm; rw [if_neg h, if_neg (by omega), if_pos (by omega)]; exact congrArg f (by omega)
theorem perm3 (f : Nat → α) {n : Nat} (h : ¬ n < 1536) (h' : ¬ n - 1536 < 256) (h2 : ¬ n - 1536 - 256 < 896)
    (h3 : n - 1536 - 256 - 896 < 6) : perm f n = f (2432 + (n - 1536 - 256 - 896)) := by
  unfold perm; rw [if_neg h, if_neg (by omega), if_neg (by omega), if_pos (by omega)]; exact congrArg f (by omega)
theorem perm4 (f : Nat → α) {n : Nat} (h2 : ¬ n - 1536 - 256 < 896)
    (h3 : ¬ n - 1536 - 256 - 896 < 6) (h4 : n - 1536 - 256 - 896 - 6 < 122) : perm f n = 0 := by
  unfold perm; rw [if_neg (by omega), if_neg (by omega), if_neg (by omega), if_neg (by omega), if_pos (by omega)]
theorem perm5 (f : Nat → α) {n : Nat} (h4 : ¬ n - 1536 - 256 - 896 - 6 < 122) :
    perm f n = f (2694 + (n - 1536 - 256 - 896 - 6 - 122)) := by
  unfold perm; rw [if_neg (by omega), if_neg (by omega), if_neg (by omega), if_neg (by omega), if_neg (by omega)]
  exact congrArg f (by omega)

end Cert.Cols
-- ==== Proof.Common.Order.lean ====
/- The matrix of the input projection with its columns set in the kernels' order. -/
module

public import proofs.«01_k».proof.Proof.Common.Cols
public import Idealize.ShloMosaic.Lib.Pointwise

@[expose] public section

set_option maxRecDepth 16384

noncomputable section

namespace Cert.Cols

open Idealize.ShloMosaic Cert.Rows

theorem matrix_apply (W : (⟨2, ![1024, 2950]⟩ : Shape).Idx → EReal) (Z : (⟨2, ![1024, 122]⟩ : Shape).Idx → EReal) (hZ : ∀ i, Z i = 0)
    (s0 : (⟨2, ![1024, 2950]⟩ : Shape).Slices ![0, 0] ⟨2, ![1024, 1536]⟩) (s1 : (⟨2, ![1024, 2950]⟩ : Shape).Slices ![0, 2438] ⟨2, ![1024, 256]⟩)
    (s2 : (⟨2, ![1024, 2950]⟩ : Shape).Slices ![0, 1536] ⟨2, ![1024, 896]⟩) (s3 : (⟨2, ![1024, 2950]⟩ : Shape).Slices ![0, 2432] ⟨2, ![1024, 6]⟩)
    (s5 : (⟨2, ![1024, 2950]⟩ : Shape).Slices ![0, 2694] ⟨2, ![1024, 256]⟩)
    (h : Shape.Concatenates [⟨2, ![1024, 1536]⟩, ⟨2, ![1024, 256]⟩, ⟨2, ![1024, 896]⟩, ⟨2, ![1024, 6]⟩, ⟨2, ![1024, 122]⟩, ⟨2, ![1024, 256]⟩] ⟨2, ![1024, 3072]⟩ 1)
    (i : (⟨2, ![1024, 3072]⟩ : Shape).Idx) :
    concatenate ⟨2, ![1024, 3072]⟩ 1
      [⟨⟨2, ![1024, 1536]⟩, extractStridedSlice ⟨2, ![1024, 1536]⟩ ![0, 0] W s0⟩, ⟨⟨2, ![1024, 256]⟩, extractStridedSlice ⟨2, ![1024, 256]⟩ ![0, 2438] W s1⟩,
       ⟨⟨2, ![1024, 896]⟩, extractStridedSlice ⟨2, ![1024, 896]⟩ ![0, 1536] W s2⟩, ⟨⟨2, ![1024, 6]⟩, extractStridedSlice ⟨2, ![1024, 6]⟩ ![0, 2432] W s3⟩,
       ⟨⟨2, ![1024, 122]⟩, Z⟩, ⟨⟨2, ![1024, 256]⟩, extractStridedSlice ⟨2, ![1024, 256]⟩ ![0, 2694] W s5⟩] h i
      = perm (at2 W (i 0).val) (i 1).val := by
  idx_vars i
  pointwise
  by_cases h0 : i1.val < 1536
  · exact (dif_pos h0).trans ((at2_ix W i0 ⟨i1.val, by omega⟩).trans (perm0 _ h0).symm)
  refine (dif_neg h0).trans ?_
  by_cases h1 : i1.val - 1536 < 256
  · exact (dif_pos h1).trans ((at2_ix W i0 ⟨2438 + (i1.val - 1536), by omega⟩).trans (perm1 _ h0 h1).symm)
  refine (dif_neg h1).trans ?_
  by_cases h2 : i1.val - 1536 - 256 < 896
  · exact (dif_pos h2).trans ((at2_ix W i0 ⟨1536 + (i1.val - 1536 - 256), by omega⟩).trans (perm2 _ h0 h1 h2).symm)
  refine (dif_neg h2).trans ?_
  by_cases h3 : i1.val - 1536 - 256 - 896 < 6
  · exact (dif_pos h3).trans ((at2_ix W i0 ⟨2432 + (i1.val - 1536 - 256 - 896), by omega⟩).trans (perm3 _ h0 h1 h2 h3).symm)
  refine (dif_neg h3).trans ?_
  by_cases h4 : i1.val - 1536 - 256 - 896 - 6 < 122
  · exact (dif_pos h4).trans ((hZ _).trans (perm4 (α := EReal) _ h2 h3 h4).symm)
  refine (dif_neg h4).trans ?_
  exact (at2_ix W i0 ⟨2694 + (i1.val - 1536 - 256 - 896 - 6 - 122), by omega⟩).trans (perm5 (α := EReal) _ h4).symm

/-- The convolved columns of the projection, its columns set in the kernels' order. -/
theorem convolved_apply (P : (⟨3, ![2, 2048, 2950]⟩ : Shape).Idx → EReal) (Z : (⟨3, ![2, 2048, 122]⟩ : Shape).Idx → EReal)
    (s0 : (⟨3, ![2, 2048, 2950]⟩ : Shape).Slices ![0, 0, 0] ⟨3, ![2, 2048, 1536]⟩) (s1 : (⟨3, ![2, 2048, 2950]⟩ : Shape).Slices ![0, 0, 2438] ⟨3, ![2, 2048, 256]⟩)
    (s2 : (⟨3, ![2, 2048, 2950]⟩ : Shape).Slices ![0, 0, 1536] ⟨3, ![2, 2048, 896]⟩) (s3 : (⟨3, ![2, 2048, 2950]⟩ : Shape).Slices ![0, 0, 2432] ⟨3, ![2, 2048, 6]⟩)
    (s5 : (⟨3, ![2, 2048, 2950]⟩ : Shape).Slices ![0, 0, 2694] ⟨3, ![2, 2048, 256]⟩)
    (h : Shape.Concatenates [⟨3, ![2, 2048, 1536]⟩, ⟨3, ![2, 2048, 256]⟩, ⟨3, ![2, 2048, 896]⟩, ⟨3, ![2, 2048, 6]⟩, ⟨3, ![2, 2048, 122]⟩, ⟨3, ![2, 2048, 256]⟩] ⟨3, ![2, 2048, 3072]⟩ 2)
    (hc : (⟨3, ![2, 2048, 3072]⟩ : Shape).ShapeCasts ⟨2, ![4096, 3072]⟩) (i : (⟨2, ![4096, 3072]⟩ : Shape).Idx) (k : Nat) (hk : k < 896) (hq : (i 1).val = 1792 + k) :
    shapeCast ⟨2, ![4096, 3072]⟩ (concatenate ⟨3, ![2, 2048, 3072]⟩ 2
      [⟨⟨3, ![2, 2048, 1536]⟩, extractStridedSlice ⟨3, ![2, 2048, 1536]⟩ ![0, 0, 0] P s0⟩, ⟨⟨3, ![2, 2048, 256]⟩, extractStridedSlice ⟨3, ![2, 2048, 256]⟩ ![0, 0, 2438] P s1⟩,
       ⟨⟨3, ![2, 2048, 896]⟩, extractStridedSlice ⟨3, ![2, 2048, 896]⟩ ![0, 0, 1536] P s2⟩, ⟨⟨3, ![2, 2048, 6]⟩, extractStridedSlice ⟨3, ![2, 2048, 6]⟩ ![0, 0, 2432] P s3⟩,
       ⟨⟨3, ![2, 2048, 122]⟩, Z⟩, ⟨⟨3, ![2, 2048, 256]⟩, extractStridedSlice ⟨3, ![2, 2048, 256]⟩ ![0, 0, 2694] P s5⟩] h) hc i
      = at3 P ((i 0).val / 2048) ((i 0).val % 2048) (1536 + k) := by
  refine (flat_apply _ _ _).trans ?_
  generalize hn : (i 0).val / 2048 = n
  generalize hs : (i 0).val % 2048 = s
  unfold at3
  generalize Fin.ofNat 2 n = n'
  generalize Fin.ofNat 2048 s = s'
  generalize hq' : Fin.ofNat 3072 (i 1).val = q'
  have hq2 : q'.val = 1792 + k := by rw [← hq']; show (i 1).val % 3072 = _; omega
  pointwise
  rw [dif_neg (by omega), dif_neg (by omega), dif_pos (by omega)]
  exact congrArg P (congrArg (Idealize.ShloMosaic.ix3 n' s') (Fin.ext (by
    show 1536 + (q'.val - 1536 - 256) = (1536 + k) % 2950; omega)))

end Cert.Cols

end
-- ==== Proof.Conv.Entry.lean ====
/- The arrays the kernel is given, from the program's arguments. -/
module

public import proofs.«01_k».proof.Proof.Conv.Block
public import proofs.«01_k».proof.Proof.Common.Reals
public import proofs.«01_k».proof.Proof.Common.Rows
public import proofs.«01_k».proof.Proof.Common.Order
public import Idealize.ShloMosaic.Lib.Pipeline.ValueKit

@[expose] public section

set_option maxRecDepth 16384

noncomputable section

open Idealize.ShloMosaic Idealize.ShloMosaic.TcCoe Idealize.SL.Sem

namespace Cert.ConvKernelIdeal.Arrays

open Cert.ConvKernelIdeal Cert.ConvKernelIdeal.Gen Cert.ConvKernelIdeal.Block Cert.Rows

variable (m : (ℓ : Loc nD τ sig) → Buf (Elt Ideal) ℓ) (c : Dev nD)

/-- The incoming derivative, the projection and the taps. -/
abbrev D : S2x2048x896.Idx → EReal := m ((c : Thread nD τ).loc main_arg2)
abbrev P : S2x2048x2950.Idx → EReal := m ((c : Thread nD τ).loc main_arg0)
abbrev W : S4x896.Idx → EReal := m ((c : Thread nD τ).loc main_arg1)

theorem entry_d (i : S4096x896.Idx) : V m c main_v1 i = at3 (D m c) ((i 0).val / 2048) ((i 0).val % 2048) (i 1).val :=
  (show V m c main_v1 i = _ from rfl).trans (flat_apply (D m c) shapeCasts_S2x2048x896_S4096x896 i)

theorem entry_w (r : Fin 8) (k : Fin 896) (h : r.val < 4) : V m c main_v0 (Idealize.ShloMosaic.ix2 r k) = at2 (W m c) r.val k.val := by
  unfold V
  simp only [hostOps0, hostOps0_1, hostOps0_2, List.flatten_cons, List.flatten_nil, List.append_nil, List.cons_append,
      List.nil_append]
  entry_read
  simp only [StableHlo.TRef.toBuf, StableHlo.TRef.ofBuf, cast_eq]
  pointwise
  rw [dif_pos h]
  exact at2_ix (W m c) ⟨r.val, h⟩ k

/-- The projection with its columns set in the kernel's order. -/
theorem cols : V m c main_v9 = shapeCast S4096x3072 (concatenate S2x2048x3072 2
      [⟨S2x2048x1536, extractStridedSlice S2x2048x1536 ![0, 0, 0] (P m c) slices_S2x2048x2950_S2x2048x1536_0_0_0⟩,
       ⟨S2x2048x256, extractStridedSlice S2x2048x256 ![0, 0, 2438] (P m c) slices_S2x2048x2950_S2x2048x256_0_0_2438⟩,
       ⟨S2x2048x896, extractStridedSlice S2x2048x896 ![0, 0, 1536] (P m c) slices_S2x2048x2950_S2x2048x896_0_0_1536⟩,
       ⟨S2x2048x6, extractStridedSlice S2x2048x6 ![0, 0, 2432] (P m c) slices_S2x2048x2950_S2x2048x6_0_0_2432⟩,
       ⟨S2x2048x122, broadcastInDim S2x2048x122 ![] bcast_S_S2x2048x122 (constant (F := Ideal) S_ FTy.f32 0#32)⟩,
       ⟨S2x2048x256, extractStridedSlice S2x2048x256 ![0, 0, 2694] (P m c) slices_S2x2048x2950_S2x2048x256_0_0_2694⟩]
      concatenates_S2x2048x1536_S2x2048x256_S2x2048x896_S2x2048x6_S2x2048x122_S2x2048x256_S2x2048x3072_d2)
      shapeCasts_S2x2048x3072_S4096x3072 := rfl

theorem entry_x (i : S4096x3072.Idx) (k : Nat) (hk : k < 896) (hq : (i 1).val = 1792 + k) :
    V m c main_v9 i = at3 (P m c) ((i 0).val / 2048) ((i 0).val % 2048) (1536 + k) :=
  (congrFun (cols m c) i).trans (Cert.Cols.convolved_apply (P m c) _ _ _ _ _ _ _ _ i k hk hq)

end Cert.ConvKernelIdeal.Arrays

end
-- ==== Proof.Common.Taps.lean ====
/- One row of a block of taps. -/
module

public import Idealize.ShloMosaic.Lib.Pipeline.ValueKit
public import Idealize.ShloMosaic.Lib.Pointwise

@[expose] public section

namespace Cert.Rows

open Idealize.ShloMosaic

theorem tap (w : (⟨2, ![8, 128]⟩ : Shape).Idx → EReal) (n : Nat) (r : Fin 8) (hn : r.val = n) (h) (j : Fin 128) :
    View.ld (Val := Elt Ideal) (e' := .f32) w (Rect.unit ![n, 0] ![1, 128] h) (ix2 0 j) = w (ix2 r j) := by
  refine congrArg w (funext fun d => Fin.ext ?_)
  fin_cases d
  · exact hn.symm
  · exact (Nat.zero_add _).trans (Nat.one_mul _)

end Cert.Rows
-- ==== Proof.Conv.Points.lean ====
/- What one point of the grid writes. -/
module

public import proofs.«01_k».proof.Proof.Conv.Entry
public import proofs.«01_k».proof.Proof.Common.Reals
public import proofs.«01_k».proof.Proof.Common.Taps
public import Idealize.ShloMosaic.Lib.Pipeline.ValueKit

@[expose] public section

set_option maxRecDepth 16384

noncomputable section

open Idealize.ShloMosaic Idealize.ShloMosaic.TcCoe Idealize.SL.Sem
open scoped BigOperators

namespace Cert.ConvKernelIdeal.Arrays

open Cert.ConvKernelIdeal Cert.ConvKernelIdeal.Gen Cert.ConvKernelIdeal.Block Cert.Rows

variable (m : (ℓ : Loc nD τ sig) → Buf (Elt Ideal) ℓ) (c : Dev nD)

theorem idx_val : ∀ t : Fin cfg0.N, win0_0.index t = ![t.val % 2, t.val / 2]
    ∧ win0_1.index t = ![t.val % 2, 14 + (t.val / 2)]
    ∧ win0_2.index t = ![0, t.val / 2]
    ∧ win0_3.index t = ![t.val % 2, t.val / 2]
    ∧ win0_4.index t = ![0, t.val / 2] :=
  (by decide +kernel : ∀ t : Fin grid0.N, _)

theorem sums (d x : S2048x128.Idx → EReal) : k0_pay12 (F := Ideal) (k0_pay3 d) (k0_pay5 d x) (k0_pay7 d x)
    (k0_pay8 (k0_pay3 d) (k0_pay4 x) (iota Kind.tc S2048x1 32 [0] iota_S2048x1_d0_w32))
    (k0_pay10 (k0_pay3 d) (k0_pay4 x) (iota Kind.tc S2048x1 32 [0] iota_S2048x1_d0_w32)) = dwBlock d x := by
  rw [pay3, pay4]; exact dw_eq d x

theorem grad (d : S2048x128.Idx → EReal) (w : S8x128.Idx → EReal) (h0 h1 h2 h3) :
    k0_pay11 (F := Ideal) (k0_pay9 (k0_pay3 d) (iota Kind.tc S2048x1 32 [0] iota_S2048x1_d0_w32)
      (k0_pay6 d (View.ld (Val := Elt Ideal) (e' := .f32) w (Rect.unit ![3, 0] ![1, 128] h3)) (View.ld (Val := Elt Ideal) (e' := .f32) w (Rect.unit ![0, 0] ![1, 128] h0)))
      (View.ld (Val := Elt Ideal) (e' := .f32) w (Rect.unit ![1, 0] ![1, 128] h1)) (View.ld (Val := Elt Ideal) (e' := .f32) w (Rect.unit ![2, 0] ![1, 128] h2))) = dxBlock d w := by
  rw [pay3, pay6]
  refine (pay11 _).trans ((pay9 _ _ _ _).trans (funext fun i => ?_))
  idx_vars i
  simp only [dxBlock]
  exact congrArg₂ (· + ·) (congrArg₂ (· + ·) (congrArg₂ (· + ·) (congrArg (· * _) (tap w 3 3 rfl h3 i1))
    (congrArg (· * _) (tap w 0 0 rfl h0 i1))) (congrArg (· * _) (tap w 1 1 rfl h1 i1))) (congrArg (· * _) (tap w 2 2 rfl h2 i1))

theorem pointA (t : Fin cfg0.N) (h0 : t.val % 2 = 0) : outsAt0 m c t.val t.isLt = (dxBlock (iblk m c 0 t) (iblk m c 2 t), fun i => 0 + dwBlock (iblk m c 0 t) (iblk m c 1 t) i) := by
  rw [outsAt0_A m c t h0]
  frame_out
  refine Prod.ext (grad _ _ _ _ _ _) ?_
  dsimp only
  rw [show _ = _ from sums (iblk m c 0 t) (iblk m c 1 t)]
  funext i
  idx_vars i
  pointwise [k0_pay1, k0_pay13, k0_pay2]
  trace_state

theorem pointB (t : Fin cfg0.N) (h0 : ¬ t.val % 2 = 0) : outsAt0 m c t.val t.isLt = (dxBlock (iblk m c 0 t) (iblk m c 2 t), fun i => (outsAt0 m c (t.val - 1) (by omega)).2 i + dwBlock (iblk m c 0 t) (iblk m c 1 t) i) := by
  rw [outsAt0_B m c t h0]
  frame_out
  refine Prod.ext (grad _ _ _ _ _ _) ?_
  dsimp only
  rw [show _ = _ from sums (iblk m c 0 t) (iblk m c 1 t)]
  funext i
  idx_vars i
  pointwise [k0_pay1, k0_pay13, k0_pay2]
  trace_state

theorem blk_d (t : Fin cfg0.N) (i : S2048x128.Idx) : iblk m c 0 t i = at3 (D m c) (t.val % 2) (i 0).val (128 * (t.val / 2) + (i 1).val) := by
  idx_vars i
  blk_simp [iblk, idx_val t]
  rw [entry_d]
  have h0 : i0.val < 2048 := i0.isLt
  refine at3_congr _ ?_ ?_ ?_ <;> blk_simp [idx_val t] <;> omega

theorem blk_x (t : Fin cfg0.N) (i : S2048x128.Idx) : iblk m c 1 t i = at3 (P m c) (t.val % 2) (i 0).val (1536 + (128 * (t.val / 2) + (i 1).val)) := by
  idx_vars i
  blk_simp [iblk, idx_val t]
  have ht : t.val < 14 := t.isLt
  have h0 : i0.val < 2048 := i0.isLt
  refine (entry_x m c _ (128 * (t.val / 2) + i1.val) (by omega) ?_).trans (at3_congr _ ?_ ?_ ?_) <;> blk_simp [idx_val t] <;> omega

theorem blk_w (t : Fin cfg0.N) (r : Fin 8) (h : r.val < 4) (k : Fin 128) : iblk m c 2 t (Idealize.ShloMosaic.ix2 r k) = at2 (W m c) r.val (128 * (t.val / 2) + k.val) := by
  blk_simp [iblk, idx_val t]
  have ht : t.val < 14 := t.isLt
  refine Eq.trans (congrArg (V m c main_v0) ?_) (entry_w m c r ⟨128 * (t.val / 2) + k.val, by omega⟩ h)
  funext d
  fin_cases d <;> refine Fin.ext ?_ <;> blk_simp [idx_val t]
  · rfl
  · show t.val / 2 * 128 + k.val = 128 * (t.val / 2) + k.val
    omega

theorem ahead_blk (t : Fin cfg0.N) (k : Nat) (s : Fin 2048) (j : Fin 128) :
    ahead (iblk m c 0 t) k s j = Cert.Conv.later (D m c) k (t.val % 2) s.val (128 * (t.val / 2) + j.val) := by
  unfold ahead Cert.Conv.later
  split
  · exact blk_d m c t _
  · rfl

theorem behind_blk (t : Fin cfg0.N) (k : Nat) (s : Fin 2048) (j : Fin 128) :
    behind (iblk m c 1 t) k s j = Cert.Conv.earlier (P m c) k (t.val % 2) s.val (128 * (t.val / 2) + j.val) := by
  unfold behind Cert.Conv.earlier
  split
  · exact blk_x m c t _
  · rfl

theorem dx_blk (t : Fin cfg0.N) (i : S2048x128.Idx) : dxBlock (iblk m c 0 t) (iblk m c 2 t) i
    = Cert.Conv.dxAt (D m c) (W m c) (t.val % 2) (i 0).val (128 * (t.val / 2) + (i 1).val) := by
  have hw : ∀ (n : Nat) (r : Fin 8), r.val = n → n < 4 → ∀ j : Fin 128,
      iblk m c 2 t (Idealize.ShloMosaic.ix2 r j) = at2 (W m c) n (128 * (t.val / 2) + j.val) :=
    fun n r hr hn j => by subst hr; exact blk_w m c t r hn j
  unfold dxBlock Cert.Conv.dxAt
  exact congrArg₂ (· + ·) (congrArg₂ (· + ·) (congrArg₂ (· + ·) (congrArg₂ (· * ·) (hw 3 3 rfl (by omega) _) (blk_d m c t i))
    (congrArg₂ (· * ·) (hw 0 0 rfl (by omega) _) (ahead_blk m c t 3 _ _)))
    (congrArg₂ (· * ·) (hw 1 1 rfl (by omega) _) (ahead_blk m c t 2 _ _)))
    (congrArg₂ (· * ·) (hw 2 2 rfl (by omega) _) (ahead_blk m c t 1 _ _))

/-- Batch `b`'s part of row `r` of the gradients of the taps and the bias. -/
def part (b r ch : Nat) : EReal :=
  Cert.Conv.pick (Cert.Conv.tapSum (D m c) (P m c) 3 b ch) (Cert.Conv.tapSum (D m c) (P m c) 2 b ch)
    (Cert.Conv.tapSum (D m c) (P m c) 1 b ch) (Cert.Conv.tapSum (D m c) (P m c) 0 b ch) (Cert.Conv.biasSum (D m c) b ch) r

theorem dw_blk (t : Fin cfg0.N) (i : S8x128.Idx) : dwBlock (iblk m c 0 t) (iblk m c 1 t) i
    = part m c (t.val % 2) (i 0).val (128 * (t.val / 2) + (i 1).val) := by
  have hd : ∀ s : Fin 2048, iblk m c 0 t (Idealize.ShloMosaic.ix2 s (i 1)) = at3 (D m c) (t.val % 2) s.val (128 * (t.val / 2) + (i 1).val) :=
    fun s => blk_d m c t _
  have hs : ∀ k, ∑ s : Fin 2048, (show S2048x128.Idx → EReal from iblk m c 0 t) (Idealize.ShloMosaic.ix2 s (i 1)) * behind (iblk m c 1 t) k s (i 1)
      = Cert.Conv.tapSum (D m c) (P m c) k (t.val % 2) (128 * (t.val / 2) + (i 1).val) := fun k =>
    Finset.sum_congr rfl fun s _ => congrArg₂ (· * ·) (hd s) (behind_blk m c t k s (i 1))
  have h0 : ∑ s : Fin 2048, (show S2048x128.Idx → EReal from iblk m c 0 t) (Idealize.ShloMosaic.ix2 s (i 1))
      * (show S2048x128.Idx → EReal from iblk m c 1 t) (Idealize.ShloMosaic.ix2 s (i 1))
      = Cert.Conv.tapSum (D m c) (P m c) 0 (t.val % 2) (128 * (t.val / 2) + (i 1).val) :=
    Finset.sum_congr rfl fun s _ => congrArg₂ (· * ·) (hd s) ((blk_x m c t _).trans (if_pos (Nat.zero_le _)).symm)
  have hb : ∑ s : Fin 2048, (show S2048x128.Idx → EReal from iblk m c 0 t) (Idealize.ShloMosaic.ix2 s (i 1))
      = Cert.Conv.biasSum (D m c) (t.val % 2) (128 * (t.val / 2) + (i 1).val) :=
    Finset.sum_congr rfl fun s _ => hd s
  unfold part
  rw [← hs 3, ← hs 2, ← hs 1, ← h0, ← hb]
  rfl

end Cert.ConvKernelIdeal.Arrays

end
-- ==== Proof.Conv.Arrays.lean ====
/- The two arrays the convolution's gradient leaves. -/
module

public import proofs.«01_k».proof.Proof.Conv.Points
public import proofs.«01_k».proof.Proof.Gen.ConvKernelIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.ConvKernelIdeal.Arrays

open Cert.ConvKernelIdeal Cert.ConvKernelIdeal.Gen Cert.ConvKernelIdeal.Block Cert.Rows

variable (m : (ℓ : Loc nD τ sig) → Buf (Elt Ideal) ℓ) (c : Dev nD)

/-- The gradient of the convolved columns. -/
theorem final_dx : (dats m 0 c).arrAt 3 (cfgs 0).N
    = fun y : S4096x896.Idx => Cert.Conv.dxAt (D m c) (W m c) ((y 0).val / 2048) ((y 0).val % 2048) (y 1).val := by
  refine (dats m 0 c).arrAt_eq_of_covers 3 _ (by decide +kernel) fun t hf y => ?_
  have key : dxBlock (iblk m c 0 t) (iblk m c 2 t) y = _ := dx_blk m c t y
  blk_simp; rw [after0_3]
  have h0 : (y 0).val < 2048 := (y 0).isLt
  have ht : t.val < 14 := t.isLt
  have e : (outsAt0 m c t.val t.isLt).1 y = dxBlock (iblk m c 0 t) (iblk m c 2 t) y := by
    by_cases ht : t.val % 2 = 0
    · rw [pointA m c t ht]
    · rw [pointB m c t ht]
  refine (e.trans key).trans (congr (congr (congrArg (Cert.Conv.dxAt (D m c) (W m c)) ?_) ?_) ?_) <;> blk_simp [idx_val t] <;> omega

theorem final_dw : (dats m 0 c).arrAt 4 (cfgs 0).N
    = fun y : S8x896.Idx => Cert.Conv.dwAt (D m c) (P m c) (y 0).val (y 1).val := by
  refine (dats m 0 c).arrAt_eq_of_covers 4 _ (by decide +kernel) fun t hf y => ?_
  blk_simp; rw [after0_4]
  rw [Pipeline.eq_sum_fin_of_reset_step_apply_of_flush (fun n h => (outsAt0 m c n h).2) 2 (fun _ => 0)
    (fun t => dwBlock (iblk m c 0 t) (iblk m c 1 t))
    (fun t ht j => by rw [pointA m c t ht])
    (fun t ht j => by rw [pointB m c t ht]) t ((flush0_4 t).mp hf) _, zero_add]
  have ht : t.val < 14 := t.isLt
  refine Finset.sum_congr (M := EReal) rfl fun s _ => (dw_blk m c _ y).trans ?_
  have hs := s.isLt
  refine (show _ = part m c s.val (win0_4.index t 0 * 8 + (y 0).val) (win0_4.index t 1 * 128 + (y 1).val) from
    congr (congr (congrArg (part m c) ?_) ?_) ?_)
  · show (2 * (t.val / 2) + s.val) % 2 = s.val
    omega
  · blk_simp [idx_val t]; first | done | omega
  · blk_simp [idx_val t]
    show 128 * ((2 * (t.val / 2) + s.val) / 2) + (y 1).val = _
    omega

end Cert.ConvKernelIdeal.Arrays

end
-- ==== Proof.Conv.Reference.lean ====
/- What the convolution's reference computes: the two gradients by the chain rule. -/
module

public import proofs.«01_k».proof.Proof.Common.Reals
public import proofs.«01_k».proof.Proof.Conv.Spec
public import proofs.«01_k».proof.Proof.Gen.ConvReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.ConvReferenceIdeal.Conv

open Cert.ConvReferenceIdeal Cert.ConvReferenceIdeal.Gen Cert.ConvReferenceIdeal.Read Cert.Conv Cert.Rows Cert.Reals

variable (D : S2x2048x896.Idx → EReal) (P : S2x2048x2950.Idx → EReal) (W : S4x896.Idx → EReal)

theorem v90_eq (b : Fin 2) (s : Fin 2048) (k : Fin 896) : val_main_v90 (F := Ideal) W D (Idealize.ShloMosaic.ix3 b s k) = dxAt D W b.val s.val k.val := by
  pointwise [val_main_v90, val_main_v88, val_main_v77, val_main_v66, val_main_v55, val_main_v51, val_main_v50, val_main_v36, val_main_v35,
    val_main_v34, val_main_v43, val_main_v65, val_main_v60, val_main_v59, val_main_v29, val_main_v28, val_main_v27, val_main_v76, val_main_v71,
    val_main_v70, val_main_v22, val_main_v21, val_main_v20, val_main_v87, val_main_v82, val_main_v81, val_main_v14, val_main_v13, val_main_v12,
    val_main_cst_8, val_main_cst_12, val_main_cst_16, val_main_cst_20]
  have hd : ∀ i : Fin 2048, D (Idealize.ShloMosaic.ix3 b i k) = at3 D b.val i.val k.val := fun i => at3_ix D b i k
  have hw : ∀ r : Fin 4, W (Idealize.ShloMosaic.ix2 r k) = at2 W r.val k.val := fun r => at2_ix W r k
  have hl : ∀ (n : Nat) (p : Prop) [Decidable p] (hp : p ↔ s.val + n < 2048) (i : p → Fin 2048) (hi : ∀ h, (i h).val = s.val + n) (r : Fin 4),
      (if h : p then D (Idealize.ShloMosaic.ix3 b (i h) k) * W (Idealize.ShloMosaic.ix2 r k) else 0)
        = at2 W r.val k.val * later D n b.val s.val k.val := by
    intro n p _ hp i hi r
    unfold later
    by_cases h : p
    · rw [dif_pos h, if_pos (hp.mp h), hd, hw, hi h, mul_comm]
    · rw [dif_neg h, if_neg (fun h' => h (hp.mpr h')), mul_zero]
  have hs := s.isLt
  rw [hl 1 _ (by omega) _ (fun _ => by show 3 + s.val - 2 = _; omega), hl 2 _ (by omega) _ (fun _ => by show 3 + s.val - 1 = _; omega),
    hl 3 _ (by omega) _ (fun _ => by show 3 + s.val = _; omega), hd, hw]
  unfold dxAt
  show at3 D b.val s.val k.val * at2 W 3 k.val + at2 W 2 k.val * _ + at2 W 1 k.val * _ + at2 W 0 k.val * _ = _
  rw [mul_comm (at3 D _ _ _), add_right_comm _ (at2 W 2 k.val * _), add_right_comm _ (at2 W 2 k.val * _), add_right_comm _ (at2 W 1 k.val * _)]

/-- The sum over both leading axes, taken once more over the axes of length one it leaves. -/
theorem sum_twice (x : S2x2048x896.Idx → EReal) (k : Fin 896) :
    Ideal.hostReduceAdd (s := S1x1x896) (t := S896) reducesTo_S1x1x896_S896_d0_1 (shapeCast S1x1x896
      (Host.reduceAdd (F := Ideal) (φ := .f32) (s := S2x2048x896) (t := S896) x (constant S_ FTy.f32 0#32) reducesTo_S2x2048x896_S896_d0_1 h_S_)
        shapeCasts_S896_S1x1x896) 0 (Idealize.ShloMosaic.ix1 k)
      = ∑ p : Fin 2, ∑ q : Fin 2048, x (Idealize.ShloMosaic.ix3 p q k) := by
  refine (hostReduceAdd_rows (a := 1) (b := 1) (n := 896) _ _ _ _).trans ?_
  simp only [Host.reduceAdd, Ideal.hostReduceAdd_def, Finset.univ_unique, Finset.sum_singleton, zero_add]
  refine (shapeCast_apply _ _ _ (Idealize.ShloMosaic.ix1 k) ?_).trans ?_
  · rw [Shape.rowMajor_val_three, Shape.rowMajor_val_one]
    simp
  · refine (hostReduceAdd_rows (a := 2) (b := 2048) (n := 896) _ _ _ _).trans ?_
    simp only [constant, Ideal.ofBits_def, Ideal.ofBits_zero_f32, zero_add]
    rfl

/-- The projection's convolved columns with three rows of zeros before them. -/
theorem padded (b : Fin 2) (s : Fin 2051) (k : Fin 896) (n : Nat) (s' : Nat) (hs : s.val + n = s' + 3) (hs' : s' < 2048) (hn : n ≤ 3) :
    val_main_v9 (F := Ideal) P (Idealize.ShloMosaic.ix3 b s k) = earlier P n b.val s' k.val := by
  pointwise [val_main_v9, val_main_v8, val_main_v4, val_main_cst_0]
  have hk := k.isLt
  unfold earlier
  by_cases h : s.val < 3
  · exact (dif_pos h).trans (if_neg (by omega)).symm
  · refine (dif_neg h).trans (Eq.trans ?_ (if_pos (by omega)).symm)
    refine (at3_ix P _ _ _).trans (at3_congr P rfl ?_ rfl)
    show s.val - 3 = s' - n
    omega

theorem tap_eq (X : S2x2048x896.Idx → EReal) (n : Nat) (hX : ∀ b s k, X (Idealize.ShloMosaic.ix3 b s k) = earlier P n b.val s.val k.val * D (Idealize.ShloMosaic.ix3 b s k))
    (k : Fin 896) : ∑ p : Fin 2, ∑ q : Fin 2048, X (Idealize.ShloMosaic.ix3 p q k) = ∑ b : Fin 2, tapSum D P n b.val k.val :=
  Finset.sum_congr rfl fun p _ => Finset.sum_congr rfl fun q _ => by rw [hX, at3_ix D, mul_comm]

theorem tap0 (k : Fin 896) : val_main_v52 (F := Ideal) P D (Idealize.ShloMosaic.ix1 k) = ∑ b : Fin 2, tapSum D P 0 b.val k.val := by
  pointwise [val_main_v52, val_main_v49, val_main_v48, val_main_v47, val_main_v43, val_main_v33, val_main_cst_5, val_main_cst_6]
  refine (sum_twice _ k).trans (tap_eq D P _ 0 (fun b s k => ?_) k)
  pointwise
  exact congrArg (· * _) (padded P _ _ _ 0 s.val (by show 3 + s.val + 0 = _; omega) s.isLt (by omega))

theorem tap1 (k : Fin 896) : val_main_v61 (F := Ideal) P D (Idealize.ShloMosaic.ix1 k) = ∑ b : Fin 2, tapSum D P 1 b.val k.val := by
  pointwise [val_main_v61, val_main_v58, val_main_v57, val_main_v56, val_main_v43, val_main_v26, val_main_cst_9, val_main_cst_10]
  refine (sum_twice _ k).trans (tap_eq D P _ 1 (fun b s k => ?_) k)
  pointwise
  exact congrArg (· * _) (padded P _ _ _ 1 s.val (by show 2 + s.val + 1 = _; omega) s.isLt (by omega))

theorem tap2 (k : Fin 896) : val_main_v72 (F := Ideal) P D (Idealize.ShloMosaic.ix1 k) = ∑ b : Fin 2, tapSum D P 2 b.val k.val := by
  pointwise [val_main_v72, val_main_v69, val_main_v68, val_main_v67, val_main_v43, val_main_v19, val_main_cst_13, val_main_cst_14]
  refine (sum_twice _ k).trans (tap_eq D P _ 2 (fun b s k => ?_) k)
  pointwise
  exact congrArg (· * _) (padded P _ _ _ 2 s.val (by show 1 + s.val + 2 = _; omega) s.isLt (by omega))

theorem tap3 (k : Fin 896) : val_main_v83 (F := Ideal) P D (Idealize.ShloMosaic.ix1 k) = ∑ b : Fin 2, tapSum D P 3 b.val k.val := by
  pointwise [val_main_v83, val_main_v80, val_main_v79, val_main_v78, val_main_v43, val_main_v11, val_main_cst_17, val_main_cst_18]
  refine (sum_twice _ k).trans (tap_eq D P _ 3 (fun b s k => ?_) k)
  pointwise
  exact congrArg (· * _) (padded P _ _ _ 3 s.val (by show s.val + 3 = _; omega) s.isLt (by omega))

theorem bias (k : Fin 896) : val_main_v46 (F := Ideal) D (Idealize.ShloMosaic.ix1 k) = ∑ b : Fin 2, biasSum D b.val k.val := by
  pointwise [val_main_v46, val_main_v45, val_main_v44, val_main_cst_3, val_main_cst_4]
  refine (sum_twice _ k).trans (Finset.sum_congr rfl fun p _ => Finset.sum_congr rfl fun q _ => at3_ix D p q k)

theorem v93_eq (r : Fin 8) (k : Fin 896) : val_main_v93 (F := Ideal) P D (Idealize.ShloMosaic.ix2 r k) = dwAt D P r.val k.val := by
  pointwise [val_main_v93, val_main_v86, val_main_v75, val_main_v64, val_main_v54, val_main_v53, val_main_v63, val_main_v62, val_main_v74, val_main_v73,
    val_main_v85, val_main_v84, val_main_v91, val_main_v92, val_main_cst_7, val_main_cst_11, val_main_cst_15, val_main_cst_19, val_main_cst_21]
  rw [tap0, tap1, tap2, tap3, bias]
  unfold dwAt
  have hr := r.isLt
  generalize r.val = n at hr ⊢
  unfold pick
  interval_cases n <;> simp

theorem dx_eq : val_main_v95 (F := Ideal) W D = fun y => dxAt D W ((y 0).val / 2048) ((y 0).val % 2048) (y 1).val := by
  funext y
  have h0 : (y 0).val < 4096 := (y 0).isLt
  refine (flat_apply _ _ _).trans ?_
  exact (v90_eq D W _ _ _).trans (by
    show dxAt D W ((y 0).val / 2048 % 2) ((y 0).val % 2048 % 2048) ((y 1).val % 896) = _
    rw [Nat.mod_eq_of_lt (show (y 0).val / 2048 < 2 by omega), Nat.mod_mod, Nat.mod_eq_of_lt (show (y 1).val < 896 from (y 1).isLt)])

theorem dw_eq : val_main_v93 (F := Ideal) P D = fun y => dwAt D P (y 0).val (y 1).val := by
  funext y
  idx_vars y
  exact v93_eq D P y0 y1

end Cert.ConvReferenceIdeal.Conv

end
-- ==== Proof.Conv.Equation.lean ====
/- The convolution's gradients: the kernel leaves what the reference computes. -/
module

public import proofs.«01_k».proof.Proof.Conv.Arrays
public import proofs.«01_k».proof.Proof.Conv.Reference
public import proofs.«01_k».proof.Proof.Gen.ConvReferenceIdeal.Run
public import proofs.«01_k».proof.Defs

@[expose] public section

noncomputable section

open Idealize.ShloMosaic Idealize.ShloMosaic.TcCoe Idealize.SL.Sem

namespace Cert.Conv

open Cert.ConvKernelIdeal

variable (m : (ℓ : Loc nD τ sig) → Buf (Elt Ideal) ℓ) (c : Dev nD)

theorem reference_dx : Cert.ConvReferenceIdeal.Read.val_main_v95 (F := Ideal) (m ((c : Thread nD τ).loc main_arg1))
    (m ((c : Thread nD τ).loc main_arg2)) = (Gen.dats m 0 c).arrAt 3 (cfgs 0).N :=
  (Cert.ConvReferenceIdeal.Conv.dx_eq _ _).trans (Arrays.final_dx m c).symm

theorem reference_dw : Cert.ConvReferenceIdeal.Read.val_main_v93 (F := Ideal) (m ((c : Thread nD τ).loc main_arg0))
    (m ((c : Thread nD τ).loc main_arg2)) = (Gen.dats m 0 c).arrAt 4 (cfgs 0).N :=
  (Cert.ConvReferenceIdeal.Conv.dw_eq _ _).trans (Arrays.final_dw m c).symm

/-- The two programs end with equal results. -/
theorem equation : Cert.algebraic_ConvKernelIdeal_ConvReferenceIdeal := by
  pair_intro
  · run_from (Value.run_blocks m g)
  · run_from (Cert.ConvReferenceIdeal.Value.run m' g')
    · exact reference_dx m c
    · rw [Cert.ConvReferenceIdeal.Read.val_main_v93_eq, (hagree c).1, (hagree c).2.2]
      exact reference_dw m c

end Cert.Conv

end
-- ==== Proof.Norm.Spec.lean ====
/- The derivative of a norm followed by a product with a matrix, in real numbers, row by row and over all rows. -/
module

public import proofs.«01_k».proof.Proof.Common.Rms
public import proofs.«01_k».proof.Proof.Common.Rows

@[expose] public section

noncomputable section

open Idealize.ShloMosaic Idealize.ShloMosaic.TcCoe
open scoped BigOperators

namespace Cert.Norm

open Cert.Reals Cert.Rows

variable (X : (⟨3, ![2, 2048, 1024]⟩ : Shape).Idx → ℝ) (G : Fin 1024 → ℝ) (W : (⟨2, ![1024, 2950]⟩ : Shape).Idx → ℝ)
  (D : (⟨3, ![2, 2048, 2950]⟩ : Shape).Idx → ℝ)

/-- What comes in at an entry of the normed row: the cotangent's row times the matrix's row. -/
def back (n : Nat) (j : Nat) : ℝ := ∑ k : Fin 2950, at3 D (n / 2048) (n % 2048) k.val * at2 W j k.val

/-- What the norm hands to its input. -/
def dx (n : Nat) (j : Fin 1024) : ℝ := Rms.bwd (rowN X n) (fun k => back W D n k.val * G k) j

/-- What a row adds to the gain's gradient. -/
def dgRow (n : Nat) (j : Fin 1024) : ℝ := back W D n j.val * (rowN X n j * Rms.inv (rowN X n))

/-- The gain's gradient. -/
def dgain (j : Fin 1024) : ℝ := ∑ n ∈ Finset.range 4096, dgRow X W D n j

end Cert.Norm

end
-- ==== Proof.Norm.Block.lean ====
/- The kernel on one block of 512 rows of real numbers: each value it computes, as real numbers. -/
module

public import proofs.«01_k».proof.Proof.Norm.Spec
public import proofs.«01_k».proof.Proof.Gen.NormKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.NormKernelIdeal.Block

open Cert.NormKernelIdeal Cert.NormKernelIdeal.Gen Cert.Reals Cert.Norm

variable (g : S1x1024.Idx → ℝ) (d : S512x3072.Idx → ℝ) (w : S1024x3072.Idx → ℝ) (x : S512x1024.Idx → ℝ)

/-- A row of the block. -/
def row (x : S512x1024.Idx → ℝ) (p : Fin 512) (k : Fin 1024) : ℝ := x (Idealize.ShloMosaic.ix2 p k)

/-- The gain's one row. -/
def gain (g : S1x1024.Idx → ℝ) (k : Fin 1024) : ℝ := g (Idealize.ShloMosaic.ix2 0 k)

/-- A row of the cotangent times a row of the matrix. -/
def prod (d : S512x3072.Idx → ℝ) (w : S1024x3072.Idx → ℝ) (p : Fin 512) (j : Fin 1024) : ℝ :=
  ∑ k : Fin 3072, d (Idealize.ShloMosaic.ix2 p k) * w (Idealize.ShloMosaic.ix2 j k)

theorem prod_eq : k0_pay3 (F := Ideal) (fun i => ((d i : ℝ) : EReal)) (fun i => ((w i : ℝ) : EReal))
    = fun j => ((prod d w (j 0) (j 1) : ℝ) : EReal) := by
  funext j
  idx_vars j
  pointwise [k0_pay3]
  simp only [← EReal.coe_mul, coe_sum]
  rfl

theorem inv_eq : k0_pay5 (F := Ideal) (fun i => ((x i : ℝ) : EReal)) = fun j => ((Rms.inv (row x (j 0)) : ℝ) : EReal) := by
  funext j
  pointwise [k0_pay5, k0_pay4]
  simp only [← EReal.coe_mul, coe_sum, ofBits_1024, ofBits_eps]
  rw [div_real _ (by norm_num), ← EReal.coe_add]
  exact rsqrt_real (Rms.msq_pos (row x (j 0)))

theorem hat_eq : k0_pay6 (F := Ideal) (fun i => ((x i : ℝ) : EReal))
    = fun j => ((row x (j 0) (j 1) * Rms.inv (row x (j 0)) : ℝ) : EReal) := by
  funext j
  idx_vars j
  pointwise [k0_pay6, k0_pay4]
  rw [inv_eq]
  exact (EReal.coe_mul _ _).symm

theorem dx_eq (r : Vec Ideal S512x1024 .f32) (j : S512x1024.Idx) : k0_pay8 (F := Ideal) (fun i => ((g i : ℝ) : EReal))
      (fun i => ((d i : ℝ) : EReal)) (fun i => ((w i : ℝ) : EReal)) (fun i => ((x i : ℝ) : EReal)) r j
    = r j + ((Rms.bwd (row x (j 0)) (fun k => prod d w (j 0) k * gain g k) (j 1) : ℝ) : EReal) := by
  idx_vars j
  pointwise [k0_pay8]
  rw [inv_eq, hat_eq, prod_eq]
  simp only [← EReal.coe_mul, coe_sum, ofBits_1024]
  rw [div_real _ (by norm_num), ← EReal.coe_mul, ← EReal.coe_sub, ← EReal.coe_mul]
  rfl

theorem dg_eq (acc : Vec Ideal S1x1024 .f32) (j : S1x1024.Idx) : k0_pay1 (F := Ideal)
      (k0_pay7 (fun i => ((d i : ℝ) : EReal)) (fun i => ((w i : ℝ) : EReal)) (fun i => ((x i : ℝ) : EReal))) acc j
    = acc j + ((∑ p, prod d w p (j 1) * (row x p (j 1) * Rms.inv (row x p)) : ℝ) : EReal) := by
  idx_vars j
  pointwise [k0_pay1, k0_pay7]
  rw [hat_eq, prod_eq]
  simp only [← EReal.coe_mul, coe_sum]
  rfl

end Cert.NormKernelIdeal.Block

end
-- ==== Proof.Norm.Entry.lean ====
/- The arrays the kernel is given, from the program's arguments. -/
module

public import proofs.«01_k».proof.Proof.Norm.Block
public import proofs.«01_k».proof.Proof.Common.Order

@[expose] public section

set_option maxRecDepth 16384

noncomputable section

open Idealize.ShloMosaic Idealize.ShloMosaic.TcCoe Idealize.SL.Sem

namespace Cert.NormKernelIdeal.Arrays

open Cert.NormKernelIdeal Cert.NormKernelIdeal.Gen Cert.NormKernelIdeal.Block Cert.Rows Cert.Cols

variable (m : (ℓ : Loc nD τ sig) → Buf (Elt Ideal) ℓ) (c : Dev nD)

/-- The matrix and the cotangent. -/
abbrev W : S1024x2950.Idx → EReal := m ((c : Thread nD τ).loc main_arg2)
abbrev D : S2x2048x2950.Idx → EReal := m ((c : Thread nD τ).loc main_arg3)

/-- The matrix with its columns set in the kernel's order. -/
theorem w_cols : V m c main_v18 = concatenate S1024x3072 1
      [⟨S1024x1536, extractStridedSlice S1024x1536 ![0, 0] (W m c) slices_S1024x2950_S1024x1536_0_0⟩,
       ⟨S1024x256, extractStridedSlice S1024x256 ![0, 2438] (W m c) slices_S1024x2950_S1024x256_0_2438⟩,
       ⟨S1024x896, extractStridedSlice S1024x896 ![0, 1536] (W m c) slices_S1024x2950_S1024x896_0_1536⟩,
       ⟨S1024x6, extractStridedSlice S1024x6 ![0, 2432] (W m c) slices_S1024x2950_S1024x6_0_2432⟩,
       ⟨S1024x122, broadcastInDim S1024x122 ![] bcast_S_S1024x122 (constant (F := Ideal) S_ FTy.f32 0#32)⟩,
       ⟨S1024x256, extractStridedSlice S1024x256 ![0, 2694] (W m c) slices_S1024x2950_S1024x256_0_2694⟩]
      concatenates_S1024x1536_S1024x256_S1024x896_S1024x6_S1024x122_S1024x256_S1024x3072_d1 := rfl

theorem entry_w (i : S1024x3072.Idx) : V m c main_v18 i = perm (at2 (W m c) (i 0).val) (i 1).val :=
  (congrFun (w_cols m c) i).trans (matrix_apply (W m c) _ (fun i => by pointwise) _ _ _ _ _ _ i)

/-- The cotangent with its columns set in the kernel's order. -/
def dcols : S2x2048x3072.Idx → EReal := concatenate S2x2048x3072 2
      [⟨S2x2048x1536, extractStridedSlice S2x2048x1536 ![0, 0, 0] (D m c) slices_S2x2048x2950_S2x2048x1536_0_0_0⟩,
       ⟨S2x2048x256, extractStridedSlice S2x2048x256 ![0, 0, 2438] (D m c) slices_S2x2048x2950_S2x2048x256_0_0_2438⟩,
       ⟨S2x2048x896, extractStridedSlice S2x2048x896 ![0, 0, 1536] (D m c) slices_S2x2048x2950_S2x2048x896_0_0_1536⟩,
       ⟨S2x2048x6, extractStridedSlice S2x2048x6 ![0, 0, 2432] (D m c) slices_S2x2048x2950_S2x2048x6_0_0_2432⟩,
       ⟨S2x2048x122, broadcastInDim S2x2048x122 ![] bcast_S_S2x2048x122 (constant (F := Ideal) S_ FTy.f32 0#32)⟩,
       ⟨S2x2048x256, extractStridedSlice S2x2048x256 ![0, 0, 2694] (D m c) slices_S2x2048x2950_S2x2048x256_0_0_2694⟩]
      concatenates_S2x2048x1536_S2x2048x256_S2x2048x896_S2x2048x6_S2x2048x122_S2x2048x256_S2x2048x3072_d2

theorem d_cols : V m c main_v8 = shapeCast S4096x3072 (dcols m c) shapeCasts_S2x2048x3072_S4096x3072 := rfl

theorem dcols_apply (b : Fin 2) (s : Fin 2048) (n : Fin 3072) :
    dcols m c (Idealize.ShloMosaic.ix3 b s n) = perm (at3 (D m c) b.val s.val) n.val := by
  unfold dcols
  pointwise
  by_cases h0 : n.val < 1536
  · exact (dif_pos h0).trans ((at3_ix (D m c) b s ⟨n.val, by omega⟩).trans (perm0 _ h0).symm)
  refine (dif_neg h0).trans ?_
  by_cases h1 : n.val - 1536 < 256
  · exact (dif_pos h1).trans ((at3_ix (D m c) b s ⟨2438 + (n.val - 1536), by omega⟩).trans (perm1 _ h0 h1).symm)
  refine (dif_neg h1).trans ?_
  by_cases h2 : n.val - 1536 - 256 < 896
  · exact (dif_pos h2).trans ((at3_ix (D m c) b s ⟨1536 + (n.val - 1536 - 256), by omega⟩).trans (perm2 _ h0 h1 h2).symm)
  refine (dif_neg h2).trans ?_
  by_cases h3 : n.val - 1536 - 256 - 896 < 6
  · exact (dif_pos h3).trans ((at3_ix (D m c) b s ⟨2432 + (n.val - 1536 - 256 - 896), by omega⟩).trans (perm3 _ h0 h1 h2 h3).symm)
  refine (dif_neg h3).trans ?_
  by_cases h4 : n.val - 1536 - 256 - 896 - 6 < 122
  · exact (dif_pos h4).trans (perm4 (α := EReal) _ h2 h3 h4).symm
  refine (dif_neg h4).trans ?_
  exact (at3_ix (D m c) b s ⟨2694 + (n.val - 1536 - 256 - 896 - 6 - 122), by omega⟩).trans (perm5 (α := EReal) _ h4).symm

theorem entry_d (i : S4096x3072.Idx) : V m c main_v8 i = perm (at3 (D m c) ((i 0).val / 2048) ((i 0).val % 2048)) (i 1).val := by
  have h0 : (i 0).val < 4096 := (i 0).isLt
  have h1 : (i 1).val < 3072 := (i 1).isLt
  rw [d_cols]
  refine (flat_apply _ _ _).trans ((dcols_apply m c _ _ _).trans ?_)
  have e : (Fin.ofNat 3072 (i 1).val).val = (i 1).val := Nat.mod_eq_of_lt h1
  have e0 : (Fin.ofNat 2 ((i 0).val / 2048)).val = (i 0).val / 2048 := Nat.mod_eq_of_lt (by omega)
  have e1 : (Fin.ofNat 2048 ((i 0).val % 2048)).val = (i 0).val % 2048 := Nat.mod_eq_of_lt (by omega)
  rw [e, e0, e1]

end Cert.NormKernelIdeal.Arrays

end
-- ==== Proof.Norm.Arrays.lean ====
/- The two arrays the kernel leaves, where its arguments hold real numbers. -/
module

public import proofs.«01_k».proof.Proof.Norm.Entry

@[expose] public section

set_option maxRecDepth 16384

noncomputable section

open Idealize.ShloMosaic Idealize.ShloMosaic.TcCoe Idealize.SL.Sem
open scoped BigOperators

namespace Cert.NormKernelIdeal.Arrays

open Cert.NormKernelIdeal Cert.NormKernelIdeal.Gen Cert.NormKernelIdeal.Block Cert.Reals Cert.Rows Cert.Cols Cert.Norm

variable (m : (ℓ : Loc nD τ sig) → Buf (Elt Ideal) ℓ) (c : Dev nD)
  (X : S2x2048x1024.Idx → ℝ) (G : S1024.Idx → ℝ) (Wr : S1024x2950.Idx → ℝ) (Dr : S2x2048x2950.Idx → ℝ)

/-- The gain's vector by its one coordinate. -/
def vec (G : S1024.Idx → ℝ) (k : Fin 1024) : ℝ := G (Idealize.ShloMosaic.ix1 k)

/-- The residual's cotangent. -/
abbrev R : S2x2048x1024.Idx → EReal := m ((c : Thread nD τ).loc main_arg4)

/-- The first four arguments hold the real numbers `X`, `G`, `Wr`, `Dr`. -/
structure Holds : Prop where
  x : m ((c : Thread nD τ).loc main_arg0) = fun i => ((X i : ℝ) : EReal)
  g : m ((c : Thread nD τ).loc main_arg1) = fun i => ((G i : ℝ) : EReal)
  w : m ((c : Thread nD τ).loc main_arg2) = fun i => ((Wr i : ℝ) : EReal)
  d : m ((c : Thread nD τ).loc main_arg3) = fun i => ((Dr i : ℝ) : EReal)

theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

/-- Block `t` of the rows: rows `512 t, …, 512 t + 511`. -/
def xOf (X : S2x2048x1024.Idx → ℝ) (t : Nat) : S512x1024.Idx → ℝ := fun i => rowN X (512 * t + (i 0).val) (i 1)

/-- Block `t` of the cotangent, its columns in the kernel's order. -/
def dOf (Dr : S2x2048x2950.Idx → ℝ) (t : Nat) : S512x3072.Idx → ℝ := fun i =>
  perm (at3 Dr ((512 * t + (i 0).val) / 2048) ((512 * t + (i 0).val) % 2048)) (i 1).val

/-- The matrix, its columns in the kernel's order. -/
def wOf (Wr : S1024x2950.Idx → ℝ) : S1024x3072.Idx → ℝ := fun i => perm (at2 Wr (i 0).val) (i 1).val

/-- The gain as a matrix of one row. -/
def gOf (G : S1024.Idx → ℝ) : S1x1024.Idx → ℝ := fun i => vec G (i 1)

variable {m c X G Wr Dr}

theorem xblk (h : Holds m c X G Wr Dr) (t : Fin cfg0.N) : iblk m c 1 t = fun i => ((xOf X t.val i : ℝ) : EReal) := by
  funext i
  idx_vars i
  blk_simp [iblk, idx_val t]
  entry_read
  rw [h.x]
  refine (rows_apply X _ _).trans (rowN_congr X ?_ ?_)
  · blk_simp [idx_val t]; exact congrArg (· + i0.val) (Nat.mul_comm _ _)
  · blk_simp [idx_val t]

theorem gblk (h : Holds m c X G Wr Dr) (t : Fin cfg0.N) : iblk m c 2 t = fun i => ((gOf G i : ℝ) : EReal) := by
  funext i
  idx_vars i
  blk_simp [iblk, idx_val t]
  entry_read
  rw [h.g]
  pointwise
  exact congrArg (fun k => ((vec G k : ℝ) : EReal)) (Fin.ext (by blk_simp [idx_val t]))

theorem wblk (h : Holds m c X G Wr Dr) (t : Fin cfg0.N) : iblk m c 3 t = fun i => ((wOf Wr i : ℝ) : EReal) := by
  funext i
  idx_vars i
  blk_simp [iblk, idx_val t]
  refine (entry_w m c _).trans ?_
  rw [show W m c = _ from h.w]
  refine Eq.trans ?_ (perm_map (fun r : ℝ => (r : EReal)) EReal.coe_zero (at2 Wr i0.val) i1.val)
  refine congrArg₂ (fun a b => perm (at2 (fun i => ((Wr i : ℝ) : EReal)) a) b) ?_ ?_ <;> blk_simp [idx_val t]

theorem dblk (h : Holds m c X G Wr Dr) (t : Fin cfg0.N) : iblk m c 0 t = fun i => ((dOf Dr t.val i : ℝ) : EReal) := by
  funext i
  idx_vars i
  blk_simp [iblk, idx_val t]
  refine (entry_d m c _).trans ?_
  rw [show D m c = _ from h.d]
  refine Eq.trans ?_ (perm_map (fun r : ℝ => (r : EReal)) EReal.coe_zero
    (at3 Dr ((512 * t.val + i0.val) / 2048) ((512 * t.val + i0.val) % 2048)) i1.val)
  refine congrArg₂ (fun a b => perm (at3 (fun i => ((Dr i : ℝ) : EReal)) (a / 2048) (a % 2048)) b) ?_ ?_
  · blk_simp [idx_val t]; exact congrArg (· + i0.val) (Nat.mul_comm _ _)
  · blk_simp [idx_val t]

theorem rblk (t : Fin cfg0.N) (i : S512x1024.Idx) : iblk m c 4 t i
    = at3 (R m c) ((512 * t.val + (i 0).val) / 2048) ((512 * t.val + (i 0).val) % 2048) (i 1).val := by
  idx_vars i
  blk_simp [iblk, idx_val t]
  refine (show V m c main_v19 _ = _ from rfl).trans ((flat_apply (R m c) shapeCasts_S2x2048x1024_S4096x1024 _).trans ?_)
  refine congrArg₂ (fun a b => at3 (R m c) (a / 2048) (a % 2048) b) ?_ ?_
  · blk_simp [idx_val t]; exact congrArg (· + i0.val) (Nat.mul_comm _ _)
  · blk_simp [idx_val t]

/-- The products of the kernel's rows are those of the arguments' rows. -/
theorem prod_back (Wr : S1024x2950.Idx → ℝ) (Dr : S2x2048x2950.Idx → ℝ) (t : Nat) (p : Fin 512) (j : Fin 1024) :
    prod (dOf Dr t) (wOf Wr) p j = back Wr Dr (512 * t + p.val) j.val := by
  refine Eq.trans (Finset.sum_congr rfl fun k _ => perm_mul _ _ _) ?_
  exact sum_perm fun k => at3 Dr ((512 * t + p.val) / 2048) ((512 * t + p.val) % 2048) k * at2 Wr j.val k

/-- The gain's gradient. -/
theorem final_dg (h : Holds m c X G Wr Dr) : (dats m 0 c).arrAt 6 (cfgs 0).N
    = fun j : S1x1024.Idx => ((dgain X Wr Dr (j 1) : ℝ) : EReal) := by
  have step : ∀ (t : Nat) (j : Fin 1024), ∑ p : Fin 512, prod (dOf Dr t) (wOf Wr) p j * (row (xOf X t) p j * Rms.inv (row (xOf X t) p))
      = ∑ p : Fin 512, dgRow X Wr Dr (512 * t + p.val) j := fun t j =>
    Finset.sum_congr rfl fun p _ => congrArg₂ (· * ·) (prod_back Wr Dr t p j) rfl
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t (j : S1x1024.Idx) => ((∑ p : Fin 512, dgRow X Wr Dr (512 * t.val + p.val) (j 1) : ℝ) : EReal))
    (fun t ht j => by
      rw [outsAt0_A m c t ht]; frame_out
      rw [xblk h t, wblk h t, dblk h t]
      exact (dg_eq _ _ _ _ _).trans (congrArg₂ (fun (a : EReal) (b : ℝ) => a + (b : EReal)) (by pointwise! [k0_pay2]) (step t.val (j 1))))
    (fun t ht j => by
      rw [outsAt0_B m c t ht]; frame_out
      rw [xblk h t, wblk h t, dblk h t]
      exact (dg_eq _ _ _ _ _).trans (congrArg (fun b : ℝ => (show EReal from (outsAt0 m c (t.val - 1) _).2 j) + (b : EReal)) (step t.val (j 1))))
    (le_of_eq N_0) t0_7 rfl j, zero_add, coe_sum]
  exact congrArg (fun s : ℝ => (s : EReal)) (sum_runs 8 512 fun n => dgRow X Wr Dr n _)

/-- The input's gradient, at a row of the 4096 and a column. -/
def dxAt (m : (ℓ : Loc nD τ sig) → Buf (Elt Ideal) ℓ) (c : Dev nD) (X : S2x2048x1024.Idx → ℝ) (G : S1024.Idx → ℝ)
    (Wr : S1024x2950.Idx → ℝ) (Dr : S2x2048x2950.Idx → ℝ) (n : Nat) (k : Fin 1024) : EReal :=
  at3 (R m c) (n / 2048) (n % 2048) k.val + ((dx X (vec G) Wr Dr n k : ℝ) : EReal)

theorem final_dx (h : Holds m c X G Wr Dr) : (dats m 0 c).arrAt 5 (cfgs 0).N
    = fun j : S4096x1024.Idx => dxAt m c X G Wr Dr (j 0).val (j 1) := by
  refine (dats m 0 c).arrAt_eq_of_covers 5 _ (by decide +kernel) fun t hf y => ?_
  have key : ∀ y : S512x1024.Idx, (show S512x1024.Idx → EReal from iblk m c 4 t) y + ((Rms.bwd (row (xOf X t.val) (y 0))
        (fun k => prod (dOf Dr t.val) (wOf Wr) (y 0) k * gain (gOf G) k) (y 1) : ℝ) : EReal)
      = dxAt m c X G Wr Dr (win0_5.index t 0 * 512 + (y 0).val) ((((View.whole main_v20_0).slice (win0_5.rect t)).emb y) 1) := by
    intro y
    have e0 : win0_5.index t 0 * 512 + (y 0).val = 512 * t.val + (y 0).val := by
      blk_simp [idx_val t]; exact congrArg (· + (y 0).val) (Nat.mul_comm _ _)
    have e1 : (((View.whole main_v20_0).slice (win0_5.rect t)).emb y) 1 = y 1 := Fin.ext (by blk_simp [idx_val t])
    rw [e0, e1]
    refine (congrArg (fun a : EReal => a + _) (rblk t y)).trans ?_
    have e : (fun k => prod (dOf Dr t.val) (wOf Wr) (y 0) k * gain (gOf G) k)
        = fun k => back Wr Dr (512 * t.val + (y 0).val) k.val * vec G k :=
      funext fun k => congrArg₂ (· * ·) (prod_back Wr Dr t.val (y 0) k) rfl
    rw [e]
    rfl
  blk_simp; rw [after0_5]
  by_cases ht : t.val % 8 = 0
  · rw [outsAt0_A m c t ht]; dsimp only
    frame_out
    rw [gblk h t, xblk h t, wblk h t, dblk h t]
    exact (dx_eq _ _ _ _ _ y).trans (key y)
  · rw [outsAt0_B m c t ht]; dsimp only
    frame_out
    rw [gblk h t, xblk h t, wblk h t, dblk h t]
    exact (dx_eq _ _ _ _ _ y).trans (key y)

end Cert.NormKernelIdeal.Arrays

end
-- ==== Proof.Norm.Reference.lean ====
/- What the reference computes: the derivative of the norm and the product by the chain rule, in real numbers. -/
module

public import proofs.«01_k».proof.Proof.Norm.Spec
public import proofs.«01_k».proof.Proof.Gen.NormReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.NormReferenceIdeal.Norm

open Cert.NormReferenceIdeal Cert.NormReferenceIdeal.Gen Cert.NormReferenceIdeal.Read Cert.Reals Cert.Rows Cert.Norm

variable (X : S2x2048x1024.Idx → ℝ) (G : S1024.Idx → ℝ) (W : S1024x2950.Idx → ℝ) (D : S2x2048x2950.Idx → ℝ)
  (R : S2x2048x1024.Idx → EReal)

/-- A row by its two leading coordinates. -/
def row (X : S2x2048x1024.Idx → ℝ) (p : Fin 2) (q : Fin 2048) : Fin 1024 → ℝ := rowN X (2048 * p.val + q.val)

theorem at_row (X : S2x2048x1024.Idx → ℝ) (p : Fin 2) (q : Fin 2048) (k : Fin 1024) : X (Idealize.ShloMosaic.ix3 p q k) = row X p q k := by
  have hp := p.isLt
  have hq := q.isLt
  refine congrArg X (congrArg₂ (fun a b => Idealize.ShloMosaic.ix3 a b k) (Fin.ext ?_) (Fin.ext ?_))
  · show p.val = (2048 * p.val + q.val) / 2048 % 2; omega
  · show q.val = (2048 * p.val + q.val) % 2048; omega

/-- The gain by its coordinate. -/
def vec (G : S1024.Idx → ℝ) (k : Fin 1024) : ℝ := G (Idealize.ShloMosaic.ix1 k)

theorem msq_eq (p : Fin 2) (q : Fin 2048) (e : Fin 1) : val_main_v6 (F := Ideal) (fun i => ((X i : ℝ) : EReal)) (Idealize.ShloMosaic.ix3 p q e)
    = ((Rms.msq (row X p q) : ℝ) : EReal) := by
  pointwise [val_main_v6, val_main_v4, val_main_v2, val_main_v1, val_main_v0, val_main_v3, val_main_v5, val_main_cst, val_main_cst_0, val_main_cst_1]
  simp only [← EReal.coe_mul, coe_sum, ofBits_1024, ofBits_eps, at_row, zero_add]
  rw [div_real _ (by norm_num), ← EReal.coe_add]
  rfl

theorem inv_eq (p : Fin 2) (q : Fin 2048) (e : Fin 1) : val_main_v7 (F := Ideal) (fun i => ((X i : ℝ) : EReal)) (Idealize.ShloMosaic.ix3 p q e)
    = ((Rms.inv (row X p q) : ℝ) : EReal) := by
  rw [val_main_v7_apply, msq_eq]
  exact rsqrt_real (Rms.msq_pos _)

theorem factor_eq (p : Fin 2) (q : Fin 2048) (e : Fin 1) : val_main_v10 (F := Ideal) (fun i => ((X i : ℝ) : EReal)) (Idealize.ShloMosaic.ix3 p q e)
    = ((Rms.inv (row X p q) / Rms.msq (row X p q) * (-1 / 2) : ℝ) : EReal) := by
  simp only [val_main_v10_apply, val_main_v9_apply, val_main_cst_2_apply, val_main_v8_apply, inv_eq, msq_eq,
    Ideal.mulf_def, Ideal.hostDivf_def, Ideal.ofBits_def, ofBits_neg_half]
  rw [div_real _ (Rms.msq_pos _).ne', ← EReal.coe_mul, mul_comm]

theorem hat_eq (p : Fin 2) (q : Fin 2048) (k : Fin 1024) : val_main_v12 (F := Ideal) (fun i => ((X i : ℝ) : EReal)) (Idealize.ShloMosaic.ix3 p q k)
    = ((row X p q k * Rms.inv (row X p q) : ℝ) : EReal) := by
  pointwise [val_main_v12, val_main_v11]
  rw [inv_eq, at_row X, ← EReal.coe_mul]

theorem back_eq (p : Fin 2) (q : Fin 2048) (k : Fin 1024) : val_main_v17 (F := Ideal) (fun i => ((W i : ℝ) : EReal)) (fun i => ((D i : ℝ) : EReal))
      (Idealize.ShloMosaic.ix3 p q k) = ((back W D (2048 * p.val + q.val) k.val : ℝ) : EReal) := by
  have hp := p.isLt
  have hq := q.isLt
  pointwise [val_main_v17]
  simp only [← EReal.coe_mul, coe_sum, at3_ix, at2_ix]
  unfold back
  rw [show (2048 * p.val + q.val) / 2048 = p.val by omega, show (2048 * p.val + q.val) % 2048 = q.val by omega]

/-- What comes in at an entry of the normed row, times the gain. -/
theorem dyg_eq (p : Fin 2) (q : Fin 2048) (k : Fin 1024) : val_main_v22 (F := Ideal) (fun i => ((G i : ℝ) : EReal)) (fun i => ((W i : ℝ) : EReal))
      (fun i => ((D i : ℝ) : EReal)) (Idealize.ShloMosaic.ix3 p q k) = ((back W D (2048 * p.val + q.val) k.val * vec G k : ℝ) : EReal) := by
  pointwise [val_main_v22, val_main_v21, val_main_v13]
  rw [back_eq, ← EReal.coe_mul]
  rfl

theorem inner_eq (p : Fin 2) (q : Fin 2048) (k : Fin 1024) : val_main_v34 (F := Ideal) (fun i => ((X i : ℝ) : EReal)) (fun i => ((G i : ℝ) : EReal)) (fun i => ((W i : ℝ) : EReal))
      (fun i => ((D i : ℝ) : EReal)) (Idealize.ShloMosaic.ix3 p q k)
    = (((∑ k, row X p q k * (back W D (2048 * p.val + q.val) k.val * vec G k))
        * (Rms.inv (row X p q) / Rms.msq (row X p q) * (-1 / 2)) / 1024 : ℝ) : EReal) := by
  pointwise [val_main_v34, val_main_v33, val_main_v32, val_main_v31, val_main_v30, val_main_v26, val_main_v25, val_main_v24, val_main_cst_5, val_main_cst_6, val_main_cst_7]
  simp only [dyg_eq, factor_eq, at_row, ← EReal.coe_mul, coe_sum, zero_add, Fin.sum_univ_one, ofBits_1024]
  rw [div_real _ (by norm_num)]

theorem sum_eq (p : Fin 2) (q : Fin 2048) (k : Fin 1024) : val_main_v38 (F := Ideal) (fun i => ((X i : ℝ) : EReal)) (fun i => ((G i : ℝ) : EReal)) (fun i => ((W i : ℝ) : EReal))
      (fun i => ((D i : ℝ) : EReal)) R (Idealize.ShloMosaic.ix3 p q k)
    = at3 R p.val q.val k.val + ((dx X (vec G) W D (2048 * p.val + q.val) k : ℝ) : EReal) := by
  pointwise [val_main_v38, val_main_v37, val_main_v36, val_main_v35, val_main_v29, val_main_v28, val_main_v27]
  rw [inner_eq, dyg_eq, inv_eq, at_row X, at3_ix R]
  simp only [← EReal.coe_mul, add_assoc, ← EReal.coe_add]
  refine congrArg (fun r : ℝ => at3 R p.val q.val k.val + (r : EReal)) ?_
  rw [← add_assoc]
  exact Rms.bwd_eq (row X p q) (fun k => back W D (2048 * p.val + q.val) k.val * vec G k) k

/-- The input's gradient. -/
theorem dx_eq (j : S4096x1024.Idx) : val_main_v39 (F := Ideal) (fun i => ((X i : ℝ) : EReal)) (fun i => ((G i : ℝ) : EReal)) (fun i => ((W i : ℝ) : EReal))
      (fun i => ((D i : ℝ) : EReal)) R j
    = at3 R ((j 0).val / 2048) ((j 0).val % 2048) (j 1).val + ((dx X (vec G) W D (j 0).val (j 1) : ℝ) : EReal) := by
  have h0 : (j 0).val < 4096 := (j 0).isLt
  unfold val_main_v39
  refine (flat_apply _ _ _).trans ?_
  refine (sum_eq X G W D R _ _ _).trans ?_
  have e0 : (Fin.ofNat 2 ((j 0).val / 2048)).val = (j 0).val / 2048 := Nat.mod_eq_of_lt (by omega)
  have e1 : (Fin.ofNat 2048 ((j 0).val % 2048)).val = (j 0).val % 2048 := Nat.mod_eq_of_lt (by omega)
  have e2 : Fin.ofNat 1024 (j 1).val = j 1 := Fin.ext (Nat.mod_eq_of_lt (j 1).isLt)
  rw [e0, e1, e2, Nat.div_add_mod]

theorem part_eq (p : Fin 2) (q : Fin 2048) (k : Fin 1024) : val_main_v18 (F := Ideal) (fun i => ((X i : ℝ) : EReal)) (fun i => ((W i : ℝ) : EReal))
      (fun i => ((D i : ℝ) : EReal)) (Idealize.ShloMosaic.ix3 p q k) = ((dgRow X W D (2048 * p.val + q.val) k : ℝ) : EReal) := by
  rw [val_main_v18_apply, hat_eq, back_eq, Ideal.mulf_def, ← EReal.coe_mul, mul_comm]
  rfl

/-- The gain's gradient. -/
theorem dg_eq (j : S1x1024.Idx) : val_main_v40 (F := Ideal) (fun i => ((X i : ℝ) : EReal)) (fun i => ((W i : ℝ) : EReal))
      (fun i => ((D i : ℝ) : EReal)) j = ((dgain X W D (j 1) : ℝ) : EReal) := by
  have e : val_main_v19 (F := Ideal) (fun i => ((X i : ℝ) : EReal)) (fun i => ((W i : ℝ) : EReal))
      (fun i => ((D i : ℝ) : EReal)) = fun j => ((dgain X W D (j 0) : ℝ) : EReal) := by
    funext j
    unfold val_main_v19
    simp only [Host.reduceAdd, Ideal.hostReduceAdd_def]
    refine (hostReduceAdd_rows (a := 2) (b := 2048) (n := 1024) _ _ _ j).trans ?_
    simp only [val_main_cst_3_apply, Ideal.ofBits_def, Ideal.ofBits_zero_f32, zero_add]
    refine (Finset.sum_congr rfl fun p _ => Finset.sum_congr rfl fun q _ => part_eq X W D p q (j 0)).trans ?_
    simp only [coe_sum]
    refine congrArg (fun r : ℝ => (r : EReal)) ?_
    refine Eq.trans ?_ (sum_runs 2 2048 fun n => dgRow X W D n (j 0))
    rfl
  idx_vars j
  rw [val_main_v40_apply]
  unfold val_main_v23
  simp only [Host.reduceAdd, Ideal.hostReduceAdd_def]
  refine (hostReduceAdd_rows (a := 1) (b := 1) (n := 1024) _ _ _ _).trans ?_
  simp only [Fin.sum_univ_one, val_main_v20_apply, e, val_main_cst_4_apply, Ideal.ofBits_def, Ideal.ofBits_zero_f32, zero_add]
  refine congrArg (fun k => ((dgain X W D k : ℝ) : EReal)) (Fin.ext ?_)
  have h0 := j0.isLt
  show (0 * 1 + 0) * 1024 + (j0.val * 1024 + j1.val) = j1.val
  omega

end Cert.NormReferenceIdeal.Norm

end
-- ==== Proof.Norm.Equation.lean ====
/- The derivative of a norm and a product: the kernel leaves what the reference computes. -/
module

public import proofs.«01_k».proof.Proof.Common.Finite
public import proofs.«01_k».proof.Proof.Norm.Arrays
public import proofs.«01_k».proof.Proof.Norm.Reference
public import proofs.«01_k».proof.Defs

@[expose] public section

noncomputable section

open Idealize.ShloMosaic Idealize.ShloMosaic.TcCoe Idealize.SL.Sem

namespace Cert.Norm

open Cert.NormKernelIdeal Cert.Reals

/-- Under the precondition the first four arguments hold real numbers. -/
theorem holds [Cert.Pre_norm_finite.Facts] (m : (ℓ : Loc nD τ sig) → Buf (Elt Ideal) ℓ) (h : Cert.Pre_NormKernelIdeal_norm_finite m)
    (c : Dev nD) :
    Arrays.Holds m c (fun i => (m ((c : Thread nD τ).loc main_arg0) i).toReal) (fun i => (m ((c : Thread nD τ).loc main_arg1) i).toReal)
      (fun i => (m ((c : Thread nD τ).loc main_arg2) i).toReal) (fun i => (m ((c : Thread nD τ).loc main_arg3) i).toReal) := by
  obtain ⟨h012, h3⟩ := both (h c)
  obtain ⟨h01, h2⟩ := both h012
  obtain ⟨h0, h1⟩ := both h01
  exact ⟨reals_of_all _ _ _ _ h0, reals_of_all _ _ _ _ h1, reals_of_all _ _ _ _ h2, reals_of_all _ _ _ _ h3⟩

variable (m : (ℓ : Loc nD τ sig) → Buf (Elt Ideal) ℓ) (c : Dev nD)

/-- What the reference leaves from arguments that hold real numbers. -/
theorem reference_dx {X G W D} (h : Arrays.Holds m c X G W D) :
    Cert.NormReferenceIdeal.Read.val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      = (Gen.dats m 0 c).arrAt 5 (cfgs 0).N := by
  rw [h.x, h.g, h.w, h.d]
  exact (funext fun j => Cert.NormReferenceIdeal.Norm.dx_eq X G W D _ j).trans (Arrays.final_dx h).symm

theorem reference_dg {X G W D} (h : Arrays.Holds m c X G W D) :
    Cert.NormReferenceIdeal.Read.val_main_v40 (F := Ideal) (m ((c : Thread nD τ).loc main_arg0))
      (m ((c : Thread nD τ).loc main_arg2)) (m ((c : Thread nD τ).loc main_arg3))
      = (Gen.dats m 0 c).arrAt 6 (cfgs 0).N := by
  rw [h.x, h.w, h.d]
  exact (funext fun j => Cert.NormReferenceIdeal.Norm.dg_eq X W D j).trans (Arrays.final_dg h).symm

/-- The two programs end with equal results. -/
theorem equation [Cert.Pre_norm_finite.Facts] : Cert.algebraic_NormKernelIdeal_NormReferenceIdeal_pre_norm_finite := by
  pair_intro
  · run_from (Value.run_blocks m g)
  · run_from (Cert.NormReferenceIdeal.Value.run m' g')
    · rw [Cert.NormReferenceIdeal.Read.val_main_v39_eq, (hagree c).1, (hagree c).2.1, (hagree c).2.2.1, (hagree c).2.2.2.1, (hagree c).2.2.2.2]
      exact reference_dx m c (holds m hpre c)
    · exact reference_dg m c (holds m hpre c)

end Cert.Norm

end
-- ==== Proof.Ffn.Spec.lean ====
/- The gated feed-forward step in real numbers, row by row: a norm, two products, the gate, the product back, and the
   derivative of all of it. -/
module

public import proofs.«01_k».proof.Proof.Common.Rms
public import proofs.«01_k».proof.Proof.Common.Rows
public import Mathlib.Analysis.SpecialFunctions.Exp

@[expose] public section

noncomputable section

open Idealize.ShloMosaic Idealize.ShloMosaic.TcCoe
open scoped BigOperators

namespace Cert.Ffn

open Cert.Reals

/-- The logistic function. -/
def logistic (t : ℝ) : ℝ := 1 / (1 + Real.exp (-t))

theorem sig_den_pos (t : ℝ) : 0 < 1 + Real.exp (-t) := add_pos one_pos (Real.exp_pos _)

/-- The gate's function. -/
def silu (t : ℝ) : ℝ := t * logistic t

/-- Its derivative. -/
def dsilu (t : ℝ) : ℝ := logistic t + silu t * (1 - logistic t)

variable (x : Fin 1024 → ℝ) (G : Fin 1024 → ℝ) (Wg Wu : Fin 1024 → Fin 2816 → ℝ) (Wd : Fin 2816 → Fin 1024 → ℝ) (d : Fin 1024 → ℝ)

/-- The normed row. -/
def xn (k : Fin 1024) : ℝ := x k * Rms.inv x * G k

/-- The normed row times a matrix. -/
def lin (W : Fin 1024 → Fin 2816 → ℝ) (f : Fin 2816) : ℝ := ∑ k, xn x G k * W k f

/-- The gated activation. -/
def act (f : Fin 2816) : ℝ := silu (lin x G Wg f) * lin x G Wu f

/-- The step's output row. -/
def out (j : Fin 1024) : ℝ := x j + 1 / 2 * ∑ f, act x G Wg Wu f * Wd f j

/-- The cotangent of the product back. -/
def dacc (j : Fin 1024) : ℝ := 1 / 2 * d j

/-- The cotangent of the gated activation. -/
def dact (f : Fin 2816) : ℝ := ∑ j, dacc d j * Wd f j

/-- What the gate's cotangent is multiplied by. -/
def slope (f : Fin 2816) : ℝ := lin x G Wu f * dsilu (lin x G Wg f)

/-- The gate's cotangent. -/
def dgate (f : Fin 2816) : ℝ := dact Wd d f * slope x G Wg Wu f

/-- The other factor's cotangent. -/
def dup (f : Fin 2816) : ℝ := dact Wd d f * silu (lin x G Wg f)

/-- The normed row's cotangent. -/
def dxn (k : Fin 1024) : ℝ := ∑ f, dgate x G Wg Wu Wd d f * Wg k f + ∑ f, dup x G Wg Wd d f * Wu k f

/-- The input's cotangent. -/
def dx (k : Fin 1024) : ℝ := d k + Rms.bwd x (fun k => dxn x G Wg Wu Wd d k * G k) k

/-- What a row adds to the gain's gradient. -/
def dgRow (k : Fin 1024) : ℝ := dxn x G Wg Wu Wd d k * (x k * Rms.inv x)

/-- The derivative of the gate as the product rule gives it. -/
theorem dsilu_eq (c u t : ℝ) : c * u * logistic t + t * (c * u) * (logistic t * (1 - logistic t)) = c * (u * dsilu t) := by
  rw [dsilu, silu]; ring

/-- The logistic function on the extended reals, spelt out. -/
theorem sig_real (t : ℝ) : Ideal.div 1 (1 + Ideal.exp (-((t : ℝ) : EReal))) = ((logistic t : ℝ) : EReal) := by
  rw [← EReal.coe_neg, Ideal.exp_coe, ← EReal.coe_one, ← EReal.coe_add, div_real _ (sig_den_pos t).ne']
  rfl

end Cert.Ffn

end
-- ==== Proof.Ffn.Block.lean ====
/- The two kernels on one block of 256 rows of real numbers: each value they compute, as real numbers. -/
module

public import proofs.«01_k».proof.Proof.Ffn.Spec
public import proofs.«01_k».proof.Proof.Gen.FfnKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.FfnKernelIdeal.Block

open Cert.FfnKernelIdeal Cert.FfnKernelIdeal.Gen Cert.Reals Cert.Ffn

variable (x d : S256x1024.Idx → ℝ) (g : S1x1024.Idx → ℝ) (wg wu wd : S2816x1024.Idx → ℝ) (a s : S256x2816.Idx → ℝ)

/-- A row of a block. -/
abbrev row (x : S256x1024.Idx → ℝ) (p : Fin 256) (k : Fin 1024) : ℝ := x (Idealize.ShloMosaic.ix2 p k)

/-- The gain's one row. -/
abbrev gain (g : S1x1024.Idx → ℝ) (k : Fin 1024) : ℝ := g (Idealize.ShloMosaic.ix2 0 k)

/-- A transposed matrix. -/
abbrev tr (w : S2816x1024.Idx → ℝ) (k : Fin 1024) (f : Fin 2816) : ℝ := w (Idealize.ShloMosaic.ix2 f k)

/-- A matrix by its coordinates. -/
abbrev mat (w : S2816x1024.Idx → ℝ) (f : Fin 2816) (k : Fin 1024) : ℝ := w (Idealize.ShloMosaic.ix2 f k)

/-! ## Forward -/

theorem xn_eq : k0_pay5 (F := Ideal) (fun i => ((x i : ℝ) : EReal)) (fun i => ((g i : ℝ) : EReal))
    = fun j => ((xn (row x (j 0)) (gain g) (j 1) : ℝ) : EReal) := by
  funext j
  idx_vars j
  pointwise [k0_pay5, k0_pay4]
  simp only [← EReal.coe_mul, coe_sum, ofBits_1024, ofBits_eps]
  rw [div_real _ (by norm_num), ← EReal.coe_add]
  refine (congrArg (fun r : EReal => ((x (Idealize.ShloMosaic.ix2 j0 j1) : ℝ) : EReal) * r * ((g (Idealize.ShloMosaic.ix2 0 j1) : ℝ) : EReal))
    (rsqrt_real (Rms.msq_pos (row x j0)))).trans ?_
  rw [← EReal.coe_mul, ← EReal.coe_mul]
  rfl

theorem gate_eq : k0_pay6 (F := Ideal) (fun i => ((x i : ℝ) : EReal)) (fun i => ((g i : ℝ) : EReal)) (fun i => ((wg i : ℝ) : EReal))
    = fun j => ((lin (row x (j 0)) (gain g) (tr wg) (j 1) : ℝ) : EReal) := by
  funext j
  idx_vars j
  pointwise [k0_pay6]
  rw [xn_eq]
  simp only [← EReal.coe_mul, coe_sum]
  rfl

theorem up_eq : k0_pay7 (F := Ideal) (fun i => ((x i : ℝ) : EReal)) (fun i => ((g i : ℝ) : EReal)) (fun i => ((wu i : ℝ) : EReal))
    = fun j => ((lin (row x (j 0)) (gain g) (tr wu) (j 1) : ℝ) : EReal) := by
  funext j
  idx_vars j
  pointwise [k0_pay7]
  rw [xn_eq]
  simp only [← EReal.coe_mul, coe_sum]
  rfl

theorem sig_eq : k0_pay8 (F := Ideal) (fun i => ((x i : ℝ) : EReal)) (fun i => ((g i : ℝ) : EReal)) (fun i => ((wg i : ℝ) : EReal))
    = fun j => ((logistic (lin (row x (j 0)) (gain g) (tr wg) (j 1)) : ℝ) : EReal) := by
  funext j
  idx_vars j
  pointwise [k0_pay8]
  rw [gate_eq]
  simp only [ofBits_one, EReal.coe_one, zero_sub]
  exact sig_real _

theorem silu_eq : k0_pay9 (F := Ideal) (fun i => ((x i : ℝ) : EReal)) (fun i => ((g i : ℝ) : EReal)) (fun i => ((wg i : ℝ) : EReal))
    = fun j => ((silu (lin (row x (j 0)) (gain g) (tr wg) (j 1)) : ℝ) : EReal) := by
  funext j
  idx_vars j
  pointwise [k0_pay9]
  rw [gate_eq, sig_eq, ← EReal.coe_mul]
  rfl

theorem slope_eq : k0_pay10 (F := Ideal) (fun i => ((x i : ℝ) : EReal)) (fun i => ((g i : ℝ) : EReal)) (fun i => ((wg i : ℝ) : EReal)) (fun i => ((wu i : ℝ) : EReal))
    = fun j => ((slope (row x (j 0)) (gain g) (tr wg) (tr wu) (j 1) : ℝ) : EReal) := by
  funext j
  idx_vars j
  pointwise [k0_pay10]
  rw [sig_eq, silu_eq, up_eq]
  simp only [ofBits_one, ← EReal.coe_sub, ← EReal.coe_mul, ← EReal.coe_add]
  rfl

theorem silu'_eq : k0_pay11 (F := Ideal) (fun i => ((x i : ℝ) : EReal)) (fun i => ((g i : ℝ) : EReal)) (fun i => ((wg i : ℝ) : EReal))
    = fun j => ((silu (lin (row x (j 0)) (gain g) (tr wg) (j 1)) : ℝ) : EReal) := by
  funext j
  pointwise [k0_pay11]
  rw [silu_eq]

theorem act_eq : k0_pay1 (F := Ideal) (k0_pay7 (fun i => ((x i : ℝ) : EReal)) (fun i => ((g i : ℝ) : EReal)) (fun i => ((wu i : ℝ) : EReal)))
      (k0_pay9 (fun i => ((x i : ℝ) : EReal)) (fun i => ((g i : ℝ) : EReal)) (fun i => ((wg i : ℝ) : EReal)))
    = fun j => ((act (row x (j 0)) (gain g) (tr wg) (tr wu) (j 1) : ℝ) : EReal) := by
  funext j
  pointwise [k0_pay1]
  rw [silu_eq, up_eq, ← EReal.coe_mul]
  rfl

theorem actt_eq : k0_pay2 (F := Ideal) (k0_pay7 (fun i => ((x i : ℝ) : EReal)) (fun i => ((g i : ℝ) : EReal)) (fun i => ((wu i : ℝ) : EReal)))
      (k0_pay9 (fun i => ((x i : ℝ) : EReal)) (fun i => ((g i : ℝ) : EReal)) (fun i => ((wg i : ℝ) : EReal)))
    = fun j => ((act (row x (j 1)) (gain g) (tr wg) (tr wu) (j 0) : ℝ) : EReal) := by
  funext j
  idx_vars j
  pointwise [k0_pay2]
  rw [act_eq]
  rfl

theorem out_eq : k0_pay3 (F := Ideal) (k0_pay4 (fun i => ((x i : ℝ) : EReal)))
      (k0_pay7 (fun i => ((x i : ℝ) : EReal)) (fun i => ((g i : ℝ) : EReal)) (fun i => ((wu i : ℝ) : EReal)))
      (k0_pay9 (fun i => ((x i : ℝ) : EReal)) (fun i => ((g i : ℝ) : EReal)) (fun i => ((wg i : ℝ) : EReal))) (fun i => ((wd i : ℝ) : EReal))
    = fun j => ((out (row x (j 0)) (gain g) (tr wg) (tr wu) (mat wd) (j 1) : ℝ) : EReal) := by
  funext j
  idx_vars j
  pointwise [k0_pay3, k0_pay4]
  rw [act_eq]
  simp only [← EReal.coe_mul, coe_sum, ofBits_half, ← EReal.coe_add]
  rfl

/-! ## Backward: `a` the slopes and `s` the gate's values, as the forward kernel left them -/

theorem inv_eq : k1_pay5 (F := Ideal) (fun i => ((x i : ℝ) : EReal)) = fun j => ((Rms.inv (row x (j 0)) : ℝ) : EReal) := by
  funext j
  idx_vars j
  pointwise [k1_pay5, k1_pay4]
  simp only [← EReal.coe_mul, coe_sum, ofBits_1024, ofBits_eps]
  rw [div_real _ (by norm_num), ← EReal.coe_add]
  exact rsqrt_real (Rms.msq_pos (row x j0))

theorem hat_eq : k1_pay6 (F := Ideal) (fun i => ((x i : ℝ) : EReal))
    = fun j => ((row x (j 0) (j 1) * Rms.inv (row x (j 0)) : ℝ) : EReal) := by
  funext j
  idx_vars j
  pointwise [k1_pay6, k1_pay4]
  rw [inv_eq]
  exact (EReal.coe_mul _ _).symm

theorem xn'_eq : k1_pay7 (F := Ideal) (fun i => ((g i : ℝ) : EReal)) (fun i => ((x i : ℝ) : EReal))
    = fun j => ((xn (row x (j 0)) (gain g) (j 1) : ℝ) : EReal) := by
  funext j
  idx_vars j
  pointwise [k1_pay7, k1_pay2]
  rw [hat_eq, ← EReal.coe_mul]
  rfl

theorem dacc_eq : k1_pay8 (F := Ideal) (fun i => ((d i : ℝ) : EReal)) = fun j => ((dacc (row d (j 0)) (j 1) : ℝ) : EReal) := by
  funext j
  idx_vars j
  pointwise [k1_pay8, k1_pay3]
  rw [ofBits_half, ← EReal.coe_mul]
  rfl

theorem dact_eq : k1_pay9 (F := Ideal) (fun i => ((d i : ℝ) : EReal)) (fun i => ((wd i : ℝ) : EReal))
    = fun j => ((dact (mat wd) (row d (j 0)) (j 1) : ℝ) : EReal) := by
  funext j
  idx_vars j
  pointwise [k1_pay9]
  rw [dacc_eq]
  simp only [← EReal.coe_mul, coe_sum]
  rfl

theorem dgate_eq : k1_pay10 (F := Ideal) (fun i => ((d i : ℝ) : EReal)) (fun i => ((wd i : ℝ) : EReal)) (fun i => ((a i : ℝ) : EReal))
    = fun j => ((dact (mat wd) (row d (j 0)) (j 1) * a j : ℝ) : EReal) := by
  funext j
  pointwise [k1_pay10]
  rw [dact_eq, ← EReal.coe_mul]

theorem dup_eq (r : S256x2816.Idx → ℝ) : k1_pay11 (F := Ideal) (fun i => ((r i : ℝ) : EReal)) (fun i => ((s i : ℝ) : EReal))
    = fun j => ((r j * s j : ℝ) : EReal) := by
  funext j
  pointwise [k1_pay11]
  rw [← EReal.coe_mul]

theorem dgatet_eq : k1_pay12 (F := Ideal) (k1_pay10 (fun i => ((d i : ℝ) : EReal)) (fun i => ((wd i : ℝ) : EReal)) (fun i => ((a i : ℝ) : EReal)))
    = fun j => ((dact (mat wd) (row d (j 1)) (j 0) * a (Idealize.ShloMosaic.ix2 (j 1) (j 0)) : ℝ) : EReal) := by
  funext j
  idx_vars j
  pointwise [k1_pay12]
  rw [dgate_eq]
  rfl

theorem dupt_eq : k1_pay13 (F := Ideal) (k1_pay9 (fun i => ((d i : ℝ) : EReal)) (fun i => ((wd i : ℝ) : EReal))) (fun i => ((s i : ℝ) : EReal))
    = fun j => ((dact (mat wd) (row d (j 1)) (j 0) * s (Idealize.ShloMosaic.ix2 (j 1) (j 0)) : ℝ) : EReal) := by
  funext j
  idx_vars j
  unfold k1_pay13
  rw [dact_eq, dup_eq]
  pointwise

/-- The normed row's cotangent from the two factors' cotangents. -/
def dxnB (wg wu : S2816x1024.Idx → ℝ) (q r : S256x2816.Idx → ℝ) (p : Fin 256) (k : Fin 1024) : ℝ :=
  ∑ f, q (Idealize.ShloMosaic.ix2 p f) * wg (Idealize.ShloMosaic.ix2 f k) + ∑ f, r (Idealize.ShloMosaic.ix2 p f) * wu (Idealize.ShloMosaic.ix2 f k)

theorem dxn_eq (q r : S256x2816.Idx → ℝ) : k1_pay14 (F := Ideal) (fun i => ((r i : ℝ) : EReal)) (fun i => ((q i : ℝ) : EReal)) (fun i => ((s i : ℝ) : EReal))
      (fun i => ((wg i : ℝ) : EReal)) (fun i => ((wu i : ℝ) : EReal))
    = fun j => ((dxnB wg wu q (fun i => r i * s i) (j 0) (j 1) : ℝ) : EReal) := by
  funext j
  idx_vars j
  unfold k1_pay14
  rw [dup_eq]
  pointwise
  simp only [← EReal.coe_mul, coe_sum, ← EReal.coe_add]
  rfl

theorem dx'_eq (q r : S256x2816.Idx → ℝ) (z : S256x1.Idx → ℝ) (y : S256x1024.Idx → ℝ) : k1_pay15 (F := Ideal) (fun i => ((g i : ℝ) : EReal)) (fun i => ((d i : ℝ) : EReal))
      (fun i => ((z i : ℝ) : EReal)) (fun i => ((y i : ℝ) : EReal)) (fun i => ((r i : ℝ) : EReal)) (fun i => ((q i : ℝ) : EReal)) (fun i => ((s i : ℝ) : EReal))
      (fun i => ((wg i : ℝ) : EReal)) (fun i => ((wu i : ℝ) : EReal))
    = fun j => ((row d (j 0) (j 1) + z (Idealize.ShloMosaic.ix2 (j 0) 0) * (dxnB wg wu q (fun i => r i * s i) (j 0) (j 1) * gain g (j 1)
        - row y (j 0) (j 1) * ((∑ k, dxnB wg wu q (fun i => r i * s i) (j 0) k * gain g k * row y (j 0) k) / 1024)) : ℝ) : EReal) := by
  funext j
  idx_vars j
  unfold k1_pay15
  rw [dxn_eq]
  pointwise
  simp only [← EReal.coe_mul, coe_sum, ofBits_1024]
  rw [div_real _ (by norm_num), ← EReal.coe_mul, ← EReal.coe_sub, ← EReal.coe_mul, ← EReal.coe_add]

theorem g2_eq : k1_pay2 (F := Ideal) (fun i => ((g i : ℝ) : EReal)) = fun i => ((g i : ℝ) : EReal) := by
  funext j; idx_vars j; pointwise [k1_pay2]

theorem d3_eq : k1_pay3 (F := Ideal) (fun i => ((d i : ℝ) : EReal)) = fun i => ((d i : ℝ) : EReal) := by
  funext j; idx_vars j; pointwise [k1_pay3]

/-- The gate's cotangent on the block. -/
def qB (d : S256x1024.Idx → ℝ) (wd : S2816x1024.Idx → ℝ) (a : S256x2816.Idx → ℝ) : S256x2816.Idx → ℝ :=
  fun j => dact (mat wd) (row d (j 0)) (j 1) * a j

theorem dx_eq : k1_pay15 (F := Ideal) (k1_pay2 (fun i => ((g i : ℝ) : EReal))) (k1_pay3 (fun i => ((d i : ℝ) : EReal)))
      (k1_pay5 (fun i => ((x i : ℝ) : EReal))) (k1_pay6 (fun i => ((x i : ℝ) : EReal)))
      (k1_pay9 (fun i => ((d i : ℝ) : EReal)) (fun i => ((wd i : ℝ) : EReal)))
      (k1_pay10 (fun i => ((d i : ℝ) : EReal)) (fun i => ((wd i : ℝ) : EReal)) (fun i => ((a i : ℝ) : EReal))) (fun i => ((s i : ℝ) : EReal))
      (fun i => ((wg i : ℝ) : EReal)) (fun i => ((wu i : ℝ) : EReal))
    = fun j => ((row d (j 0) (j 1) + Rms.bwd (row x (j 0)) (fun k => dxnB wg wu (qB d wd a) (qB d wd s) (j 0) k * gain g k) (j 1) : ℝ) : EReal) := by
  rw [inv_eq, hat_eq, dact_eq, dgate_eq, g2_eq, d3_eq, dx'_eq]
  rfl

theorem dg'_eq (q r : S256x2816.Idx → ℝ) (y : S256x1024.Idx → ℝ) (acc : Vec Ideal S1x1024 .f32) (j : S1x1024.Idx) :
    k1_pay16 (F := Ideal) (fun i => ((y i : ℝ) : EReal)) (fun i => ((r i : ℝ) : EReal)) (fun i => ((q i : ℝ) : EReal)) (fun i => ((s i : ℝ) : EReal))
      (fun i => ((wg i : ℝ) : EReal)) (fun i => ((wu i : ℝ) : EReal)) acc j
    = acc j + ((∑ p, dxnB wg wu q (fun i => r i * s i) p (j 1) * row y p (j 1) : ℝ) : EReal) := by
  idx_vars j
  unfold k1_pay16
  rw [dxn_eq]
  pointwise
  simp only [← EReal.coe_mul, coe_sum]

theorem dg_eq (acc : Vec Ideal S1x1024 .f32) (j : S1x1024.Idx) : k1_pay16 (F := Ideal) (k1_pay6 (fun i => ((x i : ℝ) : EReal)))
      (k1_pay9 (fun i => ((d i : ℝ) : EReal)) (fun i => ((wd i : ℝ) : EReal)))
      (k1_pay10 (fun i => ((d i : ℝ) : EReal)) (fun i => ((wd i : ℝ) : EReal)) (fun i => ((a i : ℝ) : EReal))) (fun i => ((s i : ℝ) : EReal))
      (fun i => ((wg i : ℝ) : EReal)) (fun i => ((wu i : ℝ) : EReal)) acc j
    = acc j + ((∑ p, dxnB wg wu (qB d wd a) (qB d wd s) p (j 1) * (row x p (j 1) * Rms.inv (row x p)) : ℝ) : EReal) := by
  rw [hat_eq, dact_eq, dgate_eq, dg'_eq]
  rfl

end Cert.FfnKernelIdeal.Block

end
-- ==== Proof.Ffn.Run.lean ====
/- The run of the feed-forward kernels, forward and backward: every buffer a core can name ends at the contents the last
   boundary between the kernels and the host's operations holds. -/
module

public import proofs.«01_k».proof.Proof.Gen.FfnKernelIdeal.Frame

@[expose] public section

set_option maxRecDepth 16384

noncomputable section

namespace Cert.FfnKernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnKernelIdeal Cert.FfnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The eight results, and the arguments unchanged. -/
theorem run_results : θ_run defs (onTc (τ := τ) (main (F := F))) ⟨m, fun _ => 0, ρ⟩ (fun r => ∀ c : Dev nD,
      r.2.mem ((c.tc : Thread nD τ).loc main_v7_0) = (dat0 (V1 m ρ) c).arrAt 5 cfg0.N
      ∧ r.2.mem ((c.tc : Thread nD τ).loc main_v7_3) = (dat0 (V1 m ρ) c).arrAt 8 cfg0.N
      ∧ r.2.mem ((c.tc : Thread nD τ).loc main_v9_0) = (dat1 (V3 m ρ) c).arrAt 8 cfg1.N
      ∧ r.2.mem ((c.tc : Thread nD τ).loc main_v9_1) = (dat1 (V3 m ρ) c).arrAt 9 cfg1.N
      ∧ r.2.mem ((c.tc : Thread nD τ).loc main_v9_2) = (dat1 (V3 m ρ) c).arrAt 10 cfg1.N
      ∧ r.2.mem ((c.tc : Thread nD τ).loc main_v9_3) = (dat1 (V3 m ρ) c).arrAt 11 cfg1.N
      ∧ r.2.mem ((c.tc : Thread nD τ).loc main_v9_4) = (dat1 (V3 m ρ) c).arrAt 12 cfg1.N
      ∧ r.2.mem ((c.tc : Thread nD τ).loc main_v9_5) = (dat1 (V3 m ρ) c).arrAt 13 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v7_0 (by decide))).trans ((W4_of m ρ c main_v7_0 (by decide)).trans ((W3_of m ρ c main_v7_0 (by decide)).trans (W2_arr m ρ c 5))),
     (h c _ (mem_uc main_v7_3 (by decide))).trans ((W4_of m ρ c main_v7_3 (by decide)).trans ((W3_of m ρ c main_v7_3 (by decide)).trans (W2_arr m ρ c 8))),
     (h c _ (mem_uc main_v9_0 (by decide))).trans (W4_arr m ρ c 8),
     (h c _ (mem_uc main_v9_1 (by decide))).trans (W4_arr m ρ c 9),
     (h c _ (mem_uc main_v9_2 (by decide))).trans (W4_arr m ρ c 10),
     (h c _ (mem_uc main_v9_3 (by decide))).trans (W4_arr m ρ c 11),
     (h c _ (mem_uc main_v9_4 (by decide))).trans (W4_arr m ρ c 12),
     (h c _ (mem_uc main_v9_5 (by decide))).trans (W4_arr m ρ c 13),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.FfnKernelIdeal.Arrays

end
-- ==== Proof.Ffn.Arrays.lean ====
/- What the two kernels find and what the forward kernel leaves, where the arguments hold real numbers. -/
module

public import proofs.«01_k».proof.Proof.Ffn.Block
public import proofs.«01_k».proof.Proof.Ffn.Run

@[expose] public section

set_option maxRecDepth 16384

noncomputable section

open Idealize.ShloMosaic Idealize.ShloMosaic.TcCoe Idealize.SL.Sem
open scoped BigOperators

namespace Cert.FfnKernelIdeal.Arrays

open Cert.FfnKernelIdeal Cert.FfnKernelIdeal.Gen Cert.FfnKernelIdeal.Block Cert.Reals Cert.Rows Cert.Ffn

variable (m : (ℓ : Loc nD τ sig) → Buf (Elt Ideal) ℓ) (ρ : Dev nD → PrngReg) (c : Dev nD)
  (X : S2x2048x1024.Idx → ℝ) (G : S1024.Idx → ℝ) (Wg Wu : S1024x2816.Idx → ℝ) (Wd : S2816x1024.Idx → ℝ) (D : S2x2048x1024.Idx → ℝ)

/-- The gain's vector by its one coordinate. -/
abbrev vec (G : S1024.Idx → ℝ) (k : Fin 1024) : ℝ := G (Idealize.ShloMosaic.ix1 k)

/-- A matrix in by its coordinates. -/
abbrev mIn (W : S1024x2816.Idx → ℝ) (k : Fin 1024) (f : Fin 2816) : ℝ := W (Idealize.ShloMosaic.ix2 k f)

/-- The matrix back by its coordinates. -/
abbrev mBack (W : S2816x1024.Idx → ℝ) (f : Fin 2816) (k : Fin 1024) : ℝ := W (Idealize.ShloMosaic.ix2 f k)

/-- The arguments hold real numbers. -/
structure Holds : Prop where
  x : m ((c : Thread nD τ).loc main_arg0) = fun i => ((X i : ℝ) : EReal)
  g : m ((c : Thread nD τ).loc main_arg1) = fun i => ((G i : ℝ) : EReal)
  wg : m ((c : Thread nD τ).loc main_arg2) = fun i => ((Wg i : ℝ) : EReal)
  wu : m ((c : Thread nD τ).loc main_arg3) = fun i => ((Wu i : ℝ) : EReal)
  wd : m ((c : Thread nD τ).loc main_arg4) = fun i => ((Wd i : ℝ) : EReal)
  d : m ((c : Thread nD τ).loc main_arg5) = fun i => ((D i : ℝ) : EReal)

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, t.val] :=
  (by decide +kernel : ∀ t : Fin grid0.N, _)

theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![0, t.val] ∧ win1_10.index t = ![0, t.val]
    ∧ win1_11.index t = ![t.val, 0] ∧ win1_12.index t = ![t.val, 0] ∧ win1_13.index t = ![0, 0] :=
  (by decide +kernel : ∀ t : Fin grid1.N, _)

/-- Block `t` of the rows: rows `256 t, …, 256 t + 255`. -/
def xOf (X : S2x2048x1024.Idx → ℝ) (t : Nat) : S256x1024.Idx → ℝ := fun i => rowN X (256 * t + (i 0).val) (i 1)

/-- A matrix in, transposed. -/
def wOf (W : S1024x2816.Idx → ℝ) : S2816x1024.Idx → ℝ := fun i => W (Idealize.ShloMosaic.ix2 (i 1) (i 0))

/-- The gain as a matrix of one row. -/
def gOf (G : S1024.Idx → ℝ) : S1x1024.Idx → ℝ := fun i => vec G (i 1)

/-! ## The arrays the kernels find -/

variable {m ρ c X G Wg Wu Wd D}

theorem v6 (h : Holds m c X G Wg Wu Wd D) : V1 m ρ c main_v6 = fun j : S4096x1024.Idx => ((rowN X (j 0).val (j 1) : ℝ) : EReal) := by
  refine (show V1 m ρ c main_v6 = shapeCast S4096x1024 (m ((c : Thread nD τ).loc main_arg0)) shapeCasts_S2x2048x1024_S4096x1024 from rfl).trans ?_
  rw [h.x]
  exact funext fun j => rows_apply X _ j

theorem v0 (h : Holds m c X G Wg Wu Wd D) : V1 m ρ c main_v0 = fun j : S1x1024.Idx => ((gOf G j : ℝ) : EReal) := by
  refine (show V1 m ρ c main_v0 = shapeCast S1x1024 (m ((c : Thread nD τ).loc main_arg1)) shapeCasts_S1024_S1x1024 from rfl).trans ?_
  rw [h.g]
  funext j
  idx_vars j
  pointwise
  refine congrArg (fun k => ((vec G k : ℝ) : EReal)) (Fin.ext ?_)
  have h0 := j0.isLt
  show _ = j1.val
  simp
  try omega

theorem v2 (h : Holds m c X G Wg Wu Wd D) : V1 m ρ c main_v2 = fun j : S2816x1024.Idx => ((wOf Wg j : ℝ) : EReal) := by
  refine (show V1 m ρ c main_v2 = transpose S2816x1024 [1, 0] (m ((c : Thread nD τ).loc main_arg2)) transposes_S1024x2816_S2816x1024_1_0 from rfl).trans ?_
  rw [h.wg]
  funext j
  idx_vars j
  pointwise
  rfl

theorem v4 (h : Holds m c X G Wg Wu Wd D) : V1 m ρ c main_v4 = fun j : S2816x1024.Idx => ((wOf Wu j : ℝ) : EReal) := by
  refine (show V1 m ρ c main_v4 = transpose S2816x1024 [1, 0] (m ((c : Thread nD τ).loc main_arg3)) transposes_S1024x2816_S2816x1024_1_0 from rfl).trans ?_
  rw [h.wu]
  funext j
  idx_vars j
  pointwise
  rfl

theorem v5 (h : Holds m c X G Wg Wu Wd D) : V1 m ρ c main_v5 = fun j : S2816x1024.Idx => ((Wd j : ℝ) : EReal) :=
  (show V1 m ρ c main_v5 = m ((c : Thread nD τ).loc main_arg4) from rfl).trans h.wd

end Cert.FfnKernelIdeal.Arrays

end
-- ==== Proof.Ffn.Forward.lean ====
/- The arrays the forward kernel leaves, where the arguments hold real numbers. -/
module

public import proofs.«01_k».proof.Proof.Ffn.Arrays

@[expose] public section

set_option maxRecDepth 16384

noncomputable section

open Idealize.ShloMosaic Idealize.ShloMosaic.TcCoe Idealize.SL.Sem
open scoped BigOperators

namespace Cert.FfnKernelIdeal.Arrays

open Cert.FfnKernelIdeal Cert.FfnKernelIdeal.Gen Cert.FfnKernelIdeal.Block Cert.Reals Cert.Rows Cert.Ffn

variable {m : (ℓ : Loc nD τ sig) → Buf (Elt Ideal) ℓ} {ρ : Dev nD → PrngReg} {c : Dev nD}
  {X : S2x2048x1024.Idx → ℝ} {G : S1024.Idx → ℝ} {Wg Wu : S1024x2816.Idx → ℝ} {Wd : S2816x1024.Idx → ℝ} {D : S2x2048x1024.Idx → ℝ}

theorem xblk0 (h : Holds m c X G Wg Wu Wd D) (t : Fin cfg0.N) : iblk0 (V1 m ρ) c 0 t = fun i => ((xOf X t.val i : ℝ) : EReal) := by
  funext i
  idx_vars i
  blk_simp [iblk0, idx0 t]
  rw [v6 h]
  refine rowN_congr X ?_ ?_
  · blk_simp [idx0 t]; exact congrArg (· + i0.val) (Nat.mul_comm _ _)
  · blk_simp [idx0 t]

theorem gblk0 (h : Holds m c X G Wg Wu Wd D) (t : Fin cfg0.N) : iblk0 (V1 m ρ) c 1 t = fun i => ((gOf G i : ℝ) : EReal) := by
  funext i
  idx_vars i
  blk_simp [iblk0, idx0 t]
  rw [v0 h]
  exact congrArg (fun k => ((vec G k : ℝ) : EReal)) (Fin.ext (by blk_simp [idx0 t]))

/-- A window that takes a whole array of 2816 rows reads the array. -/
theorem whole_congr (W : S2816x1024.Idx → ℝ) {i j : S2816x1024.Idx} (h0 : (i 0).val = (j 0).val) (h1 : (i 1).val = (j 1).val) :
    ((W i : ℝ) : EReal) = ((W j : ℝ) : EReal) := by
  rw [show i = j from funext fun d => match d with
    | ⟨0, _⟩ => Fin.ext h0
    | ⟨1, _⟩ => Fin.ext h1]

theorem wgblk0 (h : Holds m c X G Wg Wu Wd D) (t : Fin cfg0.N) : iblk0 (V1 m ρ) c 2 t = fun i => ((wOf Wg i : ℝ) : EReal) := by
  funext i
  idx_vars i
  blk_simp [iblk0, idx0 t]
  rw [v2 h]
  exact whole_congr _ (by blk_simp [idx0 t]) (by blk_simp [idx0 t])

theorem wublk0 (h : Holds m c X G Wg Wu Wd D) (t : Fin cfg0.N) : iblk0 (V1 m ρ) c 3 t = fun i => ((wOf Wu i : ℝ) : EReal) := by
  funext i
  idx_vars i
  blk_simp [iblk0, idx0 t]
  rw [v4 h]
  exact whole_congr _ (by blk_simp [idx0 t]) (by blk_simp [idx0 t])

theorem wdblk0 (h : Holds m c X G Wg Wu Wd D) (t : Fin cfg0.N) : iblk0 (V1 m ρ) c 4 t = fun i => ((Wd i : ℝ) : EReal) := by
  funext i
  idx_vars i
  blk_simp [iblk0, idx0 t]
  rw [v5 h]
  exact whole_congr _ (by blk_simp [idx0 t]) (by blk_simp [idx0 t])

/-- The forward kernel's output. -/
theorem final_out (h : Holds m c X G Wg Wu Wd D) : (dat0 (V1 m ρ) c).arrAt 5 cfg0.N
    = fun j : S4096x1024.Idx => ((out (rowN X (j 0).val) (vec G) (mIn Wg) (mIn Wu) (mBack Wd) (j 1) : ℝ) : EReal) := by
  refine (dat0 (V1 m ρ) c).arrAt_eq_of_covers 5 _ (by decide +kernel) fun t hf y => ?_
  blk_simp; rw [after0_5]; unfold_out out0_5; frame_out
  rw [xblk0 h t, gblk0 h t, wgblk0 h t, wublk0 h t, wdblk0 h t]
  refine (congrFun (out_eq (xOf X t.val) (gOf G) (wOf Wg) (wOf Wu) Wd) y).trans ?_
  refine congrArg₂ (fun (n : Nat) (k : Fin 1024) => ((out (rowN X n) (vec G) (mIn Wg) (mIn Wu) (mBack Wd) k : ℝ) : EReal)) ?_ ?_
  · blk_simp [idx0 t]; exact congrArg (· + (y 0).val) (Nat.mul_comm _ _)
  · exact Fin.ext (by blk_simp [idx0 t])

/-- The gate's slopes, which the backward kernel reads. -/
theorem final_slope (h : Holds m c X G Wg Wu Wd D) : (dat0 (V1 m ρ) c).arrAt 6 cfg0.N
    = fun j : S4096x2816.Idx => ((slope (rowN X (j 0).val) (vec G) (mIn Wg) (mIn Wu) (j 1) : ℝ) : EReal) := by
  refine (dat0 (V1 m ρ) c).arrAt_eq_of_covers 6 _ (by decide +kernel) fun t hf y => ?_
  blk_simp; rw [after0_6]; unfold_out out0_6; frame_out
  rw [xblk0 h t, gblk0 h t, wgblk0 h t, wublk0 h t]
  refine (congrFun (slope_eq (xOf X t.val) (gOf G) (wOf Wg) (wOf Wu)) y).trans ?_
  refine congrArg₂ (fun (n : Nat) (k : Fin 2816) => ((slope (rowN X n) (vec G) (mIn Wg) (mIn Wu) k : ℝ) : EReal)) ?_ ?_
  · blk_simp [idx0 t]; exact congrArg (· + (y 0).val) (Nat.mul_comm _ _)
  · exact Fin.ext (by blk_simp [idx0 t])

/-- The gate's values, which the backward kernel reads. -/
theorem final_silu (h : Holds m c X G Wg Wu Wd D) : (dat0 (V1 m ρ) c).arrAt 7 cfg0.N
    = fun j : S4096x2816.Idx => ((silu (lin (rowN X (j 0).val) (vec G) (mIn Wg) (j 1)) : ℝ) : EReal) := by
  refine (dat0 (V1 m ρ) c).arrAt_eq_of_covers 7 _ (by decide +kernel) fun t hf y => ?_
  blk_simp; rw [after0_7]; unfold_out out0_7; frame_out
  rw [xblk0 h t, gblk0 h t, wgblk0 h t]
  refine (congrFun (silu'_eq (xOf X t.val) (gOf G) (wOf Wg)) y).trans ?_
  refine congrArg₂ (fun (n : Nat) (k : Fin 2816) => ((silu (lin (rowN X n) (vec G) (mIn Wg) k) : ℝ) : EReal)) ?_ ?_
  · blk_simp [idx0 t]; exact congrArg (· + (y 0).val) (Nat.mul_comm _ _)
  · exact Fin.ext (by blk_simp [idx0 t])

/-- The gated activations, transposed. -/
theorem final_actt (h : Holds m c X G Wg Wu Wd D) : (dat0 (V1 m ρ) c).arrAt 8 cfg0.N
    = fun j : S2816x4096.Idx => ((act (rowN X (j 1).val) (vec G) (mIn Wg) (mIn Wu) (j 0) : ℝ) : EReal) := by
  refine (dat0 (V1 m ρ) c).arrAt_eq_of_covers 8 _ (by decide +kernel) fun t hf y => ?_
  blk_simp; rw [after0_8]; unfold_out out0_8; frame_out
  rw [xblk0 h t, gblk0 h t, wgblk0 h t, wublk0 h t]
  refine (congrFun (actt_eq (xOf X t.val) (gOf G) (wOf Wg) (wOf Wu)) y).trans ?_
  refine congrArg₂ (fun (n : Nat) (k : Fin 2816) => ((act (rowN X n) (vec G) (mIn Wg) (mIn Wu) k : ℝ) : EReal)) ?_ ?_
  · blk_simp [idx0 t]; exact congrArg (· + (y 1).val) (Nat.mul_comm _ _)
  · exact Fin.ext (by blk_simp [idx0 t])

end Cert.FfnKernelIdeal.Arrays

end
-- ==== Proof.Ffn.Backward.lean ====
/- The arrays the backward kernel leaves, where the arguments hold real numbers. -/
module

public import proofs.«01_k».proof.Proof.Ffn.Forward

@[expose] public section

set_option maxRecDepth 16384

noncomputable section

open Idealize.ShloMosaic Idealize.ShloMosaic.TcCoe Idealize.SL.Sem
open scoped BigOperators

namespace Cert.FfnKernelIdeal.Arrays

open Cert.FfnKernelIdeal Cert.FfnKernelIdeal.Gen Cert.FfnKernelIdeal.Block Cert.Reals Cert.Rows Cert.Ffn

variable {m : (ℓ : Loc nD τ sig) → Buf (Elt Ideal) ℓ} {ρ : Dev nD → PrngReg} {c : Dev nD}
  {X : S2x2048x1024.Idx → ℝ} {G : S1024.Idx → ℝ} {Wg Wu : S1024x2816.Idx → ℝ} {Wd : S2816x1024.Idx → ℝ} {D : S2x2048x1024.Idx → ℝ}

/-! ## What the backward kernel finds -/

/-- A buffer that neither the forward kernel nor the operation after it writes. -/
theorem kept (r : Ref sig .tc) (h3 : r ∉ hostOps1_W) (h2 : ∀ w : Fin cfg0.W, Pipeline.arrRef spec0 w = r → (cfg0.win w).isOut = false) :
    V3 m ρ c r = V1 m ρ c r := (W3_of m ρ c r h3).trans (W2_of m ρ c r h2)

theorem v8 (h : Holds m c X G Wg Wu Wd D) : V3 m ρ c main_v8 = fun j : S4096x1024.Idx => ((rowN D (j 0).val (j 1) : ℝ) : EReal) := by
  refine (show V3 m ρ c main_v8 = shapeCast S4096x1024 (W2 m ρ c (Proc.devRef .tc main_arg5)) shapeCasts_S2x2048x1024_S4096x1024 from rfl).trans ?_
  rw [W2_of m ρ c main_arg5 (by decide), show W1 m ρ c (Proc.devRef .tc main_arg5) = _ from h.d]
  exact funext fun j => rows_apply D _ j

theorem slopes (h : Holds m c X G Wg Wu Wd D) : V3 m ρ c main_v7_1
    = fun j : S4096x2816.Idx => ((slope (rowN X (j 0).val) (vec G) (mIn Wg) (mIn Wu) (j 1) : ℝ) : EReal) :=
  (W3_of m ρ c main_v7_1 (by decide)).trans ((W2_arr m ρ c 6).trans (final_slope h))

theorem silus (h : Holds m c X G Wg Wu Wd D) : V3 m ρ c main_v7_2
    = fun j : S4096x2816.Idx => ((silu (lin (rowN X (j 0).val) (vec G) (mIn Wg) (j 1)) : ℝ) : EReal) :=
  (W3_of m ρ c main_v7_2 (by decide)).trans ((W2_arr m ρ c 7).trans (final_silu h))

/-- Block `t` of the slopes. -/
def aOf (X : S2x2048x1024.Idx → ℝ) (G : S1024.Idx → ℝ) (Wg Wu : S1024x2816.Idx → ℝ) (t : Nat) : S256x2816.Idx → ℝ :=
  fun i => slope (rowN X (256 * t + (i 0).val)) (vec G) (mIn Wg) (mIn Wu) (i 1)

/-- Block `t` of the gate's values. -/
def sOf (X : S2x2048x1024.Idx → ℝ) (G : S1024.Idx → ℝ) (Wg : S1024x2816.Idx → ℝ) (t : Nat) : S256x2816.Idx → ℝ :=
  fun i => silu (lin (rowN X (256 * t + (i 0).val)) (vec G) (mIn Wg) (i 1))

theorem dblk1 (h : Holds m c X G Wg Wu Wd D) (t : Fin cfg1.N) : iblk1 (V3 m ρ) c 0 t = fun i => ((xOf D t.val i : ℝ) : EReal) := by
  funext i
  idx_vars i
  blk_simp [iblk1, idx1 t]
  rw [v8 h]
  refine rowN_congr D ?_ ?_
  · blk_simp [idx1 t]; exact congrArg (· + i0.val) (Nat.mul_comm _ _)
  · blk_simp [idx1 t]

theorem xblk1 (h : Holds m c X G Wg Wu Wd D) (t : Fin cfg1.N) : iblk1 (V3 m ρ) c 1 t = fun i => ((xOf X t.val i : ℝ) : EReal) := by
  funext i
  idx_vars i
  blk_simp [iblk1, idx1 t]
  rw [kept main_v6 (by decide) (by decide), v6 h]
  refine rowN_congr X ?_ ?_
  · blk_simp [idx1 t]; exact congrArg (· + i0.val) (Nat.mul_comm _ _)
  · blk_simp [idx1 t]

theorem gblk1 (h : Holds m c X G Wg Wu Wd D) (t : Fin cfg1.N) : iblk1 (V3 m ρ) c 2 t = fun i => ((gOf G i : ℝ) : EReal) := by
  funext i
  idx_vars i
  blk_simp [iblk1, idx1 t]
  rw [kept main_v0 (by decide) (by decide), v0 h]
  exact congrArg (fun k => ((vec G k : ℝ) : EReal)) (Fin.ext (by blk_simp [idx1 t]))

theorem ablk1 (h : Holds m c X G Wg Wu Wd D) (t : Fin cfg1.N) : iblk1 (V3 m ρ) c 3 t = fun i => ((aOf X G Wg Wu t.val i : ℝ) : EReal) := by
  funext i
  idx_vars i
  blk_simp [iblk1, idx1 t]
  rw [slopes h]
  refine congrArg₂ (fun (n : Nat) (k : Fin 2816) => ((slope (rowN X n) (vec G) (mIn Wg) (mIn Wu) k : ℝ) : EReal)) ?_ ?_
  · blk_simp [idx1 t]; exact congrArg (· + i0.val) (Nat.mul_comm _ _)
  · exact Fin.ext (by blk_simp [idx1 t])

theorem sblk1 (h : Holds m c X G Wg Wu Wd D) (t : Fin cfg1.N) : iblk1 (V3 m ρ) c 4 t = fun i => ((sOf X G Wg t.val i : ℝ) : EReal) := by
  funext i
  idx_vars i
  blk_simp [iblk1, idx1 t]
  rw [silus h]
  refine congrArg₂ (fun (n : Nat) (k : Fin 2816) => ((silu (lin (rowN X n) (vec G) (mIn Wg) k) : ℝ) : EReal)) ?_ ?_
  · blk_simp [idx1 t]; exact congrArg (· + i0.val) (Nat.mul_comm _ _)
  · exact Fin.ext (by blk_simp [idx1 t])

theorem wgblk1 (h : Holds m c X G Wg Wu Wd D) (t : Fin cfg1.N) : iblk1 (V3 m ρ) c 5 t = fun i => ((wOf Wg i : ℝ) : EReal) := by
  funext i
  idx_vars i
  blk_simp [iblk1, idx1 t]
  rw [kept main_v2 (by decide) (by decide), v2 h]
  exact whole_congr _ (by blk_simp [idx1 t]) (by blk_simp [idx1 t])

theorem wublk1 (h : Holds m c X G Wg Wu Wd D) (t : Fin cfg1.N) : iblk1 (V3 m ρ) c 6 t = fun i => ((wOf Wu i : ℝ) : EReal) := by
  funext i
  idx_vars i
  blk_simp [iblk1, idx1 t]
  rw [kept main_v4 (by decide) (by decide), v4 h]
  exact whole_congr _ (by blk_simp [idx1 t]) (by blk_simp [idx1 t])

theorem wdblk1 (h : Holds m c X G Wg Wu Wd D) (t : Fin cfg1.N) : iblk1 (V3 m ρ) c 7 t = fun i => ((Wd i : ℝ) : EReal) := by
  funext i
  idx_vars i
  blk_simp [iblk1, idx1 t]
  rw [kept main_v5 (by decide) (by decide), v5 h]
  exact whole_congr _ (by blk_simp [idx1 t]) (by blk_simp [idx1 t])

/-! ## What it leaves -/

/-- The input's gradient. -/
theorem final_dx (h : Holds m c X G Wg Wu Wd D) : (dat1 (V3 m ρ) c).arrAt 8 cfg1.N
    = fun j : S4096x1024.Idx => ((dx (rowN X (j 0).val) (vec G) (mIn Wg) (mIn Wu) (mBack Wd) (rowN D (j 0).val) (j 1) : ℝ) : EReal) := by
  refine (dat1 (V3 m ρ) c).arrAt_eq_of_covers 8 _ (by decide +kernel) fun t hf y => ?_
  have key : ∀ n k, n = 256 * t.val + (y 0).val → k = y 1 →
      ((row (xOf D t.val) (y 0) (y 1) + Rms.bwd (row (xOf X t.val) (y 0)) (fun k => dxnB (wOf Wg) (wOf Wu) (qB (xOf D t.val) Wd (aOf X G Wg Wu t.val))
        (qB (xOf D t.val) Wd (sOf X G Wg t.val)) (y 0) k * gain (gOf G) k) (y 1) : ℝ) : EReal)
      = ((dx (rowN X n) (vec G) (mIn Wg) (mIn Wu) (mBack Wd) (rowN D n) k : ℝ) : EReal) := by
    rintro _ _ rfl rfl; rfl
  blk_simp; rw [after1_8]
  by_cases ht : t.val % 16 = 0
  · rw [outsAt1_A _ c t ht]; dsimp only
    frame_out
    rw [dblk1 h t, xblk1 h t, gblk1 h t, ablk1 h t, sblk1 h t, wgblk1 h t, wublk1 h t, wdblk1 h t]
    refine (congrFun (dx_eq _ _ _ _ _ _ _ _) y).trans (key _ _ ?_ ?_)
    · blk_simp [idx1 t]; exact congrArg (· + (y 0).val) (Nat.mul_comm _ _)
    · exact Fin.ext (by blk_simp [idx1 t])
  · rw [outsAt1_B _ c t ht]; dsimp only
    frame_out
    rw [dblk1 h t, xblk1 h t, gblk1 h t, ablk1 h t, sblk1 h t, wgblk1 h t, wublk1 h t, wdblk1 h t]
    refine (congrFun (dx_eq _ _ _ _ _ _ _ _) y).trans (key _ _ ?_ ?_)
    · blk_simp [idx1 t]; exact congrArg (· + (y 0).val) (Nat.mul_comm _ _)
    · exact Fin.ext (by blk_simp [idx1 t])

/-- The gate's cotangent, transposed. -/
theorem final_dgate (h : Holds m c X G Wg Wu Wd D) : (dat1 (V3 m ρ) c).arrAt 9 cfg1.N
    = fun j : S2816x4096.Idx => ((dgate (rowN X (j 1).val) (vec G) (mIn Wg) (mIn Wu) (mBack Wd) (rowN D (j 1).val) (j 0) : ℝ) : EReal) := by
  refine (dat1 (V3 m ρ) c).arrAt_eq_of_covers 9 _ (by decide +kernel) fun t hf y => ?_
  have body : (dat1 (V3 m ρ) c).after 9 t = fun j : S2816x256.Idx =>
      ((dact (mat Wd) (row (xOf D t.val) (j 1)) (j 0) * aOf X G Wg Wu t.val (Idealize.ShloMosaic.ix2 (j 1) (j 0)) : ℝ) : EReal) := by
    rw [after1_9]
    funext j
    by_cases ht : t.val % 16 = 0
    · rw [outsAt1_A _ c t ht]; dsimp only
      frame_out
      rw [dblk1 h t, ablk1 h t, wdblk1 h t]
      exact congrFun (dgatet_eq _ _ _) j
    · rw [outsAt1_B _ c t ht]; dsimp only
      frame_out
      rw [dblk1 h t, ablk1 h t, wdblk1 h t]
      exact congrFun (dgatet_eq _ _ _) j
  blk_simp; rw [body]
  refine congrArg₂ (fun (n : Nat) (k : Fin 2816) => ((dgate (rowN X n) (vec G) (mIn Wg) (mIn Wu) (mBack Wd) (rowN D n) k : ℝ) : EReal)) (?_ : 256 * t.val + (y 1).val = _) ?_
  · blk_simp [idx1 t]; exact congrArg (· + (y 1).val) (Nat.mul_comm _ _)
  · exact Fin.ext (by blk_simp [idx1 t])

/-- The other factor's cotangent, transposed. -/
theorem final_dup (h : Holds m c X G Wg Wu Wd D) : (dat1 (V3 m ρ) c).arrAt 10 cfg1.N
    = fun j : S2816x4096.Idx => ((dup (rowN X (j 1).val) (vec G) (mIn Wg) (mBack Wd) (rowN D (j 1).val) (j 0) : ℝ) : EReal) := by
  refine (dat1 (V3 m ρ) c).arrAt_eq_of_covers 10 _ (by decide +kernel) fun t hf y => ?_
  have body : (dat1 (V3 m ρ) c).after 10 t = fun j : S2816x256.Idx =>
      ((dact (mat Wd) (row (xOf D t.val) (j 1)) (j 0) * sOf X G Wg t.val (Idealize.ShloMosaic.ix2 (j 1) (j 0)) : ℝ) : EReal) := by
    rw [after1_10]
    funext j
    by_cases ht : t.val % 16 = 0
    · rw [outsAt1_A _ c t ht]; dsimp only
      frame_out
      rw [dblk1 h t, sblk1 h t, wdblk1 h t]
      exact congrFun (dupt_eq _ _ _) j
    · rw [outsAt1_B _ c t ht]; dsimp only
      frame_out
      rw [dblk1 h t, sblk1 h t, wdblk1 h t]
      exact congrFun (dupt_eq _ _ _) j
  blk_simp; rw [body]
  refine congrArg₂ (fun (n : Nat) (k : Fin 2816) => ((dup (rowN X n) (vec G) (mIn Wg) (mBack Wd) (rowN D n) k : ℝ) : EReal)) (?_ : 256 * t.val + (y 1).val = _) ?_
  · blk_simp [idx1 t]; exact congrArg (· + (y 1).val) (Nat.mul_comm _ _)
  · exact Fin.ext (by blk_simp [idx1 t])

/-- The normed rows. -/
theorem final_xn (h : Holds m c X G Wg Wu Wd D) : (dat1 (V3 m ρ) c).arrAt 11 cfg1.N
    = fun j : S4096x1024.Idx => ((xn (rowN X (j 0).val) (vec G) (j 1) : ℝ) : EReal) := by
  refine (dat1 (V3 m ρ) c).arrAt_eq_of_covers 11 _ (by decide +kernel) fun t hf y => ?_
  have body : (dat1 (V3 m ρ) c).after 11 t = fun j : S256x1024.Idx => ((xn (row (xOf X t.val) (j 0)) (gain (gOf G)) (j 1) : ℝ) : EReal) := by
    rw [after1_11]
    funext j
    by_cases ht : t.val % 16 = 0
    · rw [outsAt1_A _ c t ht]; dsimp only
      frame_out
      rw [xblk1 h t, gblk1 h t]
      exact congrFun (xn'_eq _ _) j
    · rw [outsAt1_B _ c t ht]; dsimp only
      frame_out
      rw [xblk1 h t, gblk1 h t]
      exact congrFun (xn'_eq _ _) j
  blk_simp; rw [body]
  refine congrArg₂ (fun (n : Nat) (k : Fin 1024) => ((xn (rowN X n) (vec G) k : ℝ) : EReal)) (?_ : 256 * t.val + (y 0).val = _) ?_
  · blk_simp [idx1 t]; exact congrArg (· + (y 0).val) (Nat.mul_comm _ _)
  · exact Fin.ext (by blk_simp [idx1 t])

/-- Half the cotangent. -/
theorem final_dacc (h : Holds m c X G Wg Wu Wd D) : (dat1 (V3 m ρ) c).arrAt 12 cfg1.N
    = fun j : S4096x1024.Idx => ((dacc (rowN D (j 0).val) (j 1) : ℝ) : EReal) := by
  refine (dat1 (V3 m ρ) c).arrAt_eq_of_covers 12 _ (by decide +kernel) fun t hf y => ?_
  have body : (dat1 (V3 m ρ) c).after 12 t = fun j : S256x1024.Idx => ((dacc (row (xOf D t.val) (j 0)) (j 1) : ℝ) : EReal) := by
    rw [after1_12]
    funext j
    by_cases ht : t.val % 16 = 0
    · rw [outsAt1_A _ c t ht]; dsimp only
      frame_out
      rw [dblk1 h t]
      exact congrFun (dacc_eq _) j
    · rw [outsAt1_B _ c t ht]; dsimp only
      frame_out
      rw [dblk1 h t]
      exact congrFun (dacc_eq _) j
  blk_simp; rw [body]
  refine congrArg₂ (fun (n : Nat) (k : Fin 1024) => ((dacc (rowN D n) k : ℝ) : EReal)) (?_ : 256 * t.val + (y 0).val = _) ?_
  · blk_simp [idx1 t]; exact congrArg (· + (y 0).val) (Nat.mul_comm _ _)
  · exact Fin.ext (by blk_simp [idx1 t])

/-- What the rows of block `t` add to the gain's gradient. -/
def part (X : S2x2048x1024.Idx → ℝ) (G : S1024.Idx → ℝ) (Wg Wu : S1024x2816.Idx → ℝ) (Wd : S2816x1024.Idx → ℝ) (D : S2x2048x1024.Idx → ℝ)
    (t : Nat) (k : Fin 1024) : ℝ :=
  ∑ p : Fin 256, dgRow (rowN X (256 * t + p.val)) (vec G) (mIn Wg) (mIn Wu) (mBack Wd) (rowN D (256 * t + p.val)) k

/-- The gain's gradient. -/
theorem final_dg (h : Holds m c X G Wg Wu Wd D) : (dat1 (V3 m ρ) c).arrAt 13 cfg1.N
    = fun j : S1x1024.Idx => ((∑ n ∈ Finset.range 4096, dgRow (rowN X n) (vec G) (mIn Wg) (mIn Wu) (mBack Wd) (rowN D n) (j 1) : ℝ) : EReal) := by
  refine (dat1 (V3 m ρ) c).arrAt_eq_of_after_last 13 t1_15 (by decide +kernel) _ fun j => ?_
  blk_simp
  rw [after1_13, Pipeline.eq_sum_fin_of_reset_step_apply_last (fun n hn => (outsAt1 (V3 m ρ) c n hn).2.2.2.2.2) 16 (fun _ => 0)
    (fun t (j : S1x1024.Idx) => ((part X G Wg Wu Wd D t.val (j 1) : ℝ) : EReal))
    (fun t ht j => by
      rw [outsAt1_A _ c t ht]; frame_out
      rw [dblk1 h t, xblk1 h t, ablk1 h t, sblk1 h t, wgblk1 h t, wublk1 h t, wdblk1 h t]
      exact (dg_eq _ _ _ _ _ _ _ _ _).trans (congrArg (fun a : EReal => a + ((part X G Wg Wu Wd D t.val (j 1) : ℝ) : EReal)) (by pointwise! [k1_pay1])))
    (fun t ht j => by
      rw [outsAt1_B _ c t ht]; frame_out
      rw [dblk1 h t, xblk1 h t, ablk1 h t, sblk1 h t, wgblk1 h t, wublk1 h t, wdblk1 h t]
      exact dg_eq _ _ _ _ _ _ _ _ _)
    (le_of_eq N_1) t1_15 rfl j, zero_add, coe_sum]
  exact congrArg (fun s : ℝ => (s : EReal)) (sum_runs 16 256 fun n => dgRow (rowN X n) (vec G) (mIn Wg) (mIn Wu) (mBack Wd) (rowN D n) _)

end Cert.FfnKernelIdeal.Arrays

end
-- ==== Proof.Ffn.Reference.lean ====
/- What the reference computes: the feed-forward step and its derivative by the chain rule, in real numbers. -/
module

public import proofs.«01_k».proof.Proof.Ffn.Spec
public import proofs.«01_k».proof.Proof.Gen.FfnReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.FfnReferenceIdeal.Ffn

open Cert.FfnReferenceIdeal Cert.FfnReferenceIdeal.Gen Cert.FfnReferenceIdeal.Read Cert.Reals Cert.Rows Cert.Ffn

variable (X : S2x2048x1024.Idx → ℝ) (G : S1024.Idx → ℝ) (Wg Wu : S1024x2816.Idx → ℝ) (Wd : S2816x1024.Idx → ℝ) (D : S2x2048x1024.Idx → ℝ)

/-- A row by its two leading coordinates. -/
def row (X : S2x2048x1024.Idx → ℝ) (p : Fin 2) (q : Fin 2048) : Fin 1024 → ℝ := rowN X (2048 * p.val + q.val)

theorem at_row (X : S2x2048x1024.Idx → ℝ) (p : Fin 2) (q : Fin 2048) (k : Fin 1024) : X (Idealize.ShloMosaic.ix3 p q k) = row X p q k := by
  have hp := p.isLt
  have hq := q.isLt
  refine congrArg X (congrArg₂ (fun a b => Idealize.ShloMosaic.ix3 a b k) (Fin.ext ?_) (Fin.ext ?_))
  · show p.val = (2048 * p.val + q.val) / 2048 % 2; omega
  · show q.val = (2048 * p.val + q.val) % 2048; omega

/-- The gain by its coordinate. -/
abbrev vec (G : S1024.Idx → ℝ) (k : Fin 1024) : ℝ := G (Idealize.ShloMosaic.ix1 k)

/-- A matrix in by its coordinates. -/
abbrev mIn (W : S1024x2816.Idx → ℝ) (k : Fin 1024) (f : Fin 2816) : ℝ := W (Idealize.ShloMosaic.ix2 k f)

/-- The matrix back by its coordinates. -/
abbrev mBack (W : S2816x1024.Idx → ℝ) (f : Fin 2816) (k : Fin 1024) : ℝ := W (Idealize.ShloMosaic.ix2 f k)

theorem msq_eq (p : Fin 2) (q : Fin 2048) (e : Fin 1) : val_main_v8 (F := Ideal) (fun i => ((X i : ℝ) : EReal)) (Idealize.ShloMosaic.ix3 p q e)
    = ((Rms.msq (row X p q) : ℝ) : EReal) := by
  pointwise [val_main_v8, val_main_v7, val_main_v6, val_main_v5, val_main_v4, val_main_v3, val_main_v2, val_main_cst_1, val_main_cst_2, val_main_cst_3]
  simp only [← EReal.coe_mul, coe_sum, ofBits_1024, ofBits_eps, at_row, zero_add]
  rw [div_real _ (by norm_num), ← EReal.coe_add]
  rfl

theorem inv_eq (p : Fin 2) (q : Fin 2048) (e : Fin 1) : val_main_v9 (F := Ideal) (fun i => ((X i : ℝ) : EReal)) (Idealize.ShloMosaic.ix3 p q e)
    = ((Rms.inv (row X p q) : ℝ) : EReal) := by
  rw [val_main_v9_apply, msq_eq]
  exact rsqrt_real (Rms.msq_pos _)

theorem factor_eq (p : Fin 2) (q : Fin 2048) (e : Fin 1) : val_main_v12 (F := Ideal) (fun i => ((X i : ℝ) : EReal)) (Idealize.ShloMosaic.ix3 p q e)
    = ((Rms.inv (row X p q) / Rms.msq (row X p q) * (-1 / 2) : ℝ) : EReal) := by
  simp only [val_main_v12_apply, val_main_v11_apply, val_main_cst_4_apply, val_main_v10_apply, inv_eq, msq_eq,
    Ideal.mulf_def, Ideal.hostDivf_def, Ideal.ofBits_def, ofBits_neg_half]
  rw [div_real _ (Rms.msq_pos _).ne', ← EReal.coe_mul, mul_comm]

theorem hat_eq (p : Fin 2) (q : Fin 2048) (k : Fin 1024) : val_main_v14 (F := Ideal) (fun i => ((X i : ℝ) : EReal)) (Idealize.ShloMosaic.ix3 p q k)
    = ((row X p q k * Rms.inv (row X p q) : ℝ) : EReal) := by
  pointwise [val_main_v14, val_main_v13]
  rw [inv_eq, at_row X, ← EReal.coe_mul]

theorem xn_eq (p : Fin 2) (q : Fin 2048) (k : Fin 1024) : val_main_v17 (F := Ideal) (fun i => ((X i : ℝ) : EReal)) (fun i => ((G i : ℝ) : EReal)) (Idealize.ShloMosaic.ix3 p q k)
    = ((xn (row X p q) (vec G) k : ℝ) : EReal) := by
  pointwise [val_main_v17, val_main_v16, val_main_v15]
  rw [hat_eq, ← EReal.coe_mul]
  rfl

theorem gate_eq (p : Fin 2) (q : Fin 2048) (f : Fin 2816) : val_main_v19 (F := Ideal) (fun i => ((X i : ℝ) : EReal)) (fun i => ((G i : ℝ) : EReal)) (fun i => ((Wg i : ℝ) : EReal)) (Idealize.ShloMosaic.ix3 p q f)
    = ((lin (row X p q) (vec G) (mIn Wg) f : ℝ) : EReal) := by
  pointwise [val_main_v19, val_main_v18, val_main_v0, val_main_cst]
  simp only [xn_eq, ← EReal.coe_mul, coe_sum, add_zero]
  rfl

theorem up_eq (p : Fin 2) (q : Fin 2048) (f : Fin 2816) : val_main_v22 (F := Ideal) (fun i => ((X i : ℝ) : EReal)) (fun i => ((G i : ℝ) : EReal)) (fun i => ((Wu i : ℝ) : EReal)) (Idealize.ShloMosaic.ix3 p q f)
    = ((lin (row X p q) (vec G) (mIn Wu) f : ℝ) : EReal) := by
  pointwise [val_main_v22, val_main_v21, val_main_v0, val_main_cst]
  simp only [xn_eq, ← EReal.coe_mul, coe_sum, add_zero]
  rfl

theorem sig_eq (p : Fin 2) (q : Fin 2048) (f : Fin 2816) : val_main_v20_2 (F := Ideal) (fun i => ((X i : ℝ) : EReal)) (fun i => ((G i : ℝ) : EReal)) (fun i => ((Wg i : ℝ) : EReal)) (Idealize.ShloMosaic.ix3 p q f)
    = ((logistic (lin (row X p q) (vec G) (mIn Wg) f) : ℝ) : EReal) := by
  pointwise [val_main_v20_2, val_main_call0_v4, val_main_call0_cst_0, val_main_call0_v3, val_main_call0_v2, val_main_call0_cst, val_main_call0_v1, val_main_call0_v0]
  rw [gate_eq]
  exact sig_real _

theorem silu_eq (p : Fin 2) (q : Fin 2048) (f : Fin 2816) : val_main_v20_0 (F := Ideal) (fun i => ((X i : ℝ) : EReal)) (fun i => ((G i : ℝ) : EReal)) (fun i => ((Wg i : ℝ) : EReal)) (Idealize.ShloMosaic.ix3 p q f)
    = ((silu (lin (row X p q) (vec G) (mIn Wg) f) : ℝ) : EReal) := by
  pointwise [val_main_v20_0]
  rw [gate_eq, sig_eq, ← EReal.coe_mul]
  rfl

theorem dsig_eq (p : Fin 2) (q : Fin 2048) (f : Fin 2816) : val_main_v20_1 (F := Ideal) (fun i => ((X i : ℝ) : EReal)) (fun i => ((G i : ℝ) : EReal)) (fun i => ((Wg i : ℝ) : EReal)) (Idealize.ShloMosaic.ix3 p q f)
    = ((logistic (lin (row X p q) (vec G) (mIn Wg) f) * (1 - logistic (lin (row X p q) (vec G) (mIn Wg) f)) : ℝ) : EReal) := by
  pointwise [val_main_v20_1, val_main_call0_v7, val_main_call0_v6, val_main_call0_cst_1]
  rw [sig_eq, ← EReal.coe_one, ← EReal.coe_sub, ← EReal.coe_mul]

theorem act_eq (p : Fin 2) (q : Fin 2048) (f : Fin 2816) : val_main_v23 (F := Ideal) (fun i => ((X i : ℝ) : EReal)) (fun i => ((G i : ℝ) : EReal)) (fun i => ((Wg i : ℝ) : EReal)) (fun i => ((Wu i : ℝ) : EReal)) (Idealize.ShloMosaic.ix3 p q f)
    = ((act (row X p q) (vec G) (mIn Wg) (mIn Wu) f : ℝ) : EReal) := by
  pointwise [val_main_v23]
  rw [silu_eq, up_eq, ← EReal.coe_mul]
  rfl

theorem out_eq (p : Fin 2) (q : Fin 2048) (k : Fin 1024) : val_main_v28 (F := Ideal) (fun i => ((X i : ℝ) : EReal)) (fun i => ((G i : ℝ) : EReal)) (fun i => ((Wg i : ℝ) : EReal)) (fun i => ((Wu i : ℝ) : EReal)) (fun i => ((Wd i : ℝ) : EReal)) (Idealize.ShloMosaic.ix3 p q k)
    = ((out (row X p q) (vec G) (mIn Wg) (mIn Wu) (mBack Wd) k : ℝ) : EReal) := by
  pointwise [val_main_v28, val_main_v27, val_main_v26, val_main_cst_5, val_main_v25, val_main_v24, val_main_v1, val_main_cst_0]
  rw [at_row X]
  simp only [act_eq, ← EReal.coe_mul, coe_sum, add_zero, ofBits_half, ← EReal.coe_add]
  rfl

theorem dacc_eq (p : Fin 2) (q : Fin 2048) (k : Fin 1024) : val_main_v31 (F := Ideal) (fun i => ((D i : ℝ) : EReal)) (Idealize.ShloMosaic.ix3 p q k)
    = ((dacc (row D p q) k : ℝ) : EReal) := by
  have e : val_main_v29 (F := Ideal) (fun i => ((D i : ℝ) : EReal)) = fun i => ((D i : ℝ) : EReal) := by
    unfold val_main_v29
    funext j
    exact shapeCast_apply _ _ j j rfl
  pointwise [val_main_v31, val_main_v30, val_main_cst_6]
  rw [e]
  show _ * ((D (Idealize.ShloMosaic.ix3 p q k) : ℝ) : EReal) = _
  rw [at_row D, ofBits_half, ← EReal.coe_mul]
  rfl

theorem dact_eq (p : Fin 2) (q : Fin 2048) (f : Fin 2816) : val_main_v32 (F := Ideal) (fun i => ((Wd i : ℝ) : EReal)) (fun i => ((D i : ℝ) : EReal)) (Idealize.ShloMosaic.ix3 p q f)
    = ((dact (mBack Wd) (row D p q) f : ℝ) : EReal) := by
  pointwise [val_main_v32]
  simp only [dacc_eq, ← EReal.coe_mul, coe_sum]
  rfl

theorem dup_eq (p : Fin 2) (q : Fin 2048) (f : Fin 2816) : val_main_v33 (F := Ideal) (fun i => ((X i : ℝ) : EReal)) (fun i => ((G i : ℝ) : EReal)) (fun i => ((Wg i : ℝ) : EReal)) (fun i => ((Wd i : ℝ) : EReal)) (fun i => ((D i : ℝ) : EReal)) (Idealize.ShloMosaic.ix3 p q f)
    = ((dup (row X p q) (vec G) (mIn Wg) (mBack Wd) (row D p q) f : ℝ) : EReal) := by
  pointwise [val_main_v33]
  rw [silu_eq, dact_eq, ← EReal.coe_mul, mul_comm]
  rfl

theorem dgate_eq (p : Fin 2) (q : Fin 2048) (f : Fin 2816) : val_main_v36 (F := Ideal) (fun i => ((X i : ℝ) : EReal)) (fun i => ((G i : ℝ) : EReal)) (fun i => ((Wg i : ℝ) : EReal)) (fun i => ((Wu i : ℝ) : EReal)) (fun i => ((Wd i : ℝ) : EReal)) (fun i => ((D i : ℝ) : EReal)) (Idealize.ShloMosaic.ix3 p q f)
    = ((dgate (row X p q) (vec G) (mIn Wg) (mIn Wu) (mBack Wd) (row D p q) f : ℝ) : EReal) := by
  pointwise [val_main_v36, val_main_call1_v2, val_main_call1_v1, val_main_call1_v0, val_main_v34]
  rw [gate_eq, sig_eq, dsig_eq, up_eq, dact_eq]
  simp only [← EReal.coe_mul, ← EReal.coe_add]
  exact congrArg (fun r : ℝ => (r : EReal)) (dsilu_eq _ _ _)

theorem dxn_eq (p : Fin 2) (q : Fin 2048) (k : Fin 1024) : val_main_v38 (F := Ideal) (fun i => ((X i : ℝ) : EReal)) (fun i => ((G i : ℝ) : EReal)) (fun i => ((Wg i : ℝ) : EReal)) (fun i => ((Wu i : ℝ) : EReal)) (fun i => ((Wd i : ℝ) : EReal)) (fun i => ((D i : ℝ) : EReal)) (Idealize.ShloMosaic.ix3 p q k)
    = ((dxn (row X p q) (vec G) (mIn Wg) (mIn Wu) (mBack Wd) (row D p q) k : ℝ) : EReal) := by
  pointwise [val_main_v38, val_main_v37, val_main_v35]
  simp only [dgate_eq, dup_eq, ← EReal.coe_mul, coe_sum, ← EReal.coe_add]
  rw [add_comm]
  rfl

theorem dyg_eq (p : Fin 2) (q : Fin 2048) (k : Fin 1024) : val_main_v43 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal)) (Idealize.ShloMosaic.ix3 p q k)
    = (((dxn (row X p q) (vec G) (mIn Wg) (mIn Wu) (mBack Wd) (row D p q) k * vec G k) : ℝ) : EReal) := by
  pointwise [val_main_v43, val_main_v42, val_main_v15]
  rw [dxn_eq, ← EReal.coe_mul]

theorem inner_eq (p : Fin 2) (q : Fin 2048) (k : Fin 1024) : val_main_v55 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal)) (Idealize.ShloMosaic.ix3 p q k)
    = (((∑ k, row X p q k * (dxn (row X p q) (vec G) (mIn Wg) (mIn Wu) (mBack Wd) (row D p q) k * vec G k))
        * (Rms.inv (row X p q) / Rms.msq (row X p q) * (-1 / 2)) / 1024 : ℝ) : EReal) := by
  pointwise [val_main_v55, val_main_v54, val_main_v53, val_main_v52, val_main_v51, val_main_v47, val_main_v46, val_main_v45, val_main_cst_9, val_main_cst_10, val_main_cst_11]
  simp only [dyg_eq, factor_eq, at_row, ← EReal.coe_mul, coe_sum, zero_add, Fin.sum_univ_one, ofBits_1024]
  rw [div_real _ (by norm_num)]

theorem sum_eq (p : Fin 2) (q : Fin 2048) (k : Fin 1024) : val_main_v59 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal)) (Idealize.ShloMosaic.ix3 p q k)
    = ((dx (row X p q) (vec G) (mIn Wg) (mIn Wu) (mBack Wd) (row D p q) k : ℝ) : EReal) := by
  pointwise [val_main_v59, val_main_v58, val_main_v57, val_main_v56, val_main_v50, val_main_v49, val_main_v48]
  rw [inner_eq, dyg_eq, inv_eq, at_row X, at_row D]
  simp only [← EReal.coe_mul, ← EReal.coe_add]
  refine congrArg (fun r : ℝ => (r : EReal)) ?_
  rw [dx, ← Rms.bwd_eq]
  ring

theorem part_eq (p : Fin 2) (q : Fin 2048) (k : Fin 1024) : val_main_v39 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal)) (Idealize.ShloMosaic.ix3 p q k)
    = ((dgRow (row X p q) (vec G) (mIn Wg) (mIn Wu) (mBack Wd) (row D p q) k : ℝ) : EReal) := by
  rw [val_main_v39_apply, hat_eq, dxn_eq, Ideal.mulf_def, ← EReal.coe_mul, mul_comm]
  rfl

/-! ## The results, the 2 · 2048 rows laid out as 4096 -/

/-- An array of 2 · 2048 rows whose entries are a function of the row counted through. -/
theorem flat_fun {w : Nat} [NeZero w] (Y : (⟨3, ![2, 2048, w]⟩ : Shape).Idx → EReal) (f : Nat → Fin w → ℝ)
    (hY : ∀ (p : Fin 2) (q : Fin 2048) (k : Fin w), Y (Idealize.ShloMosaic.ix3 p q k) = ((f (2048 * p.val + q.val) k : ℝ) : EReal))
    (h : (⟨3, ![2, 2048, w]⟩ : Shape).ShapeCasts ⟨2, ![4096, w]⟩) (n : Fin 4096) (k : Fin w) :
    shapeCast ⟨2, ![4096, w]⟩ Y h (Idealize.ShloMosaic.ix2 n k) = ((f n.val k : ℝ) : EReal) := by
  have h0 := n.isLt
  refine (flat_apply _ _ _).trans ((hY _ _ _).trans ?_)
  have e0 : (Fin.ofNat 2 (n.val / 2048)).val = n.val / 2048 := Nat.mod_eq_of_lt (by omega)
  have e1 : (Fin.ofNat 2048 (n.val % 2048)).val = n.val % 2048 := Nat.mod_eq_of_lt (by omega)
  have e2 : Fin.ofNat w k.val = k := Fin.ext (Nat.mod_eq_of_lt k.isLt)
  show ((f (2048 * (Fin.ofNat 2 (n.val / 2048)).val + (Fin.ofNat 2048 (n.val % 2048)).val) (Fin.ofNat w k.val) : ℝ) : EReal) = _
  rw [e0, e1, e2, Nat.div_add_mod]

theorem res_out : val_main_v60 (F := Ideal) (fun i => ((X i : ℝ) : EReal)) (fun i => ((G i : ℝ) : EReal)) (fun i => ((Wg i : ℝ) : EReal)) (fun i => ((Wu i : ℝ) : EReal))
      (fun i => ((Wd i : ℝ) : EReal))
    = fun j : S4096x1024.Idx => ((out (rowN X (j 0).val) (vec G) (mIn Wg) (mIn Wu) (mBack Wd) (j 1) : ℝ) : EReal) := by
  funext j
  idx_vars j
  unfold val_main_v60
  exact flat_fun _ (fun n k => out (rowN X n) (vec G) (mIn Wg) (mIn Wu) (mBack Wd) k) (out_eq X G Wg Wu Wd) _ j0 j1

theorem res_actt : val_main_v63 (F := Ideal) (fun i => ((X i : ℝ) : EReal)) (fun i => ((G i : ℝ) : EReal)) (fun i => ((Wg i : ℝ) : EReal)) (fun i => ((Wu i : ℝ) : EReal))
    = fun j : S2816x4096.Idx => ((act (rowN X (j 1).val) (vec G) (mIn Wg) (mIn Wu) (j 0) : ℝ) : EReal) := by
  funext j
  idx_vars j
  pointwise [val_main_v63, val_main_v62]
  unfold val_main_v61
  exact flat_fun _ (fun n k => act (rowN X n) (vec G) (mIn Wg) (mIn Wu) k) (act_eq X G Wg Wu) _ j1 j0

theorem res_dx : val_main_v64 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal))
    = fun j : S4096x1024.Idx => ((dx (rowN X (j 0).val) (vec G) (mIn Wg) (mIn Wu) (mBack Wd) (rowN D (j 0).val) (j 1) : ℝ) : EReal) := by
  funext j
  idx_vars j
  unfold val_main_v64
  exact flat_fun _ (fun n k => dx (rowN X n) (vec G) (mIn Wg) (mIn Wu) (mBack Wd) (rowN D n) k) (sum_eq X G Wg Wu Wd D) _ j0 j1

theorem res_dgate : val_main_v67 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal))
    = fun j : S2816x4096.Idx => ((dgate (rowN X (j 1).val) (vec G) (mIn Wg) (mIn Wu) (mBack Wd) (rowN D (j 1).val) (j 0) : ℝ) : EReal) := by
  funext j
  idx_vars j
  pointwise [val_main_v67, val_main_v66]
  unfold val_main_v65
  exact flat_fun _ (fun n k => dgate (rowN X n) (vec G) (mIn Wg) (mIn Wu) (mBack Wd) (rowN D n) k) (dgate_eq X G Wg Wu Wd D) _ j1 j0

theorem res_dup : val_main_v70 (F := Ideal) (fun i => ((X i : ℝ) : EReal)) (fun i => ((G i : ℝ) : EReal)) (fun i => ((Wg i : ℝ) : EReal))
      (fun i => ((Wd i : ℝ) : EReal)) (fun i => ((D i : ℝ) : EReal))
    = fun j : S2816x4096.Idx => ((dup (rowN X (j 1).val) (vec G) (mIn Wg) (mBack Wd) (rowN D (j 1).val) (j 0) : ℝ) : EReal) := by
  funext j
  idx_vars j
  pointwise [val_main_v70, val_main_v69]
  unfold val_main_v68
  exact flat_fun _ (fun n k => dup (rowN X n) (vec G) (mIn Wg) (mBack Wd) (rowN D n) k) (dup_eq X G Wg Wd D) _ j1 j0

theorem res_xn : val_main_v72 (F := Ideal) (fun i => ((X i : ℝ) : EReal)) (fun i => ((G i : ℝ) : EReal))
    = fun j : S4096x1024.Idx => ((xn (rowN X (j 0).val) (vec G) (j 1) : ℝ) : EReal) := by
  funext j
  idx_vars j
  pointwise [val_main_v72]
  unfold val_main_v71
  exact flat_fun _ (fun n k => xn (rowN X n) (vec G) k) (xn_eq X G) _ j0 j1

theorem res_dacc : val_main_v74 (F := Ideal) (fun i => ((D i : ℝ) : EReal))
    = fun j : S4096x1024.Idx => ((dacc (rowN D (j 0).val) (j 1) : ℝ) : EReal) := by
  funext j
  idx_vars j
  pointwise [val_main_v74]
  unfold val_main_v73
  exact flat_fun _ (fun n k => dacc (rowN D n) k) (dacc_eq D) _ j0 j1

/-- The gain's gradient. -/
theorem res_dg : val_main_v75 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal))
    = fun j : S1x1024.Idx => ((∑ n ∈ Finset.range 4096, dgRow (rowN X n) (vec G) (mIn Wg) (mIn Wu) (mBack Wd) (rowN D n) (j 1) : ℝ) : EReal) := by
  have e : val_main_v40 (F := Ideal) (fun i => ((X i : ℝ) : EReal)) (fun i => ((G i : ℝ) : EReal)) (fun i => ((Wg i : ℝ) : EReal)) (fun i => ((Wu i : ℝ) : EReal))
      (fun i => ((Wd i : ℝ) : EReal)) (fun i => ((D i : ℝ) : EReal))
      = fun j => ((∑ n ∈ Finset.range 4096, dgRow (rowN X n) (vec G) (mIn Wg) (mIn Wu) (mBack Wd) (rowN D n) (j 0) : ℝ) : EReal) := by
    funext j
    unfold val_main_v40
    simp only [Host.reduceAdd, Ideal.hostReduceAdd_def]
    refine (hostReduceAdd_rows (a := 2) (b := 2048) (n := 1024) _ _ _ j).trans ?_
    simp only [val_main_cst_7_apply, Ideal.ofBits_def, Ideal.ofBits_zero_f32, zero_add]
    refine (Finset.sum_congr rfl fun p _ => Finset.sum_congr rfl fun q _ => part_eq X G Wg Wu Wd D p q (j 0)).trans ?_
    simp only [coe_sum]
    refine congrArg (fun r : ℝ => (r : EReal)) ?_
    refine Eq.trans ?_ (sum_runs 2 2048 fun n => dgRow (rowN X n) (vec G) (mIn Wg) (mIn Wu) (mBack Wd) (rowN D n) (j 0))
    rfl
  funext j
  idx_vars j
  rw [val_main_v75_apply]
  unfold val_main_v44
  simp only [Host.reduceAdd, Ideal.hostReduceAdd_def]
  refine (hostReduceAdd_rows (a := 1) (b := 1) (n := 1024) _ _ _ _).trans ?_
  simp only [Fin.sum_univ_one, val_main_v41_apply, e, val_main_cst_8_apply, Ideal.ofBits_def, Ideal.ofBits_zero_f32, zero_add]
  refine congrArg (fun k => ((∑ n ∈ Finset.range 4096, dgRow (rowN X n) (vec G) (mIn Wg) (mIn Wu) (mBack Wd) (rowN D n) k : ℝ) : EReal)) (Fin.ext ?_)
  have h0 := j0.isLt
  show (0 * 1 + 0) * 1024 + (j0.val * 1024 + j1.val) = j1.val
  omega

end Cert.FfnReferenceIdeal.Ffn

end
-- ==== Proof.Ffn.Equation.lean ====
/- The feed-forward step and its derivative: the kernels leave what the reference computes. -/
module

public import proofs.«01_k».proof.Proof.Common.Finite
public import proofs.«01_k».proof.Proof.Ffn.Backward
public import proofs.«01_k».proof.Proof.Ffn.Reference
public import proofs.«01_k».proof.Proof.Gen.FfnReferenceIdeal.Run
public import Idealize.ShloMosaic.Lib.Claim
public import proofs.«01_k».proof.Defs

@[expose] public section

set_option maxRecDepth 16384

noncomputable section

open Idealize.ShloMosaic Idealize.ShloMosaic.TcCoe Idealize.SL.Sem

namespace Cert.Ffn

open Cert.FfnKernelIdeal Cert.Reals

/-- Under the precondition the arguments hold real numbers. -/
theorem holds [Cert.Pre_ffn_finite.Facts] (m : (ℓ : Loc nD τ sig) → Buf (Elt Ideal) ℓ) (h : Cert.Pre_FfnKernelIdeal_ffn_finite m)
    (c : Dev nD) :
    Arrays.Holds m c (fun i => (m ((c : Thread nD τ).loc main_arg0) i).toReal) (fun i => (m ((c : Thread nD τ).loc main_arg1) i).toReal)
      (fun i => (m ((c : Thread nD τ).loc main_arg2) i).toReal) (fun i => (m ((c : Thread nD τ).loc main_arg3) i).toReal)
      (fun i => (m ((c : Thread nD τ).loc main_arg4) i).toReal) (fun i => (m ((c : Thread nD τ).loc main_arg5) i).toReal) := by
  obtain ⟨h01234, h5⟩ := both (h c)
  obtain ⟨h0123, h4⟩ := both h01234
  obtain ⟨h012, h3⟩ := both h0123
  obtain ⟨h01, h2⟩ := both h012
  obtain ⟨h0, h1⟩ := both h01
  exact ⟨reals_of_all _ _ _ _ h0, reals_of_all _ _ _ _ h1, reals_of_all _ _ _ _ h2, reals_of_all _ _ _ _ h3, reals_of_all _ _ _ _ h4,
    reals_of_all _ _ _ _ h5⟩

variable (m : (ℓ : Loc nD τ FfnKernelIdeal.sig) → Buf (Elt Ideal) ℓ) (ρ : Dev nD → PrngReg) (c : Dev nD)

theorem eq_out {X G Wg Wu Wd D} (h : Arrays.Holds m c X G Wg Wu Wd D) :
    Cert.FfnReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = (Gen.dat0 (Gen.V1 m ρ) c).arrAt 5 cfg0.N := by
  rw [h.x, h.g, h.wg, h.wu, h.wd]
  exact (Cert.FfnReferenceIdeal.Ffn.res_out X G Wg Wu Wd).trans (Arrays.final_out h).symm

theorem eq_actt {X G Wg Wu Wd D} (h : Arrays.Holds m c X G Wg Wu Wd D) :
    Cert.FfnReferenceIdeal.Read.val_main_v63 (F := Ideal) (m ((c : Thread nD τ).loc main_arg0)) (m ((c : Thread nD τ).loc main_arg1)) (m ((c : Thread nD τ).loc main_arg2)) (m ((c : Thread nD τ).loc main_arg3))
      = (Gen.dat0 (Gen.V1 m ρ) c).arrAt 8 cfg0.N := by
  rw [h.x, h.g, h.wg, h.wu]
  exact (Cert.FfnReferenceIdeal.Ffn.res_actt X G Wg Wu).trans (Arrays.final_actt h).symm

theorem eq_dx {X G Wg Wu Wd D} (h : Arrays.Holds m c X G Wg Wu Wd D) :
    Cert.FfnReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (Gen.dat1 (Gen.V3 m ρ) c).arrAt 8 cfg1.N := by
  rw [h.x, h.g, h.wg, h.wu, h.wd, h.d]
  exact (Cert.FfnReferenceIdeal.Ffn.res_dx X G Wg Wu Wd D).trans (Arrays.final_dx h).symm

theorem eq_dgate {X G Wg Wu Wd D} (h : Arrays.Holds m c X G Wg Wu Wd D) :
    Cert.FfnReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (Gen.dat1 (Gen.V3 m ρ) c).arrAt 9 cfg1.N := by
  rw [h.x, h.g, h.wg, h.wu, h.wd, h.d]
  exact (Cert.FfnReferenceIdeal.Ffn.res_dgate X G Wg Wu Wd D).trans (Arrays.final_dgate h).symm

theorem eq_dup {X G Wg Wu Wd D} (h : Arrays.Holds m c X G Wg Wu Wd D) :
    Cert.FfnReferenceIdeal.Read.val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5))
      = (Gen.dat1 (Gen.V3 m ρ) c).arrAt 10 cfg1.N := by
  rw [h.x, h.g, h.wg, h.wd, h.d]
  exact (Cert.FfnReferenceIdeal.Ffn.res_dup X G Wg Wd D).trans (Arrays.final_dup h).symm

theorem eq_xn {X G Wg Wu Wd D} (h : Arrays.Holds m c X G Wg Wu Wd D) :
    Cert.FfnReferenceIdeal.Read.val_main_v72 (F := Ideal) (m ((c : Thread nD τ).loc main_arg0)) (m ((c : Thread nD τ).loc main_arg1))
      = (Gen.dat1 (Gen.V3 m ρ) c).arrAt 11 cfg1.N := by
  rw [h.x, h.g]
  exact (Cert.FfnReferenceIdeal.Ffn.res_xn X G).trans (Arrays.final_xn h).symm

theorem eq_dacc {X G Wg Wu Wd D} (h : Arrays.Holds m c X G Wg Wu Wd D) :
    Cert.FfnReferenceIdeal.Read.val_main_v74 (F := Ideal) (m ((c : Thread nD τ).loc main_arg5))
      = (Gen.dat1 (Gen.V3 m ρ) c).arrAt 12 cfg1.N := by
  rw [h.d]
  exact (Cert.FfnReferenceIdeal.Ffn.res_dacc D).trans (Arrays.final_dacc h).symm

theorem eq_dg {X G Wg Wu Wd D} (h : Arrays.Holds m c X G Wg Wu Wd D) :
    Cert.FfnReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      = (Gen.dat1 (Gen.V3 m ρ) c).arrAt 13 cfg1.N := by
  rw [h.x, h.g, h.wg, h.wu, h.wd, h.d]
  exact (Cert.FfnReferenceIdeal.Ffn.res_dg X G Wg Wu Wd D).trans (Arrays.final_dg h).symm

/-- The two programs end with equal results. -/
theorem equation [Cert.Pre_ffn_finite.Facts] : Cert.algebraic_FfnKernelIdeal_FfnReferenceIdeal_pre_ffn_finite := by
  pair_intro
  · run_from (Arrays.run_results m g)
  · run_from (Cert.FfnReferenceIdeal.Value.run m' g')
    · exact (Cert.FfnReferenceIdeal.Read.val_main_v60_eq (F := Ideal) (m ((c : Thread nD τ).loc main_arg0)) (m ((c : Thread nD τ).loc main_arg1)) (m ((c : Thread nD τ).loc main_arg2)) (m ((c : Thread nD τ).loc main_arg3)) (m ((c : Thread nD τ).loc main_arg4))).trans (eq_out m g c (holds m hpre c))
    · exact (Cert.FfnReferenceIdeal.Read.val_main_v63_eq (F := Ideal) (m ((c : Thread nD τ).loc main_arg0)) (m ((c : Thread nD τ).loc main_arg1)) (m ((c : Thread nD τ).loc main_arg2)) (m ((c : Thread nD τ).loc main_arg3))).trans (eq_actt m g c (holds m hpre c))
    · rw [Cert.FfnReferenceIdeal.Read.val_main_v64_eq, (hagree c).1, (hagree c).2.1, (hagree c).2.2.1, (hagree c).2.2.2.1, (hagree c).2.2.2.2.1, (hagree c).2.2.2.2.2]
      exact eq_dx m g c (holds m hpre c)
    · rw [Cert.FfnReferenceIdeal.Read.val_main_v67_eq, (hagree c).1, (hagree c).2.1, (hagree c).2.2.1, (hagree c).2.2.2.1, (hagree c).2.2.2.2.1, (hagree c).2.2.2.2.2]
      exact eq_dgate m g c (holds m hpre c)
    · exact (Cert.FfnReferenceIdeal.Read.val_main_v70_eq (F := Ideal) (m ((c : Thread nD τ).loc main_arg0)) (m ((c : Thread nD τ).loc main_arg1)) (m ((c : Thread nD τ).loc main_arg2)) (m ((c : Thread nD τ).loc main_arg4)) (m ((c : Thread nD τ).loc main_arg5))).trans (eq_dup m g c (holds m hpre c))
    · exact (Cert.FfnReferenceIdeal.Read.val_main_v72_eq (F := Ideal) (m ((c : Thread nD τ).loc main_arg0)) (m ((c : Thread nD τ).loc main_arg1))).trans (eq_xn m g c (holds m hpre c))
    · exact (Cert.FfnReferenceIdeal.Read.val_main_v74_eq (F := Ideal) (m ((c : Thread nD τ).loc main_arg5))).trans (eq_dacc m g c (holds m hpre c))
    · rw [Cert.FfnReferenceIdeal.Read.val_main_v75_eq, (hagree c).1, (hagree c).2.1, (hagree c).2.2.1, (hagree c).2.2.2.1, (hagree c).2.2.2.2.1, (hagree c).2.2.2.2.2]
      exact eq_dg m g c (holds m hpre c)

end Cert.Ffn

end
-- ==== Proof.Attn.Spec.lean ====
/- The dilated attention of one head in real numbers: which earlier positions a position attends, with which multiplicity,
   the attention's row, and the derivative of a cotangent through it. -/
module

public import proofs.«01_k».proof.Proof.Common.Reals
public import Mathlib.Analysis.SpecialFunctions.Exp
public import Mathlib.Analysis.SpecialFunctions.Log.Basic

@[expose] public section

noncomputable section

open Idealize.ShloMosaic Idealize.ShloMosaic.TcCoe
open scoped BigOperators

namespace Cert.Attn

open Cert.Reals

/-- The reach of each dilated window. -/
def win : Fin 3 → ℕ := ![128, 512, 2048]

/-- Its stride. -/
def dil : Fin 3 → ℕ := ![1, 4, 16]

/-- Position `t` attends position `u` through window `p`. -/
def Attends (p : Fin 3) (t u : ℕ) : Prop := u ≤ t ∧ t - u ≤ win p ∧ (t - u) % dil p = 0

instance (p : Fin 3) (t u : ℕ) : Decidable (Attends p t u) := by unfold Attends; infer_instance

/-- One where a window attends, zero elsewhere. -/
def ind (p : Fin 3) (t u : ℕ) : ℝ := if Attends p t u then 1 else 0

theorem ind_nonneg (p : Fin 3) (t u : ℕ) : 0 ≤ ind p t u := by unfold ind; split <;> norm_num

theorem attends_self (p : Fin 3) (t : ℕ) : Attends p t t := ⟨le_rfl, by simp, by simp⟩

theorem ind_self (p : Fin 3) (t : ℕ) : ind p t t = 1 := if_pos (attends_self p t)

/-- Through how many windows a position is attended. -/
def mult (t u : ℕ) : ℝ := ind 0 t u + ind 1 t u + ind 2 t u

theorem mult_eq_sum (t u : ℕ) : mult t u = ∑ p, ind p t u := by rw [Fin.sum_univ_three]; rfl

theorem mult_nonneg (t u : ℕ) : 0 ≤ mult t u := by
  have := ind_nonneg 0 t u; have := ind_nonneg 1 t u; have := ind_nonneg 2 t u
  unfold mult; positivity

theorem mult_self (t : ℕ) : mult t t = 3 := by unfold mult; simp only [ind_self]; norm_num

theorem mult_of_lt {t u : ℕ} (h : t < u) : mult t u = 0 := by
  have : ∀ p, ind p t u = 0 := fun p => if_neg fun k => absurd k.1 (not_le.2 h)
  unfold mult; simp only [this]; norm_num

/-- The vectors of one head, one per position. -/
abbrev Head := Fin 2048 → Fin 64 → ℝ

variable (q k v g : Head)

/-- The score of a pair of positions. -/
def score (t u : Fin 2048) : ℝ := (∑ e, q t e * k u e) * (1 / 8)

/-- A pair's weight before the row is divided by its total. -/
def weight (t u : Fin 2048) : ℝ := mult t.val u.val * Real.exp (score q k t u)

/-- A row's total weight. -/
def total (t : Fin 2048) : ℝ := ∑ u, weight q k t u

theorem weight_nonneg (t u : Fin 2048) : 0 ≤ weight q k t u := mul_nonneg (mult_nonneg _ _) (Real.exp_pos _).le

theorem total_pos (t : Fin 2048) : 0 < total q k t :=
  Finset.sum_pos' (fun u _ => weight_nonneg q k t u)
    ⟨t, Finset.mem_univ _, by unfold weight; rw [mult_self]; have := Real.exp_pos (score q k t t); positivity⟩

/-- A pair's share of its row. -/
def prob (t u : Fin 2048) : ℝ := weight q k t u / total q k t

/-- The attention's output. -/
def out (t : Fin 2048) (e : Fin 64) : ℝ := (∑ u, weight q k t u * v u e) / total q k t

/-- The score's cotangent. -/
def slope (t u : Fin 2048) : ℝ := prob q k t u * ((∑ e, g t e * v u e) - ∑ e, g t e * out q k v t e)

/-- The queries' cotangent. -/
def dQ (t : Fin 2048) (e : Fin 64) : ℝ := (∑ u, slope q k v g t u * k u e) * (1 / 8)

/-- The keys' cotangent. -/
def dK (u : Fin 2048) (e : Fin 64) : ℝ := ∑ t, slope q k v g t u * (q t e * (1 / 8))

/-- The values' cotangent. -/
def dV (u : Fin 2048) (e : Fin 64) : ℝ := ∑ t, prob q k t u * g t e

end Cert.Attn

end
-- ==== Proof.Attn.Mixture.lean ====
/- One row of a mixture of softmaxes: three softmaxes over the same scores, each over its own positions, are mixed by the
   softmax of their log-totals. The mixture is one softmax in which a position counts once per softmax that holds it, and
   the derivative through the mixture is the derivative through that one softmax. -/
module

public import proofs.«01_k».proof.Proof.Attn.Spec

@[expose] public section

noncomputable section

open scoped BigOperators

namespace Cert.Attn.Mixture

variable (m : Fin 3 → Fin 2048 → ℝ) (x : Fin 2048 → ℝ) (v : Fin 2048 → Fin 64 → ℝ) (g : Fin 64 → ℝ)
  (E : Fin 3 → ℝ) (Z : ℝ)

/-- A softmax's total. -/
def D (p : Fin 3) : ℝ := ∑ u, m p u * x u

/-- The mixture's total. -/
def T : ℝ := ∑ p, D m x p

/-- A softmax's weighted sum of the values. -/
def S (p : Fin 3) (j : Fin 64) : ℝ := ∑ u, v u j * (m p u * x u)

/-- The mixture's row. -/
def O (j : Fin 64) : ℝ := (∑ p, S m x v p j) / T m x

/-- A weight, the largest score subtracted. -/
def e (p : Fin 3) (u : Fin 2048) : ℝ := m p u * x u / E p
def den (p : Fin 3) : ℝ := ∑ u, e m x E p u
def num (p : Fin 3) (j : Fin 64) : ℝ := ∑ u, v u j * e m x E p u
def o (p : Fin 3) (j : Fin 64) : ℝ := num m x v E p j / den m x E p
/-- A softmax's total, the largest log-total subtracted. -/
def z (p : Fin 3) : ℝ := D m x p / Z
def zs : ℝ := ∑ p, z m x Z p
def w (p : Fin 3) : ℝ := z m x Z p / zs m x Z
def c (p : Fin 3) : ℝ := ∑ j, g j * o m x v E p j
def r (p : Fin 3) : ℝ :=
  (c m x v g E p / zs m x Z + -∑ p', c m x v g E p' * (1 / (zs m x Z * zs m x Z)) * z m x Z p') * z m x Z p
def y (p : Fin 3) : ℝ :=
  r m x v g E Z p / den m x E p + -∑ j, w m x Z p * g j * (1 / (den m x E p * den m x E p)) * num m x v E p j
def b (p : Fin 3) (j : Fin 64) : ℝ := w m x Z p * g j / den m x E p
def f (p : Fin 3) (u : Fin 2048) : ℝ := ((∑ j, b m x g E Z p j * v u j) + y m x v g E Z p) * e m x E p u

variable {m x E Z}

theorem den_eq (p : Fin 3) : den m x E p = D m x p / E p := by
  unfold den e D; rw [Finset.sum_div]

theorem num_eq (p : Fin 3) (j : Fin 64) : num m x v E p j = S m x v p j / E p := by
  unfold num e S; rw [Finset.sum_div]; exact Finset.sum_congr rfl fun u _ => mul_div_assoc' _ _ _

theorem zs_eq : zs m x Z = T m x / Z := by unfold zs z T; rw [Finset.sum_div]

variable (hE : ∀ p, E p ≠ 0) (hZ : Z ≠ 0) (hD : ∀ p, D m x p ≠ 0) (hT : T m x ≠ 0)

include hZ in
theorem w_eq (p : Fin 3) : w m x Z p = D m x p / T m x := by
  unfold w z; rw [zs_eq]; field_simp

include hE in
theorem o_eq (p : Fin 3) (j : Fin 64) : o m x v E p j = S m x v p j / D m x p := by
  unfold o; rw [den_eq, num_eq]; have := hE p; field_simp

include hE hZ hD hT in
/-- The mixture is one softmax. -/
theorem mix_eq (j : Fin 64) : ∑ p, w m x Z p * o m x v E p j = O m x v j := by
  unfold O; rw [Finset.sum_div]
  refine Finset.sum_congr rfl fun p _ => ?_
  rw [w_eq hZ, o_eq v hE]; have := hD p; field_simp

include hE hD in
theorem dot_S (p : Fin 3) : ∑ j, g j * S m x v p j = c m x v g E p * D m x p := by
  unfold c; rw [Finset.sum_mul]
  refine Finset.sum_congr rfl fun j _ => ?_
  rw [o_eq v hE]; have := hD p; field_simp

include hE hD hT in
theorem dot_O : ∑ j, g j * O m x v j = (∑ p, c m x v g E p * D m x p) / T m x := by
  rw [Finset.sum_div]
  simp only [← dot_S v g hE hD, Finset.sum_div]
  rw [Finset.sum_comm]
  refine Finset.sum_congr rfl fun j _ => ?_
  unfold O; rw [Finset.sum_div, Finset.mul_sum]
  exact Finset.sum_congr rfl fun p _ => mul_div_assoc' _ _ _

include hE hZ hD hT in
theorem r_eq (p : Fin 3) : r m x v g E Z p = (c m x v g E p - ∑ j, g j * O m x v j) * D m x p / T m x := by
  rw [dot_O v g hE hD hT]
  unfold r; rw [zs_eq]; unfold z
  have h : ∑ p', c m x v g E p' * (1 / (T m x / Z * (T m x / Z))) * (D m x p' / Z)
      = (∑ p', c m x v g E p' * D m x p') * (Z / (T m x * T m x)) := by
    rw [Finset.sum_mul]; refine Finset.sum_congr rfl fun p' _ => ?_; field_simp
  rw [h]; field_simp; ring

include hE hZ hD hT in
theorem y_eq (p : Fin 3) : y m x v g E Z p = -(∑ j, g j * O m x v j) * (E p / T m x) := by
  unfold y; rw [r_eq v g hE hZ hD hT, den_eq, w_eq hZ]
  have := hE p; have := hD p
  have h : ∑ j, D m x p / T m x * g j * (1 / (D m x p / E p * (D m x p / E p))) * num m x v E p j
      = (∑ j, g j * S m x v p j) * (E p / (D m x p * T m x)) := by
    rw [Finset.sum_mul]; refine Finset.sum_congr rfl fun j _ => ?_; rw [num_eq]; field_simp
  rw [h, dot_S v g hE hD]; field_simp; ring

include hE hZ hD hT in
/-- A score's cotangent through one softmax. -/
theorem f_eq (p : Fin 3) (u : Fin 2048) :
    f m x v g E Z p u = m p u * x u / T m x * ((∑ j, g j * v u j) - ∑ j, g j * O m x v j) := by
  unfold f; rw [y_eq v g hE hZ hD hT]
  have := hE p; have := hD p
  have h : ∑ j, b m x g E Z p j * v u j = (∑ j, g j * v u j) * (E p / T m x) := by
    rw [Finset.sum_mul]; refine Finset.sum_congr rfl fun j _ => ?_
    unfold b; rw [den_eq, w_eq hZ]; field_simp
  rw [h]; unfold e; field_simp; ring

include hE hZ hD hT in
/-- The largest score's cotangent is zero. -/
theorem max_eq (p : Fin 3) : r m x v g E Z p + ∑ u, -f m x v g E Z p u = 0 := by
  rw [r_eq v g hE hZ hD hT]
  simp only [f_eq v g hE hZ hD hT]
  have h : ∑ u, -(m p u * x u / T m x * ((∑ j, g j * v u j) - ∑ j, g j * O m x v j))
      = -(((∑ j, g j * S m x v p j) - (∑ j, g j * O m x v j) * D m x p) / T m x) := by
    rw [Finset.sum_neg_distrib]
    congr 1
    have a : ∑ j, g j * S m x v p j = ∑ u, (m p u * x u) * ∑ j, g j * v u j := by
      unfold S; simp only [Finset.mul_sum]; rw [Finset.sum_comm]
      refine Finset.sum_congr rfl fun u _ => Finset.sum_congr rfl fun j _ => by ring
    rw [a]; unfold D; rw [Finset.mul_sum, ← Finset.sum_sub_distrib, Finset.sum_div]
    refine Finset.sum_congr rfl fun u _ => by ring
  rw [h, dot_S v g hE hD]; field_simp; ring

include hE hZ in
/-- A value's share of the cotangent. -/
theorem be_eq (hD : ∀ p, D m x p ≠ 0) (p : Fin 3) (u : Fin 2048) (j : Fin 64) :
    b m x g E Z p j * e m x E p u = m p u * x u / T m x * g j := by
  unfold b e; rw [den_eq, w_eq hZ]; have := hE p; have := hD p; field_simp

end Cert.Attn.Mixture

end
-- ==== Proof.Attn.Row.lean ====
/- One row of the dilated attention as a mixture of three softmaxes: the mixture of the rows of `Mixture.lean` is the
   attention of `Spec.lean`. Also: the largest element of a row is a real number, and which words attend. -/
module

public import proofs.«01_k».proof.Proof.Attn.Mixture
public import Idealize.ShloMosaic.Lib.Pointwise
public import Idealize.ShloMosaic.Lib.WordCmp
public import Idealize.ShloMosaic.Lib.Affine

@[expose] public section

noncomputable section

open Idealize.ShloMosaic Idealize.ShloMosaic.TcCoe
open scoped BigOperators

namespace Cert.Attn

open Cert.Reals

/-- The largest element of a row without an infinite element above and with one element that is not below all reals. -/
theorem fold_max_real {n : Nat} (f : Fin n → EReal) (hf : ∀ u, f u ≠ ⊤) (u : Fin n) (hu : f u ≠ ⊥) :
    Finset.univ.fold max ⊥ f = (((Finset.univ.fold max ⊥ f).toReal : ℝ) : EReal) := by
  refine (EReal.coe_toReal ?_ ?_).symm
  · exact ((Finset.fold_max_lt (c := (⊤ : EReal))).2 ⟨bot_lt_top, fun x _ => lt_top_iff_ne_top.2 (hf x)⟩).ne
  · exact ((Finset.lt_fold_max (c := (⊥ : EReal))).2 (Or.inr ⟨u, Finset.mem_univ _, bot_lt_iff_ne_bot.2 hu⟩)).ne'

theorem ofBits_neg_inf : Ideal.ofBits .f32 0xFF800000#32 = ⊥ := by simp [Ideal.ofBits, Ideal.ieee]

theorem ofBits_eighth : Ideal.ofBits .f32 0x3E000000#32 = ((1 / 8 : ℝ) : EReal) := by
  simp only [Ideal.ofBits, Ideal.ieee]; simp; rw [← EReal.coe_mul]; norm_num

/-- The three tests of a window on the difference of two positions. -/
theorem attends_word (t u w d : Nat) (ht : t < 2048) (hu : u < 2048) (hw : w < 4096) (hd : 0 < d) (hd' : d < 4096) :
    IntOp.andi (IntOp.andi (IntOp.cmpi .sge (IntOp.subi (BitVec.ofNat 32 t) (BitVec.ofNat 32 u)) 0#32)
      (IntOp.cmpi .sle (IntOp.subi (BitVec.ofNat 32 t) (BitVec.ofNat 32 u)) (BitVec.ofNat 32 w)))
      (IntOp.cmpi .eq (IntOp.remsi .host (IntOp.subi (BitVec.ofNat 32 t) (BitVec.ofNat 32 u)) (BitVec.ofNat 32 d)) 0#32) = 1#1
      ↔ u ≤ t ∧ t - u ≤ w ∧ (t - u) % d = 0 := by
  have hwI : (BitVec.ofNat 32 w).toInt = w := WordCmp.toInt_ofNat_of_lt (by omega)
  by_cases h : u ≤ t
  · have e : IntOp.subi (BitVec.ofNat 32 t) (BitVec.ofNat 32 u) = BitVec.ofNat 32 (t - u) := by
      unfold IntOp.subi
      apply BitVec.eq_of_toNat_eq
      rw [BitVec.toNat_sub, BitVec.toNat_ofNat, BitVec.toNat_ofNat, BitVec.toNat_ofNat]
      omega
    have eI : (BitVec.ofNat 32 (t - u)).toInt = ((t - u : Nat) : Int) := WordCmp.toInt_ofNat_of_lt (by omega)
    have eN : (BitVec.ofNat 32 (t - u)).toNat = t - u := by rw [BitVec.toNat_ofNat]; omega
    rw [e, IntOp.andi_eq_one, IntOp.andi_eq_one, IntOp.cmpi_sge, IntOp.cmpi_sle, IntOp.cmpi_eq,
      IntOp.remsi_eq_zero_iff _ (by rw [eN]; omega) _ hd (by omega), eI, hwI, eN, show (0#32 : BitVec 32).toInt = 0 from by decide]
    constructor
    · rintro ⟨⟨-, a⟩, b⟩; exact ⟨h, by omega, Nat.mod_eq_zero_of_dvd b⟩
    · rintro ⟨-, a, b⟩; exact ⟨⟨by omega, by omega⟩, Nat.dvd_of_mod_eq_zero b⟩
  · have e : (IntOp.subi (BitVec.ofNat 32 t) (BitVec.ofNat 32 u)).toInt < 0 := by
      unfold IntOp.subi
      rw [BitVec.toInt_sub, WordCmp.toInt_ofNat_of_lt (by omega), WordCmp.toInt_ofNat_of_lt (by omega)]
      rw [Int.bmod_eq_of_le (by omega) (by omega)]
      omega
    refine iff_of_false (fun k => ?_) fun k => h k.1
    have := IntOp.cmpi_sge.1 (IntOp.andi_eq_one.1 (IntOp.andi_eq_one.1 k).1).1
    rw [show (0#32 : BitVec 32).toInt = 0 from by decide] at this
    omega

variable (q k v : Head) (t : Fin 2048)

/-- A row's windows and exponentials, as the mixture takes them. -/
def mRow (p : Fin 3) (u : Fin 2048) : ℝ := ind p t.val u.val
def xRow (u : Fin 2048) : ℝ := Real.exp (score q k t u)

theorem D_pos (p : Fin 3) : 0 < Mixture.D (mRow t) (xRow q k t) p :=
  Finset.sum_pos' (fun u _ => mul_nonneg (ind_nonneg _ _ _) (Real.exp_pos _).le)
    ⟨t, Finset.mem_univ _, by unfold mRow xRow; rw [ind_self]; have := Real.exp_pos (score q k t t); positivity⟩

theorem T_eq : Mixture.T (mRow t) (xRow q k t) = total q k t := by
  unfold Mixture.T Mixture.D total weight
  rw [Finset.sum_comm]
  refine Finset.sum_congr rfl fun u _ => ?_
  rw [mult_eq_sum, Finset.sum_mul]
  rfl

theorem T_pos : 0 < Mixture.T (mRow t) (xRow q k t) := T_eq q k t ▸ total_pos q k t

theorem O_eq (j : Fin 64) : Mixture.O (mRow t) (xRow q k t) v j = out q k v t j := by
  unfold Mixture.O out
  rw [T_eq]
  congr 1
  unfold Mixture.S weight
  rw [Finset.sum_comm]
  refine Finset.sum_congr rfl fun u _ => ?_
  rw [mult_eq_sum, ← Finset.mul_sum, ← Finset.sum_mul, mul_comm]
  rfl

/-- A weight less the largest score, from the masked score. -/
theorem exp_masked (p : Fin 3) (M : ℝ) (u : Fin 2048) :
    Ideal.exp ((if Attends p t.val u.val then ((score q k t u : ℝ) : EReal) else ⊥) - (M : EReal))
      = ((mRow t p u * xRow q k t u / Real.exp M : ℝ) : EReal) := by
  unfold mRow xRow ind
  split
  · rw [← EReal.coe_sub, Ideal.exp_coe, Real.exp_sub, one_mul]
  · rw [EReal.bot_sub, zero_mul, zero_div]; rfl

end Cert.Attn

end
-- ==== Proof.Attn.Scores.lean ====
/- One row of scores: the exponentials less the largest score, their sum, the values' mean under them, and the logarithm of
   the row's total. Where a score carries the logarithm of a multiplicity these are the attention of `Spec.lean`. -/
module

public import proofs.«01_k».proof.Proof.Attn.Row

@[expose] public section

noncomputable section

open Idealize.ShloMosaic Idealize.ShloMosaic.TcCoe
open scoped BigOperators

namespace Cert.Attn

open Cert.Reals

variable {n : Nat}

/-- The row's largest score, the exponentials' sum, the values' mean and the row's log-total. -/
def rowMax (S : Fin n → EReal) : EReal := Finset.univ.fold max ⊥ S
def rowSum (S : Fin n → EReal) : EReal := ∑ u, Ideal.exp (S u - rowMax S)
def rowOut (S v : Fin n → EReal) : EReal := Ideal.div (∑ u, Ideal.exp (S u - rowMax S) * v u) (rowSum S)
def rowLse (S : Fin n → EReal) : EReal := rowMax S + Ideal.log (rowSum S)

/-- A score's additive mask: the logarithm of its multiplicity. -/
def mask (c : ℝ) : EReal := if 0 < c then ((Real.log c : ℝ) : EReal) else ⊥

theorem exp_mask (c x M : ℝ) (hc : 0 ≤ c) : Ideal.exp (((x : ℝ) : EReal) + mask c - (M : EReal)) = ((c * Real.exp x / Real.exp M : ℝ) : EReal) := by
  unfold mask
  split
  · rename_i h
    rw [← EReal.coe_add, ← EReal.coe_sub, Ideal.exp_coe, Real.exp_sub, Real.exp_add, Real.exp_log h, mul_comm]
  · rename_i h
    have : c = 0 := le_antisymm (not_lt.1 h) hc
    subst this
    rw [EReal.add_bot, EReal.bot_sub, zero_mul, zero_div]; rfl

/-- A sum over the first positions is the sum over all of them where the rest is zero. -/
theorem sum_prefix (f : Fin 2048 → ℝ) (hn : n ≤ 2048) (h : ∀ u : Fin 2048, n ≤ u.val → f u = 0) :
    ∑ u : Fin n, f (Fin.castLE hn u) = ∑ u, f u := by
  rw [← Finset.sum_subset (Finset.subset_univ (Finset.univ.map (Fin.castLEEmb hn)))]
  · rw [Finset.sum_map]; rfl
  · intro u _ hu
    refine h u (not_lt.1 fun k => hu ?_)
    exact Finset.mem_map.2 ⟨⟨u.val, k⟩, Finset.mem_univ _, rfl⟩

variable (q k v : Head) (t : Fin 2048) (S w : Fin n → EReal)
  (ht : t.val < n) (hn : n ≤ 2048)
  (hS : ∀ u : Fin n, S u = ((score q k t (Fin.castLE hn u) : ℝ) : EReal) + mask (mult t.val u.val))

include ht hS in
theorem rowMax_eq : rowMax S = ((rowMax S).toReal : EReal) := by
  unfold rowMax
  refine fold_max_real S (fun u => ?_) ⟨t.val, ht⟩ ?_
  · rw [hS, mask]; split
    · rw [← EReal.coe_add]; exact EReal.coe_ne_top _
    · rw [EReal.add_bot]; exact bot_ne_top
  · rw [hS, mask, if_pos (by simp only [mult_self]; norm_num), ← EReal.coe_add]; exact EReal.coe_ne_bot _

include ht hS in
theorem exp_eq_weight (u : Fin n) : Ideal.exp (S u - rowMax S)
    = ((weight q k t (Fin.castLE hn u) / Real.exp (rowMax S).toReal : ℝ) : EReal) := by
  rw [rowMax_eq q k t S ht hn hS, hS, exp_mask _ _ _ (mult_nonneg _ _)]
  rfl

theorem weight_of_le (u : Fin 2048) (h : t.val < u.val) : weight q k t u = 0 := by
  unfold weight; rw [mult_of_lt h, zero_mul]

include ht hS in
theorem rowSum_eq : rowSum S = ((total q k t / Real.exp (rowMax S).toReal : ℝ) : EReal) := by
  unfold rowSum
  simp only [exp_eq_weight q k t S ht hn hS, coe_sum]
  rw [← Finset.sum_div, sum_prefix (weight q k t) hn fun u hu => weight_of_le q k t u (by omega)]
  rfl

include ht hS in
/-- The values' mean under the exponentials is the attention's row. -/
theorem rowOut_eq (j : Fin 64) (hw : ∀ u : Fin n, w u = ((v (Fin.castLE hn u) j : ℝ) : EReal)) :
    rowOut S w = ((out q k v t j : ℝ) : EReal) := by
  unfold rowOut
  rw [rowSum_eq q k t S ht hn hS]
  simp only [exp_eq_weight q k t S ht hn hS, hw, ← EReal.coe_mul, coe_sum]
  have hp := total_pos q k t
  have he := Real.exp_pos (rowMax S).toReal
  rw [div_real _ (div_pos hp he).ne', sum_prefix (fun u => weight q k t u / Real.exp (rowMax S).toReal * v u j) hn
    fun u hu => by rw [weight_of_le q k t u (by omega), zero_div, zero_mul]]
  congr 1
  unfold out
  have : ∑ u, weight q k t u / Real.exp (rowMax S).toReal * v u j = (∑ u, weight q k t u * v u j) / Real.exp (rowMax S).toReal := by
    rw [Finset.sum_div]; exact Finset.sum_congr rfl fun u _ => div_mul_eq_mul_div _ _ _
  rw [this]
  field_simp

include ht hS in
/-- The row's log-total. -/
theorem rowLse_eq : rowLse S = ((Real.log (total q k t) : ℝ) : EReal) := by
  have hp := total_pos q k t
  have he := Real.exp_pos (rowMax S).toReal
  unfold rowLse
  rw [rowSum_eq q k t S ht hn hS, Ideal.log_coe, if_neg (not_le.2 (div_pos hp he)), rowMax_eq q k t S ht hn hS, EReal.toReal_coe,
    ← EReal.coe_add, Real.log_div hp.ne' he.ne', Real.log_exp]
  congr 1
  ring

end Cert.Attn

end
-- ==== Proof.Attn.Entry.lean ====
/- The arrays the kernel is given: the projection's columns in the kernels' order, and the table of masks. -/
module

public import proofs.«01_k».proof.Proof.Attn.Scores
public import proofs.«01_k».proof.Proof.Common.Cols
public import proofs.«01_k».proof.Proof.Gen.AttnFwdKernelIdeal.Frame

@[expose] public section

set_option maxRecDepth 16384

noncomputable section

open Idealize.ShloMosaic Idealize.ShloMosaic.TcCoe Idealize.SL.Sem

namespace Cert.Attn

open Cert.AttnFwdKernelIdeal Cert.AttnFwdKernelIdeal.Gen Cert.Rows Cert.Cols

section Columns
variable (Z : S2x2048x2950.Idx → EReal)

/-- The projection with its columns set in the kernel's order. -/
def cols : S2x2048x3072.Idx → EReal := concatenate S2x2048x3072 2
      [⟨S2x2048x1536, extractStridedSlice S2x2048x1536 ![0, 0, 0] Z slices_S2x2048x2950_S2x2048x1536_0_0_0⟩,
       ⟨S2x2048x256, extractStridedSlice S2x2048x256 ![0, 0, 2438] Z slices_S2x2048x2950_S2x2048x256_0_0_2438⟩,
       ⟨S2x2048x896, extractStridedSlice S2x2048x896 ![0, 0, 1536] Z slices_S2x2048x2950_S2x2048x896_0_0_1536⟩,
       ⟨S2x2048x6, extractStridedSlice S2x2048x6 ![0, 0, 2432] Z slices_S2x2048x2950_S2x2048x6_0_0_2432⟩,
       ⟨S2x2048x122, broadcastInDim S2x2048x122 ![] bcast_S_S2x2048x122 (constant (F := Ideal) S_ FTy.f32 0#32)⟩,
       ⟨S2x2048x256, extractStridedSlice S2x2048x256 ![0, 0, 2694] Z slices_S2x2048x2950_S2x2048x256_0_0_2694⟩]
      concatenates_S2x2048x1536_S2x2048x256_S2x2048x896_S2x2048x6_S2x2048x122_S2x2048x256_S2x2048x3072_d2

theorem cols_apply (b : Fin 2) (s : Fin 2048) (n : Fin 3072) :
    cols Z (Idealize.ShloMosaic.ix3 b s n) = perm (at3 Z b.val s.val) n.val := by
  unfold cols
  pointwise
  by_cases h0 : n.val < 1536
  · exact (dif_pos h0).trans ((at3_ix Z b s ⟨n.val, by omega⟩).trans (perm0 _ h0).symm)
  refine (dif_neg h0).trans ?_
  by_cases h1 : n.val - 1536 < 256
  · exact (dif_pos h1).trans ((at3_ix Z b s ⟨2438 + (n.val - 1536), by omega⟩).trans (perm1 _ h0 h1).symm)
  refine (dif_neg h1).trans ?_
  by_cases h2 : n.val - 1536 - 256 < 896
  · exact (dif_pos h2).trans ((at3_ix Z b s ⟨1536 + (n.val - 1536 - 256), by omega⟩).trans (perm2 _ h0 h1 h2).symm)
  refine (dif_neg h2).trans ?_
  by_cases h3 : n.val - 1536 - 256 - 896 < 6
  · exact (dif_pos h3).trans ((at3_ix Z b s ⟨2432 + (n.val - 1536 - 256 - 896), by omega⟩).trans (perm3 _ h0 h1 h2 h3).symm)
  refine (dif_neg h3).trans ?_
  by_cases h4 : n.val - 1536 - 256 - 896 - 6 < 122
  · exact (dif_pos h4).trans (perm4 (α := EReal) _ h2 h3 h4).symm
  refine (dif_neg h4).trans ?_
  exact (at3_ix Z b s ⟨2694 + (n.val - 1536 - 256 - 896 - 6 - 122), by omega⟩).trans (perm5 (α := EReal) _ h4).symm

/-- The rows of both sequences, one after the other. -/
theorem rows_apply (i : S4096x3072.Idx) : shapeCast S4096x3072 (cols Z) shapeCasts_S2x2048x3072_S4096x3072 i
    = perm (at3 Z ((i 0).val / 2048) ((i 0).val % 2048)) (i 1).val := by
  have h0 : (i 0).val < 4096 := (i 0).isLt
  have h1 : (i 1).val < 3072 := (i 1).isLt
  refine (flat_apply _ _ _).trans ((cols_apply Z _ _ _).trans ?_)
  have e : (Fin.ofNat 3072 (i 1).val).val = (i 1).val := Nat.mod_eq_of_lt h1
  have e0 : (Fin.ofNat 2 ((i 0).val / 2048)).val = (i 0).val / 2048 := Nat.mod_eq_of_lt (by omega)
  have e1 : (Fin.ofNat 2048 ((i 0).val % 2048)).val = (i 0).val % 2048 := Nat.mod_eq_of_lt (by omega)
  rw [e, e0, e1]

end Columns

variable (m : (ℓ : Loc nD τ sig) → Buf (Elt Ideal) ℓ) (c : Dev nD)

/-- The projection. -/
abbrev X : S2x2048x2950.Idx → EReal := m ((c : Thread nD τ).loc main_arg0)

theorem entry_x (i : S4096x3072.Idx) : V m c main_v44 i = perm (at3 (X m c) ((i 0).val / 2048) ((i 0).val % 2048)) (i 1).val :=
  rows_apply (X m c) i

end Cert.Attn

end
-- ==== Proof.Attn.Table.lean ====
/- The table of masks: for the last 256 positions, the logarithm of the number of windows through which a position is
   attended, and −∞ where there is none. -/
module

public import proofs.«01_k».proof.Proof.Attn.Scores
public import proofs.«01_k».proof.Proof.Gen.AttnFwdKernelIdeal.Frame
public import Idealize.ShloMosaic.Lib.Claim

@[expose] public section

set_option maxRecDepth 16384

noncomputable section

open Idealize.ShloMosaic Idealize.ShloMosaic.TcCoe Idealize.SL.Sem

namespace Cert.Attn

open Cert.AttnFwdKernelIdeal Cert.AttnFwdKernelIdeal.Gen

section Words
variable (i u w d : ℕ) (hi : i < 256) (hu : u < 2048) (hw : w < 4096) (hd : 0 < d) (hd' : d < 4096)

/-- How far a position lies back, as a word. -/
abbrev back : BitVec 32 := IntOp.addi (IntOp.subi (BitVec.ofNat 32 i) (BitVec.ofNat 32 u)) 1792#32

include hi hu in
theorem back_int : (back i u).toInt = 1792 + (i : Int) - u := by
  have e : back i u = BitVec.ofInt 32 (1792 + (i : Int) - u) := by
    unfold back IntOp.addi IntOp.subi
    apply BitVec.eq_of_toInt_eq
    rw [BitVec.toInt_add, BitVec.toInt_sub, WordCmp.toInt_ofNat_of_lt (by omega), WordCmp.toInt_ofNat_of_lt (by omega),
      show (1792#32 : BitVec 32).toInt = 1792 from by decide, BitVec.toInt_ofInt]
    rw [Int.bmod_eq_of_le (n := (i : Int) - u) (by omega) (by omega)]
    congr 1; omega
  rw [e, BitVec.toInt_ofInt, Int.bmod_eq_of_le (by omega) (by omega)]

include hi hu in
theorem sge_back : IntOp.cmpi .sge (back i u) 0#32 = 1#1 ↔ u ≤ 1792 + i := by
  rw [IntOp.cmpi_sge, back_int i u hi hu, show (0#32 : BitVec 32).toInt = 0 from by decide]; omega

include hi hu hw in
theorem sle_back (h : u ≤ 1792 + i) : IntOp.cmpi .sle (back i u) (BitVec.ofNat 32 w) = 1#1 ↔ 1792 + i - u ≤ w := by
  rw [IntOp.cmpi_sle, back_int i u hi hu, WordCmp.toInt_ofNat_of_lt (by omega)]; omega

include hi hu hd hd' in
theorem rem_back (h : u ≤ 1792 + i) : IntOp.cmpi .eq (IntOp.remsi .host (back i u) (BitVec.ofNat 32 d)) 0#32 = 1#1 ↔ (1792 + i - u) % d = 0 := by
  have e : back i u = BitVec.ofNat 32 (1792 + i - u) := by
    apply BitVec.eq_of_toInt_eq
    rw [back_int i u hi hu, WordCmp.toInt_ofNat_of_lt (by omega)]; omega
  have eN : (BitVec.ofNat 32 (1792 + i - u)).toNat = 1792 + i - u := by rw [BitVec.toNat_ofNat]; omega
  rw [e, IntOp.cmpi_eq, IntOp.remsi_eq_zero_iff _ (by rw [eN]; omega) _ hd (by omega), eN]
  exact Nat.dvd_iff_mod_eq_zero

end Words

/-- A constant over the table. -/
def cst (w : BitVec 32) : IVec S256x2048 32 := broadcastInDim S256x2048 ![] bcast_S_S256x2048 (constantI S_ 32 w)
def cstF (w : BitVec 32) : FVec Ideal S256x2048 .f32 := broadcastInDim S256x2048 ![] bcast_S_S256x2048 (constant (F := Ideal) S_ .f32 w)

/-- The differences, and what the three windows hold. -/
def diff : IVec S256x2048 32 := addi (subi (iotaInDim S256x2048 32 0) (iotaInDim S256x2048 32 1)) (cst 1792#32)
def win0 : IVec S256x2048 1 := andi (cmpi .sge diff (cst 0#32)) (cmpi .sle diff (cst 128#32))
def win1 : IVec S256x2048 1 := andi (andi (cmpi .sge diff (cst 0#32)) (cmpi .eq (Host.remsi diff (cst 4#32)) (cst 0#32))) (cmpi .sle diff (cst 512#32))
def win2 : IVec S256x2048 1 := andi (andi (cmpi .sge diff (cst 0#32)) (cmpi .eq (Host.remsi diff (cst 16#32)) (cst 0#32))) (cmpi .sle diff (cst 2048#32))

/-- How many windows hold a position. -/
def count : FVec Ideal S256x2048 .f32 := addf (addf (uitofp .f32 win0) (uitofp .f32 win1)) (uitofp .f32 win2)

variable (m : (ℓ : Loc nD τ sig) → Buf (Elt Ideal) ℓ) (c : Dev nD)

/-- The host's operations before the kernel, and what runs of them leave. -/
abbrev Vals := Valuation τ sig (Elt Ideal)
abbrev ops : List (HloOp τ sig (Elt Ideal)) := List.flatten [hostOps0, hostOps0_1, hostOps0_2]

theorem after_runs (k : ℕ) (l : List (HloOp τ sig (Elt Ideal))) (σ : Vals) : StableHlo.after l σ = StableHlo.after (l.drop k) (StableHlo.after (l.take k) σ) := by
  induction l generalizing k σ with
  | nil => simp
  | cons op l h => cases k with
    | zero => rfl
    | succ k => exact h k (op.result σ)

section Runs
variable (σ : Vals)

abbrev at4 (σ : Vals) : IVec S256x2048 32 := σ (Proc.devRef .tc main_v4)
abbrev at6 (σ : Vals) : IVec S256x2048 1 := σ (Proc.devRef .tc main_v6)
abbrev at10 (σ : Vals) : FVec Ideal S256x2048 .f32 := σ (Proc.devRef .tc main_v10)
abbrev at20 (σ : Vals) : FVec Ideal S256x2048 .f32 := σ (Proc.devRef .tc main_v20)
abbrev at30 (σ : Vals) : FVec Ideal S256x2048 .f32 := σ (Proc.devRef .tc main_v30)
abbrev at36 (σ : Vals) : FVec Ideal S256x2048 .f32 := σ (Proc.devRef .tc main_v36)

abbrev run1 : List (HloOp τ sig (Elt Ideal)) := ops.take 9
abbrev run2 : List (HloOp τ sig (Elt Ideal)) := (ops.drop 9).take 5
abbrev run3 : List (HloOp τ sig (Elt Ideal)) := ((ops.drop 9).drop 5).take 13
abbrev run4 : List (HloOp τ sig (Elt Ideal)) := (((ops.drop 9).drop 5).drop 13).take 13
abbrev run5 : List (HloOp τ sig (Elt Ideal)) := ((((ops.drop 9).drop 5).drop 13).drop 13).take 11
abbrev rest : List (HloOp τ sig (Elt Ideal)) := ((((ops.drop 9).drop 5).drop 13).drop 13).drop 11

theorem run1_4 : at4 (StableHlo.after run1 σ) = diff := rfl
theorem run1_6 : at6 (StableHlo.after run1 σ) = cmpi .sge diff (cst 0#32) := rfl
theorem run2_4 : at4 (StableHlo.after run2 σ) = at4 σ := rfl
theorem run2_6 : at6 (StableHlo.after run2 σ) = at6 σ := rfl
theorem run2_10 : at10 (StableHlo.after run2 σ) = uitofp .f32 (andi (at6 σ) (cmpi .sle (at4 σ) (cst 128#32))) := rfl
theorem run3_4 : at4 (StableHlo.after run3 σ) = at4 σ := rfl
theorem run3_6 : at6 (StableHlo.after run3 σ) = at6 σ := rfl
theorem run3_20 : at20 (StableHlo.after run3 σ) = addf (at10 σ) (uitofp .f32 (andi (andi (at6 σ) (cmpi .eq (Host.remsi (at4 σ) (cst 4#32)) (cst 0#32)))
    (cmpi .sle (at4 σ) (cst 512#32)))) := rfl
theorem run4_30 : at30 (StableHlo.after run4 σ) = addf (at20 σ) (uitofp .f32 (andi (andi (at6 σ) (cmpi .eq (Host.remsi (at4 σ) (cst 16#32)) (cst 0#32)))
    (cmpi .sle (at4 σ) (cst 2048#32)))) := rfl
theorem run5_36 : at36 (StableHlo.after run5 σ) = select (cmpf .ogt (at30 σ) (cstF 0x00000000#32)) (Host.log (maximumf (at30 σ) (cstF 0x3F800000#32))) (cstF 0xFF800000#32) := rfl
theorem rest_36 : at36 (StableHlo.after rest σ) = at36 σ := rfl

end Runs

theorem table_eq : V m c main_v36 = select (cmpf .ogt count (cstF 0x00000000#32)) (Host.log (maximumf count (cstF 0x3F800000#32))) (cstF 0xFF800000#32) := by
  show at36 (StableHlo.after ops fun b => m (c, b)) = _
  rw [after_runs 9 ops, after_runs 5 (ops.drop 9), after_runs 13 ((ops.drop 9).drop 5), after_runs 13 (((ops.drop 9).drop 5).drop 13),
    after_runs 11 ((((ops.drop 9).drop 5).drop 13).drop 13)]
  rw [rest_36, run5_36, run4_30, run3_20, run3_6, run3_4, run2_10, run2_6, run2_4, run1_6, run1_4]
  rfl

theorem win0_eq (i : Fin 256) (u : Fin 2048) : win0 (Idealize.ShloMosaic.ix2 i u) = 1#1 ↔ Attends 0 (1792 + i.val) u.val := by
  pointwise [win0, diff, cst]
  rw [IntOp.andi_eq_one, sge_back i.val u.val i.isLt u.isLt]
  exact and_congr_right fun h => (sle_back i.val u.val 128 i.isLt u.isLt (by decide) h).trans (by simp [win, dil, Nat.mod_one])

theorem win1_eq (i : Fin 256) (u : Fin 2048) : win1 (Idealize.ShloMosaic.ix2 i u) = 1#1 ↔ Attends 1 (1792 + i.val) u.val := by
  pointwise [win1, diff, cst]
  rw [IntOp.andi_eq_one, IntOp.andi_eq_one, sge_back i.val u.val i.isLt u.isLt, and_assoc]
  exact and_congr_right fun h => (and_congr (rem_back i.val u.val 4 i.isLt u.isLt (by decide) (by decide) h)
    (sle_back i.val u.val 512 i.isLt u.isLt (by decide) h)).trans and_comm

theorem win2_eq (i : Fin 256) (u : Fin 2048) : win2 (Idealize.ShloMosaic.ix2 i u) = 1#1 ↔ Attends 2 (1792 + i.val) u.val := by
  pointwise [win2, diff, cst]
  rw [IntOp.andi_eq_one, IntOp.andi_eq_one, sge_back i.val u.val i.isLt u.isLt, and_assoc]
  exact and_congr_right fun h => (and_congr (rem_back i.val u.val 16 i.isLt u.isLt (by decide) (by decide) h)
    (sle_back i.val u.val 2048 i.isLt u.isLt (by decide) h)).trans and_comm

/-- A bit as a number. -/
theorem bit_eq (b : BitVec 1) (p : Fin 3) (t u : ℕ) (h : b = 1#1 ↔ Attends p t u) : FloatOps.uitofp (F := Ideal) .f32 b = ((ind p t u : ℝ) : EReal) := by
  show (((b.toNat : ℕ) : ℝ) : EReal) = _
  unfold ind
  by_cases k : Attends p t u
  · rw [if_pos k, h.2 k]; simp
  · have z : ∀ b : BitVec 1, ¬ b = 1#1 → b = 0#1 := by decide
    rw [if_neg k, z b (h.not.2 k)]; simp

theorem count_eq (i : Fin 256) (u : Fin 2048) : count (Idealize.ShloMosaic.ix2 i u) = ((mult (1792 + i.val) u.val : ℝ) : EReal) := by
  pointwise [count]
  rw [bit_eq _ _ _ _ (win0_eq i u), bit_eq _ _ _ _ (win1_eq i u), bit_eq _ _ _ _ (win2_eq i u), ← EReal.coe_add, ← EReal.coe_add]
  rfl

theorem one_le_mult {t u : ℕ} (h : 0 < mult t u) : 1 ≤ mult t u := by
  unfold mult ind at *
  split_ifs at * <;> norm_num at *

/-- The table, from the number of windows. -/
def masks : FVec Ideal S256x2048 .f32 := select (cmpf .ogt count (cstF 0x00000000#32)) (Host.log (maximumf count (cstF 0x3F800000#32))) (cstF 0xFF800000#32)

theorem masks_apply (i : Fin 256) (u : Fin 2048) : masks (Idealize.ShloMosaic.ix2 i u) = mask (mult (1792 + i.val) u.val) := by
  unfold masks
  pointwise [cstF]
  rw [count_eq]
  simp only [EReal.coe_pos]
  unfold mask
  by_cases k : 0 < mult (1792 + i.val) u.val
  · rw [if_pos k, if_pos k, max_eq_left (by exact_mod_cast one_le_mult k), Ideal.log_coe, if_neg (not_le.2 k)]
  · rw [if_neg k, if_neg k]
    simp [Ideal.ofBits, Ideal.ieee]

theorem table (i : Fin 256) (u : Fin 2048) : V m c main_v36 (Idealize.ShloMosaic.ix2 i u) = mask (mult (1792 + i.val) u.val) :=
  (congrFun (table_eq m c) _).trans (masks_apply i u)

end Cert.Attn

end
-- ==== Proof.Attn.Blocks.lean ====
/- The sixteen blocks of the attention's rows: 256 rows of one of two heads, each against the positions up to its last row.
   What one block leaves is the mean of the values and the log-total of its rows of scores (`Scores.lean`). -/
module

public import proofs.«01_k».proof.Proof.Attn.Scores
public import proofs.«01_k».proof.Proof.Gen.AttnFwdKernelIdeal.Skeleton

@[expose] public section

noncomputable section

open Idealize.ShloMosaic Idealize.ShloMosaic.TcCoe
open scoped BigOperators

namespace Cert.Attn

open Cert.Reals Cert.AttnFwdKernelIdeal Cert.AttnFwdKernelIdeal.Gen

variable {n : Nat}

/-- One row of a block's scores: queries against keys, and the mask. -/
abbrev scores (a : Vec Ideal S256x64 .f32) (b : Vec Ideal ⟨3, ![1, n, 64]⟩ .bf16) (c : Vec Ideal ⟨2, ![256, n]⟩ .f32) (i : Fin 256) : Fin n → EReal := fun u =>
  (∑ e, a (Idealize.ShloMosaic.ix2 i e) * ((1 / 8 : ℝ) : EReal) * b (Idealize.ShloMosaic.ix3 (0 : Fin 1) u e)) + c (Idealize.ShloMosaic.ix2 i u)

/-- `o` and `l` are what a block of `n` positions computes. -/
structure Block (n : Nat) (o : Vec Ideal S256x64 .f32 → Vec Ideal ⟨3, ![1, n, 64]⟩ .bf16 → Vec Ideal ⟨2, ![256, n]⟩ .f32 → Vec Ideal ⟨3, ![1, n, 64]⟩ .bf16 → FVec Ideal S256x64 .f32)
    (l : Vec Ideal S256x64 .f32 → Vec Ideal ⟨3, ![1, n, 64]⟩ .bf16 → Vec Ideal ⟨2, ![256, n]⟩ .f32 → FVec Ideal S1x1x256x1 .f32) : Prop where
  out : ∀ a b c d (i : Fin 256) (j : Fin 64), o a b c d (Idealize.ShloMosaic.ix2 i j)
    = rowOut (scores a b c i) (fun u => d (Idealize.ShloMosaic.ix3 (0 : Fin 1) u j))
  lse : ∀ a b c (i : Fin 256), l a b c (Idealize.ShloMosaic.ix4 (0 : Fin 1) (0 : Fin 1) i (0 : Fin 1)) = rowLse (scores a b c i)

theorem block256 : Block 256 (fun a b c d => k0_pay11 (k0_pay6 a) b c d) (fun a b c => k0_pay12 (k0_pay6 a) b c) where
  out a b c d i j := by
    pointwise [k0_pay11, k0_pay10, k0_pay9, k0_pay8, k0_pay7, k0_pay6]
    simp only [ofBits_neg_inf, ofBits_eighth]; rfl
  lse a b c i := by
    pointwise [k0_pay12, k0_pay10, k0_pay9, k0_pay8, k0_pay7, k0_pay6]
    simp only [ofBits_neg_inf, ofBits_eighth]; rfl

theorem block512 : Block 512 (fun a b c d => k0_pay18 (k0_pay13 a b) c d) (fun a b c => k0_pay19 (k0_pay13 a b) c) where
  out a b c d i j := by
    pointwise [k0_pay18, k0_pay17, k0_pay16, k0_pay15, k0_pay14, k0_pay13]
    simp only [ofBits_neg_inf, ofBits_eighth]; rfl
  lse a b c i := by
    pointwise [k0_pay19, k0_pay17, k0_pay16, k0_pay15, k0_pay14, k0_pay13]
    simp only [ofBits_neg_inf, ofBits_eighth]; rfl

theorem block768 : Block 768 (fun a b c d => k0_pay25 (k0_pay20 a b c) (k0_pay22 a b c) d)
    (fun a b c => k0_pay26 (k0_pay20 a b c) (k0_pay21 a b c) (k0_pay22 a b c)) where
  out a b c d i j := by
    pointwise [k0_pay25, k0_pay24, k0_pay23, k0_pay22, k0_pay21, k0_pay20]
    simp only [ofBits_neg_inf, ofBits_eighth]; rfl
  lse a b c i := by
    pointwise [k0_pay26, k0_pay24, k0_pay23, k0_pay22, k0_pay21, k0_pay20]
    simp only [ofBits_neg_inf, ofBits_eighth]; rfl

theorem block1024 : Block 1024 (fun a b c d => k0_pay32 (k0_pay30 a b c) (k0_pay31 a b c) d)
    (fun a b c => k0_pay33 (k0_pay28 a b c) (k0_pay30 a b c)) where
  out a b c d i j := by
    pointwise [k0_pay32, k0_pay31, k0_pay30, k0_pay29, k0_pay28, k0_pay27]
    simp only [ofBits_neg_inf, ofBits_eighth]; rfl
  lse a b c i := by
    pointwise [k0_pay33, k0_pay30, k0_pay29, k0_pay28, k0_pay27]
    simp only [ofBits_neg_inf, ofBits_eighth]; rfl

theorem block1280 : Block 1280 (fun a b c d => k0_pay40 (k0_pay38 a b c d) (k0_pay39 a b c))
    (fun a b c => k0_pay41 (k0_pay35 a b c) (k0_pay37 a b c)) where
  out a b c d i j := by
    pointwise [k0_pay40, k0_pay39, k0_pay38, k0_pay37, k0_pay36, k0_pay35, k0_pay34]
    simp only [ofBits_neg_inf, ofBits_eighth]; rfl
  lse a b c i := by
    pointwise [k0_pay41, k0_pay37, k0_pay36, k0_pay35, k0_pay34]
    simp only [ofBits_neg_inf, ofBits_eighth]; rfl

theorem block1536 : Block 1536 (fun a b c d => k0_pay46 a b c d) (fun a b c => k0_pay48 (k0_pay47 a b c)) where
  out a b c d i j := by
    pointwise [k0_pay46, k0_pay45, k0_pay44, k0_pay43, k0_pay42]
    simp only [ofBits_neg_inf, ofBits_eighth]; rfl
  lse a b c i := by
    pointwise [k0_pay48, k0_pay47, k0_pay45, k0_pay44, k0_pay43, k0_pay42]
    simp only [ofBits_neg_inf, ofBits_eighth]; rfl

theorem block1792 : Block 1792 (fun a b c d => k0_pay53 a b c d) (fun a b c => k0_pay54 a b c) where
  out a b c d i j := by
    pointwise [k0_pay53, k0_pay52, k0_pay51, k0_pay50, k0_pay49]
    simp only [ofBits_neg_inf, ofBits_eighth]; rfl
  lse a b c i := by
    pointwise [k0_pay54, k0_pay52, k0_pay51, k0_pay50, k0_pay49]
    simp only [ofBits_neg_inf, ofBits_eighth]; rfl

theorem block2048 : Block 2048 (fun a b c d => k0_pay59 a b c d) (fun a b c => k0_pay60 a b c) where
  out a b c d i j := by
    pointwise [k0_pay59, k0_pay58, k0_pay57, k0_pay56, k0_pay55]
    simp only [ofBits_neg_inf, ofBits_eighth]; rfl
  lse a b c i := by
    pointwise [k0_pay60, k0_pay58, k0_pay57, k0_pay56, k0_pay55]
    simp only [ofBits_neg_inf, ofBits_eighth]; rfl

/-! The second head's blocks are the first head's. -/

theorem second256 : Block 256 (fun a b c d => k0_pay67 (k0_pay61 a) k0_pay62 b c d) (fun a b c => k0_pay68 (k0_pay61 a) k0_pay62 b c) := ⟨block256.out, block256.lse⟩
theorem second512 : Block 512 (fun a b c d => k0_pay75 (k0_pay69 a) (k0_pay70 b) c d) (fun a b c => k0_pay76 (k0_pay69 a) (k0_pay70 b) c) := ⟨block512.out, block512.lse⟩
theorem second768 : Block 768 (fun a b c d => k0_pay81 (k0_pay77 a b c) d) (fun a b c => k0_pay82 (k0_pay77 a b c)) := ⟨block768.out, block768.lse⟩
theorem second1024 : Block 1024 (fun a b c d => k0_pay87 (k0_pay85 a b c) d) (fun a b c => k0_pay88 (k0_pay84 a b c) (k0_pay85 a b c)) := ⟨block1024.out, block1024.lse⟩
theorem second1280 : Block 1280 (fun a b c d => k0_pay94 (k0_pay92 a b c) (k0_pay93 a b c) d) (fun a b c => k0_pay95 (k0_pay90 a b c) (k0_pay92 a b c)) := ⟨block1280.out, block1280.lse⟩
theorem second1536 : Block 1536 (fun a b c d => k0_pay100 a b c d) (fun a b c => k0_pay101 (k0_pay97 a b c) (k0_pay99 a b c)) := ⟨block1536.out, block1536.lse⟩
theorem second1792 : Block 1792 (fun a b c d => k0_pay106 a b c d) (fun a b c => k0_pay108 (k0_pay107 a b c)) := ⟨block1792.out, block1792.lse⟩
theorem second2048 : Block 2048 (fun a b c d => k0_pay113 a b c d) (fun a b c => k0_pay1 (k0_pay110 a b c) (k0_pay112 a b c)) := ⟨block2048.out, block2048.lse⟩

end Cert.Attn

end
-- ==== Proof.Attn.Half.lean ====
/- Reading the leading rows of one half of a copy. -/
module

public import proofs.«01_k».proof.Proof.Gen.AttnFwdKernelIdeal.Frame
public import Idealize.ShloMosaic.Lib.Pipeline.ValueKit
public import Idealize.ShloMosaic.Lib.Pipeline.ReadBack

@[expose] public section

noncomputable section

open Idealize.ShloMosaic Idealize.ShloMosaic.TcCoe

namespace Cert.Attn

open Cert.AttnFwdKernelIdeal Cert.AttnFwdKernelIdeal.Gen

theorem canon_at {Val : EltTy → Type} [∀ e, Nonempty (Val e)] {s : Shape} {e : EltTy} (r : Rect s) (w : r.shape.Idx → Val e) (L : List (View.Piece Val s e)) (x : r.shape.Idx) (y : s.Idx)
    (h : y = r.emb x) : View.canon (⟨r, w⟩ :: L) y = w x := h ▸ View.canon_cons_emb r w L x

/-- A block read from one half of a copy is the copy's leading rows. -/
theorem read_half (v : View sig .tc .vmem S2x2048x64 .bf16) {n h : ℕ} (P : S1x2048x64.Idx → EReal) (L : List (View.Piece (Elt Ideal) S2x2048x64 .bf16))
    (inb : ∀ a, (![h, 0, 0] : Fin 3 → ℕ) a + (![1, 2048, 64] : Fin 3 → ℕ) a ≤ S2x2048x64.size a)
    (inb' : ∀ a, (![h, 0, 0] : Fin 3 → ℕ) a + (![1, n, 64] : Fin 3 → ℕ) a ≤ S2x2048x64.size a) (hn : n ≤ 2048) (u : Fin n) (e : Fin 64) :
    v.readCov (⟨Rect.unit (s := S2x2048x64) ![h, 0, 0] ![1, 2048, 64] inb, P⟩ :: L) (Rect.unit (s := S2x2048x64) ![h, 0, 0] ![1, n, 64] inb').toLoadRect
      (Idealize.ShloMosaic.ix3 (0 : Fin 1) u e) = P (Idealize.ShloMosaic.ix3 (0 : Fin 1) (Fin.castLE hn u) e) := by
  rw [View.readCov_eq_canon']
  refine canon_at (Val := Elt Ideal) (s := S2x2048x64) (e := .bf16) (Rect.unit (s := S2x2048x64) ![h, 0, 0] ![1, 2048, 64] inb) P L (Idealize.ShloMosaic.ix3 (0 : Fin 1) (Fin.castLE hn u) e) _ ?_
  funext a; apply Fin.ext
  match a with
  | ⟨0, _⟩ => rfl
  | ⟨1, _⟩ => rfl
  | ⟨2, _⟩ => rfl

end Cert.Attn

end
-- ==== Proof.Attn.Body.lean ====
/- What the kernel's blocks compute of a pair of heads: rows of the attention, and the rows' log-totals. -/
module

public import proofs.«01_k».proof.Proof.Attn.Blocks
public import proofs.«01_k».proof.Proof.Attn.Half

@[expose] public section

noncomputable section

open Idealize.ShloMosaic Idealize.ShloMosaic.TcCoe
open scoped BigOperators

namespace Cert.Attn

open Cert.AttnFwdKernelIdeal Cert.AttnFwdKernelIdeal.Gen

theorem mult_add (t u s : ℕ) : mult (t + s) (u + s) = mult t u := by
  have : ∀ p, ind p (t + s) (u + s) = ind p t u := fun p => by
    simp only [ind, Attends, Nat.add_sub_add_right, Nat.add_le_add_iff_right]
  unfold mult; simp only [this]

variable (x0 x1 x2 : Vec Ideal S2048x128 .f32) (x3 : Vec Ideal S256x2048 .f32)

/-- The blocks hold a pair of heads and the mask. -/
structure Reads (q k v : Fin 2 → Head) : Prop where
  q : ∀ (h : Fin 2) (t : Fin 2048) (e : Fin 64), x0 (Idealize.ShloMosaic.ix2 t (⟨h.val * 64 + e.val, by omega⟩ : Fin 128)) = ((q h t e : ℝ) : EReal)
  k : ∀ (h : Fin 2) (t : Fin 2048) (e : Fin 64), x1 (Idealize.ShloMosaic.ix2 t (⟨h.val * 64 + e.val, by omega⟩ : Fin 128)) = ((k h t e : ℝ) : EReal)
  v : ∀ (h : Fin 2) (t : Fin 2048) (e : Fin 64), x2 (Idealize.ShloMosaic.ix2 t (⟨h.val * 64 + e.val, by omega⟩ : Fin 128)) = ((v h t e : ℝ) : EReal)
  t : ∀ (i : Fin 256) (u : Fin 2048), x3 (Idealize.ShloMosaic.ix2 i u) = mask (mult (1792 + i.val) u.val)

variable {x0 x1 x2 x3} {q k v : Fin 2 → Head} (R : Reads x0 x1 x2 x3 q k v)

include R in
/-- A block's queries. -/
theorem ld_q {n : ℕ} (h : Fin 2) (h1 : 256 ≤ n) (h2 : n ≤ 2048)
    (inb0 : ∀ a, (![n - 256, 64 * h.val] : Fin 2 → ℕ) a + (![256, 64] : Fin 2 → ℕ) a ≤ S2048x128.size a) (i : Fin 256) (e : Fin 64) :
    View.ld x0 (Rect.unit (s := S2048x128) ![n - 256, 64 * h.val] ![256, 64] inb0) (Idealize.ShloMosaic.ix2 i e)
      = ((q h ⟨n - 256 + i.val, by omega⟩ e : ℝ) : EReal) := by
  refine (View.ld_unit_apply_of x0 _ _ inb0 _ (Idealize.ShloMosaic.ix2 (⟨n - 256 + i.val, by omega⟩ : Fin 2048) (⟨h.val * 64 + e.val, by omega⟩ : Fin 128))
    fun a => ?_).trans (R.q h _ e)
  match a with
  | ⟨0, _⟩ => rfl
  | ⟨1, _⟩ => exact congrArg (· + e.val) (Nat.mul_comm _ _)

include R in
/-- A block's mask. -/
theorem ld_t {n : ℕ} (h1 : 256 ≤ n) (h2 : n ≤ 2048)
    (inb3 : ∀ a, (![0, 2048 - n] : Fin 2 → ℕ) a + (![256, n] : Fin 2 → ℕ) a ≤ S256x2048.size a) (i : Fin 256) (u : Fin n) :
    View.ld x3 (Rect.unit (s := S256x2048) ![0, 2048 - n] ![256, n] inb3) (Idealize.ShloMosaic.ix2 i u) = mask (mult (n - 256 + i.val) u.val) := by
  refine (View.ld_unit_apply_of x3 _ _ inb3 _ (Idealize.ShloMosaic.ix2 i (⟨2048 - n + u.val, by omega⟩ : Fin 2048)) fun a => ?_).trans ((R.t _ _).trans ?_)
  · match a with
    | ⟨0, _⟩ => exact (Nat.zero_add _).symm
    | ⟨1, _⟩ => rfl
  · rw [← mult_add (n - 256 + i.val) u.val (2048 - n), show n - 256 + i.val + (2048 - n) = 1792 + i.val from by omega, Nat.add_comm u.val]

/-- The scores of a block's row. -/
theorem scores_eq {n : ℕ} (h : Fin 2) (h1 : 256 ≤ n) (h2 : n ≤ 2048) (i : Fin 256)
    (a : Vec Ideal S256x64 .f32) (b : Vec Ideal ⟨3, ![1, n, 64]⟩ .bf16) (c : Vec Ideal ⟨2, ![256, n]⟩ .f32)
    (ha : ∀ (i : Fin 256) (e : Fin 64), a (Idealize.ShloMosaic.ix2 i e) = ((q h ⟨n - 256 + i.val, by omega⟩ e : ℝ) : EReal))
    (hb : ∀ (u : Fin n) (e : Fin 64), b (Idealize.ShloMosaic.ix3 (0 : Fin 1) u e) = ((k h (Fin.castLE h2 u) e : ℝ) : EReal))
    (hc : ∀ (i : Fin 256) (u : Fin n), c (Idealize.ShloMosaic.ix2 i u) = mask (mult (n - 256 + i.val) u.val)) (u : Fin n) :
    scores a b c i u
      = ((score (q h) (k h) ⟨n - 256 + i.val, by omega⟩ (Fin.castLE h2 u) : ℝ) : EReal) + mask (mult (n - 256 + i.val) u.val) := by
  unfold scores
  rw [hc]
  simp only [ha, hb, ← EReal.coe_mul, Cert.Reals.coe_sum]
  congr 2
  unfold score
  rw [Finset.sum_mul]
  exact Finset.sum_congr rfl fun e _ => by ring

/-- What the output block holds. -/
def outAt (q k v : Fin 2 → Head) (r c : ℕ) : EReal :=
  ((out (q (Fin.ofNat 2 (c / 64))) (k (Fin.ofNat 2 (c / 64))) (v (Fin.ofNat 2 (c / 64))) (Fin.ofNat 2048 r) (Fin.ofNat 64 (c % 64)) : ℝ) : EReal)

theorem outAt_eq (q k v : Fin 2 → Head) (h : Fin 2) (t : Fin 2048) (e : Fin 64) (r c : ℕ) (hr : r = t.val) (hc : c = 64 * h.val + e.val) :
    outAt q k v r c = ((out (q h) (k h) (v h) t e : ℝ) : EReal) := by
  unfold outAt
  have a : Fin.ofNat 2 (c / 64) = h := Fin.ext (by show c / 64 % 2 = h.val; omega)
  have b : Fin.ofNat 64 (c % 64) = e := Fin.ext (by show c % 64 % 64 = e.val; omega)
  have d : Fin.ofNat 2048 r = t := Fin.ext (by show r % 2048 = t.val; omega)
  rw [a, b, d]

/-- What the block of log-totals holds. -/
def lseAt (q k : Fin 2 → Head) (r h : ℕ) : EReal :=
  ((Real.log (total (q (Fin.ofNat 2 h)) (k (Fin.ofNat 2 h)) (Fin.ofNat 2048 r)) : ℝ) : EReal)

theorem lseAt_eq (q k : Fin 2 → Head) (h : Fin 2) (t : Fin 2048) (r c : ℕ) (hr : r = t.val) (hc : c = h.val) :
    lseAt q k r c = ((Real.log (total (q h) (k h) t) : ℝ) : EReal) := by
  unfold lseAt
  have a : Fin.ofNat 2 c = h := Fin.ext (by show c % 2 = h.val; omega)
  have d : Fin.ofNat 2048 r = t := Fin.ext (by show r % 2048 = t.val; omega)
  rw [a, d]

/-- One half of a block. -/
theorem ld_half (x : Vec Ideal S2048x128 .f32) (h : Fin 2)
    (inb : ∀ a, (![0, 64 * h.val] : Fin 2 → ℕ) a + (![2048, 64] : Fin 2 → ℕ) a ≤ S2048x128.size a) (u : Fin 2048) (e : Fin 64) :
    View.ld x (Rect.unit (s := S2048x128) ![0, 64 * h.val] ![2048, 64] inb) (Idealize.ShloMosaic.ix2 u e)
      = x (Idealize.ShloMosaic.ix2 u (⟨h.val * 64 + e.val, by omega⟩ : Fin 128)) := by
  refine View.ld_unit_apply_of x _ _ inb _ _ fun a => ?_
  match a with
  | ⟨0, _⟩ => exact (Nat.zero_add _).symm
  | ⟨1, _⟩ => exact congrArg (· + e.val) (Nat.mul_comm _ _)

theorem copy2 (X : Vec Ideal S2048x64 .f32) (u : Fin 2048) (e : Fin 64) :
    k0_pay2 (F := Ideal) X (Idealize.ShloMosaic.ix3 (0 : Fin 1) u e) = X (Idealize.ShloMosaic.ix2 u e) := by pointwise [k0_pay2]

include R in
/-- The copies of the keys and of the values, of the first head and of the second. -/
theorem copy_k0 (inb) (u : Fin 2048) (e : Fin 64) :
    k0_pay2 (F := Ideal) (View.ld x1 (Rect.unit (s := S2048x128) ![0, 0] ![2048, 64] inb)) (Idealize.ShloMosaic.ix3 (0 : Fin 1) u e) = ((k 0 u e : ℝ) : EReal) :=
  (copy2 _ u e).trans ((ld_half x1 0 inb u e).trans (R.k 0 u e))

include R in
theorem copy_v0 (inb) (u : Fin 2048) (e : Fin 64) :
    k0_pay3 (F := Ideal) (View.ld x2 (Rect.unit (s := S2048x128) ![0, 0] ![2048, 64] inb)) (Idealize.ShloMosaic.ix3 (0 : Fin 1) u e) = ((v 0 u e : ℝ) : EReal) :=
  (copy2 _ u e).trans ((ld_half x2 0 inb u e).trans (R.v 0 u e))

include R in
theorem copy_k1 (inb) (u : Fin 2048) (e : Fin 64) :
    k0_pay4 (F := Ideal) (View.ld x1 (Rect.unit (s := S2048x128) ![0, 64] ![2048, 64] inb)) (Idealize.ShloMosaic.ix3 (0 : Fin 1) u e) = ((k 1 u e : ℝ) : EReal) :=
  (copy2 _ u e).trans ((ld_half x1 1 inb u e).trans (R.k 1 u e))

include R in
theorem copy_v1 (inb) (u : Fin 2048) (e : Fin 64) :
    k0_pay5 (F := Ideal) (View.ld x2 (Rect.unit (s := S2048x128) ![0, 64] ![2048, 64] inb)) (Idealize.ShloMosaic.ix3 (0 : Fin 1) u e) = ((v 1 u e : ℝ) : EReal) :=
  (copy2 _ u e).trans ((ld_half x2 1 inb u e).trans (R.v 1 u e))

section Piece
variable {n : ℕ} {o : Vec Ideal S256x64 .f32 → Vec Ideal ⟨3, ![1, n, 64]⟩ .bf16 → Vec Ideal ⟨2, ![256, n]⟩ .f32 → Vec Ideal ⟨3, ![1, n, 64]⟩ .bf16 → FVec Ideal S256x64 .f32}
  {l : Vec Ideal S256x64 .f32 → Vec Ideal ⟨3, ![1, n, 64]⟩ .bf16 → Vec Ideal ⟨2, ![256, n]⟩ .f32 → FVec Ideal S1x1x256x1 .f32}
  (B : Block n o l) (h : Fin 2) (h1 : 256 ≤ n) (h2 : n ≤ 2048)
  {a : Vec Ideal S256x64 .f32} {b d : Vec Ideal ⟨3, ![1, n, 64]⟩ .bf16} {c : Vec Ideal ⟨2, ![256, n]⟩ .f32}
  (ha : ∀ (i : Fin 256) (e : Fin 64), a (Idealize.ShloMosaic.ix2 i e) = ((q h ⟨n - 256 + i.val, by omega⟩ e : ℝ) : EReal))
  (hb : ∀ (u : Fin n) (e : Fin 64), b (Idealize.ShloMosaic.ix3 (0 : Fin 1) u e) = ((k h (Fin.castLE h2 u) e : ℝ) : EReal))
  (hc : ∀ (i : Fin 256) (u : Fin n), c (Idealize.ShloMosaic.ix2 i u) = mask (mult (n - 256 + i.val) u.val))
  (hd : ∀ (u : Fin n) (e : Fin 64), d (Idealize.ShloMosaic.ix3 (0 : Fin 1) u e) = ((v h (Fin.castLE h2 u) e : ℝ) : EReal))

include B h1 h2 ha hb hc hd in
/-- One block of outputs. -/
theorem piece_out (y : S256x64.Idx) (r s : ℕ) (hr : r = n - 256 + (y 0).val) (hs : s = 64 * h.val + (y 1).val) :
    o a b c d y = outAt q k v r s := by
  idx_vars y
  have hy : y0.val < 256 := y0.isLt
  rw [outAt_eq q k v h (⟨n - 256 + y0.val, by omega⟩ : Fin 2048) y1 r s hr hs]
  exact (B.out _ _ _ _ _ _).trans (rowOut_eq (q h) (k h) (v h) _ _ _ (by show n - 256 + y0.val < n; omega) h2
    (scores_eq h h1 h2 _ a b c ha hb hc) _ fun u => hd u _)

include B h1 h2 ha hb hc in
/-- One block of log-totals. -/
theorem piece_lse (y : S1x1x256x1.Idx) (r s : ℕ) (hr : r = n - 256 + (y 2).val) (hs : s = h.val) :
    l a b c y = lseAt q k r s := by
  idx_vars y
  have hy : y2.val < 256 := y2.isLt
  obtain rfl : y0 = 0 := Subsingleton.elim _ _
  obtain rfl : y1 = 0 := Subsingleton.elim _ _
  obtain rfl : y3 = 0 := Subsingleton.elim _ _
  rw [lseAt_eq q k h (⟨n - 256 + y2.val, by omega⟩ : Fin 2048) r s hr hs]
  exact (B.lse _ _ _ _).trans (rowLse_eq (q h) (k h) _ _ (by show n - 256 + y2.val < n; omega) h2 (scores_eq h h1 h2 _ a b c ha hb hc))

end Piece

end Cert.Attn

end
-- ==== Proof.Attn.Point.lean ====
/- What one point of the kernel leaves in its two output blocks: the attention of a pair of heads and the rows' log-totals. -/
module

public import proofs.«01_k».proof.Proof.Attn.Body

@[expose] public section

noncomputable section

open Idealize.ShloMosaic Idealize.ShloMosaic.TcCoe
open scoped BigOperators

namespace Cert.Attn

open Cert.AttnFwdKernelIdeal Cert.AttnFwdKernelIdeal.Gen

variable (m : (ℓ : Loc nD τ sig) → Buf (Elt Ideal) ℓ) (c : Dev nD) (t : Fin cfg0.N) {q k v : Fin 2 → Head}
  (R : Reads (iblk m c 0 t) (iblk m c 1 t) (iblk m c 2 t) (iblk m c 3 t) q k v)

include R in
theorem after4 (y : S2048x128.Idx) : (outsAt0 m c t).1 y = outAt q k v (y 0).val (y 1).val := by
  unfold outsAt0
  dsimp only
  frame_open
  simp (disch := decide) only [↓ View.readCov_skip, ↓ View.readCov_cons_toLoadRect, ↓ View.readCov_fill]
  frame_out
  canon_tiles x h
  case piece0 => exact piece_out second2048 1 (by norm_num) le_rfl (ld_q R 1 (by norm_num) le_rfl _) (copy_k1 R _) R.t (copy_v1 R _) x _ _ h0 h1
  case piece1 => exact piece_out second1792 1 (by norm_num) (by norm_num) (ld_q R 1 (by norm_num) (by norm_num) _) (fun u e => (read_half _ _ _ _ _ (by norm_num) u e).trans (copy_k1 R _ _ e)) (ld_t R (by norm_num) (by norm_num) _) (fun u e => (read_half _ _ _ _ _ (by norm_num) u e).trans (copy_v1 R _ _ e)) x _ _ h0 h1
  case piece2 => exact piece_out second1536 1 (by norm_num) (by norm_num) (ld_q R 1 (by norm_num) (by norm_num) _) (fun u e => (read_half _ _ _ _ _ (by norm_num) u e).trans (copy_k1 R _ _ e)) (ld_t R (by norm_num) (by norm_num) _) (fun u e => (read_half _ _ _ _ _ (by norm_num) u e).trans (copy_v1 R _ _ e)) x _ _ h0 h1
  case piece3 => exact piece_out second1280 1 (by norm_num) (by norm_num) (ld_q R 1 (by norm_num) (by norm_num) _) (fun u e => (read_half _ _ _ _ _ (by norm_num) u e).trans (copy_k1 R _ _ e)) (ld_t R (by norm_num) (by norm_num) _) (fun u e => (read_half _ _ _ _ _ (by norm_num) u e).trans (copy_v1 R _ _ e)) x _ _ h0 h1
  case piece4 => exact piece_out second1024 1 (by norm_num) (by norm_num) (ld_q R 1 (by norm_num) (by norm_num) _) (fun u e => (read_half _ _ _ _ _ (by norm_num) u e).trans (copy_k1 R _ _ e)) (ld_t R (by norm_num) (by norm_num) _) (fun u e => (read_half _ _ _ _ _ (by norm_num) u e).trans (copy_v1 R _ _ e)) x _ _ h0 h1
  case piece5 => exact piece_out second768 1 (by norm_num) (by norm_num) (ld_q R 1 (by norm_num) (by norm_num) _) (fun u e => (read_half _ _ _ _ _ (by norm_num) u e).trans (copy_k1 R _ _ e)) (ld_t R (by norm_num) (by norm_num) _) (fun u e => (read_half _ _ _ _ _ (by norm_num) u e).trans (copy_v1 R _ _ e)) x _ _ h0 h1
  case piece6 => exact piece_out second512 1 (by norm_num) (by norm_num) (ld_q R 1 (by norm_num) (by norm_num) _) (fun u e => (read_half _ _ _ _ _ (by norm_num) u e).trans (copy_k1 R _ _ e)) (ld_t R (by norm_num) (by norm_num) _) (fun u e => (read_half _ _ _ _ _ (by norm_num) u e).trans (copy_v1 R _ _ e)) x _ _ h0 h1
  case piece7 => exact piece_out second256 1 le_rfl (by norm_num) (ld_q R 1 le_rfl (by norm_num) _) (fun u e => (read_half _ _ _ _ _ (by norm_num) u e).trans (copy_k1 R _ _ e)) (ld_t R le_rfl (by norm_num) _) (fun u e => (read_half _ _ _ _ _ (by norm_num) u e).trans (copy_v1 R _ _ e)) x _ _ (h0.trans (Nat.zero_add _).symm) h1
  case piece8 => exact piece_out block2048 0 (by norm_num) le_rfl (ld_q R 0 (by norm_num) le_rfl _) (copy_k0 R _) R.t (copy_v0 R _) x _ _ h0 (h1.trans (Nat.zero_add _).symm)
  case piece9 => exact piece_out block1792 0 (by norm_num) (by norm_num) (ld_q R 0 (by norm_num) (by norm_num) _) (fun u e => (read_half _ _ _ _ _ (by norm_num) u e).trans (copy_k0 R _ _ e)) (ld_t R (by norm_num) (by norm_num) _) (fun u e => (read_half _ _ _ _ _ (by norm_num) u e).trans (copy_v0 R _ _ e)) x _ _ h0 (h1.trans (Nat.zero_add _).symm)
  case piece10 => exact piece_out block1536 0 (by norm_num) (by norm_num) (ld_q R 0 (by norm_num) (by norm_num) _) (fun u e => (read_half _ _ _ _ _ (by norm_num) u e).trans (copy_k0 R _ _ e)) (ld_t R (by norm_num) (by norm_num) _) (fun u e => (read_half _ _ _ _ _ (by norm_num) u e).trans (copy_v0 R _ _ e)) x _ _ h0 (h1.trans (Nat.zero_add _).symm)
  case piece11 => exact piece_out block1280 0 (by norm_num) (by norm_num) (ld_q R 0 (by norm_num) (by norm_num) _) (fun u e => (read_half _ _ _ _ _ (by norm_num) u e).trans (copy_k0 R _ _ e)) (ld_t R (by norm_num) (by norm_num) _) (fun u e => (read_half _ _ _ _ _ (by norm_num) u e).trans (copy_v0 R _ _ e)) x _ _ h0 (h1.trans (Nat.zero_add _).symm)
  case piece12 => exact piece_out block1024 0 (by norm_num) (by norm_num) (ld_q R 0 (by norm_num) (by norm_num) _) (fun u e => (read_half _ _ _ _ _ (by norm_num) u e).trans (copy_k0 R _ _ e)) (ld_t R (by norm_num) (by norm_num) _) (fun u e => (read_half _ _ _ _ _ (by norm_num) u e).trans (copy_v0 R _ _ e)) x _ _ h0 (h1.trans (Nat.zero_add _).symm)
  case piece13 => exact piece_out block768 0 (by norm_num) (by norm_num) (ld_q R 0 (by norm_num) (by norm_num) _) (fun u e => (read_half _ _ _ _ _ (by norm_num) u e).trans (copy_k0 R _ _ e)) (ld_t R (by norm_num) (by norm_num) _) (fun u e => (read_half _ _ _ _ _ (by norm_num) u e).trans (copy_v0 R _ _ e)) x _ _ h0 (h1.trans (Nat.zero_add _).symm)
  case piece14 => exact piece_out block512 0 (by norm_num) (by norm_num) (ld_q R 0 (by norm_num) (by norm_num) _) (fun u e => (read_half _ _ _ _ _ (by norm_num) u e).trans (copy_k0 R _ _ e)) (ld_t R (by norm_num) (by norm_num) _) (fun u e => (read_half _ _ _ _ _ (by norm_num) u e).trans (copy_v0 R _ _ e)) x _ _ h0 (h1.trans (Nat.zero_add _).symm)
  case piece15 => exact piece_out block256 0 le_rfl (by norm_num) (ld_q R 0 le_rfl (by norm_num) _) (fun u e => (read_half _ _ _ _ _ (by norm_num) u e).trans (copy_k0 R _ _ e)) (ld_t R le_rfl (by norm_num) _) (fun u e => (read_half _ _ _ _ _ (by norm_num) u e).trans (copy_v0 R _ _ e)) x _ _ (h0.trans (Nat.zero_add _).symm) (h1.trans (Nat.zero_add _).symm)

include R in
theorem after5 (y : S1x1x2048x2.Idx) : (outsAt0 m c t).2 y = lseAt q k (y 2).val (y 3).val := by
  unfold outsAt0
  dsimp only
  frame_open
  simp (disch := decide) only [↓ View.readCov_skip, ↓ View.readCov_cons_toLoadRect, ↓ View.readCov_fill]
  frame_out
  canon_tiles x h
  case piece0 => exact piece_lse second2048 1 (by norm_num) le_rfl (ld_q R 1 (by norm_num) le_rfl _) (copy_k1 R _) R.t x _ _ h2 (by omega)
  case piece1 => exact piece_lse second1792 1 (by norm_num) (by norm_num) (ld_q R 1 (by norm_num) (by norm_num) _) (fun u e => (read_half _ _ _ _ _ (by norm_num) u e).trans (copy_k1 R _ _ e)) (ld_t R (by norm_num) (by norm_num) _) x _ _ h2 (by omega)
  case piece2 => exact piece_lse second1536 1 (by norm_num) (by norm_num) (ld_q R 1 (by norm_num) (by norm_num) _) (fun u e => (read_half _ _ _ _ _ (by norm_num) u e).trans (copy_k1 R _ _ e)) (ld_t R (by norm_num) (by norm_num) _) x _ _ h2 (by omega)
  case piece3 => exact piece_lse second1280 1 (by norm_num) (by norm_num) (ld_q R 1 (by norm_num) (by norm_num) _) (fun u e => (read_half _ _ _ _ _ (by norm_num) u e).trans (copy_k1 R _ _ e)) (ld_t R (by norm_num) (by norm_num) _) x _ _ h2 (by omega)
  case piece4 => exact piece_lse second1024 1 (by norm_num) (by norm_num) (ld_q R 1 (by norm_num) (by norm_num) _) (fun u e => (read_half _ _ _ _ _ (by norm_num) u e).trans (copy_k1 R _ _ e)) (ld_t R (by norm_num) (by norm_num) _) x _ _ h2 (by omega)
  case piece5 => exact piece_lse second768 1 (by norm_num) (by norm_num) (ld_q R 1 (by norm_num) (by norm_num) _) (fun u e => (read_half _ _ _ _ _ (by norm_num) u e).trans (copy_k1 R _ _ e)) (ld_t R (by norm_num) (by norm_num) _) x _ _ h2 (by omega)
  case piece6 => exact piece_lse second512 1 (by norm_num) (by norm_num) (ld_q R 1 (by norm_num) (by norm_num) _) (fun u e => (read_half _ _ _ _ _ (by norm_num) u e).trans (copy_k1 R _ _ e)) (ld_t R (by norm_num) (by norm_num) _) x _ _ h2 (by omega)
  case piece7 => exact piece_lse second256 1 le_rfl (by norm_num) (ld_q R 1 le_rfl (by norm_num) _) (fun u e => (read_half _ _ _ _ _ (by norm_num) u e).trans (copy_k1 R _ _ e)) (ld_t R le_rfl (by norm_num) _) x _ _ (h2.trans (Nat.zero_add _).symm) (by omega)
  case piece8 => exact piece_lse block2048 0 (by norm_num) le_rfl (ld_q R 0 (by norm_num) le_rfl _) (copy_k0 R _) R.t x _ _ h2 (by omega)
  case piece9 => exact piece_lse block1792 0 (by norm_num) (by norm_num) (ld_q R 0 (by norm_num) (by norm_num) _) (fun u e => (read_half _ _ _ _ _ (by norm_num) u e).trans (copy_k0 R _ _ e)) (ld_t R (by norm_num) (by norm_num) _) x _ _ h2 (by omega)
  case piece10 => exact piece_lse block1536 0 (by norm_num) (by norm_num) (ld_q R 0 (by norm_num) (by norm_num) _) (fun u e => (read_half _ _ _ _ _ (by norm_num) u e).trans (copy_k0 R _ _ e)) (ld_t R (by norm_num) (by norm_num) _) x _ _ h2 (by omega)
  case piece11 => exact piece_lse block1280 0 (by norm_num) (by norm_num) (ld_q R 0 (by norm_num) (by norm_num) _) (fun u e => (read_half _ _ _ _ _ (by norm_num) u e).trans (copy_k0 R _ _ e)) (ld_t R (by norm_num) (by norm_num) _) x _ _ h2 (by omega)
  case piece12 => exact piece_lse block1024 0 (by norm_num) (by norm_num) (ld_q R 0 (by norm_num) (by norm_num) _) (fun u e => (read_half _ _ _ _ _ (by norm_num) u e).trans (copy_k0 R _ _ e)) (ld_t R (by norm_num) (by norm_num) _) x _ _ h2 (by omega)
  case piece13 => exact piece_lse block768 0 (by norm_num) (by norm_num) (ld_q R 0 (by norm_num) (by norm_num) _) (fun u e => (read_half _ _ _ _ _ (by norm_num) u e).trans (copy_k0 R _ _ e)) (ld_t R (by norm_num) (by norm_num) _) x _ _ h2 (by omega)
  case piece14 => exact piece_lse block512 0 (by norm_num) (by norm_num) (ld_q R 0 (by norm_num) (by norm_num) _) (fun u e => (read_half _ _ _ _ _ (by norm_num) u e).trans (copy_k0 R _ _ e)) (ld_t R (by norm_num) (by norm_num) _) x _ _ h2 (by omega)
  case piece15 => exact piece_lse block256 0 le_rfl (by norm_num) (ld_q R 0 le_rfl (by norm_num) _) (fun u e => (read_half _ _ _ _ _ (by norm_num) u e).trans (copy_k0 R _ _ e)) (ld_t R le_rfl (by norm_num) _) x _ _ (h2.trans (Nat.zero_add _).symm) (by omega)

end Cert.Attn

end
-- ==== Proof.Attn.Reference.lean ====
/- What the reference computes: the mixture of three masked softmaxes, in real numbers. -/
module

public import proofs.«01_k».proof.Proof.Attn.Row
public import proofs.«01_k».proof.Proof.Common.Rows
public import proofs.«01_k».proof.Proof.Gen.AttnFwdReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.AttnFwdReferenceIdeal.Attn

open Cert.AttnFwdReferenceIdeal Cert.AttnFwdReferenceIdeal.Gen Cert.AttnFwdReferenceIdeal.Read Cert.Reals Cert.Rows Cert.Attn

variable (X : S2x2048x2950.Idx → EReal)

/-- The vectors of one head, the head's columns beginning at `o + 64 h`. -/
def head (o : Nat) (b : Fin 2) (h : Fin 6) : Head := fun t e => (at3 X b.val t.val (o + (h.val * 64 + e.val))).toReal

/-- The columns that the attention reads hold real numbers. -/
def Finite : Prop := ∀ i j k, k < 1152 → at3 X i j k = (((at3 X i j k).toReal : ℝ) : EReal)

variable {X} (hX : Finite X) (b : Fin 2) (h : Fin 6) (t u : Fin 2048) (p : Fin 3)
include hX

theorem q_eq (e : Fin 64) : val_main_v4 (F := Ideal) X (Idealize.ShloMosaic.ix4 b t h e) = ((head X 0 b h t e : ℝ) : EReal) := by
  have := h.isLt; have := e.isLt
  pointwise [val_main_v4, val_main_v0]
  exact (at3_idx X _).trans ((at3_congr X rfl rfl (by show _ = _ + (h.val * 64 + e.val); simp)).trans (hX _ _ _ (by omega)))

theorem k_eq (e : Fin 64) : val_main_v5 (F := Ideal) X (Idealize.ShloMosaic.ix4 b t h e) = ((head X 384 b h t e : ℝ) : EReal) := by
  have := h.isLt; have := e.isLt
  pointwise [val_main_v5, val_main_v1]
  exact (at3_idx X _).trans ((at3_congr X rfl rfl (by show _ = _ + (h.val * 64 + e.val); simp)).trans (hX _ _ _ (by omega)))

theorem v_eq (e : Fin 64) : val_main_v6 (F := Ideal) X (Idealize.ShloMosaic.ix4 b t h e) = ((head X 768 b h t e : ℝ) : EReal) := by
  have := h.isLt; have := e.isLt
  pointwise [val_main_v6, val_main_v2]
  exact (at3_idx X _).trans ((at3_congr X rfl rfl (by show _ = _ + (h.val * 64 + e.val); simp)).trans (hX _ _ _ (by omega)))

theorem score_eq : val_main_v9 (F := Ideal) X (Idealize.ShloMosaic.ix4 b h t u)
    = ((score (head X 0 b h) (head X 384 b h) t u : ℝ) : EReal) := by
  pointwise [val_main_v9, val_main_v8, val_main_v7, val_main_cst]
  simp only [q_eq hX, k_eq hX, ← EReal.coe_mul, coe_sum]
  rw [ofBits_eighth, ← EReal.coe_mul]
  rfl

omit hX in
theorem mask_eq : val_main_v46 (F := Ideal) (Idealize.ShloMosaic.ix3 p t u) = 1#1 ↔ Attends p t.val u.val := by
  have ht := t.isLt; have hu := u.isLt
  match p with
  | ⟨0, _⟩ =>
    pointwise [val_main_v46, val_main_v43, val_main_v22, val_main_v21, val_main_v20, val_main_v19, val_main_v18, val_main_v17, val_main_v16, val_main_v15, val_main_v14, val_main_v13, val_main_v12, val_main_v11, val_main_v10, val_main_c, val_main_c_0, val_main_c_1, val_main_c_2]
    exact attends_word t.val u.val 128 1 ht hu (by decide) (by decide) (by decide)
  | ⟨1, _⟩ =>
    pointwise [val_main_v46, val_main_v44, val_main_v32, val_main_v31, val_main_v30, val_main_v29, val_main_v28, val_main_v27, val_main_v26, val_main_v25, val_main_v24, val_main_v23, val_main_v12, val_main_v11, val_main_v10, val_main_c_3, val_main_c_4, val_main_c_5, val_main_c_6]
    exact attends_word t.val u.val 512 4 ht hu (by decide) (by decide) (by decide)
  | ⟨2, _⟩ =>
    pointwise [val_main_v46, val_main_v45, val_main_v42, val_main_v41, val_main_v40, val_main_v39, val_main_v38, val_main_v37, val_main_v36, val_main_v35, val_main_v34, val_main_v33, val_main_v12, val_main_v11, val_main_v10, val_main_c_7, val_main_c_8, val_main_c_9, val_main_c_10]
    exact attends_word t.val u.val 2048 16 ht hu (by decide) (by decide) (by decide)

theorem masked_eq : val_main_v52 (F := Ideal) X (Idealize.ShloMosaic.ix5 p b h t u)
    = if Attends p t.val u.val then ((score (head X 0 b h) (head X 384 b h) t u : ℝ) : EReal) else ⊥ := by
  pointwise [val_main_v52, val_main_v51, val_main_v50, val_main_v49, val_main_v48, val_main_v47, val_main_cst_11]
  rw [score_eq hX, ofBits_neg_inf]
  by_cases k : Attends p t.val u.val
  · rw [if_pos k, (mask_eq t u p).2 k]; rfl
  · rw [if_neg k, (show val_main_v46 (F := Ideal) (Idealize.ShloMosaic.ix3 p t u) = 0#1 from by
      have := (mask_eq t u p).not.2 k
      revert this; generalize val_main_v46 (F := Ideal) (Idealize.ShloMosaic.ix3 p t u) = w; revert w; decide)]
    rfl

omit hX in
variable (X) in
/-- A row's largest masked score. -/
def top : ℝ := (val_main_v53 (F := Ideal) X (Idealize.ShloMosaic.ix4 p b h t)).toReal

theorem top_eq : val_main_v53 (F := Ideal) X (Idealize.ShloMosaic.ix4 p b h t) = ((top X b h t p : ℝ) : EReal) := by
  unfold top
  pointwise [val_main_v53, val_main_cst_12]
  rw [ofBits_neg_inf]
  refine fold_max_real _ (fun u => ?_) t ?_
  · rw [masked_eq hX]; split <;> simp
  · rw [masked_eq hX, if_pos (attends_self _ _)]; simp

/-- The row's quantities of the mixture. -/

theorem exp_eq : val_main_v57 (F := Ideal) X (Idealize.ShloMosaic.ix5 p b h t u)
    = ((Mixture.e (mRow t) (xRow (head X 0 b h) (head X 384 b h) t) (fun p => Real.exp (top X b h t p)) p u : ℝ) : EReal) := by
  pointwise [val_main_v57, val_main_v56, val_main_v55, val_main_v54]
  rw [top_eq hX, masked_eq hX]
  exact exp_masked _ _ t p _ u

theorem den_eq : val_main_v58 (F := Ideal) X (Idealize.ShloMosaic.ix4 p b h t)
    = ((Mixture.den (mRow t) (xRow (head X 0 b h) (head X 384 b h) t) (fun p => Real.exp (top X b h t p)) p : ℝ) : EReal) := by
  pointwise [val_main_v58, val_main_cst_13]
  simp only [exp_eq hX, coe_sum, Ideal.ofBits_zero_f32, zero_add]
  rfl

theorem den_pos : 0 < Mixture.den (mRow t) (xRow (head X 0 b h) (head X 384 b h) t) (fun p => Real.exp (top X b h t p)) p := by
  rw [Mixture.den_eq]; exact div_pos (D_pos _ _ t p) (Real.exp_pos _)

theorem num_eq (e : Fin 64) : val_main_v60 (F := Ideal) X (Idealize.ShloMosaic.ix5 p b h t e)
    = ((Mixture.num (mRow t) (xRow (head X 0 b h) (head X 384 b h) t) (head X 768 b h) (fun p => Real.exp (top X b h t p)) p e : ℝ) : EReal) := by
  pointwise [val_main_v60, val_main_v59]
  simp only [exp_eq hX, v_eq hX, ← EReal.coe_mul, coe_sum]
  rfl

theorem o_eq (e : Fin 64) : val_main_v63 (F := Ideal) X (Idealize.ShloMosaic.ix5 p b h t e)
    = ((Mixture.o (mRow t) (xRow (head X 0 b h) (head X 384 b h) t) (head X 768 b h) (fun p => Real.exp (top X b h t p)) p e : ℝ) : EReal) := by
  pointwise [val_main_v63, val_main_v62, val_main_v61]
  rw [num_eq hX, den_eq hX, div_real _ (den_pos hX b h t p).ne']
  rfl

theorem lse_eq : val_main_v66 (F := Ideal) X (Idealize.ShloMosaic.ix4 p b h t)
    = ((Real.log (Mixture.D (mRow t) (xRow (head X 0 b h) (head X 384 b h) t) p) : ℝ) : EReal) := by
  have a : val_main_v64 (F := Ideal) X (Idealize.ShloMosaic.ix4 p b h t) = val_main_v53 (F := Ideal) X (Idealize.ShloMosaic.ix4 p b h t) := by
    pointwise [val_main_v64, val_main_v54]
  refine (val_main_v66_apply (F := Ideal) X _).trans ?_
  refine (congrArg₂ (FloatOps.addf (F := Ideal)) (a.trans (top_eq hX b h t p))
    ((val_main_v65_apply (F := Ideal) X _).trans (congrArg (FloatOps.hostUnary (F := Ideal) .log) (den_eq hX b h t p)))).trans ?_
  rw [Ideal.addf_def, Ideal.hostUnary_log_def, Ideal.log_coe, if_neg (not_le.2 (den_pos hX b h t p)), ← EReal.coe_add, Mixture.den_eq,
    Real.log_div (D_pos _ _ t p).ne' (Real.exp_pos _).ne', Real.log_exp]
  refine congrArg (fun r : ℝ => (r : EReal)) ?_
  ring

omit hX in
variable (X) in
/-- The largest log-total. -/
def peak : ℝ := (val_main_v67 (F := Ideal) X (Idealize.ShloMosaic.ix3 b h t)).toReal

theorem peak_eq : val_main_v67 (F := Ideal) X (Idealize.ShloMosaic.ix3 b h t) = ((peak X b h t : ℝ) : EReal) := by
  unfold peak
  pointwise [val_main_v67, val_main_cst_14]
  rw [ofBits_neg_inf]
  refine fold_max_real _ (fun u => ?_) 0 ?_
  · rw [lse_eq hX]; simp
  · rw [lse_eq hX]; simp

theorem z_eq : val_main_v71 (F := Ideal) X (Idealize.ShloMosaic.ix4 p b h t)
    = ((Mixture.z (mRow t) (xRow (head X 0 b h) (head X 384 b h) t) (Real.exp (peak X b h t)) p : ℝ) : EReal) := by
  have a : val_main_v69 (F := Ideal) X (Idealize.ShloMosaic.ix4 p b h t) = val_main_v67 (F := Ideal) X (Idealize.ShloMosaic.ix3 b h t) := by
    pointwise [val_main_v69, val_main_v68]
  refine (val_main_v71_apply (F := Ideal) X _).trans (congrArg (FloatOps.hostUnary (F := Ideal) .exp)
    ((val_main_v70_apply (F := Ideal) X _).trans (congrArg₂ (FloatOps.subf (F := Ideal)) (lse_eq hX b h t p) (a.trans (peak_eq hX b h t))))|>.trans ?_)
  rw [Ideal.hostUnary_exp_def, Ideal.subf_def,
    ← EReal.coe_sub, Ideal.exp_coe, Real.exp_sub, Real.exp_log (D_pos _ _ t p)]
  rfl

theorem zs_eq : val_main_v72 (F := Ideal) X (Idealize.ShloMosaic.ix3 b h t)
    = ((Mixture.zs (mRow t) (xRow (head X 0 b h) (head X 384 b h) t) (Real.exp (peak X b h t)) : ℝ) : EReal) := by
  pointwise [val_main_v72, val_main_cst_15]
  simp only [z_eq hX, coe_sum, Ideal.ofBits_zero_f32, zero_add]
  rfl

theorem zs_pos : 0 < Mixture.zs (mRow t) (xRow (head X 0 b h) (head X 384 b h) t) (Real.exp (peak X b h t)) := by
  rw [Mixture.zs_eq]; exact div_pos (T_pos _ _ t) (Real.exp_pos _)

theorem w_eq : val_main_v75 (F := Ideal) X (Idealize.ShloMosaic.ix4 p b h t)
    = ((Mixture.w (mRow t) (xRow (head X 0 b h) (head X 384 b h) t) (Real.exp (peak X b h t)) p : ℝ) : EReal) := by
  pointwise [val_main_v75, val_main_v74, val_main_v73]
  rw [z_eq hX, zs_eq hX, div_real _ (zs_pos hX b h t).ne']
  rfl

theorem mix_eq (e : Fin 64) : val_main_v79 (F := Ideal) X (Idealize.ShloMosaic.ix4 b h t e) = ((out (head X 0 b h) (head X 384 b h) (head X 768 b h) t e : ℝ) : EReal) := by
  pointwise [val_main_v79, val_main_v78, val_main_v77, val_main_v76, val_main_cst_16]
  simp only [w_eq hX, o_eq hX, ← EReal.coe_mul, coe_sum, Ideal.ofBits_zero_f32, zero_add]
  rw [← O_eq, ← Mixture.mix_eq (head X 768 b h) (fun p => (Real.exp_pos _).ne') (Real.exp_pos _).ne' (fun p => (D_pos (head X 0 b h) (head X 384 b h) t p).ne') (T_pos (head X 0 b h) (head X 384 b h) t).ne']

theorem lse_total : val_main_v82 (F := Ideal) X (Idealize.ShloMosaic.ix3 b h t) = ((Real.log (total (head X 0 b h) (head X 384 b h) t) : ℝ) : EReal) := by
  pointwise [val_main_v82, val_main_v81]
  rw [peak_eq hX, zs_eq hX, Ideal.log_coe, if_neg (not_le.2 (zs_pos hX b h t)), ← EReal.coe_add, Mixture.zs_eq,
    Real.log_div (T_pos (head X 0 b h) (head X 384 b h) t).ne' (Real.exp_pos _).ne', Real.log_exp, T_eq]
  congr 1
  ring

/-- The first result: the output of every head, the heads side by side. -/
theorem out_eq (n : Fin 4096) (d : Fin 384) : val_main_v83 (F := Ideal) X (Idealize.ShloMosaic.ix2 n d)
    = ((out (head X 0 ⟨n.val / 2048, by omega⟩ ⟨d.val / 64, by omega⟩) (head X 384 ⟨n.val / 2048, by omega⟩ ⟨d.val / 64, by omega⟩)
        (head X 768 ⟨n.val / 2048, by omega⟩ ⟨d.val / 64, by omega⟩) ⟨n.val % 2048, by omega⟩ ⟨d.val % 64, by omega⟩ : ℝ) : EReal) := by
  pointwise [val_main_v83, val_main_v80]
  exact mix_eq hX _ _ _ _

/-- The second result: every row's log-total, the heads in pairs. -/
theorem lse_eq' (b : Fin 2) (j : Fin 3) (t : Fin 2048) (i : Fin 2) : val_main_v85 (F := Ideal) X (Idealize.ShloMosaic.ix4 b j t i)
    = ((Real.log (total (head X 0 b ⟨j.val * 2 + i.val, by omega⟩) (head X 384 b ⟨j.val * 2 + i.val, by omega⟩) t) : ℝ) : EReal) := by
  pointwise [val_main_v85, val_main_v84]
  exact lse_total hX _ _ _

end Cert.AttnFwdReferenceIdeal.Attn

end
-- ==== Proof.Attn.Final.lean ====
/- The arrays the kernel leaves: the attention's output, the heads side by side, and every row's log-total. -/
module

public import proofs.«01_k».proof.Proof.Attn.Entry
public import proofs.«01_k».proof.Proof.Attn.Table
public import proofs.«01_k».proof.Proof.Attn.Point
public import proofs.«01_k».proof.Proof.Attn.Reference
public import proofs.«01_k».proof.Proof.Gen.AttnFwdKernelIdeal.Value

@[expose] public section

set_option maxRecDepth 16384

noncomputable section

open Idealize.ShloMosaic Idealize.ShloMosaic.TcCoe Idealize.SL.Sem

namespace Cert.Attn

open Cert.AttnFwdKernelIdeal Cert.AttnFwdKernelIdeal.Gen Cert.Rows Cert.Cols Cert.AttnFwdReferenceIdeal.Attn

/-- Entry `(n, d)` of the output. -/
def outR (X : S2x2048x2950.Idx → EReal) (n d : ℕ) : EReal :=
  ((out (head X 0 (Fin.ofNat 2 (n / 2048)) (Fin.ofNat 6 (d / 64))) (head X 384 (Fin.ofNat 2 (n / 2048)) (Fin.ofNat 6 (d / 64)))
    (head X 768 (Fin.ofNat 2 (n / 2048)) (Fin.ofNat 6 (d / 64))) (Fin.ofNat 2048 n) (Fin.ofNat 64 d) : ℝ) : EReal)

/-- The log-total of row `t` of head `h` of sequence `b`. -/
def lseR (X : S2x2048x2950.Idx → EReal) (b h t : ℕ) : EReal :=
  ((Real.log (total (head X 0 (Fin.ofNat 2 b) (Fin.ofNat 6 h)) (head X 384 (Fin.ofNat 2 b) (Fin.ofNat 6 h)) (Fin.ofNat 2048 t)) : ℝ) : EReal)

section Reference
variable {X : S2x2048x2950.Idx → EReal} (hX : Finite X)
include hX

theorem out_ref : Cert.AttnFwdReferenceIdeal.Read.val_main_v83 (F := Ideal) X = fun j : S4096x384.Idx => outR X (j 0).val (j 1).val := by
  funext j
  idx_vars j
  have h0 : j0.val < 4096 := j0.isLt
  have h1 : j1.val < 384 := j1.isLt
  refine (out_eq hX j0 j1).trans ?_
  have a : (⟨j0.val / 2048, by omega⟩ : Fin 2) = Fin.ofNat 2 (j0.val / 2048) := Fin.ext (by show j0.val / 2048 = j0.val / 2048 % 2; omega)
  have b : (⟨j1.val / 64, by omega⟩ : Fin 6) = Fin.ofNat 6 (j1.val / 64) := Fin.ext (by show j1.val / 64 = j1.val / 64 % 6; omega)
  have d : (⟨j0.val % 2048, by omega⟩ : Fin 2048) = Fin.ofNat 2048 j0.val := rfl
  have e : (⟨j1.val % 64, by omega⟩ : Fin 64) = Fin.ofNat 64 j1.val := rfl
  rw [a, b, d, e]
  rfl

theorem lse_ref : Cert.AttnFwdReferenceIdeal.Read.val_main_v85 (F := Ideal) X
    = fun j : S2x3x2048x2.Idx => lseR X (j 0).val ((j 1).val * 2 + (j 3).val) (j 2).val := by
  funext j
  idx_vars j
  have h0 : j0.val < 2 := j0.isLt
  have h1 : j1.val < 3 := j1.isLt
  have h2 : j2.val < 2048 := j2.isLt
  have h3 : j3.val < 2 := j3.isLt
  refine (lse_eq' hX j0 j1 j2 j3).trans ?_
  have a : j0 = Fin.ofNat 2 j0.val := Fin.ext (by show _ = _ % 2; omega)
  have b : (⟨j1.val * 2 + j3.val, by omega⟩ : Fin 6) = Fin.ofNat 6 (j1.val * 2 + j3.val) := Fin.ext (by show j1.val * 2 + j3.val = (j1.val * 2 + j3.val) % 6; omega)
  have d : j2 = Fin.ofNat 2048 j2.val := Fin.ext (by show _ = _ % 2048; omega)
  rw [b]
  unfold lseR
  simp only [← a, ← d]

end Reference

/-- The two heads of a grid point. -/
def pair (Z : S2x2048x2950.Idx → EReal) (o t : ℕ) (h : Fin 2) : Head := head Z o (Fin.ofNat 2 (t / 3)) (Fin.ofNat 6 (t % 3 * 2 + h.val))

theorem cell {Z : S2x2048x2950.Idx → EReal} (hZ : Finite Z) (o : ℕ) (ho : o ≤ 768) (s : ℕ) (hs : s < 6) (h : Fin 2) (i : Fin 2048) (e : Fin 64) (r n : ℕ) (hr : r = 2048 * (s / 3) + i.val)
    (hn : n = o + (128 * (s % 3) + (h.val * 64 + e.val))) :
    perm (at3 Z (r / 2048) (r % 2048)) n = ((pair Z o s h i e : ℝ) : EReal) := by
  have hi := i.isLt
  have hh := h.isLt
  have he := e.isLt
  rw [perm0 (α := EReal) _ (by omega), hZ _ _ _ (by omega)]
  refine congrArg (fun x : EReal => ((x.toReal : ℝ) : EReal)) (at3_congr _ ?_ ?_ ?_)
  · show r / 2048 = s / 3 % 2; omega
  · omega
  · show n = o + ((s % 3 * 2 + h.val) % 6 * 64 + e.val); omega

variable (m : (ℓ : Loc nD τ sig) → Buf (Elt Ideal) ℓ) (c : Dev nD) (t : Fin cfg0.N)

/-- Where the blocks of a grid point lie. -/
theorem idx_val : ∀ t : Fin cfg0.N, win0_0.index t = ![t.val / 3, t.val % 3] ∧ win0_1.index t = ![t.val / 3, 3 + t.val % 3]
    ∧ win0_2.index t = ![t.val / 3, 6 + t.val % 3] ∧ win0_3.index t = ![0, 0] ∧ win0_4.index t = ![t.val / 3, t.val % 3]
    ∧ win0_5.index t = ![t.val / 3, t.val % 3, 0, 0] :=
  (by decide +kernel : ∀ t : Fin grid0.N, _)

theorem out_cell (s r n : ℕ) (hs : s < 6) (hr : r < 2048) (hn : n < 128) :
    outAt (pair (X m c) 0 s) (pair (X m c) 384 s) (pair (X m c) 768 s) r n = outR (X m c) (s / 3 * 2048 + r) (s % 3 * 128 + n) := by
  unfold outAt outR pair
  have a : Fin.ofNat 2 ((s / 3 * 2048 + r) / 2048) = Fin.ofNat 2 (s / 3) := Fin.ext (by show (s / 3 * 2048 + r) / 2048 % 2 = s / 3 % 2; omega)
  have b : Fin.ofNat 6 ((s % 3 * 128 + n) / 64) = Fin.ofNat 6 (s % 3 * 2 + (Fin.ofNat 2 (n / 64)).val) :=
    Fin.ext (by show (s % 3 * 128 + n) / 64 % 6 = (s % 3 * 2 + n / 64 % 2) % 6; omega)
  have d : Fin.ofNat 2048 (s / 3 * 2048 + r) = Fin.ofNat 2048 r := Fin.ext (by show (s / 3 * 2048 + r) % 2048 = r % 2048; omega)
  have e : Fin.ofNat 64 (s % 3 * 128 + n) = Fin.ofNat 64 (n % 64) := Fin.ext (by show (s % 3 * 128 + n) % 64 = n % 64 % 64; omega)
  rw [a, b, d, e]

theorem lse_cell (s r h : ℕ) (hs : s < 6) (hr : r < 2048) (hh : h < 2) :
    lseAt (pair (X m c) 0 s) (pair (X m c) 384 s) r h = lseR (X m c) (s / 3) (s % 3 * 2 + h) r := by
  unfold lseAt lseR pair
  have b : (Fin.ofNat 2 h).val = h := Nat.mod_eq_of_lt hh
  rw [b]

variable {m c} (hX : Finite (X m c))
include hX

theorem reads : Reads (iblk m c 0 t) (iblk m c 1 t) (iblk m c 2 t) (iblk m c 3 t) (pair (X m c) 0 t.val) (pair (X m c) 384 t.val) (pair (X m c) 768 t.val) where
  q h i e := by
    have ht : t.val < 6 := t.isLt
    blk_simp [iblk, idx_val t]
    refine (entry_x m c _).trans (cell hX 0 (by decide) t.val ht h i e _ _ ?_ ?_) <;> blk_simp [idx_val t]
    all_goals (try dsimp only) <;> omega
  k h i e := by
    have ht : t.val < 6 := t.isLt
    blk_simp [iblk, idx_val t]
    refine (entry_x m c _).trans (cell hX 384 (by decide) t.val ht h i e _ _ ?_ ?_) <;> blk_simp [idx_val t]
    all_goals (try dsimp only) <;> omega
  v h i e := by
    have ht : t.val < 6 := t.isLt
    blk_simp [iblk, idx_val t]
    refine (entry_x m c _).trans (cell hX 768 (by decide) t.val ht h i e _ _ ?_ ?_) <;> blk_simp [idx_val t]
    all_goals (try dsimp only) <;> omega
  t i u := by
    blk_simp [iblk, idx_val t]
    refine Eq.trans (congrArg (V m c main_v36) (funext fun a => Fin.ext ?_)) (table m c i u)
    match a with
    | ⟨0, _⟩ => blk_simp [idx_val t]
    | ⟨1, _⟩ => blk_simp [idx_val t]

theorem final_out : (dats m 0 c).arrAt 4 cfg0.N = fun j : S4096x384.Idx => outR (X m c) (j 0).val (j 1).val := by
  refine (dats m 0 c).arrAt_eq_of_covers 4 _ (by decide +kernel) fun t _ y => ?_
  have ht : t.val < 6 := t.isLt
  have y0 : (y 0).val < 2048 := (y 0).isLt
  have y1 : (y 1).val < 128 := (y 1).isLt
  blk_simp; rw [after0_4]
  refine (after4 m c t (reads t hX) _).trans ((out_cell m c t.val _ _ ht y0 y1).trans ?_)
  refine congrArg₂ (outR (X m c)) ?_ ?_ <;> blk_simp [idx_val t]

theorem final_lse : (dats m 0 c).arrAt 5 cfg0.N = fun j : S2x3x2048x2.Idx => lseR (X m c) (j 0).val ((j 1).val * 2 + (j 3).val) (j 2).val := by
  refine (dats m 0 c).arrAt_eq_of_covers 5 _ (by decide +kernel) fun t _ y => ?_
  have ht : t.val < 6 := t.isLt
  have y0 : (y 2).val < 2048 := (y 2).isLt
  have y1 : (y 3).val < 2 := (y 3).isLt
  blk_simp; rw [after0_5]
  refine (after5 m c t (reads t hX) _).trans ((lse_cell m c t.val _ _ ht y0 y1).trans ?_)
  have e0 : win0_5.index t 0 = t.val / 3 := by blk_simp [idx_val t]
  have e1 : win0_5.index t 1 = t.val % 3 := by blk_simp [idx_val t]
  have e2 : win0_5.index t 2 = 0 := by blk_simp [idx_val t]
  have e3 : win0_5.index t 3 = 0 := by blk_simp [idx_val t]
  rw [e0, e1, e2, e3, Nat.zero_mul, Nat.zero_add, Nat.zero_add]

end Cert.Attn

end
-- ==== Proof.Attn.Equation.lean ====
/- The attention's forward pass: the kernel leaves what the reference computes. -/
module

public import proofs.«01_k».proof.Proof.Common.Finite
public import proofs.«01_k».proof.Proof.Attn.Final
public import proofs.«01_k».proof.Proof.Gen.AttnFwdReferenceIdeal.Run
public import proofs.«01_k».proof.Defs
public import Idealize.ShloMosaic.Lib.Claim

@[expose] public section

set_option maxRecDepth 100000

noncomputable section

open Idealize.ShloMosaic Idealize.ShloMosaic.TcCoe Idealize.SL.Sem

namespace Cert.Attn

open Cert.AttnFwdKernelIdeal Cert.Reals Cert.Rows Cert.AttnFwdReferenceIdeal.Attn

/-- The columns of the queries, keys and values. -/
theorem slice_apply (X : S2x2048x2950.Idx → EReal) (h : S2x2048x2950.Slices ![0, 0, 0] ⟨3, ![2, 2048, 1152]⟩) (p : Fin 2) (q : Fin 2048) (r : Fin 1152) :
    extractStridedSlice ⟨3, ![2, 2048, 1152]⟩ ![0, 0, 0] X h (Idealize.ShloMosaic.ix3 p q r) = at3 X p.val q.val r.val := by
  pointwise
  exact at3_idx X _

theorem at3_mod {a b c : ℕ} [NeZero a] [NeZero b] [NeZero c] (X : (⟨3, ![a, b, c]⟩ : Shape).Idx → EReal) (i j k : ℕ) :
    at3 X (Fin.ofNat a i).val (Fin.ofNat b j).val k = at3 X i j k := by
  unfold at3
  rw [show Fin.ofNat a (Fin.ofNat a i).val = Fin.ofNat a i from Fin.ext (Nat.mod_mod _ _),
    show Fin.ofNat b (Fin.ofNat b j).val = Fin.ofNat b j from Fin.ext (Nat.mod_mod _ _)]

/-- Under the precondition the columns of the queries, keys and values hold real numbers. -/
theorem holds [Cert.Pre_attnfwd_finite.Facts] (m : (ℓ : Loc nD τ sig) → Buf (Elt Ideal) ℓ) (h : Cert.Pre_AttnFwdKernelIdeal_attnfwd_finite m)
    (c : Dev nD) : Finite (X m c) := by
  intro i j k hk
  have e := congrFun (reals_of_all _ _ _ _ (h c)) (Idealize.ShloMosaic.ix3 (Fin.ofNat 2 i) (Fin.ofNat 2048 j) (⟨k, hk⟩ : Fin 1152))
  dsimp only at e
  rw [slice_apply] at e
  rw [at3_mod] at e
  exact e

/-- The two programs end with equal results. -/
theorem equation [Cert.Pre_attnfwd_finite.Facts] : Cert.algebraic_AttnFwdKernelIdeal_AttnFwdReferenceIdeal_pre_attnfwd_finite := by
  pair_intro
  · run_from (Value.run_blocks m g)
  · refine (θ_run _ _ _).mono (fun r h c => ?_) (Cert.AttnFwdReferenceIdeal.Value.run (F := Ideal) m' g')
    obtain ⟨h₁, h₂, h₃⟩ := h c
    refine ⟨h₁.trans ?_, h₂.trans ?_, h₃⟩
    · refine (Cert.AttnFwdReferenceIdeal.Read.val_main_v83_eq (F := Ideal) m' c).trans ?_
      rw [hagree c]
      exact (out_ref (holds m hpre c)).trans (final_out (holds m hpre c)).symm
    · refine (Cert.AttnFwdReferenceIdeal.Read.val_main_v85_eq (F := Ideal) m' c).trans ?_
      rw [hagree c]
      exact (lse_ref (holds m hpre c)).trans (final_lse (holds m hpre c)).symm

end Cert.Attn

end
-- ==== Proof.Sgu.Spec.lean ====
/- The spatial gating unit over one run of 128 positions: its activation, its normalised values, the causal mix of the
   positions in each of four groups of columns, and the derivative of a cotangent through them. -/
module

public import Idealize.ShloMosaic.PureOps.Ideal

@[expose] public section

noncomputable section

open Idealize.ShloMosaic
open scoped BigOperators

namespace Cert.Sgu

/-- The constants, as the programs spell them. -/
abbrev half : EReal := Ideal.ofBits .f32 0x3F000000#32
abbrev root : EReal := Ideal.ofBits .f32 0x3F3504F3#32
abbrev bell : EReal := Ideal.ofBits .f32 0x3F906EBB#32
abbrev wide : EReal := Ideal.ofBits .f32 0x43800000#32
abbrev tiny : EReal := Ideal.ofBits .f32 0x3727C5AC#32
abbrev mhalf : EReal := Ideal.ofBits .f32 0xBF000000#32

/-- The activation. -/
def gelu (x : EReal) : EReal := half * x * (1 + Ideal.erf (x * root))

/-- A cotangent through the activation. -/
def through (a x : EReal) : EReal :=
  bell * (half * x * a) * Ideal.exp (0 - x * root * (x * root)) * root + half * (a * (1 + Ideal.erf (x * root)))

section Row
variable (y a : Fin 256 → EReal)

def mean : EReal := Ideal.div (∑ j, y j) wide
def cen (j : Fin 256) : EReal := y j - mean y
def var : EReal := Ideal.div (∑ j, cen y j * cen y j) wide + tiny
def rs : EReal := Ideal.rsqrt (var y)
def hs : EReal := mhalf * Ideal.div (rs y) (var y)
/-- A row less its mean, divided by its deviation. -/
def hat (j : Fin 256) : EReal := cen y j * rs y

/-- The cotangent that reaches the squared deviations. -/
def tilt : EReal := Ideal.div ((∑ j, cen y j * a j) * hs y) wide
def inner (j : Fin 256) : EReal := a j * rs y + cen y j * tilt y a + tilt y a * cen y j
/-- A cotangent through `hat`. -/
def back (j : Fin 256) : EReal := inner y a j + Ideal.div (∑ k, (0 - inner y a k)) wide

end Row

/-- The group of a column. -/
def grp (j : Fin 256) : Fin 4 := ⟨j.val / 64, Nat.div_lt_of_lt_mul j.isLt⟩

section Chunk
variable (u v d : Fin 128 → Fin 256 → EReal) (g b : Fin 256 → EReal) (w : Fin 4 → Fin 128 → Fin 128 → EReal)
  (s : Fin 4 → Fin 128 → EReal)

/-- The activated values of a position. -/
def act (t : Fin 128) (j : Fin 256) : EReal := gelu (v t j)
/-- The normalised values. -/
def vn (t : Fin 128) (j : Fin 256) : EReal := hat (act v t) j * g j + b j
/-- The mixing weights of a position with the positions up to it. -/
def low (k : Fin 4) (t r : Fin 128) : EReal := if r.val ≤ t.val then w k t r else 0
/-- The mixed values. -/
def mixed (t : Fin 128) (j : Fin 256) : EReal := s (grp j) t + ∑ r, low w (grp j) t r * vn v g b r j
/-- The mixed values' cotangent. -/
def dm (t : Fin 128) (j : Fin 256) : EReal := gelu (u t j) * d t j
/-- The normalised values' cotangent. -/
def dn (t : Fin 128) (j : Fin 256) : EReal := ∑ r, dm u d r j * low w (grp j) r t
/-- The gates' cotangent. -/
def du (t : Fin 128) (j : Fin 256) : EReal := through (d t j * mixed v g b w s t j) (u t j)
/-- The values' cotangent. -/
def dv (t : Fin 128) (j : Fin 256) : EReal :=
  through (back (act v t) (fun k => dn u d w t k * g k) j) (v t j)
/-- The scale's cotangent from this run, and the offset's. -/
def dg (j : Fin 256) : EReal := ∑ t, hat (act v t) j * dn u d w t j
def db (j : Fin 256) : EReal := ∑ t, dn u d w t j
/-- The mixing weights' cotangent from this run. -/
def dw (k : Fin 4) (t r : Fin 128) : EReal :=
  if r.val ≤ t.val then ∑ j, (if grp j = k then dm u d t j else 0) * vn v g b r j else 0
/-- The mix offsets' cotangent from this run, over eight columns of which four are used. -/
def ds (t : Fin 128) (k : Fin 8) : EReal := ∑ j, dm u d t j * (if k.val = j.val / 64 then 1 else 0)

end Chunk

end Cert.Sgu

end
-- ==== Proof.Sgu.Chunk.lean ====
/- What the kernel computes of one run of 128 positions. -/
module

public import proofs.«01_k».proof.Proof.Gen.SguKernelIdeal.Skeleton
public import proofs.«01_k».proof.Proof.Common.Select
public import proofs.«01_k».proof.Proof.Sgu.Spec
public import Idealize.ShloMosaic.Lib.Pointwise

@[expose] public section

noncomputable section

open Idealize.ShloMosaic Idealize.ShloMosaic.TcCoe
open scoped BigOperators

namespace Cert.SguKernelIdeal.Sgu

open Cert.SguKernelIdeal Cert.SguKernelIdeal.Gen Cert.Reals Cert.Sgu

abbrev A128 := S128x256.Idx → EReal

/-- A block's entries. -/
abbrev mat (U : A128) (t : Fin 128) (j : Fin 256) : EReal := U (ix2 t j)

variable (U V D : A128) (L E : S8x256.Idx → EReal) (W : S4x128x128.Idx → EReal) (B : S128x8.Idx → EReal)

abbrev scale (j : Fin 256) : EReal := L (ix2 0 j)
abbrev offset (j : Fin 256) : EReal := L (ix2 1 j)
abbrev weights (k : Fin 4) (t r : Fin 128) : EReal := W (ix3 k t r)
abbrev shifts (k : Fin 4) (t : Fin 128) : EReal := B (ix2 t (Fin.castLE (show 4 ≤ 8 by decide) k))

/-- The activated values less their mean, and their deviation's inverse. -/
abbrev cenA : A128 := k0_pay20 (F := Ideal) (k0_pay14 V) (k0_pay16 V) k0_pay18

theorem cen_apply (t : Fin 128) (j : Fin 256) : cenA V (ix2 t j) = cen (act (mat V) t) j := by
  pointwise [cenA, k0_pay20, k0_pay14, k0_pay16, k0_pay18, k0_pay19, k0_pay15, k0_pay6, Ideal.erf_def]
  rfl

abbrev rsA : S128x1.Idx → EReal := k0_pay22 (F := Ideal) (k0_pay14 V) (k0_pay16 V) k0_pay18

theorem rs_apply (t : Fin 128) : rsA V (ix2 t 0) = rs (act (mat V) t) := by
  pointwise [k0_pay22, k0_pay21]
  simp only [cen_apply]
  rfl

abbrev hsA : S128x1.Idx → EReal := k0_pay23 (F := Ideal) (k0_pay14 V) (k0_pay16 V) k0_pay18

theorem hs_apply (t : Fin 128) : hsA V (ix2 t 0) = hs (act (mat V) t) := by
  pointwise [k0_pay23, k0_pay22, k0_pay21]
  simp only [cen_apply]
  rfl

abbrev hatA : A128 := k0_pay24 (F := Ideal) (k0_pay14 V) (k0_pay16 V) k0_pay18

theorem hat_apply (t : Fin 128) (j : Fin 256) : hatA V (ix2 t j) = hat (act (mat V) t) j := by
  pointwise [k0_pay24, k0_pay22, k0_pay21]
  simp only [cen_apply]
  rfl

abbrev vnA : A128 := k0_pay26 (F := Ideal) (k0_pay7 L) (k0_pay14 V) (k0_pay16 V) k0_pay18

theorem vn_apply (t : Fin 128) (j : Fin 256) : vnA V L (ix2 t j) = vn (mat V) (scale L) (offset L) t j := by
  pointwise [k0_pay26, k0_pay25, k0_pay7]
  exact congrArg (fun z : EReal => z * L (ix2 0 j) + L (ix2 1 j)) (hat_apply V t j)

theorem tri (t r : Fin 128) (x : EReal) : Scalar.select (k0_pay27 (ix2 t r)) x 0 = if r.val ≤ t.val then x else 0 := by
  pointwise [k0_pay27]
  exact select_sge _ _ (by omega) (by omega) _ _

theorem low0_apply (t r : Fin 128) : k0_pay29 (F := Ideal) W (ix2 t r) = low (weights W) 0 t r := by
  pointwise [k0_pay29]
  exact tri _ _ _

theorem low1_apply (t r : Fin 128) : k0_pay32 (F := Ideal) W k0_pay27 (ix2 t r) = low (weights W) 1 t r := by
  pointwise [k0_pay32]
  exact tri _ _ _

theorem low2_apply (t r : Fin 128) : k0_pay34 (F := Ideal) W k0_pay27 (ix2 t r) = low (weights W) 2 t r := by
  pointwise [k0_pay34]
  exact tri _ _ _

theorem low3_apply (t r : Fin 128) : k0_pay37 (F := Ideal) W k0_pay27 (ix2 t r) = low (weights W) 3 t r := by
  pointwise [k0_pay37]
  exact tri _ _ _

/-- The numbers of the columns. -/
abbrev cols : IVec S1x256 32 := iota .tc S1x256 32 [1] iota_S1x256_d1_w32

theorem between (a b : ℕ) (j : Fin 256) (ha : a < 2 ^ 31) (hb : b < 2 ^ 31) (x : EReal) :
    Scalar.select (IntOp.andi (IntOp.cmpi .sge (BitVec.ofNat 32 j.val) (BitVec.ofNat 32 a)) (IntOp.cmpi .slt (BitVec.ofNat 32 j.val) (BitVec.ofNat 32 b))) x 0
      = if a ≤ j.val ∧ j.val < b then x else 0 := by
  rw [WordCmp.cmpi_sge_ofNat (by omega) ha, WordCmp.cmpi_slt_ofNat (by omega) hb]
  by_cases h : a ≤ j.val <;> by_cases h' : j.val < b <;> simp [h, h', IntOp.andi, Scalar.select]

theorem grp_iff (j : Fin 256) (k : Fin 4) : grp j = k ↔ 64 * k.val ≤ j.val ∧ j.val < 64 * k.val + 64 := by
  rw [Fin.ext_iff]; show j.val / 64 = k.val ↔ _; omega

theorem in0 (t : Fin 128) (j : Fin 256) (x : EReal) : Scalar.select (k0_pay30 (ix2 t j)) x 0 = if grp j = 0 then x else 0 := by
  pointwise [k0_pay30]
  rw [show (0#32) = BitVec.ofNat 32 0 from rfl, show (64#32) = BitVec.ofNat 32 64 from rfl, between 0 64 j (by omega) (by omega)]
  exact if_congr (by rw [grp_iff]; rfl) rfl rfl

theorem in1 (t : Fin 128) (j : Fin 256) (x : EReal) : Scalar.select (k0_pay33 cols (ix2 t j)) x 0 = if grp j = 1 then x else 0 := by
  pointwise [k0_pay33, cols]
  rw [show (64#32) = BitVec.ofNat 32 64 from rfl, show (128#32) = BitVec.ofNat 32 128 from rfl, between 64 128 j (by omega) (by omega)]
  exact if_congr (by rw [grp_iff]; rfl) rfl rfl

theorem in2 (t : Fin 128) (j : Fin 256) (x : EReal) : Scalar.select (k0_pay35 cols (ix2 t j)) x 0 = if grp j = 2 then x else 0 := by
  pointwise [k0_pay35, cols]
  rw [show (128#32) = BitVec.ofNat 32 128 from rfl, show (192#32) = BitVec.ofNat 32 192 from rfl, between 128 192 j (by omega) (by omega)]
  exact if_congr (by rw [grp_iff]; rfl) rfl rfl

theorem in3 (j : Fin 256) (x : EReal) : Scalar.select (k0_pay39 cols (ix2 0 j)) x 0 = if grp j = 3 then x else 0 := by
  pointwise [k0_pay39, cols]
  rw [show (192#32) = BitVec.ofNat 32 192 from rfl, show (256#32) = BitVec.ofNat 32 256 from rfl, between 192 256 j (by omega) (by omega)]
  exact if_congr (by rw [grp_iff]; rfl) rfl rfl

/-- Of the four groups' values a column takes its own. -/
theorem pick (j : Fin 256) (x : Fin 4 → EReal) :
    (((if grp j = 0 then x 0 else 0) + if grp j = 1 then x 1 else 0) + if grp j = 2 then x 2 else 0)
      + (if grp j = 3 then x 3 else 0) = x (grp j) := by
  generalize grp j = k
  fin_cases k <;> simp

/-- The gates' activation times the cotangent. -/
abbrev dmA : A128 := k0_pay42 (F := Ideal) (k0_pay13 U) D

theorem act_apply (t : Fin 128) (j : Fin 256) : k0_pay13 (F := Ideal) U (ix2 t j) = gelu (mat U t j) := by
  pointwise [k0_pay13, k0_pay9, k0_pay12, k0_pay5, k0_pay10, k0_pay11, Ideal.erf_def]
  rfl

theorem dm_apply (t : Fin 128) (j : Fin 256) : dmA U D (ix2 t j) = dm (mat U) (mat D) t j := by
  pointwise [k0_pay42, k0_pay41]
  rw [act_apply]
  rfl

abbrev dnA : A128 := k0_pay53 (F := Ideal) (k0_pay29 W) k0_pay30 (dmA U D)
  (k0_pay48 (k0_pay13 U) (k0_pay32 W k0_pay27) (k0_pay33 cols) (k0_pay34 W k0_pay27) (k0_pay35 cols) (k0_pay37 W k0_pay27) (k0_pay39 cols) D)

theorem split4 (j : Fin 256) (a : Fin 128 → EReal) (b : Fin 4 → Fin 128 → EReal) :
    (((∑ r, if grp j = 3 then a r * b 3 r else 0) + ∑ r, if grp j = 2 then a r * b 2 r else 0)
        + ∑ r, if grp j = 1 then a r * b 1 r else 0) + (∑ r, if grp j = 0 then a r * b 0 r else 0)
      = ∑ r, a r * b (grp j) r := by
  generalize grp j = k
  fin_cases k <;> simp

theorem sum4 {n : ℕ} {a a' b b' c c' d d' : Fin n → EReal} (ha : ∀ x, a x = a' x) (hb : ∀ x, b x = b' x) (hc : ∀ x, c x = c' x)
    (hd : ∀ x, d x = d' x) :
    (((∑ x, a x) + ∑ x, b x) + ∑ x, c x) + (∑ x, d x) = (((∑ x, a' x) + ∑ x, b' x) + ∑ x, c' x) + ∑ x, d' x := by
  rw [funext ha, funext hb, funext hc, funext hd]

theorem dn_apply (t : Fin 128) (j : Fin 256) : dnA U D W (ix2 t j) = dn (mat U) (mat D) (weights W) t j := by
  pointwise [dnA, k0_pay53, k0_pay50, k0_pay48, k0_pay44, k0_pay45, k0_pay47, k0_pay40]
  simp only [in0, in1, in2, in3]
  refine Eq.trans ?_ (split4 j (fun r => dm (mat U) (mat D) r j) fun k r => low (weights W) k r t)
  refine sum4 (fun x => ?_) (fun x => ?_) (fun x => ?_) (fun x => ?_) <;>
    refine if_congr Iff.rfl (congrArg₂ (fun a b : EReal => a * b) (dm_apply U D x j) ?_) rfl
  exacts [low3_apply W x t, low2_apply W x t, low1_apply W x t, low0_apply W x t]

abbrev mixA : A128 := k0_pay43 (F := Ideal)
  (k0_pay36 W (vnA V L) k0_pay27 cols (k0_pay28 E (k0_pay8 B)) (k0_pay31 (k0_pay7 L) W (k0_pay14 V) (k0_pay16 V) k0_pay18))
  (k0_pay38 W (vnA V L) k0_pay27) (Scalar.ofBits .f32 0x00000000#32) (k0_pay39 cols) D

/-- The columns of each group are marked by ones. -/
def Marks : Prop := ∀ (x : Fin 8) (j : Fin 256), E (ix2 x j) = if x.val = j.val / 64 then 1 else 0

theorem marked {E : S8x256.Idx → EReal} (hE : Marks E) (t : Fin 128) (j : Fin 256) :
    ∑ x : Fin 8, B (ix2 t x) * E (ix2 x j) = shifts B (grp j) t := by
  rw [Finset.sum_congr rfl fun x _ => congrArg (B (ix2 t x) * ·) (hE x j),
    Finset.sum_eq_single (Fin.castLE (show 4 ≤ 8 by decide) (grp j))]
  · rw [if_pos (show (Fin.castLE (show 4 ≤ 8 by decide) (grp j)).val = j.val / 64 from rfl), mul_one]
  · intro x _ hx
    rw [if_neg fun h : x.val = j.val / 64 => hx (Fin.ext h), mul_zero]
  · intro h
    exact absurd (Finset.mem_univ _) h

theorem mix_apply (hE : Marks E) (t : Fin 128) (j : Fin 256) :
    mixA V D L E W B (ix2 t j) = D (ix2 t j) * mixed (mat V) (scale L) (offset L) (weights W) (shifts B) t j := by
  pointwise [mixA, k0_pay43, k0_pay36, k0_pay28, k0_pay31, k0_pay38, k0_pay8, k0_pay40, k0_pay41]
  refine congrArg (D (ix2 t j) * ·) ?_
  rw [marked B hE]
  simp only [in0, in1, in2, in3]
  simp only [add_assoc]
  refine congrArg (shifts B (grp j) t + ·) ?_
  simp only [← add_assoc]
  refine Eq.trans ?_ (pick j fun k => ∑ r, low (weights W) k t r * vn (mat V) (scale L) (offset L) r j)
  refine congrArg₂ (fun a b : EReal => a + b) (congrArg₂ (fun a b : EReal => a + b) (congrArg₂ (fun a b : EReal => a + b) ?_ ?_) ?_) ?_ <;>
    refine if_congr Iff.rfl (Finset.sum_congr rfl fun x _ => congrArg₂ (fun a b : EReal => a * b) ?_ (vn_apply V L x j)) rfl
  exacts [low0_apply W t x, low1_apply W t x, low2_apply W t x, low3_apply W t x]

theorem du_apply (hE : Marks E) (t : Fin 128) (j : Fin 256) :
    k0_pay58 (F := Ideal) (k0_pay9 U) (k0_pay11 U) (k0_pay12 U) (mixA V D L E W B) (ix2 t j)
      = du (mat U) (mat V) (mat D) (scale L) (offset L) (weights W) (shifts B) t j := by
  pointwise [k0_pay58, k0_pay9, k0_pay11, k0_pay12, k0_pay5, k0_pay10, Ideal.erf_def]
  rw [mix_apply V D L E W B hE]
  rfl

theorem back_apply (cA : A128) (rA hA : S128x1.Idx → EReal) (v72 : S128x128.Idx → EReal) (v80 : IVec S128x256 1)
    (v134 v171 : A128) (t : Fin 128) (N : Fin 256 → EReal)
    (hN : ∀ j, k0_pay53 (F := Ideal) v72 v80 v134 v171 (ix2 t j) = N j) (hc : ∀ j, cA (ix2 t j) = cen (act (mat V) t) j)
    (hr : rA (ix2 t 0) = rs (act (mat V) t)) (hh : hA (ix2 t 0) = hs (act (mat V) t)) (j : Fin 256) :
    k0_pay59 (F := Ideal) (k0_pay14 V) (k0_pay17 V) (k0_pay19 (k0_pay16 V) k0_pay18) cA
      (k0_pay56 rA (k0_pay25 (k0_pay7 L)) v72 v80 v134 v171) (k0_pay57 cA hA (k0_pay25 (k0_pay7 L)) v72 v80 v134 v171) (ix2 t j)
      = through (back (act (mat V) t) (fun k => N k * scale L k) j) (mat V t j) := by
  pointwise [k0_pay59, k0_pay56, k0_pay57, k0_pay54, k0_pay14, k0_pay17, k0_pay16, k0_pay18, k0_pay19, k0_pay6, k0_pay15, k0_pay25, k0_pay7, Ideal.erf_def]
  simp only [Fin.sum_univ_one, hN, hc, hr, hh]
  rfl

theorem dv_apply (t : Fin 128) (j : Fin 256) :
    k0_pay59 (F := Ideal) (k0_pay14 V) (k0_pay17 V) (k0_pay19 (k0_pay16 V) k0_pay18) (cenA V)
      (k0_pay56 (rsA V) (k0_pay25 (k0_pay7 L)) (k0_pay29 W) k0_pay30 (dmA U D)
        (k0_pay48 (k0_pay13 U) (k0_pay32 W k0_pay27) (k0_pay33 cols) (k0_pay34 W k0_pay27) (k0_pay35 cols) (k0_pay37 W k0_pay27) (k0_pay39 cols) D))
      (k0_pay57 (cenA V) (hsA V) (k0_pay25 (k0_pay7 L)) (k0_pay29 W) k0_pay30 (dmA U D)
        (k0_pay48 (k0_pay13 U) (k0_pay32 W k0_pay27) (k0_pay33 cols) (k0_pay34 W k0_pay27) (k0_pay35 cols) (k0_pay37 W k0_pay27) (k0_pay39 cols) D)) (ix2 t j)
      = dv (mat U) (mat V) (mat D) (scale L) (weights W) t j :=
  back_apply V L (cenA V) (rsA V) (hsA V) _ _ _ _ t _ (dn_apply U D W t) (cen_apply V t) (rs_apply V t) (hs_apply V t) j

theorem ds_apply (hE : Marks E) (t : Fin 128) (k : Fin 8) :
    k0_pay52 (F := Ideal) E (dmA U D) (ix2 t k) = ds (mat U) (mat D) t k := by
  pointwise [k0_pay52]
  exact Finset.sum_congr rfl fun x _ => congrArg₂ (fun a b : EReal => a * b) (dm_apply U D t x) (hE k x)

abbrev dlnA : S8x256.Idx → EReal := k0_pay55 (F := Ideal) (hatA V) (k0_pay29 W) k0_pay30 (dmA U D)
        (k0_pay48 (k0_pay13 U) (k0_pay32 W k0_pay27) (k0_pay33 cols) (k0_pay34 W k0_pay27) (k0_pay35 cols) (k0_pay37 W k0_pay27) (k0_pay39 cols) D)

theorem two_rows (h v72 v80 v134 v171) (k : Fin 8) (j : Fin 256) (N H : Fin 128 → EReal)
    (hN : ∀ t, k0_pay53 (F := Ideal) v72 v80 v134 v171 (ix2 t j) = N t) (hh : ∀ t, h (ix2 t j) = H t) :
    k0_pay55 (F := Ideal) h v72 v80 v134 v171 (ix2 k j)
      = if k.val = 0 then ∑ t, H t * N t else if k.val = 1 then ∑ t, N t else 0 := by
  pointwise [k0_pay55]
  simp only [hN, hh]
  rcases Nat.lt_trichotomy k.val 1 with h | h | h
  · rw [dif_pos (by omega), dif_pos h, dif_pos h, if_pos (by omega), zero_add]
  · rw [dif_pos (by omega), dif_neg (by omega), dif_neg (by omega), if_neg (by omega), if_pos h, add_zero]
  · rw [dif_neg (by omega), dif_neg (by omega), if_neg (by omega), if_neg (by omega), add_zero]

theorem dln_apply (k : Fin 8) (j : Fin 256) :
    dlnA U V D W (ix2 k j) = if k.val = 0 then dg (mat U) (mat V) (mat D) (weights W) j else if k.val = 1 then db (mat U) (mat D) (weights W) j else 0 :=
  two_rows _ _ _ _ _ k j _ _ (fun t => dn_apply U D W t j) (fun t => hat_apply V t j)

abbrev dwA : S4x128x128.Idx → EReal := k0_pay51 (F := Ideal) (vnA V L) k0_pay27 k0_pay30 (dmA U D)
  (k0_pay46 (k0_pay13 U) (vnA V L) k0_pay27 (k0_pay35 cols) (k0_pay39 cols) D)
  (k0_pay49 (k0_pay13 U) (vnA V L) (k0_pay33 cols) D)

theorem dw_apply (k : Fin 4) (t r : Fin 128) :
    dwA U V D L (ix3 k t r) = dw (mat U) (mat V) (mat D) (scale L) (offset L) k t r := by
  pointwise [dwA, k0_pay51, k0_pay46, k0_pay49, k0_pay50, k0_pay44, k0_pay45, k0_pay47, k0_pay40]
  have sum_at : ∀ (f : A128) (x : Fin 4) (m : Fin 256 → EReal) (hf : ∀ j, f (ix2 t j) = dm (mat U) (mat D) t j)
      (hm : ∀ j, m j = if grp j = x then f (ix2 t j) * vnA V L (ix2 r j) else 0),
      Scalar.select (k0_pay27 (ix2 t r)) (∑ j, m j) 0
        = dw (mat U) (mat V) (mat D) (scale L) (offset L) x t r := by
    intro f x m hf hm
    rw [tri]
    refine if_congr Iff.rfl (Finset.sum_congr rfl fun j _ => (hm j).trans ?_) rfl
    rw [ite_mul, zero_mul]
    exact if_congr Iff.rfl (congrArg₂ (fun a b : EReal => a * b) (hf j) (vn_apply V L r j)) rfl
  rw [sum_at (dmA U D) 3 _ (dm_apply U D t) fun j => in3 j _, sum_at (dmA U D) 2 _ (dm_apply U D t) fun j => in2 t j _,
    sum_at (dmA U D) 1 _ (dm_apply U D t) fun j => in1 t j _, sum_at (dmA U D) 0 _ (dm_apply U D t) fun j => in0 t j _]
  fin_cases k <;> simp

end Cert.SguKernelIdeal.Sgu
-- ==== Proof.Sgu.Point.lean ====
/- What a grid point leaves in its outputs. -/
module

public import proofs.«01_k».proof.Proof.Gen.SguKernelIdeal.Value
public import proofs.«01_k».proof.Proof.Sgu.Chunk
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open scoped BigOperators

namespace Cert.SguKernelIdeal.Sgu

open Cert.SguKernelIdeal Cert.SguKernelIdeal.Gen Cert.Reals Cert.Sgu

theorem inb (q : Fin 4) : ∀ a, (![128 * q.val, 0] : Fin 2 → ℕ) a + (![128, 256] : Fin 2 → ℕ) a ≤ S512x256.size a := by
  intro a
  have hq : q.val < 4 := q.isLt
  match a with
  | ⟨0, _⟩ => show 128 * q.val + 128 ≤ 512; omega
  | ⟨1, _⟩ => exact le_refl _

/-- The run `q` of a block's four. -/
abbrev part (X : S512x256.Idx → EReal) (q : Fin 4) : A128 :=
  View.ld (show Vec Ideal S512x256 .f32 from X) (Rect.unit (s := S512x256) ![128 * q.val, 0] ![128, 256] (inb q))

/-- A run's rows, where the block's rows are the rows of `f` from `o`. -/
theorem part_apply (X : S512x256.Idx → EReal) (f : ℕ → Fin 256 → EReal) (o : ℕ)
    (hX : ∀ y : S512x256.Idx, X y = f (o + (y 0).val) (y 1)) (q : Fin 4) (t : Fin 128) (j : Fin 256) :
    part X q (ix2 t j) = f (o + 128 * q.val + t.val) j := by
  refine (hX _).trans (congrArg₂ f ?_ (Fin.ext ?_))
  · rw [Rect.idx_unit_val]; show o + (128 * q.val + t.val) = _; omega
  · rw [Rect.idx_unit_val]; exact Nat.zero_add _

/-- The runs of an array of rows. -/
abbrev runOf (f : ℕ → Fin 256 → EReal) (n : ℕ) (t : Fin 128) (j : Fin 256) : EReal := f (128 * n + t.val) j

theorem part_run (X : S512x256.Idx → EReal) (f : ℕ → Fin 256 → EReal) (p : ℕ)
    (hX : ∀ y : S512x256.Idx, X y = f (512 * p + (y 0).val) (y 1)) (q : Fin 4) : mat (part X q) = runOf f (4 * p + q.val) := by
  funext t j
  exact (part_apply X f (512 * p) hX q t j).trans (congrArg (f · j) (by omega))

section Tiles
variable (m : (ℓ : Loc nD τ sig) → Buf (Elt Ideal) ℓ) (c : Dev nD) (t : Fin cfg0.N)

/-- The point's blocks. -/
abbrev bu : S512x256.Idx → EReal := iblk m c 0 t
abbrev bv : S512x256.Idx → EReal := iblk m c 1 t
abbrev bd : S512x256.Idx → EReal := iblk m c 2 t
abbrev bl : S8x256.Idx → EReal := iblk m c 3 t
abbrev bw : S4x128x128.Idx → EReal := iblk m c 4 t
abbrev bs : S128x8.Idx → EReal := iblk m c 5 t
abbrev be : S8x256.Idx → EReal := iblk m c 6 t

/-- The gates' cotangent in a run. -/
abbrev duQ (q : Fin 4) (r : Fin 128) (j : Fin 256) : EReal :=
  du (mat (part (bu m c t) q)) (mat (part (bv m c t) q)) (mat (part (bd m c t) q)) (scale (bl m c t)) (offset (bl m c t))
    (weights (bw m c t)) (shifts (bs m c t)) r j

/-- The values' cotangent in a run. -/
abbrev dvQ (q : Fin 4) (r : Fin 128) (j : Fin 256) : EReal :=
  dv (mat (part (bu m c t) q)) (mat (part (bv m c t) q)) (mat (part (bd m c t) q)) (scale (bl m c t)) (weights (bw m c t)) r j

/-- The run of a block's row. -/
abbrev runAt (x : S512x256.Idx) : Fin 4 := ⟨(x 0).val / 128, by have h : (x 0).val < 512 := (x 0).isLt; omega⟩
/-- Its place in the run. -/
abbrev placeAt (x : S512x256.Idx) : Fin 128 := ⟨(x 0).val % 128, Nat.mod_lt _ (by decide)⟩

theorem place (Q : Fin 4 → Fin 128 → Fin 256 → EReal) (q : Fin 4) (x : S128x256.Idx) (y : S512x256.Idx)
    (h0 : (y 0).val = 128 * q.val + (x 0).val) (h1 : (y 1).val = (x 1).val) : Q q (x 0) (x 1) = Q (runAt y) (placeAt y) (y 1) := by
  have hx : (x 0).val < 128 := (x 0).isLt
  rw [show q = runAt y from Fin.ext (by show q.val = (y 0).val / 128; omega),
    show x 0 = placeAt y from Fin.ext (by show (x 0).val = (y 0).val % 128; omega), show x 1 = y 1 from Fin.ext h1.symm]

theorem at_ix (f : A128) (g : Fin 128 → Fin 256 → EReal) (h : ∀ r j, f (ix2 r j) = g r j) (x : S128x256.Idx) : f x = g (x 0) (x 1) := by
  idx_vars x
  exact h x0 x1

theorem tiles_du (hE : Marks (be m c t)) (x : S512x256.Idx) :
    (outsAt0 m c t.val t.isLt).1 x = duQ m c t (runAt x) (placeAt x) (x 1) := by
  have main : ∀ q : Fin 4, ∀ y : S128x256.Idx, _ = duQ m c t q (y 0) (y 1) := fun q =>
    at_ix _ _ (du_apply (part (bu m c t) q) (part (bv m c t) q) (part (bd m c t) q) (bl m c t) (be m c t) (bw m c t) (bs m c t) hE)
  have fin : ∀ (q : Fin 4) (y : S128x256.Idx), (x 0).val = 128 * q.val + (y 0).val → (x 1).val = (y 1).val → _ :=
    fun q y h0 h1 => (main q y).trans (place (duQ m c t) q y x h0 h1)
  by_cases h0 : t.val % 8 = 0
  · rw [outsAt0_A m c t h0]; frame_out
    canon_tiles x h
    · exact fin 3 _ h0 h1
    · exact fin 2 _ h0 h1
    · exact fin 1 _ h0 h1
    · exact fin 0 _ (by rw [h0]; exact (Nat.zero_add _).symm) h1
  · rw [outsAt0_B m c t h0]; frame_out
    canon_tiles x h
    · exact fin 3 _ h0 h1
    · exact fin 2 _ h0 h1
    · exact fin 1 _ h0 h1
    · exact fin 0 _ (by rw [h0]; exact (Nat.zero_add _).symm) h1

theorem tiles_dv (x : S512x256.Idx) : (outsAt0 m c t.val t.isLt).2.1 x = dvQ m c t (runAt x) (placeAt x) (x 1) := by
  have main : ∀ q : Fin 4, ∀ y : S128x256.Idx, _ = dvQ m c t q (y 0) (y 1) := fun q =>
    at_ix _ _ (dv_apply (part (bu m c t) q) (part (bv m c t) q) (part (bd m c t) q) (bl m c t) (bw m c t))
  have fin : ∀ (q : Fin 4) (y : S128x256.Idx), (x 0).val = 128 * q.val + (y 0).val → (x 1).val = (y 1).val → _ :=
    fun q y h0 h1 => (main q y).trans (place (dvQ m c t) q y x h0 h1)
  by_cases h0 : t.val % 8 = 0
  · rw [outsAt0_A m c t h0]; frame_out
    canon_tiles x h
    · exact fin 3 _ h0 h1
    · exact fin 2 _ h0 h1
    · exact fin 1 _ h0 h1
    · exact fin 0 _ (by rw [h0]; exact (Nat.zero_add _).symm) h1
  · rw [outsAt0_B m c t h0]; frame_out
    canon_tiles x h
    · exact fin 3 _ h0 h1
    · exact fin 2 _ h0 h1
    · exact fin 1 _ h0 h1
    · exact fin 0 _ (by rw [h0]; exact (Nat.zero_add _).symm) h1

/-- The sum of the four runs' cotangents, in the order the body adds them. -/
abbrev four {ι : Type} (f : Fin 4 → ι → EReal) (i : ι) : EReal := ((f 0 i + f 1 i) + f 2 i) + f 3 i

abbrev dlnQ (q : Fin 4) : S8x256.Idx → EReal := dlnA (part (bu m c t) q) (part (bv m c t) q) (part (bd m c t) q) (bw m c t)
abbrev dwQ (q : Fin 4) : S4x128x128.Idx → EReal := dwA (part (bu m c t) q) (part (bv m c t) q) (part (bd m c t) q) (bl m c t)
abbrev dsQ (q : Fin 4) : S128x8.Idx → EReal := k0_pay52 (F := Ideal) (be m c t) (dmA (part (bu m c t) q) (part (bd m c t) q))

theorem add_dln (a b acc) (i : S8x256.Idx) : k0_pay220 (F := Ideal) a b acc i = acc i + (a i + b i) := by
  idx_vars i; pointwise [k0_pay220]
theorem add_dw (a b acc) (i : S4x128x128.Idx) : k0_pay221 (F := Ideal) a b acc i = acc i + (a i + b i) := by
  idx_vars i; pointwise [k0_pay221]
theorem add_ds (a b acc) (i : S128x8.Idx) : k0_pay1 (F := Ideal) (k0_pay219 a b) acc i = acc i + (a i + b i) := by
  idx_vars i; pointwise [k0_pay1, k0_pay219]

theorem first_dln (h0 : t.val % 8 = 0) (i : S8x256.Idx) : (outsAt0 m c t.val t.isLt).2.2.1 i = 0 + four (dlnQ m c t) i := by
  rw [outsAt0_A m c t h0]; frame_out
  refine (add_dln _ _ _ i).trans ?_
  refine congrArg₂ (fun a b : EReal => a + b) (by pointwise! [k0_pay2]) rfl

theorem next_dln (h0 : ¬ t.val % 8 = 0) (i : S8x256.Idx) :
    (outsAt0 m c t.val t.isLt).2.2.1 i = (outsAt0 m c (t.val - 1) (Nat.lt_of_le_of_lt (Nat.sub_le _ _) t.isLt)).2.2.1 i + four (dlnQ m c t) i := by
  rw [outsAt0_B m c t h0]; frame_out
  exact (add_dln _ _ _ i).trans rfl

theorem first_dw (h0 : t.val % 8 = 0) (i : S4x128x128.Idx) : (outsAt0 m c t.val t.isLt).2.2.2.1 i = 0 + four (dwQ m c t) i := by
  rw [outsAt0_A m c t h0]; frame_out
  refine (add_dw _ _ _ i).trans ?_
  refine congrArg₂ (fun a b : EReal => a + b) (by pointwise! [k0_pay3]) rfl

theorem next_dw (h0 : ¬ t.val % 8 = 0) (i : S4x128x128.Idx) :
    (outsAt0 m c t.val t.isLt).2.2.2.1 i = (outsAt0 m c (t.val - 1) (Nat.lt_of_le_of_lt (Nat.sub_le _ _) t.isLt)).2.2.2.1 i + four (dwQ m c t) i := by
  rw [outsAt0_B m c t h0]; frame_out
  exact (add_dw _ _ _ i).trans rfl

theorem first_ds (h0 : t.val % 8 = 0) (i : S128x8.Idx) : (outsAt0 m c t.val t.isLt).2.2.2.2 i = 0 + four (dsQ m c t) i := by
  rw [outsAt0_A m c t h0]; frame_out
  refine (add_ds _ _ _ i).trans ?_
  refine congrArg₂ (fun a b : EReal => a + b) (by pointwise! [k0_pay4]) rfl

theorem next_ds (h0 : ¬ t.val % 8 = 0) (i : S128x8.Idx) :
    (outsAt0 m c t.val t.isLt).2.2.2.2 i = (outsAt0 m c (t.val - 1) (Nat.lt_of_le_of_lt (Nat.sub_le _ _) t.isLt)).2.2.2.2 i + four (dsQ m c t) i := by
  rw [outsAt0_B m c t h0]; frame_out
  exact (add_ds _ _ _ i).trans rfl

end Tiles

end Cert.SguKernelIdeal.Sgu

end
-- ==== Proof.Sgu.Entry.lean ====
/- The arrays the kernel is given, from the program's arguments, and the blocks of them a point reads. -/
module

public import proofs.«01_k».proof.Proof.Gen.SguKernelIdeal.Value
public import proofs.«01_k».proof.Proof.Common.Cols
public import proofs.«01_k».proof.Proof.Common.Reals
public import proofs.«01_k».proof.Proof.Sgu.Point

@[expose] public section

set_option maxRecDepth 16384

noncomputable section

open Idealize.ShloMosaic Idealize.ShloMosaic.TcCoe Idealize.SL.Sem

namespace Cert.SguKernelIdeal.Sgu

open Cert.SguKernelIdeal Cert.SguKernelIdeal.Gen Cert.Rows Cert.Cols Cert.Reals Cert.Sgu

variable (m : (ℓ : Loc nD τ sig) → Buf (Elt Ideal) ℓ) (c : Dev nD)

/-- The arguments. -/
abbrev argP : S2x2048x2950.Idx → EReal := m ((c : Thread nD τ).loc main_arg0)
abbrev argG : S256.Idx → EReal := m ((c : Thread nD τ).loc main_arg1)
abbrev argB : S256.Idx → EReal := m ((c : Thread nD τ).loc main_arg2)
abbrev argW : S4x128x128.Idx → EReal := m ((c : Thread nD τ).loc main_arg3)
abbrev argS : S4x128.Idx → EReal := m ((c : Thread nD τ).loc main_arg4)
abbrev argD : S2x2048x1024.Idx → EReal := m ((c : Thread nD τ).loc main_arg5)

/-- The projection with its columns set in the kernel's order. -/
def pcols : S2x2048x3072.Idx → EReal := concatenate S2x2048x3072 2
      [⟨S2x2048x1536, extractStridedSlice S2x2048x1536 ![0, 0, 0] (argP m c) slices_S2x2048x2950_S2x2048x1536_0_0_0⟩,
       ⟨S2x2048x256, extractStridedSlice S2x2048x256 ![0, 0, 2438] (argP m c) slices_S2x2048x2950_S2x2048x256_0_0_2438⟩,
       ⟨S2x2048x896, extractStridedSlice S2x2048x896 ![0, 0, 1536] (argP m c) slices_S2x2048x2950_S2x2048x896_0_0_1536⟩,
       ⟨S2x2048x6, extractStridedSlice S2x2048x6 ![0, 0, 2432] (argP m c) slices_S2x2048x2950_S2x2048x6_0_0_2432⟩,
       ⟨S2x2048x122, broadcastInDim S2x2048x122 ![] bcast_S_S2x2048x122 (constant (F := Ideal) S_ FTy.f32 0#32)⟩,
       ⟨S2x2048x256, extractStridedSlice S2x2048x256 ![0, 0, 2694] (argP m c) slices_S2x2048x2950_S2x2048x256_0_0_2694⟩]
      concatenates_S2x2048x1536_S2x2048x256_S2x2048x896_S2x2048x6_S2x2048x122_S2x2048x256_S2x2048x3072_d2

theorem p_cols : V m c main_v13 = shapeCast S4096x3072 (pcols m c) shapeCasts_S2x2048x3072_S4096x3072 := rfl

/-- The gates' columns. -/
theorem pcols_u (b : Fin 2) (s : Fin 2048) (n : Fin 3072) (h0 : 1536 ≤ n.val) (h1 : n.val < 1792) :
    pcols m c (Idealize.ShloMosaic.ix3 b s n) = at3 (argP m c) b.val s.val (2438 + (n.val - 1536)) := by
  unfold pcols
  pointwise
  refine (dif_neg (by omega)).trans ?_
  exact (dif_pos (by omega)).trans (at3_ix (argP m c) b s ⟨2438 + (n.val - 1536), by omega⟩)

/-- The values' columns. -/
theorem pcols_v (b : Fin 2) (s : Fin 2048) (n : Fin 3072) (h0 : 2816 ≤ n.val) :
    pcols m c (Idealize.ShloMosaic.ix3 b s n) = at3 (argP m c) b.val s.val (2694 + (n.val - 2816)) := by
  have h : n.val < 3072 := n.isLt
  unfold pcols
  pointwise
  refine (dif_neg (by omega)).trans ((dif_neg (by omega)).trans ((dif_neg (by omega)).trans ((dif_neg (by omega)).trans ((dif_neg (by omega)).trans ?_))))
  refine (at3_ix (argP m c) b s ⟨2694 + (n.val - 1536 - 256 - 896 - 6 - 122), by omega⟩).trans ?_
  exact congrArg (at3 (argP m c) b.val s.val) (by show 2694 + (n.val - 1536 - 256 - 896 - 6 - 122) = _; omega)

theorem ln_in : V m c main_v3 = pad S8x256 ![0, 0] ![6, 0] ![0, 0]
      (concatenate S2x256 0 [⟨S1x256, broadcastInDim S1x256 ![1] bcast_S256_S1x256_1 (argG m c)⟩, ⟨S1x256, broadcastInDim S1x256 ![1] bcast_S256_S1x256_1 (argB m c)⟩] concatenates_S1x256_S1x256_S2x256_d0)
      (sitofp (F := Ideal) .f32 (constantI S_ 32 0#32)) pads_S2x256_S8x256_060_000 h_S_ := rfl

theorem ln_g (j : Fin 256) : V m c main_v3 (ix2 0 j) = argG m c (ix1 j) := by
  rw [ln_in]
  pointwise

theorem ln_b (j : Fin 256) : V m c main_v3 (ix2 1 j) = argB m c (ix1 j) := by
  rw [ln_in]
  pointwise

theorem s_in : V m c main_v5 = pad S128x8 ![0, 0] ![0, 4] ![0, 0] (transpose S128x4 [1, 0] (argS m c) transposes_S4x128_S128x4_1_0)
      (sitofp (F := Ideal) .f32 (constantI S_ 32 0#32)) pads_S128x4_S128x8_000_040 h_S_ := rfl

theorem s_apply (t : Fin 128) (k : Fin 4) : V m c main_v5 (ix2 t (Fin.castLE (show 4 ≤ 8 by decide) k)) = argS m c (ix2 k t) := by
  rw [s_in]
  pointwise
  exact dif_pos (show k.val < 4 from k.isLt)

theorem lit_at : ∀ n : Fin 2048, lit0 n = if n.val / 256 = n.val % 256 / 64 then 0x3F800000#32 else 0#32 := by
  decide +kernel

theorem lit_col (x : Fin 8) (j : Fin 256) (n : Fin 2048) (hn : n.val = x.val * 256 + j.val) :
    Ideal.ofBits .f32 (lit0 n) = if x.val = j.val / 64 then 1 else 0 := by
  have hj : j.val < 256 := j.isLt
  rw [lit_at n]
  by_cases h : x.val = j.val / 64
  · rw [if_pos h, if_pos (by omega), ofBits_one]; rfl
  · rw [if_neg h, if_neg (by omega)]; simp [Ideal.ofBits, Ideal.ieee]

theorem marks : Marks (V m c main_cst) := fun x j => lit_col x j (S8x256.rowMajor (ix2 x j)) (Shape.rowMajor_val_two _)

theorem idx_val : ∀ t : Fin cfg0.N, win0_0.index t = ![t.val, 6] ∧ win0_1.index t = ![t.val, 11] ∧ win0_2.index t = ![t.val, 3]
    ∧ win0_3.index t = ![0, 0] ∧ win0_4.index t = ![0, 0, 0] ∧ win0_5.index t = ![0, 0] ∧ win0_6.index t = ![0, 0]
    ∧ win0_7.index t = ![t.val, 0] ∧ win0_8.index t = ![t.val, 0] ∧ win0_9.index t = ![0, 0] ∧ win0_10.index t = ![0, 0, 0] ∧ win0_11.index t = ![0, 0] :=
  (by decide +kernel : ∀ t : Fin grid0.N, _)

/-- The rows of the gates, of the values and of the cotangent. -/
abbrev rowU (P : S2x2048x2950.Idx → EReal) (n : ℕ) (j : Fin 256) : EReal := at3 P (n / 2048) (n % 2048) (2438 + j.val)
abbrev rowV (P : S2x2048x2950.Idx → EReal) (n : ℕ) (j : Fin 256) : EReal := at3 P (n / 2048) (n % 2048) (2694 + j.val)
abbrev rowD (D : S2x2048x1024.Idx → EReal) (n : ℕ) (j : Fin 256) : EReal := at3 D (n / 2048) (n % 2048) (768 + j.val)

variable (t : Fin cfg0.N)

theorem entry_u (i : S4096x3072.Idx) (h0 : 1536 ≤ (i 1).val) (h1 : (i 1).val < 1792) :
    V m c main_v13 i = at3 (argP m c) ((i 0).val / 2048) ((i 0).val % 2048) (2438 + ((i 1).val - 1536)) := by
  have hi : (i 0).val < 4096 := (i 0).isLt
  have h2 : (i 1).val < 3072 := (i 1).isLt
  have e : (Fin.ofNat 3072 (i 1).val).val = (i 1).val := Nat.mod_eq_of_lt h2
  have e0 : (Fin.ofNat 2 ((i 0).val / 2048)).val = (i 0).val / 2048 := Nat.mod_eq_of_lt (by omega)
  have e1 : (Fin.ofNat 2048 ((i 0).val % 2048)).val = (i 0).val % 2048 := Nat.mod_eq_of_lt (by omega)
  rw [p_cols]
  refine (flat_apply _ _ _).trans ((pcols_u m c _ _ _ (e.symm ▸ h0) (e.symm ▸ h1)).trans ?_)
  rw [e, e0, e1]

theorem entry_v (i : S4096x3072.Idx) (h0 : 2816 ≤ (i 1).val) :
    V m c main_v13 i = at3 (argP m c) ((i 0).val / 2048) ((i 0).val % 2048) (2694 + ((i 1).val - 2816)) := by
  have hi : (i 0).val < 4096 := (i 0).isLt
  have h2 : (i 1).val < 3072 := (i 1).isLt
  have e : (Fin.ofNat 3072 (i 1).val).val = (i 1).val := Nat.mod_eq_of_lt h2
  have e0 : (Fin.ofNat 2 ((i 0).val / 2048)).val = (i 0).val / 2048 := Nat.mod_eq_of_lt (by omega)
  have e1 : (Fin.ofNat 2048 ((i 0).val % 2048)).val = (i 0).val % 2048 := Nat.mod_eq_of_lt (by omega)
  rw [p_cols]
  refine (flat_apply _ _ _).trans ((pcols_v m c _ _ _ (e.symm ▸ h0)).trans ?_)
  rw [e, e0, e1]

theorem ublk (y : S512x256.Idx) : bu m c t y = rowU (argP m c) (512 * t.val + (y 0).val) (y 1) := by
  have hy : (y 1).val < 256 := (y 1).isLt
  have e0 : ((((cfg0.win 0).blk t).view.emb y) 0).val = 512 * t.val + (y 0).val := by
    blk_simp [idx_val t]; exact congrArg (· + (y 0).val) (Nat.mul_comm _ _)
  have e1 : ((((cfg0.win 0).blk t).view.emb y) 1).val = 1536 + (y 1).val := by blk_simp [idx_val t]
  refine (show bu m c t y = V m c main_v13 (((cfg0.win 0).blk t).view.emb y) from rfl).trans ?_
  refine (entry_u m c _ (by rw [e1]; omega) (by rw [e1]; omega)).trans ?_
  rw [e0, e1, Nat.add_sub_cancel_left]

theorem vblk (y : S512x256.Idx) : bv m c t y = rowV (argP m c) (512 * t.val + (y 0).val) (y 1) := by
  have hy : (y 1).val < 256 := (y 1).isLt
  have e0 : ((((cfg0.win 1).blk t).view.emb y) 0).val = 512 * t.val + (y 0).val := by
    blk_simp [idx_val t]; exact congrArg (· + (y 0).val) (Nat.mul_comm _ _)
  have e1 : ((((cfg0.win 1).blk t).view.emb y) 1).val = 2816 + (y 1).val := by blk_simp [idx_val t]
  refine (show bv m c t y = V m c main_v13 (((cfg0.win 1).blk t).view.emb y) from rfl).trans ?_
  refine (entry_v m c _ (by rw [e1]; omega)).trans ?_
  rw [e0, e1, Nat.add_sub_cancel_left]

theorem dblk (y : S512x256.Idx) : bd m c t y = rowD (argD m c) (512 * t.val + (y 0).val) (y 1) := by
  have e0 : ((((cfg0.win 2).blk t).view.emb y) 0).val = 512 * t.val + (y 0).val := by
    blk_simp [idx_val t]; exact congrArg (· + (y 0).val) (Nat.mul_comm _ _)
  have e1 : ((((cfg0.win 2).blk t).view.emb y) 1).val = 768 + (y 1).val := by blk_simp [idx_val t]
  refine (show bd m c t y = shapeCast S4096x1024 (argD m c) shapeCasts_S2x2048x1024_S4096x1024 (((cfg0.win 2).blk t).view.emb y) from rfl).trans ?_
  refine (flat_apply _ _ _).trans ?_
  rw [e0, e1]

theorem gblk : scale (bl m c t) = fun j => argG m c (ix1 j) := by
  funext j
  refine Eq.trans ?_ (ln_g m c j)
  refine (show bl m c t (ix2 0 j) = V m c main_v3 (((cfg0.win 3).blk t).view.emb (ix2 0 j)) from rfl).trans (congrArg (V m c main_v3) ?_)
  funext a; apply Fin.ext
  match a with
  | ⟨0, _⟩ => blk_simp [idx_val t]
  | ⟨1, _⟩ => blk_simp [idx_val t]

theorem bblk : offset (bl m c t) = fun j => argB m c (ix1 j) := by
  funext j
  refine Eq.trans ?_ (ln_b m c j)
  refine (show bl m c t (ix2 1 j) = V m c main_v3 (((cfg0.win 3).blk t).view.emb (ix2 1 j)) from rfl).trans (congrArg (V m c main_v3) ?_)
  funext a; apply Fin.ext
  match a with
  | ⟨0, _⟩ => blk_simp [idx_val t]
  | ⟨1, _⟩ => blk_simp [idx_val t]

theorem wblk : weights (bw m c t) = fun k r s => argW m c (ix3 k r s) := by
  funext k r s
  refine (show bw m c t (ix3 k r s) = argW m c (((cfg0.win 4).blk t).view.emb (ix3 k r s)) from rfl).trans (congrArg (argW m c) ?_)
  funext a; apply Fin.ext
  match a with
  | ⟨0, _⟩ => blk_simp [idx_val t]
  | ⟨1, _⟩ => blk_simp [idx_val t]
  | ⟨2, _⟩ => blk_simp [idx_val t]

theorem sblk : shifts (bs m c t) = fun k r => argS m c (ix2 k r) := by
  funext k r
  refine Eq.trans ?_ (s_apply m c r k)
  refine (show bs m c t (ix2 r (Fin.castLE _ k)) = V m c main_v5 (((cfg0.win 5).blk t).view.emb (ix2 r (Fin.castLE _ k))) from rfl).trans (congrArg (V m c main_v5) ?_)
  funext a; apply Fin.ext
  match a with
  | ⟨0, _⟩ => blk_simp [idx_val t]
  | ⟨1, _⟩ => blk_simp [idx_val t]

theorem eblk : Marks (be m c t) := by
  intro x j
  refine Eq.trans ?_ (marks m c x j)
  refine (show be m c t (ix2 x j) = V m c main_cst (((cfg0.win 6).blk t).view.emb (ix2 x j)) from rfl).trans (congrArg (V m c main_cst) ?_)
  funext a; apply Fin.ext
  match a with
  | ⟨0, _⟩ => blk_simp [idx_val t]
  | ⟨1, _⟩ => blk_simp [idx_val t]

/-- The runs of the gates, the values and the cotangent. -/
theorem urun (q : Fin 4) : mat (part (bu m c t) q) = runOf (rowU (argP m c)) (4 * t.val + q.val) := part_run _ _ _ (ublk m c t) q
theorem vrun (q : Fin 4) : mat (part (bv m c t) q) = runOf (rowV (argP m c)) (4 * t.val + q.val) := part_run _ _ _ (vblk m c t) q
theorem drun (q : Fin 4) : mat (part (bd m c t) q) = runOf (rowD (argD m c)) (4 * t.val + q.val) := part_run _ _ _ (dblk m c t) q

end Cert.SguKernelIdeal.Sgu

end
-- ==== Proof.Sgu.Arrays.lean ====
/- The five arrays the kernel leaves. -/
module

public import proofs.«01_k».proof.Proof.Sgu.Entry

@[expose] public section

set_option maxRecDepth 16384

noncomputable section

open Idealize.ShloMosaic Idealize.ShloMosaic.TcCoe Idealize.SL.Sem
open scoped BigOperators

namespace Cert.SguKernelIdeal.Sgu

open Cert.SguKernelIdeal Cert.SguKernelIdeal.Gen Cert.Rows Cert.Reals Cert.Sgu

section Whole
variable (P : S2x2048x2950.Idx → EReal) (G B : S256.Idx → EReal) (W : S4x128x128.Idx → EReal) (S : S4x128.Idx → EReal) (D : S2x2048x1024.Idx → EReal)

/-- The results of run `n` of the 32. -/
abbrev DU (n : ℕ) (r : Fin 128) (j : Fin 256) : EReal :=
  du (runOf (rowU P) n) (runOf (rowV P) n) (runOf (rowD D) n) (fun j => G (ix1 j)) (fun j => B (ix1 j)) (fun k r s => W (ix3 k r s)) (fun k r => S (ix2 k r)) r j
abbrev DV (n : ℕ) (r : Fin 128) (j : Fin 256) : EReal :=
  dv (runOf (rowU P) n) (runOf (rowV P) n) (runOf (rowD D) n) (fun j => G (ix1 j)) (fun k r s => W (ix3 k r s)) r j
abbrev DG (n : ℕ) (j : Fin 256) : EReal :=
  dg (runOf (rowU P) n) (runOf (rowV P) n) (runOf (rowD D) n) (fun k r s => W (ix3 k r s)) j
abbrev DB (n : ℕ) (j : Fin 256) : EReal := db (runOf (rowU P) n) (runOf (rowD D) n) (fun k r s => W (ix3 k r s)) j
abbrev DW (n : ℕ) (k : Fin 4) (r s : Fin 128) : EReal :=
  dw (runOf (rowU P) n) (runOf (rowV P) n) (runOf (rowD D) n) (fun j => G (ix1 j)) (fun j => B (ix1 j)) k r s
abbrev DS (n : ℕ) (r : Fin 128) (k : Fin 8) : EReal := ds (runOf (rowU P) n) (runOf (rowD D) n) r k

end Whole

variable (m : (ℓ : Loc nD τ sig) → Buf (Elt Ideal) ℓ) (c : Dev nD)

theorem sum_points (f : ℕ → EReal) : ∑ t : Fin 8, ((((f (4 * t.val + 0) + f (4 * t.val + 1)) + f (4 * t.val + 2)) + f (4 * t.val + 3)))
    = ∑ n ∈ Finset.range 32, f n := by
  refine Eq.trans (Finset.sum_congr rfl fun t _ => ?_) (sum_runs 8 4 f)
  rw [Fin.sum_univ_four]; rfl

theorem duQ_eq (t : Fin cfg0.N) (q : Fin 4) (r : Fin 128) (j : Fin 256) :
    duQ m c t q r j = DU (argP m c) (argG m c) (argB m c) (argW m c) (argS m c) (argD m c) (4 * t.val + q.val) r j := by
  unfold duQ
  rw [urun, vrun, drun, gblk, bblk, wblk, sblk]

theorem dvQ_eq (t : Fin cfg0.N) (q : Fin 4) (r : Fin 128) (j : Fin 256) :
    dvQ m c t q r j = DV (argP m c) (argG m c) (argW m c) (argD m c) (4 * t.val + q.val) r j := by
  unfold dvQ
  rw [urun, vrun, drun, gblk, wblk]

theorem final_du : (dats m 0 c).arrAt 7 (cfgs 0).N = fun i : S4096x256.Idx =>
    DU (argP m c) (argG m c) (argB m c) (argW m c) (argS m c) (argD m c) ((i 0).val / 128) ⟨(i 0).val % 128, Nat.mod_lt _ (by decide)⟩ (i 1) := by
  refine (dats m 0 c).arrAt_eq_of_covers 7 _ (by decide +kernel) fun t _ y => ?_
  have key : ∀ y : S512x256.Idx, (outsAt0 m c t.val t.isLt).1 y = DU (argP m c) (argG m c) (argB m c) (argW m c) (argS m c) (argD m c)
      ((win0_7.index t 0 * 512 + (y 0).val) / 128) ⟨(win0_7.index t 0 * 512 + (y 0).val) % 128, Nat.mod_lt _ (by decide)⟩
      ((((View.whole main_v15_0).slice (win0_7.rect t)).emb y) 1) := by
    intro y
    have e0 : win0_7.index t 0 * 512 + (y 0).val = 512 * t.val + (y 0).val := by
      blk_simp [idx_val t]; exact congrArg (· + (y 0).val) (Nat.mul_comm _ _)
    have e1 : (((View.whole main_v15_0).slice (win0_7.rect t)).emb y) 1 = y 1 := Fin.ext (by blk_simp [idx_val t])
    rw [e1]
    refine (tiles_du m c t (eblk m c t) y).trans ((duQ_eq m c t (runAt y) (placeAt y) (y 1)).trans ?_)
    exact congrArg₂ (fun n r => DU (argP m c) (argG m c) (argB m c) (argW m c) (argS m c) (argD m c) n r (y 1))
      (by rw [e0]; show 4 * t.val + (y 0).val / 128 = _; omega)
      (Fin.ext (by show (y 0).val % 128 = (win0_7.index t 0 * 512 + (y 0).val) % 128; rw [e0]; omega))
  blk_simp
  rw [after0_7]
  exact key y

theorem final_dv : (dats m 0 c).arrAt 8 (cfgs 0).N = fun i : S4096x256.Idx =>
    DV (argP m c) (argG m c) (argW m c) (argD m c) ((i 0).val / 128) ⟨(i 0).val % 128, Nat.mod_lt _ (by decide)⟩ (i 1) := by
  refine (dats m 0 c).arrAt_eq_of_covers 8 _ (by decide +kernel) fun t _ y => ?_
  have key : ∀ y : S512x256.Idx, (outsAt0 m c t.val t.isLt).2.1 y = DV (argP m c) (argG m c) (argW m c) (argD m c)
      ((win0_8.index t 0 * 512 + (y 0).val) / 128) ⟨(win0_8.index t 0 * 512 + (y 0).val) % 128, Nat.mod_lt _ (by decide)⟩
      ((((View.whole main_v15_1).slice (win0_8.rect t)).emb y) 1) := by
    intro y
    have e0 : win0_8.index t 0 * 512 + (y 0).val = 512 * t.val + (y 0).val := by
      blk_simp [idx_val t]; exact congrArg (· + (y 0).val) (Nat.mul_comm _ _)
    have e1 : (((View.whole main_v15_1).slice (win0_8.rect t)).emb y) 1 = y 1 := Fin.ext (by blk_simp [idx_val t])
    rw [e1]
    refine (tiles_dv m c t y).trans ((dvQ_eq m c t (runAt y) (placeAt y) (y 1)).trans ?_)
    exact congrArg₂ (fun n r => DV (argP m c) (argG m c) (argW m c) (argD m c) n r (y 1))
      (by rw [e0]; show 4 * t.val + (y 0).val / 128 = _; omega)
      (Fin.ext (by show (y 0).val % 128 = (win0_8.index t 0 * 512 + (y 0).val) % 128; rw [e0]; omega))
  blk_simp
  rw [after0_8]
  exact key y

/-- What run `n` adds to the three accumulated results. -/
def dlnN (n : ℕ) (i : S8x256.Idx) : EReal :=
  if (i 0).val = 0 then DG (argP m c) (argW m c) (argD m c) n (i 1) else if (i 0).val = 1 then DB (argP m c) (argW m c) (argD m c) n (i 1) else 0
def dwN (n : ℕ) (i : S4x128x128.Idx) : EReal := DW (argP m c) (argG m c) (argB m c) (argD m c) n (i 0) (i 1) (i 2)
def dsN (n : ℕ) (i : S128x8.Idx) : EReal := DS (argP m c) (argD m c) n (i 0) (i 1)

theorem dlnQ_eq (t : Fin cfg0.N) (q : Fin 4) (i : S8x256.Idx) : dlnQ m c t q i = dlnN m c (4 * t.val + q.val) i := by
  idx_vars i
  unfold dlnQ
  refine (dln_apply _ _ _ _ i0 i1).trans ?_
  rw [urun, vrun, drun, wblk]
  rfl

theorem points_dln (j : S8x256.Idx) : (∑ p : Fin 8, (four (dlnQ m c p) j : EReal)) = ∑ n ∈ Finset.range 32, dlnN m c n j := by
  refine Eq.trans (Finset.sum_congr rfl fun t _ => ?_) (sum_points fun n => dlnN m c n j)
  exact congrArg₂ (fun a b : EReal => a + b) (congrArg₂ (fun a b : EReal => a + b) (congrArg₂ (fun a b : EReal => a + b)
    (dlnQ_eq m c t 0 j) (dlnQ_eq m c t 1 j)) (dlnQ_eq m c t 2 j)) (dlnQ_eq m c t 3 j)

theorem final_dln : (dats m 0 c).arrAt 9 (cfgs 0).N = fun i : S8x256.Idx => ∑ n ∈ Finset.range 32, dlnN m c n i := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0)
    (fun t (j : S8x256.Idx) => four (dlnQ m c t) j) (fun t ht j => first_dln m c t ht j) (fun t ht j => next_dln m c t ht j)
    (le_of_eq N_0) t0_7 rfl j, zero_add]
  exact points_dln m c j

theorem dwQ_eq (t : Fin cfg0.N) (q : Fin 4) (i : S4x128x128.Idx) : dwQ m c t q i = dwN m c (4 * t.val + q.val) i := by
  idx_vars i
  unfold dwQ
  refine (dw_apply _ _ _ _ i0 i1 i2).trans ?_
  rw [urun, vrun, drun, gblk, bblk]
  rfl

theorem points_dw (j : S4x128x128.Idx) : (∑ p : Fin 8, (four (dwQ m c p) j : EReal)) = ∑ n ∈ Finset.range 32, dwN m c n j := by
  refine Eq.trans (Finset.sum_congr rfl fun t _ => ?_) (sum_points fun n => dwN m c n j)
  exact congrArg₂ (fun a b : EReal => a + b) (congrArg₂ (fun a b : EReal => a + b) (congrArg₂ (fun a b : EReal => a + b)
    (dwQ_eq m c t 0 j) (dwQ_eq m c t 1 j)) (dwQ_eq m c t 2 j)) (dwQ_eq m c t 3 j)

theorem final_dw : (dats m 0 c).arrAt 10 (cfgs 0).N = fun i : S4x128x128.Idx => ∑ n ∈ Finset.range 32, dwN m c n i := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (fun t (j : S4x128x128.Idx) => four (dwQ m c t) j) (fun t ht j => first_dw m c t ht j) (fun t ht j => next_dw m c t ht j)
    (le_of_eq N_0) t0_7 rfl j, zero_add]
  exact points_dw m c j

theorem dsQ_eq (t : Fin cfg0.N) (q : Fin 4) (i : S128x8.Idx) : dsQ m c t q i = dsN m c (4 * t.val + q.val) i := by
  idx_vars i
  unfold dsQ
  refine (ds_apply _ _ _ (eblk m c t) i0 i1).trans ?_
  rw [urun, drun]
  rfl

theorem points_ds (j : S128x8.Idx) : (∑ p : Fin 8, (four (dsQ m c p) j : EReal)) = ∑ n ∈ Finset.range 32, dsN m c n j := by
  refine Eq.trans (Finset.sum_congr rfl fun t _ => ?_) (sum_points fun n => dsN m c n j)
  exact congrArg₂ (fun a b : EReal => a + b) (congrArg₂ (fun a b : EReal => a + b) (congrArg₂ (fun a b : EReal => a + b)
    (dsQ_eq m c t 0 j) (dsQ_eq m c t 1 j)) (dsQ_eq m c t 2 j)) (dsQ_eq m c t 3 j)

theorem final_ds : (dats m 0 c).arrAt 11 (cfgs 0).N = fun i : S128x8.Idx => ∑ n ∈ Finset.range 32, dsN m c n i := by
  refine (dats m 0 c).arrAt_eq_of_after_last 11 t0_7 (by decide +kernel) _ fun j => ?_
  blk_simp
  rw [after0_11, Pipeline.eq_sum_fin_of_reset_step_apply_last (fun n h => (outsAt0 m c n h).2.2.2.2) 8 (fun _ => 0)
    (fun t (j : S128x8.Idx) => four (dsQ m c t) j) (fun t ht j => first_ds m c t ht j) (fun t ht j => next_ds m c t ht j)
    (le_of_eq N_0) t0_7 rfl j, zero_add]
  exact points_ds m c j

end Cert.SguKernelIdeal.Sgu

end
-- ==== Proof.Sgu.Layer.lean ====
/- The derivative of a norm over rows of real numbers: its two spellings agree. -/
module

public import proofs.«01_k».proof.Proof.Common.Reals
public import proofs.«01_k».proof.Proof.Sgu.Spec

@[expose] public section

noncomputable section

open Idealize.ShloMosaic
open scoped BigOperators

namespace Cert.Sgu

open Cert.Reals

/-- The factor of the squared deviations' derivative. -/
abbrev two : EReal := Ideal.ofBits .f32 0x40000000#32

/-- A cotangent through `hat`, its two summands' sums taken apart. -/
def back' (y a : Fin 256 → EReal) (j : Fin 256) : EReal :=
  (a j * rs y + tilt y a * (two * cen y j))
    + Ideal.div ((∑ k, -(a k * rs y)) + ∑ k, -(tilt y a * (two * cen y k))) wide

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) {f : ι → EReal} (h : ∀ i, IsReal (f i)) : IsReal (∑ i ∈ s, f i) := by
  choose g hg using h
  exact ⟨∑ i ∈ s, g i, by simp only [hg, coe_sum]⟩

theorem IsReal.zero : IsReal 0 := ⟨0, rfl⟩
theorem IsReal.one : IsReal 1 := ⟨1, rfl⟩

theorem IsReal.erf {x : EReal} (hx : IsReal x) : IsReal (Ideal.erf x) := by
  obtain ⟨a, rfl⟩ := hx; exact ⟨_, rfl⟩

theorem ofBits_256 : wide = ((256 : ℝ) : EReal) := by
  simp only [wide, Ideal.ofBits, Ideal.ieee]; simp; rw [← EReal.coe_mul]; norm_num

theorem ofBits_root : ∃ r : ℝ, root = (r : EReal) := by
  refine ⟨11863283 / 16777216, ?_⟩
  simp only [root, Ideal.ofBits, Ideal.ieee]; simp; rw [← EReal.coe_mul]; norm_num

theorem ofBits_tiny : ∃ r : ℝ, 0 < r ∧ tiny = (r : EReal) := by
  refine ⟨10995116 / 1099511627776, by norm_num, ?_⟩
  simp only [tiny, Ideal.ofBits, Ideal.ieee]; simp; rw [← EReal.coe_mul]; norm_num

/-- The activation of a real number is one. -/
theorem gelu_real {x : EReal} (h : IsReal x) : IsReal (gelu x) := by
  have hr : IsReal root := ofBits_root
  have hh : IsReal half := ⟨_, ofBits_half⟩
  exact (hh.mul h).mul (IsReal.one.add (h.mul hr).erf)

/-- The two spellings agree on rows of real numbers. -/
theorem back_eq (y a : Fin 256 → EReal) (hy : ∀ j, IsReal (y j)) (ha : ∀ j, IsReal (a j)) (j : Fin 256) : back' y a j = back y a j := by
  have hm : IsReal (mean y) := by
    obtain ⟨r, hr⟩ := IsReal.sum Finset.univ hy
    exact ⟨r / 256, by unfold mean; rw [hr, ofBits_256, div_real _ (by norm_num)]⟩
  have hc : ∀ j, IsReal (cen y j) := fun j => (hy j).sub hm
  choose C hC using hc
  choose A hA using ha
  obtain ⟨ε, hε, he⟩ := ofBits_tiny
  have hv : var y = (((∑ j, C j * C j) / 256 + ε : ℝ) : EReal) := by
    unfold var
    simp only [hC, ← EReal.coe_mul, coe_sum]
    rw [ofBits_256, div_real _ (by norm_num), he, ← EReal.coe_add]
  have hp : 0 < (∑ j, C j * C j) / 256 + ε := by
    have : 0 ≤ ∑ j, C j * C j := Finset.sum_nonneg fun j _ => mul_self_nonneg _
    positivity
  obtain ⟨R, hR⟩ : IsReal (rs y) := ⟨_, by unfold rs; rw [hv, rsqrt_real hp]⟩
  obtain ⟨H, hH⟩ : IsReal (hs y) := ⟨-1 / 2 * (R / _), by
    unfold hs; rw [hR, hv, div_real _ hp.ne', show mhalf = _ from ofBits_neg_half, ← EReal.coe_mul]⟩
  obtain ⟨T, hT⟩ : IsReal (tilt y a) := ⟨(∑ j, C j * A j) * H / 256, by
    unfold tilt
    simp only [hC, hA, hH, ← EReal.coe_mul, coe_sum]
    rw [ofBits_256, div_real _ (by norm_num)]⟩
  unfold back' back inner
  simp only [hC, hA, hR, hT, show two = ((2 : ℝ) : EReal) from ofBits_two, ← EReal.coe_mul, ← EReal.coe_neg, ← EReal.coe_add, ← EReal.coe_zero,
    ← EReal.coe_sub, coe_sum, ofBits_256]
  rw [div_real _ (by norm_num), div_real _ (by norm_num), ← EReal.coe_add, ← EReal.coe_add]
  refine congrArg (fun r : ℝ => (r : EReal)) ?_
  rw [← Finset.sum_add_distrib]
  refine congrArg₂ (· + ·) (by ring) (congrArg (· / 256) (Finset.sum_congr rfl fun k _ => by ring))

end Cert.Sgu

end
-- ==== Proof.Sgu.Values.lean ====
/- What the reference's forward lines hold: the activated gates and values, the normalised values, and the mixed values. -/
module

public import proofs.«01_k».proof.Proof.Common.Rows
public import proofs.«01_k».proof.Proof.Common.Reals
public import proofs.«01_k».proof.Proof.Common.Select
public import proofs.«01_k».proof.Proof.Sgu.Spec
public import proofs.«01_k».proof.Proof.Gen.SguReferenceIdeal.Read
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem
open scoped BigOperators

namespace Cert.SguReferenceIdeal.Sgu

open Cert.SguReferenceIdeal Cert.SguReferenceIdeal.Gen Cert.SguReferenceIdeal.Read Cert.Rows Cert.Reals Cert.Sgu

variable (P : S2x2048x2950.Idx → EReal) (G B : S256.Idx → EReal) (W : S4x128x128.Idx → EReal) (S : S4x128.Idx → EReal) (D : S2x2048x1024.Idx → EReal)

/-- Run `c` of 128 positions of the gates, of the values and of the cotangent. -/
abbrev U (c : ℕ) (t : Fin 128) (j : Fin 256) : EReal := at3 P ((128 * c + t.val) / 2048) ((128 * c + t.val) % 2048) (2438 + j.val)
abbrev V (c : ℕ) (t : Fin 128) (j : Fin 256) : EReal := at3 P ((128 * c + t.val) / 2048) ((128 * c + t.val) % 2048) (2694 + j.val)
abbrev E (c : ℕ) (t : Fin 128) (j : Fin 256) : EReal := at3 D ((128 * c + t.val) / 2048) ((128 * c + t.val) % 2048) (768 + j.val)
abbrev gv (j : Fin 256) : EReal := G (Idealize.ShloMosaic.ix1 j)
abbrev wv (k : Fin 4) (t r : Fin 128) : EReal := W (Idealize.ShloMosaic.ix3 k t r)
abbrev sv (k : Fin 4) (t : Fin 128) : EReal := S (Idealize.ShloMosaic.ix2 k t)

/-- Position `s` of sequence `b` is position `t` of run `c`. -/
def Here (b : Fin 2) (s : Fin 2048) (c : ℕ) (t : Fin 128) : Prop := 2048 * b.val + s.val = 128 * c + t.val

variable {b : Fin 2} {s : Fin 2048} {c : ℕ} {t : Fin 128}

theorem Here.at {w : ℕ} [NeZero w] (h : Here b s c t) (X : (⟨3, ![2, 2048, w]⟩ : Shape).Idx → EReal) {i k : ℕ} (hk : i = k) :
    at3 X b.val s.val i = at3 X ((128 * c + t.val) / 2048) ((128 * c + t.val) % 2048) k := by
  have := h; unfold Here at this
  have := s.isLt
  exact at3_congr X (by omega) (by omega) hk

theorem gelu_eq (b : Fin 2) (s : Fin 2048) (j : Fin 512) : val_main_v10 (F := Ideal) P (Idealize.ShloMosaic.ix3 b s j)
    = gelu (at3 P b.val s.val (2438 + j.val)) := by
  pointwise [val_main_v10, val_main_v2, val_main_v1, val_main_cst, val_main_v6, val_main_v5, val_main_v4, val_main_cst_0, val_main_v3, val_main_v0]
  simp only [at3_ix, neg_mul, Ideal.erfc_neg]
  rfl

theorem u_eq (h : Here b s c t) (j : Fin 256) : val_main_v11 (F := Ideal) P (Idealize.ShloMosaic.ix3 b s j) = gelu (U P c t j) := by
  pointwise [val_main_v11]
  refine (gelu_eq P _ _ _).trans (congrArg gelu (h.at P ?_))
  rfl

theorem v_eq (h : Here b s c t) (j : Fin 256) : val_main_v12 (F := Ideal) P (Idealize.ShloMosaic.ix3 b s j) = act (V P c) t j := by
  pointwise [val_main_v12]
  refine (gelu_eq P _ _ _).trans (congrArg gelu (h.at P ?_))
  show 2438 + (256 + j.val) = 2694 + j.val; omega

theorem mean_eq (h : Here b s c t) (e : Fin 1) : val_main_v16 (F := Ideal) P (Idealize.ShloMosaic.ix3 b s e) = mean (act (V P c) t) := by
  pointwise [val_main_v16, val_main_v15, val_main_v14, val_main_v13, val_main_cst_1, val_main_cst_2]
  simp only [v_eq P h, zero_add]
  rfl

theorem cen_eq (h : Here b s c t) (j : Fin 256) : val_main_v18 (F := Ideal) P (Idealize.ShloMosaic.ix3 b s j) = cen (act (V P c) t) j := by
  pointwise [val_main_v18, val_main_v17]
  rw [v_eq P h, mean_eq P h]
  rfl

theorem cen_eq' (h : Here b s c t) (j : Fin 256) : val_main_v27 (F := Ideal) P (Idealize.ShloMosaic.ix3 b s j) = cen (act (V P c) t) j := by
  pointwise [val_main_v27, val_main_v26]
  rw [v_eq P h, mean_eq P h]
  rfl

theorem var_eq (h : Here b s c t) (e : Fin 1) : val_main_v29 (F := Ideal) P (Idealize.ShloMosaic.ix3 b s e) = var (act (V P c) t) := by
  pointwise [val_main_v29, val_main_v28, val_main_v25, val_main_v24, val_main_v23, val_main_v22, val_main_v19, val_main_cst_4, val_main_cst_5, val_main_cst_6]
  simp only [cen_eq P h, zero_add]
  rfl

theorem rs_eq (h : Here b s c t) (e : Fin 1) : val_main_v30 (F := Ideal) P (Idealize.ShloMosaic.ix3 b s e) = rs (act (V P c) t) := by
  rw [val_main_v30_apply, var_eq P h]
  rfl

theorem hs_eq (h : Here b s c t) (e : Fin 1) : val_main_v33 (F := Ideal) P (Idealize.ShloMosaic.ix3 b s e) = hs (act (V P c) t) := by
  pointwise [val_main_v33, val_main_v32, val_main_v31, val_main_cst_7]
  rw [rs_eq P h, var_eq P h]
  rfl

theorem hat_eq (h : Here b s c t) (j : Fin 256) : val_main_v35 (F := Ideal) P (Idealize.ShloMosaic.ix3 b s j) = hat (act (V P c) t) j := by
  pointwise [val_main_v35, val_main_v34]
  rw [cen_eq' P h, rs_eq P h]
  rfl

theorem vn_eq (h : Here b s c t) (j : Fin 256) : val_main_v41 (F := Ideal) P G B (Idealize.ShloMosaic.ix3 b s j) = vn (V P c) (gv G) (gv B) t j := by
  pointwise [val_main_v41, val_main_v40, val_main_v39, val_main_v38, val_main_v37, val_main_v36]
  rw [hat_eq P h]
  rfl

/-- Column `e` of group `g`, and position `r` of run `n` of sequence `b`. -/
abbrev col (g : Fin 4) (e : Fin 64) : Fin 256 := ⟨64 * g.val + e.val, by omega⟩
abbrev spot (n : Fin 16) (r : Fin 128) : Fin 2048 := ⟨128 * n.val + r.val, by omega⟩

theorem here (b : Fin 2) (n : Fin 16) (r : Fin 128) : Here b (spot n r) (16 * b.val + n.val) r := by
  unfold Here; show 2048 * b.val + (128 * n.val + r.val) = _; omega

theorem grp_col (g : Fin 4) (e : Fin 64) : grp (col g e) = g := Fin.ext (by show (64 * g.val + e.val) / 64 = g.val; omega)

/-- A row of 256 columns in four groups, and the rows of a sequence in sixteen runs. -/
theorem split_at (b : Fin 2) (n : Fin 16) (r : Fin 128) (g : Fin 4) (e : Fin 64) :
    idx_main_v42 (Idealize.ShloMosaic.ix5 b n r g e) = Idealize.ShloMosaic.ix3 b (spot n r) (col g e) := by
  funext a
  match a with
  | ⟨0, _⟩ => exact Fin.ext (by show ((((b.val * 16 + n.val) * 128 + r.val) * 4 + g.val) * 64 + e.val) / 524288 = b.val; omega)
  | ⟨1, _⟩ => exact Fin.ext (by show ((((b.val * 16 + n.val) * 128 + r.val) * 4 + g.val) * 64 + e.val) / 256 % 2048 = 128 * n.val + r.val; omega)
  | ⟨2, _⟩ => exact Fin.ext (by show ((((b.val * 16 + n.val) * 128 + r.val) * 4 + g.val) * 64 + e.val) % 256 = 64 * g.val + e.val; omega)

theorem vc_eq (b : Fin 2) (n : Fin 16) (r : Fin 128) (g : Fin 4) (e : Fin 64) :
    val_main_v42 (F := Ideal) P G B (Idealize.ShloMosaic.ix5 b n r g e) = vn (V P (16 * b.val + n.val)) (gv G) (gv B) r (col g e) := by
  rw [val_main_v42_apply, split_at, vn_eq P G B (here b n r)]

/-- The mask: a position with the positions up to it. -/
theorem mask_eq (k : Fin 4) (t r : Fin 128) (x y : EReal) :
    Scalar.select (val_main_v46_1 (F := Ideal) (Idealize.ShloMosaic.ix3 k t r)) x y = if r.val ≤ t.val then x else y := by
  have e : val_main_v46_1 (F := Ideal) (Idealize.ShloMosaic.ix3 k t r)
      = Scalar.select (IntOp.cmpi .sge (BitVec.ofNat 32 t.val) (BitVec.ofNat 32 r.val)) 1#1 0#1 := by
    rw [val_main_v46_1_apply, val_main_v45_apply, val_main_v44_apply, val_main_call0_v4_apply, val_main_call0_v2_apply,
      val_main_call0_v0_apply, val_main_call0_v3_apply, val_main_call0_v1_apply, val_main_call0_c_apply, val_main_v43_apply,
      val_main_c_apply, val_main_call0_v5_apply, val_main_call0_c_0_apply]
    simp only [IntOp.addi, BitVec.add_zero]
    rfl
  rw [e, select_sge _ _ (by omega) (by omega)]
  by_cases h : r.val ≤ t.val
  · rw [if_pos h, if_pos h]; rfl
  · rw [if_neg h, if_neg h]; rfl

theorem low_eq (k : Fin 4) (t r : Fin 128) : val_main_v46_0 (F := Ideal) W (Idealize.ShloMosaic.ix3 k t r) = low (wv W) k t r := by
  rw [val_main_v46_0_apply, mask_eq]
  simp only [val_main_call1_v2_apply, val_main_call1_v0_apply, val_main_cst_8_apply, Ideal.ofBits_def, Ideal.ofBits_zero_f32]
  rfl

/-- The mixed values. -/
theorem mixed_eq5 (b : Fin 2) (n : Fin 16) (r : Fin 128) (g : Fin 4) (e : Fin 64) :
    val_main_v53 (F := Ideal) P G B W S (Idealize.ShloMosaic.ix5 b n r g e)
      = mixed (V P (16 * b.val + n.val)) (gv G) (gv B) (wv W) (sv S) r (col g e) := by
  pointwise [val_main_v53, val_main_v52, val_main_v51, val_main_v50, val_main_v49, val_main_v48]
  refine (congrArg (· + S (Idealize.ShloMosaic.ix2 g r)) (val_main_v47_apply P G B W _)).trans ?_
  rw [add_comm]
  refine congrArg₂ (fun a b : EReal => a + b) (congrArg (fun k => S (Idealize.ShloMosaic.ix2 k r)) (grp_col g e).symm) (Finset.sum_congr rfl fun q _ => ?_)
  rw [mul_comm, grp_col]
  have el : lidx_main_v47 (Idealize.ShloMosaic.ix5 g b n e r) q = Idealize.ShloMosaic.ix5 b n q g e := by
    funext a
    match a with
    | ⟨0, _⟩ => rfl
    | ⟨1, _⟩ => rfl
    | ⟨2, _⟩ => rfl
    | ⟨3, _⟩ => rfl
    | ⟨4, _⟩ => rfl
  have er : ridx_main_v47 (Idealize.ShloMosaic.ix5 g b n e r) q = Idealize.ShloMosaic.ix3 g r q := by
    funext a
    match a with
    | ⟨0, _⟩ => rfl
    | ⟨1, _⟩ => rfl
    | ⟨2, _⟩ => rfl
  exact congrArg₂ (fun a b : EReal => a * b) ((congrArg (val_main_v46_0 (F := Ideal) W) er).trans (low_eq W g r q))
    ((congrArg (val_main_v42 (F := Ideal) P G B) el).trans (vc_eq P G B b n q g e))

/-- The other way round: a row and a column as run, position, group and column of the group. -/
theorem join_at (h : Here b s c t) (j : Fin 256) : idx_main_v54 (Idealize.ShloMosaic.ix3 b s j)
    = Idealize.ShloMosaic.ix5 b (⟨s.val / 128, by omega⟩ : Fin 16) t (grp j) (⟨j.val % 64, Nat.mod_lt _ (by decide)⟩ : Fin 64) := by
  have hb := b.isLt; have hs := s.isLt; have hj := j.isLt; have ht := t.isLt
  unfold Here at h
  funext a
  match a with
  | ⟨0, _⟩ => exact Fin.ext (by show ((b.val * 2048 + s.val) * 256 + j.val) / 524288 = b.val; omega)
  | ⟨1, _⟩ => exact Fin.ext (by show ((b.val * 2048 + s.val) * 256 + j.val) / 32768 % 16 = s.val / 128; omega)
  | ⟨2, _⟩ => exact Fin.ext (by show ((b.val * 2048 + s.val) * 256 + j.val) / 256 % 128 = t.val; omega)
  | ⟨3, _⟩ => exact Fin.ext (by show ((b.val * 2048 + s.val) * 256 + j.val) / 64 % 4 = j.val / 64; omega)
  | ⟨4, _⟩ => exact Fin.ext (by show ((b.val * 2048 + s.val) * 256 + j.val) % 64 = j.val % 64; omega)

theorem run_at (h : Here b s c t) : 16 * b.val + s.val / 128 = c := by
  have hs := s.isLt; have ht := t.isLt
  unfold Here at h; omega

theorem col_grp (j : Fin 256) : col (grp j) (⟨j.val % 64, Nat.mod_lt _ (by decide)⟩ : Fin 64) = j :=
  Fin.ext (by show 64 * (j.val / 64) + j.val % 64 = j.val; omega)

theorem mixed_eq (h : Here b s c t) (j : Fin 256) : val_main_v54 (F := Ideal) P G B W S (Idealize.ShloMosaic.ix3 b s j)
    = mixed (V P c) (gv G) (gv B) (wv W) (sv S) t j := by
  rw [val_main_v54_apply, join_at h, mixed_eq5]
  exact (congrArg (fun c => mixed (V P c) (gv G) (gv B) (wv W) (sv S) t _) (run_at h)).trans (congrArg _ (col_grp j))

end Cert.SguReferenceIdeal.Sgu

end
-- ==== Proof.Sgu.Sums.lean ====
/- The reference's sums over several axes, as sums over each. -/
module

public import proofs.«01_k».proof.Proof.Sgu.Values

@[expose] public section

set_option maxRecDepth 16384

noncomputable section

open Idealize.ShloMosaic Idealize.ShloMosaic.TcCoe Idealize.SL.Sem
open scoped BigOperators

namespace Cert.SguReferenceIdeal.Sgu

open Cert.SguReferenceIdeal Cert.SguReferenceIdeal.Gen Cert.SguReferenceIdeal.Read Cert.Rows Cert.Reals Cert.Sgu

/-- The sum over the first two axes and the last of five. -/
theorem sum_outer {a b u v w : ℕ} (h : (⟨5, ![a, b, u, v, w]⟩ : Shape).ReducesTo [0, 1, 4] ⟨2, ![u, v]⟩)
    (x : (⟨5, ![a, b, u, v, w]⟩ : Shape).Idx → EReal) (init : EReal) (p : Fin u) (q : Fin v) :
    Ideal.hostReduceAdd h x init (Idealize.ShloMosaic.ix2 p q)
      = init + ∑ i : Fin a, ∑ j : Fin b, ∑ k : Fin w, x (Idealize.ShloMosaic.ix5 i j p q k) := by
  unfold Ideal.hostReduceAdd
  refine congrArg (init + ·) ?_
  rw [← Fintype.sum_prod_type', ← Fintype.sum_prod_type']
  symm
  refine Finset.sum_bij' (fun ijk _ => Idealize.ShloMosaic.ix5 ijk.1.1 ijk.1.2 p q ijk.2) (fun i _ => ((i 0, i 1), i 4)) ?_ ?_ ?_ ?_ ?_
  · intro ijk _
    simp only [Finset.mem_filter, Finset.mem_univ, true_and]
    funext d
    match d with
    | ⟨0, _⟩ => rfl
    | ⟨1, _⟩ => rfl
  · intro i _; simp
  · intro ijk _; rfl
  · intro i hi
    simp only [Finset.mem_filter, Finset.mem_univ, true_and] at hi
    have h0 : i 2 = p := congrFun hi 0
    have h1 : i 3 = q := congrFun hi 1
    funext d
    match d with
    | ⟨0, _⟩ => rfl
    | ⟨1, _⟩ => rfl
    | ⟨2, _⟩ => exact h0.symm
    | ⟨3, _⟩ => exact h1.symm
    | ⟨4, _⟩ => rfl
  · intro ijk _; rfl

/-- A row of 256 columns summed over the columns of one group. -/
theorem sum_group (f : Fin 256 → EReal) (g : Fin 4) : (∑ j, if grp j = g then f j else 0) = ∑ e, f (col g e) := by
  rw [← Finset.sum_filter]
  symm
  refine Finset.sum_bij' (fun e _ => col g e) (fun j _ => (⟨j.val % 64, Nat.mod_lt _ (by decide)⟩ : Fin 64)) ?_ ?_ ?_ ?_ ?_
  · intro e _; simpa using grp_col g e
  · intro j _; simp
  · intro e _; exact Fin.ext (by show (64 * g.val + e.val) % 64 = e.val; omega)
  · intro j hj
    have hg : j.val / 64 = g.val := congrArg Fin.val (Finset.mem_filter.1 hj).2
    exact Fin.ext (by show 64 * g.val + j.val % 64 = j.val; omega)
  · intro e _; rfl

/-- The weights' product contracts sequence, run and column of the group. -/
abbrev dims := dot_S4x2x16x64x128_S2x16x128x4x64_S4x128x128_123_014_4_2_0_3

/-- A position among the contracted ones by its three coordinates. -/
def three (a : Fin 2) (n : Fin 16) (e : Fin 64) : dims.contr.Idx := fun x => match x with
  | ⟨0, _⟩ => a
  | ⟨1, _⟩ => n
  | ⟨2, _⟩ => e

theorem sum_three (f : dims.contr.Idx → EReal) : ∑ k, f k = ∑ a, ∑ n, ∑ e, f (three a n e) := by
  rw [← Fintype.sum_prod_type', ← Fintype.sum_prod_type']
  symm
  refine Finset.sum_bij' (fun ijk _ => three ijk.1.1 ijk.1.2 ijk.2)
    (fun k _ => (((k ⟨0, by decide⟩ : Fin 2), (k ⟨1, by decide⟩ : Fin 16)), (k ⟨2, by decide⟩ : Fin 64))) ?_ ?_ ?_ ?_ ?_
  · intro ijk _; exact Finset.mem_univ _
  · intro i _; exact Finset.mem_univ _
  · intro ijk _; rfl
  · intro i _
    funext d
    match d with
    | ⟨0, _⟩ => rfl
    | ⟨1, _⟩ => rfl
    | ⟨2, _⟩ => rfl
  · intro ijk _; rfl

theorem left_three (g : Fin 4) (t r : Fin 128) (a : Fin 2) (n : Fin 16) (e : Fin 64) :
    dims.lhsIdx (Idealize.ShloMosaic.ix3 g t r) (three a n e) = Idealize.ShloMosaic.ix5 g a n e t := by
  funext x
  match x with
  | ⟨0, _⟩ => rfl
  | ⟨1, _⟩ => rfl
  | ⟨2, _⟩ => rfl
  | ⟨3, _⟩ => rfl
  | ⟨4, _⟩ => rfl

theorem right_three (g : Fin 4) (t r : Fin 128) (a : Fin 2) (n : Fin 16) (e : Fin 64) :
    dims.rhsIdx (Idealize.ShloMosaic.ix3 g t r) (three a n e) = Idealize.ShloMosaic.ix5 a n r g e := by
  funext x
  match x with
  | ⟨0, _⟩ => rfl
  | ⟨1, _⟩ => rfl
  | ⟨2, _⟩ => rfl
  | ⟨3, _⟩ => rfl
  | ⟨4, _⟩ => rfl

/-- A sum over the two sequences and their sixteen runs is a sum over the runs counted through. -/
theorem sum_seq (f : ℕ → EReal) : ∑ b : Fin 2, ∑ n : Fin 16, f (16 * b.val + n.val) = ∑ n ∈ Finset.range 32, f n :=
  sum_runs 2 16 f

/-- A sum over the positions of both sequences, run by run. -/
theorem sum_rows (f : ℕ → Fin 128 → EReal) (F : Fin 2 → Fin 2048 → EReal) (h : ∀ b s c t, Here b s c t → F b s = f c t) :
    ∑ b, ∑ s, F b s = ∑ n ∈ Finset.range 32, ∑ t, f n t := by
  have e1 := sum_runs 2 2048 fun n => f (n / 128) ⟨n % 128, Nat.mod_lt _ (by decide)⟩
  have e2 := sum_runs 32 128 fun n => f (n / 128) ⟨n % 128, Nat.mod_lt _ (by decide)⟩
  refine Eq.trans ?_ (e1.trans (e2.symm.trans ?_))
  · exact Finset.sum_congr rfl fun b _ => Finset.sum_congr rfl fun s _ => h b s _ _ (by
      unfold Here; show 2048 * b.val + s.val = 128 * ((2048 * b.val + s.val) / 128) + (2048 * b.val + s.val) % 128; omega)
  · rw [← Fin.sum_univ_eq_sum_range (fun n => ∑ t, f n t)]
    refine Finset.sum_congr rfl fun n _ => Finset.sum_congr rfl fun t _ => ?_
    have ht := t.isLt
    exact congrArg₂ f (by omega) (Fin.ext (by show (128 * n.val + t.val) % 128 = t.val; omega))

end Cert.SguReferenceIdeal.Sgu

end
-- ==== Proof.Sgu.Grads.lean ====
/- What the reference's sums over positions hold: the cotangents of the mixing weights, of their offsets, and of the norm's
   scale and offset. -/
module

public import proofs.«01_k».proof.Proof.Sgu.Sums

@[expose] public section

set_option maxRecDepth 16384

noncomputable section

open Idealize.ShloMosaic Idealize.ShloMosaic.TcCoe Idealize.SL.Sem
open scoped BigOperators

namespace Cert.SguReferenceIdeal.Sgu

open Cert.SguReferenceIdeal Cert.SguReferenceIdeal.Gen Cert.SguReferenceIdeal.Read Cert.Rows Cert.Reals Cert.Sgu

variable (P : S2x2048x2950.Idx → EReal) (G B : S256.Idx → EReal) (W : S4x128x128.Idx → EReal) (S : S4x128.Idx → EReal) (D : S2x2048x1024.Idx → EReal)
variable {b : Fin 2} {s : Fin 2048} {c : ℕ} {t : Fin 128}

theorem ct_eq (h : Here b s c t) (j : Fin 256) : val_main_v56 (F := Ideal) D (Idealize.ShloMosaic.ix3 b s j) = E D c t j := by
  pointwise [val_main_v56]
  exact (at3_idx D _).trans (h.at D rfl)

theorem dm_eq (h : Here b s c t) (j : Fin 256) : val_main_v57 (F := Ideal) P D (Idealize.ShloMosaic.ix3 b s j) = dm (U P c) (E D c) t j := by
  rw [val_main_v57_apply, u_eq P h, ct_eq D h]
  rfl

theorem dmix_eq (h : Here b s c t) (j : Fin 256) : val_main_v58 (F := Ideal) P G B W S D (Idealize.ShloMosaic.ix3 b s j)
    = E D c t j * mixed (V P c) (gv G) (gv B) (wv W) (sv S) t j := by
  rw [val_main_v58_apply, mixed_eq P G B W S h, ct_eq D h]
  rfl

theorem dm5_eq (b : Fin 2) (n : Fin 16) (r : Fin 128) (g : Fin 4) (e : Fin 64) :
    val_main_v59 (F := Ideal) P D (Idealize.ShloMosaic.ix5 b n r g e) = dm (U P (16 * b.val + n.val)) (E D (16 * b.val + n.val)) r (col g e) := by
  rw [val_main_v59_apply]
  refine (congrArg (val_main_v57 (F := Ideal) P D) (split_at b n r g e)).trans (dm_eq P D (here b n r) _)

theorem dm6_eq (b : Fin 2) (n : Fin 16) (r : Fin 128) (g : Fin 4) (e : Fin 64) :
    val_main_v66 (F := Ideal) P D (Idealize.ShloMosaic.ix5 g b n e r) = dm (U P (16 * b.val + n.val)) (E D (16 * b.val + n.val)) r (col g e) := by
  pointwise [val_main_v66]
  exact dm5_eq P D b n r g e

/-- The normalised values' cotangent. -/
theorem dn5_eq (b : Fin 2) (n : Fin 16) (r : Fin 128) (g : Fin 4) (e : Fin 64) :
    val_main_v69 (F := Ideal) P W D (Idealize.ShloMosaic.ix5 b n r g e)
      = dn (U P (16 * b.val + n.val)) (E D (16 * b.val + n.val)) (wv W) r (col g e) := by
  pointwise [val_main_v69]
  refine (val_main_v68_apply P W D _).trans (Finset.sum_congr rfl fun q _ => ?_)
  have el : lidx_main_v68 (Idealize.ShloMosaic.ix5 g b n e r) q = Idealize.ShloMosaic.ix5 g b n e q := by
    funext a
    match a with
    | ⟨0, _⟩ => rfl
    | ⟨1, _⟩ => rfl
    | ⟨2, _⟩ => rfl
    | ⟨3, _⟩ => rfl
    | ⟨4, _⟩ => rfl
  have er : ridx_main_v68 (Idealize.ShloMosaic.ix5 g b n e r) q = Idealize.ShloMosaic.ix3 g q r := by
    funext a
    match a with
    | ⟨0, _⟩ => rfl
    | ⟨1, _⟩ => rfl
    | ⟨2, _⟩ => rfl
  rw [grp_col]
  exact congrArg₂ (fun a b : EReal => a * b) ((congrArg (val_main_v66 (F := Ideal) P D) el).trans (dm6_eq P D b n q g e))
    ((congrArg (val_main_v46_0 (F := Ideal) W) er).trans (low_eq W g q r))

theorem dn_eq (h : Here b s c t) (j : Fin 256) : val_main_v71 (F := Ideal) P W D (Idealize.ShloMosaic.ix3 b s j)
    = dn (U P c) (E D c) (wv W) t j := by
  have hj := j.isLt
  have hs := s.isLt
  rw [val_main_v71_apply]
  refine (congrArg (val_main_v69 (F := Ideal) P W D) (join_at h j)).trans ((dn5_eq P W D _ _ _ _ _).trans ?_)
  exact (congrArg (fun c => dn (U P c) (E D c) (wv W) t _) (run_at h)).trans (congrArg _ (col_grp j))

theorem zero_word : FloatOps.sitofp (F := Ideal) .f32 (0#32) = (0 : EReal) := by
  show (((0#32 : BitVec 32).toInt : ℝ) : EReal) = 0
  simp

/-- The offsets' cotangent, over the eight columns of the result. -/
theorem ds_eq (t : Fin 128) (k : Fin 8) : val_main_v127 (F := Ideal) P D (Idealize.ShloMosaic.ix2 t k)
    = ∑ n ∈ Finset.range 32, ds (U P n) (E D n) t k := by
  have e60 : ∀ (t : Fin 128) (k : Fin 4), val_main_v60 (F := Ideal) P D (Idealize.ShloMosaic.ix2 t k)
      = ∑ n ∈ Finset.range 32, ∑ e, dm (U P n) (E D n) t (col k e) := by
    intro t k
    unfold val_main_v60
    simp only [Host.reduceAdd, Ideal.hostReduceAdd_def]
    refine (sum_outer _ _ _ _ _).trans ?_
    simp only [val_main_cst_9_apply, Ideal.ofBits_def, Ideal.ofBits_zero_f32, zero_add, dm5_eq]
    exact sum_seq fun n => ∑ e, dm (U P n) (E D n) t (col k e)
  have e62 : ∀ (t : Fin 128) (k : Fin 4), val_main_v62 (F := Ideal) P D (Idealize.ShloMosaic.ix2 t k)
      = val_main_v60 (F := Ideal) P D (Idealize.ShloMosaic.ix2 t k) := by
    intro t k
    unfold val_main_v62
    simp only [Host.reduceAdd, Ideal.hostReduceAdd_def]
    refine (sum_outer _ _ _ _ _).trans ?_
    simp only [val_main_cst_10_apply, Ideal.ofBits_def, Ideal.ofBits_zero_f32, zero_add, Fin.sum_univ_one, val_main_v61_apply]
    refine congrArg (val_main_v60 (F := Ideal) P D) (funext fun a => ?_)
    have hk := k.isLt
    match a with
    | ⟨0, _⟩ => exact Fin.ext (by show ((((0 * 1 + 0) * 128 + t.val) * 4 + k.val) * 1 + 0) / 4 = t.val; omega)
    | ⟨1, _⟩ => exact Fin.ext (by show ((((0 * 1 + 0) * 128 + t.val) * 4 + k.val) * 1 + 0) % 4 = k.val; omega)
  have e126 : ∀ (t : Fin 128) (k : Fin 4), val_main_v126 (F := Ideal) P D (Idealize.ShloMosaic.ix2 t k)
      = ∑ n ∈ Finset.range 32, ∑ e, dm (U P n) (E D n) t (col k e) := by
    intro t k
    pointwise [val_main_v126, val_main_v65, val_main_v64, val_main_v63, val_main_cst_11]
    simp only [Fin.sum_univ_one, zero_add, e62, e60]
  pointwise [val_main_v127]
  by_cases h : k.val < 4
  · refine (dif_pos h).trans ((e126 t ⟨k.val, h⟩).trans (Finset.sum_congr rfl fun n _ => ?_))
    unfold ds
    refine (sum_group (fun j => dm (U P n) (E D n) t j) ⟨k.val, h⟩).symm.trans (Finset.sum_congr rfl fun j _ => ?_)
    by_cases hj : k.val = j.val / 64
    · rw [if_pos hj, mul_one, if_pos (Fin.ext hj.symm)]
    · rw [if_neg hj, mul_zero, if_neg fun e => hj (congrArg Fin.val e).symm]
  · refine (dif_neg h).trans ?_
    have z : ∀ n, ds (U P n) (E D n) t k = 0 := fun n => Finset.sum_eq_zero fun j _ => by
      have hj := j.isLt
      rw [if_neg (by omega), mul_zero]
    simp only [z, Finset.sum_const_zero]
    rw [val_main_call3_v0_apply, val_main_c_27_apply]
    exact zero_word

/-- The mixing weights' cotangent. -/
theorem dw_eq (k : Fin 4) (t r : Fin 128) : val_main_v70 (F := Ideal) P G B D (Idealize.ShloMosaic.ix3 k t r)
    = ∑ n ∈ Finset.range 32, dw (U P n) (V P n) (E D n) (gv G) (gv B) k t r := by
  have e67 : val_main_v67 (F := Ideal) P G B D (Idealize.ShloMosaic.ix3 k t r)
      = ∑ n ∈ Finset.range 32, ∑ e, dm (U P n) (E D n) t (col k e) * vn (V P n) (gv G) (gv B) r (col k e) := by
    unfold val_main_v67
    simp only [Host.dotGeneral]
    rw [Ideal.dotGeneral_apply]
    refine (sum_three _).trans ?_
    simp only [left_three, right_three, dm6_eq, vc_eq]
    exact sum_seq fun n => ∑ e, dm (U P n) (E D n) t (col k e) * vn (V P n) (gv G) (gv B) r (col k e)
  rw [val_main_v70_apply, mask_eq, e67]
  by_cases h : r.val ≤ t.val
  · rw [if_pos h]
    refine Finset.sum_congr rfl fun n _ => ?_
    unfold dw
    rw [if_pos h]
    simp only [ite_mul, zero_mul]
    exact (sum_group (fun j => dm (U P n) (E D n) t j * vn (V P n) (gv G) (gv B) r j) k).symm
  · rw [if_neg h]
    simp only [dw, if_neg h, Finset.sum_const_zero, val_main_call2_v0_apply]
    exact Ideal.ofBits_zero_f32

/-- The norm's offset's cotangent, and its scale's. -/
theorem db_eq (j : Fin 256) : val_main_v74 (F := Ideal) P W D (Idealize.ShloMosaic.ix1 j)
    = ∑ n ∈ Finset.range 32, db (U P n) (E D n) (wv W) j := by
  unfold val_main_v74
  simp only [Host.reduceAdd, Ideal.hostReduceAdd_def]
  refine (hostReduceAdd_rows (a := 1) (b := 1) (n := 256) _ _ _ _).trans ?_
  simp only [Fin.sum_univ_one, val_main_v73_apply, val_main_cst_13_apply, Ideal.ofBits_def, Ideal.ofBits_zero_f32, zero_add]
  have e : idx_main_v73 (Idealize.ShloMosaic.ix3 (0 : Fin 1) (0 : Fin 1) j) = Idealize.ShloMosaic.ix1 j := by
    funext a
    match a with
    | ⟨0, _⟩ => exact Fin.ext (by show (0 * 1 + 0) * 256 + j.val = j.val; omega)
  refine (congrArg (val_main_v72 (F := Ideal) P W D) e).trans ?_
  unfold val_main_v72
  simp only [Host.reduceAdd, Ideal.hostReduceAdd_def]
  refine (hostReduceAdd_rows (a := 2) (b := 2048) (n := 256) _ _ _ _).trans ?_
  simp only [val_main_cst_12_apply, Ideal.ofBits_def, Ideal.ofBits_zero_f32, zero_add]
  exact sum_rows (fun n t => dn (U P n) (E D n) (wv W) t j) _ fun b s c t h => dn_eq P W D h j

theorem dg_eq (j : Fin 256) : val_main_v80 (F := Ideal) P W D (Idealize.ShloMosaic.ix1 j)
    = ∑ n ∈ Finset.range 32, dg (U P n) (V P n) (E D n) (wv W) j := by
  unfold val_main_v80
  simp only [Host.reduceAdd, Ideal.hostReduceAdd_def]
  refine (hostReduceAdd_rows (a := 1) (b := 1) (n := 256) _ _ _ _).trans ?_
  simp only [Fin.sum_univ_one, val_main_v77_apply, val_main_cst_15_apply, Ideal.ofBits_def, Ideal.ofBits_zero_f32, zero_add]
  have e : idx_main_v77 (Idealize.ShloMosaic.ix3 (0 : Fin 1) (0 : Fin 1) j) = Idealize.ShloMosaic.ix1 j := by
    funext a
    match a with
    | ⟨0, _⟩ => exact Fin.ext (by show (0 * 1 + 0) * 256 + j.val = j.val; omega)
  refine (congrArg (val_main_v76 (F := Ideal) P W D) e).trans ?_
  unfold val_main_v76
  simp only [Host.reduceAdd, Ideal.hostReduceAdd_def]
  refine (hostReduceAdd_rows (a := 2) (b := 2048) (n := 256) _ _ _ _).trans ?_
  simp only [val_main_cst_14_apply, Ideal.ofBits_def, Ideal.ofBits_zero_f32, zero_add]
  refine sum_rows (fun n t => hat (act (V P n) t) j * dn (U P n) (E D n) (wv W) t j) _ fun b s c t h => ?_
  rw [val_main_v75_apply]
  exact congrArg₂ (fun a b : EReal => a * b) (hat_eq P h j) (dn_eq P W D h j)

/-- The two rows of the norm's cotangents, over six of zeros. -/
theorem dln_eq (i : Fin 8) (j : Fin 256) : val_main_v125 (F := Ideal) P W D (Idealize.ShloMosaic.ix2 i j)
    = ∑ n ∈ Finset.range 32, if i.val = 0 then dg (U P n) (V P n) (E D n) (wv W) j
        else if i.val = 1 then db (U P n) (E D n) (wv W) j else 0 := by
  pointwise [val_main_v125, val_main_v123, val_main_v124, val_main_v120, val_main_cst_26]
  by_cases h0 : i.val = 0
  · refine (dif_pos (by omega)).trans ?_
    simp only [if_pos h0, dg_eq]
  · refine (dif_neg (by omega)).trans ?_
    simp only [if_neg h0]
    by_cases h1 : i.val = 1
    · refine (dif_pos (by omega)).trans ?_
      simp only [if_pos h1, db_eq]
    · refine (dif_neg (by omega)).trans ?_
      simp only [if_neg h1, Finset.sum_const_zero]

end Cert.SguReferenceIdeal.Sgu

end
-- ==== Proof.Sgu.Through.lean ====
/- What the reference's two large results hold: a cotangent through the norm and through the activation. -/
module

public import proofs.«01_k».proof.Proof.Sgu.Layer
public import proofs.«01_k».proof.Proof.Sgu.Grads

@[expose] public section

set_option maxRecDepth 16384

noncomputable section

open Idealize.ShloMosaic Idealize.ShloMosaic.TcCoe Idealize.SL.Sem
open scoped BigOperators

namespace Cert.SguReferenceIdeal.Sgu

open Cert.SguReferenceIdeal Cert.SguReferenceIdeal.Gen Cert.SguReferenceIdeal.Read Cert.Rows Cert.Reals Cert.Sgu

variable (P : S2x2048x2950.Idx → EReal) (G B : S256.Idx → EReal) (W : S4x128x128.Idx → EReal) (S : S4x128.Idx → EReal) (D : S2x2048x1024.Idx → EReal)
variable {b : Fin 2} {s : Fin 2048} {c : ℕ} {t : Fin 128}

/-- What comes in at the normalised row, times the scale. -/
abbrev inc (c : ℕ) (t : Fin 128) (j : Fin 256) : EReal := dn (U P c) (E D c) (wv W) t j * gv G j

theorem inc_eq (h : Here b s c t) (j : Fin 256) : val_main_v79 (F := Ideal) P G W D (Idealize.ShloMosaic.ix3 b s j) = inc P G W D c t j := by
  pointwise [val_main_v79, val_main_v78, val_main_v36]
  rw [dn_eq P W D h]

theorem flat_eq (h : Here b s c t) (j : Fin 256) : val_main_v85 (F := Ideal) P G W D (Idealize.ShloMosaic.ix3 b s j)
    = inc P G W D c t j * rs (act (V P c) t) := by
  pointwise [val_main_v85, val_main_v84]
  rw [inc_eq P G W D h, rs_eq P h]

theorem tilt_eq (h : Here b s c t) (e : Fin 1) : val_main_v91 (F := Ideal) P G W D (Idealize.ShloMosaic.ix3 b s e)
    = tilt (act (V P c) t) (inc P G W D c t) := by
  pointwise [val_main_v91, val_main_v90, val_main_v86, val_main_v83, val_main_v82, val_main_v81, val_main_cst_16, val_main_cst_18]
  simp only [inc_eq P G W D h, cen_eq' P h, hs_eq P h, zero_add]
  rfl

theorem bent_eq (h : Here b s c t) (j : Fin 256) : val_main_v94 (F := Ideal) P G W D (Idealize.ShloMosaic.ix3 b s j)
    = tilt (act (V P c) t) (inc P G W D c t) * (two * cen (act (V P c) t) j) := by
  pointwise [val_main_v94, val_main_v93, val_main_v92, val_main_v21, val_main_v20, val_main_cst_3, val_main_cst_19]
  simp only [tilt_eq P G W D h, cen_eq P h, zero_add, Fin.sum_univ_one]

theorem back_eq' (h : Here b s c t) (j : Fin 256) : val_main_v104 (F := Ideal) P G W D (Idealize.ShloMosaic.ix3 b s j)
    = back' (act (V P c) t) (inc P G W D c t) j := by
  pointwise [val_main_v104, val_main_v103, val_main_v102, val_main_v101, val_main_v100, val_main_v99, val_main_v98, val_main_v97, val_main_v96,
    val_main_v95, val_main_v89, val_main_v88, val_main_v87, val_main_cst_17, val_main_cst_20, val_main_cst_21, val_main_cst_22]
  simp only [flat_eq P G W D h, bent_eq P G W D h, zero_add, Fin.sum_univ_one]
  rfl

theorem minus_bell : Ideal.ofBits .f32 0xBF906EBB#32 = -bell := by
  simp only [bell, Ideal.ofBits, Ideal.ieee]; simp

/-- A cotangent through the activation, as the reference spells it. -/
theorem through_eq (b : Fin 2) (s : Fin 2048) (j : Fin 512) : val_main_v116 (F := Ideal) P G B W S D (Idealize.ShloMosaic.ix3 b s j)
    = through (val_main_v105 (F := Ideal) P G B W S D (Idealize.ShloMosaic.ix3 b s j)) (at3 P b.val s.val (2438 + j.val)) := by
  pointwise [val_main_v116, val_main_v115, val_main_v114, val_main_v113, val_main_v112, val_main_v111, val_main_v110, val_main_v109, val_main_v108,
    val_main_v107, val_main_v106, val_main_cst_23, val_main_cst_24, val_main_cst_25, val_main_v9, val_main_v8, val_main_v7,
    val_main_v2, val_main_v1, val_main_cst, val_main_v6, val_main_v5, val_main_v4, val_main_cst_0, val_main_v3, val_main_v0]
  simp only [at3_ix, minus_bell, neg_mul, mul_neg, neg_neg, Ideal.erfc_neg]
  unfold through
  rw [zero_sub]

theorem du_at (h : Here b s c t) (j : Fin 256) :
    val_main_v116 (F := Ideal) P G B W S D (Idealize.ShloMosaic.ix3 b s (⟨j.val, by omega⟩ : Fin 512))
      = du (U P c) (V P c) (E D c) (gv G) (gv B) (wv W) (sv S) t j := by
  have hj := j.isLt
  refine (through_eq P G B W S D _ _ _).trans ?_
  have e : val_main_v105 (F := Ideal) P G B W S D (Idealize.ShloMosaic.ix3 b s (⟨j.val, by omega⟩ : Fin 512))
      = E D c t j * mixed (V P c) (gv G) (gv B) (wv W) (sv S) t j := by
    pointwise [val_main_v105]
    exact dmix_eq P G B W S D h j
  exact congrArg₂ through e (h.at P rfl)

theorem dv_at (h : Here b s c t) (j : Fin 256) :
    val_main_v116 (F := Ideal) P G B W S D (Idealize.ShloMosaic.ix3 b s (⟨256 + j.val, by omega⟩ : Fin 512))
      = through (back' (act (V P c) t) (inc P G W D c t) j) (V P c t j) := by
  have hj := j.isLt
  refine (through_eq P G B W S D _ _ _).trans ?_
  have e : val_main_v105 (F := Ideal) P G B W S D (Idealize.ShloMosaic.ix3 b s (⟨256 + j.val, by omega⟩ : Fin 512))
      = back' (act (V P c) t) (inc P G W D c t) j := by
    pointwise [val_main_v105]
    exact back_eq' P G W D h j
  exact congrArg₂ through e (h.at P (by show 2438 + (256 + j.val) = 2694 + j.val; omega))

/-- Row `i` of the 4096 is position `i mod 128` of run `i / 128`. -/
theorem here_row (i : Fin 4096) : Here (⟨i.val / 2048, by omega⟩ : Fin 2) (⟨i.val % 2048, Nat.mod_lt _ (by decide)⟩ : Fin 2048) (i.val / 128)
    (⟨i.val % 128, Nat.mod_lt _ (by decide)⟩ : Fin 128) := by
  unfold Here; show 2048 * (i.val / 2048) + i.val % 2048 = 128 * (i.val / 128) + i.val % 128; omega

theorem du_eq (i : Fin 4096) (j : Fin 256) : val_main_v121 (F := Ideal) P G B W S D (Idealize.ShloMosaic.ix2 i j)
    = du (U P (i.val / 128)) (V P (i.val / 128)) (E D (i.val / 128)) (gv G) (gv B) (wv W) (sv S) (⟨i.val % 128, Nat.mod_lt _ (by decide)⟩ : Fin 128) j := by
  have hi := i.isLt; have hj := j.isLt
  refine Eq.trans ?_ (du_at P G B W S D (here_row i) j)
  rw [val_main_v121_apply, val_main_v118_apply, val_main_v117_apply]
  refine congrArg (val_main_v116 (F := Ideal) P G B W S D) (funext fun a => ?_)
  match a with
  | ⟨0, _⟩ => exact Fin.ext (by show (i.val * 512 + j.val) / 1048576 = i.val / 2048; omega)
  | ⟨1, _⟩ => exact Fin.ext (by show (i.val * 512 + j.val) / 512 % 2048 = i.val % 2048; omega)
  | ⟨2, _⟩ => exact Fin.ext (by show (i.val * 512 + j.val) % 512 = j.val; omega)

theorem dv_eq (i : Fin 4096) (j : Fin 256) : val_main_v122 (F := Ideal) P G B W S D (Idealize.ShloMosaic.ix2 i j)
    = through (back' (act (V P (i.val / 128)) (⟨i.val % 128, Nat.mod_lt _ (by decide)⟩ : Fin 128))
        (inc P G W D (i.val / 128) (⟨i.val % 128, Nat.mod_lt _ (by decide)⟩ : Fin 128)) j)
      (V P (i.val / 128) (⟨i.val % 128, Nat.mod_lt _ (by decide)⟩ : Fin 128) j) := by
  have hi := i.isLt; have hj := j.isLt
  refine Eq.trans ?_ (dv_at P G B W S D (here_row i) j)
  rw [val_main_v122_apply, val_main_v119_apply, val_main_v117_apply]
  refine congrArg (val_main_v116 (F := Ideal) P G B W S D) (funext fun a => ?_)
  match a with
  | ⟨0, _⟩ => exact Fin.ext (by show (i.val * 512 + (256 + j.val)) / 1048576 = i.val / 2048; omega)
  | ⟨1, _⟩ => exact Fin.ext (by show (i.val * 512 + (256 + j.val)) / 512 % 2048 = i.val % 2048; omega)
  | ⟨2, _⟩ => exact Fin.ext (by show (i.val * 512 + (256 + j.val)) % 512 = 256 + j.val; omega)

/-- On real arguments the values' cotangent is the kernel's. -/
theorem dv_real (hP : ∀ p q k, k < 512 → IsReal (at3 P p q (2438 + k))) (hG : ∀ j, IsReal (gv G j)) (hW : ∀ k t r, IsReal (wv W k t r))
    (hD : ∀ p q k, k < 256 → IsReal (at3 D p q (768 + k))) (c : ℕ) (t : Fin 128) (j : Fin 256) :
    through (back' (act (V P c) t) (inc P G W D c t) j) (V P c t j)
      = dv (U P c) (V P c) (E D c) (gv G) (wv W) t j := by
  unfold dv
  refine congrArg (fun a => through a (V P c t j)) (back_eq _ _ (fun k => gelu_real ?_) (fun k => ?_) j)
  · have := hP ((128 * c + t.val) / 2048) ((128 * c + t.val) % 2048) (256 + k.val) (by omega)
    rwa [show 2438 + (256 + k.val) = 2694 + k.val by omega] at this
  · refine IsReal.mul (IsReal.sum _ fun r => IsReal.mul (IsReal.mul (gelu_real (hP _ _ _ (by omega))) (hD _ _ _ (by omega))) ?_) (hG k)
    unfold low
    split
    · exact hW _ _ _
    · exact IsReal.zero

end Cert.SguReferenceIdeal.Sgu

end
-- ==== Proof.Sgu.Equation.lean ====
/- The gating unit's derivative: the kernel leaves what the reference computes. -/
module

public import proofs.«01_k».proof.Proof.Common.Finite
public import proofs.«01_k».proof.Proof.Sgu.Arrays
public import proofs.«01_k».proof.Proof.Sgu.Through
public import proofs.«01_k».proof.Proof.Gen.SguReferenceIdeal.Run
public import Idealize.ShloMosaic.Lib.Claim
public import proofs.«01_k».proof.Defs

@[expose] public section

set_option maxRecDepth 100000

noncomputable section

open Idealize.ShloMosaic Idealize.ShloMosaic.TcCoe Idealize.SL.Sem

namespace Cert.Sgu

open Cert.SguKernelIdeal Cert.SguKernelIdeal.Sgu Cert.Reals Cert.Rows

variable (m : (ℓ : Loc nD τ sig) → Buf (Elt Ideal) ℓ) (c : Dev nD)

/-- A column of an array some of whose columns hold real numbers. -/
theorem real_column {w lo v : ℕ} [NeZero w] (X : (⟨3, ![2, 2048, w]⟩ : Shape).Idx → EReal) (hs : (⟨3, ![2, 2048, w]⟩ : Shape).Slices ![0, 0, lo] ⟨3, ![2, 2048, v]⟩)
    (hw : lo + v ≤ w) (h : extractStridedSlice ⟨3, ![2, 2048, v]⟩ ![0, 0, lo] X hs = fun i => (((extractStridedSlice ⟨3, ![2, 2048, v]⟩ ![0, 0, lo] X hs i).toReal : ℝ) : EReal))
    (p q k : ℕ) (hk : k < v) : IsReal (at3 X p q (lo + k)) := by
  refine ⟨_, Eq.trans ?_ (congrFun h (ix3 (Fin.ofNat 2 p) (Fin.ofNat 2048 q) (⟨k, hk⟩ : Fin v)))⟩
  refine congrArg X (funext fun a => ?_)
  match a with
  | ⟨0, _⟩ => exact Fin.ext (by show p % 2 = 0 + p % 2; omega)
  | ⟨1, _⟩ => exact Fin.ext (by show q % 2048 = 0 + q % 2048; omega)
  | ⟨2, _⟩ => exact Fin.ext (Nat.mod_eq_of_lt (by omega))

/-- What the precondition gives: the columns the unit reads, the scale, the mixing weights and the cotangent hold real numbers. -/
theorem holds [Cert.Pre_sgu_finite.Facts] (h : Cert.Pre_SguKernelIdeal_sgu_finite m) :
    (∀ p q k, k < 512 → IsReal (at3 (argP m c) p q (2438 + k))) ∧ (∀ j, IsReal (argG m c (ix1 j)))
      ∧ (∀ k t r, IsReal (argW m c (ix3 k t r))) ∧ ∀ p q k, k < 256 → IsReal (at3 (argD m c) p q (768 + k)) := by
  obtain ⟨h012, h3⟩ := both (h c)
  obtain ⟨h01, h2⟩ := both h012
  obtain ⟨h0, h1⟩ := both h01
  exact ⟨real_column _ _ (by norm_num) (reals_of_all _ _ _ _ h0), fun j => ⟨_, congrFun (reals_of_all _ _ _ _ h1) _⟩,
    fun k t r => ⟨_, congrFun (reals_of_all _ _ _ _ h2) _⟩, real_column _ _ (by norm_num) (reals_of_all _ _ _ _ h3)⟩

theorem eq_du : Cert.SguReferenceIdeal.Read.val_main_v121 (F := Ideal) (argP m c) (argG m c) (argB m c) (argW m c) (argS m c) (argD m c)
    = (Gen.dats m 0 c).arrAt 7 (cfgs 0).N := by
  refine Eq.trans (funext fun i => ?_) (final_du m c).symm
  idx_vars i
  exact Cert.SguReferenceIdeal.Sgu.du_eq _ _ _ _ _ _ _ _

theorem eq_dv [Cert.Pre_sgu_finite.Facts] (h : Cert.Pre_SguKernelIdeal_sgu_finite m) :
    Cert.SguReferenceIdeal.Read.val_main_v122 (F := Ideal) (argP m c) (argG m c) (argB m c) (argW m c) (argS m c) (argD m c)
    = (Gen.dats m 0 c).arrAt 8 (cfgs 0).N := by
  obtain ⟨hP, hG, hW, hD⟩ := holds m c h
  refine Eq.trans (funext fun i => ?_) (final_dv m c).symm
  idx_vars i
  exact (Cert.SguReferenceIdeal.Sgu.dv_eq _ _ _ _ _ _ _ _).trans (Cert.SguReferenceIdeal.Sgu.dv_real _ _ _ _ hP hG hW hD _ _ _)

theorem eq_dln : Cert.SguReferenceIdeal.Read.val_main_v125 (F := Ideal) (argP m c) (argW m c) (argD m c) = (Gen.dats m 0 c).arrAt 9 (cfgs 0).N := by
  refine Eq.trans (funext fun i => ?_) (final_dln m c).symm
  idx_vars i
  exact Cert.SguReferenceIdeal.Sgu.dln_eq _ _ _ _ _

theorem eq_dw : Cert.SguReferenceIdeal.Read.val_main_v70 (F := Ideal) (argP m c) (argG m c) (argB m c) (argD m c) = (Gen.dats m 0 c).arrAt 10 (cfgs 0).N := by
  refine Eq.trans (funext fun i => ?_) (final_dw m c).symm
  idx_vars i
  exact Cert.SguReferenceIdeal.Sgu.dw_eq _ _ _ _ _ _ _

theorem eq_ds : Cert.SguReferenceIdeal.Read.val_main_v127 (F := Ideal) (argP m c) (argD m c) = (Gen.dats m 0 c).arrAt 11 (cfgs 0).N := by
  refine Eq.trans (funext fun i => ?_) (final_ds m c).symm
  idx_vars i
  exact Cert.SguReferenceIdeal.Sgu.ds_eq _ _ _ _

/-- The two programs end with equal results. -/
theorem equation [Cert.Pre_sgu_finite.Facts] : Cert.algebraic_SguKernelIdeal_SguReferenceIdeal_pre_sgu_finite := by
  pair_intro
  · run_from (Value.run_blocks m g)
  · refine (θ_run _ _ _).mono (fun r h c => ?_) (Cert.SguReferenceIdeal.Value.run (F := Ideal) m' g')
    obtain ⟨h0, h1, h2, h3, h4, h⟩ := h c
    obtain ⟨a0, a1, a2, a3, a4, a5⟩ := hagree c
    refine ⟨h0.trans ?_, h1.trans ?_, h2.trans ?_, h3.trans ?_, h4.trans ?_, h⟩
    · refine (Cert.SguReferenceIdeal.Read.val_main_v121_eq (F := Ideal) m' c).trans ?_
      rw [a0, a1, a2, a3, a4, a5]
      exact eq_du m c
    · refine (Cert.SguReferenceIdeal.Read.val_main_v122_eq (F := Ideal) m' c).trans ?_
      rw [a0, a1, a2, a3, a4, a5]
      exact eq_dv m c hpre
    · refine (Cert.SguReferenceIdeal.Read.val_main_v125_eq (F := Ideal) m' c).trans ?_
      rw [a0, a3, a5]
      exact eq_dln m c
    · refine (Cert.SguReferenceIdeal.Read.val_main_v70_eq (F := Ideal) m' c).trans ?_
      rw [a0, a1, a2, a5]
      exact eq_dw m c
    · refine (Cert.SguReferenceIdeal.Read.val_main_v127_eq (F := Ideal) _ _).trans ?_
      rw [a0, a5]
      exact eq_ds m c

end Cert.Sgu

end
-- ==== Proof.AttnBwd.Entry.lean ====
/- The arrays the kernel is given: the projection's columns in the kernels' order, the forward pass's output and row
   log-totals, the cotangent and the table of masks. -/
module

public import proofs.«01_k».proof.Proof.Attn.Final
public import proofs.«01_k».proof.Proof.Gen.AttnBwdKernelIdeal.Frame

@[expose] public section

set_option maxRecDepth 200000

noncomputable section

open Idealize.ShloMosaic Idealize.ShloMosaic.TcCoe Idealize.SL.Sem

namespace Cert.AttnBwd

open Cert.AttnBwdKernelIdeal Cert.AttnBwdKernelIdeal.Gen Cert.Rows Cert.Cols
open Cert.Attn (cols masks count diff cst cstF)
open Cert.AttnFwdReferenceIdeal.Read

/-- Valuations of the host's buffers, and the host's operations before the kernel. -/
abbrev Vals := Valuation τ sig (Elt Ideal)
abbrev Ops := List (HloOp τ sig (Elt Ideal))
abbrev ops : Ops := List.flatten [hostOps0, hostOps0_1]

theorem after_split (k : ℕ) (l : Ops) (σ : Vals) : StableHlo.after l σ = StableHlo.after (l.drop k) (StableHlo.after (l.take k) σ) := by
  induction l generalizing k σ with
  | nil => simp
  | cons op l h => cases k with
    | zero => rfl
    | succ k => exact h k (op.result σ)

/-- What the buffers hold. -/
abbrev arg (σ : Vals) : FVec Ideal S2x2048x2950 .f32 := σ (Proc.devRef .tc main_arg0)
abbrev at9 (σ : Vals) : FVec Ideal S2x6x2048x2048 .f32 := σ (Proc.devRef .tc main_v9)
abbrev at6 (σ : Vals) : FVec Ideal S2x2048x6x64 .f32 := σ (Proc.devRef .tc main_v6)
abbrev at12 (σ : Vals) : IVec S2048x2048 32 := σ (Proc.devRef .tc main_v12)
abbrev at22 (σ : Vals) : IVec S2048x2048 1 := σ (Proc.devRef .tc main_v22)
abbrev at32 (σ : Vals) : IVec S2048x2048 1 := σ (Proc.devRef .tc main_v32)
abbrev at42 (σ : Vals) : IVec S2048x2048 1 := σ (Proc.devRef .tc main_v42)
abbrev at52 (σ : Vals) : FVec Ideal S3x2x6x2048x2048 .f32 := σ (Proc.devRef .tc main_v52)
abbrev at53 (σ : Vals) : FVec Ideal S3x2x6x2048 .f32 := σ (Proc.devRef .tc main_v53)
abbrev at54 (σ : Vals) : FVec Ideal S3x2x6x2048x1 .f32 := σ (Proc.devRef .tc main_v54)
abbrev at57 (σ : Vals) : FVec Ideal S3x2x6x2048x2048 .f32 := σ (Proc.devRef .tc main_v57)
abbrev at58 (σ : Vals) : FVec Ideal S3x2x6x2048 .f32 := σ (Proc.devRef .tc main_v58)
abbrev at63 (σ : Vals) : FVec Ideal S3x2x6x2048x64 .f32 := σ (Proc.devRef .tc main_v63)
abbrev at66 (σ : Vals) : FVec Ideal S3x2x6x2048 .f32 := σ (Proc.devRef .tc main_v66)
abbrev at67 (σ : Vals) : FVec Ideal S2x6x2048 .f32 := σ (Proc.devRef .tc main_v67)
abbrev at72 (σ : Vals) : FVec Ideal S2x6x2048 .f32 := σ (Proc.devRef .tc main_v72)
abbrev at71 (σ : Vals) : FVec Ideal S3x2x6x2048 .f32 := σ (Proc.devRef .tc main_v71)
abbrev at80 (σ : Vals) : FVec Ideal S2x2048x6x64 .f32 := σ (Proc.devRef .tc main_v80)
abbrev at82 (σ : Vals) : FVec Ideal S2x6x2048 .f32 := σ (Proc.devRef .tc main_v82)
abbrev at91 (σ : Vals) : FVec Ideal S4096x384 .f32 := σ (Proc.devRef .tc main_v91)
abbrev at93 (σ : Vals) : FVec Ideal S2x3x2048x2 .f32 := σ (Proc.devRef .tc main_v93)
abbrev at99 (σ : Vals) : IVec S256x2048 32 := σ (Proc.devRef .tc main_v99)
abbrev at101 (σ : Vals) : IVec S256x2048 1 := σ (Proc.devRef .tc main_v101)
abbrev at105 (σ : Vals) : FVec Ideal S256x2048 .f32 := σ (Proc.devRef .tc main_v105)
abbrev at115 (σ : Vals) : FVec Ideal S256x2048 .f32 := σ (Proc.devRef .tc main_v115)
abbrev at125 (σ : Vals) : FVec Ideal S256x2048 .f32 := σ (Proc.devRef .tc main_v125)
abbrev at131 (σ : Vals) : FVec Ideal S256x2048 .f32 := σ (Proc.devRef .tc main_v131)

/-- The operations in runs. -/
abbrev run1 : Ops := ops.take 11
abbrev from1 : Ops := ops.drop 11
abbrev run2 : Ops := from1.take 17
abbrev from2 : Ops := from1.drop 17
abbrev run3 : Ops := from2.take 14
abbrev from3 : Ops := from2.drop 14
abbrev run4 : Ops := from3.take 14
abbrev from4 : Ops := from3.drop 14
abbrev run5 : Ops := from4.take 11
abbrev from5 : Ops := from4.drop 11
abbrev run6 : Ops := from5.take 2
abbrev from6 : Ops := from5.drop 2
abbrev runE : Ops := from6.take 4
abbrev fromE : Ops := from6.drop 4
abbrev runF : Ops := fromE.take 2
abbrev fromF : Ops := fromE.drop 2
abbrev runG : Ops := fromF.take 8
abbrev fromG : Ops := fromF.drop 8
abbrev runA : Ops := fromG.take 2
abbrev fromA : Ops := fromG.drop 2
abbrev runB : Ops := fromA.take 4
abbrev fromB : Ops := fromA.drop 4
abbrev runC : Ops := fromB.take 2
abbrev fromC : Ops := fromB.drop 2
abbrev runD : Ops := fromC.take 11
abbrev fromD : Ops := fromC.drop 11
abbrev run8 : Ops := fromD.take 13
abbrev from8 : Ops := fromD.drop 13
abbrev run9 : Ops := from8.take 9
abbrev from9 : Ops := from8.drop 9
abbrev run10 : Ops := from9.take 5
abbrev from10 : Ops := from9.drop 5
abbrev run11 : Ops := from10.take 13
abbrev from11 : Ops := from10.drop 13
abbrev run12 : Ops := from11.take 13
abbrev from12 : Ops := from11.drop 13

section Saved
variable (σ : Vals) {X : FVec Ideal S2x2048x2950 .f32}

theorem run1_6 : at6 (StableHlo.after run1 σ) = val_main_v6 (F := Ideal) (arg σ) := rfl
theorem run1_9 : at9 (StableHlo.after run1 σ) = val_main_v9 (F := Ideal) (arg σ) := rfl
theorem run2_12 : at12 (StableHlo.after run2 σ) = val_main_v12 (F := Ideal) := rfl
theorem run2_22 : at22 (StableHlo.after run2 σ) = val_main_v22 (F := Ideal) := rfl
theorem run3_32 (h : at12 σ = val_main_v12 (F := Ideal)) : at32 (StableHlo.after run3 σ) = val_main_v32 (F := Ideal) := by
  rw [val_main_v32, val_main_v27, val_main_v24, val_main_v26, val_main_v31, val_main_v29, ← h]; rfl
theorem run4_42 (h : at12 σ = val_main_v12 (F := Ideal)) : at42 (StableHlo.after run4 σ) = val_main_v42 (F := Ideal) := by
  rw [val_main_v42, val_main_v37, val_main_v34, val_main_v36, val_main_v41, val_main_v39, ← h]; rfl
theorem run5_52 (h9 : at9 σ = val_main_v9 (F := Ideal) X) (h22 : at22 σ = val_main_v22 (F := Ideal)) (h32 : at32 σ = val_main_v32 (F := Ideal))
    (h42 : at42 σ = val_main_v42 (F := Ideal)) : at52 (StableHlo.after run5 σ) = val_main_v52 (F := Ideal) X := by
  rw [val_main_v52, val_main_v48, val_main_v47, val_main_v46, val_main_v43, val_main_v44, val_main_v45, val_main_v50, val_main_v49, ← h9, ← h22, ← h32, ← h42]; rfl
seal Idealize.ShloMosaic.Host.reduce in
theorem run6_53 (h52 : at52 σ = val_main_v52 (F := Ideal) X) : at53 (StableHlo.after run6 σ) = val_main_v53 (F := Ideal) X := by
  have e : at53 (StableHlo.after run6 σ) = Host.reduce FloatOps.maximumf (at52 σ) (constant (F := Ideal) S_ .f32 0xFF800000#32) reducesTo_S3x2x6x2048x2048_S3x2x6x2048_d4 h_S_ := rfl
  rw [e, h52]
  rfl
theorem runE_54 (h53 : at53 σ = val_main_v53 (F := Ideal) X) : at54 (StableHlo.after runE σ) = val_main_v54 (F := Ideal) X := by
  rw [val_main_v54, ← h53]; rfl
theorem runE_57 (h52 : at52 σ = val_main_v52 (F := Ideal) X) (h53 : at53 σ = val_main_v53 (F := Ideal) X) :
    at57 (StableHlo.after runE σ) = val_main_v57 (F := Ideal) X := by
  rw [val_main_v57, val_main_v56, val_main_v55, val_main_v54, ← h52, ← h53]; rfl
theorem runF_58 (h57 : at57 σ = val_main_v57 (F := Ideal) X) : at58 (StableHlo.after runF σ) = val_main_v58 (F := Ideal) X := by
  rw [val_main_v58, ← h57]; rfl
theorem runG_63 (h6 : at6 σ = val_main_v6 (F := Ideal) X) (h57 : at57 σ = val_main_v57 (F := Ideal) X) (h58 : at58 σ = val_main_v58 (F := Ideal) X) :
    at63 (StableHlo.after runG σ) = val_main_v63 (F := Ideal) X := by
  rw [val_main_v63, val_main_v60, val_main_v59, val_main_v62, val_main_v61, ← h6, ← h57, ← h58]; rfl
theorem runG_66 (h54 : at54 σ = val_main_v54 (F := Ideal) X) (h58 : at58 σ = val_main_v58 (F := Ideal) X) :
    at66 (StableHlo.after runG σ) = val_main_v66 (F := Ideal) X := by
  rw [val_main_v66, val_main_v64, val_main_v65, ← h54, ← h58]; rfl
theorem runA_67 (h66 : at66 σ = val_main_v66 (F := Ideal) X) : at67 (StableHlo.after runA σ) = val_main_v67 (F := Ideal) X := by
  rw [val_main_v67, ← h66]; rfl
theorem runB_71 (h66 : at66 σ = val_main_v66 (F := Ideal) X) (h67 : at67 σ = val_main_v67 (F := Ideal) X) :
    at71 (StableHlo.after runB σ) = val_main_v71 (F := Ideal) X := by
  rw [val_main_v71, val_main_v70, val_main_v69, val_main_v68, ← h66, ← h67]; rfl
theorem runC_72 (h71 : at71 σ = val_main_v71 (F := Ideal) X) : at72 (StableHlo.after runC σ) = val_main_v72 (F := Ideal) X := by
  rw [val_main_v72, ← h71]; rfl
theorem runD_80 (h63 : at63 σ = val_main_v63 (F := Ideal) X) (h71 : at71 σ = val_main_v71 (F := Ideal) X) (h72 : at72 σ = val_main_v72 (F := Ideal) X) :
    at80 (StableHlo.after runD σ) = val_main_v80 (F := Ideal) X := by
  rw [val_main_v80, val_main_v79, val_main_v78, val_main_v77, val_main_v76, val_main_v75, val_main_v74, val_main_v73, ← h63, ← h71, ← h72]; rfl
theorem runD_82 (h67 : at67 σ = val_main_v67 (F := Ideal) X) (h72 : at72 σ = val_main_v72 (F := Ideal) X) :
    at82 (StableHlo.after runD σ) = val_main_v82 (F := Ideal) X := by
  rw [val_main_v82, val_main_v81, ← h67, ← h72]; rfl
theorem run8_91 (h : at80 σ = val_main_v80 (F := Ideal) X) : at91 (StableHlo.after run8 σ) = val_main_v83 (F := Ideal) X := by
  rw [val_main_v83, ← h]; rfl
theorem run8_93 (h : at82 σ = val_main_v82 (F := Ideal) X) : at93 (StableHlo.after run8 σ) = val_main_v85 (F := Ideal) X := by
  rw [val_main_v85, val_main_v84, ← h]; rfl
theorem keep2_6 : at6 (StableHlo.after run2 σ) = at6 σ := rfl
theorem keep2_9 : at9 (StableHlo.after run2 σ) = at9 σ := rfl
theorem keep3_6 : at6 (StableHlo.after run3 σ) = at6 σ := rfl
theorem keep3_9 : at9 (StableHlo.after run3 σ) = at9 σ := rfl
theorem keep3_12 : at12 (StableHlo.after run3 σ) = at12 σ := rfl
theorem keep3_22 : at22 (StableHlo.after run3 σ) = at22 σ := rfl
theorem keep4_6 : at6 (StableHlo.after run4 σ) = at6 σ := rfl
theorem keep4_9 : at9 (StableHlo.after run4 σ) = at9 σ := rfl
theorem keep4_22 : at22 (StableHlo.after run4 σ) = at22 σ := rfl
theorem keep4_32 : at32 (StableHlo.after run4 σ) = at32 σ := rfl
theorem keep5_6 : at6 (StableHlo.after run5 σ) = at6 σ := rfl
theorem keep6_6 : at6 (StableHlo.after run6 σ) = at6 σ := rfl
theorem keep6_52 : at52 (StableHlo.after run6 σ) = at52 σ := rfl
theorem keepE_6 : at6 (StableHlo.after runE σ) = at6 σ := rfl
theorem keepF_6 : at6 (StableHlo.after runF σ) = at6 σ := rfl
theorem keepF_54 : at54 (StableHlo.after runF σ) = at54 σ := rfl
theorem keepF_57 : at57 (StableHlo.after runF σ) = at57 σ := rfl
theorem keepA_63 : at63 (StableHlo.after runA σ) = at63 σ := rfl
theorem keepA_66 : at66 (StableHlo.after runA σ) = at66 σ := rfl
theorem keepB_63 : at63 (StableHlo.after runB σ) = at63 σ := rfl
theorem keepB_67 : at67 (StableHlo.after runB σ) = at67 σ := rfl
theorem keepC_63 : at63 (StableHlo.after runC σ) = at63 σ := rfl
theorem keepC_67 : at67 (StableHlo.after runC σ) = at67 σ := rfl
theorem keepC_71 : at71 (StableHlo.after runC σ) = at71 σ := rfl
theorem keep8_91 : at91 (StableHlo.after from8 σ) = at91 σ := rfl
theorem keep8_93 : at93 (StableHlo.after from8 σ) = at93 σ := rfl

/-- The valuation after the masked scores, their exponentials, the three windows' outputs and log-totals, and after all the forward pass's lines. -/
def scores : Vals := StableHlo.after run5 (StableHlo.after run4 (StableHlo.after run3 (StableHlo.after run2 (StableHlo.after run1 σ))))
def powers : Vals := StableHlo.after runE (StableHlo.after run6 (scores σ))
def windows : Vals := StableHlo.after runG (StableHlo.after runF (powers σ))
def weights : Vals := StableHlo.after runC (StableHlo.after runB (StableHlo.after runA (windows σ)))
def saved : Vals := StableHlo.after run8 (StableHlo.after runD (weights σ))

theorem after_saved : StableHlo.after ops σ = StableHlo.after from8 (saved σ) := by
  rw [after_split 11 ops, after_split 17 from1, after_split 14 from2, after_split 14 from3, after_split 11 from4, after_split 2 from5, after_split 4 from6, after_split 2 fromE, after_split 8 fromF, after_split 2 fromG,
    after_split 4 fromA, after_split 2 fromB, after_split 11 fromC, after_split 13 fromD]
  rfl

theorem scores_52 : at52 (scores σ) = val_main_v52 (F := Ideal) (arg σ) :=
  run5_52 _ ((keep4_9 _).trans ((keep3_9 _).trans ((keep2_9 _).trans (run1_9 σ)))) ((keep4_22 _).trans ((keep3_22 _).trans (run2_22 _)))
    ((keep4_32 _).trans (run3_32 _ (run2_12 _))) (run4_42 _ ((keep3_12 _).trans (run2_12 _)))

theorem scores_6 : at6 (scores σ) = val_main_v6 (F := Ideal) (arg σ) := (keep5_6 _).trans ((keep4_6 _).trans ((keep3_6 _).trans ((keep2_6 _).trans (run1_6 σ))))

theorem powers_6 : at6 (powers σ) = val_main_v6 (F := Ideal) (arg σ) := (keepE_6 _).trans ((keep6_6 _).trans (scores_6 σ))

theorem powers_54 : at54 (powers σ) = val_main_v54 (F := Ideal) (arg σ) := runE_54 _ (run6_53 _ (scores_52 σ))

theorem powers_57 : at57 (powers σ) = val_main_v57 (F := Ideal) (arg σ) := runE_57 _ ((keep6_52 _).trans (scores_52 σ)) (run6_53 _ (scores_52 σ))

theorem windows_63 : at63 (windows σ) = val_main_v63 (F := Ideal) (arg σ) :=
  runG_63 _ ((keepF_6 _).trans (powers_6 σ)) ((keepF_57 _).trans (powers_57 σ)) (runF_58 _ (powers_57 σ))

theorem windows_66 : at66 (windows σ) = val_main_v66 (F := Ideal) (arg σ) := runG_66 _ ((keepF_54 _).trans (powers_54 σ)) (runF_58 _ (powers_57 σ))

theorem weights_63 : at63 (weights σ) = val_main_v63 (F := Ideal) (arg σ) := (keepC_63 _).trans ((keepB_63 _).trans ((keepA_63 _).trans (windows_63 σ)))

theorem weights_67 : at67 (weights σ) = val_main_v67 (F := Ideal) (arg σ) := (keepC_67 _).trans ((keepB_67 _).trans (runA_67 _ (windows_66 σ)))

theorem after_71 : at71 (StableHlo.after runB (StableHlo.after runA (windows σ))) = val_main_v71 (F := Ideal) (arg σ) :=
  runB_71 _ ((keepA_66 _).trans (windows_66 σ)) (runA_67 _ (windows_66 σ))

theorem weights_71 : at71 (weights σ) = val_main_v71 (F := Ideal) (arg σ) := (keepC_71 _).trans (after_71 σ)

theorem weights_72 : at72 (weights σ) = val_main_v72 (F := Ideal) (arg σ) := runC_72 _ (after_71 σ)

theorem saved_91 : at91 (saved σ) = val_main_v83 (F := Ideal) (arg σ) := run8_91 _ (runD_80 _ (weights_63 σ) (weights_71 σ) (weights_72 σ))

theorem saved_93 : at93 (saved σ) = val_main_v85 (F := Ideal) (arg σ) := run8_93 _ (runD_82 _ (weights_67 σ) (weights_72 σ))

end Saved

section Table
variable (σ : Vals)

theorem run9_99 : at99 (StableHlo.after run9 σ) = diff := rfl
theorem run9_101 : at101 (StableHlo.after run9 σ) = cmpi .sge diff (cst 0#32) := rfl
theorem run10_105 : at105 (StableHlo.after run10 σ) = uitofp .f32 (andi (at101 σ) (cmpi .sle (at99 σ) (cst 128#32))) := rfl
theorem run11_115 : at115 (StableHlo.after run11 σ) = addf (at105 σ) (uitofp .f32 (andi (andi (at101 σ) (cmpi .eq (Host.remsi (at99 σ) (cst 4#32)) (cst 0#32)))
    (cmpi .sle (at99 σ) (cst 512#32)))) := rfl
theorem run12_125 : at125 (StableHlo.after run12 σ) = addf (at115 σ) (uitofp .f32 (andi (andi (at101 σ) (cmpi .eq (Host.remsi (at99 σ) (cst 16#32)) (cst 0#32)))
    (cmpi .sle (at99 σ) (cst 2048#32)))) := rfl
theorem last_131 : at131 (StableHlo.after from12 σ)
    = select (cmpf .ogt (at125 σ) (cstF 0x00000000#32)) (Host.log (maximumf (at125 σ) (cstF 0x3F800000#32))) (cstF 0xFF800000#32) := rfl
theorem keep10_99 : at99 (StableHlo.after run10 σ) = at99 σ := rfl
theorem keep10_101 : at101 (StableHlo.after run10 σ) = at101 σ := rfl
theorem keep11_99 : at99 (StableHlo.after run11 σ) = at99 σ := rfl
theorem keep11_101 : at101 (StableHlo.after run11 σ) = at101 σ := rfl

theorem table_131 : at131 (StableHlo.after from8 σ) = masks := by
  rw [after_split 9 from8, after_split 5 from9, after_split 13 from10, after_split 13 from11]
  rw [last_131, run12_125, run11_115, keep11_101, keep11_99, run10_105, keep10_101, keep10_99, run9_101, run9_99]
  rfl

end Table

variable (m : (ℓ : Loc nD τ sig) → Buf (Elt Ideal) ℓ) (c : Dev nD)

/-- The projection, and the cotangent of the three mixers' outputs. -/
abbrev proj : S2x2048x2950.Idx → EReal := m ((c : Thread nD τ).loc main_arg0)
abbrev grad : S2x2048x1024.Idx → EReal := m ((c : Thread nD τ).loc main_arg1)

theorem given_out : V m c main_v91 = val_main_v83 (F := Ideal) (proj m c) := by
  show at91 (StableHlo.after ops fun b => m (c, b)) = _
  rw [after_saved, keep8_91, saved_91]

theorem given_lse : V m c main_v93 = val_main_v85 (F := Ideal) (proj m c) := by
  show at93 (StableHlo.after ops fun b => m (c, b)) = _
  rw [after_saved, keep8_93, saved_93]

theorem given_table : V m c main_v131 = masks := by
  show at131 (StableHlo.after ops fun b => m (c, b)) = _
  rw [after_saved, table_131]

theorem given_proj : V m c main_v90 = shapeCast S4096x3072 (cols (proj m c)) shapeCasts_S2x2048x3072_S4096x3072 := rfl

theorem given_grad : V m c main_v94 = shapeCast S4096x1024 (grad m c) shapeCasts_S2x2048x1024_S4096x1024 := rfl

end Cert.AttnBwd

end
-- ==== Proof.AttnBwd.Blocks.lean ====
/- The blocks of the attention's gradients: 256 rows of one of two heads, each against the positions up to its last row.
   What one block computes of its rows' probabilities and of the scores' cotangents. -/
module

public import proofs.«01_k».proof.Proof.Attn.Row
public import proofs.«01_k».proof.Proof.Gen.AttnBwdKernelIdeal.Skeleton

@[expose] public section

noncomputable section

open Idealize.ShloMosaic Idealize.ShloMosaic.TcCoe
open scoped BigOperators

namespace Cert.AttnBwd

open Cert.Attn Cert.AttnBwdKernelIdeal Cert.AttnBwdKernelIdeal.Gen

variable {n : Nat}

/-- A pair's probability: the score and the mask, less the row's log-total, exponentiated. -/
def pE (a : Vec Ideal S256x64 .f32) (kk : Vec Ideal ⟨3, ![1, n, 64]⟩ .bf16) (t : Vec Ideal ⟨2, ![256, n]⟩ .f32) (l : Vec Ideal S1x1x256x1 .f32) (i : Fin 256) (u : Fin n) : EReal :=
  Ideal.exp ((∑ e, a (Idealize.ShloMosaic.ix2 i e) * ((1 / 8 : ℝ) : EReal) * kk (Idealize.ShloMosaic.ix3 (0 : Fin 1) u e)) + t (Idealize.ShloMosaic.ix2 i u)
    - l (Idealize.ShloMosaic.ix4 (0 : Fin 1) (0 : Fin 1) i (0 : Fin 1)))

/-- The score's cotangent. -/
def sE (a d o : Vec Ideal S256x64 .f32) (kk vv : Vec Ideal ⟨3, ![1, n, 64]⟩ .bf16) (t : Vec Ideal ⟨2, ![256, n]⟩ .f32) (l : Vec Ideal S1x1x256x1 .f32) (i : Fin 256) (u : Fin n) : EReal :=
  pE a kk t l i u * ((∑ e, d (Idealize.ShloMosaic.ix2 i e) * vv (Idealize.ShloMosaic.ix3 (0 : Fin 1) u e)) - ∑ e, d (Idealize.ShloMosaic.ix2 i e) * o (Idealize.ShloMosaic.ix2 i e))

/-- `fq`, `fk` and `fv` are what a block of `n` positions computes. -/
structure Grad (n : Nat)
    (fq : Vec Ideal S256x64 .f32 → Vec Ideal S256x64 .f32 → Vec Ideal S256x64 .f32 → Vec Ideal ⟨3, ![1, n, 64]⟩ .bf16 → Vec Ideal ⟨3, ![1, n, 64]⟩ .bf16 → Vec Ideal ⟨2, ![256, n]⟩ .f32 → Vec Ideal S1x1x256x1 .f32 → FVec Ideal S256x64 .bf16)
    (fk : Vec Ideal S256x64 .f32 → Vec Ideal S256x64 .f32 → Vec Ideal S256x64 .f32 → Vec Ideal ⟨3, ![1, n, 64]⟩ .bf16 → Vec Ideal ⟨3, ![1, n, 64]⟩ .bf16 → Vec Ideal ⟨2, ![256, n]⟩ .f32 → Vec Ideal S1x1x256x1 .f32 → Vec Ideal ⟨3, ![1, n, 64]⟩ .f32 → FVec Ideal ⟨3, ![1, n, 64]⟩ .f32)
    (fv : Vec Ideal S256x64 .f32 → Vec Ideal S256x64 .f32 → Vec Ideal ⟨3, ![1, n, 64]⟩ .bf16 → Vec Ideal ⟨2, ![256, n]⟩ .f32 → Vec Ideal S1x1x256x1 .f32 → Vec Ideal ⟨3, ![1, n, 64]⟩ .f32 → FVec Ideal ⟨3, ![1, n, 64]⟩ .f32) : Prop where
  q : ∀ a d o kk vv t l (i : Fin 256) (e : Fin 64), fq a d o kk vv t l (Idealize.ShloMosaic.ix2 i e)
    = (∑ u, sE a d o kk vv t l i u * kk (Idealize.ShloMosaic.ix3 (0 : Fin 1) u e)) * ((1 / 8 : ℝ) : EReal)
  k : ∀ a d o kk vv t l acc (u : Fin n) (e : Fin 64), fk a d o kk vv t l acc (Idealize.ShloMosaic.ix3 (0 : Fin 1) u e)
    = acc (Idealize.ShloMosaic.ix3 (0 : Fin 1) u e) + ∑ i, sE a d o kk vv t l i u * (a (Idealize.ShloMosaic.ix2 i e) * ((1 / 8 : ℝ) : EReal))
  v : ∀ a d kk t l acc (u : Fin n) (e : Fin 64), fv a d kk t l acc (Idealize.ShloMosaic.ix3 (0 : Fin 1) u e)
    = acc (Idealize.ShloMosaic.ix3 (0 : Fin 1) u e) + ∑ i, pE a kk t l i u * d (Idealize.ShloMosaic.ix2 i e)

theorem block256 : Grad 256
    (fun a d o kk vv t l => k0_pay16 (k0_pay12 kk) (k0_pay14 a d o kk vv t l))
    (fun a d o kk vv t l acc => k0_pay17 (k0_pay9 a) (k0_pay14 a d o kk vv t l) acc)
    (fun a d kk t l acc => k0_pay18 (k0_pay11 d) (k0_pay13 a kk t l) acc) where
  q a d o kk vv t l i e := by
    pointwise [k0_pay9, k0_pay10, k0_pay11, k0_pay12, k0_pay13, k0_pay14, k0_pay15, k0_pay16]
    simp only [ofBits_eighth]; rfl
  k a d o kk vv t l acc u e := by
    pointwise [k0_pay9, k0_pay10, k0_pay11, k0_pay12, k0_pay13, k0_pay14, k0_pay15, k0_pay17]
    simp only [ofBits_eighth]; rfl
  v a d kk t l acc u e := by
    pointwise [k0_pay9, k0_pay10, k0_pay11, k0_pay12, k0_pay13, k0_pay18]
    simp only [ofBits_eighth]; rfl

theorem block512 : Grad 512
    (fun a d o kk vv t l => k0_pay26 (k0_pay19 a) (k0_pay21 d) (k0_pay22 d o) kk vv t l)
    (fun a d o kk vv t l acc => k0_pay27 (k0_pay19 a) (k0_pay21 d) (k0_pay22 d o) kk vv t l acc)
    (fun a d kk t l acc => k0_pay28 (k0_pay21 d) (k0_pay24 (k0_pay19 a) kk t l) acc) where
  q a d o kk vv t l i e := by
    pointwise [k0_pay19, k0_pay20, k0_pay21, k0_pay22, k0_pay23, k0_pay24, k0_pay25, k0_pay26]
    simp only [ofBits_eighth]; rfl
  k a d o kk vv t l acc u e := by
    pointwise [k0_pay19, k0_pay20, k0_pay21, k0_pay22, k0_pay23, k0_pay24, k0_pay25, k0_pay27]
    simp only [ofBits_eighth]; rfl
  v a d kk t l acc u e := by
    pointwise [k0_pay19, k0_pay20, k0_pay21, k0_pay23, k0_pay24, k0_pay28]
    simp only [ofBits_eighth]; rfl

theorem block768 : Grad 768
    (fun a d o kk vv t l => k0_pay39 (k0_pay31 d) (k0_pay32 d o) (k0_pay33 kk) (k0_pay34 vv) (k0_pay35 a kk t) (k0_pay36 l))
    (fun a d o kk vv t l acc => k0_pay40 (k0_pay29 a) (k0_pay31 d) (k0_pay32 d o) (k0_pay34 vv) (k0_pay35 a kk t) (k0_pay36 l) acc)
    (fun a d kk t l acc => k0_pay41 (k0_pay31 d) (k0_pay35 a kk t) (k0_pay36 l) acc) where
  q a d o kk vv t l i e := by
    pointwise [k0_pay29, k0_pay30, k0_pay31, k0_pay32, k0_pay33, k0_pay34, k0_pay35, k0_pay36, k0_pay37, k0_pay38, k0_pay39]
    simp only [ofBits_eighth]; rfl
  k a d o kk vv t l acc u e := by
    pointwise [k0_pay29, k0_pay30, k0_pay31, k0_pay32, k0_pay33, k0_pay34, k0_pay35, k0_pay36, k0_pay37, k0_pay38, k0_pay40]
    simp only [ofBits_eighth]; rfl
  v a d kk t l acc u e := by
    pointwise [k0_pay29, k0_pay30, k0_pay31, k0_pay33, k0_pay35, k0_pay36, k0_pay37, k0_pay41]
    simp only [ofBits_eighth]; rfl

theorem block1024 : Grad 1024
    (fun a d o kk vv t l => k0_pay48 (k0_pay42 a) d o kk vv t l)
    (fun a d o kk vv t l acc => k0_pay51 (k0_pay49 acc) (k0_pay50 (k0_pay42 a) d o kk vv t l))
    (fun a d kk t l acc => k0_pay52 (k0_pay44 d) (k0_pay46 (k0_pay42 a) kk t l) acc) where
  q a d o kk vv t l i e := by
    pointwise [k0_pay42, k0_pay43, k0_pay44, k0_pay45, k0_pay46, k0_pay47, k0_pay48]
    simp only [ofBits_eighth]; rfl
  k a d o kk vv t l acc u e := by
    pointwise [k0_pay42, k0_pay43, k0_pay44, k0_pay45, k0_pay46, k0_pay47, k0_pay49, k0_pay50, k0_pay51]
    simp only [ofBits_eighth]; rfl
  v a d kk t l acc u e := by
    pointwise [k0_pay42, k0_pay43, k0_pay44, k0_pay45, k0_pay46, k0_pay52]
    simp only [ofBits_eighth]; rfl

theorem block1280 : Grad 1280
    (fun a d o kk vv t l => k0_pay62 (k0_pay55 d) (k0_pay56 d o) (k0_pay57 kk) (k0_pay58 vv) (k0_pay59 a kk) t l)
    (fun a d o kk vv t l acc => k0_pay63 (k0_pay53 a) (k0_pay55 d) (k0_pay56 d o) (k0_pay58 vv) (k0_pay59 a kk) t l acc)
    (fun a d kk t l acc => k0_pay64 (k0_pay55 d) (k0_pay59 a kk) t l acc) where
  q a d o kk vv t l i e := by
    pointwise [k0_pay53, k0_pay54, k0_pay55, k0_pay56, k0_pay57, k0_pay58, k0_pay59, k0_pay60, k0_pay61, k0_pay62]
    simp only [ofBits_eighth]; rfl
  k a d o kk vv t l acc u e := by
    pointwise [k0_pay53, k0_pay54, k0_pay55, k0_pay56, k0_pay57, k0_pay58, k0_pay59, k0_pay60, k0_pay61, k0_pay63]
    simp only [ofBits_eighth]; rfl
  v a d kk t l acc u e := by
    pointwise [k0_pay53, k0_pay54, k0_pay55, k0_pay57, k0_pay59, k0_pay60, k0_pay64]
    simp only [ofBits_eighth]; rfl

theorem block1536 : Grad 1536
    (fun a d o kk vv t l => k0_pay71 a d o kk vv t l)
    (fun a d o kk vv t l acc => k0_pay72 (k0_pay65 a) (k0_pay70 a d o kk vv t l) acc)
    (fun a d kk t l acc => k0_pay73 (k0_pay67 d) (k0_pay69 a kk t l) acc) where
  q a d o kk vv t l i e := by
    pointwise [k0_pay65, k0_pay66, k0_pay67, k0_pay68, k0_pay69, k0_pay70, k0_pay71]
    simp only [ofBits_eighth]; rfl
  k a d o kk vv t l acc u e := by
    pointwise [k0_pay65, k0_pay66, k0_pay67, k0_pay68, k0_pay69, k0_pay70, k0_pay72]
    simp only [ofBits_eighth]; rfl
  v a d kk t l acc u e := by
    pointwise [k0_pay65, k0_pay66, k0_pay67, k0_pay68, k0_pay69, k0_pay73]
    simp only [ofBits_eighth]; rfl

theorem block1792 : Grad 1792
    (fun a d o kk vv t l => k0_pay81 (k0_pay74 a) (k0_pay76 d) (k0_pay77 d o) (k0_pay78 kk) vv t l)
    (fun a d o kk vv t l acc => k0_pay82 (k0_pay74 a) (k0_pay76 d) (k0_pay77 d o) (k0_pay78 kk) vv t l acc)
    (fun a d kk t l acc => k0_pay84 (k0_pay83 (k0_pay74 a) (k0_pay76 d) (k0_pay78 kk) t l acc)) where
  q a d o kk vv t l i e := by
    pointwise [k0_pay74, k0_pay75, k0_pay76, k0_pay77, k0_pay78, k0_pay79, k0_pay80, k0_pay81]
    simp only [ofBits_eighth]; rfl
  k a d o kk vv t l acc u e := by
    pointwise [k0_pay74, k0_pay75, k0_pay76, k0_pay77, k0_pay78, k0_pay79, k0_pay80, k0_pay82]
    simp only [ofBits_eighth]; rfl
  v a d kk t l acc u e := by
    pointwise [k0_pay74, k0_pay75, k0_pay76, k0_pay78, k0_pay79, k0_pay83, k0_pay84]
    simp only [ofBits_eighth]; rfl

theorem block2048 : Grad 2048
    (fun a d o kk vv t l => k0_pay91 (k0_pay88 kk) (k0_pay90 a d o kk vv t l) (constant (F := Ideal) S256x64 .f32 0x00000000#32))
    (fun a d o kk vv t l acc => k0_pay92 (k0_pay85 a) (k0_pay90 a d o kk vv t l) acc)
    (fun a d kk t l acc => k0_pay93 (k0_pay87 d) (k0_pay89 a kk t l) acc) where
  q a d o kk vv t l i e := by
    pointwise [k0_pay85, k0_pay86, k0_pay87, k0_pay88, k0_pay89, k0_pay90, k0_pay91]
    simp only [ofBits_eighth]; rfl
  k a d o kk vv t l acc u e := by
    pointwise [k0_pay85, k0_pay86, k0_pay87, k0_pay88, k0_pay89, k0_pay90, k0_pay92]
    simp only [ofBits_eighth]; rfl
  v a d kk t l acc u e := by
    pointwise [k0_pay85, k0_pay86, k0_pay87, k0_pay88, k0_pay89, k0_pay93]
    simp only [ofBits_eighth]; rfl

/-! The second head's blocks are the first head's. -/

theorem second256 : Grad 256
    (fun a d o kk vv t l => k0_pay102 a d o kk vv t l)
    (fun a d o kk vv t l acc => k0_pay103 (k0_pay96 a) (k0_pay101 a d o kk vv t l) acc)
    (fun a d kk t l acc => k0_pay104 (k0_pay98 d) (k0_pay100 a kk t l) acc) := ⟨block256.q, block256.k, block256.v⟩

theorem second512 : Grad 512
    (fun a d o kk vv t l => k0_pay112 (k0_pay105 a) (k0_pay107 d) (k0_pay108 d o) (k0_pay109 kk) vv t l)
    (fun a d o kk vv t l acc => k0_pay113 (k0_pay105 a) (k0_pay107 d) (k0_pay108 d o) (k0_pay109 kk) vv t l acc)
    (fun a d kk t l acc => k0_pay116 (k0_pay114 acc) (k0_pay115 (k0_pay105 a) (k0_pay107 d) (k0_pay109 kk) t l)) := ⟨block512.q, block512.k, block512.v⟩

theorem second768 : Grad 768
    (fun a d o kk vv t l => k0_pay124 (k0_pay120 kk) (k0_pay122 a d o kk vv t l))
    (fun a d o kk vv t l acc => k0_pay125 (k0_pay117 a) (k0_pay122 a d o kk vv t l) acc)
    (fun a d kk t l acc => k0_pay126 (k0_pay119 d) (k0_pay121 a kk t l) acc) := ⟨block768.q, block768.k, block768.v⟩

theorem second1024 : Grad 1024
    (fun a d o kk vv t l => k0_pay134 (k0_pay127 a) (k0_pay129 d) (k0_pay130 d o) kk vv t l)
    (fun a d o kk vv t l acc => k0_pay135 (k0_pay127 a) (k0_pay129 d) (k0_pay130 d o) kk vv t l acc)
    (fun a d kk t l acc => k0_pay136 (k0_pay129 d) (k0_pay132 (k0_pay127 a) kk t l) acc) := ⟨block1024.q, block1024.k, block1024.v⟩

theorem second1280 : Grad 1280
    (fun a d o kk vv t l => k0_pay147 (k0_pay139 d) (k0_pay140 d o) (k0_pay141 kk) (k0_pay142 vv) (k0_pay143 a kk t) (k0_pay144 l))
    (fun a d o kk vv t l acc => k0_pay148 (k0_pay137 a) (k0_pay139 d) (k0_pay140 d o) (k0_pay142 vv) (k0_pay143 a kk t) (k0_pay144 l) acc)
    (fun a d kk t l acc => k0_pay149 (k0_pay139 d) (k0_pay143 a kk t) (k0_pay144 l) acc) := ⟨block1280.q, block1280.k, block1280.v⟩

theorem second1536 : Grad 1536
    (fun a d o kk vv t l => k0_pay156 (k0_pay150 a) d o kk vv t l)
    (fun a d o kk vv t l acc => k0_pay159 (k0_pay157 acc) (k0_pay158 (k0_pay150 a) d o kk vv t l))
    (fun a d kk t l acc => k0_pay160 (k0_pay152 d) (k0_pay154 (k0_pay150 a) kk t l) acc) := ⟨block1536.q, block1536.k, block1536.v⟩

theorem second1792 : Grad 1792
    (fun a d o kk vv t l => k0_pay170 (k0_pay163 d) (k0_pay164 d o) (k0_pay165 kk) (k0_pay166 vv) (k0_pay167 a kk) t l)
    (fun a d o kk vv t l acc => k0_pay171 (k0_pay161 a) (k0_pay163 d) (k0_pay164 d o) (k0_pay166 vv) (k0_pay167 a kk) t l acc)
    (fun a d kk t l acc => k0_pay172 (k0_pay163 d) (k0_pay167 a kk) t l acc) := ⟨block1792.q, block1792.k, block1792.v⟩

theorem second2048 : Grad 2048
    (fun a d o kk vv t l => k0_pay179 a d o kk vv t l)
    (fun a d o kk vv t l acc => k0_pay180 (k0_pay173 a) (k0_pay178 a d o kk vv t l) acc)
    (fun a d kk t l acc => k0_pay181 (k0_pay175 d) (k0_pay177 a kk t l) acc) := ⟨block2048.q, block2048.k, block2048.v⟩

end Cert.AttnBwd

end
-- ==== Proof.AttnBwd.Given.lean ====
/- What a block computes when its operands hold a head's real numbers: the probabilities, the scores' cotangents, and what
   it adds to the cotangents of the keys and values. -/
module

public import proofs.«01_k».proof.Proof.Attn.Scores
public import proofs.«01_k».proof.Proof.AttnBwd.Blocks

@[expose] public section

noncomputable section

open Idealize.ShloMosaic Idealize.ShloMosaic.TcCoe
open scoped BigOperators

namespace Cert.AttnBwd

open Cert.Attn Cert.AttnBwdKernelIdeal Cert.AttnBwdKernelIdeal.Gen

/-- The last 256 rows of the first `n`, of one head: queries, cotangent and output, the keys and values of the first `n`
    positions, the mask, and the rows' log-totals. -/
structure Given (q k v g : Head) (n : ℕ) (h1 : 256 ≤ n) (h2 : n ≤ 2048) (a d o : Vec Ideal S256x64 .f32) (kk vv : Vec Ideal ⟨3, ![1, n, 64]⟩ .bf16) (t : Vec Ideal ⟨2, ![256, n]⟩ .f32)
    (l : Vec Ideal S1x1x256x1 .f32) : Prop where
  a : ∀ (i : Fin 256) (e : Fin 64), a (Idealize.ShloMosaic.ix2 i e) = ((q ⟨n - 256 + i.val, by omega⟩ e : ℝ) : EReal)
  d : ∀ (i : Fin 256) (e : Fin 64), d (Idealize.ShloMosaic.ix2 i e) = ((g ⟨n - 256 + i.val, by omega⟩ e : ℝ) : EReal)
  o : ∀ (i : Fin 256) (e : Fin 64), o (Idealize.ShloMosaic.ix2 i e) = ((out q k v ⟨n - 256 + i.val, by omega⟩ e : ℝ) : EReal)
  kk : ∀ (u : Fin n) (e : Fin 64), kk (Idealize.ShloMosaic.ix3 (0 : Fin 1) u e) = ((k (Fin.castLE h2 u) e : ℝ) : EReal)
  vv : ∀ (u : Fin n) (e : Fin 64), vv (Idealize.ShloMosaic.ix3 (0 : Fin 1) u e) = ((v (Fin.castLE h2 u) e : ℝ) : EReal)
  t : ∀ (i : Fin 256) (u : Fin n), t (Idealize.ShloMosaic.ix2 i u) = mask (mult (n - 256 + i.val) u.val)
  l : ∀ i : Fin 256, l (Idealize.ShloMosaic.ix4 (0 : Fin 1) (0 : Fin 1) i (0 : Fin 1)) = ((Real.log (total q k ⟨n - 256 + i.val, by omega⟩) : ℝ) : EReal)

/-- The summands of the keys' and of the values' cotangents. -/
def termK (q k v g : Head) (u : Fin 2048) (e : Fin 64) (t : Fin 2048) : ℝ := Cert.Attn.slope q k v g t u * (q t e * (1 / 8))
def termV (q k g : Head) (u : Fin 2048) (e : Fin 64) (t : Fin 2048) : ℝ := prob q k t u * g t e

theorem prob_of_lt (q k : Head) (t u : Fin 2048) (h : t.val < u.val) : prob q k t u = 0 := by
  unfold prob; rw [weight_of_le q k t u h, zero_div]

theorem slope_of_lt (q k v g : Head) (t u : Fin 2048) (h : t.val < u.val) : Cert.Attn.slope q k v g t u = 0 := by
  unfold Cert.Attn.slope; rw [prob_of_lt q k t u h, zero_mul]

section
variable {q k v g : Head} {n : ℕ} {h1 : 256 ≤ n} {h2 : n ≤ 2048} {a d o : Vec Ideal S256x64 .f32} {kk vv : Vec Ideal ⟨3, ![1, n, 64]⟩ .bf16} {t : Vec Ideal ⟨2, ![256, n]⟩ .f32}
  {l : Vec Ideal S1x1x256x1 .f32} (G : Given q k v g n h1 h2 a d o kk vv t l)
include G

theorem p_eq (i : Fin 256) (u : Fin n) : pE a kk t l i u = ((prob q k ⟨n - 256 + i.val, by omega⟩ (Fin.castLE h2 u) : ℝ) : EReal) := by
  unfold pE
  rw [G.t, G.l]
  simp only [G.a, G.kk, ← EReal.coe_mul, Cert.Reals.coe_sum]
  rw [exp_mask _ _ _ (mult_nonneg _ _), Real.exp_log (total_pos q k _)]
  refine congrArg (fun r : ℝ => (r : EReal)) ?_
  unfold prob weight score
  refine congrArg (fun r : ℝ => mult _ _ * Real.exp r / _) ?_
  rw [Finset.sum_mul]
  exact Finset.sum_congr rfl fun e _ => by ring

theorem s_eq (i : Fin 256) (u : Fin n) : sE a d o kk vv t l i u = ((Cert.Attn.slope q k v g ⟨n - 256 + i.val, by omega⟩ (Fin.castLE h2 u) : ℝ) : EReal) := by
  unfold sE
  rw [p_eq G]
  simp only [G.d, G.o, G.vv, ← EReal.coe_mul, Cert.Reals.coe_sum, ← EReal.coe_sub]
  rfl

variable {fq : Vec Ideal S256x64 .f32 → Vec Ideal S256x64 .f32 → Vec Ideal S256x64 .f32 → Vec Ideal ⟨3, ![1, n, 64]⟩ .bf16 → Vec Ideal ⟨3, ![1, n, 64]⟩ .bf16 → Vec Ideal ⟨2, ![256, n]⟩ .f32 → Vec Ideal S1x1x256x1 .f32 → FVec Ideal S256x64 .bf16}
  {fk : Vec Ideal S256x64 .f32 → Vec Ideal S256x64 .f32 → Vec Ideal S256x64 .f32 → Vec Ideal ⟨3, ![1, n, 64]⟩ .bf16 → Vec Ideal ⟨3, ![1, n, 64]⟩ .bf16 → Vec Ideal ⟨2, ![256, n]⟩ .f32 → Vec Ideal S1x1x256x1 .f32 → Vec Ideal ⟨3, ![1, n, 64]⟩ .f32 → FVec Ideal ⟨3, ![1, n, 64]⟩ .f32}
  {fv : Vec Ideal S256x64 .f32 → Vec Ideal S256x64 .f32 → Vec Ideal ⟨3, ![1, n, 64]⟩ .bf16 → Vec Ideal ⟨2, ![256, n]⟩ .f32 → Vec Ideal S1x1x256x1 .f32 → Vec Ideal ⟨3, ![1, n, 64]⟩ .f32 → FVec Ideal ⟨3, ![1, n, 64]⟩ .f32}
  (B : Grad n fq fk fv)
include B

theorem block_q (i : Fin 256) (e : Fin 64) : fq a d o kk vv t l (Idealize.ShloMosaic.ix2 i e) = ((dQ q k v g ⟨n - 256 + i.val, by omega⟩ e : ℝ) : EReal) := by
  rw [B.q]
  simp only [s_eq G, G.kk, ← EReal.coe_mul, Cert.Reals.coe_sum]
  refine congrArg (fun r : ℝ => ((r * (1 / 8) : ℝ) : EReal)) ?_
  refine sum_prefix (fun u => Cert.Attn.slope q k v g ⟨n - 256 + i.val, by omega⟩ u * k u e) h2 fun u hu => ?_
  show Cert.Attn.slope q k v g _ u * _ = 0
  rw [slope_of_lt q k v g _ u (by show n - 256 + i.val < u.val; omega), zero_mul]

theorem block_k (acc : Vec Ideal ⟨3, ![1, n, 64]⟩ .f32) (u : Fin n) (e : Fin 64) : fk a d o kk vv t l acc (Idealize.ShloMosaic.ix3 (0 : Fin 1) u e)
    = acc (Idealize.ShloMosaic.ix3 (0 : Fin 1) u e) + ((∑ i : Fin 256, termK q k v g (Fin.castLE h2 u) e ⟨n - 256 + i.val, by omega⟩ : ℝ) : EReal) := by
  rw [B.k]
  simp only [s_eq G, G.a, ← EReal.coe_mul, Cert.Reals.coe_sum]
  rfl

theorem block_v (acc : Vec Ideal ⟨3, ![1, n, 64]⟩ .f32) (u : Fin n) (e : Fin 64) : fv a d kk t l acc (Idealize.ShloMosaic.ix3 (0 : Fin 1) u e)
    = acc (Idealize.ShloMosaic.ix3 (0 : Fin 1) u e) + ((∑ i : Fin 256, termV q k g (Fin.castLE h2 u) e ⟨n - 256 + i.val, by omega⟩ : ℝ) : EReal) := by
  rw [B.v]
  simp only [p_eq G, G.d, ← EReal.coe_mul, Cert.Reals.coe_sum]
  rfl

end

end Cert.AttnBwd

end
-- ==== Proof.AttnBwd.Sums.lean ====
/- Sums over the leading rows, grown by 256 rows at a time, and an array that holds such sums and grows with them. -/
module

public import proofs.«01_k».proof.Proof.Attn.Spec
public import proofs.«01_k».proof.Proof.Gen.AttnBwdKernelIdeal.Frame
public import Idealize.ShloMosaic.Lib.Pointwise
public import Idealize.ShloMosaic.Lib.Pipeline.ValueKit
public import Idealize.ShloMosaic.Lib.Pipeline.ReadBack

@[expose] public section

noncomputable section

open Idealize.ShloMosaic Idealize.ShloMosaic.TcCoe
open scoped BigOperators

namespace Cert.AttnBwd

open Cert.Attn Cert.AttnBwdKernelIdeal Cert.AttnBwdKernelIdeal.Gen

/-- The sum over the first `n` rows. -/
def part (f : Fin 2048 → ℝ) (n : ℕ) : ℝ := ∑ t : Fin 2048, if t.val < n then f t else 0

theorem part_all (f : Fin 2048 → ℝ) : part f 2048 = ∑ t, f t := Finset.sum_congr rfl fun t _ => if_pos t.isLt

theorem part_zero (f : Fin 2048 → ℝ) : part f 0 = 0 := Finset.sum_eq_zero fun t _ => if_neg (by omega)

theorem part_of_zero (f : Fin 2048 → ℝ) (n : ℕ) (h : ∀ t : Fin 2048, t.val < n → f t = 0) : part f n = 0 :=
  Finset.sum_eq_zero fun t _ => by
    by_cases k : t.val < n
    · rw [if_pos k, h t k]
    · exact if_neg k

theorem part_step (f : Fin 2048 → ℝ) (n : ℕ) (h1 : 256 ≤ n) (h2 : n ≤ 2048) :
    part f (n - 256) + ∑ i : Fin 256, f ⟨n - 256 + i.val, by omega⟩ = part f n := by
  have e : ∑ i : Fin 256, f ⟨n - 256 + i.val, by omega⟩ = ∑ t : Fin 2048, if n - 256 ≤ t.val ∧ t.val < n then f t else 0 := by
    rw [← Finset.sum_filter]
    refine Finset.sum_bij (fun i _ => (⟨n - 256 + i.val, by omega⟩ : Fin 2048)) (fun i _ => ?_) (fun i _ j _ h => ?_) (fun t ht => ?_) (fun i _ => rfl)
    · have := i.isLt
      exact Finset.mem_filter.2 ⟨Finset.mem_univ _, by show n - 256 ≤ n - 256 + i.val ∧ n - 256 + i.val < n; omega⟩
    · have := Fin.mk.inj_iff.1 h
      exact Fin.ext (by omega)
    · have := (Finset.mem_filter.1 ht).2
      exact ⟨⟨t.val - (n - 256), by omega⟩, Finset.mem_univ _, Fin.ext (by show n - 256 + (t.val - (n - 256)) = t.val; omega)⟩
  rw [e]
  unfold part
  rw [← Finset.sum_add_distrib]
  refine Finset.sum_congr rfl fun t _ => ?_
  by_cases k : t.val < n - 256
  · rw [if_pos k, if_neg (by omega), if_pos (by omega), add_zero]
  · by_cases k' : t.val < n
    · rw [if_neg k, if_pos (by omega), if_pos k', zero_add]
    · rw [if_neg k, if_neg (by omega), if_neg k', zero_add]

/-- The terms of the sums of a pair of heads. -/
abbrev Terms := Fin 2 → Fin 2048 → Fin 64 → Fin 2048 → ℝ

/-- The array that holds the first head's sums over `n0` rows and the second head's over `n1`. -/
def sums (f : Terms) (n0 n1 : ℕ) : S2x2048x64.Idx → EReal := fun y =>
  ((part (f (y 0) (y 1) (y 2)) (if (y 0).val = 0 then n0 else n1) : ℝ) : EReal)

abbrev Pieces := List (View.Piece (Elt Ideal) S2x2048x64 .f32)

theorem read_canon {e : EltTy} (v : View sig .tc .vmem S2x2048x64 e) (L : List (View.Piece (Elt Ideal) S2x2048x64 e)) {n : ℕ} (h : Fin 2) (hn : n ≤ 2048)
    (inb : ∀ a, (![h.val, 0, 0] : Fin 3 → ℕ) a + (![1, n, 64] : Fin 3 → ℕ) a ≤ S2x2048x64.size a) (u : Fin n) (c : Fin 64) :
    v.readCov L (Rect.unit (s := S2x2048x64) ![h.val, 0, 0] ![1, n, 64] inb).toLoadRect (Idealize.ShloMosaic.ix3 (0 : Fin 1) u c)
      = View.canon L (Idealize.ShloMosaic.ix3 h (Fin.castLE hn u) c) := by
  rw [View.readCov_eq_canon']
  refine congrArg (View.canon L) ?_
  funext a; apply Fin.ext
  match a with
  | ⟨0, _⟩ => show h.val + 1 * 0 = h.val; omega
  | ⟨1, _⟩ => show 0 + 1 * u.val = u.val; omega
  | ⟨2, _⟩ => show 0 + 1 * c.val = c.val; omega

/-- An array after a store to the leading rows of one half. -/
theorem canon_store {e : EltTy} (L : List (View.Piece (Elt Ideal) S2x2048x64 e)) {n : ℕ} (h : Fin 2) (hn : n ≤ 2048)
    (inb : ∀ a, (![h.val, 0, 0] : Fin 3 → ℕ) a + (![1, n, 64] : Fin 3 → ℕ) a ≤ S2x2048x64.size a)
    (w : (Rect.unit (s := S2x2048x64) ![h.val, 0, 0] ![1, n, 64] inb).shape.Idx → Elt Ideal e) (G : S2x2048x64.Idx → Elt Ideal e)
    (hw : ∀ (u : Fin n) (c : Fin 64), w (Idealize.ShloMosaic.ix3 (0 : Fin 1) u c) = G (Idealize.ShloMosaic.ix3 h (Fin.castLE hn u) c))
    (hL : ∀ (y0 : Fin 2) (y1 : Fin 2048) (y2 : Fin 64), ¬ (y0 = h ∧ y1.val < n) → View.canon L (Idealize.ShloMosaic.ix3 y0 y1 y2) = G (Idealize.ShloMosaic.ix3 y0 y1 y2)) :
    View.canon (⟨Rect.unit (s := S2x2048x64) ![h.val, 0, 0] ![1, n, 64] inb, w⟩ :: L) = G := by
  funext y
  idx_vars y
  by_cases k : y0 = h ∧ y1.val < n
  · obtain ⟨rfl, k⟩ := k
    have e0 : Idealize.ShloMosaic.ix3 y0 y1 y2 = (Rect.unit (s := S2x2048x64) ![y0.val, 0, 0] ![1, n, 64] inb).emb (Idealize.ShloMosaic.ix3 (0 : Fin 1) (⟨y1.val, k⟩ : Fin n) y2) := by
      funext a; apply Fin.ext
      match a with
      | ⟨0, _⟩ => show y0.val = y0.val + 1 * 0; omega
      | ⟨1, _⟩ => show y1.val = 0 + 1 * y1.val; omega
      | ⟨2, _⟩ => show y2.val = 0 + 1 * y2.val; omega
    exact (congrArg (View.canon _) e0).trans ((View.canon_cons_emb _ w L _).trans (hw ⟨y1.val, k⟩ y2))
  · refine (View.canon_cons_of_not_mem _ L fun hm => k ?_).trans (hL y0 y1 y2 k)
    have hm' := (Rect.mem_set_unit (s := S2x2048x64) (inb := inb)).1 hm
    have h0 := hm' 0
    have h1 := hm' 1
    have a0 : h.val ≤ y0.val ∧ y0.val < h.val + 1 := h0
    have a1 : 0 ≤ y1.val ∧ y1.val < 0 + n := h1
    exact ⟨Fin.ext (by omega), by omega⟩

/-- One block's store to the array of sums. -/
theorem sums_step (f : Terms) (hf : ∀ h u c t, t.val < u.val → f h u c t = 0) (v : View sig .tc .vmem S2x2048x64 .f32) (L : Pieces) {n : ℕ} (h : Fin 2) (h1 : 256 ≤ n) (h2 : n ≤ 2048)
    (n0 n1 m0 m1 : ℕ) (hn : if h.val = 0 then n0 = n - 256 ∧ m0 = n ∧ m1 = n1 else n1 = n - 256 ∧ m1 = n ∧ m0 = n0)
    (hL : View.canon L = sums f n0 n1)
    (inb inb' : ∀ a, (![h.val, 0, 0] : Fin 3 → ℕ) a + (![1, n, 64] : Fin 3 → ℕ) a ≤ S2x2048x64.size a)
    (w : (Rect.unit (s := S2x2048x64) ![h.val, 0, 0] ![1, n, 64] inb).shape.Idx → EReal)
    (hw : ∀ (u : Fin n) (c : Fin 64), w (Idealize.ShloMosaic.ix3 (0 : Fin 1) u c)
      = v.readCov L (Rect.unit (s := S2x2048x64) ![h.val, 0, 0] ![1, n, 64] inb').toLoadRect (Idealize.ShloMosaic.ix3 (0 : Fin 1) u c)
        + ((∑ i : Fin 256, f h (Fin.castLE h2 u) c ⟨n - 256 + i.val, by omega⟩ : ℝ) : EReal)) :
    View.canon (⟨Rect.unit (s := S2x2048x64) ![h.val, 0, 0] ![1, n, 64] inb, w⟩ :: L) = sums f m0 m1 := by
  have e1 : (if h.val = 0 then n0 else n1) = n - 256 := by split at hn <;> simp_all
  have e2 : (if h.val = 0 then m0 else m1) = n := by split at hn <;> simp_all
  refine canon_store (e := .f32) L h h2 inb w (sums f m0 m1) (fun u c => ?_) fun y0 y1 y2 k => ?_
  · rw [hw, read_canon v L h h2 inb' u c, hL]
    show ((part (f h (Fin.castLE h2 u) c) (if h.val = 0 then n0 else n1) : ℝ) : EReal) + _ = ((part (f h (Fin.castLE h2 u) c) (if h.val = 0 then m0 else m1) : ℝ) : EReal)
    rw [e1, e2, ← EReal.coe_add, part_step _ n h1 h2]
  · rw [hL]
    show ((part (f y0 y1 y2) (if y0.val = 0 then n0 else n1) : ℝ) : EReal) = ((part (f y0 y1 y2) (if y0.val = 0 then m0 else m1) : ℝ) : EReal)
    by_cases k0 : y0 = h
    · subst k0
      have k1 : n ≤ y1.val := not_lt.1 fun x => k ⟨rfl, x⟩
      rw [e1, e2, part_of_zero _ _ fun t ht => hf y0 y1 y2 t (by omega), part_of_zero _ _ fun t ht => hf y0 y1 y2 t (by omega)]
    · have k2 : y0.val ≠ h.val := fun x => k0 (Fin.ext x)
      have := y0.isLt
      have := h.isLt
      congr 2
      split at hn <;> split <;> omega

end Cert.AttnBwd

end
-- ==== Proof.AttnBwd.Reads.lean ====
/- What the kernel's blocks hold at one point of its grid: a pair of heads with their forward results, the cotangent and
   the mask; and what is read of them. -/
module

public import proofs.«01_k».proof.Proof.AttnBwd.Given
public import proofs.«01_k».proof.Proof.AttnBwd.Sums

@[expose] public section

noncomputable section

open Idealize.ShloMosaic Idealize.ShloMosaic.TcCoe
open scoped BigOperators

namespace Cert.AttnBwd

open Cert.Attn Cert.AttnBwdKernelIdeal Cert.AttnBwdKernelIdeal.Gen

/-- A block of two heads side by side. -/
abbrev Holds (x : Vec Ideal S2048x128 .f32) (q : Fin 2 → Head) : Prop :=
  ∀ (h : Fin 2) (t : Fin 2048) (e : Fin 64), x (Idealize.ShloMosaic.ix2 t (⟨h.val * 64 + e.val, by omega⟩ : Fin 128)) = ((q h t e : ℝ) : EReal)

/-- The blocks of a point. -/
structure Reads (x0 x1 x2 x3 : Vec Ideal S2048x128 .f32) (x4 : Vec Ideal S1x1x2048x2 .f32) (x5 : Vec Ideal S2048x128 .f32) (x6 : Vec Ideal S256x2048 .f32)
    (q k v g : Fin 2 → Head) : Prop where
  in_q : Holds x0 q
  in_k : Holds x1 k
  in_v : Holds x2 v
  in_o : Holds x3 fun h => out (q h) (k h) (v h)
  in_l : ∀ (t : Fin 2048) (h : Fin 2), x4 (Idealize.ShloMosaic.ix4 (0 : Fin 1) (0 : Fin 1) t h) = ((Real.log (total (q h) (k h) t) : ℝ) : EReal)
  in_g : Holds x5 g
  in_t : ∀ (i : Fin 256) (u : Fin 2048), x6 (Idealize.ShloMosaic.ix2 i u) = mask (mult (1792 + i.val) u.val)

section Loads
variable {n : ℕ} (h : Fin 2) (h1 : 256 ≤ n) (h2 : n ≤ 2048)

/-- 256 rows of one half of a block. -/
theorem ld_rows {x : Vec Ideal S2048x128 .f32} {q : Fin 2 → Head} (H : Holds x q)
    (inb : ∀ a, (![n - 256, 64 * h.val] : Fin 2 → ℕ) a + (![256, 64] : Fin 2 → ℕ) a ≤ S2048x128.size a) (i : Fin 256) (e : Fin 64) :
    View.ld x (Rect.unit (s := S2048x128) ![n - 256, 64 * h.val] ![256, 64] inb) (Idealize.ShloMosaic.ix2 i e)
      = ((q h ⟨n - 256 + i.val, by omega⟩ e : ℝ) : EReal) := by
  refine (View.ld_unit_apply_of x _ _ inb _ (Idealize.ShloMosaic.ix2 (⟨n - 256 + i.val, by omega⟩ : Fin 2048) (⟨h.val * 64 + e.val, by omega⟩ : Fin 128))
    fun a => ?_).trans (H h _ e)
  match a with
  | ⟨0, _⟩ => rfl
  | ⟨1, _⟩ => exact congrArg (· + e.val) (Nat.mul_comm _ _)

/-- All rows of one half of a block. -/
theorem ld_half {x : Vec Ideal S2048x128 .f32} {q : Fin 2 → Head} (H : Holds x q)
    (inb : ∀ a, (![0, 64 * h.val] : Fin 2 → ℕ) a + (![2048, 64] : Fin 2 → ℕ) a ≤ S2048x128.size a) (u : Fin 2048) (e : Fin 64) :
    View.ld x (Rect.unit (s := S2048x128) ![0, 64 * h.val] ![2048, 64] inb) (Idealize.ShloMosaic.ix2 u e) = ((q h u e : ℝ) : EReal) := by
  refine (View.ld_unit_apply_of x _ _ inb _ (Idealize.ShloMosaic.ix2 u (⟨h.val * 64 + e.val, by omega⟩ : Fin 128)) fun a => ?_).trans (H h u e)
  match a with
  | ⟨0, _⟩ => exact (Nat.zero_add _).symm
  | ⟨1, _⟩ => exact congrArg (· + e.val) (Nat.mul_comm _ _)

/-- The log-totals of 256 rows. -/
theorem ld_log {x : Vec Ideal S1x1x2048x2 .f32} {q k : Fin 2 → Head}
    (H : ∀ (t : Fin 2048) (h : Fin 2), x (Idealize.ShloMosaic.ix4 (0 : Fin 1) (0 : Fin 1) t h) = ((Real.log (total (q h) (k h) t) : ℝ) : EReal))
    (inb : ∀ a, (![0, 0, n - 256, h.val] : Fin 4 → ℕ) a + (![1, 1, 256, 1] : Fin 4 → ℕ) a ≤ S1x1x2048x2.size a) (i : Fin 256) :
    View.ld x (Rect.unit (s := S1x1x2048x2) ![0, 0, n - 256, h.val] ![1, 1, 256, 1] inb) (Idealize.ShloMosaic.ix4 (0 : Fin 1) (0 : Fin 1) i (0 : Fin 1))
      = ((Real.log (total (q h) (k h) ⟨n - 256 + i.val, by omega⟩) : ℝ) : EReal) := by
  refine (View.ld_unit_apply_of x _ _ inb _ (Idealize.ShloMosaic.ix4 (0 : Fin 1) (0 : Fin 1) (⟨n - 256 + i.val, by omega⟩ : Fin 2048) h) fun a => ?_).trans (H _ h)
  match a with
  | ⟨0, _⟩ => rfl
  | ⟨1, _⟩ => rfl
  | ⟨2, _⟩ => rfl
  | ⟨3, _⟩ => rfl

theorem mult_add (t u s : ℕ) : mult (t + s) (u + s) = mult t u := by
  have : ∀ p, ind p (t + s) (u + s) = ind p t u := fun p => by
    simp only [ind, Attends, Nat.add_sub_add_right, Nat.add_le_add_iff_right]
  unfold mult; simp only [this]

include h1 h2 in
/-- The mask of 256 rows against the first `n` positions. -/
theorem ld_mask {x : Vec Ideal S256x2048 .f32} (H : ∀ (i : Fin 256) (u : Fin 2048), x (Idealize.ShloMosaic.ix2 i u) = mask (mult (1792 + i.val) u.val))
    (inb : ∀ a, (![0, 2048 - n] : Fin 2 → ℕ) a + (![256, n] : Fin 2 → ℕ) a ≤ S256x2048.size a) (i : Fin 256) (u : Fin n) :
    View.ld x (Rect.unit (s := S256x2048) ![0, 2048 - n] ![256, n] inb) (Idealize.ShloMosaic.ix2 i u) = mask (mult (n - 256 + i.val) u.val) := by
  refine (View.ld_unit_apply_of x _ _ inb _ (Idealize.ShloMosaic.ix2 i (⟨2048 - n + u.val, by omega⟩ : Fin 2048)) fun a => ?_).trans ((H _ _).trans ?_)
  · match a with
    | ⟨0, _⟩ => exact (Nat.zero_add _).symm
    | ⟨1, _⟩ => rfl
  · rw [← mult_add (n - 256 + i.val) u.val (2048 - n), show n - 256 + i.val + (2048 - n) = 1792 + i.val from by omega, Nat.add_comm u.val]

end Loads

section Copies
variable {x1 x2 : Vec Ideal S2048x128 .f32} {k v : Fin 2 → Head}

theorem copy3 (X : Vec Ideal S2048x64 .f32) (u : Fin 2048) (e : Fin 64) :
    k0_pay3 (F := Ideal) X (Idealize.ShloMosaic.ix3 (0 : Fin 1) u e) = X (Idealize.ShloMosaic.ix2 u e) := by pointwise [k0_pay3]

/-- An array of copies: the second head's over the first's. -/
def Copies (L : List (View.Piece (Elt Ideal) S2x2048x64 .bf16)) (k : Fin 2 → Head) : Prop :=
  View.canon L = fun y => ((k (y 0) (y 1) (y 2) : ℝ) : EReal)

theorem copies (H : Holds x1 k) (inb0 inb1 inb0' inb1') (w0 w1 : S1x2048x64.Idx → EReal)
    (e0 : w0 = k0_pay3 (F := Ideal) (View.ld x1 (Rect.unit (s := S2048x128) ![0, 0] ![2048, 64] inb0)))
    (e1 : w1 = k0_pay3 (F := Ideal) (View.ld x1 (Rect.unit (s := S2048x128) ![0, 64] ![2048, 64] inb1))) :
    Copies [⟨Rect.unit (s := S2x2048x64) ![1, 0, 0] ![1, 2048, 64] inb1', w1⟩, ⟨Rect.unit (s := S2x2048x64) ![0, 0, 0] ![1, 2048, 64] inb0', w0⟩] k := by
  subst e0 e1
  refine canon_store (e := .bf16) _ 1 le_rfl inb1' _ _ (fun u c => (copy3 _ u c).trans (ld_half 1 H inb1 u c)) fun y0 y1 y2 hy => ?_
  obtain rfl : y0 = 0 := by
    have := y0.isLt
    exact Fin.ext (by by_contra hne; exact hy ⟨Fin.ext (by show y0.val = 1; have : y0.val ≠ 0 := hne; omega), y1.isLt⟩)
  have e0 : Idealize.ShloMosaic.ix3 (0 : Fin 2) y1 y2 = (Rect.unit (s := S2x2048x64) ![0, 0, 0] ![1, 2048, 64] inb0').emb (Idealize.ShloMosaic.ix3 (0 : Fin 1) y1 y2) := by
    funext a; apply Fin.ext
    match a with
    | ⟨0, _⟩ => rfl
    | ⟨1, _⟩ => show y1.val = 0 + 1 * y1.val; omega
    | ⟨2, _⟩ => show y2.val = 0 + 1 * y2.val; omega
  exact (congrArg (View.canon _) e0).trans ((View.canon_cons_emb _ _ [] _).trans ((copy3 _ y1 y2).trans (ld_half 0 H inb0 y1 y2)))

end Copies

/-- A block's operands. -/
theorem given {x0 x1 x2 x3 x5 : Vec Ideal S2048x128 .f32} {x4 : Vec Ideal S1x1x2048x2 .f32} {x6 : Vec Ideal S256x2048 .f32} {q k v g : Fin 2 → Head}
    (R : Reads x0 x1 x2 x3 x4 x5 x6 q k v g) {n : ℕ} (h : Fin 2) (h1 : 256 ≤ n) (h2 : n ≤ 2048)
    {Lk Lv : List (View.Piece (Elt Ideal) S2x2048x64 .bf16)} (vk vv : View sig .tc .vmem S2x2048x64 .bf16) (hk : Copies Lk k) (hv : Copies Lv v) {t : Vec Ideal ⟨2, ![256, n]⟩ .f32}
    (ht : ∀ (i : Fin 256) (u : Fin n), t (Idealize.ShloMosaic.ix2 i u) = mask (mult (n - 256 + i.val) u.val))
    (inb0 inb3 inb5 : ∀ a, (![n - 256, 64 * h.val] : Fin 2 → ℕ) a + (![256, 64] : Fin 2 → ℕ) a ≤ S2048x128.size a)
    (inbk inbv : ∀ a, (![h.val, 0, 0] : Fin 3 → ℕ) a + (![1, n, 64] : Fin 3 → ℕ) a ≤ S2x2048x64.size a)
    (inb4 : ∀ a, (![0, 0, n - 256, h.val] : Fin 4 → ℕ) a + (![1, 1, 256, 1] : Fin 4 → ℕ) a ≤ S1x1x2048x2.size a) :
    Given (q h) (k h) (v h) (g h) n h1 h2
      (View.ld x0 (Rect.unit (s := S2048x128) ![n - 256, 64 * h.val] ![256, 64] inb0)) (View.ld x5 (Rect.unit (s := S2048x128) ![n - 256, 64 * h.val] ![256, 64] inb5))
      (View.ld x3 (Rect.unit (s := S2048x128) ![n - 256, 64 * h.val] ![256, 64] inb3))
      (vk.readCov Lk (Rect.unit (s := S2x2048x64) ![h.val, 0, 0] ![1, n, 64] inbk).toLoadRect) (vv.readCov Lv (Rect.unit (s := S2x2048x64) ![h.val, 0, 0] ![1, n, 64] inbv).toLoadRect)
      t (View.ld x4 (Rect.unit (s := S1x1x2048x2) ![0, 0, n - 256, h.val] ![1, 1, 256, 1] inb4)) where
  a := ld_rows h h1 h2 R.in_q inb0
  d := ld_rows h h1 h2 R.in_g inb5
  o := ld_rows h h1 h2 R.in_o inb3
  kk u e := (read_canon vk Lk h h2 inbk u e).trans (congrFun hk _)
  vv u e := (read_canon vv Lv h h2 inbv u e).trans (congrFun hv _)
  t := ht
  l := ld_log h h1 h2 R.in_l inb4

end Cert.AttnBwd

end
-- ==== Proof.AttnBwd.Point.lean ====
/- What one point of the kernel leaves in its three output blocks: the cotangents of the queries, keys and values of a
   pair of heads. -/
module

public import proofs.«01_k».proof.Proof.AttnBwd.Reads

@[expose] public section

noncomputable section

open Idealize.ShloMosaic Idealize.ShloMosaic.TcCoe
open scoped BigOperators

namespace Cert.AttnBwd

open Cert.Attn Cert.AttnBwdKernelIdeal Cert.AttnBwdKernelIdeal.Gen

/-- An entry of a block of two heads side by side. -/
def headAt (f : Fin 2 → Head) (r c : ℕ) : EReal := ((f (Fin.ofNat 2 (c / 64)) (Fin.ofNat 2048 r) (Fin.ofNat 64 (c % 64)) : ℝ) : EReal)

theorem headAt_eq (f : Fin 2 → Head) (h : Fin 2) (t : Fin 2048) (e : Fin 64) (r c : ℕ) (hr : r = t.val) (hc : c = 64 * h.val + e.val) :
    headAt f r c = ((f h t e : ℝ) : EReal) := by
  unfold headAt
  have a : Fin.ofNat 2 (c / 64) = h := Fin.ext (by show c / 64 % 2 = h.val; omega)
  have b : Fin.ofNat 64 (c % 64) = e := Fin.ext (by show c % 64 % 64 = e.val; omega)
  have d : Fin.ofNat 2048 r = t := Fin.ext (by show r % 2048 = t.val; omega)
  rw [a, b, d]

/-- The whole array as one rectangle. -/
theorem emb_all (inb : ∀ a, (![0, 0, 0] : Fin 3 → ℕ) a + (![2, 2048, 64] : Fin 3 → ℕ) a ≤ S2x2048x64.size a) (i : Fin 2) (u : Fin 2048) (e : Fin 64) :
    Idealize.ShloMosaic.ix3 i u e = (Rect.unit (s := S2x2048x64) ![0, 0, 0] ![2, 2048, 64] inb).emb (Idealize.ShloMosaic.ix3 i u e) := by
  funext a; apply Fin.ext
  match a with
  | ⟨0, _⟩ => show i.val = 0 + 1 * i.val; omega
  | ⟨1, _⟩ => show u.val = 0 + 1 * u.val; omega
  | ⟨2, _⟩ => show e.val = 0 + 1 * e.val; omega

/-- Some list of stores leaves the given array. -/
theorem any_copy (k : Fin 2 → Head) : ∃ L, Copies L k := by
  have inb : ∀ a, (![0, 0, 0] : Fin 3 → ℕ) a + (![2, 2048, 64] : Fin 3 → ℕ) a ≤ S2x2048x64.size a := by decide
  refine ⟨[⟨Rect.unit (s := S2x2048x64) ![0, 0, 0] ![2, 2048, 64] inb, fun y => ((k (y 0) (y 1) (y 2) : ℝ) : EReal)⟩], funext fun y => ?_⟩
  idx_vars y
  exact (congrArg (View.canon _) (emb_all inb y0 y1 y2)).trans (View.canon_cons_emb _ _ [] _)

section Pieces
variable {x0 x1 x2 x3 x5 : Vec Ideal S2048x128 .f32} {x4 : Vec Ideal S1x1x2048x2 .f32} {x6 : Vec Ideal S256x2048 .f32} {q k v g : Fin 2 → Head}
  (R : Reads x0 x1 x2 x3 x4 x5 x6 q k v g) {n : ℕ} (h : Fin 2) (h1 : 256 ≤ n) (h2 : n ≤ 2048)
  {fq : Vec Ideal S256x64 .f32 → Vec Ideal S256x64 .f32 → Vec Ideal S256x64 .f32 → Vec Ideal ⟨3, ![1, n, 64]⟩ .bf16 → Vec Ideal ⟨3, ![1, n, 64]⟩ .bf16 → Vec Ideal ⟨2, ![256, n]⟩ .f32 → Vec Ideal S1x1x256x1 .f32 → FVec Ideal S256x64 .bf16}
  {fk : Vec Ideal S256x64 .f32 → Vec Ideal S256x64 .f32 → Vec Ideal S256x64 .f32 → Vec Ideal ⟨3, ![1, n, 64]⟩ .bf16 → Vec Ideal ⟨3, ![1, n, 64]⟩ .bf16 → Vec Ideal ⟨2, ![256, n]⟩ .f32 → Vec Ideal S1x1x256x1 .f32 → Vec Ideal ⟨3, ![1, n, 64]⟩ .f32 → FVec Ideal ⟨3, ![1, n, 64]⟩ .f32}
  {fv : Vec Ideal S256x64 .f32 → Vec Ideal S256x64 .f32 → Vec Ideal ⟨3, ![1, n, 64]⟩ .bf16 → Vec Ideal ⟨2, ![256, n]⟩ .f32 → Vec Ideal S1x1x256x1 .f32 → Vec Ideal ⟨3, ![1, n, 64]⟩ .f32 → FVec Ideal ⟨3, ![1, n, 64]⟩ .f32}
  (B : Grad n fq fk fv)
  {Lk Lv : List (View.Piece (Elt Ideal) S2x2048x64 .bf16)} {vk vv : View sig .tc .vmem S2x2048x64 .bf16} (hk : Copies Lk k) (hv : Copies Lv v) {t : Vec Ideal ⟨2, ![256, n]⟩ .f32}
  (ht : ∀ (i : Fin 256) (u : Fin n), t (Idealize.ShloMosaic.ix2 i u) = mask (mult (n - 256 + i.val) u.val))
  {inb0 inb3 inb5 : ∀ a, (![n - 256, 64 * h.val] : Fin 2 → ℕ) a + (![256, 64] : Fin 2 → ℕ) a ≤ S2048x128.size a}
  {inbk inbv inbL inbS : ∀ a, (![h.val, 0, 0] : Fin 3 → ℕ) a + (![1, n, 64] : Fin 3 → ℕ) a ≤ S2x2048x64.size a}
  {inb4 : ∀ a, (![0, 0, n - 256, h.val] : Fin 4 → ℕ) a + (![1, 1, 256, 1] : Fin 4 → ℕ) a ≤ S1x1x2048x2.size a}

include R h1 h2 B hk hv ht

/-- 256 rows of the queries' cotangent. -/
theorem piece_q (y : S256x64.Idx) (r s : ℕ) (hr : r = n - 256 + (y 0).val) (hs : s = 64 * h.val + (y 1).val) :
    fq (View.ld x0 (Rect.unit (s := S2048x128) ![n - 256, 64 * h.val] ![256, 64] inb0)) (View.ld x5 (Rect.unit (s := S2048x128) ![n - 256, 64 * h.val] ![256, 64] inb5))
      (View.ld x3 (Rect.unit (s := S2048x128) ![n - 256, 64 * h.val] ![256, 64] inb3))
      (vk.readCov Lk (Rect.unit (s := S2x2048x64) ![h.val, 0, 0] ![1, n, 64] inbk).toLoadRect) (vv.readCov Lv (Rect.unit (s := S2x2048x64) ![h.val, 0, 0] ![1, n, 64] inbv).toLoadRect)
      t (View.ld x4 (Rect.unit (s := S1x1x2048x2) ![0, 0, n - 256, h.val] ![1, 1, 256, 1] inb4)) y
    = headAt (fun h => dQ (q h) (k h) (v h) (g h)) r s := by
  idx_vars y
  have hy : y0.val < 256 := y0.isLt
  rw [headAt_eq _ h (⟨n - 256 + y0.val, by omega⟩ : Fin 2048) y1 r s hr hs]
  exact block_q (given R h h1 h2 vk vv hk hv ht inb0 inb3 inb5 inbk inbv inb4) B y0 y1

/-- The keys' cotangent grows by 256 rows. -/
theorem step_k {vL : View sig .tc .vmem S2x2048x64 .f32} {L : Pieces} (n0 n1 m0 m1 : ℕ)
    (hn : if h.val = 0 then n0 = n - 256 ∧ m0 = n ∧ m1 = n1 else n1 = n - 256 ∧ m1 = n ∧ m0 = n0)
    (hL : View.canon L = sums (fun h => termK (q h) (k h) (v h) (g h)) n0 n1) :
    View.canon (⟨Rect.unit (s := S2x2048x64) ![h.val, 0, 0] ![1, n, 64] inbS,
      fk (View.ld x0 (Rect.unit (s := S2048x128) ![n - 256, 64 * h.val] ![256, 64] inb0)) (View.ld x5 (Rect.unit (s := S2048x128) ![n - 256, 64 * h.val] ![256, 64] inb5))
      (View.ld x3 (Rect.unit (s := S2048x128) ![n - 256, 64 * h.val] ![256, 64] inb3))
      (vk.readCov Lk (Rect.unit (s := S2x2048x64) ![h.val, 0, 0] ![1, n, 64] inbk).toLoadRect) (vv.readCov Lv (Rect.unit (s := S2x2048x64) ![h.val, 0, 0] ![1, n, 64] inbv).toLoadRect)
      t (View.ld x4 (Rect.unit (s := S1x1x2048x2) ![0, 0, n - 256, h.val] ![1, 1, 256, 1] inb4))
      (vL.readCov L (Rect.unit (s := S2x2048x64) ![h.val, 0, 0] ![1, n, 64] inbL).toLoadRect)⟩ :: L : Pieces)
      = sums (fun h => termK (q h) (k h) (v h) (g h)) m0 m1 :=
  sums_step _ (fun h u c t ht => by show Cert.Attn.slope _ _ _ _ t u * _ = 0; rw [slope_of_lt _ _ _ _ t u ht, zero_mul]) vL L h h1 h2 n0 n1 m0 m1 hn hL inbS inbL _
    (block_k (given R h h1 h2 vk vv hk hv ht inb0 inb3 inb5 inbk inbv inb4) B _)

omit hv in
/-- The values' cotangent grows by 256 rows. -/
theorem step_v {vL : View sig .tc .vmem S2x2048x64 .f32} {L : Pieces} (n0 n1 m0 m1 : ℕ)
    (hn : if h.val = 0 then n0 = n - 256 ∧ m0 = n ∧ m1 = n1 else n1 = n - 256 ∧ m1 = n ∧ m0 = n0)
    (hL : View.canon L = sums (fun h => termV (q h) (k h) (g h)) n0 n1) :
    View.canon (⟨Rect.unit (s := S2x2048x64) ![h.val, 0, 0] ![1, n, 64] inbS,
      fv (View.ld x0 (Rect.unit (s := S2048x128) ![n - 256, 64 * h.val] ![256, 64] inb0)) (View.ld x5 (Rect.unit (s := S2048x128) ![n - 256, 64 * h.val] ![256, 64] inb5))
      (vk.readCov Lk (Rect.unit (s := S2x2048x64) ![h.val, 0, 0] ![1, n, 64] inbk).toLoadRect)
      t (View.ld x4 (Rect.unit (s := S1x1x2048x2) ![0, 0, n - 256, h.val] ![1, 1, 256, 1] inb4))
      (vL.readCov L (Rect.unit (s := S2x2048x64) ![h.val, 0, 0] ![1, n, 64] inbL).toLoadRect)⟩ :: L : Pieces)
      = sums (fun h => termV (q h) (k h) (g h)) m0 m1 :=
  sums_step _ (fun h u c t ht => by show prob _ _ t u * _ = 0; rw [prob_of_lt _ _ t u ht, zero_mul]) vL L h h1 h2 n0 n1 m0 m1 hn hL inbS inbL _
    (by obtain ⟨Lv, hv⟩ := any_copy v; exact block_v (given R h h1 h2 vk vk hk hv ht inb0 inb0 inb5 inbk inbk inb4) B _)

end Pieces

theorem sums_none (f : Terms) (y0 : Fin 2) (y1 : Fin 2048) (y2 : Fin 64) : (0 : EReal) = sums f 0 0 (Idealize.ShloMosaic.ix3 y0 y1 y2) := by
  show (0 : EReal) = ((part (f y0 y1 y2) (if y0.val = 0 then 0 else 0) : ℝ) : EReal)
  rw [ite_self, part_zero, EReal.coe_zero]

/-- The array of sums before the first block. -/
theorem sums_zero (f : Terms) (inb : ∀ a, (![0, 0, 0] : Fin 3 → ℕ) a + (![2, 2048, 64] : Fin 3 → ℕ) a ≤ S2x2048x64.size a)
    (w : (Rect.unit (s := S2x2048x64) ![0, 0, 0] ![2, 2048, 64] inb).shape.Idx → Elt Ideal .f32) (L : Pieces)
    (hw : ∀ (i : Fin 2) (u : Fin 2048) (e : Fin 64), w (Idealize.ShloMosaic.ix3 i u e) = (0 : EReal)) :
    View.canon (⟨Rect.unit (s := S2x2048x64) ![0, 0, 0] ![2, 2048, 64] inb, w⟩ :: L : Pieces) = sums f 0 0 := by
  funext y
  idx_vars y
  exact (congrArg (View.canon _) (emb_all inb y0 y1 y2)).trans ((View.canon_cons_emb _ w L _).trans ((hw y0 y1 y2).trans (sums_none f y0 y1 y2)))

theorem zero7 (i : Fin 2) (u : Fin 2048) (e : Fin 64) : k0_pay7 (F := Ideal) (Idealize.ShloMosaic.ix3 i u e) = (0 : EReal) := by
  pointwise [k0_pay7]
  try exact Ideal.ofBits_zero_f32

theorem zero8 (i : Fin 2) (u : Fin 2048) (e : Fin 64) : k0_pay8 (F := Ideal) (Scalar.ofBits .f32 0x00000000#32) (Idealize.ShloMosaic.ix3 i u e) = (0 : EReal) := by
  pointwise [k0_pay8]
  try exact Ideal.ofBits_zero_f32

/-- One half of the array of sums, written out. -/
theorem half_out (f : Terms) (d : Fin 2 → Head) (hf : ∀ h u c, part (f h u c) 2048 = d h u c) (v : View sig .tc .vmem S2x2048x64 .f32) (L : Pieces) (h : Fin 2)
    (inb : ∀ a, (![h.val, 0, 0] : Fin 3 → ℕ) a + (![1, 2048, 64] : Fin 3 → ℕ) a ≤ S2x2048x64.size a) (n0 n1 : ℕ) (hn : (if h.val = 0 then n0 else n1) = 2048)
    (y : S2048x64.Idx) (r s : ℕ) (hr : r = (y 0).val) (hs : s = 64 * h.val + (y 1).val) (hL : View.canon L = sums f n0 n1) :
    k0_pay1 (F := Ideal) (v.readCov L (Rect.unit (s := S2x2048x64) ![h.val, 0, 0] ![1, 2048, 64] inb).toLoadRect) y = headAt d r s := by
  idx_vars y
  have e : k0_pay1 (F := Ideal) (v.readCov L (Rect.unit (s := S2x2048x64) ![h.val, 0, 0] ![1, 2048, 64] inb).toLoadRect) (Idealize.ShloMosaic.ix2 y0 y1)
      = v.readCov L (Rect.unit (s := S2x2048x64) ![h.val, 0, 0] ![1, 2048, 64] inb).toLoadRect (Idealize.ShloMosaic.ix3 (0 : Fin 1) y0 y1) := by pointwise [k0_pay1]
  rw [e, read_canon v L h le_rfl inb y0 y1, hL, headAt_eq d h y0 y1 r s hr hs, ← hf]
  show ((part (f h y0 y1) (if h.val = 0 then n0 else n1) : ℝ) : EReal) = _
  rw [hn]

variable (m : (ℓ : Loc nD τ sig) → Buf (Elt Ideal) ℓ) (c : Dev nD) (t : Fin cfg0.N) {q k v g : Fin 2 → Head}
  (R : Reads (iblk m c 0 t) (iblk m c 1 t) (iblk m c 2 t) (iblk m c 3 t) (iblk m c 4 t) (iblk m c 5 t) (iblk m c 6 t) q k v g)
include R

theorem after_q (y : S2048x128.Idx) : (outsAt0 m c t).1 y = headAt (fun h => dQ (q h) (k h) (v h) (g h)) (y 0).val (y 1).val := by
  unfold outsAt0
  dsimp only
  frame_out
  canon_tiles x h
  case piece0 => exact piece_q R 1 (by norm_num) le_rfl second2048 (by exact copies R.in_k _ _ _ _ _ _ rfl rfl) (by exact copies R.in_v _ _ _ _ _ _ rfl rfl) R.in_t x _ _ (by omega) (by omega)
  case piece1 => exact piece_q R 1 (by norm_num) (by norm_num) second1792 (by exact copies R.in_k _ _ _ _ _ _ rfl rfl) (by exact copies R.in_v _ _ _ _ _ _ rfl rfl) (by exact ld_mask (by norm_num) (by norm_num) R.in_t _) x _ _ (by omega) (by omega)
  case piece2 => exact piece_q R 1 (by norm_num) (by norm_num) second1536 (by exact copies R.in_k _ _ _ _ _ _ rfl rfl) (by exact copies R.in_v _ _ _ _ _ _ rfl rfl) (by exact ld_mask (by norm_num) (by norm_num) R.in_t _) x _ _ (by omega) (by omega)
  case piece3 => exact piece_q R 1 (by norm_num) (by norm_num) second1280 (by exact copies R.in_k _ _ _ _ _ _ rfl rfl) (by exact copies R.in_v _ _ _ _ _ _ rfl rfl) (by exact ld_mask (by norm_num) (by norm_num) R.in_t _) x _ _ (by omega) (by omega)
  case piece4 => exact piece_q R 1 (by norm_num) (by norm_num) second1024 (by exact copies R.in_k _ _ _ _ _ _ rfl rfl) (by exact copies R.in_v _ _ _ _ _ _ rfl rfl) (by exact ld_mask (by norm_num) (by norm_num) R.in_t _) x _ _ (by omega) (by omega)
  case piece5 => exact piece_q R 1 (by norm_num) (by norm_num) second768 (by exact copies R.in_k _ _ _ _ _ _ rfl rfl) (by exact copies R.in_v _ _ _ _ _ _ rfl rfl) (by exact ld_mask (by norm_num) (by norm_num) R.in_t _) x _ _ (by omega) (by omega)
  case piece6 => exact piece_q R 1 (by norm_num) (by norm_num) second512 (by exact copies R.in_k _ _ _ _ _ _ rfl rfl) (by exact copies R.in_v _ _ _ _ _ _ rfl rfl) (by exact ld_mask (by norm_num) (by norm_num) R.in_t _) x _ _ (by omega) (by omega)
  case piece7 => exact piece_q R 1 le_rfl (by norm_num) second256 (by exact copies R.in_k _ _ _ _ _ _ rfl rfl) (by exact copies R.in_v _ _ _ _ _ _ rfl rfl) (by exact ld_mask le_rfl (by norm_num) R.in_t _) x _ _ (by omega) (by omega)
  case piece8 => exact piece_q R 0 (by norm_num) le_rfl block2048 (by exact copies R.in_k _ _ _ _ _ _ rfl rfl) (by exact copies R.in_v _ _ _ _ _ _ rfl rfl) R.in_t x _ _ (by omega) (by omega)
  case piece9 => exact piece_q R 0 (by norm_num) (by norm_num) block1792 (by exact copies R.in_k _ _ _ _ _ _ rfl rfl) (by exact copies R.in_v _ _ _ _ _ _ rfl rfl) (by exact ld_mask (by norm_num) (by norm_num) R.in_t _) x _ _ (by omega) (by omega)
  case piece10 => exact piece_q R 0 (by norm_num) (by norm_num) block1536 (by exact copies R.in_k _ _ _ _ _ _ rfl rfl) (by exact copies R.in_v _ _ _ _ _ _ rfl rfl) (by exact ld_mask (by norm_num) (by norm_num) R.in_t _) x _ _ (by omega) (by omega)
  case piece11 => exact piece_q R 0 (by norm_num) (by norm_num) block1280 (by exact copies R.in_k _ _ _ _ _ _ rfl rfl) (by exact copies R.in_v _ _ _ _ _ _ rfl rfl) (by exact ld_mask (by norm_num) (by norm_num) R.in_t _) x _ _ (by omega) (by omega)
  case piece12 => exact piece_q R 0 (by norm_num) (by norm_num) block1024 (by exact copies R.in_k _ _ _ _ _ _ rfl rfl) (by exact copies R.in_v _ _ _ _ _ _ rfl rfl) (by exact ld_mask (by norm_num) (by norm_num) R.in_t _) x _ _ (by omega) (by omega)
  case piece13 => exact piece_q R 0 (by norm_num) (by norm_num) block768 (by exact copies R.in_k _ _ _ _ _ _ rfl rfl) (by exact copies R.in_v _ _ _ _ _ _ rfl rfl) (by exact ld_mask (by norm_num) (by norm_num) R.in_t _) x _ _ (by omega) (by omega)
  case piece14 => exact piece_q R 0 (by norm_num) (by norm_num) block512 (by exact copies R.in_k _ _ _ _ _ _ rfl rfl) (by exact copies R.in_v _ _ _ _ _ _ rfl rfl) (by exact ld_mask (by norm_num) (by norm_num) R.in_t _) x _ _ (by omega) (by omega)
  case piece15 => exact piece_q R 0 le_rfl (by norm_num) block256 (by exact copies R.in_k _ _ _ _ _ _ rfl rfl) (by exact copies R.in_v _ _ _ _ _ _ rfl rfl) (by exact ld_mask le_rfl (by norm_num) R.in_t _) x _ _ (by omega) (by omega)

theorem after_k (y : S2048x128.Idx) : (outsAt0 m c t).2.1 y = headAt (fun h => dK (q h) (k h) (v h) (g h)) (y 0).val (y 1).val := by
  unfold outsAt0
  dsimp only
  frame_out
  canon_tiles x h
  case piece0 =>
    refine half_out (fun h => termK (q h) (k h) (v h) (g h)) _ (fun _ _ _ => part_all _) _ _ 1 _ 2048 2048 rfl x _ _ (by omega) (by omega) ?_
    refine step_k R 1 (by norm_num) le_rfl second2048 (by exact copies R.in_k _ _ _ _ _ _ rfl rfl) (by exact copies R.in_v _ _ _ _ _ _ rfl rfl) R.in_t 2048 1792 2048 2048 (by decide) ?_
    refine step_k R 1 (by norm_num) (by norm_num) second1792 (by exact copies R.in_k _ _ _ _ _ _ rfl rfl) (by exact copies R.in_v _ _ _ _ _ _ rfl rfl) (by exact ld_mask (by norm_num) (by norm_num) R.in_t _) 2048 1536 2048 1792 (by decide) ?_
    refine step_k R 1 (by norm_num) (by norm_num) second1536 (by exact copies R.in_k _ _ _ _ _ _ rfl rfl) (by exact copies R.in_v _ _ _ _ _ _ rfl rfl) (by exact ld_mask (by norm_num) (by norm_num) R.in_t _) 2048 1280 2048 1536 (by decide) ?_
    refine step_k R 1 (by norm_num) (by norm_num) second1280 (by exact copies R.in_k _ _ _ _ _ _ rfl rfl) (by exact copies R.in_v _ _ _ _ _ _ rfl rfl) (by exact ld_mask (by norm_num) (by norm_num) R.in_t _) 2048 1024 2048 1280 (by decide) ?_
    refine step_k R 1 (by norm_num) (by norm_num) second1024 (by exact copies R.in_k _ _ _ _ _ _ rfl rfl) (by exact copies R.in_v _ _ _ _ _ _ rfl rfl) (by exact ld_mask (by norm_num) (by norm_num) R.in_t _) 2048 768 2048 1024 (by decide) ?_
    refine step_k R 1 (by norm_num) (by norm_num) second768 (by exact copies R.in_k _ _ _ _ _ _ rfl rfl) (by exact copies R.in_v _ _ _ _ _ _ rfl rfl) (by exact ld_mask (by norm_num) (by norm_num) R.in_t _) 2048 512 2048 768 (by decide) ?_
    refine step_k R 1 (by norm_num) (by norm_num) second512 (by exact copies R.in_k _ _ _ _ _ _ rfl rfl) (by exact copies R.in_v _ _ _ _ _ _ rfl rfl) (by exact ld_mask (by norm_num) (by norm_num) R.in_t _) 2048 256 2048 512 (by decide) ?_
    refine step_k R 1 le_rfl (by norm_num) second256 (by exact copies R.in_k _ _ _ _ _ _ rfl rfl) (by exact copies R.in_v _ _ _ _ _ _ rfl rfl) (by exact ld_mask le_rfl (by norm_num) R.in_t _) 2048 0 2048 256 (by decide) ?_
    refine step_k R 0 (by norm_num) le_rfl block2048 (by exact copies R.in_k _ _ _ _ _ _ rfl rfl) (by exact copies R.in_v _ _ _ _ _ _ rfl rfl) R.in_t 1792 0 2048 0 (by decide) ?_
    refine step_k R 0 (by norm_num) (by norm_num) block1792 (by exact copies R.in_k _ _ _ _ _ _ rfl rfl) (by exact copies R.in_v _ _ _ _ _ _ rfl rfl) (by exact ld_mask (by norm_num) (by norm_num) R.in_t _) 1536 0 1792 0 (by decide) ?_
    refine step_k R 0 (by norm_num) (by norm_num) block1536 (by exact copies R.in_k _ _ _ _ _ _ rfl rfl) (by exact copies R.in_v _ _ _ _ _ _ rfl rfl) (by exact ld_mask (by norm_num) (by norm_num) R.in_t _) 1280 0 1536 0 (by decide) ?_
    refine step_k R 0 (by norm_num) (by norm_num) block1280 (by exact copies R.in_k _ _ _ _ _ _ rfl rfl) (by exact copies R.in_v _ _ _ _ _ _ rfl rfl) (by exact ld_mask (by norm_num) (by norm_num) R.in_t _) 1024 0 1280 0 (by decide) ?_
    refine step_k R 0 (by norm_num) (by norm_num) block1024 (by exact copies R.in_k _ _ _ _ _ _ rfl rfl) (by exact copies R.in_v _ _ _ _ _ _ rfl rfl) (by exact ld_mask (by norm_num) (by norm_num) R.in_t _) 768 0 1024 0 (by decide) ?_
    refine step_k R 0 (by norm_num) (by norm_num) block768 (by exact copies R.in_k _ _ _ _ _ _ rfl rfl) (by exact copies R.in_v _ _ _ _ _ _ rfl rfl) (by exact ld_mask (by norm_num) (by norm_num) R.in_t _) 512 0 768 0 (by decide) ?_
    refine step_k R 0 (by norm_num) (by norm_num) block512 (by exact copies R.in_k _ _ _ _ _ _ rfl rfl) (by exact copies R.in_v _ _ _ _ _ _ rfl rfl) (by exact ld_mask (by norm_num) (by norm_num) R.in_t _) 256 0 512 0 (by decide) ?_
    refine step_k R 0 le_rfl (by norm_num) block256 (by exact copies R.in_k _ _ _ _ _ _ rfl rfl) (by exact copies R.in_v _ _ _ _ _ _ rfl rfl) (by exact ld_mask le_rfl (by norm_num) R.in_t _) 0 0 256 0 (by decide) ?_
    exact sums_zero _ _ _ _ zero7
  case piece1 =>
    refine half_out (fun h => termK (q h) (k h) (v h) (g h)) _ (fun _ _ _ => part_all _) _ _ 0 _ 2048 0 rfl x _ _ (by omega) (by omega) ?_
    refine step_k R 0 (by norm_num) le_rfl block2048 (by exact copies R.in_k _ _ _ _ _ _ rfl rfl) (by exact copies R.in_v _ _ _ _ _ _ rfl rfl) R.in_t 1792 0 2048 0 (by decide) ?_
    refine step_k R 0 (by norm_num) (by norm_num) block1792 (by exact copies R.in_k _ _ _ _ _ _ rfl rfl) (by exact copies R.in_v _ _ _ _ _ _ rfl rfl) (by exact ld_mask (by norm_num) (by norm_num) R.in_t _) 1536 0 1792 0 (by decide) ?_
    refine step_k R 0 (by norm_num) (by norm_num) block1536 (by exact copies R.in_k _ _ _ _ _ _ rfl rfl) (by exact copies R.in_v _ _ _ _ _ _ rfl rfl) (by exact ld_mask (by norm_num) (by norm_num) R.in_t _) 1280 0 1536 0 (by decide) ?_
    refine step_k R 0 (by norm_num) (by norm_num) block1280 (by exact copies R.in_k _ _ _ _ _ _ rfl rfl) (by exact copies R.in_v _ _ _ _ _ _ rfl rfl) (by exact ld_mask (by norm_num) (by norm_num) R.in_t _) 1024 0 1280 0 (by decide) ?_
    refine step_k R 0 (by norm_num) (by norm_num) block1024 (by exact copies R.in_k _ _ _ _ _ _ rfl rfl) (by exact copies R.in_v _ _ _ _ _ _ rfl rfl) (by exact ld_mask (by norm_num) (by norm_num) R.in_t _) 768 0 1024 0 (by decide) ?_
    refine step_k R 0 (by norm_num) (by norm_num) block768 (by exact copies R.in_k _ _ _ _ _ _ rfl rfl) (by exact copies R.in_v _ _ _ _ _ _ rfl rfl) (by exact ld_mask (by norm_num) (by norm_num) R.in_t _) 512 0 768 0 (by decide) ?_
    refine step_k R 0 (by norm_num) (by norm_num) block512 (by exact copies R.in_k _ _ _ _ _ _ rfl rfl) (by exact copies R.in_v _ _ _ _ _ _ rfl rfl) (by exact ld_mask (by norm_num) (by norm_num) R.in_t _) 256 0 512 0 (by decide) ?_
    refine step_k R 0 le_rfl (by norm_num) block256 (by exact copies R.in_k _ _ _ _ _ _ rfl rfl) (by exact copies R.in_v _ _ _ _ _ _ rfl rfl) (by exact ld_mask le_rfl (by norm_num) R.in_t _) 0 0 256 0 (by decide) ?_
    exact sums_zero _ _ _ _ zero7

theorem after_v (y : S2048x128.Idx) : (outsAt0 m c t).2.2 y = headAt (fun h => dV (q h) (k h) (g h)) (y 0).val (y 1).val := by
  unfold outsAt0
  dsimp only
  frame_out
  canon_tiles x h
  case piece0 =>
    refine half_out (fun h => termV (q h) (k h) (g h)) _ (fun _ _ _ => part_all _) _ _ 1 _ 2048 2048 rfl x _ _ (by omega) (by omega) ?_
    refine step_v R 1 (by norm_num) le_rfl second2048 (by exact copies R.in_k _ _ _ _ _ _ rfl rfl) R.in_t 2048 1792 2048 2048 (by decide) ?_
    refine step_v R 1 (by norm_num) (by norm_num) second1792 (by exact copies R.in_k _ _ _ _ _ _ rfl rfl) (by exact ld_mask (by norm_num) (by norm_num) R.in_t _) 2048 1536 2048 1792 (by decide) ?_
    refine step_v R 1 (by norm_num) (by norm_num) second1536 (by exact copies R.in_k _ _ _ _ _ _ rfl rfl) (by exact ld_mask (by norm_num) (by norm_num) R.in_t _) 2048 1280 2048 1536 (by decide) ?_
    refine step_v R 1 (by norm_num) (by norm_num) second1280 (by exact copies R.in_k _ _ _ _ _ _ rfl rfl) (by exact ld_mask (by norm_num) (by norm_num) R.in_t _) 2048 1024 2048 1280 (by decide) ?_
    refine step_v R 1 (by norm_num) (by norm_num) second1024 (by exact copies R.in_k _ _ _ _ _ _ rfl rfl) (by exact ld_mask (by norm_num) (by norm_num) R.in_t _) 2048 768 2048 1024 (by decide) ?_
    refine step_v R 1 (by norm_num) (by norm_num) second768 (by exact copies R.in_k _ _ _ _ _ _ rfl rfl) (by exact ld_mask (by norm_num) (by norm_num) R.in_t _) 2048 512 2048 768 (by decide) ?_
    refine step_v R 1 (by norm_num) (by norm_num) second512 (by exact copies R.in_k _ _ _ _ _ _ rfl rfl) (by exact ld_mask (by norm_num) (by norm_num) R.in_t _) 2048 256 2048 512 (by decide) ?_
    refine step_v R 1 le_rfl (by norm_num) second256 (by exact copies R.in_k _ _ _ _ _ _ rfl rfl) (by exact ld_mask le_rfl (by norm_num) R.in_t _) 2048 0 2048 256 (by decide) ?_
    refine step_v R 0 (by norm_num) le_rfl block2048 (by exact copies R.in_k _ _ _ _ _ _ rfl rfl) R.in_t 1792 0 2048 0 (by decide) ?_
    refine step_v R 0 (by norm_num) (by norm_num) block1792 (by exact copies R.in_k _ _ _ _ _ _ rfl rfl) (by exact ld_mask (by norm_num) (by norm_num) R.in_t _) 1536 0 1792 0 (by decide) ?_
    refine step_v R 0 (by norm_num) (by norm_num) block1536 (by exact copies R.in_k _ _ _ _ _ _ rfl rfl) (by exact ld_mask (by norm_num) (by norm_num) R.in_t _) 1280 0 1536 0 (by decide) ?_
    refine step_v R 0 (by norm_num) (by norm_num) block1280 (by exact copies R.in_k _ _ _ _ _ _ rfl rfl) (by exact ld_mask (by norm_num) (by norm_num) R.in_t _) 1024 0 1280 0 (by decide) ?_
    refine step_v R 0 (by norm_num) (by norm_num) block1024 (by exact copies R.in_k _ _ _ _ _ _ rfl rfl) (by exact ld_mask (by norm_num) (by norm_num) R.in_t _) 768 0 1024 0 (by decide) ?_
    refine step_v R 0 (by norm_num) (by norm_num) block768 (by exact copies R.in_k _ _ _ _ _ _ rfl rfl) (by exact ld_mask (by norm_num) (by norm_num) R.in_t _) 512 0 768 0 (by decide) ?_
    refine step_v R 0 (by norm_num) (by norm_num) block512 (by exact copies R.in_k _ _ _ _ _ _ rfl rfl) (by exact ld_mask (by norm_num) (by norm_num) R.in_t _) 256 0 512 0 (by decide) ?_
    refine step_v R 0 le_rfl (by norm_num) block256 (by exact copies R.in_k _ _ _ _ _ _ rfl rfl) (by exact ld_mask le_rfl (by norm_num) R.in_t _) 0 0 256 0 (by decide) ?_
    exact sums_zero _ _ _ _ zero8
  case piece1 =>
    refine half_out (fun h => termV (q h) (k h) (g h)) _ (fun _ _ _ => part_all _) _ _ 0 _ 2048 0 rfl x _ _ (by omega) (by omega) ?_
    refine step_v R 0 (by norm_num) le_rfl block2048 (by exact copies R.in_k _ _ _ _ _ _ rfl rfl) R.in_t 1792 0 2048 0 (by decide) ?_
    refine step_v R 0 (by norm_num) (by norm_num) block1792 (by exact copies R.in_k _ _ _ _ _ _ rfl rfl) (by exact ld_mask (by norm_num) (by norm_num) R.in_t _) 1536 0 1792 0 (by decide) ?_
    refine step_v R 0 (by norm_num) (by norm_num) block1536 (by exact copies R.in_k _ _ _ _ _ _ rfl rfl) (by exact ld_mask (by norm_num) (by norm_num) R.in_t _) 1280 0 1536 0 (by decide) ?_
    refine step_v R 0 (by norm_num) (by norm_num) block1280 (by exact copies R.in_k _ _ _ _ _ _ rfl rfl) (by exact ld_mask (by norm_num) (by norm_num) R.in_t _) 1024 0 1280 0 (by decide) ?_
    refine step_v R 0 (by norm_num) (by norm_num) block1024 (by exact copies R.in_k _ _ _ _ _ _ rfl rfl) (by exact ld_mask (by norm_num) (by norm_num) R.in_t _) 768 0 1024 0 (by decide) ?_
    refine step_v R 0 (by norm_num) (by norm_num) block768 (by exact copies R.in_k _ _ _ _ _ _ rfl rfl) (by exact ld_mask (by norm_num) (by norm_num) R.in_t _) 512 0 768 0 (by decide) ?_
    refine step_v R 0 (by norm_num) (by norm_num) block512 (by exact copies R.in_k _ _ _ _ _ _ rfl rfl) (by exact ld_mask (by norm_num) (by norm_num) R.in_t _) 256 0 512 0 (by decide) ?_
    refine step_v R 0 le_rfl (by norm_num) block256 (by exact copies R.in_k _ _ _ _ _ _ rfl rfl) (by exact ld_mask le_rfl (by norm_num) R.in_t _) 0 0 256 0 (by decide) ?_
    exact sums_zero _ _ _ _ zero8

end Cert.AttnBwd

end
-- ==== Proof.AttnBwd.Rows.lean ====
/- What the reference computes: the derivative of a cotangent through the mixture of three masked softmaxes, in real
   numbers. Its forward lines are those of `Attn/Reference.lean`. -/
module

public import proofs.«01_k».proof.Proof.Attn.Reference
public import proofs.«01_k».proof.Proof.Gen.AttnBwdReferenceIdeal.Read

@[expose] public section

set_option maxRecDepth 16384

noncomputable section

open Idealize.ShloMosaic Idealize.ShloMosaic.TcCoe Idealize.SL.Sem
open scoped BigOperators

namespace Cert.AttnBwdReferenceIdeal.Attn

open Cert.AttnBwdReferenceIdeal Cert.AttnBwdReferenceIdeal.Gen Cert.AttnBwdReferenceIdeal.Read Cert.Reals Cert.Rows Cert.Attn
open Cert.AttnFwdReferenceIdeal.Attn (head Finite top peak)

variable (X : S2x2048x2950.Idx → EReal) (Y : S2x2048x1024.Idx → EReal)

theorem same_scores : val_main_v9 (F := Ideal) X = Cert.AttnFwdReferenceIdeal.Read.val_main_v9 (F := Ideal) X := rfl
theorem same_mask : val_main_v46 (F := Ideal) = Cert.AttnFwdReferenceIdeal.Read.val_main_v46 (F := Ideal) := rfl
theorem same_masked : val_main_v52 (F := Ideal) X = Cert.AttnFwdReferenceIdeal.Read.val_main_v52 (F := Ideal) X := rfl
theorem same_top : val_main_v54 (F := Ideal) X = Cert.AttnFwdReferenceIdeal.Read.val_main_v53 (F := Ideal) X := rfl
theorem same_exp : val_main_v63 (F := Ideal) X = Cert.AttnFwdReferenceIdeal.Read.val_main_v57 (F := Ideal) X := rfl
theorem same_den : val_main_v64 (F := Ideal) X = Cert.AttnFwdReferenceIdeal.Read.val_main_v58 (F := Ideal) X := rfl
theorem same_num : val_main_v66 (F := Ideal) X = Cert.AttnFwdReferenceIdeal.Read.val_main_v60 (F := Ideal) X := rfl
theorem same_o : val_main_v69 (F := Ideal) X = Cert.AttnFwdReferenceIdeal.Read.val_main_v63 (F := Ideal) X := rfl
theorem same_lse : val_main_v75 (F := Ideal) X = Cert.AttnFwdReferenceIdeal.Read.val_main_v66 (F := Ideal) X := rfl
theorem same_peak : val_main_v76 (F := Ideal) X = Cert.AttnFwdReferenceIdeal.Read.val_main_v67 (F := Ideal) X := rfl

/-- A head's part of the cotangent. -/
def cot (b : Fin 2) (h : Fin 6) : Head := fun t e => (at3 Y b.val t.val (h.val * 64 + e.val)).toReal

/-- The columns of the cotangent that are read hold real numbers. -/
def FiniteCot : Prop := ∀ i j k, k < 384 → at3 Y i j k = (((at3 Y i j k).toReal : ℝ) : EReal)

/-- A row's exponentials, the exponentials of its largest scores and of its largest log-total. -/
abbrev xs (b : Fin 2) (h : Fin 6) (t : Fin 2048) := xRow (head X 0 b h) (head X 384 b h) t
abbrev es (b : Fin 2) (h : Fin 6) (t : Fin 2048) (p : Fin 3) : ℝ := Real.exp (top X b h t p)
abbrev zt (b : Fin 2) (h : Fin 6) (t : Fin 2048) : ℝ := Real.exp (peak X b h t)

variable {X Y} (hX : Finite X) (hY : FiniteCot Y) (b : Fin 2) (h : Fin 6) (t u : Fin 2048) (p : Fin 3) (e : Fin 64)

include hX

theorem q_eq : val_main_v4 (F := Ideal) X (Idealize.ShloMosaic.ix4 b t h e) = ((head X 0 b h t e : ℝ) : EReal) :=
  Cert.AttnFwdReferenceIdeal.Attn.q_eq hX b h t e
theorem k_eq : val_main_v5 (F := Ideal) X (Idealize.ShloMosaic.ix4 b t h e) = ((head X 384 b h t e : ℝ) : EReal) :=
  Cert.AttnFwdReferenceIdeal.Attn.k_eq hX b h t e
theorem v_eq : val_main_v6 (F := Ideal) X (Idealize.ShloMosaic.ix4 b t h e) = ((head X 768 b h t e : ℝ) : EReal) :=
  Cert.AttnFwdReferenceIdeal.Attn.v_eq hX b h t e

theorem masked_eq : val_main_v52 (F := Ideal) X (Idealize.ShloMosaic.ix5 p b h t u)
    = if Attends p t.val u.val then ((score (head X 0 b h) (head X 384 b h) t u : ℝ) : EReal) else ⊥ := by
  rw [same_masked]; exact Cert.AttnFwdReferenceIdeal.Attn.masked_eq hX b h t u p
theorem top_eq : val_main_v54 (F := Ideal) X (Idealize.ShloMosaic.ix4 p b h t) = ((top X b h t p : ℝ) : EReal) := by
  rw [same_top]; exact Cert.AttnFwdReferenceIdeal.Attn.top_eq hX b h t p
theorem exp_eq : val_main_v63 (F := Ideal) X (Idealize.ShloMosaic.ix5 p b h t u) = ((Mixture.e (mRow t) (xs X b h t) (es X b h t) p u : ℝ) : EReal) := by
  rw [same_exp]; exact Cert.AttnFwdReferenceIdeal.Attn.exp_eq hX b h t u p
theorem den_eq : val_main_v64 (F := Ideal) X (Idealize.ShloMosaic.ix4 p b h t) = ((Mixture.den (mRow t) (xs X b h t) (es X b h t) p : ℝ) : EReal) := by
  rw [same_den]; exact Cert.AttnFwdReferenceIdeal.Attn.den_eq hX b h t p
theorem num_eq : val_main_v66 (F := Ideal) X (Idealize.ShloMosaic.ix5 p b h t e)
    = ((Mixture.num (mRow t) (xs X b h t) (head X 768 b h) (es X b h t) p e : ℝ) : EReal) := by
  rw [same_num]; exact Cert.AttnFwdReferenceIdeal.Attn.num_eq hX b h t p e
theorem o_eq : val_main_v69 (F := Ideal) X (Idealize.ShloMosaic.ix5 p b h t e)
    = ((Mixture.o (mRow t) (xs X b h t) (head X 768 b h) (es X b h t) p e : ℝ) : EReal) := by
  rw [same_o]; exact Cert.AttnFwdReferenceIdeal.Attn.o_eq hX b h t p e
theorem lse_eq : val_main_v75 (F := Ideal) X (Idealize.ShloMosaic.ix4 p b h t) = ((Real.log (Mixture.D (mRow t) (xs X b h t) p) : ℝ) : EReal) := by
  rw [same_lse]; exact Cert.AttnFwdReferenceIdeal.Attn.lse_eq hX b h t p
theorem peak_eq : val_main_v76 (F := Ideal) X (Idealize.ShloMosaic.ix3 b h t) = ((peak X b h t : ℝ) : EReal) := by
  rw [same_peak]; exact Cert.AttnFwdReferenceIdeal.Attn.peak_eq hX b h t

theorem den_pos : 0 < Mixture.den (mRow t) (xs X b h t) (es X b h t) p := Cert.AttnFwdReferenceIdeal.Attn.den_pos hX b h t p
theorem zs_pos : 0 < Mixture.zs (mRow t) (xs X b h t) (zt X b h t) := Cert.AttnFwdReferenceIdeal.Attn.zs_pos hX b h t

theorem z_eq : val_main_v96 (F := Ideal) X (Idealize.ShloMosaic.ix4 p b h t) = ((Mixture.z (mRow t) (xs X b h t) (zt X b h t) p : ℝ) : EReal) := by
  have a : val_main_v94 (F := Ideal) X (Idealize.ShloMosaic.ix4 p b h t) = ((peak X b h t : ℝ) : EReal) := by
    pointwise [val_main_v94, val_main_v93, val_main_v83, val_main_v82, val_main_cst_19]
    rw [peak_eq hX, ofBits_neg_inf]
    exact max_eq_right bot_le
  refine (val_main_v96_apply (F := Ideal) X _).trans (congrArg (FloatOps.hostUnary (F := Ideal) .exp)
    ((val_main_v95_apply (F := Ideal) X _).trans (congrArg₂ (FloatOps.subf (F := Ideal)) (lse_eq hX b h t p) a))|>.trans ?_)
  rw [Ideal.hostUnary_exp_def, Ideal.subf_def,
    ← EReal.coe_sub, Ideal.exp_coe, Real.exp_sub, Real.exp_log (D_pos _ _ t p)]
  rfl

theorem zs_eq : val_main_v97 (F := Ideal) X (Idealize.ShloMosaic.ix3 b h t) = ((Mixture.zs (mRow t) (xs X b h t) (zt X b h t) : ℝ) : EReal) := by
  pointwise [val_main_v97, val_main_cst_25]
  simp only [z_eq hX, coe_sum, Ideal.ofBits_zero_f32, zero_add]
  rfl

theorem w_eq : val_main_v100 (F := Ideal) X (Idealize.ShloMosaic.ix4 p b h t) = ((Mixture.w (mRow t) (xs X b h t) (zt X b h t) p : ℝ) : EReal) := by
  pointwise [val_main_v100, val_main_v99, val_main_v98]
  rw [z_eq hX, zs_eq hX, div_real _ (zs_pos hX b h t).ne']
  rfl

omit hX in
theorem one_div {r : ℝ} (hr : r ≠ 0) : Ideal.div 1 ((r : ℝ) : EReal) = ((1 / r : ℝ) : EReal) := div_real 1 hr

omit hX in
include hY in
theorem cot_eq : val_main_v113 (F := Ideal) Y (Idealize.ShloMosaic.ix5 p b h t e) = ((cot Y b h t e : ℝ) : EReal) := by
  have := h.isLt; have := e.isLt
  pointwise [val_main_v113, val_main_v112, val_main_v111, val_main_v110]
  exact (at3_idx Y _).trans ((at3_congr Y rfl rfl (by show _ = h.val * 64 + e.val; simp)).trans (hY _ _ _ (by omega)))

/-- A shorter name for the row's quantities. -/
abbrev V (X : S2x2048x2950.Idx → EReal) (b : Fin 2) (h : Fin 6) := head X 768 b h

include hY

theorem c_eq : val_main_v119 (F := Ideal) X Y (Idealize.ShloMosaic.ix4 p b h t)
    = ((Mixture.c (mRow t) (xs X b h t) (V X b h) (cot Y b h t) (es X b h t) p : ℝ) : EReal) := by
  pointwise [val_main_v119, val_main_v118, val_main_v117, val_main_v116, val_main_cst_28, val_main_cst_29]
  simp only [o_eq hX, cot_eq hY, ← EReal.coe_mul, coe_sum, Ideal.ofBits_zero_f32, zero_add, Finset.univ_unique, Finset.sum_singleton]
  rfl

end Cert.AttnBwdReferenceIdeal.Attn

end
-- ==== Proof.AttnBwd.Reference.lean ====
/- What the reference computes, continued: from the shares of the mixture to the cotangents of queries, keys and values. -/
module

public import proofs.«01_k».proof.Proof.AttnBwd.Rows

@[expose] public section

set_option maxRecDepth 16384

noncomputable section

open Idealize.ShloMosaic Idealize.ShloMosaic.TcCoe Idealize.SL.Sem
open scoped BigOperators

namespace Cert.AttnBwdReferenceIdeal.Attn

open Cert.AttnBwdReferenceIdeal Cert.AttnBwdReferenceIdeal.Gen Cert.AttnBwdReferenceIdeal.Read Cert.Reals Cert.Rows Cert.Attn
open Cert.AttnFwdReferenceIdeal.Attn (head Finite top peak)

variable {X : S2x2048x2950.Idx → EReal} {Y : S2x2048x1024.Idx → EReal} (hX : Finite X) (hY : FiniteCot Y) (b : Fin 2) (h : Fin 6) (t u : Fin 2048) (p : Fin 3) (e : Fin 64)

include hX hY

omit hY in
/-- One over the square of the mixture's total. -/
theorem inv_eq : val_main_v103 (F := Ideal) X (Idealize.ShloMosaic.ix4 (0 : Fin 1) b h t)
    = ((1 / (Mixture.zs (mRow t) (xs X b h t) (zt X b h t) * Mixture.zs (mRow t) (xs X b h t) (zt X b h t)) : ℝ) : EReal) := by
  have hz := zs_pos hX b h t
  pointwise [val_main_v103, val_main_v102, val_main_v101, val_main_v98, val_main_cst_26]
  rw [zs_eq hX, ← EReal.coe_mul, one_div (mul_pos hz hz).ne']

theorem part_eq : val_main_v122 (F := Ideal) X Y (Idealize.ShloMosaic.ix4 p b h t)
    = ((Mixture.c (mRow t) (xs X b h t) (V X b h) (cot Y b h t) (es X b h t) p
        * (1 / (Mixture.zs (mRow t) (xs X b h t) (zt X b h t) * Mixture.zs (mRow t) (xs X b h t) (zt X b h t)))
        * Mixture.z (mRow t) (xs X b h t) (zt X b h t) p : ℝ) : EReal) := by
  pointwise [val_main_v122, val_main_v121, val_main_v120]
  rw [c_eq hX hY, z_eq hX, inv_eq hX, ← EReal.coe_mul, ← EReal.coe_mul]

theorem shared_eq : val_main_v123 (F := Ideal) X Y (Idealize.ShloMosaic.ix3 b h t)
    = ((∑ p, Mixture.c (mRow t) (xs X b h t) (V X b h) (cot Y b h t) (es X b h t) p
        * (1 / (Mixture.zs (mRow t) (xs X b h t) (zt X b h t) * Mixture.zs (mRow t) (xs X b h t) (zt X b h t)))
        * Mixture.z (mRow t) (xs X b h t) (zt X b h t) p : ℝ) : EReal) := by
  pointwise [val_main_v123, val_main_cst_30]
  rw [Finset.sum_congr rfl fun p _ => part_eq hX hY b h t p, coe_sum]

theorem r_eq : val_main_v131 (F := Ideal) X Y (Idealize.ShloMosaic.ix4 p b h t)
    = ((Mixture.r (mRow t) (xs X b h t) (V X b h) (cot Y b h t) (es X b h t) (zt X b h t) p : ℝ) : EReal) := by
  have hz := zs_pos hX b h t
  pointwise [val_main_v131, val_main_v130, val_main_v129, val_main_v128, val_main_v127, val_main_v126, val_main_v125, val_main_v124, val_main_v98, val_main_cst_31]
  simp only [c_eq hX hY, z_eq hX, zs_eq hX, shared_eq hX hY, div_real _ hz.ne', Ideal.ofBits_zero_f32, zero_add, ← EReal.coe_neg, Finset.univ_unique, Finset.sum_singleton]
  rw [← EReal.coe_add, ← EReal.coe_mul]
  unfold Mixture.r
  rfl

theorem y_eq : val_main_v143 (F := Ideal) X Y (Idealize.ShloMosaic.ix4 p b h t)
    = ((Mixture.y (mRow t) (xs X b h t) (V X b h) (cot Y b h t) (es X b h t) (zt X b h t) p : ℝ) : EReal) := by
  have hd := den_pos hX b h t p
  pointwise [val_main_v143, val_main_v142, val_main_v139, val_main_v138, val_main_v137, val_main_v136, val_main_v135, val_main_v134, val_main_v132,
    val_main_v115, val_main_v114, val_main_v104, val_main_v72, val_main_v71, val_main_v70, val_main_v67, val_main_cst_16, val_main_cst_32, val_main_cst_33]
  simp only [r_eq hX hY, den_eq hX, num_eq hX, w_eq hX, cot_eq hY, Ideal.ofBits_one_f32, div_real _ hd.ne', one_div (mul_pos hd hd).ne', ← EReal.coe_mul, ← EReal.coe_neg,
    ← EReal.coe_add, coe_sum, Ideal.ofBits_zero_f32, zero_add, Finset.univ_unique, Finset.sum_singleton]
  rfl

theorem b_eq : val_main_v141 (F := Ideal) X Y (Idealize.ShloMosaic.ix5 p b h t e)
    = ((Mixture.b (mRow t) (xs X b h t) (cot Y b h t) (es X b h t) (zt X b h t) p e : ℝ) : EReal) := by
  have hd := den_pos hX b h t p
  pointwise [val_main_v141, val_main_v140, val_main_v115, val_main_v114, val_main_v104, val_main_v67]
  simp only [den_eq hX, w_eq hX, cot_eq hY, div_real _ hd.ne', ← EReal.coe_mul]
  rfl

theorem f_eq : val_main_v151 (F := Ideal) X Y (Idealize.ShloMosaic.ix5 p b h t u)
    = ((Mixture.f (mRow t) (xs X b h t) (V X b h) (cot Y b h t) (es X b h t) (zt X b h t) p u : ℝ) : EReal) := by
  pointwise [val_main_v151, val_main_v150, val_main_v149, val_main_v146, val_main_v145, val_main_v144]
  simp only [b_eq hX hY, v_eq hX, y_eq hX hY, exp_eq hX, ← EReal.coe_mul, ← EReal.coe_add, coe_sum]
  rfl

/-- The largest score has no cotangent. -/
theorem none_eq : val_main_v156 (F := Ideal) X Y (Idealize.ShloMosaic.ix4 p b h t) = 0 := by
  pointwise [val_main_v156, val_main_v155, val_main_v154, val_main_v153, val_main_v152, val_main_v133, val_main_cst_34, val_main_cst_35]
  simp only [f_eq hX hY, r_eq hX hY, ← EReal.coe_neg, ← EReal.coe_add, coe_sum, Ideal.ofBits_zero_f32, zero_add, Finset.univ_unique, Finset.sum_singleton]
  rw [Mixture.max_eq (V X b h) (cot Y b h t) (fun p => (Real.exp_pos _).ne') (Real.exp_pos _).ne'
    (fun p => (D_pos (head X 0 b h) (head X 384 b h) t p).ne') (T_pos (head X 0 b h) (head X 384 b h) t).ne']
  rfl

omit hY in
/-- Some score is the largest. -/
theorem count_ne : val_main_v59 (F := Ideal) X (Idealize.ShloMosaic.ix4 p b h t) ≠ 0 := by
  have real : ∀ u, val_main_v58 (F := Ideal) X (Idealize.ShloMosaic.ix5 p b h t u)
      = ((((val_main_v57 (F := Ideal) X (Idealize.ShloMosaic.ix5 p b h t u)).toNat : ℝ)) : EReal) := fun u => rfl
  obtain ⟨u, hu⟩ : ∃ u, val_main_v54 (F := Ideal) X (Idealize.ShloMosaic.ix4 p b h t) ≤ val_main_v52 (F := Ideal) X (Idealize.ShloMosaic.ix5 p b h t u) := by
    have e := top_eq hX b h t p
    have le : val_main_v54 (F := Ideal) X (Idealize.ShloMosaic.ix4 p b h t) ≤ val_main_v54 (F := Ideal) X (Idealize.ShloMosaic.ix4 p b h t) := le_rfl
    revert e le
    generalize hw : val_main_v54 (F := Ideal) X (Idealize.ShloMosaic.ix4 p b h t) = w
    intro e le
    have le' := le.trans hw.symm.le
    revert le'
    pointwise [val_main_v54, val_main_cst_13]
    intro le'
    rw [ofBits_neg_inf] at le'
    rcases (Finset.le_fold_max (c := w)).1 le' with k | ⟨u, -, k⟩
    · rw [e] at k; exact absurd (le_bot_iff.1 k) (EReal.coe_ne_bot _)
    · exact ⟨u, k⟩
  have le : val_main_v52 (F := Ideal) X (Idealize.ShloMosaic.ix5 p b h t u) ≤ val_main_v54 (F := Ideal) X (Idealize.ShloMosaic.ix4 p b h t) := by
    pointwise [val_main_v54]
    exact (Finset.le_fold_max _).2 (Or.inr ⟨u, Finset.mem_univ _, le_rfl⟩)
  have one : val_main_v57 (F := Ideal) X (Idealize.ShloMosaic.ix5 p b h t u) = 1#1 := by
    pointwise [val_main_v57, val_main_v56, val_main_v55]
    rw [le_antisymm le hu]
    simp [Ideal.cmp]
  have sum : val_main_v59 (F := Ideal) X (Idealize.ShloMosaic.ix4 p b h t)
      = ((∑ u, ((val_main_v57 (F := Ideal) X (Idealize.ShloMosaic.ix5 p b h t u)).toNat : ℝ) : ℝ) : EReal) := by
    pointwise [val_main_v59, val_main_cst_14]
    simp only [real, coe_sum, Ideal.ofBits_zero_f32, zero_add]
  rw [sum]
  have pos : 0 < ∑ u, ((val_main_v57 (F := Ideal) X (Idealize.ShloMosaic.ix5 p b h t u)).toNat : ℝ) :=
    Finset.sum_pos' (fun u _ => Nat.cast_nonneg _) ⟨u, Finset.mem_univ _, by rw [one]; norm_num⟩
  exact fun k => pos.ne' (EReal.coe_eq_zero.1 k)

/-- A score's cotangent through one window; it is zero where the window does not attend. -/
theorem through_eq : val_main_v162 (F := Ideal) X Y (Idealize.ShloMosaic.ix5 p b h t u)
    = ((Mixture.f (mRow t) (xs X b h t) (V X b h) (cot Y b h t) (es X b h t) (zt X b h t) p u : ℝ) : EReal) := by
  have z : val_main_v160 (F := Ideal) X Y (Idealize.ShloMosaic.ix5 p b h t u)
      = ((Mixture.f (mRow t) (xs X b h t) (V X b h) (cot Y b h t) (es X b h t) (zt X b h t) p u : ℝ) : EReal) := by
    pointwise [val_main_v160, val_main_v159, val_main_v158, val_main_v157]
    rw [f_eq hX hY, none_eq hX hY]
    unfold Ideal.div
    rw [if_neg (count_ne hX b h t p), zero_mul, zero_mul, add_zero]
  pointwise [val_main_v162, val_main_v161, val_main_v48, val_main_v47, val_main_cst_36]
  rw [z, same_mask]
  by_cases k : Attends p t.val u.val
  · rw [(Cert.AttnFwdReferenceIdeal.Attn.mask_eq t u p).2 k]; rfl
  · rw [(show Cert.AttnFwdReferenceIdeal.Read.val_main_v46 (F := Ideal) (Idealize.ShloMosaic.ix3 p t u) = 0#1 from by
      have := (Cert.AttnFwdReferenceIdeal.Attn.mask_eq t u p).not.2 k
      revert this; generalize Cert.AttnFwdReferenceIdeal.Read.val_main_v46 (F := Ideal) (Idealize.ShloMosaic.ix3 p t u) = w; revert w; decide)]
    have : Mixture.f (mRow t) (xs X b h t) (V X b h) (cot Y b h t) (es X b h t) (zt X b h t) p u = 0 := by
      unfold Mixture.f Mixture.e mRow ind
      rw [if_neg k, zero_mul, zero_div, mul_zero]
    rw [this]; rfl

/-- A score's cotangent, less its factor. -/
theorem slope_eq : val_main_v165 (F := Ideal) X Y (Idealize.ShloMosaic.ix4 b h t u)
    = ((Cert.Attn.slope (head X 0 b h) (head X 384 b h) (V X b h) (cot Y b h) t u : ℝ) : EReal) := by
  pointwise [val_main_v165, val_main_v164, val_main_v163, val_main_cst_37, val_main_cst_38]
  simp only [through_eq hX hY, coe_sum, Ideal.ofBits_zero_f32, zero_add, Finset.univ_unique, Finset.sum_singleton]
  refine congrArg (fun r : ℝ => (r : EReal)) ?_
  simp only [Mixture.f_eq (V X b h) (cot Y b h t) (fun p => (Real.exp_pos _).ne') (Real.exp_pos _).ne'
    (fun p => (D_pos (head X 0 b h) (head X 384 b h) t p).ne') (T_pos (head X 0 b h) (head X 384 b h) t).ne']
  rw [← Finset.sum_mul, ← Finset.sum_div, ← Finset.sum_mul, T_eq]
  unfold Cert.Attn.slope prob weight
  rw [mult_eq_sum]
  simp only [O_eq]
  rfl

theorem dq_eq : val_main_v170 (F := Ideal) X Y (Idealize.ShloMosaic.ix4 b h t e)
    = ((dQ (head X 0 b h) (head X 384 b h) (V X b h) (cot Y b h) t e : ℝ) : EReal) := by
  pointwise [val_main_v170, val_main_v167, val_main_v166, val_main_cst_39]
  simp only [slope_eq hX hY, k_eq hX, ofBits_eighth, ← EReal.coe_mul, coe_sum]
  refine congrArg (fun r : ℝ => (r : EReal)) ?_
  unfold dQ
  rw [Finset.sum_mul]
  exact Finset.sum_congr rfl fun u _ => by ring

theorem dk_eq : val_main_v168 (F := Ideal) X Y (Idealize.ShloMosaic.ix4 b h u e)
    = ((dK (head X 0 b h) (head X 384 b h) (V X b h) (cot Y b h) u e : ℝ) : EReal) := by
  pointwise [val_main_v168, val_main_v167, val_main_v166, val_main_cst_39]
  simp only [slope_eq hX hY, q_eq hX, ofBits_eighth, ← EReal.coe_mul, coe_sum]
  refine congrArg (fun r : ℝ => (r : EReal)) ?_
  unfold dK
  exact Finset.sum_congr rfl fun u _ => by ring

/-- The values' product contracts the window and the position that attends. -/
abbrev dims := dot_S2x6x64x3x2048_S3x2x6x2048x2048_S2x6x64x2048_34_03_2_4_01_12

omit hX hY in
theorem sum_two (f : dims.contr.Idx → EReal) :
    ∑ k, f k = ∑ p : Fin 3, ∑ t : Fin 2048, f (fun x => match x with | ⟨0, _⟩ => p | ⟨1, _⟩ => t) := by
  rw [← Fintype.sum_prod_type']
  symm
  refine Finset.sum_bij' (fun ij _ => (fun x => match x with | ⟨0, _⟩ => ij.1 | ⟨1, _⟩ => ij.2))
    (fun k _ => ((k ⟨0, by decide⟩ : Fin 3), (k ⟨1, by decide⟩ : Fin 2048))) ?_ ?_ ?_ ?_ ?_
  · intro ij _; exact Finset.mem_univ _
  · intro i _; exact Finset.mem_univ _
  · intro ij _; rfl
  · intro i _
    funext d
    match d with
    | ⟨0, _⟩ => rfl
    | ⟨1, _⟩ => rfl
  · intro ij _; rfl

theorem dv_eq : val_main_v147 (F := Ideal) X Y (Idealize.ShloMosaic.ix4 b h e u)
    = ((dV (head X 0 b h) (head X 384 b h) (cot Y b h) u e : ℝ) : EReal) := by
  unfold val_main_v147
  refine (Ideal.dotGeneral_apply _ _ _ _ _ _).trans ?_
  refine (sum_two _).trans ?_
  have l : ∀ (p : Fin 3) (t : Fin 2048), dims.lhsIdx (Idealize.ShloMosaic.ix4 b h e u) (fun x => match x with | ⟨0, _⟩ => p | ⟨1, _⟩ => t)
      = Idealize.ShloMosaic.ix5 b h e p t := fun p t => by
    funext x
    match x with
    | ⟨0, _⟩ => rfl
    | ⟨1, _⟩ => rfl
    | ⟨2, _⟩ => rfl
    | ⟨3, _⟩ => rfl
    | ⟨4, _⟩ => rfl
  have r : ∀ (p : Fin 3) (t : Fin 2048), dims.rhsIdx (Idealize.ShloMosaic.ix4 b h e u) (fun x => match x with | ⟨0, _⟩ => p | ⟨1, _⟩ => t)
      = Idealize.ShloMosaic.ix5 p b h t u := fun p t => by
    funext x
    match x with
    | ⟨0, _⟩ => rfl
    | ⟨1, _⟩ => rfl
    | ⟨2, _⟩ => rfl
    | ⟨3, _⟩ => rfl
    | ⟨4, _⟩ => rfl
  have term : ∀ (p : Fin 3) (t : Fin 2048), val_main_v144 (F := Ideal) X Y (Idealize.ShloMosaic.ix5 b h e p t) * val_main_v63 (F := Ideal) X (Idealize.ShloMosaic.ix5 p b h t u)
      = ((mRow t p u * xs X b h t u / total (head X 0 b h) (head X 384 b h) t * cot Y b h t e : ℝ) : EReal) := fun p t => by
    rw [exp_eq hX]
    pointwise [val_main_v144]
    rw [b_eq hX hY, ← EReal.coe_mul, Mixture.be_eq (cot Y b h t) (fun p => (Real.exp_pos _).ne') (Real.exp_pos _).ne'
      (fun p => (D_pos (head X 0 b h) (head X 384 b h) t p).ne'), T_eq]
  refine (Finset.sum_congr rfl fun p _ => Finset.sum_congr rfl fun t _ => (congrArg₂ (fun i j => val_main_v144 (F := Ideal) X Y i * val_main_v63 (F := Ideal) X j) (l p t) (r p t)).trans (term p t)).trans ?_
  simp only [coe_sum]
  refine congrArg (fun r : ℝ => (r : EReal)) ?_
  rw [Finset.sum_comm]
  unfold dV prob weight
  refine Finset.sum_congr rfl fun t _ => ?_
  rw [← Finset.sum_mul, ← Finset.sum_div, ← Finset.sum_mul, mult_eq_sum]
  rfl

/-- The results: the queries', keys' and values' cotangents, the heads side by side. -/
theorem result_q (n : Fin 4096) (d : Fin 384) : val_main_v176 (F := Ideal) X Y (Idealize.ShloMosaic.ix2 n d)
    = ((dQ (head X 0 ⟨n.val / 2048, by omega⟩ ⟨d.val / 64, by omega⟩) (head X 384 ⟨n.val / 2048, by omega⟩ ⟨d.val / 64, by omega⟩)
        (head X 768 ⟨n.val / 2048, by omega⟩ ⟨d.val / 64, by omega⟩) (cot Y ⟨n.val / 2048, by omega⟩ ⟨d.val / 64, by omega⟩) ⟨n.val % 2048, by omega⟩ ⟨d.val % 64, by omega⟩ : ℝ) : EReal) := by
  pointwise [val_main_v176, val_main_v175, val_main_v174, val_main_v171]
  exact dq_eq hX hY _ _ _ _

theorem result_k (n : Fin 4096) (d : Fin 384) : val_main_v178 (F := Ideal) X Y (Idealize.ShloMosaic.ix2 n d)
    = ((dK (head X 0 ⟨n.val / 2048, by omega⟩ ⟨d.val / 64, by omega⟩) (head X 384 ⟨n.val / 2048, by omega⟩ ⟨d.val / 64, by omega⟩)
        (head X 768 ⟨n.val / 2048, by omega⟩ ⟨d.val / 64, by omega⟩) (cot Y ⟨n.val / 2048, by omega⟩ ⟨d.val / 64, by omega⟩) ⟨n.val % 2048, by omega⟩ ⟨d.val % 64, by omega⟩ : ℝ) : EReal) := by
  pointwise [val_main_v178, val_main_v177, val_main_v173, val_main_v169]
  exact dk_eq hX hY _ _ _ _

theorem result_v (n : Fin 4096) (d : Fin 384) : val_main_v180 (F := Ideal) X Y (Idealize.ShloMosaic.ix2 n d)
    = ((dV (head X 0 ⟨n.val / 2048, by omega⟩ ⟨d.val / 64, by omega⟩) (head X 384 ⟨n.val / 2048, by omega⟩ ⟨d.val / 64, by omega⟩)
        (cot Y ⟨n.val / 2048, by omega⟩ ⟨d.val / 64, by omega⟩) ⟨n.val % 2048, by omega⟩ ⟨d.val % 64, by omega⟩ : ℝ) : EReal) := by
  pointwise [val_main_v180, val_main_v179, val_main_v172, val_main_v148]
  exact dv_eq hX hY _ _ _ _

end Cert.AttnBwdReferenceIdeal.Attn

end
-- ==== Proof.AttnBwd.Final.lean ====
/- The arrays the kernel leaves: the cotangents of the queries, keys and values, the heads side by side. -/
module

public import proofs.«01_k».proof.Proof.AttnBwd.Entry
public import proofs.«01_k».proof.Proof.AttnBwd.Point
public import proofs.«01_k».proof.Proof.AttnBwd.Reference
public import proofs.«01_k».proof.Proof.Gen.AttnBwdKernelIdeal.Value

@[expose] public section

set_option maxRecDepth 16384

noncomputable section

open Idealize.ShloMosaic Idealize.ShloMosaic.TcCoe Idealize.SL.Sem

namespace Cert.AttnBwd

open Cert.AttnBwdKernelIdeal Cert.AttnBwdKernelIdeal.Gen Cert.Rows Cert.Cols Cert.Attn
open Cert.AttnFwdReferenceIdeal.Attn (head Finite)
open Cert.AttnBwdReferenceIdeal.Attn (cot FiniteCot result_q result_k result_v)

/-- The cotangents of every head's queries, keys and values. -/
def gradQ (X : S2x2048x2950.Idx → EReal) (Y : S2x2048x1024.Idx → EReal) (b : Fin 2) (h : Fin 6) : Head := dQ (head X 0 b h) (head X 384 b h) (head X 768 b h) (cot Y b h)
def gradK (X : S2x2048x2950.Idx → EReal) (Y : S2x2048x1024.Idx → EReal) (b : Fin 2) (h : Fin 6) : Head := dK (head X 0 b h) (head X 384 b h) (head X 768 b h) (cot Y b h)
def gradV (X : S2x2048x2950.Idx → EReal) (Y : S2x2048x1024.Idx → EReal) (b : Fin 2) (h : Fin 6) : Head := dV (head X 0 b h) (head X 384 b h) (cot Y b h)

/-- All heads side by side, both sequences one after the other. -/
def heads (D : Fin 2 → Fin 6 → Head) (n d : ℕ) : EReal :=
  ((D (Fin.ofNat 2 (n / 2048)) (Fin.ofNat 6 (d / 64)) (Fin.ofNat 2048 n) (Fin.ofNat 64 d) : ℝ) : EReal)

theorem heads_eq (D : Fin 2 → Fin 6 → Head) (n : Fin 4096) (d : Fin 384) :
    ((D ⟨n.val / 2048, by omega⟩ ⟨d.val / 64, by omega⟩ ⟨n.val % 2048, by omega⟩ ⟨d.val % 64, by omega⟩ : ℝ) : EReal) = heads D n.val d.val := by
  unfold heads
  have a : (⟨n.val / 2048, by omega⟩ : Fin 2) = Fin.ofNat 2 (n.val / 2048) := Fin.ext (by show n.val / 2048 = n.val / 2048 % 2; omega)
  have b : (⟨d.val / 64, by omega⟩ : Fin 6) = Fin.ofNat 6 (d.val / 64) := Fin.ext (by show d.val / 64 = d.val / 64 % 6; omega)
  rw [a, b]
  rfl

section Reference
variable {X : S2x2048x2950.Idx → EReal} {Y : S2x2048x1024.Idx → EReal} (hX : Finite X) (hY : FiniteCot Y)
include hX hY

theorem ref_q : Cert.AttnBwdReferenceIdeal.Read.val_main_v176 (F := Ideal) X Y = fun j : S4096x384.Idx => heads (gradQ X Y) (j 0).val (j 1).val := by
  funext j
  idx_vars j
  exact (result_q hX hY j0 j1).trans (heads_eq (gradQ X Y) j0 j1)

theorem ref_k : Cert.AttnBwdReferenceIdeal.Read.val_main_v178 (F := Ideal) X Y = fun j : S4096x384.Idx => heads (gradK X Y) (j 0).val (j 1).val := by
  funext j
  idx_vars j
  exact (result_k hX hY j0 j1).trans (heads_eq (gradK X Y) j0 j1)

theorem ref_v : Cert.AttnBwdReferenceIdeal.Read.val_main_v180 (F := Ideal) X Y = fun j : S4096x384.Idx => heads (gradV X Y) (j 0).val (j 1).val := by
  funext j
  idx_vars j
  exact (result_v hX hY j0 j1).trans (heads_eq (gradV X Y) j0 j1)

end Reference

variable (m : (ℓ : Loc nD τ sig) → Buf (Elt Ideal) ℓ) (c : Dev nD) (t : Fin cfg0.N)

/-- Where the blocks of a grid point lie. -/
theorem idx_val : ∀ t : Fin cfg0.N, win0_0.index t = ![t.val / 3, t.val % 3] ∧ win0_1.index t = ![t.val / 3, 3 + t.val % 3]
    ∧ win0_2.index t = ![t.val / 3, 6 + t.val % 3] ∧ win0_3.index t = ![t.val / 3, t.val % 3] ∧ win0_4.index t = ![t.val / 3, t.val % 3, 0, 0]
    ∧ win0_5.index t = ![t.val / 3, t.val % 3] ∧ win0_6.index t = ![0, 0] ∧ win0_7.index t = ![t.val / 3, t.val % 3]
    ∧ win0_8.index t = ![t.val / 3, t.val % 3] ∧ win0_9.index t = ![t.val / 3, t.val % 3] :=
  (by decide +kernel : ∀ t : Fin grid0.N, _)

/-- The cotangents of the two heads of a grid point. -/
def pairY (Y : S2x2048x1024.Idx → EReal) (s : ℕ) (h : Fin 2) : Head := cot Y (Fin.ofNat 2 (s / 3)) (Fin.ofNat 6 (s % 3 * 2 + h.val))

theorem heads_cell (D : Fin 2 → Fin 6 → Head) (s r n : ℕ) (hs : s < 6) (hr : r < 2048) (hn : n < 128) :
    headAt (fun h => D (Fin.ofNat 2 (s / 3)) (Fin.ofNat 6 (s % 3 * 2 + h.val))) r n = heads D (s / 3 * 2048 + r) (s % 3 * 128 + n) := by
  unfold headAt heads
  have a : Fin.ofNat 2 ((s / 3 * 2048 + r) / 2048) = Fin.ofNat 2 (s / 3) := Fin.ext (by show (s / 3 * 2048 + r) / 2048 % 2 = s / 3 % 2; omega)
  have b : Fin.ofNat 6 ((s % 3 * 128 + n) / 64) = Fin.ofNat 6 (s % 3 * 2 + (Fin.ofNat 2 (n / 64)).val) :=
    Fin.ext (by show (s % 3 * 128 + n) / 64 % 6 = (s % 3 * 2 + n / 64 % 2) % 6; omega)
  have d : Fin.ofNat 2048 (s / 3 * 2048 + r) = Fin.ofNat 2048 r := Fin.ext (by show (s / 3 * 2048 + r) % 2048 = r % 2048; omega)
  have e : Fin.ofNat 64 (s % 3 * 128 + n) = Fin.ofNat 64 (n % 64) := Fin.ext (by show (s % 3 * 128 + n) % 64 = n % 64 % 64; omega)
  rw [a, b, d, e]

/-- An entry of the forward pass's output, and of its log-totals. -/
theorem out_entry (X : S2x2048x2950.Idx → EReal) (s : ℕ) (hs : s < 6) (h : Fin 2) (i : Fin 2048) (e : Fin 64) (r n : ℕ) (hr : r = 2048 * (s / 3) + i.val)
    (hn : n = 128 * (s % 3) + (h.val * 64 + e.val)) : outR X r n = ((out (pair X 0 s h) (pair X 384 s h) (pair X 768 s h) i e : ℝ) : EReal) := by
  have hi := i.isLt
  have hh := h.isLt
  have he := e.isLt
  unfold outR pair
  have a : Fin.ofNat 2 (r / 2048) = Fin.ofNat 2 (s / 3) := Fin.ext (by show r / 2048 % 2 = s / 3 % 2; omega)
  have b : Fin.ofNat 6 (n / 64) = Fin.ofNat 6 (s % 3 * 2 + h.val) := Fin.ext (by show n / 64 % 6 = (s % 3 * 2 + h.val) % 6; omega)
  have d : Fin.ofNat 2048 r = i := Fin.ext (by show r % 2048 = i.val; omega)
  have f : Fin.ofNat 64 n = e := Fin.ext (by show n % 64 = e.val; omega)
  rw [a, b, d, f]

theorem lse_entry (X : S2x2048x2950.Idx → EReal) (s : ℕ) (h : Fin 2) (i : Fin 2048) (b k r : ℕ) (hb : b = s / 3) (hk : k = s % 3 * 2 + h.val) (hr : r = i.val) :
    lseR X b k r = ((Real.log (total (pair X 0 s h) (pair X 384 s h) i) : ℝ) : EReal) := by
  unfold lseR pair
  have d : Fin.ofNat 2048 i.val = i := Fin.ext (Nat.mod_eq_of_lt i.isLt)
  rw [hb, hk, hr, d]

theorem grad_entry {Y : S2x2048x1024.Idx → EReal} (hY : FiniteCot Y) (s : ℕ) (hs : s < 6) (h : Fin 2) (i : Fin 2048) (e : Fin 64) (r n : ℕ)
    (hr : r = 2048 * (s / 3) + i.val) (hn : n = 128 * (s % 3) + (h.val * 64 + e.val)) :
    at3 Y (r / 2048) (r % 2048) n = ((pairY Y s h i e : ℝ) : EReal) := by
  have hi := i.isLt
  have hh := h.isLt
  have he := e.isLt
  rw [hY _ _ _ (by omega)]
  refine congrArg (fun x : EReal => ((x.toReal : ℝ) : EReal)) (at3_congr _ ?_ ?_ ?_)
  · show r / 2048 = s / 3 % 2; omega
  · omega
  · show n = (s % 3 * 2 + h.val) % 6 * 64 + e.val; omega

variable {m c} (hX : Finite (proj m c)) (hY : FiniteCot (grad m c))
include hX hY

set_option maxHeartbeats 1000000 in
theorem reads : Reads (iblk m c 0 t) (iblk m c 1 t) (iblk m c 2 t) (iblk m c 3 t) (iblk m c 4 t) (iblk m c 5 t) (iblk m c 6 t)
    (pair (proj m c) 0 t.val) (pair (proj m c) 384 t.val) (pair (proj m c) 768 t.val) (pairY (grad m c) t.val) where
  in_q h i e := by
    have ht : t.val < 6 := t.isLt
    blk_simp [iblk, idx_val t]
    refine ((congrFun (given_proj m c) _).trans (rows_apply _ _)).trans (cell hX 0 (by decide) t.val ht h i e _ _ ?_ ?_) <;> blk_simp [idx_val t]
    all_goals (try dsimp only) <;> omega
  in_k h i e := by
    have ht : t.val < 6 := t.isLt
    blk_simp [iblk, idx_val t]
    refine ((congrFun (given_proj m c) _).trans (rows_apply _ _)).trans (cell hX 384 (by decide) t.val ht h i e _ _ ?_ ?_) <;> blk_simp [idx_val t]
    all_goals (try dsimp only) <;> omega
  in_v h i e := by
    have ht : t.val < 6 := t.isLt
    blk_simp [iblk, idx_val t]
    refine ((congrFun (given_proj m c) _).trans (rows_apply _ _)).trans (cell hX 768 (by decide) t.val ht h i e _ _ ?_ ?_) <;> blk_simp [idx_val t]
    all_goals (try dsimp only) <;> omega
  in_o h i e := by
    have ht : t.val < 6 := t.isLt
    blk_simp [iblk, idx_val t]
    refine (congrFun ((given_out m c).trans (out_ref hX)) _).trans (out_entry (proj m c) t.val ht h i e _ _ ?_ ?_) <;> blk_simp [idx_val t]
    all_goals (try dsimp only) <;> omega
  in_l i h := by
    have ht : t.val < 6 := t.isLt
    blk_simp [iblk, idx_val t]
    refine (congrFun ((given_lse m c).trans (lse_ref hX)) _).trans (lse_entry (proj m c) t.val h i _ _ _ ?_ ?_ ?_) <;> blk_simp [idx_val t]
    all_goals (try dsimp only) <;> omega
  in_g h i e := by
    have ht : t.val < 6 := t.isLt
    blk_simp [iblk, idx_val t]
    refine ((congrFun (given_grad m c) _).trans (flat_apply _ _ _)).trans (grad_entry hY t.val ht h i e _ _ ?_ ?_) <;> blk_simp [idx_val t]
    all_goals (try dsimp only) <;> omega
  in_t i u := by
    blk_simp [iblk, idx_val t]
    refine Eq.trans (congrArg (V m c main_v131) (funext fun a => Fin.ext ?_)) ((congrFun (given_table m c) _).trans (masks_apply i u))
    match a with
    | ⟨0, _⟩ => blk_simp [idx_val t]
    | ⟨1, _⟩ => blk_simp [idx_val t]

theorem final_q : (dats m 0 c).arrAt 7 cfg0.N = fun j : S4096x384.Idx => heads (gradQ (proj m c) (grad m c)) (j 0).val (j 1).val := by
  refine (dats m 0 c).arrAt_eq_of_covers 7 _ (by decide +kernel) fun t _ y => ?_
  have ht : t.val < 6 := t.isLt
  have y0 : (y 0).val < 2048 := (y 0).isLt
  have y1 : (y 1).val < 128 := (y 1).isLt
  blk_simp; rw [after0_7]
  refine (after_q m c t (reads t hX hY) _).trans ((heads_cell (gradQ (proj m c) (grad m c)) t.val _ _ ht y0 y1).trans ?_)
  refine congrArg₂ (heads _) ?_ ?_ <;> blk_simp [idx_val t]

theorem final_k : (dats m 0 c).arrAt 8 cfg0.N = fun j : S4096x384.Idx => heads (gradK (proj m c) (grad m c)) (j 0).val (j 1).val := by
  refine (dats m 0 c).arrAt_eq_of_covers 8 _ (by decide +kernel) fun t _ y => ?_
  have ht : t.val < 6 := t.isLt
  have y0 : (y 0).val < 2048 := (y 0).isLt
  have y1 : (y 1).val < 128 := (y 1).isLt
  blk_simp; rw [after0_8]
  refine (after_k m c t (reads t hX hY) _).trans ((heads_cell (gradK (proj m c) (grad m c)) t.val _ _ ht y0 y1).trans ?_)
  refine congrArg₂ (heads _) ?_ ?_ <;> blk_simp [idx_val t]

theorem final_v : (dats m 0 c).arrAt 9 cfg0.N = fun j : S4096x384.Idx => heads (gradV (proj m c) (grad m c)) (j 0).val (j 1).val := by
  refine (dats m 0 c).arrAt_eq_of_covers 9 _ (by decide +kernel) fun t _ y => ?_
  have ht : t.val < 6 := t.isLt
  have y0 : (y 0).val < 2048 := (y 0).isLt
  have y1 : (y 1).val < 128 := (y 1).isLt
  blk_simp; rw [after0_9]
  refine (after_v m c t (reads t hX hY) _).trans ((heads_cell (gradV (proj m c) (grad m c)) t.val _ _ ht y0 y1).trans ?_)
  refine congrArg₂ (heads _) ?_ ?_ <;> blk_simp [idx_val t]

end Cert.AttnBwd

end
-- ==== Proof.AttnBwd.Equation.lean ====
/- The attention's gradients: the kernel leaves what the reference computes. -/
module

public import proofs.«01_k».proof.Proof.Common.Finite
public import proofs.«01_k».proof.Proof.Attn.Equation
public import proofs.«01_k».proof.Proof.AttnBwd.Final
public import proofs.«01_k».proof.Proof.Gen.AttnBwdReferenceIdeal.Run
public import proofs.«01_k».proof.Defs
public import Idealize.ShloMosaic.Lib.Claim

@[expose] public section

set_option maxRecDepth 100000

noncomputable section

open Idealize.ShloMosaic Idealize.ShloMosaic.TcCoe Idealize.SL.Sem

namespace Cert.AttnBwd

open Cert.AttnBwdKernelIdeal Cert.Reals Cert.Rows
open Cert.AttnFwdReferenceIdeal.Attn (Finite)
open Cert.AttnBwdReferenceIdeal.Attn (FiniteCot)

/-- The columns of the cotangent that are read. -/
theorem slice_apply (Y : S2x2048x1024.Idx → EReal) (h : S2x2048x1024.Slices ![0, 0, 0] ⟨3, ![2, 2048, 384]⟩) (p : Fin 2) (q : Fin 2048) (r : Fin 384) :
    extractStridedSlice ⟨3, ![2, 2048, 384]⟩ ![0, 0, 0] Y h (Idealize.ShloMosaic.ix3 p q r) = at3 Y p.val q.val r.val := by
  pointwise
  exact at3_idx Y _

/-- Under the precondition the columns that are read hold real numbers. -/
theorem holds [Cert.Pre_attnbwd_finite.Facts] (m : (ℓ : Loc nD τ sig) → Buf (Elt Ideal) ℓ) (h : Cert.Pre_AttnBwdKernelIdeal_attnbwd_finite m)
    (c : Dev nD) : Finite (proj m c) ∧ FiniteCot (grad m c) := by
  obtain ⟨h0, h1⟩ := both (h c)
  constructor
  · intro i j k hk
    have e := congrFun (reals_of_all _ _ _ _ h0) (Idealize.ShloMosaic.ix3 (Fin.ofNat 2 i) (Fin.ofNat 2048 j) (⟨k, hk⟩ : Fin 1152))
    dsimp only at e
    rw [Cert.Attn.slice_apply] at e
    rw [Cert.Attn.at3_mod] at e
    exact e
  · intro i j k hk
    have e := congrFun (reals_of_all _ _ _ _ h1) (Idealize.ShloMosaic.ix3 (Fin.ofNat 2 i) (Fin.ofNat 2048 j) (⟨k, hk⟩ : Fin 384))
    dsimp only at e
    rw [slice_apply] at e
    rw [Cert.Attn.at3_mod] at e
    exact e

/-- The two programs end with equal results. -/
theorem equation [Cert.Pre_attnbwd_finite.Facts] : Cert.algebraic_AttnBwdKernelIdeal_AttnBwdReferenceIdeal_pre_attnbwd_finite := by
  pair_intro
  · run_from (Value.run_blocks m g)
  · refine (θ_run _ _ _).mono (fun r h c => ?_) (Cert.AttnBwdReferenceIdeal.Value.run (F := Ideal) m' g')
    obtain ⟨hX, hY⟩ := holds m hpre c
    obtain ⟨h₁, h₂, h₃, h₄⟩ := h c
    obtain ⟨a₀, a₁⟩ := hagree c
    refine ⟨h₁.trans ?_, h₂.trans ?_, h₃.trans ?_, h₄⟩
    · exact (Cert.AttnBwdReferenceIdeal.Read.val_main_v176_eq (F := Ideal) _).trans
        ((congrArg₂ (Cert.AttnBwdReferenceIdeal.Read.val_main_v176 (F := Ideal)) a₀ a₁).trans ((ref_q hX hY).trans (final_q hX hY).symm))
    · exact (Cert.AttnBwdReferenceIdeal.Read.val_main_v178_eq (F := Ideal) _).trans
        ((congrArg₂ (Cert.AttnBwdReferenceIdeal.Read.val_main_v178 (F := Ideal)) a₀ a₁).trans ((ref_k hX hY).trans (final_k hX hY).symm))
    · exact (Cert.AttnBwdReferenceIdeal.Read.val_main_v180_eq (F := Ideal) _).trans
        ((congrArg₂ (Cert.AttnBwdReferenceIdeal.Read.val_main_v180 (F := Ideal)) a₀ a₁).trans ((ref_v hX hY).trans (final_v hX hY).symm))

end Cert.AttnBwd

end
-- ==== Proof.NormFwd.Spec.lean ====
/- A norm and the product with a matrix, row by row. -/
module

public import proofs.«01_k».proof.Proof.Common.Cols

@[expose] public section

noncomputable section

open Idealize.ShloMosaic
open scoped BigOperators

namespace Cert.NormFwd

open Cert.Rows Cert.Cols

variable (X : (⟨3, ![2, 2048, 1024]⟩ : Shape).Idx → EReal) (G : (⟨1, ![1024]⟩ : Shape).Idx → EReal)
  (W : (⟨2, ![1024, 2950]⟩ : Shape).Idx → EReal)

/-- An entry of row `n` of the 4096 rows, divided by the row's root mean square. -/
def hat (n k : Nat) : EReal := at3 X (n / 2048) (n % 2048) k
  * Ideal.rsqrt (Ideal.div (∑ j : Fin 1024, at3 X (n / 2048) (n % 2048) j.val * at3 X (n / 2048) (n % 2048) j.val)
      (Ideal.ofBits .f32 0x44800000#32) + Ideal.ofBits .f32 0x358637BD#32)

/-- An entry of the normed row. -/
def normed (n : Nat) (k : Fin 1024) : EReal := hat X n k.val * G (ix1 k)

/-- An entry of the projection, its columns in the projection's own order. -/
def proj (n c : Nat) : EReal := ∑ k : Fin 1024, normed X G n k * at2 W k.val c

/-- Setting the columns of the matrix in another order sets those of the product. -/
theorem proj_perm (n c : Nat) : ∑ k : Fin 1024, normed X G n k * perm (at2 W k.val) c = perm (proj X G W n) c := by
  unfold perm
  split_ifs <;> first | rfl | simp only [mul_zero, Finset.sum_const_zero]

/-- The columns that the order takes from the projection. -/
theorem perm_at (f : Nat → EReal) {n m : Nat} (h : n < 1536 ∧ m = n ∨ 1536 ≤ n ∧ n < 1792 ∧ m = 2438 + (n - 1536) ∨ 1792 ≤ n ∧ n < 2688 ∧ m = 1536 + (n - 1792)
    ∨ 2688 ≤ n ∧ n < 2694 ∧ m = 2432 + (n - 2688) ∨ 2816 ≤ n ∧ m = 2694 + (n - 2816)) : perm f n = f m := by
  unfold perm
  split_ifs <;> first | (exfalso; omega) | exact congrArg f (by omega)

theorem perm_zero (f : Nat → EReal) {n : Nat} (h : 2694 ≤ n) (h' : n < 2816) : perm f n = 0 := by
  unfold perm
  split_ifs <;> first | (exfalso; omega) | rfl

end Cert.NormFwd

end
-- ==== Proof.NormFwd.Kernel.lean ====
/- The two arrays the kernel leaves. -/
module

public import proofs.«01_k».proof.Proof.NormFwd.Spec
public import proofs.«01_k».proof.Proof.Common.Order
public import proofs.«01_k».proof.Proof.Gen.NormFwdKernelIdeal.Value
public import Idealize.ShloMosaic.Lib.Pipeline.ValueKit

@[expose] public section

set_option maxRecDepth 16384

noncomputable section

open Idealize.ShloMosaic Idealize.ShloMosaic.TcCoe Idealize.SL.Sem
open scoped BigOperators

namespace Cert.NormFwdKernelIdeal.Arrays

open Cert.NormFwdKernelIdeal Cert.NormFwdKernelIdeal.Gen Cert.Rows Cert.Cols Cert.NormFwd

variable (m : (ℓ : Loc nD τ sig) → Buf (Elt Ideal) ℓ) (c : Dev nD)

/-- The arguments: the rows, the gain and the matrix. -/
abbrev X : S2x2048x1024.Idx → EReal := m ((c : Thread nD τ).loc main_arg0)
abbrev G : S1024.Idx → EReal := m ((c : Thread nD τ).loc main_arg1)
abbrev W : S1024x2950.Idx → EReal := m ((c : Thread nD τ).loc main_arg2)

theorem w_cols : V m c main_v9 = concatenate S1024x3072 1
      [⟨S1024x1536, extractStridedSlice S1024x1536 ![0, 0] (W m c) slices_S1024x2950_S1024x1536_0_0⟩,
       ⟨S1024x256, extractStridedSlice S1024x256 ![0, 2438] (W m c) slices_S1024x2950_S1024x256_0_2438⟩,
       ⟨S1024x896, extractStridedSlice S1024x896 ![0, 1536] (W m c) slices_S1024x2950_S1024x896_0_1536⟩,
       ⟨S1024x6, extractStridedSlice S1024x6 ![0, 2432] (W m c) slices_S1024x2950_S1024x6_0_2432⟩,
       ⟨S1024x122, broadcastInDim S1024x122 ![] bcast_S_S1024x122 (constant (F := Ideal) S_ FTy.f32 0#32)⟩,
       ⟨S1024x256, extractStridedSlice S1024x256 ![0, 2694] (W m c) slices_S1024x2950_S1024x256_0_2694⟩]
      concatenates_S1024x1536_S1024x256_S1024x896_S1024x6_S1024x122_S1024x256_S1024x3072_d1 := rfl

theorem entry_w (i : S1024x3072.Idx) : V m c main_v9 i = perm (at2 (W m c) (i 0).val) (i 1).val :=
  (congrFun (w_cols m c) i).trans (matrix_apply (W m c) _ (fun i => by pointwise) _ _ _ _ _ _ i)

theorem idx_val : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

theorem xblk (t : Fin cfg0.N) (i : S512x1024.Idx) : iblk m c 0 t i
    = at3 (X m c) ((512 * t.val + (i 0).val) / 2048) ((512 * t.val + (i 0).val) % 2048) (i 1).val := by
  idx_vars i
  blk_simp [iblk, idx_val t]
  refine (show V m c main_v0 _ = _ from rfl).trans ((flat_apply (X m c) shapeCasts_S2x2048x1024_S4096x1024 _).trans ?_)
  refine congrArg₂ (fun a b => at3 (X m c) (a / 2048) (a % 2048) b) ?_ ?_
  · blk_simp [idx_val t]; exact congrArg (· + i0.val) (Nat.mul_comm _ _)
  · blk_simp [idx_val t]

theorem gblk (t : Fin cfg0.N) (i : S1x1024.Idx) : iblk m c 1 t i = G m c (Idealize.ShloMosaic.ix1 (i 1)) := by
  idx_vars i
  blk_simp [iblk, idx_val t]
  entry_read
  pointwise
  exact congrArg (fun k => G m c (Idealize.ShloMosaic.ix1 k)) (Fin.ext (by blk_simp [idx_val t]))

theorem wblk (t : Fin cfg0.N) (i : S1024x3072.Idx) : iblk m c 2 t i = perm (at2 (W m c) (i 0).val) (i 1).val := by
  idx_vars i
  blk_simp [iblk, idx_val t]
  refine (entry_w m c _).trans ?_
  refine congrArg₂ (fun a b => perm (at2 (W m c) a) b) ?_ ?_ <;> blk_simp [idx_val t]

/-- The normed rows of a block. -/
theorem normed_blk (t : Fin cfg0.N) (p : Fin 512) (k : Fin 1024) :
    k0_pay1 (F := Ideal) (iblk m c 0 t) (iblk m c 1 t) (Idealize.ShloMosaic.ix2 p k) = normed (X m c) (G m c) (512 * t.val + p.val) k := by
  obtain ⟨x, hx⟩ : ∃ x : S512x1024.Idx → EReal, x = iblk m c 0 t := ⟨_, rfl⟩
  obtain ⟨g, hg⟩ : ∃ g : S1x1024.Idx → EReal, g = iblk m c 1 t := ⟨_, rfl⟩
  have ex : ∀ i, x i = _ := fun i => (congrFun hx i).trans (xblk m c t i)
  have eg : ∀ i, g i = _ := fun i => (congrFun hg i).trans (gblk m c t i)
  rw [← hx, ← hg]
  pointwise [k0_pay1]
  simp only [ex, eg]
  rfl

theorem final_h : (dats m 0 c).arrAt 4 (cfgs 0).N = fun j : S1024x4096.Idx => normed (X m c) (G m c) (j 1).val (j 0) := by
  refine (dats m 0 c).arrAt_eq_of_covers 4 _ (by decide +kernel) fun t hf y => ?_
  have key : ∀ y : S1024x512.Idx, k0_pay2 (F := Ideal) (iblk m c 0 t) (iblk m c 1 t) y
      = normed (X m c) (G m c) (win0_4.index t 1 * 512 + (y 1).val) ((((View.whole main_v10_1).slice (win0_4.rect t)).emb y) 0) := by
    intro y
    have e0 : win0_4.index t 1 * 512 + (y 1).val = 512 * t.val + (y 1).val := by
      blk_simp [idx_val t]; exact congrArg (· + (y 1).val) (Nat.mul_comm _ _)
    have e1 : (((View.whole main_v10_1).slice (win0_4.rect t)).emb y) 0 = y 0 := Fin.ext (by blk_simp [idx_val t])
    rw [e0, e1]
    refine Eq.trans ?_ (normed_blk m c t (y 1) (y 0))
    idx_vars y
    pointwise [k0_pay2]
  blk_simp; rw [after0_4]
  frame_out
  exact key y

theorem final_p : (dats m 0 c).arrAt 3 (cfgs 0).N = fun j : S4096x3072.Idx => perm (proj (X m c) (G m c) (W m c) (j 0).val) (j 1).val := by
  refine (dats m 0 c).arrAt_eq_of_covers 3 _ (by decide +kernel) fun t hf y => ?_
  have key : ∀ y : S512x3072.Idx, k0_pay3 (F := Ideal) (iblk m c 0 t) (iblk m c 1 t) (iblk m c 2 t) y
      = perm (proj (X m c) (G m c) (W m c) (win0_3.index t 0 * 512 + (y 0).val)) (win0_3.index t 1 * 3072 + (y 1).val) := by
    intro y
    have e0 : win0_3.index t 0 * 512 + (y 0).val = 512 * t.val + (y 0).val := by
      blk_simp [idx_val t]; exact congrArg (· + (y 0).val) (Nat.mul_comm _ _)
    have e1 : win0_3.index t 1 * 3072 + (y 1).val = (y 1).val := by blk_simp [idx_val t]
    rw [e0, e1, ← proj_perm]
    refine Eq.trans ?_ (Finset.sum_congr rfl fun k _ => congrArg₂ (· * ·) (normed_blk m c t (y 0) k) (wblk m c t (Idealize.ShloMosaic.ix2 k (y 1))))
    idx_vars y
    pointwise [k0_pay3]
  blk_simp; rw [after0_3]
  frame_out
  exact key y

end Cert.NormFwdKernelIdeal.Arrays

end
-- ==== Proof.NormFwd.Reference.lean ====
/- What the reference computes. -/
module

public import proofs.«01_k».proof.Proof.NormFwd.Spec
public import proofs.«01_k».proof.Proof.Gen.NormFwdReferenceIdeal.Read
public import Idealize.ShloMosaic.Lib.Pointwise

@[expose] public section

set_option maxRecDepth 16384

noncomputable section

open Idealize.ShloMosaic Idealize.ShloMosaic.TcCoe Idealize.SL.Sem
open scoped BigOperators

namespace Cert.NormFwdReferenceIdeal.NormFwd

open Cert.NormFwdReferenceIdeal Cert.NormFwdReferenceIdeal.Gen Cert.NormFwdReferenceIdeal.Read Cert.Rows Cert.Cols Cert.NormFwd

variable (X : S2x2048x1024.Idx → EReal) (G : S1024.Idx → EReal) (W : S1024x2950.Idx → EReal)

theorem normed_eq (p : Fin 2) (q : Fin 2048) (k : Fin 1024) : val_main_v12 (F := Ideal) X G (Idealize.ShloMosaic.ix3 p q k)
    = normed X G (2048 * p.val + q.val) k := by
  have hq := q.isLt
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  simp only [at3_ix, zero_add]
  unfold normed hat
  rw [show (2048 * p.val + q.val) / 2048 = p.val by omega, show (2048 * p.val + q.val) % 2048 = q.val by omega]

theorem prod_eq (p : Fin 2) (q : Fin 2048) (e : Fin 2950) : val_main_v13 (F := Ideal) X G W (Idealize.ShloMosaic.ix3 p q e)
    = proj X G W (2048 * p.val + q.val) e.val := by
  pointwise [val_main_v13]
  simp only [normed_eq, at2_ix]
  rfl

theorem slice_eq {w : Nat} (o : Nat) (h : S2x2048x2950.Slices ![0, 0, o] ⟨3, ![2, 2048, w]⟩) (p : Fin 2) (q : Fin 2048) (e : Fin w) (ho : o + e.val < 2950) :
    extractStridedSlice ⟨3, ![2, 2048, w]⟩ ![0, 0, o] (val_main_v13 (F := Ideal) X G W) h (Idealize.ShloMosaic.ix3 p q e)
      = proj X G W (2048 * p.val + q.val) (o + e.val) := by
  refine Eq.trans ?_ (prod_eq X G W p q ⟨o + e.val, ho⟩)
  refine congrArg (val_main_v13 (F := Ideal) X G W) (funext fun a => ?_)
  fin_cases a
  · exact Fin.ext (Nat.zero_add _)
  · exact Fin.ext (Nat.zero_add _)
  · rfl

theorem cols_eq (p : Fin 2) (q : Fin 2048) (e : Fin 3072) : val_main_v23 (F := Ideal) X G W (Idealize.ShloMosaic.ix3 p q e)
    = perm (proj X G W (2048 * p.val + q.val)) e.val := by
  have he := e.isLt
  pointwise [val_main_v23]
  by_cases h0 : e.val < 384
  · exact (dif_pos h0).trans ((slice_eq X G W 0 _ p q ⟨e.val, by omega⟩ (by show 0 + (e.val) < 2950; omega)).trans (perm_at _ (by show _; dsimp only; omega)).symm)
  refine (dif_neg h0).trans ?_
  by_cases h1 : e.val - 384 < 384
  · exact (dif_pos h1).trans ((slice_eq X G W 384 _ p q ⟨e.val - 384, by omega⟩ (by show 384 + (e.val - 384) < 2950; omega)).trans (perm_at _ (by show _; dsimp only; omega)).symm)
  refine (dif_neg h1).trans ?_
  by_cases h2 : e.val - 384 - 384 < 384
  · exact (dif_pos h2).trans ((slice_eq X G W 768 _ p q ⟨e.val - 384 - 384, by omega⟩ (by show 768 + (e.val - 384 - 384) < 2950; omega)).trans (perm_at _ (by show _; dsimp only; omega)).symm)
  refine (dif_neg h2).trans ?_
  by_cases h3 : e.val - 384 - 384 - 384 < 384
  · exact (dif_pos h3).trans ((slice_eq X G W 1152 _ p q ⟨e.val - 384 - 384 - 384, by omega⟩ (by show 1152 + (e.val - 384 - 384 - 384) < 2950; omega)).trans (perm_at _ (by show _; dsimp only; omega)).symm)
  refine (dif_neg h3).trans ?_
  by_cases h4 : e.val - 384 - 384 - 384 - 384 < 256
  · exact (dif_pos h4).trans ((slice_eq X G W 2438 _ p q ⟨e.val - 384 - 384 - 384 - 384, by omega⟩ (by show 2438 + (e.val - 384 - 384 - 384 - 384) < 2950; omega)).trans (perm_at _ (by show _; dsimp only; omega)).symm)
  refine (dif_neg h4).trans ?_
  by_cases h5 : e.val - 384 - 384 - 384 - 384 - 256 < 896
  · exact (dif_pos h5).trans ((slice_eq X G W 1536 _ p q ⟨e.val - 384 - 384 - 384 - 384 - 256, by omega⟩ (by show 1536 + (e.val - 384 - 384 - 384 - 384 - 256) < 2950; omega)).trans (perm_at _ (by show _; dsimp only; omega)).symm)
  refine (dif_neg h5).trans ?_
  by_cases h6 : e.val - 384 - 384 - 384 - 384 - 256 - 896 < 6
  · exact (dif_pos h6).trans ((slice_eq X G W 2432 _ p q ⟨e.val - 384 - 384 - 384 - 384 - 256 - 896, by omega⟩ (by show 2432 + (e.val - 384 - 384 - 384 - 384 - 256 - 896) < 2950; omega)).trans (perm_at _ (by show _; dsimp only; omega)).symm)
  refine (dif_neg h6).trans ?_
  by_cases h7 : e.val - 384 - 384 - 384 - 384 - 256 - 896 - 6 < 122
  · exact (dif_pos h7).trans ((by pointwise [val_main_v22, val_main_cst_2] : val_main_v22 (F := Ideal) _ = 0).trans (perm_zero _ (by omega) (by omega)).symm)
  refine (dif_neg h7).trans ?_
  exact (slice_eq X G W 2694 _ p q ⟨e.val - 384 - 384 - 384 - 384 - 256 - 896 - 6 - 122, by omega⟩ (by show 2694 + (e.val - 384 - 384 - 384 - 384 - 256 - 896 - 6 - 122) < 2950; omega)).trans (perm_at _ (by show _; dsimp only; omega)).symm

theorem proj_eq (j : S4096x3072.Idx) : val_main_v24 (F := Ideal) X G W j = perm (proj X G W (j 0).val) (j 1).val := by
  have h0 : (j 0).val < 4096 := (j 0).isLt
  unfold val_main_v24
  refine (flat_apply _ _ _).trans ((cols_eq X G W _ _ _).trans ?_)
  have e0 : (Fin.ofNat 2 ((j 0).val / 2048)).val = (j 0).val / 2048 := Nat.mod_eq_of_lt (by omega)
  have e1 : (Fin.ofNat 2048 ((j 0).val % 2048)).val = (j 0).val % 2048 := Nat.mod_eq_of_lt (by omega)
  have e2 : (Fin.ofNat 3072 (j 1).val).val = (j 1).val := Nat.mod_eq_of_lt (j 1).isLt
  rw [e0, e1, e2, Nat.div_add_mod]

theorem rows_eq (j : S1024x4096.Idx) : val_main_v27 (F := Ideal) X G j = normed X G (j 1).val (j 0) := by
  have h1 : (j 1).val < 4096 := (j 1).isLt
  rw [val_main_v27_apply, val_main_v26_apply]
  refine (show _ = val_main_v25 (F := Ideal) X G (idx_main_v26 j) from rfl).trans ?_
  unfold val_main_v25
  refine (flat_apply _ _ _).trans ((normed_eq X G _ _ _).trans ?_)
  have e0 : (Fin.ofNat 2 ((j 1).val / 2048)).val = (j 1).val / 2048 := Nat.mod_eq_of_lt (by omega)
  have e1 : (Fin.ofNat 2048 ((j 1).val % 2048)).val = (j 1).val % 2048 := Nat.mod_eq_of_lt (by omega)
  have e2 : Fin.ofNat 1024 (j 0).val = j 0 := Fin.ext (Nat.mod_eq_of_lt (j 0).isLt)
  refine (congrArg₂ (normed X G) ?_ e2)
  show 2048 * (Fin.ofNat 2 ((j 1).val / 2048)).val + (Fin.ofNat 2048 ((j 1).val % 2048)).val = (j 1).val
  rw [e0, e1, Nat.div_add_mod]

end Cert.NormFwdReferenceIdeal.NormFwd

end
-- ==== Proof.NormFwd.Equation.lean ====
/- The norm and the input projection: the kernel leaves what the reference computes. -/
module

public import proofs.«01_k».proof.Proof.NormFwd.Kernel
public import proofs.«01_k».proof.Proof.NormFwd.Reference
public import proofs.«01_k».proof.Proof.Common.Finite
public import proofs.«01_k».proof.Defs

@[expose] public section

noncomputable section

open Idealize.ShloMosaic Idealize.ShloMosaic.TcCoe Idealize.SL.Sem

namespace Cert.NormFwd

open Cert.NormFwdKernelIdeal

variable (m : (ℓ : Loc nD τ sig) → Buf (Elt Ideal) ℓ) (c : Dev nD)

theorem reference_p : Cert.NormFwdReferenceIdeal.Read.val_main_v24 (F := Ideal) (m ((c : Thread nD τ).loc main_arg0))
      (m ((c : Thread nD τ).loc main_arg1)) (m ((c : Thread nD τ).loc main_arg2)) = (Gen.dats m 0 c).arrAt 3 (cfgs 0).N :=
  (funext fun j => Cert.NormFwdReferenceIdeal.NormFwd.proj_eq _ _ _ j).trans (Arrays.final_p m c).symm

theorem reference_h : Cert.NormFwdReferenceIdeal.Read.val_main_v27 (F := Ideal) (m ((c : Thread nD τ).loc main_arg0))
      (m ((c : Thread nD τ).loc main_arg1)) = (Gen.dats m 0 c).arrAt 4 (cfgs 0).N :=
  (funext fun j => Cert.NormFwdReferenceIdeal.NormFwd.rows_eq _ _ j).trans (Arrays.final_h m c).symm

/-- The two programs end with equal results. -/
theorem equation : Cert.algebraic_NormFwdKernelIdeal_NormFwdReferenceIdeal := by
  pair_intro
  · run_from (Value.run_blocks m g)
  · run_from (Cert.NormFwdReferenceIdeal.Value.run m' g')
    · rw [Cert.NormFwdReferenceIdeal.Read.val_main_v24_eq, (hagree c).1, (hagree c).2.1, (hagree c).2.2]
      exact reference_p m c
    · exact reference_h m c

end Cert.NormFwd

end
-- ==== Proof.ConvFwd.Kernel.lean ====
/- The array the kernel leaves. -/
module

public import proofs.«01_k».proof.Proof.Conv.Spec
public import proofs.«01_k».proof.Proof.Common.Order
public import proofs.«01_k».proof.Proof.Common.Select
public import proofs.«01_k».proof.Proof.Common.Taps
public import proofs.«01_k».proof.Proof.Gen.ConvFwdKernelIdeal.Value
public import Idealize.ShloMosaic.Lib.Pipeline.ValueKit

@[expose] public section

set_option maxRecDepth 16384

noncomputable section

open Idealize.ShloMosaic Idealize.ShloMosaic.TcCoe Idealize.SL.Sem

namespace Cert.ConvFwdKernelIdeal.Arrays

open Cert.ConvFwdKernelIdeal Cert.ConvFwdKernelIdeal.Gen Cert.Rows Cert.Cols Cert.Reals
open Cert.Conv (at1)

variable (m : (ℓ : Loc nD τ sig) → Buf (Elt Ideal) ℓ) (c : Dev nD)

/-- The projection, the taps and the bias. -/
abbrev P : S2x2048x2950.Idx → EReal := m ((c : Thread nD τ).loc main_arg0)
abbrev W : S4x896.Idx → EReal := m ((c : Thread nD τ).loc main_arg1)
abbrev B : S896.Idx → EReal := m ((c : Thread nD τ).loc main_arg2)

theorem entry_w (r : Fin 8) (k : Fin 896) (h : r.val < 4) : V m c main_v0 (Idealize.ShloMosaic.ix2 r k) = at2 (W m c) r.val k.val := by
  unfold V
  simp only [hostOps0, hostOps0_1, hostOps0_2, List.flatten_cons, List.flatten_nil, List.append_nil, List.cons_append,
      List.nil_append]
  entry_read
  simp only [StableHlo.TRef.toBuf, StableHlo.TRef.ofBuf, cast_eq]
  pointwise
  rw [dif_pos h]
  exact at2_ix (W m c) ⟨r.val, h⟩ k

theorem cols : V m c main_v8 = shapeCast S4096x3072 (concatenate S2x2048x3072 2
      [⟨S2x2048x1536, extractStridedSlice S2x2048x1536 ![0, 0, 0] (P m c) slices_S2x2048x2950_S2x2048x1536_0_0_0⟩,
       ⟨S2x2048x256, extractStridedSlice S2x2048x256 ![0, 0, 2438] (P m c) slices_S2x2048x2950_S2x2048x256_0_0_2438⟩,
       ⟨S2x2048x896, extractStridedSlice S2x2048x896 ![0, 0, 1536] (P m c) slices_S2x2048x2950_S2x2048x896_0_0_1536⟩,
       ⟨S2x2048x6, extractStridedSlice S2x2048x6 ![0, 0, 2432] (P m c) slices_S2x2048x2950_S2x2048x6_0_0_2432⟩,
       ⟨S2x2048x122, broadcastInDim S2x2048x122 ![] bcast_S_S2x2048x122 (constant (F := Ideal) S_ FTy.f32 0#32)⟩,
       ⟨S2x2048x256, extractStridedSlice S2x2048x256 ![0, 0, 2694] (P m c) slices_S2x2048x2950_S2x2048x256_0_0_2694⟩]
      concatenates_S2x2048x1536_S2x2048x256_S2x2048x896_S2x2048x6_S2x2048x122_S2x2048x256_S2x2048x3072_d2)
      shapeCasts_S2x2048x3072_S4096x3072 := rfl

theorem entry_b (i : S1x896.Idx) : V m c main_v9 i = B m c (Idealize.ShloMosaic.ix1 (i 1)) := by
  refine (show V m c main_v9 i = shapeCast S1x896 (B m c) shapeCasts_S896_S1x896 i from rfl).trans ?_
  idx_vars i
  pointwise

theorem idx_val : ∀ t : Fin cfg0.N, win0_0.index t = ![t.val / 7, 14 + t.val % 7] ∧ win0_1.index t = ![0, t.val % 7]
    ∧ win0_2.index t = ![0, t.val % 7] ∧ win0_3.index t = ![t.val / 7, t.val % 7] :=
  (by decide +kernel : ∀ t : Fin grid0.N, _)

theorem blk_x (t : Fin cfg0.N) (i : S2048x128.Idx) : iblk m c 0 t i = at3 (P m c) (t.val / 7) (i 0).val (1536 + (128 * (t.val % 7) + (i 1).val)) := by
  idx_vars i
  blk_simp [iblk, idx_val t]
  have ht : t.val < 14 := t.isLt
  have h0 : i0.val < 2048 := i0.isLt
  refine (congrFun (cols m c) _).trans ((convolved_apply (P m c) _ _ _ _ _ _ _ _ _ (128 * (t.val % 7) + i1.val) (by omega) ?_).trans (at3_congr _ ?_ ?_ ?_))
    <;> blk_simp [idx_val t] <;> omega

theorem blk_w (t : Fin cfg0.N) (r : Fin 8) (h : r.val < 4) (k : Fin 128) : iblk m c 1 t (Idealize.ShloMosaic.ix2 r k) = at2 (W m c) r.val (128 * (t.val % 7) + k.val) := by
  blk_simp [iblk, idx_val t]
  have ht : t.val < 14 := t.isLt
  refine Eq.trans (congrArg (V m c main_v0) ?_) (entry_w m c r ⟨128 * (t.val % 7) + k.val, by omega⟩ h)
  funext d
  fin_cases d <;> refine Fin.ext ?_ <;> blk_simp [idx_val t]
  · rfl
  · show t.val % 7 * 128 + k.val = 128 * (t.val % 7) + k.val
    omega

theorem blk_b (t : Fin cfg0.N) (k : Fin 128) : iblk m c 2 t (Idealize.ShloMosaic.ix2 0 k) = at1 (B m c) (128 * (t.val % 7) + k.val) := by
  have ht : t.val < 14 := t.isLt
  blk_simp [iblk, idx_val t]
  refine (entry_b m c _).trans (congrArg (B m c) (congrArg Idealize.ShloMosaic.ix1 (Fin.ext ?_)))
  refine Eq.trans ?_ (Nat.mod_eq_of_lt (by omega : 128 * (t.val % 7) + k.val < 896)).symm
  blk_simp [idx_val t]
  omega

/-- A row of the block moved down by `k`, chosen where it lies inside. -/
theorem moved (t : Fin cfg0.N) (x : S2048x128.Idx → EReal) (hx : ∀ i, x i = at3 (P m c) (t.val / 7) (i 0).val (1536 + (128 * (t.val % 7) + (i 1).val)))
    (v : EReal) (k : Nat) (hk : k < 2048) (s : Fin 2048) (j : Fin 128) (h) :
    Scalar.select (IntOp.cmpi .sge (BitVec.ofNat 32 s.val) (BitVec.ofNat 32 k)) (v * x (Idealize.ShloMosaic.ix2 ⟨(s.val + 2048 - k) % 2048, h⟩ j)) 0
      = v * Cert.Conv.earlier (P m c) k (t.val / 7) s.val (128 * (t.val % 7) + j.val) := by
  have hs := s.isLt
  rw [select_sge _ _ (by omega) (by omega), hx]
  unfold Cert.Conv.earlier
  by_cases h' : k ≤ s.val
  · rw [if_pos h', if_pos h']
    refine congrArg (v * ·) (at3_congr _ rfl ?_ rfl)
    show (s.val + 2048 - k) % 2048 = s.val - k
    rw [show s.val + 2048 - k = (s.val - k) + 2048 by omega, Nat.add_mod_right, Nat.mod_eq_of_lt (by omega)]
  · rw [if_neg h', if_neg h', mul_zero]

theorem body (t : Fin cfg0.N) (h0 h1 h2 h3) (y : S2048x128.Idx) :
    k0_pay1 (F := Ideal) (k0_pay3 (iblk m c 0 t) (iblk m c 2 t) (View.ld (Val := Elt Ideal) (e' := .f32) (iblk m c 1 t) (Rect.unit ![3, 0] ![1, 128] h3))
        (View.ld (Val := Elt Ideal) (e' := .f32) (iblk m c 1 t) (Rect.unit ![0, 0] ![1, 128] h0)) (View.ld (Val := Elt Ideal) (e' := .f32) (iblk m c 1 t) (Rect.unit ![1, 0] ![1, 128] h1)))
      (k0_pay4 (iblk m c 0 t)) (Scalar.ofBits .f32 0x00000000#32) k0_pay5 (View.ld (Val := Elt Ideal) (e' := .f32) (iblk m c 1 t) (Rect.unit ![2, 0] ![1, 128] h2)) y
      = Cert.Conv.convAt (P m c) (W m c) (B m c) (t.val / 7) (y 0).val (128 * (t.val % 7) + (y 1).val) := by
  obtain ⟨x, hx⟩ : ∃ x : S2048x128.Idx → EReal, x = iblk m c 0 t := ⟨_, rfl⟩
  obtain ⟨w, hw⟩ : ∃ w : S8x128.Idx → EReal, w = iblk m c 1 t := ⟨_, rfl⟩
  obtain ⟨b, hb⟩ : ∃ b : S1x128.Idx → EReal, b = iblk m c 2 t := ⟨_, rfl⟩
  have ex : ∀ i, x i = _ := fun i => (congrFun hx i).trans (blk_x m c t i)
  have ew : ∀ (n : Nat) (r : Fin 8), r.val = n → n < 4 → ∀ (h) (j : Fin 128),
      View.ld (Val := Elt Ideal) (e' := .f32) w (Rect.unit ![n, 0] ![1, 128] h) (Idealize.ShloMosaic.ix2 0 j) = at2 (W m c) n (128 * (t.val % 7) + j.val) :=
    fun n r hr hn h j => (tap w n r hr h j).trans (by subst hr; exact (congrFun hw _).trans (blk_w m c t r hn j))
  have eb : ∀ j, b (Idealize.ShloMosaic.ix2 0 j) = _ := fun j => (congrFun hb _).trans (blk_b m c t j)
  rw [← hx, ← hw, ← hb]
  have e3 := fun j => ew 3 3 rfl (by omega) h3 j
  have e0 := fun j => ew 0 0 rfl (by omega) h0 j
  have e1 := fun j => ew 1 1 rfl (by omega) h1 j
  have e2 := fun j => ew 2 2 rfl (by omega) h2 j
  generalize View.ld (Val := Elt Ideal) (e' := .f32) w (Rect.unit ![3, 0] ![1, 128] h3) = w3 at e3 ⊢
  generalize View.ld (Val := Elt Ideal) (e' := .f32) w (Rect.unit ![0, 0] ![1, 128] h0) = w0 at e0 ⊢
  generalize View.ld (Val := Elt Ideal) (e' := .f32) w (Rect.unit ![1, 0] ![1, 128] h1) = w1 at e1 ⊢
  generalize View.ld (Val := Elt Ideal) (e' := .f32) w (Rect.unit ![2, 0] ![1, 128] h2) = w2 at e2 ⊢
  idx_vars y
  pointwise [k0_pay1, k0_pay3, k0_pay4, k0_pay5, k0_pay2]
  have mv := fun v k hk h => moved m c t x ex v k hk y0 y1 h
  unfold Cert.Conv.convAt
  exact congrArg₂ (· + ·) (congrArg₂ (· + ·) (congrArg₂ (· + ·) (congrArg₂ (· + ·) (eb y1) (congrArg₂ (· * ·) (e3 y1) (ex _)))
    ((mv _ 3 (by norm_num) _).trans (congrArg (· * _) (e0 y1)))) ((mv _ 2 (by norm_num) _).trans (congrArg (· * _) (e1 y1)))) ((mv _ 1 (by norm_num) _).trans (congrArg (· * _) (e2 y1)))

theorem final : (dats m 0 c).arrAt 3 (cfgs 0).N
    = fun y : S4096x896.Idx => Cert.Conv.convAt (P m c) (W m c) (B m c) ((y 0).val / 2048) ((y 0).val % 2048) (y 1).val := by
  refine (dats m 0 c).arrAt_eq_of_covers 3 _ (by decide +kernel) fun t hf y => ?_
  have key := fun h0 h1 h2 h3 => body m c t h0 h1 h2 h3 y
  blk_simp; rw [after0_3]
  have h0 : (y 0).val < 2048 := (y 0).isLt
  have ht : t.val < 14 := t.isLt
  frame_out
  refine (key _ _ _ _).trans (congr (congr (congrArg (Cert.Conv.convAt (P m c) (W m c) (B m c)) ?_) ?_) ?_) <;> blk_simp [idx_val t] <;> omega

end Cert.ConvFwdKernelIdeal.Arrays

end
-- ==== Proof.ConvFwd.Reference.lean ====
/- What the reference computes. -/
module

public import proofs.«01_k».proof.Proof.Conv.Spec
public import proofs.«01_k».proof.Proof.Gen.ConvFwdReferenceIdeal.Read
public import Idealize.ShloMosaic.Lib.Pointwise

@[expose] public section

set_option maxRecDepth 16384

noncomputable section

open Idealize.ShloMosaic Idealize.ShloMosaic.TcCoe Idealize.SL.Sem

namespace Cert.ConvFwdReferenceIdeal.Conv

open Cert.ConvFwdReferenceIdeal Cert.ConvFwdReferenceIdeal.Gen Cert.ConvFwdReferenceIdeal.Read Cert.Conv Cert.Rows

variable (P : S2x2048x2950.Idx → EReal) (W : S4x896.Idx → EReal) (B : S896.Idx → EReal)

/-- The projection's convolved columns with three rows of zeros before them. -/
theorem padded (b : Fin 2) (s : Fin 2051) (k : Fin 896) (n : Nat) (s' : Nat) (hs : s.val + n = s' + 3) (hs' : s' < 2048) (hn : n ≤ 3) :
    val_main_v8 (F := Ideal) P (Idealize.ShloMosaic.ix3 b s k) = earlier P n b.val s' k.val := by
  pointwise [val_main_v8, val_main_v7, val_main_v4, val_main_cst]
  have hk := k.isLt
  unfold earlier
  by_cases h : s.val < 3
  · exact (dif_pos h).trans (if_neg (by omega)).symm
  · refine (dif_neg h).trans (Eq.trans ?_ (if_pos (by omega)).symm)
    refine (at3_ix P _ _ _).trans (at3_congr P rfl ?_ rfl)
    show s.val - 3 = s' - n
    omega

theorem conv_eq (b : Fin 2) (s : Fin 2048) (k : Fin 896) : val_main_v40 (F := Ideal) P W B (Idealize.ShloMosaic.ix3 b s k)
    = convAt P W B b.val s.val k.val := by
  have hw : ∀ r : Fin 4, W (Idealize.ShloMosaic.ix2 r k) = at2 W r.val k.val := fun r => at2_ix W r k
  have hb : B (Idealize.ShloMosaic.ix1 k) = at1 B k.val := congrArg B (congrArg Idealize.ShloMosaic.ix1 (Fin.ext (Nat.mod_eq_of_lt k.isLt).symm))
  have hp : ∀ (s2 : Fin 2051) (n : Nat), s2.val + n = s.val + 3 → n ≤ 3 → val_main_v8 (F := Ideal) P (Idealize.ShloMosaic.ix3 b s2 k) = earlier P n b.val s.val k.val :=
    fun s2 n h hn => padded P b s2 k n s.val h s.isLt hn
  have he : earlier P 0 b.val s.val k.val = at3 P b.val s.val (1536 + k.val) := if_pos (Nat.zero_le _)
  pointwise [val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11,
    val_main_v10, val_main_v9, val_main_cst_0]
  rw [hp _ 3 (by show s.val + 3 = _; omega) (by omega), hp _ 2 (by show 1 + s.val + 2 = _; omega) (by omega), hp _ 1 (by show 2 + s.val + 1 = _; omega) (by omega),
    hp _ 0 (by show 3 + s.val + 0 = _; omega) (by omega), he, hw, hw, hw, hw, hb]
  unfold convAt
  simp only [zero_add, mul_comm _ (at2 W _ _)]
  show at2 W 0 k.val * earlier P 3 b.val s.val k.val + at2 W 1 k.val * earlier P 2 b.val s.val k.val + at2 W 2 k.val * earlier P 1 b.val s.val k.val
    + at2 W 3 k.val * at3 P b.val s.val (1536 + k.val) + at1 B k.val = _
  ac_rfl

theorem rows_eq : val_main_v41 (F := Ideal) P W B = fun y => convAt P W B ((y 0).val / 2048) ((y 0).val % 2048) (y 1).val := by
  funext y
  have h0 : (y 0).val < 4096 := (y 0).isLt
  refine (flat_apply _ _ _).trans ?_
  exact (conv_eq P W B _ _ _).trans (by
    show convAt P W B ((y 0).val / 2048 % 2) ((y 0).val % 2048 % 2048) ((y 1).val % 896) = _
    rw [Nat.mod_eq_of_lt (show (y 0).val / 2048 < 2 by omega), Nat.mod_mod, Nat.mod_eq_of_lt (show (y 1).val < 896 from (y 1).isLt)])

end Cert.ConvFwdReferenceIdeal.Conv

end
-- ==== Proof.ConvFwd.Equation.lean ====
/- The short convolution: the kernel leaves what the reference computes. -/
module

public import proofs.«01_k».proof.Proof.ConvFwd.Kernel
public import proofs.«01_k».proof.Proof.ConvFwd.Reference
public import proofs.«01_k».proof.Defs

@[expose] public section

noncomputable section

open Idealize.ShloMosaic Idealize.ShloMosaic.TcCoe Idealize.SL.Sem

namespace Cert.ConvFwd

open Cert.ConvFwdKernelIdeal

variable (m : (ℓ : Loc nD τ sig) → Buf (Elt Ideal) ℓ) (c : Dev nD)

theorem reference : Cert.ConvFwdReferenceIdeal.Read.val_main_v41 (F := Ideal) (m ((c : Thread nD τ).loc main_arg0))
      (m ((c : Thread nD τ).loc main_arg1)) (m ((c : Thread nD τ).loc main_arg2)) = (Gen.dats m 0 c).arrAt 3 (cfgs 0).N :=
  (Cert.ConvFwdReferenceIdeal.Conv.rows_eq _ _ _).trans (Arrays.final m c).symm

/-- The two programs end with equal results. -/
theorem equation : Cert.algebraic_ConvFwdKernelIdeal_ConvFwdReferenceIdeal := by
  pair_intro
  · run_from (Value.run_blocks m g)
  · run_from (Cert.ConvFwdReferenceIdeal.Value.run m' g')
    rw [Cert.ConvFwdReferenceIdeal.Read.val_main_v41_eq]
    exact reference m c

end Cert.ConvFwd

end
-- ==== Proof.lean ====
/- The certificate: every claim of `proof/Defs.lean`, assembled. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Loss.Equation
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Gen.ConvKernel
public import proofs.«01_k».proof.Proof.Gen.ConvKernel.Frame
public import proofs.«01_k».proof.Proof.Gen.ConvKernelIdeal
public import proofs.«01_k».proof.Proof.Gen.ConvKernelIdeal.Frame
public import proofs.«01_k».proof.Proof.Gen.ConvReferenceIdeal
public import proofs.«01_k».proof.Proof.Conv.Equation
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.NormKernel
public import proofs.«01_k».proof.Proof.Gen.NormKernel.Frame
public import proofs.«01_k».proof.Proof.Gen.NormKernelIdeal
public import proofs.«01_k».proof.Proof.Gen.NormKernelIdeal.Frame
public import proofs.«01_k».proof.Proof.Gen.NormReferenceIdeal
public import proofs.«01_k».proof.Proof.Gen.Pre_norm_finite
public import proofs.«01_k».proof.Proof.Norm.Equation
public import proofs.«01_k».proof.Proof.Gen.FfnReferenceIdeal.Run
public import proofs.«01_k».proof.Proof.Gen.FfnReferenceIdeal.Read
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Frame
public import proofs.«01_k».proof.Proof.Gen.FfnReferenceIdeal
public import proofs.«01_k».proof.Proof.Gen.Pre_ffn_finite
public import proofs.«01_k».proof.Proof.Ffn.Equation
public import proofs.«01_k».proof.Proof.Gen.AttnFwdKernelIdeal.Value
public import proofs.«01_k».proof.Proof.Gen.AttnFwdReferenceIdeal.Run
public import proofs.«01_k».proof.Proof.Gen.AttnFwdReferenceIdeal.Read
public import proofs.«01_k».proof.Proof.Gen.AttnFwdKernel
public import proofs.«01_k».proof.Proof.Gen.AttnFwdKernel.Frame
public import proofs.«01_k».proof.Proof.Gen.AttnFwdKernelIdeal
public import proofs.«01_k».proof.Proof.Gen.AttnFwdKernelIdeal.Frame
public import proofs.«01_k».proof.Proof.Gen.AttnFwdReferenceIdeal
public import proofs.«01_k».proof.Proof.Gen.Pre_attnfwd_finite
public import proofs.«01_k».proof.Proof.Attn.Equation
public import proofs.«01_k».proof.Proof.Gen.SguKernelIdeal.Value
public import proofs.«01_k».proof.Proof.Gen.SguReferenceIdeal.Run
public import proofs.«01_k».proof.Proof.Gen.SguReferenceIdeal.Read
public import proofs.«01_k».proof.Proof.Gen.SguKernel
public import proofs.«01_k».proof.Proof.Gen.SguKernel.Frame
public import proofs.«01_k».proof.Proof.Gen.SguKernelIdeal
public import proofs.«01_k».proof.Proof.Gen.SguKernelIdeal.Frame
public import proofs.«01_k».proof.Proof.Gen.SguReferenceIdeal
public import proofs.«01_k».proof.Proof.Gen.Pre_sgu_finite
public import proofs.«01_k».proof.Proof.Sgu.Equation
public import proofs.«01_k».proof.Proof.Gen.AttnBwdKernelIdeal.Value
public import proofs.«01_k».proof.Proof.Gen.AttnBwdReferenceIdeal.Run
public import proofs.«01_k».proof.Proof.Gen.AttnBwdReferenceIdeal.Read
public import proofs.«01_k».proof.Proof.Gen.AttnBwdKernel
public import proofs.«01_k».proof.Proof.Gen.AttnBwdKernel.Frame
public import proofs.«01_k».proof.Proof.Gen.AttnBwdKernelIdeal
public import proofs.«01_k».proof.Proof.Gen.AttnBwdKernelIdeal.Frame
public import proofs.«01_k».proof.Proof.Gen.AttnBwdReferenceIdeal
public import proofs.«01_k».proof.Proof.Gen.Pre_attnbwd_finite
public import proofs.«01_k».proof.Proof.AttnBwd.Equation
public import proofs.«01_k».proof.Proof.Gen.NormFwdKernelIdeal.Value
public import proofs.«01_k».proof.Proof.Gen.NormFwdReferenceIdeal.Run
public import proofs.«01_k».proof.Proof.Gen.NormFwdReferenceIdeal.Read
public import proofs.«01_k».proof.Proof.Gen.NormFwdKernel
public import proofs.«01_k».proof.Proof.Gen.NormFwdKernel.Frame
public import proofs.«01_k».proof.Proof.Gen.NormFwdKernelIdeal
public import proofs.«01_k».proof.Proof.Gen.NormFwdKernelIdeal.Frame
public import proofs.«01_k».proof.Proof.Gen.NormFwdReferenceIdeal
public import proofs.«01_k».proof.Proof.NormFwd.Equation
public import proofs.«01_k».proof.Proof.Gen.SsdKernel
public import proofs.«01_k».proof.Proof.Gen.SsdKernel.Frame
public import proofs.«01_k».proof.Proof.Gen.SsdKernelIdeal
public import proofs.«01_k».proof.Proof.Gen.SsdKernelIdeal.Frame
public import proofs.«01_k».proof.Proof.Gen.ConvFwdKernelIdeal.Value
public import proofs.«01_k».proof.Proof.Gen.ConvFwdReferenceIdeal.Run
public import proofs.«01_k».proof.Proof.Gen.ConvFwdReferenceIdeal.Read
public import proofs.«01_k».proof.Proof.Gen.ConvFwdKernel
public import proofs.«01_k».proof.Proof.Gen.ConvFwdKernel.Frame
public import proofs.«01_k».proof.Proof.Gen.ConvFwdKernelIdeal
public import proofs.«01_k».proof.Proof.Gen.ConvFwdKernelIdeal.Frame
public import proofs.«01_k».proof.Proof.Gen.ConvFwdReferenceIdeal
public import proofs.«01_k».proof.Proof.ConvFwd.Equation

@[expose] public section

noncomputable section

namespace Cert.Proof

open Idealize.ShloMosaic Idealize.SL.Sem

/-- The reference of the loss runs and leaves its arguments. -/
theorem frame_reference : Cert.quiescent_ReferenceIdeal := fun m ρ _ =>
  θ_run_mono (Cert.ReferenceIdeal.Value.run m ρ) fun r h => ⟨fun c => (h c).2.2.2, sem_eq_zero_of_no_sems (by decide) r.2⟩

/-- The reference of the convolution's gradients runs and leaves its arguments. -/
theorem frame_conv_reference : Cert.quiescent_ConvReferenceIdeal := fun m ρ _ =>
  θ_run_mono (Cert.ConvReferenceIdeal.Value.run m ρ) fun r h => ⟨fun c => (h c).2.2, sem_eq_zero_of_no_sems (by decide) r.2⟩

/-- The reference of the gradient through the projection and its norm runs and leaves its arguments. -/
theorem frame_norm_reference : Cert.quiescent_NormReferenceIdeal := fun m ρ _ =>
  θ_run_mono (Cert.NormReferenceIdeal.Value.run m ρ) fun r h => ⟨fun c => (h c).2.2, sem_eq_zero_of_no_sems (by decide) r.2⟩

/-- The reference of the feed-forward block's gradients runs and leaves its arguments. -/
theorem frame_ffn_reference : Cert.quiescent_FfnReferenceIdeal := fun m ρ _ =>
  θ_run_mono (Cert.FfnReferenceIdeal.Value.run m ρ) fun r h => ⟨fun c => (h c).2.2.2.2.2.2.2.2, sem_eq_zero_of_no_sems (by decide) r.2⟩

/-- The reference of the attention's forward pass runs and leaves its arguments. -/
theorem frame_attnfwd_reference : Cert.quiescent_AttnFwdReferenceIdeal := fun m ρ _ =>
  θ_run_mono (Cert.AttnFwdReferenceIdeal.Value.run m ρ) fun r h => ⟨fun c => (h c).2.2, sem_eq_zero_of_no_sems (by decide) r.2⟩

/-- The reference of the gating unit's gradients runs and leaves its arguments. -/
theorem frame_sgu_reference : Cert.quiescent_SguReferenceIdeal := fun m ρ _ =>
  θ_run_mono (Cert.SguReferenceIdeal.Value.run m ρ) fun r h => ⟨fun c => (h c).2.2.2.2.2, sem_eq_zero_of_no_sems (by decide) r.2⟩

/-- The reference of the attention's gradients runs and leaves its arguments. -/
theorem frame_attnbwd_reference : Cert.quiescent_AttnBwdReferenceIdeal := fun m ρ _ =>
  θ_run_mono (Cert.AttnBwdReferenceIdeal.Value.run m ρ) fun r h => ⟨fun c => (h c).2.2.2, sem_eq_zero_of_no_sems (by decide) r.2⟩

/-- The reference of the norm and the input projection runs and leaves its arguments. -/
theorem frame_normfwd_reference : Cert.quiescent_NormFwdReferenceIdeal := fun m ρ _ =>
  θ_run_mono (Cert.NormFwdReferenceIdeal.Value.run m ρ) fun r h => ⟨fun c => (h c).2.2, sem_eq_zero_of_no_sems (by decide) r.2⟩

/-- The reference of the short convolution runs and leaves its arguments. -/
theorem frame_convfwd_reference : Cert.quiescent_ConvFwdReferenceIdeal := fun m ρ _ =>
  θ_run_mono (Cert.ConvFwdReferenceIdeal.Value.run m ρ) fun r h => ⟨fun c => (h c).2, sem_eq_zero_of_no_sems (by decide) r.2⟩

theorem claim : Cert.Claim := ⟨Cert.Kernel.Gen.facts,
  Cert.KernelIdeal.Gen.facts,
  Cert.ReferenceIdeal.Gen.facts,
  Cert.ConvKernel.Gen.facts,
  Cert.ConvKernelIdeal.Gen.facts,
  Cert.ConvReferenceIdeal.Gen.facts,
  Cert.NormKernel.Gen.facts,
  Cert.NormKernelIdeal.Gen.facts,
  Cert.NormReferenceIdeal.Gen.facts,
  Cert.FfnKernel.Gen.facts,
  Cert.FfnKernelIdeal.Gen.facts,
  Cert.FfnReferenceIdeal.Gen.facts,
  Cert.AttnFwdKernel.Gen.facts,
  Cert.AttnFwdKernelIdeal.Gen.facts,
  Cert.AttnFwdReferenceIdeal.Gen.facts,
  Cert.SguKernel.Gen.facts,
  Cert.SguKernelIdeal.Gen.facts,
  Cert.SguReferenceIdeal.Gen.facts,
  Cert.AttnBwdKernel.Gen.facts,
  Cert.AttnBwdKernelIdeal.Gen.facts,
  Cert.AttnBwdReferenceIdeal.Gen.facts,
  Cert.NormFwdKernel.Gen.facts,
  Cert.NormFwdKernelIdeal.Gen.facts,
  Cert.NormFwdReferenceIdeal.Gen.facts,
  Cert.SsdKernel.Gen.facts,
  Cert.SsdKernelIdeal.Gen.facts,
  Cert.ConvFwdKernel.Gen.facts,
  Cert.ConvFwdKernelIdeal.Gen.facts,
  Cert.ConvFwdReferenceIdeal.Gen.facts,
  Cert.Pre_finite.Gen.facts,
  Cert.Pre_norm_finite.Gen.facts,
  Cert.Pre_ffn_finite.Gen.facts,
  Cert.Pre_attnfwd_finite.Gen.facts,
  Cert.Pre_sgu_finite.Gen.facts,
  Cert.Pre_attnbwd_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.ConvKernel.Gen.frame m ρ,
  fun m ρ _ => Cert.ConvKernelIdeal.Gen.frame m ρ,
  frame_conv_reference,
  fun m ρ _ => Cert.NormKernel.Gen.frame m ρ,
  fun m ρ _ => Cert.NormKernelIdeal.Gen.frame m ρ,
  fun m ρ _ => Cert.NormKernelIdeal.Gen.frame m ρ,
  frame_norm_reference,
  fun m ρ _ => frame_norm_reference m ρ trivial,
  fun m ρ _ => Cert.FfnKernel.Gen.frame m ρ,
  fun m ρ _ => Cert.FfnKernelIdeal.Gen.frame m ρ,
  fun m ρ _ => Cert.FfnKernelIdeal.Gen.frame m ρ,
  frame_ffn_reference,
  fun m ρ _ => frame_ffn_reference m ρ trivial,
  fun m ρ _ => Cert.AttnFwdKernel.Gen.frame m ρ,
  fun m ρ _ => Cert.AttnFwdKernelIdeal.Gen.frame m ρ,
  fun m ρ _ => Cert.AttnFwdKernelIdeal.Gen.frame m ρ,
  frame_attnfwd_reference,
  fun m ρ _ => frame_attnfwd_reference m ρ trivial,
  fun m ρ _ => Cert.SguKernel.Gen.frame m ρ,
  fun m ρ _ => Cert.SguKernelIdeal.Gen.frame m ρ,
  fun m ρ _ => Cert.SguKernelIdeal.Gen.frame m ρ,
  frame_sgu_reference,
  fun m ρ _ => frame_sgu_reference m ρ trivial,
  fun m ρ _ => Cert.AttnBwdKernel.Gen.frame m ρ,
  fun m ρ _ => Cert.AttnBwdKernelIdeal.Gen.frame m ρ,
  fun m ρ _ => Cert.AttnBwdKernelIdeal.Gen.frame m ρ,
  frame_attnbwd_reference,
  fun m ρ _ => frame_attnbwd_reference m ρ trivial,
  fun m ρ _ => Cert.NormFwdKernel.Gen.frame m ρ,
  fun m ρ _ => Cert.NormFwdKernelIdeal.Gen.frame m ρ,
  frame_normfwd_reference,
  fun m ρ _ => Cert.SsdKernel.Gen.frame m ρ,
  fun m ρ _ => Cert.SsdKernelIdeal.Gen.frame m ρ,
  fun m ρ _ => Cert.ConvFwdKernel.Gen.frame m ρ,
  fun m ρ _ => Cert.ConvFwdKernelIdeal.Gen.frame m ρ,
  frame_convfwd_reference,
  trivial,
  Cert.Loss.equation,
  trivial,
  Cert.Conv.equation,
  trivial,
  Cert.Norm.equation,
  trivial,
  Cert.Ffn.equation,
  trivial,
  Cert.Attn.equation,
  trivial,
  Cert.Sgu.equation,
  trivial,
  Cert.AttnBwd.equation,
  trivial,
  Cert.NormFwd.equation,
  trivial,
  trivial,
  Cert.ConvFwd.equation⟩

end Cert.Proof

end
